-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite2 [hPre_finite2 : Cert.Pre_finite2.Facts] (m : (ℓ : Loc Cert.PostIdeal.nD Cert.PostIdeal.τ Cert.PostIdeal.sig) → Buf (Elt Ideal) ℓ) : Prop :=
  ∀ c : Dev Cert.PostIdeal.nD,
    (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite2 [hPre_finite2 : Cert.Pre_finite2.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite2.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8)) (m ((c.tc : Thread Cert.PostReferenceIdeal.nD Cert.PostReferenceIdeal.τ).loc Cert.PostReferenceIdeal.main_arg9))) = (fun _ => 1#1)

def Pre_GradFf2 (m : (ℓ : Loc Cert.GradFf2.nD Cert.GradFf2.τ Cert.GradFf2.sig) → Buf (Elt Bits) ℓ) : Prop :=
  True

def Pre_GradFf2Ideal (m : (ℓ : Loc Cert.GradFf2Ideal.nD Cert.GradFf2Ideal.τ Cert.GradFf2Ideal.sig) → Buf (Elt Ideal) ℓ) : Prop :=
  True

def Pre_GradFf2ReferenceIdeal (m : (ℓ : Loc Cert.GradFf2ReferenceIdeal.nD Cert.GradFf2ReferenceIdeal.τ Cert.GradFf2ReferenceIdeal.sig) → Buf (Elt Ideal) ℓ) : Prop :=
  True

def Pre_GradFf1 (m : (ℓ : Loc Cert.GradFf1.nD Cert.GradFf1.τ Cert.GradFf1.sig) → Buf (Elt Bits) ℓ) : Prop :=
  True

def Pre_GradFf1Ideal (m : (ℓ : Loc Cert.GradFf1Ideal.nD Cert.GradFf1Ideal.τ Cert.GradFf1Ideal.sig) → Buf (Elt Ideal) ℓ) : Prop :=
  True

def Pre_GradFf1ReferenceIdeal (m : (ℓ : Loc Cert.GradFf1ReferenceIdeal.nD Cert.GradFf1ReferenceIdeal.τ Cert.GradFf1ReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_GradUq (m : (ℓ : Loc Cert.GradUq.nD Cert.GradUq.τ Cert.GradUq.sig) → Buf (Elt Bits) ℓ) : Prop :=
  True

def Pre_GradUqIdeal (m : (ℓ : Loc Cert.GradUqIdeal.nD Cert.GradUqIdeal.τ Cert.GradUqIdeal.sig) → Buf (Elt Ideal) ℓ) : Prop :=
  True

def Pre_GradUqReferenceIdeal (m : (ℓ : Loc Cert.GradUqReferenceIdeal.nD Cert.GradUqReferenceIdeal.τ Cert.GradUqReferenceIdeal.sig) → Buf (Elt Ideal) ℓ) : Prop :=
  True

def Pre_GradUkv (m : (ℓ : Loc Cert.GradUkv.nD Cert.GradUkv.τ Cert.GradUkv.sig) → Buf (Elt Bits) ℓ) : Prop :=
  True

def Pre_GradUkvIdeal (m : (ℓ : Loc Cert.GradUkvIdeal.nD Cert.GradUkvIdeal.τ Cert.GradUkvIdeal.sig) → Buf (Elt Ideal) ℓ) : Prop :=
  True

def Pre_GradUkvReferenceIdeal (m : (ℓ : Loc Cert.GradUkvReferenceIdeal.nD Cert.GradUkvReferenceIdeal.τ Cert.GradUkvReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def Pre_StepFf1 (m : (ℓ : Loc Cert.StepFf1.nD Cert.StepFf1.τ Cert.StepFf1.sig) → Buf (Elt Bits) ℓ) : Prop :=
  True

def Pre_StepFf1Ideal (m : (ℓ : Loc Cert.StepFf1Ideal.nD Cert.StepFf1Ideal.τ Cert.StepFf1Ideal.sig) → Buf (Elt Ideal) ℓ) : Prop :=
  True

def Pre_StepFf1ReferenceIdeal (m : (ℓ : Loc Cert.StepFf1ReferenceIdeal.nD Cert.StepFf1ReferenceIdeal.τ Cert.StepFf1ReferenceIdeal.sig) → Buf (Elt Ideal) ℓ) : Prop :=
  True

def Pre_StepFf2 (m : (ℓ : Loc Cert.StepFf2.nD Cert.StepFf2.τ Cert.StepFf2.sig) → Buf (Elt Bits) ℓ) : Prop :=
  True

def Pre_StepFf2Ideal (m : (ℓ : Loc Cert.StepFf2Ideal.nD Cert.StepFf2Ideal.τ Cert.StepFf2Ideal.sig) → Buf (Elt Ideal) ℓ) : Prop :=
  True

def Pre_StepFf2ReferenceIdeal (m : (ℓ : Loc Cert.StepFf2ReferenceIdeal.nD Cert.StepFf2ReferenceIdeal.τ Cert.StepFf2ReferenceIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInReferenceIdeal (m : (ℓ : Loc Cert.StepInReferenceIdeal.nD Cert.StepInReferenceIdeal.τ Cert.StepInReferenceIdeal.sig) → Buf (Elt Ideal) ℓ) : Prop :=
  True

def Pre_StepUq (m : (ℓ : Loc Cert.StepUq.nD Cert.StepUq.τ Cert.StepUq.sig) → Buf (Elt Bits) ℓ) : Prop :=
  True

def Pre_StepUqIdeal (m : (ℓ : Loc Cert.StepUqIdeal.nD Cert.StepUqIdeal.τ Cert.StepUqIdeal.sig) → Buf (Elt Ideal) ℓ) : Prop :=
  True

def Pre_StepUqReferenceIdeal (m : (ℓ : Loc Cert.StepUqReferenceIdeal.nD Cert.StepUqReferenceIdeal.τ Cert.StepUqReferenceIdeal.sig) → Buf (Elt Ideal) ℓ) : Prop :=
  True

def Pre_StepUkv (m : (ℓ : Loc Cert.StepUkv.nD Cert.StepUkv.τ Cert.StepUkv.sig) → Buf (Elt Bits) ℓ) : Prop :=
  True

def Pre_StepUkvIdeal (m : (ℓ : Loc Cert.StepUkvIdeal.nD Cert.StepUkvIdeal.τ Cert.StepUkvIdeal.sig) → Buf (Elt Ideal) ℓ) : Prop :=
  True

def Pre_StepUkvReferenceIdeal (m : (ℓ : Loc Cert.StepUkvReferenceIdeal.nD Cert.StepUkvReferenceIdeal.τ Cert.StepUkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostIdeal_pre_finite2 [hPostIdeal : Cert.PostIdeal.Facts] [hPre_finite2 : Cert.Pre_finite2.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite2 m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9))
      ∧ r.2.sem = fun _ => 0)

def quiescent_PostReferenceIdeal_pre_finite2 [hPostReferenceIdeal : Cert.PostReferenceIdeal.Facts] [hPre_finite2 : Cert.Pre_finite2.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite2 m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9))
      ∧ r.2.sem = fun _ => 0)

def quiescent_GradFf2 [hGradFf2 : Cert.GradFf2.Facts] : Prop :=
  ∀ (m : (ℓ : Loc Cert.GradFf2.nD Cert.GradFf2.τ Cert.GradFf2.sig) → Buf (Elt Bits) ℓ) (g : Dev Cert.GradFf2.nD → PrngReg), Pre_GradFf2 m →
    θ_run (Cert.GradFf2.defs (F := Bits)) (onTc (τ := Cert.GradFf2.τ) (Cert.GradFf2.main (F := Bits))) ⟨m, fun _ => 0, g⟩ (fun r => (∀ c : Dev Cert.GradFf2.nD,
      r.2.mem ((c.tc : Thread Cert.GradFf2.nD Cert.GradFf2.τ).loc Cert.GradFf2.main_arg0) = m ((c.tc : Thread Cert.GradFf2.nD Cert.GradFf2.τ).loc Cert.GradFf2.main_arg0)
      ∧ r.2.mem ((c.tc : Thread Cert.GradFf2.nD Cert.GradFf2.τ).loc Cert.GradFf2.main_arg1) = m ((c.tc : Thread Cert.GradFf2.nD Cert.GradFf2.τ).loc Cert.GradFf2.main_arg1))
      ∧ r.2.sem = fun _ => 0)

def quiescent_GradFf2Ideal [hGradFf2Ideal : Cert.GradFf2Ideal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg), Pre_GradFf2Ideal m →
    θ_run (Cert.GradFf2Ideal.defs (F := Ideal)) (onTc (τ := Cert.GradFf2Ideal.τ) (Cert.GradFf2Ideal.main (F := Ideal))) ⟨m, fun _ => 0, g⟩ (fun r => (∀ c : Dev Cert.GradFf2Ideal.nD,
      r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
      ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ r.2.sem = fun _ => 0)

def quiescent_GradFf2ReferenceIdeal [hGradFf2ReferenceIdeal : Cert.GradFf2ReferenceIdeal.Facts] : Prop :=
  ∀ (m : (ℓ : Loc Cert.GradFf2ReferenceIdeal.nD Cert.GradFf2ReferenceIdeal.τ Cert.GradFf2ReferenceIdeal.sig) → Buf (Elt Ideal) ℓ) (g : Dev Cert.GradFf2ReferenceIdeal.nD → PrngReg), Pre_GradFf2ReferenceIdeal m →
    θ_run (Cert.GradFf2ReferenceIdeal.defs (F := Ideal)) (onTc (τ := Cert.GradFf2ReferenceIdeal.τ) (Cert.GradFf2ReferenceIdeal.main (F := Ideal))) ⟨m, fun _ => 0, g⟩ (fun r => (∀ c : Dev Cert.GradFf2ReferenceIdeal.nD,
      r.2.mem ((c.tc : Thread Cert.GradFf2ReferenceIdeal.nD Cert.GradFf2ReferenceIdeal.τ).loc Cert.GradFf2ReferenceIdeal.main_arg0) = m ((c.tc : Thread Cert.GradFf2ReferenceIdeal.nD Cert.GradFf2ReferenceIdeal.τ).loc Cert.GradFf2ReferenceIdeal.main_arg0)
      ∧ r.2.mem ((c.tc : Thread Cert.GradFf2ReferenceIdeal.nD Cert.GradFf2ReferenceIdeal.τ).loc Cert.GradFf2ReferenceIdeal.main_arg1) = m ((c.tc : Thread Cert.GradFf2ReferenceIdeal.nD Cert.GradFf2ReferenceIdeal.τ).loc Cert.GradFf2ReferenceIdeal.main_arg1))
      ∧ r.2.sem = fun _ => 0)

def quiescent_GradFf1 [hGradFf1 : Cert.GradFf1.Facts] : Prop :=
  ∀ (m : (ℓ : Loc Cert.GradFf1.nD Cert.GradFf1.τ Cert.GradFf1.sig) → Buf (Elt Bits) ℓ) (g : Dev Cert.GradFf1.nD → PrngReg), Pre_GradFf1 m →
    θ_run (Cert.GradFf1.defs (F := Bits)) (onTc (τ := Cert.GradFf1.τ) (Cert.GradFf1.main (F := Bits))) ⟨m, fun _ => 0, g⟩ (fun r => (∀ c : Dev Cert.GradFf1.nD,
      r.2.mem ((c.tc : Thread Cert.GradFf1.nD Cert.GradFf1.τ).loc Cert.GradFf1.main_arg0) = m ((c.tc : Thread Cert.GradFf1.nD Cert.GradFf1.τ).loc Cert.GradFf1.main_arg0)
      ∧ r.2.mem ((c.tc : Thread Cert.GradFf1.nD Cert.GradFf1.τ).loc Cert.GradFf1.main_arg1) = m ((c.tc : Thread Cert.GradFf1.nD Cert.GradFf1.τ).loc Cert.GradFf1.main_arg1))
      ∧ r.2.sem = fun _ => 0)

def quiescent_GradFf1Ideal [hGradFf1Ideal : Cert.GradFf1Ideal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg), Pre_GradFf1Ideal m →
    θ_run (Cert.GradFf1Ideal.defs (F := Ideal)) (onTc (τ := Cert.GradFf1Ideal.τ) (Cert.GradFf1Ideal.main (F := Ideal))) ⟨m, fun _ => 0, g⟩ (fun r => (∀ c : Dev Cert.GradFf1Ideal.nD,
      r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
      ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ r.2.sem = fun _ => 0)

def quiescent_GradFf1ReferenceIdeal [hGradFf1ReferenceIdeal : Cert.GradFf1ReferenceIdeal.Facts] : Prop :=
  ∀ (m : (ℓ : Loc Cert.GradFf1ReferenceIdeal.nD Cert.GradFf1ReferenceIdeal.τ Cert.GradFf1ReferenceIdeal.sig) → Buf (Elt Ideal) ℓ) (g : Dev Cert.GradFf1ReferenceIdeal.nD → PrngReg), Pre_GradFf1ReferenceIdeal m →
    θ_run (Cert.GradFf1ReferenceIdeal.defs (F := Ideal)) (onTc (τ := Cert.GradFf1ReferenceIdeal.τ) (Cert.GradFf1ReferenceIdeal.main (F := Ideal))) ⟨m, fun _ => 0, g⟩ (fun r => (∀ c : Dev Cert.GradFf1ReferenceIdeal.nD,
      r.2.mem ((c.tc : Thread Cert.GradFf1ReferenceIdeal.nD Cert.GradFf1ReferenceIdeal.τ).loc Cert.GradFf1ReferenceIdeal.main_arg0) = m ((c.tc : Thread Cert.GradFf1ReferenceIdeal.nD Cert.GradFf1ReferenceIdeal.τ).loc Cert.GradFf1ReferenceIdeal.main_arg0)
      ∧ r.2.mem ((c.tc : Thread Cert.GradFf1ReferenceIdeal.nD Cert.GradFf1ReferenceIdeal.τ).loc Cert.GradFf1ReferenceIdeal.main_arg1) = m ((c.tc : Thread Cert.GradFf1ReferenceIdeal.nD Cert.GradFf1ReferenceIdeal.τ).loc Cert.GradFf1ReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_GradUq [hGradUq : Cert.GradUq.Facts] : Prop :=
  ∀ (m : (ℓ : Loc Cert.GradUq.nD Cert.GradUq.τ Cert.GradUq.sig) → Buf (Elt Bits) ℓ) (g : Dev Cert.GradUq.nD → PrngReg), Pre_GradUq m →
    θ_run (Cert.GradUq.defs (F := Bits)) (onTc (τ := Cert.GradUq.τ) (Cert.GradUq.main (F := Bits))) ⟨m, fun _ => 0, g⟩ (fun r => (∀ c : Dev Cert.GradUq.nD,
      r.2.mem ((c.tc : Thread Cert.GradUq.nD Cert.GradUq.τ).loc Cert.GradUq.main_arg0) = m ((c.tc : Thread Cert.GradUq.nD Cert.GradUq.τ).loc Cert.GradUq.main_arg0)
      ∧ r.2.mem ((c.tc : Thread Cert.GradUq.nD Cert.GradUq.τ).loc Cert.GradUq.main_arg1) = m ((c.tc : Thread Cert.GradUq.nD Cert.GradUq.τ).loc Cert.GradUq.main_arg1))
      ∧ r.2.sem = fun _ => 0)

def quiescent_GradUqIdeal [hGradUqIdeal : Cert.GradUqIdeal.Facts] : Prop :=
  ∀ (m : (ℓ : Loc Cert.GradUqIdeal.nD Cert.GradUqIdeal.τ Cert.GradUqIdeal.sig) → Buf (Elt Ideal) ℓ) (g : Dev Cert.GradUqIdeal.nD → PrngReg), Pre_GradUqIdeal m →
    θ_run (Cert.GradUqIdeal.defs (F := Ideal)) (onTc (τ := Cert.GradUqIdeal.τ) (Cert.GradUqIdeal.main (F := Ideal))) ⟨m, fun _ => 0, g⟩ (fun r => (∀ c : Dev Cert.GradUqIdeal.nD,
      r.2.mem ((c.tc : Thread Cert.GradUqIdeal.nD Cert.GradUqIdeal.τ).loc Cert.GradUqIdeal.main_arg0) = m ((c.tc : Thread Cert.GradUqIdeal.nD Cert.GradUqIdeal.τ).loc Cert.GradUqIdeal.main_arg0)
      ∧ r.2.mem ((c.tc : Thread Cert.GradUqIdeal.nD Cert.GradUqIdeal.τ).loc Cert.GradUqIdeal.main_arg1) = m ((c.tc : Thread Cert.GradUqIdeal.nD Cert.GradUqIdeal.τ).loc Cert.GradUqIdeal.main_arg1))
      ∧ r.2.sem = fun _ => 0)

def quiescent_GradUqReferenceIdeal [hGradUqReferenceIdeal : Cert.GradUqReferenceIdeal.Facts] : Prop :=
  ∀ (m : (ℓ : Loc Cert.GradUqReferenceIdeal.nD Cert.GradUqReferenceIdeal.τ Cert.GradUqReferenceIdeal.sig) → Buf (Elt Ideal) ℓ) (g : Dev Cert.GradUqReferenceIdeal.nD → PrngReg), Pre_GradUqReferenceIdeal m →
    θ_run (Cert.GradUqReferenceIdeal.defs (F := Ideal)) (onTc (τ := Cert.GradUqReferenceIdeal.τ) (Cert.GradUqReferenceIdeal.main (F := Ideal))) ⟨m, fun _ => 0, g⟩ (fun r => (∀ c : Dev Cert.GradUqReferenceIdeal.nD,
      r.2.mem ((c.tc : Thread Cert.GradUqReferenceIdeal.nD Cert.GradUqReferenceIdeal.τ).loc Cert.GradUqReferenceIdeal.main_arg0) = m ((c.tc : Thread Cert.GradUqReferenceIdeal.nD Cert.GradUqReferenceIdeal.τ).loc Cert.GradUqReferenceIdeal.main_arg0)
      ∧ r.2.mem ((c.tc : Thread Cert.GradUqReferenceIdeal.nD Cert.GradUqReferenceIdeal.τ).loc Cert.GradUqReferenceIdeal.main_arg1) = m ((c.tc : Thread Cert.GradUqReferenceIdeal.nD Cert.GradUqReferenceIdeal.τ).loc Cert.GradUqReferenceIdeal.main_arg1))
      ∧ r.2.sem = fun _ => 0)

def quiescent_GradUkv [hGradUkv : Cert.GradUkv.Facts] : Prop :=
  ∀ (m : (ℓ : Loc Cert.GradUkv.nD Cert.GradUkv.τ Cert.GradUkv.sig) → Buf (Elt Bits) ℓ) (g : Dev Cert.GradUkv.nD → PrngReg), Pre_GradUkv m →
    θ_run (Cert.GradUkv.defs (F := Bits)) (onTc (τ := Cert.GradUkv.τ) (Cert.GradUkv.main (F := Bits))) ⟨m, fun _ => 0, g⟩ (fun r => (∀ c : Dev Cert.GradUkv.nD,
      r.2.mem ((c.tc : Thread Cert.GradUkv.nD Cert.GradUkv.τ).loc Cert.GradUkv.main_arg0) = m ((c.tc : Thread Cert.GradUkv.nD Cert.GradUkv.τ).loc Cert.GradUkv.main_arg0)
      ∧ r.2.mem ((c.tc : Thread Cert.GradUkv.nD Cert.GradUkv.τ).loc Cert.GradUkv.main_arg1) = m ((c.tc : Thread Cert.GradUkv.nD Cert.GradUkv.τ).loc Cert.GradUkv.main_arg1))
      ∧ r.2.sem = fun _ => 0)

def quiescent_GradUkvIdeal [hGradUkvIdeal : Cert.GradUkvIdeal.Facts] : Prop :=
  ∀ (m : (ℓ : Loc Cert.GradUkvIdeal.nD Cert.GradUkvIdeal.τ Cert.GradUkvIdeal.sig) → Buf (Elt Ideal) ℓ) (g : Dev Cert.GradUkvIdeal.nD → PrngReg), Pre_GradUkvIdeal m →
    θ_run (Cert.GradUkvIdeal.defs (F := Ideal)) (onTc (τ := Cert.GradUkvIdeal.τ) (Cert.GradUkvIdeal.main (F := Ideal))) ⟨m, fun _ => 0, g⟩ (fun r => (∀ c : Dev Cert.GradUkvIdeal.nD,
      r.2.mem ((c.tc : Thread Cert.GradUkvIdeal.nD Cert.GradUkvIdeal.τ).loc Cert.GradUkvIdeal.main_arg0) = m ((c.tc : Thread Cert.GradUkvIdeal.nD Cert.GradUkvIdeal.τ).loc Cert.GradUkvIdeal.main_arg0)
      ∧ r.2.mem ((c.tc : Thread Cert.GradUkvIdeal.nD Cert.GradUkvIdeal.τ).loc Cert.GradUkvIdeal.main_arg1) = m ((c.tc : Thread Cert.GradUkvIdeal.nD Cert.GradUkvIdeal.τ).loc Cert.GradUkvIdeal.main_arg1))
      ∧ r.2.sem = fun _ => 0)

def quiescent_GradUkvReferenceIdeal [hGradUkvReferenceIdeal : Cert.GradUkvReferenceIdeal.Facts] : Prop :=
  ∀ (m : (ℓ : Loc Cert.GradUkvReferenceIdeal.nD Cert.GradUkvReferenceIdeal.τ Cert.GradUkvReferenceIdeal.sig) → Buf (Elt Ideal) ℓ) (g : Dev Cert.GradUkvReferenceIdeal.nD → PrngReg), Pre_GradUkvReferenceIdeal m →
    θ_run (Cert.GradUkvReferenceIdeal.defs (F := Ideal)) (onTc (τ := Cert.GradUkvReferenceIdeal.τ) (Cert.GradUkvReferenceIdeal.main (F := Ideal))) ⟨m, fun _ => 0, g⟩ (fun r => (∀ c : Dev Cert.GradUkvReferenceIdeal.nD,
      r.2.mem ((c.tc : Thread Cert.GradUkvReferenceIdeal.nD Cert.GradUkvReferenceIdeal.τ).loc Cert.GradUkvReferenceIdeal.main_arg0) = m ((c.tc : Thread Cert.GradUkvReferenceIdeal.nD Cert.GradUkvReferenceIdeal.τ).loc Cert.GradUkvReferenceIdeal.main_arg0)
      ∧ r.2.mem ((c.tc : Thread Cert.GradUkvReferenceIdeal.nD Cert.GradUkvReferenceIdeal.τ).loc Cert.GradUkvReferenceIdeal.main_arg1) = m ((c.tc : Thread Cert.GradUkvReferenceIdeal.nD Cert.GradUkvReferenceIdeal.τ).loc Cert.GradUkvReferenceIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3)
      ∧ r.2.mem ((c.tc : Thread Cert.StepOut.nD Cert.StepOut.τ).loc Cert.StepOut.main_arg4) = m ((c.tc : Thread Cert.StepOut.nD Cert.StepOut.τ).loc Cert.StepOut.main_arg4)
      ∧ r.2.mem ((c.tc : Thread Cert.StepOut.nD Cert.StepOut.τ).loc Cert.StepOut.main_arg5) = m ((c.tc : Thread Cert.StepOut.nD Cert.StepOut.τ).loc Cert.StepOut.main_arg5))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
      ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
      ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3)
      ∧ r.2.mem ((c.tc : Thread Cert.StepOutReferenceIdeal.nD Cert.StepOutReferenceIdeal.τ).loc Cert.StepOutReferenceIdeal.main_arg4) = m ((c.tc : Thread Cert.StepOutReferenceIdeal.nD Cert.StepOutReferenceIdeal.τ).loc Cert.StepOutReferenceIdeal.main_arg4)
      ∧ r.2.mem ((c.tc : Thread Cert.StepOutReferenceIdeal.nD Cert.StepOutReferenceIdeal.τ).loc Cert.StepOutReferenceIdeal.main_arg5) = m ((c.tc : Thread Cert.StepOutReferenceIdeal.nD Cert.StepOutReferenceIdeal.τ).loc Cert.StepOutReferenceIdeal.main_arg5))
      ∧ r.2.sem = fun _ => 0)

def quiescent_StepFf1 [hStepFf1 : Cert.StepFf1.Facts] : Prop :=
  ∀ (m : (ℓ : Loc Cert.StepFf1.nD Cert.StepFf1.τ Cert.StepFf1.sig) → Buf (Elt Bits) ℓ) (g : Dev Cert.StepFf1.nD → PrngReg), Pre_StepFf1 m →
    θ_run (Cert.StepFf1.defs (F := Bits)) (onTc (τ := Cert.StepFf1.τ) (Cert.StepFf1.main (F := Bits))) ⟨m, fun _ => 0, g⟩ (fun r => (∀ c : Dev Cert.StepFf1.nD,
      r.2.mem ((c.tc : Thread Cert.StepFf1.nD Cert.StepFf1.τ).loc Cert.StepFf1.main_arg0) = m ((c.tc : Thread Cert.StepFf1.nD Cert.StepFf1.τ).loc Cert.StepFf1.main_arg0)
      ∧ r.2.mem ((c.tc : Thread Cert.StepFf1.nD Cert.StepFf1.τ).loc Cert.StepFf1.main_arg1) = m ((c.tc : Thread Cert.StepFf1.nD Cert.StepFf1.τ).loc Cert.StepFf1.main_arg1)
      ∧ r.2.mem ((c.tc : Thread Cert.StepFf1.nD Cert.StepFf1.τ).loc Cert.StepFf1.main_arg2) = m ((c.tc : Thread Cert.StepFf1.nD Cert.StepFf1.τ).loc Cert.StepFf1.main_arg2)
      ∧ r.2.mem ((c.tc : Thread Cert.StepFf1.nD Cert.StepFf1.τ).loc Cert.StepFf1.main_arg3) = m ((c.tc : Thread Cert.StepFf1.nD Cert.StepFf1.τ).loc Cert.StepFf1.main_arg3)
      ∧ r.2.mem ((c.tc : Thread Cert.StepFf1.nD Cert.StepFf1.τ).loc Cert.StepFf1.main_arg4) = m ((c.tc : Thread Cert.StepFf1.nD Cert.StepFf1.τ).loc Cert.StepFf1.main_arg4)
      ∧ r.2.mem ((c.tc : Thread Cert.StepFf1.nD Cert.StepFf1.τ).loc Cert.StepFf1.main_arg5) = m ((c.tc : Thread Cert.StepFf1.nD Cert.StepFf1.τ).loc Cert.StepFf1.main_arg5))
      ∧ r.2.sem = fun _ => 0)

def quiescent_StepFf1Ideal [hStepFf1Ideal : Cert.StepFf1Ideal.Facts] : Prop :=
  ∀ (m : (ℓ : Loc Cert.StepFf1Ideal.nD Cert.StepFf1Ideal.τ Cert.StepFf1Ideal.sig) → Buf (Elt Ideal) ℓ) (g : Dev Cert.StepFf1Ideal.nD → PrngReg), Pre_StepFf1Ideal m →
    θ_run (Cert.StepFf1Ideal.defs (F := Ideal)) (onTc (τ := Cert.StepFf1Ideal.τ) (Cert.StepFf1Ideal.main (F := Ideal))) ⟨m, fun _ => 0, g⟩ (fun r => (∀ c : Dev Cert.StepFf1Ideal.nD,
      r.2.mem ((c.tc : Thread Cert.StepFf1Ideal.nD Cert.StepFf1Ideal.τ).loc Cert.StepFf1Ideal.main_arg0) = m ((c.tc : Thread Cert.StepFf1Ideal.nD Cert.StepFf1Ideal.τ).loc Cert.StepFf1Ideal.main_arg0)
      ∧ r.2.mem ((c.tc : Thread Cert.StepFf1Ideal.nD Cert.StepFf1Ideal.τ).loc Cert.StepFf1Ideal.main_arg1) = m ((c.tc : Thread Cert.StepFf1Ideal.nD Cert.StepFf1Ideal.τ).loc Cert.StepFf1Ideal.main_arg1)
      ∧ r.2.mem ((c.tc : Thread Cert.StepFf1Ideal.nD Cert.StepFf1Ideal.τ).loc Cert.StepFf1Ideal.main_arg2) = m ((c.tc : Thread Cert.StepFf1Ideal.nD Cert.StepFf1Ideal.τ).loc Cert.StepFf1Ideal.main_arg2)
      ∧ r.2.mem ((c.tc : Thread Cert.StepFf1Ideal.nD Cert.StepFf1Ideal.τ).loc Cert.StepFf1Ideal.main_arg3) = m ((c.tc : Thread Cert.StepFf1Ideal.nD Cert.StepFf1Ideal.τ).loc Cert.StepFf1Ideal.main_arg3)
      ∧ r.2.mem ((c.tc : Thread Cert.StepFf1Ideal.nD Cert.StepFf1Ideal.τ).loc Cert.StepFf1Ideal.main_arg4) = m ((c.tc : Thread Cert.StepFf1Ideal.nD Cert.StepFf1Ideal.τ).loc Cert.StepFf1Ideal.main_arg4)
      ∧ r.2.mem ((c.tc : Thread Cert.StepFf1Ideal.nD Cert.StepFf1Ideal.τ).loc Cert.StepFf1Ideal.main_arg5) = m ((c.tc : Thread Cert.StepFf1Ideal.nD Cert.StepFf1Ideal.τ).loc Cert.StepFf1Ideal.main_arg5))
      ∧ r.2.sem = fun _ => 0)

def quiescent_StepFf1ReferenceIdeal [hStepFf1ReferenceIdeal : Cert.StepFf1ReferenceIdeal.Facts] : Prop :=
  ∀ (m : (ℓ : Loc Cert.StepFf1ReferenceIdeal.nD Cert.StepFf1ReferenceIdeal.τ Cert.StepFf1ReferenceIdeal.sig) → Buf (Elt Ideal) ℓ) (g : Dev Cert.StepFf1ReferenceIdeal.nD → PrngReg), Pre_StepFf1ReferenceIdeal m →
    θ_run (Cert.StepFf1ReferenceIdeal.defs (F := Ideal)) (onTc (τ := Cert.StepFf1ReferenceIdeal.τ) (Cert.StepFf1ReferenceIdeal.main (F := Ideal))) ⟨m, fun _ => 0, g⟩ (fun r => (∀ c : Dev Cert.StepFf1ReferenceIdeal.nD,
      r.2.mem ((c.tc : Thread Cert.StepFf1ReferenceIdeal.nD Cert.StepFf1ReferenceIdeal.τ).loc Cert.StepFf1ReferenceIdeal.main_arg0) = m ((c.tc : Thread Cert.StepFf1ReferenceIdeal.nD Cert.StepFf1ReferenceIdeal.τ).loc Cert.StepFf1ReferenceIdeal.main_arg0)
      ∧ r.2.mem ((c.tc : Thread Cert.StepFf1ReferenceIdeal.nD Cert.StepFf1ReferenceIdeal.τ).loc Cert.StepFf1ReferenceIdeal.main_arg1) = m ((c.tc : Thread Cert.StepFf1ReferenceIdeal.nD Cert.StepFf1ReferenceIdeal.τ).loc Cert.StepFf1ReferenceIdeal.main_arg1)
      ∧ r.2.mem ((c.tc : Thread Cert.StepFf1ReferenceIdeal.nD Cert.StepFf1ReferenceIdeal.τ).loc Cert.StepFf1ReferenceIdeal.main_arg2) = m ((c.tc : Thread Cert.StepFf1ReferenceIdeal.nD Cert.StepFf1ReferenceIdeal.τ).loc Cert.StepFf1ReferenceIdeal.main_arg2)
      ∧ r.2.mem ((c.tc : Thread Cert.StepFf1ReferenceIdeal.nD Cert.StepFf1ReferenceIdeal.τ).loc Cert.StepFf1ReferenceIdeal.main_arg3) = m ((c.tc : Thread Cert.StepFf1ReferenceIdeal.nD Cert.StepFf1ReferenceIdeal.τ).loc Cert.StepFf1ReferenceIdeal.main_arg3)
      ∧ r.2.mem ((c.tc : Thread Cert.StepFf1ReferenceIdeal.nD Cert.StepFf1ReferenceIdeal.τ).loc Cert.StepFf1ReferenceIdeal.main_arg4) = m ((c.tc : Thread Cert.StepFf1ReferenceIdeal.nD Cert.StepFf1ReferenceIdeal.τ).loc Cert.StepFf1ReferenceIdeal.main_arg4)
      ∧ r.2.mem ((c.tc : Thread Cert.StepFf1ReferenceIdeal.nD Cert.StepFf1ReferenceIdeal.τ).loc Cert.StepFf1ReferenceIdeal.main_arg5) = m ((c.tc : Thread Cert.StepFf1ReferenceIdeal.nD Cert.StepFf1ReferenceIdeal.τ).loc Cert.StepFf1ReferenceIdeal.main_arg5))
      ∧ r.2.sem = fun _ => 0)

def quiescent_StepFf2 [hStepFf2 : Cert.StepFf2.Facts] : Prop :=
  ∀ (m : (ℓ : Loc Cert.StepFf2.nD Cert.StepFf2.τ Cert.StepFf2.sig) → Buf (Elt Bits) ℓ) (g : Dev Cert.StepFf2.nD → PrngReg), Pre_StepFf2 m →
    θ_run (Cert.StepFf2.defs (F := Bits)) (onTc (τ := Cert.StepFf2.τ) (Cert.StepFf2.main (F := Bits))) ⟨m, fun _ => 0, g⟩ (fun r => (∀ c : Dev Cert.StepFf2.nD,
      r.2.mem ((c.tc : Thread Cert.StepFf2.nD Cert.StepFf2.τ).loc Cert.StepFf2.main_arg0) = m ((c.tc : Thread Cert.StepFf2.nD Cert.StepFf2.τ).loc Cert.StepFf2.main_arg0)
      ∧ r.2.mem ((c.tc : Thread Cert.StepFf2.nD Cert.StepFf2.τ).loc Cert.StepFf2.main_arg1) = m ((c.tc : Thread Cert.StepFf2.nD Cert.StepFf2.τ).loc Cert.StepFf2.main_arg1)
      ∧ r.2.mem ((c.tc : Thread Cert.StepFf2.nD Cert.StepFf2.τ).loc Cert.StepFf2.main_arg2) = m ((c.tc : Thread Cert.StepFf2.nD Cert.StepFf2.τ).loc Cert.StepFf2.main_arg2)
      ∧ r.2.mem ((c.tc : Thread Cert.StepFf2.nD Cert.StepFf2.τ).loc Cert.StepFf2.main_arg3) = m ((c.tc : Thread Cert.StepFf2.nD Cert.StepFf2.τ).loc Cert.StepFf2.main_arg3)
      ∧ r.2.mem ((c.tc : Thread Cert.StepFf2.nD Cert.StepFf2.τ).loc Cert.StepFf2.main_arg4) = m ((c.tc : Thread Cert.StepFf2.nD Cert.StepFf2.τ).loc Cert.StepFf2.main_arg4)
      ∧ r.2.mem ((c.tc : Thread Cert.StepFf2.nD Cert.StepFf2.τ).loc Cert.StepFf2.main_arg5) = m ((c.tc : Thread Cert.StepFf2.nD Cert.StepFf2.τ).loc Cert.StepFf2.main_arg5))
      ∧ r.2.sem = fun _ => 0)

def quiescent_StepFf2Ideal [hStepFf2Ideal : Cert.StepFf2Ideal.Facts] : Prop :=
  ∀ (m : (ℓ : Loc Cert.StepFf2Ideal.nD Cert.StepFf2Ideal.τ Cert.StepFf2Ideal.sig) → Buf (Elt Ideal) ℓ) (g : Dev Cert.StepFf2Ideal.nD → PrngReg), Pre_StepFf2Ideal m →
    θ_run (Cert.StepFf2Ideal.defs (F := Ideal)) (onTc (τ := Cert.StepFf2Ideal.τ) (Cert.StepFf2Ideal.main (F := Ideal))) ⟨m, fun _ => 0, g⟩ (fun r => (∀ c : Dev Cert.StepFf2Ideal.nD,
      r.2.mem ((c.tc : Thread Cert.StepFf2Ideal.nD Cert.StepFf2Ideal.τ).loc Cert.StepFf2Ideal.main_arg0) = m ((c.tc : Thread Cert.StepFf2Ideal.nD Cert.StepFf2Ideal.τ).loc Cert.StepFf2Ideal.main_arg0)
      ∧ r.2.mem ((c.tc : Thread Cert.StepFf2Ideal.nD Cert.StepFf2Ideal.τ).loc Cert.StepFf2Ideal.main_arg1) = m ((c.tc : Thread Cert.StepFf2Ideal.nD Cert.StepFf2Ideal.τ).loc Cert.StepFf2Ideal.main_arg1)
      ∧ r.2.mem ((c.tc : Thread Cert.StepFf2Ideal.nD Cert.StepFf2Ideal.τ).loc Cert.StepFf2Ideal.main_arg2) = m ((c.tc : Thread Cert.StepFf2Ideal.nD Cert.StepFf2Ideal.τ).loc Cert.StepFf2Ideal.main_arg2)
      ∧ r.2.mem ((c.tc : Thread Cert.StepFf2Ideal.nD Cert.StepFf2Ideal.τ).loc Cert.StepFf2Ideal.main_arg3) = m ((c.tc : Thread Cert.StepFf2Ideal.nD Cert.StepFf2Ideal.τ).loc Cert.StepFf2Ideal.main_arg3)
      ∧ r.2.mem ((c.tc : Thread Cert.StepFf2Ideal.nD Cert.StepFf2Ideal.τ).loc Cert.StepFf2Ideal.main_arg4) = m ((c.tc : Thread Cert.StepFf2Ideal.nD Cert.StepFf2Ideal.τ).loc Cert.StepFf2Ideal.main_arg4)
      ∧ r.2.mem ((c.tc : Thread Cert.StepFf2Ideal.nD Cert.StepFf2Ideal.τ).loc Cert.StepFf2Ideal.main_arg5) = m ((c.tc : Thread Cert.StepFf2Ideal.nD Cert.StepFf2Ideal.τ).loc Cert.StepFf2Ideal.main_arg5))
      ∧ r.2.sem = fun _ => 0)

def quiescent_StepFf2ReferenceIdeal [hStepFf2ReferenceIdeal : Cert.StepFf2ReferenceIdeal.Facts] : Prop :=
  ∀ (m : (ℓ : Loc Cert.StepFf2ReferenceIdeal.nD Cert.StepFf2ReferenceIdeal.τ Cert.StepFf2ReferenceIdeal.sig) → Buf (Elt Ideal) ℓ) (g : Dev Cert.StepFf2ReferenceIdeal.nD → PrngReg), Pre_StepFf2ReferenceIdeal m →
    θ_run (Cert.StepFf2ReferenceIdeal.defs (F := Ideal)) (onTc (τ := Cert.StepFf2ReferenceIdeal.τ) (Cert.StepFf2ReferenceIdeal.main (F := Ideal))) ⟨m, fun _ => 0, g⟩ (fun r => (∀ c : Dev Cert.StepFf2ReferenceIdeal.nD,
      r.2.mem ((c.tc : Thread Cert.StepFf2ReferenceIdeal.nD Cert.StepFf2ReferenceIdeal.τ).loc Cert.StepFf2ReferenceIdeal.main_arg0) = m ((c.tc : Thread Cert.StepFf2ReferenceIdeal.nD Cert.StepFf2ReferenceIdeal.τ).loc Cert.StepFf2ReferenceIdeal.main_arg0)
      ∧ r.2.mem ((c.tc : Thread Cert.StepFf2ReferenceIdeal.nD Cert.StepFf2ReferenceIdeal.τ).loc Cert.StepFf2ReferenceIdeal.main_arg1) = m ((c.tc : Thread Cert.StepFf2ReferenceIdeal.nD Cert.StepFf2ReferenceIdeal.τ).loc Cert.StepFf2ReferenceIdeal.main_arg1)
      ∧ r.2.mem ((c.tc : Thread Cert.StepFf2ReferenceIdeal.nD Cert.StepFf2ReferenceIdeal.τ).loc Cert.StepFf2ReferenceIdeal.main_arg2) = m ((c.tc : Thread Cert.StepFf2ReferenceIdeal.nD Cert.StepFf2ReferenceIdeal.τ).loc Cert.StepFf2ReferenceIdeal.main_arg2)
      ∧ r.2.mem ((c.tc : Thread Cert.StepFf2ReferenceIdeal.nD Cert.StepFf2ReferenceIdeal.τ).loc Cert.StepFf2ReferenceIdeal.main_arg3) = m ((c.tc : Thread Cert.StepFf2ReferenceIdeal.nD Cert.StepFf2ReferenceIdeal.τ).loc Cert.StepFf2ReferenceIdeal.main_arg3)
      ∧ r.2.mem ((c.tc : Thread Cert.StepFf2ReferenceIdeal.nD Cert.StepFf2ReferenceIdeal.τ).loc Cert.StepFf2ReferenceIdeal.main_arg4) = m ((c.tc : Thread Cert.StepFf2ReferenceIdeal.nD Cert.StepFf2ReferenceIdeal.τ).loc Cert.StepFf2ReferenceIdeal.main_arg4)
      ∧ r.2.mem ((c.tc : Thread Cert.StepFf2ReferenceIdeal.nD Cert.StepFf2ReferenceIdeal.τ).loc Cert.StepFf2ReferenceIdeal.main_arg5) = m ((c.tc : Thread Cert.StepFf2ReferenceIdeal.nD Cert.StepFf2ReferenceIdeal.τ).loc Cert.StepFf2ReferenceIdeal.main_arg5))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3)
      ∧ r.2.mem ((c.tc : Thread Cert.StepIn.nD Cert.StepIn.τ).loc Cert.StepIn.main_arg4) = m ((c.tc : Thread Cert.StepIn.nD Cert.StepIn.τ).loc Cert.StepIn.main_arg4)
      ∧ r.2.mem ((c.tc : Thread Cert.StepIn.nD Cert.StepIn.τ).loc Cert.StepIn.main_arg5) = m ((c.tc : Thread Cert.StepIn.nD Cert.StepIn.τ).loc Cert.StepIn.main_arg5))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
      ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
      ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ r.2.sem = fun _ => 0)

def quiescent_StepInReferenceIdeal [hStepInReferenceIdeal : Cert.StepInReferenceIdeal.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3)
      ∧ r.2.mem ((c.tc : Thread Cert.StepInReferenceIdeal.nD Cert.StepInReferenceIdeal.τ).loc Cert.StepInReferenceIdeal.main_arg4) = m ((c.tc : Thread Cert.StepInReferenceIdeal.nD Cert.StepInReferenceIdeal.τ).loc Cert.StepInReferenceIdeal.main_arg4)
      ∧ r.2.mem ((c.tc : Thread Cert.StepInReferenceIdeal.nD Cert.StepInReferenceIdeal.τ).loc Cert.StepInReferenceIdeal.main_arg5) = m ((c.tc : Thread Cert.StepInReferenceIdeal.nD Cert.StepInReferenceIdeal.τ).loc Cert.StepInReferenceIdeal.main_arg5))
      ∧ r.2.sem = fun _ => 0)

def quiescent_StepUq [hStepUq : Cert.StepUq.Facts] : Prop :=
  ∀ (m : (ℓ : Loc Cert.StepUq.nD Cert.StepUq.τ Cert.StepUq.sig) → Buf (Elt Bits) ℓ) (g : Dev Cert.StepUq.nD → PrngReg), Pre_StepUq m →
    θ_run (Cert.StepUq.defs (F := Bits)) (onTc (τ := Cert.StepUq.τ) (Cert.StepUq.main (F := Bits))) ⟨m, fun _ => 0, g⟩ (fun r => (∀ c : Dev Cert.StepUq.nD,
      r.2.mem ((c.tc : Thread Cert.StepUq.nD Cert.StepUq.τ).loc Cert.StepUq.main_arg0) = m ((c.tc : Thread Cert.StepUq.nD Cert.StepUq.τ).loc Cert.StepUq.main_arg0)
      ∧ r.2.mem ((c.tc : Thread Cert.StepUq.nD Cert.StepUq.τ).loc Cert.StepUq.main_arg1) = m ((c.tc : Thread Cert.StepUq.nD Cert.StepUq.τ).loc Cert.StepUq.main_arg1)
      ∧ r.2.mem ((c.tc : Thread Cert.StepUq.nD Cert.StepUq.τ).loc Cert.StepUq.main_arg2) = m ((c.tc : Thread Cert.StepUq.nD Cert.StepUq.τ).loc Cert.StepUq.main_arg2)
      ∧ r.2.mem ((c.tc : Thread Cert.StepUq.nD Cert.StepUq.τ).loc Cert.StepUq.main_arg3) = m ((c.tc : Thread Cert.StepUq.nD Cert.StepUq.τ).loc Cert.StepUq.main_arg3)
      ∧ r.2.mem ((c.tc : Thread Cert.StepUq.nD Cert.StepUq.τ).loc Cert.StepUq.main_arg4) = m ((c.tc : Thread Cert.StepUq.nD Cert.StepUq.τ).loc Cert.StepUq.main_arg4)
      ∧ r.2.mem ((c.tc : Thread Cert.StepUq.nD Cert.StepUq.τ).loc Cert.StepUq.main_arg5) = m ((c.tc : Thread Cert.StepUq.nD Cert.StepUq.τ).loc Cert.StepUq.main_arg5))
      ∧ r.2.sem = fun _ => 0)

def quiescent_StepUqIdeal [hStepUqIdeal : Cert.StepUqIdeal.Facts] : Prop :=
  ∀ (m : (ℓ : Loc Cert.StepUqIdeal.nD Cert.StepUqIdeal.τ Cert.StepUqIdeal.sig) → Buf (Elt Ideal) ℓ) (g : Dev Cert.StepUqIdeal.nD → PrngReg), Pre_StepUqIdeal m →
    θ_run (Cert.StepUqIdeal.defs (F := Ideal)) (onTc (τ := Cert.StepUqIdeal.τ) (Cert.StepUqIdeal.main (F := Ideal))) ⟨m, fun _ => 0, g⟩ (fun r => (∀ c : Dev Cert.StepUqIdeal.nD,
      r.2.mem ((c.tc : Thread Cert.StepUqIdeal.nD Cert.StepUqIdeal.τ).loc Cert.StepUqIdeal.main_arg0) = m ((c.tc : Thread Cert.StepUqIdeal.nD Cert.StepUqIdeal.τ).loc Cert.StepUqIdeal.main_arg0)
      ∧ r.2.mem ((c.tc : Thread Cert.StepUqIdeal.nD Cert.StepUqIdeal.τ).loc Cert.StepUqIdeal.main_arg1) = m ((c.tc : Thread Cert.StepUqIdeal.nD Cert.StepUqIdeal.τ).loc Cert.StepUqIdeal.main_arg1)
      ∧ r.2.mem ((c.tc : Thread Cert.StepUqIdeal.nD Cert.StepUqIdeal.τ).loc Cert.StepUqIdeal.main_arg2) = m ((c.tc : Thread Cert.StepUqIdeal.nD Cert.StepUqIdeal.τ).loc Cert.StepUqIdeal.main_arg2)
      ∧ r.2.mem ((c.tc : Thread Cert.StepUqIdeal.nD Cert.StepUqIdeal.τ).loc Cert.StepUqIdeal.main_arg3) = m ((c.tc : Thread Cert.StepUqIdeal.nD Cert.StepUqIdeal.τ).loc Cert.StepUqIdeal.main_arg3)
      ∧ r.2.mem ((c.tc : Thread Cert.StepUqIdeal.nD Cert.StepUqIdeal.τ).loc Cert.StepUqIdeal.main_arg4) = m ((c.tc : Thread Cert.StepUqIdeal.nD Cert.StepUqIdeal.τ).loc Cert.StepUqIdeal.main_arg4)
      ∧ r.2.mem ((c.tc : Thread Cert.StepUqIdeal.nD Cert.StepUqIdeal.τ).loc Cert.StepUqIdeal.main_arg5) = m ((c.tc : Thread Cert.StepUqIdeal.nD Cert.StepUqIdeal.τ).loc Cert.StepUqIdeal.main_arg5))
      ∧ r.2.sem = fun _ => 0)

def quiescent_StepUqReferenceIdeal [hStepUqReferenceIdeal : Cert.StepUqReferenceIdeal.Facts] : Prop :=
  ∀ (m : (ℓ : Loc Cert.StepUqReferenceIdeal.nD Cert.StepUqReferenceIdeal.τ Cert.StepUqReferenceIdeal.sig) → Buf (Elt Ideal) ℓ) (g : Dev Cert.StepUqReferenceIdeal.nD → PrngReg), Pre_StepUqReferenceIdeal m →
    θ_run (Cert.StepUqReferenceIdeal.defs (F := Ideal)) (onTc (τ := Cert.StepUqReferenceIdeal.τ) (Cert.StepUqReferenceIdeal.main (F := Ideal))) ⟨m, fun _ => 0, g⟩ (fun r => (∀ c : Dev Cert.StepUqReferenceIdeal.nD,
      r.2.mem ((c.tc : Thread Cert.StepUqReferenceIdeal.nD Cert.StepUqReferenceIdeal.τ).loc Cert.StepUqReferenceIdeal.main_arg0) = m ((c.tc : Thread Cert.StepUqReferenceIdeal.nD Cert.StepUqReferenceIdeal.τ).loc Cert.StepUqReferenceIdeal.main_arg0)
      ∧ r.2.mem ((c.tc : Thread Cert.StepUqReferenceIdeal.nD Cert.StepUqReferenceIdeal.τ).loc Cert.StepUqReferenceIdeal.main_arg1) = m ((c.tc : Thread Cert.StepUqReferenceIdeal.nD Cert.StepUqReferenceIdeal.τ).loc Cert.StepUqReferenceIdeal.main_arg1)
      ∧ r.2.mem ((c.tc : Thread Cert.StepUqReferenceIdeal.nD Cert.StepUqReferenceIdeal.τ).loc Cert.StepUqReferenceIdeal.main_arg2) = m ((c.tc : Thread Cert.StepUqReferenceIdeal.nD Cert.StepUqReferenceIdeal.τ).loc Cert.StepUqReferenceIdeal.main_arg2)
      ∧ r.2.mem ((c.tc : Thread Cert.StepUqReferenceIdeal.nD Cert.StepUqReferenceIdeal.τ).loc Cert.StepUqReferenceIdeal.main_arg3) = m ((c.tc : Thread Cert.StepUqReferenceIdeal.nD Cert.StepUqReferenceIdeal.τ).loc Cert.StepUqReferenceIdeal.main_arg3)
      ∧ r.2.mem ((c.tc : Thread Cert.StepUqReferenceIdeal.nD Cert.StepUqReferenceIdeal.τ).loc Cert.StepUqReferenceIdeal.main_arg4) = m ((c.tc : Thread Cert.StepUqReferenceIdeal.nD Cert.StepUqReferenceIdeal.τ).loc Cert.StepUqReferenceIdeal.main_arg4)
      ∧ r.2.mem ((c.tc : Thread Cert.StepUqReferenceIdeal.nD Cert.StepUqReferenceIdeal.τ).loc Cert.StepUqReferenceIdeal.main_arg5) = m ((c.tc : Thread Cert.StepUqReferenceIdeal.nD Cert.StepUqReferenceIdeal.τ).loc Cert.StepUqReferenceIdeal.main_arg5))
      ∧ r.2.sem = fun _ => 0)

def quiescent_StepUkv [hStepUkv : Cert.StepUkv.Facts] : Prop :=
  ∀ (m : (ℓ : Loc Cert.StepUkv.nD Cert.StepUkv.τ Cert.StepUkv.sig) → Buf (Elt Bits) ℓ) (g : Dev Cert.StepUkv.nD → PrngReg), Pre_StepUkv m →
    θ_run (Cert.StepUkv.defs (F := Bits)) (onTc (τ := Cert.StepUkv.τ) (Cert.StepUkv.main (F := Bits))) ⟨m, fun _ => 0, g⟩ (fun r => (∀ c : Dev Cert.StepUkv.nD,
      r.2.mem ((c.tc : Thread Cert.StepUkv.nD Cert.StepUkv.τ).loc Cert.StepUkv.main_arg0) = m ((c.tc : Thread Cert.StepUkv.nD Cert.StepUkv.τ).loc Cert.StepUkv.main_arg0)
      ∧ r.2.mem ((c.tc : Thread Cert.StepUkv.nD Cert.StepUkv.τ).loc Cert.StepUkv.main_arg1) = m ((c.tc : Thread Cert.StepUkv.nD Cert.StepUkv.τ).loc Cert.StepUkv.main_arg1)
      ∧ r.2.mem ((c.tc : Thread Cert.StepUkv.nD Cert.StepUkv.τ).loc Cert.StepUkv.main_arg2) = m ((c.tc : Thread Cert.StepUkv.nD Cert.StepUkv.τ).loc Cert.StepUkv.main_arg2)
      ∧ r.2.mem ((c.tc : Thread Cert.StepUkv.nD Cert.StepUkv.τ).loc Cert.StepUkv.main_arg3) = m ((c.tc : Thread Cert.StepUkv.nD Cert.StepUkv.τ).loc Cert.StepUkv.main_arg3)
      ∧ r.2.mem ((c.tc : Thread Cert.StepUkv.nD Cert.StepUkv.τ).loc Cert.StepUkv.main_arg4) = m ((c.tc : Thread Cert.StepUkv.nD Cert.StepUkv.τ).loc Cert.StepUkv.main_arg4)
      ∧ r.2.mem ((c.tc : Thread Cert.StepUkv.nD Cert.StepUkv.τ).loc Cert.StepUkv.main_arg5) = m ((c.tc : Thread Cert.StepUkv.nD Cert.StepUkv.τ).loc Cert.StepUkv.main_arg5))
      ∧ r.2.sem = fun _ => 0)

def quiescent_StepUkvIdeal [hStepUkvIdeal : Cert.StepUkvIdeal.Facts] : Prop :=
  ∀ (m : (ℓ : Loc Cert.StepUkvIdeal.nD Cert.StepUkvIdeal.τ Cert.StepUkvIdeal.sig) → Buf (Elt Ideal) ℓ) (g : Dev Cert.StepUkvIdeal.nD → PrngReg), Pre_StepUkvIdeal m →
    θ_run (Cert.StepUkvIdeal.defs (F := Ideal)) (onTc (τ := Cert.StepUkvIdeal.τ) (Cert.StepUkvIdeal.main (F := Ideal))) ⟨m, fun _ => 0, g⟩ (fun r => (∀ c : Dev Cert.StepUkvIdeal.nD,
      r.2.mem ((c.tc : Thread Cert.StepUkvIdeal.nD Cert.StepUkvIdeal.τ).loc Cert.StepUkvIdeal.main_arg0) = m ((c.tc : Thread Cert.StepUkvIdeal.nD Cert.StepUkvIdeal.τ).loc Cert.StepUkvIdeal.main_arg0)
      ∧ r.2.mem ((c.tc : Thread Cert.StepUkvIdeal.nD Cert.StepUkvIdeal.τ).loc Cert.StepUkvIdeal.main_arg1) = m ((c.tc : Thread Cert.StepUkvIdeal.nD Cert.StepUkvIdeal.τ).loc Cert.StepUkvIdeal.main_arg1)
      ∧ r.2.mem ((c.tc : Thread Cert.StepUkvIdeal.nD Cert.StepUkvIdeal.τ).loc Cert.StepUkvIdeal.main_arg2) = m ((c.tc : Thread Cert.StepUkvIdeal.nD Cert.StepUkvIdeal.τ).loc Cert.StepUkvIdeal.main_arg2)
      ∧ r.2.mem ((c.tc : Thread Cert.StepUkvIdeal.nD Cert.StepUkvIdeal.τ).loc Cert.StepUkvIdeal.main_arg3) = m ((c.tc : Thread Cert.StepUkvIdeal.nD Cert.StepUkvIdeal.τ).loc Cert.StepUkvIdeal.main_arg3)
      ∧ r.2.mem ((c.tc : Thread Cert.StepUkvIdeal.nD Cert.StepUkvIdeal.τ).loc Cert.StepUkvIdeal.main_arg4) = m ((c.tc : Thread Cert.StepUkvIdeal.nD Cert.StepUkvIdeal.τ).loc Cert.StepUkvIdeal.main_arg4)
      ∧ r.2.mem ((c.tc : Thread Cert.StepUkvIdeal.nD Cert.StepUkvIdeal.τ).loc Cert.StepUkvIdeal.main_arg5) = m ((c.tc : Thread Cert.StepUkvIdeal.nD Cert.StepUkvIdeal.τ).loc Cert.StepUkvIdeal.main_arg5))
      ∧ r.2.sem = fun _ => 0)

def quiescent_StepUkvReferenceIdeal [hStepUkvReferenceIdeal : Cert.StepUkvReferenceIdeal.Facts] : Prop :=
  ∀ (m : (ℓ : Loc Cert.StepUkvReferenceIdeal.nD Cert.StepUkvReferenceIdeal.τ Cert.StepUkvReferenceIdeal.sig) → Buf (Elt Ideal) ℓ) (g : Dev Cert.StepUkvReferenceIdeal.nD → PrngReg), Pre_StepUkvReferenceIdeal m →
    θ_run (Cert.StepUkvReferenceIdeal.defs (F := Ideal)) (onTc (τ := Cert.StepUkvReferenceIdeal.τ) (Cert.StepUkvReferenceIdeal.main (F := Ideal))) ⟨m, fun _ => 0, g⟩ (fun r => (∀ c : Dev Cert.StepUkvReferenceIdeal.nD,
      r.2.mem ((c.tc : Thread Cert.StepUkvReferenceIdeal.nD Cert.StepUkvReferenceIdeal.τ).loc Cert.StepUkvReferenceIdeal.main_arg0) = m ((c.tc : Thread Cert.StepUkvReferenceIdeal.nD Cert.StepUkvReferenceIdeal.τ).loc Cert.StepUkvReferenceIdeal.main_arg0)
      ∧ r.2.mem ((c.tc : Thread Cert.StepUkvReferenceIdeal.nD Cert.StepUkvReferenceIdeal.τ).loc Cert.StepUkvReferenceIdeal.main_arg1) = m ((c.tc : Thread Cert.StepUkvReferenceIdeal.nD Cert.StepUkvReferenceIdeal.τ).loc Cert.StepUkvReferenceIdeal.main_arg1)
      ∧ r.2.mem ((c.tc : Thread Cert.StepUkvReferenceIdeal.nD Cert.StepUkvReferenceIdeal.τ).loc Cert.StepUkvReferenceIdeal.main_arg2) = m ((c.tc : Thread Cert.StepUkvReferenceIdeal.nD Cert.StepUkvReferenceIdeal.τ).loc Cert.StepUkvReferenceIdeal.main_arg2)
      ∧ r.2.mem ((c.tc : Thread Cert.StepUkvReferenceIdeal.nD Cert.StepUkvReferenceIdeal.τ).loc Cert.StepUkvReferenceIdeal.main_arg3) = m ((c.tc : Thread Cert.StepUkvReferenceIdeal.nD Cert.StepUkvReferenceIdeal.τ).loc Cert.StepUkvReferenceIdeal.main_arg3)
      ∧ r.2.mem ((c.tc : Thread Cert.StepUkvReferenceIdeal.nD Cert.StepUkvReferenceIdeal.τ).loc Cert.StepUkvReferenceIdeal.main_arg4) = m ((c.tc : Thread Cert.StepUkvReferenceIdeal.nD Cert.StepUkvReferenceIdeal.τ).loc Cert.StepUkvReferenceIdeal.main_arg4)
      ∧ r.2.mem ((c.tc : Thread Cert.StepUkvReferenceIdeal.nD Cert.StepUkvReferenceIdeal.τ).loc Cert.StepUkvReferenceIdeal.main_arg5) = m ((c.tc : Thread Cert.StepUkvReferenceIdeal.nD Cert.StepUkvReferenceIdeal.τ).loc Cert.StepUkvReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)) (v4 : (c : Dev Cert.KernelIdeal.nD) → Buf (Elt Ideal) ((c.tc : Thread Cert.KernelIdeal.nD Cert.KernelIdeal.τ).loc Cert.KernelIdeal.main_v33_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_v33_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Post_PostIdeal : Prop :=
  True

def algebraic_PostIdeal_PostReferenceIdeal_pre_finite2 [hPostIdeal : Cert.PostIdeal.Facts] [hPostReferenceIdeal : Cert.PostReferenceIdeal.Facts] [hPre_finite2 : Cert.Pre_finite2.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_finite2 m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v9_0)) (v1 : (c : Dev Cert.PostIdeal.nD) → Buf (Elt Ideal) ((c.tc : Thread Cert.PostIdeal.nD Cert.PostIdeal.τ).loc Cert.PostIdeal.main_v9_1)) (v2 : (c : Dev Cert.PostIdeal.nD) → Buf (Elt Ideal) ((c.tc : Thread Cert.PostIdeal.nD Cert.PostIdeal.τ).loc Cert.PostIdeal.main_v9_2)) (v3 : (c : Dev Cert.PostIdeal.nD) → Buf (Elt Ideal) ((c.tc : Thread Cert.PostIdeal.nD Cert.PostIdeal.τ).loc Cert.PostIdeal.main_v9_3)) (v4 : (c : Dev Cert.PostIdeal.nD) → Buf (Elt Ideal) ((c.tc : Thread Cert.PostIdeal.nD Cert.PostIdeal.τ).loc Cert.PostIdeal.main_v9_4)) (v5 : (c : Dev Cert.PostIdeal.nD) → Buf (Elt Ideal) ((c.tc : Thread Cert.PostIdeal.nD Cert.PostIdeal.τ).loc Cert.PostIdeal.main_v9_5)) (v6 : (c : Dev Cert.PostIdeal.nD) → Buf (Elt Ideal) ((c.tc : Thread Cert.PostIdeal.nD Cert.PostIdeal.τ).loc Cert.PostIdeal.main_v9_6)) (v7 : (c : Dev Cert.PostIdeal.nD) → Buf (Elt Ideal) ((c.tc : Thread Cert.PostIdeal.nD Cert.PostIdeal.τ).loc Cert.PostIdeal.main_v9_7)) (v8 : (c : Dev Cert.PostIdeal.nD) → Buf (Elt Ideal) ((c.tc : Thread Cert.PostIdeal.nD Cert.PostIdeal.τ).loc Cert.PostIdeal.main_v9_8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9_0) = v0 c
          ∧ r.2.mem ((c.tc : Thread Cert.PostIdeal.nD Cert.PostIdeal.τ).loc Cert.PostIdeal.main_v9_1) = v1 c
          ∧ r.2.mem ((c.tc : Thread Cert.PostIdeal.nD Cert.PostIdeal.τ).loc Cert.PostIdeal.main_v9_2) = v2 c
          ∧ r.2.mem ((c.tc : Thread Cert.PostIdeal.nD Cert.PostIdeal.τ).loc Cert.PostIdeal.main_v9_3) = v3 c
          ∧ r.2.mem ((c.tc : Thread Cert.PostIdeal.nD Cert.PostIdeal.τ).loc Cert.PostIdeal.main_v9_4) = v4 c
          ∧ r.2.mem ((c.tc : Thread Cert.PostIdeal.nD Cert.PostIdeal.τ).loc Cert.PostIdeal.main_v9_5) = v5 c
          ∧ r.2.mem ((c.tc : Thread Cert.PostIdeal.nD Cert.PostIdeal.τ).loc Cert.PostIdeal.main_v9_6) = v6 c
          ∧ r.2.mem ((c.tc : Thread Cert.PostIdeal.nD Cert.PostIdeal.τ).loc Cert.PostIdeal.main_v9_7) = v7 c
          ∧ r.2.mem ((c.tc : Thread Cert.PostIdeal.nD Cert.PostIdeal.τ).loc Cert.PostIdeal.main_v9_8) = v8 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v159) = v0 c
          ∧ r.2.mem ((c.tc : Thread Cert.PostReferenceIdeal.nD Cert.PostReferenceIdeal.τ).loc Cert.PostReferenceIdeal.main_v161) = v1 c
          ∧ r.2.mem ((c.tc : Thread Cert.PostReferenceIdeal.nD Cert.PostReferenceIdeal.τ).loc Cert.PostReferenceIdeal.main_v163) = v2 c
          ∧ r.2.mem ((c.tc : Thread Cert.PostReferenceIdeal.nD Cert.PostReferenceIdeal.τ).loc Cert.PostReferenceIdeal.main_v165) = v3 c
          ∧ r.2.mem ((c.tc : Thread Cert.PostReferenceIdeal.nD Cert.PostReferenceIdeal.τ).loc Cert.PostReferenceIdeal.main_v167) = v4 c
          ∧ r.2.mem ((c.tc : Thread Cert.PostReferenceIdeal.nD Cert.PostReferenceIdeal.τ).loc Cert.PostReferenceIdeal.main_v169) = v5 c
          ∧ r.2.mem ((c.tc : Thread Cert.PostReferenceIdeal.nD Cert.PostReferenceIdeal.τ).loc Cert.PostReferenceIdeal.main_v171) = v6 c
          ∧ r.2.mem ((c.tc : Thread Cert.PostReferenceIdeal.nD Cert.PostReferenceIdeal.τ).loc Cert.PostReferenceIdeal.main_v172) = v7 c
          ∧ r.2.mem ((c.tc : Thread Cert.PostReferenceIdeal.nD Cert.PostReferenceIdeal.τ).loc Cert.PostReferenceIdeal.main_v157) = v8 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9))

def preserves_GradFf2_GradFf2Ideal : Prop :=
  True

def algebraic_GradFf2Ideal_GradFf2ReferenceIdeal [hGradFf2Ideal : Cert.GradFf2Ideal.Facts] [hGradFf2ReferenceIdeal : Cert.GradFf2ReferenceIdeal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg)
    (m' : (ℓ : Loc Cert.GradFf2ReferenceIdeal.nD Cert.GradFf2ReferenceIdeal.τ Cert.GradFf2ReferenceIdeal.sig) → Buf (Elt Ideal) ℓ) (g' : Dev Cert.GradFf2ReferenceIdeal.nD → PrngReg), Pre_GradFf2Ideal m →
    (∀ c : Dev Cert.GradFf2Ideal.nD,
      m' ((c.tc : Thread Cert.GradFf2ReferenceIdeal.nD Cert.GradFf2ReferenceIdeal.τ).loc Cert.GradFf2ReferenceIdeal.main_arg0) = m ((c.tc : Thread Cert.GradFf2Ideal.nD Cert.GradFf2Ideal.τ).loc Cert.GradFf2Ideal.main_arg0)
      ∧ m' ((c.tc : Thread Cert.GradFf2ReferenceIdeal.nD Cert.GradFf2ReferenceIdeal.τ).loc Cert.GradFf2ReferenceIdeal.main_arg1) = m ((c.tc : Thread Cert.GradFf2Ideal.nD Cert.GradFf2Ideal.τ).loc Cert.GradFf2Ideal.main_arg1)) →
    ∃ (v0 : (c : Dev Cert.GradFf2Ideal.nD) → Buf (Elt Ideal) ((c.tc : Thread Cert.GradFf2Ideal.nD Cert.GradFf2Ideal.τ).loc Cert.GradFf2Ideal.main_v0)),
      θ_run (Cert.GradFf2Ideal.defs (F := Ideal)) (onTc (τ := Cert.GradFf2Ideal.τ) (Cert.GradFf2Ideal.main (F := Ideal))) ⟨m, fun _ => 0, g⟩ (fun r => ∀ c : Dev Cert.GradFf2Ideal.nD,
          r.2.mem ((c.tc : Thread Cert.GradFf2Ideal.nD Cert.GradFf2Ideal.τ).loc Cert.GradFf2Ideal.main_v0) = v0 c
          ∧ r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
          ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ θ_run (Cert.GradFf2ReferenceIdeal.defs (F := Ideal)) (onTc (τ := Cert.GradFf2ReferenceIdeal.τ) (Cert.GradFf2ReferenceIdeal.main (F := Ideal))) ⟨m', fun _ => 0, g'⟩ (fun r => ∀ c : Dev Cert.GradFf2ReferenceIdeal.nD,
          r.2.mem ((c.tc : Thread Cert.GradFf2ReferenceIdeal.nD Cert.GradFf2ReferenceIdeal.τ).loc Cert.GradFf2ReferenceIdeal.main_v6) = v0 c
          ∧ r.2.mem ((c.tc : Thread Cert.GradFf2ReferenceIdeal.nD Cert.GradFf2ReferenceIdeal.τ).loc Cert.GradFf2ReferenceIdeal.main_arg0) = m' ((c.tc : Thread Cert.GradFf2ReferenceIdeal.nD Cert.GradFf2ReferenceIdeal.τ).loc Cert.GradFf2ReferenceIdeal.main_arg0)
          ∧ r.2.mem ((c.tc : Thread Cert.GradFf2ReferenceIdeal.nD Cert.GradFf2ReferenceIdeal.τ).loc Cert.GradFf2ReferenceIdeal.main_arg1) = m' ((c.tc : Thread Cert.GradFf2ReferenceIdeal.nD Cert.GradFf2ReferenceIdeal.τ).loc Cert.GradFf2ReferenceIdeal.main_arg1))

def preserves_GradFf1_GradFf1Ideal : Prop :=
  True

def algebraic_GradFf1Ideal_GradFf1ReferenceIdeal [hGradFf1Ideal : Cert.GradFf1Ideal.Facts] [hGradFf1ReferenceIdeal : Cert.GradFf1ReferenceIdeal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg)
    (m' : (ℓ : Loc Cert.GradFf1ReferenceIdeal.nD Cert.GradFf1ReferenceIdeal.τ Cert.GradFf1ReferenceIdeal.sig) → Buf (Elt Ideal) ℓ) (g' : Dev Cert.GradFf1ReferenceIdeal.nD → PrngReg), Pre_GradFf1Ideal m →
    (∀ c : Dev Cert.GradFf1Ideal.nD,
      m' ((c.tc : Thread Cert.GradFf1ReferenceIdeal.nD Cert.GradFf1ReferenceIdeal.τ).loc Cert.GradFf1ReferenceIdeal.main_arg0) = m ((c.tc : Thread Cert.GradFf1Ideal.nD Cert.GradFf1Ideal.τ).loc Cert.GradFf1Ideal.main_arg0)
      ∧ m' ((c.tc : Thread Cert.GradFf1ReferenceIdeal.nD Cert.GradFf1ReferenceIdeal.τ).loc Cert.GradFf1ReferenceIdeal.main_arg1) = m ((c.tc : Thread Cert.GradFf1Ideal.nD Cert.GradFf1Ideal.τ).loc Cert.GradFf1Ideal.main_arg1)) →
    ∃ (v0 : (c : Dev Cert.GradFf1Ideal.nD) → Buf (Elt Ideal) ((c.tc : Thread Cert.GradFf1Ideal.nD Cert.GradFf1Ideal.τ).loc Cert.GradFf1Ideal.main_v0)),
      θ_run (Cert.GradFf1Ideal.defs (F := Ideal)) (onTc (τ := Cert.GradFf1Ideal.τ) (Cert.GradFf1Ideal.main (F := Ideal))) ⟨m, fun _ => 0, g⟩ (fun r => ∀ c : Dev Cert.GradFf1Ideal.nD,
          r.2.mem ((c.tc : Thread Cert.GradFf1Ideal.nD Cert.GradFf1Ideal.τ).loc Cert.GradFf1Ideal.main_v0) = v0 c
          ∧ r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
          ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ θ_run (Cert.GradFf1ReferenceIdeal.defs (F := Ideal)) (onTc (τ := Cert.GradFf1ReferenceIdeal.τ) (Cert.GradFf1ReferenceIdeal.main (F := Ideal))) ⟨m', fun _ => 0, g'⟩ (fun r => ∀ c : Dev Cert.GradFf1ReferenceIdeal.nD,
          r.2.mem ((c.tc : Thread Cert.GradFf1ReferenceIdeal.nD Cert.GradFf1ReferenceIdeal.τ).loc Cert.GradFf1ReferenceIdeal.main_v8) = v0 c
          ∧ r.2.mem ((c.tc : Thread Cert.GradFf1ReferenceIdeal.nD Cert.GradFf1ReferenceIdeal.τ).loc Cert.GradFf1ReferenceIdeal.main_arg0) = m' ((c.tc : Thread Cert.GradFf1ReferenceIdeal.nD Cert.GradFf1ReferenceIdeal.τ).loc Cert.GradFf1ReferenceIdeal.main_arg0)
          ∧ r.2.mem ((c.tc : Thread Cert.GradFf1ReferenceIdeal.nD Cert.GradFf1ReferenceIdeal.τ).loc Cert.GradFf1ReferenceIdeal.main_arg1) = m' ((c.tc : Thread Cert.GradFf1ReferenceIdeal.nD Cert.GradFf1ReferenceIdeal.τ).loc Cert.GradFf1ReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v6) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v7) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_GradUq_GradUqIdeal : Prop :=
  True

def algebraic_GradUqIdeal_GradUqReferenceIdeal [hGradUqIdeal : Cert.GradUqIdeal.Facts] [hGradUqReferenceIdeal : Cert.GradUqReferenceIdeal.Facts] : Prop :=
  ∀ (m : (ℓ : Loc Cert.GradUqIdeal.nD Cert.GradUqIdeal.τ Cert.GradUqIdeal.sig) → Buf (Elt Ideal) ℓ) (g : Dev Cert.GradUqIdeal.nD → PrngReg)
    (m' : (ℓ : Loc Cert.GradUqReferenceIdeal.nD Cert.GradUqReferenceIdeal.τ Cert.GradUqReferenceIdeal.sig) → Buf (Elt Ideal) ℓ) (g' : Dev Cert.GradUqReferenceIdeal.nD → PrngReg), Pre_GradUqIdeal m →
    (∀ c : Dev Cert.GradUqIdeal.nD,
      m' ((c.tc : Thread Cert.GradUqReferenceIdeal.nD Cert.GradUqReferenceIdeal.τ).loc Cert.GradUqReferenceIdeal.main_arg0) = m ((c.tc : Thread Cert.GradUqIdeal.nD Cert.GradUqIdeal.τ).loc Cert.GradUqIdeal.main_arg0)
      ∧ m' ((c.tc : Thread Cert.GradUqReferenceIdeal.nD Cert.GradUqReferenceIdeal.τ).loc Cert.GradUqReferenceIdeal.main_arg1) = m ((c.tc : Thread Cert.GradUqIdeal.nD Cert.GradUqIdeal.τ).loc Cert.GradUqIdeal.main_arg1)) →
    ∃ (v0 : (c : Dev Cert.GradUqIdeal.nD) → Buf (Elt Ideal) ((c.tc : Thread Cert.GradUqIdeal.nD Cert.GradUqIdeal.τ).loc Cert.GradUqIdeal.main_v0)),
      θ_run (Cert.GradUqIdeal.defs (F := Ideal)) (onTc (τ := Cert.GradUqIdeal.τ) (Cert.GradUqIdeal.main (F := Ideal))) ⟨m, fun _ => 0, g⟩ (fun r => ∀ c : Dev Cert.GradUqIdeal.nD,
          r.2.mem ((c.tc : Thread Cert.GradUqIdeal.nD Cert.GradUqIdeal.τ).loc Cert.GradUqIdeal.main_v0) = v0 c
          ∧ r.2.mem ((c.tc : Thread Cert.GradUqIdeal.nD Cert.GradUqIdeal.τ).loc Cert.GradUqIdeal.main_arg0) = m ((c.tc : Thread Cert.GradUqIdeal.nD Cert.GradUqIdeal.τ).loc Cert.GradUqIdeal.main_arg0)
          ∧ r.2.mem ((c.tc : Thread Cert.GradUqIdeal.nD Cert.GradUqIdeal.τ).loc Cert.GradUqIdeal.main_arg1) = m ((c.tc : Thread Cert.GradUqIdeal.nD Cert.GradUqIdeal.τ).loc Cert.GradUqIdeal.main_arg1))
      ∧ θ_run (Cert.GradUqReferenceIdeal.defs (F := Ideal)) (onTc (τ := Cert.GradUqReferenceIdeal.τ) (Cert.GradUqReferenceIdeal.main (F := Ideal))) ⟨m', fun _ => 0, g'⟩ (fun r => ∀ c : Dev Cert.GradUqReferenceIdeal.nD,
          r.2.mem ((c.tc : Thread Cert.GradUqReferenceIdeal.nD Cert.GradUqReferenceIdeal.τ).loc Cert.GradUqReferenceIdeal.main_v7) = v0 c
          ∧ r.2.mem ((c.tc : Thread Cert.GradUqReferenceIdeal.nD Cert.GradUqReferenceIdeal.τ).loc Cert.GradUqReferenceIdeal.main_arg0) = m' ((c.tc : Thread Cert.GradUqReferenceIdeal.nD Cert.GradUqReferenceIdeal.τ).loc Cert.GradUqReferenceIdeal.main_arg0)
          ∧ r.2.mem ((c.tc : Thread Cert.GradUqReferenceIdeal.nD Cert.GradUqReferenceIdeal.τ).loc Cert.GradUqReferenceIdeal.main_arg1) = m' ((c.tc : Thread Cert.GradUqReferenceIdeal.nD Cert.GradUqReferenceIdeal.τ).loc Cert.GradUqReferenceIdeal.main_arg1))

def preserves_GradUkv_GradUkvIdeal : Prop :=
  True

def algebraic_GradUkvIdeal_GradUkvReferenceIdeal [hGradUkvIdeal : Cert.GradUkvIdeal.Facts] [hGradUkvReferenceIdeal : Cert.GradUkvReferenceIdeal.Facts] : Prop :=
  ∀ (m : (ℓ : Loc Cert.GradUkvIdeal.nD Cert.GradUkvIdeal.τ Cert.GradUkvIdeal.sig) → Buf (Elt Ideal) ℓ) (g : Dev Cert.GradUkvIdeal.nD → PrngReg)
    (m' : (ℓ : Loc Cert.GradUkvReferenceIdeal.nD Cert.GradUkvReferenceIdeal.τ Cert.GradUkvReferenceIdeal.sig) → Buf (Elt Ideal) ℓ) (g' : Dev Cert.GradUkvReferenceIdeal.nD → PrngReg), Pre_GradUkvIdeal m →
    (∀ c : Dev Cert.GradUkvIdeal.nD,
      m' ((c.tc : Thread Cert.GradUkvReferenceIdeal.nD Cert.GradUkvReferenceIdeal.τ).loc Cert.GradUkvReferenceIdeal.main_arg0) = m ((c.tc : Thread Cert.GradUkvIdeal.nD Cert.GradUkvIdeal.τ).loc Cert.GradUkvIdeal.main_arg0)
      ∧ m' ((c.tc : Thread Cert.GradUkvReferenceIdeal.nD Cert.GradUkvReferenceIdeal.τ).loc Cert.GradUkvReferenceIdeal.main_arg1) = m ((c.tc : Thread Cert.GradUkvIdeal.nD Cert.GradUkvIdeal.τ).loc Cert.GradUkvIdeal.main_arg1)) →
    ∃ (v0 : (c : Dev Cert.GradUkvIdeal.nD) → Buf (Elt Ideal) ((c.tc : Thread Cert.GradUkvIdeal.nD Cert.GradUkvIdeal.τ).loc Cert.GradUkvIdeal.main_v0)),
      θ_run (Cert.GradUkvIdeal.defs (F := Ideal)) (onTc (τ := Cert.GradUkvIdeal.τ) (Cert.GradUkvIdeal.main (F := Ideal))) ⟨m, fun _ => 0, g⟩ (fun r => ∀ c : Dev Cert.GradUkvIdeal.nD,
          r.2.mem ((c.tc : Thread Cert.GradUkvIdeal.nD Cert.GradUkvIdeal.τ).loc Cert.GradUkvIdeal.main_v0) = v0 c
          ∧ r.2.mem ((c.tc : Thread Cert.GradUkvIdeal.nD Cert.GradUkvIdeal.τ).loc Cert.GradUkvIdeal.main_arg0) = m ((c.tc : Thread Cert.GradUkvIdeal.nD Cert.GradUkvIdeal.τ).loc Cert.GradUkvIdeal.main_arg0)
          ∧ r.2.mem ((c.tc : Thread Cert.GradUkvIdeal.nD Cert.GradUkvIdeal.τ).loc Cert.GradUkvIdeal.main_arg1) = m ((c.tc : Thread Cert.GradUkvIdeal.nD Cert.GradUkvIdeal.τ).loc Cert.GradUkvIdeal.main_arg1))
      ∧ θ_run (Cert.GradUkvReferenceIdeal.defs (F := Ideal)) (onTc (τ := Cert.GradUkvReferenceIdeal.τ) (Cert.GradUkvReferenceIdeal.main (F := Ideal))) ⟨m', fun _ => 0, g'⟩ (fun r => ∀ c : Dev Cert.GradUkvReferenceIdeal.nD,
          r.2.mem ((c.tc : Thread Cert.GradUkvReferenceIdeal.nD Cert.GradUkvReferenceIdeal.τ).loc Cert.GradUkvReferenceIdeal.main_v7) = v0 c
          ∧ r.2.mem ((c.tc : Thread Cert.GradUkvReferenceIdeal.nD Cert.GradUkvReferenceIdeal.τ).loc Cert.GradUkvReferenceIdeal.main_arg0) = m' ((c.tc : Thread Cert.GradUkvReferenceIdeal.nD Cert.GradUkvReferenceIdeal.τ).loc Cert.GradUkvReferenceIdeal.main_arg0)
          ∧ r.2.mem ((c.tc : Thread Cert.GradUkvReferenceIdeal.nD Cert.GradUkvReferenceIdeal.τ).loc Cert.GradUkvReferenceIdeal.main_arg1) = m' ((c.tc : Thread Cert.GradUkvReferenceIdeal.nD Cert.GradUkvReferenceIdeal.τ).loc Cert.GradUkvReferenceIdeal.main_arg1))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)
      ∧ m' ((c.tc : Thread Cert.AdaReferenceIdeal.nD Cert.AdaReferenceIdeal.τ).loc Cert.AdaReferenceIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)) (v2 : (c : Dev Cert.AdaIdeal.nD) → Buf (Elt Ideal) ((c.tc : Thread Cert.AdaIdeal.nD Cert.AdaIdeal.τ).loc Cert.AdaIdeal.main_v0_2)) (v3 : (c : Dev Cert.AdaIdeal.nD) → Buf (Elt Ideal) ((c.tc : Thread Cert.AdaIdeal.nD Cert.AdaIdeal.τ).loc Cert.AdaIdeal.main_v0_3)) (v4 : (c : Dev Cert.AdaIdeal.nD) → Buf (Elt Ideal) ((c.tc : Thread Cert.AdaIdeal.nD Cert.AdaIdeal.τ).loc Cert.AdaIdeal.main_v0_4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_v0_2) = v2 c
          ∧ r.2.mem ((c.tc : Thread Cert.AdaIdeal.nD Cert.AdaIdeal.τ).loc Cert.AdaIdeal.main_v0_3) = v3 c
          ∧ r.2.mem ((c.tc : Thread Cert.AdaIdeal.nD Cert.AdaIdeal.τ).loc Cert.AdaIdeal.main_v0_4) = v4 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v3) = v0 c
          ∧ r.2.mem ((c.tc : Thread Cert.AdaReferenceIdeal.nD Cert.AdaReferenceIdeal.τ).loc Cert.AdaReferenceIdeal.main_v6) = v1 c
          ∧ r.2.mem ((c.tc : Thread Cert.AdaReferenceIdeal.nD Cert.AdaReferenceIdeal.τ).loc Cert.AdaReferenceIdeal.main_v30) = v2 c
          ∧ r.2.mem ((c.tc : Thread Cert.AdaReferenceIdeal.nD Cert.AdaReferenceIdeal.τ).loc Cert.AdaReferenceIdeal.main_v11) = v3 c
          ∧ r.2.mem ((c.tc : Thread Cert.AdaReferenceIdeal.nD Cert.AdaReferenceIdeal.τ).loc Cert.AdaReferenceIdeal.main_v17) = v4 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v10) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0))

def preserves_StepOut_StepOutIdeal : Prop :=
  True

def algebraic_StepOutIdeal_StepOutReferenceIdeal [hStepOutIdeal : Cert.StepOutIdeal.Facts] [hStepOutReferenceIdeal : Cert.StepOutReferenceIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)
      ∧ m' ((c.tc : Thread Cert.StepOutReferenceIdeal.nD Cert.StepOutReferenceIdeal.τ).loc Cert.StepOutReferenceIdeal.main_arg4) = m ((c.tc : Thread Cert.StepOutIdeal.nD Cert.StepOutIdeal.τ).loc Cert.StepOutIdeal.main_arg4)
      ∧ m' ((c.tc : Thread Cert.StepOutReferenceIdeal.nD Cert.StepOutReferenceIdeal.τ).loc Cert.StepOutReferenceIdeal.main_arg5) = m ((c.tc : Thread Cert.StepOutIdeal.nD Cert.StepOutIdeal.τ).loc Cert.StepOutIdeal.main_arg5)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
          ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
          ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v6) = v0 c
          ∧ r.2.mem ((c.tc : Thread Cert.StepOutReferenceIdeal.nD Cert.StepOutReferenceIdeal.τ).loc Cert.StepOutReferenceIdeal.main_v30) = v1 c
          ∧ r.2.mem ((c.tc : Thread Cert.StepOutReferenceIdeal.nD Cert.StepOutReferenceIdeal.τ).loc Cert.StepOutReferenceIdeal.main_v11) = v2 c
          ∧ r.2.mem ((c.tc : Thread Cert.StepOutReferenceIdeal.nD Cert.StepOutReferenceIdeal.τ).loc Cert.StepOutReferenceIdeal.main_v17) = v3 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3)
          ∧ r.2.mem ((c.tc : Thread Cert.StepOutReferenceIdeal.nD Cert.StepOutReferenceIdeal.τ).loc Cert.StepOutReferenceIdeal.main_arg4) = m' ((c.tc : Thread Cert.StepOutReferenceIdeal.nD Cert.StepOutReferenceIdeal.τ).loc Cert.StepOutReferenceIdeal.main_arg4)
          ∧ r.2.mem ((c.tc : Thread Cert.StepOutReferenceIdeal.nD Cert.StepOutReferenceIdeal.τ).loc Cert.StepOutReferenceIdeal.main_arg5) = m' ((c.tc : Thread Cert.StepOutReferenceIdeal.nD Cert.StepOutReferenceIdeal.τ).loc Cert.StepOutReferenceIdeal.main_arg5))

def preserves_StepFf1_StepFf1Ideal : Prop :=
  True

def algebraic_StepFf1Ideal_StepFf1ReferenceIdeal [hStepFf1Ideal : Cert.StepFf1Ideal.Facts] [hStepFf1ReferenceIdeal : Cert.StepFf1ReferenceIdeal.Facts] : Prop :=
  ∀ (m : (ℓ : Loc Cert.StepFf1Ideal.nD Cert.StepFf1Ideal.τ Cert.StepFf1Ideal.sig) → Buf (Elt Ideal) ℓ) (g : Dev Cert.StepFf1Ideal.nD → PrngReg)
    (m' : (ℓ : Loc Cert.StepFf1ReferenceIdeal.nD Cert.StepFf1ReferenceIdeal.τ Cert.StepFf1ReferenceIdeal.sig) → Buf (Elt Ideal) ℓ) (g' : Dev Cert.StepFf1ReferenceIdeal.nD → PrngReg), Pre_StepFf1Ideal m →
    (∀ c : Dev Cert.StepFf1Ideal.nD,
      m' ((c.tc : Thread Cert.StepFf1ReferenceIdeal.nD Cert.StepFf1ReferenceIdeal.τ).loc Cert.StepFf1ReferenceIdeal.main_arg0) = m ((c.tc : Thread Cert.StepFf1Ideal.nD Cert.StepFf1Ideal.τ).loc Cert.StepFf1Ideal.main_arg0)
      ∧ m' ((c.tc : Thread Cert.StepFf1ReferenceIdeal.nD Cert.StepFf1ReferenceIdeal.τ).loc Cert.StepFf1ReferenceIdeal.main_arg1) = m ((c.tc : Thread Cert.StepFf1Ideal.nD Cert.StepFf1Ideal.τ).loc Cert.StepFf1Ideal.main_arg1)
      ∧ m' ((c.tc : Thread Cert.StepFf1ReferenceIdeal.nD Cert.StepFf1ReferenceIdeal.τ).loc Cert.StepFf1ReferenceIdeal.main_arg2) = m ((c.tc : Thread Cert.StepFf1Ideal.nD Cert.StepFf1Ideal.τ).loc Cert.StepFf1Ideal.main_arg2)
      ∧ m' ((c.tc : Thread Cert.StepFf1ReferenceIdeal.nD Cert.StepFf1ReferenceIdeal.τ).loc Cert.StepFf1ReferenceIdeal.main_arg3) = m ((c.tc : Thread Cert.StepFf1Ideal.nD Cert.StepFf1Ideal.τ).loc Cert.StepFf1Ideal.main_arg3)
      ∧ m' ((c.tc : Thread Cert.StepFf1ReferenceIdeal.nD Cert.StepFf1ReferenceIdeal.τ).loc Cert.StepFf1ReferenceIdeal.main_arg4) = m ((c.tc : Thread Cert.StepFf1Ideal.nD Cert.StepFf1Ideal.τ).loc Cert.StepFf1Ideal.main_arg4)
      ∧ m' ((c.tc : Thread Cert.StepFf1ReferenceIdeal.nD Cert.StepFf1ReferenceIdeal.τ).loc Cert.StepFf1ReferenceIdeal.main_arg5) = m ((c.tc : Thread Cert.StepFf1Ideal.nD Cert.StepFf1Ideal.τ).loc Cert.StepFf1Ideal.main_arg5)) →
    ∃ (v0 : (c : Dev Cert.StepFf1Ideal.nD) → Buf (Elt Ideal) ((c.tc : Thread Cert.StepFf1Ideal.nD Cert.StepFf1Ideal.τ).loc Cert.StepFf1Ideal.main_v0_0)) (v1 : (c : Dev Cert.StepFf1Ideal.nD) → Buf (Elt Ideal) ((c.tc : Thread Cert.StepFf1Ideal.nD Cert.StepFf1Ideal.τ).loc Cert.StepFf1Ideal.main_v0_1)) (v2 : (c : Dev Cert.StepFf1Ideal.nD) → Buf (Elt Ideal) ((c.tc : Thread Cert.StepFf1Ideal.nD Cert.StepFf1Ideal.τ).loc Cert.StepFf1Ideal.main_v0_2)) (v3 : (c : Dev Cert.StepFf1Ideal.nD) → Buf (Elt Ideal) ((c.tc : Thread Cert.StepFf1Ideal.nD Cert.StepFf1Ideal.τ).loc Cert.StepFf1Ideal.main_v0_3)),
      θ_run (Cert.StepFf1Ideal.defs (F := Ideal)) (onTc (τ := Cert.StepFf1Ideal.τ) (Cert.StepFf1Ideal.main (F := Ideal))) ⟨m, fun _ => 0, g⟩ (fun r => ∀ c : Dev Cert.StepFf1Ideal.nD,
          r.2.mem ((c.tc : Thread Cert.StepFf1Ideal.nD Cert.StepFf1Ideal.τ).loc Cert.StepFf1Ideal.main_v0_0) = v0 c
          ∧ r.2.mem ((c.tc : Thread Cert.StepFf1Ideal.nD Cert.StepFf1Ideal.τ).loc Cert.StepFf1Ideal.main_v0_1) = v1 c
          ∧ r.2.mem ((c.tc : Thread Cert.StepFf1Ideal.nD Cert.StepFf1Ideal.τ).loc Cert.StepFf1Ideal.main_v0_2) = v2 c
          ∧ r.2.mem ((c.tc : Thread Cert.StepFf1Ideal.nD Cert.StepFf1Ideal.τ).loc Cert.StepFf1Ideal.main_v0_3) = v3 c
          ∧ r.2.mem ((c.tc : Thread Cert.StepFf1Ideal.nD Cert.StepFf1Ideal.τ).loc Cert.StepFf1Ideal.main_arg0) = m ((c.tc : Thread Cert.StepFf1Ideal.nD Cert.StepFf1Ideal.τ).loc Cert.StepFf1Ideal.main_arg0)
          ∧ r.2.mem ((c.tc : Thread Cert.StepFf1Ideal.nD Cert.StepFf1Ideal.τ).loc Cert.StepFf1Ideal.main_arg1) = m ((c.tc : Thread Cert.StepFf1Ideal.nD Cert.StepFf1Ideal.τ).loc Cert.StepFf1Ideal.main_arg1)
          ∧ r.2.mem ((c.tc : Thread Cert.StepFf1Ideal.nD Cert.StepFf1Ideal.τ).loc Cert.StepFf1Ideal.main_arg2) = m ((c.tc : Thread Cert.StepFf1Ideal.nD Cert.StepFf1Ideal.τ).loc Cert.StepFf1Ideal.main_arg2)
          ∧ r.2.mem ((c.tc : Thread Cert.StepFf1Ideal.nD Cert.StepFf1Ideal.τ).loc Cert.StepFf1Ideal.main_arg3) = m ((c.tc : Thread Cert.StepFf1Ideal.nD Cert.StepFf1Ideal.τ).loc Cert.StepFf1Ideal.main_arg3)
          ∧ r.2.mem ((c.tc : Thread Cert.StepFf1Ideal.nD Cert.StepFf1Ideal.τ).loc Cert.StepFf1Ideal.main_arg4) = m ((c.tc : Thread Cert.StepFf1Ideal.nD Cert.StepFf1Ideal.τ).loc Cert.StepFf1Ideal.main_arg4)
          ∧ r.2.mem ((c.tc : Thread Cert.StepFf1Ideal.nD Cert.StepFf1Ideal.τ).loc Cert.StepFf1Ideal.main_arg5) = m ((c.tc : Thread Cert.StepFf1Ideal.nD Cert.StepFf1Ideal.τ).loc Cert.StepFf1Ideal.main_arg5))
      ∧ θ_run (Cert.StepFf1ReferenceIdeal.defs (F := Ideal)) (onTc (τ := Cert.StepFf1ReferenceIdeal.τ) (Cert.StepFf1ReferenceIdeal.main (F := Ideal))) ⟨m', fun _ => 0, g'⟩ (fun r => ∀ c : Dev Cert.StepFf1ReferenceIdeal.nD,
          r.2.mem ((c.tc : Thread Cert.StepFf1ReferenceIdeal.nD Cert.StepFf1ReferenceIdeal.τ).loc Cert.StepFf1ReferenceIdeal.main_v6) = v0 c
          ∧ r.2.mem ((c.tc : Thread Cert.StepFf1ReferenceIdeal.nD Cert.StepFf1ReferenceIdeal.τ).loc Cert.StepFf1ReferenceIdeal.main_v30) = v1 c
          ∧ r.2.mem ((c.tc : Thread Cert.StepFf1ReferenceIdeal.nD Cert.StepFf1ReferenceIdeal.τ).loc Cert.StepFf1ReferenceIdeal.main_v11) = v2 c
          ∧ r.2.mem ((c.tc : Thread Cert.StepFf1ReferenceIdeal.nD Cert.StepFf1ReferenceIdeal.τ).loc Cert.StepFf1ReferenceIdeal.main_v17) = v3 c
          ∧ r.2.mem ((c.tc : Thread Cert.StepFf1ReferenceIdeal.nD Cert.StepFf1ReferenceIdeal.τ).loc Cert.StepFf1ReferenceIdeal.main_arg0) = m' ((c.tc : Thread Cert.StepFf1ReferenceIdeal.nD Cert.StepFf1ReferenceIdeal.τ).loc Cert.StepFf1ReferenceIdeal.main_arg0)
          ∧ r.2.mem ((c.tc : Thread Cert.StepFf1ReferenceIdeal.nD Cert.StepFf1ReferenceIdeal.τ).loc Cert.StepFf1ReferenceIdeal.main_arg1) = m' ((c.tc : Thread Cert.StepFf1ReferenceIdeal.nD Cert.StepFf1ReferenceIdeal.τ).loc Cert.StepFf1ReferenceIdeal.main_arg1)
          ∧ r.2.mem ((c.tc : Thread Cert.StepFf1ReferenceIdeal.nD Cert.StepFf1ReferenceIdeal.τ).loc Cert.StepFf1ReferenceIdeal.main_arg2) = m' ((c.tc : Thread Cert.StepFf1ReferenceIdeal.nD Cert.StepFf1ReferenceIdeal.τ).loc Cert.StepFf1ReferenceIdeal.main_arg2)
          ∧ r.2.mem ((c.tc : Thread Cert.StepFf1ReferenceIdeal.nD Cert.StepFf1ReferenceIdeal.τ).loc Cert.StepFf1ReferenceIdeal.main_arg3) = m' ((c.tc : Thread Cert.StepFf1ReferenceIdeal.nD Cert.StepFf1ReferenceIdeal.τ).loc Cert.StepFf1ReferenceIdeal.main_arg3)
          ∧ r.2.mem ((c.tc : Thread Cert.StepFf1ReferenceIdeal.nD Cert.StepFf1ReferenceIdeal.τ).loc Cert.StepFf1ReferenceIdeal.main_arg4) = m' ((c.tc : Thread Cert.StepFf1ReferenceIdeal.nD Cert.StepFf1ReferenceIdeal.τ).loc Cert.StepFf1ReferenceIdeal.main_arg4)
          ∧ r.2.mem ((c.tc : Thread Cert.StepFf1ReferenceIdeal.nD Cert.StepFf1ReferenceIdeal.τ).loc Cert.StepFf1ReferenceIdeal.main_arg5) = m' ((c.tc : Thread Cert.StepFf1ReferenceIdeal.nD Cert.StepFf1ReferenceIdeal.τ).loc Cert.StepFf1ReferenceIdeal.main_arg5))

def preserves_StepFf2_StepFf2Ideal : Prop :=
  True

def algebraic_StepFf2Ideal_StepFf2ReferenceIdeal [hStepFf2Ideal : Cert.StepFf2Ideal.Facts] [hStepFf2ReferenceIdeal : Cert.StepFf2ReferenceIdeal.Facts] : Prop :=
  ∀ (m : (ℓ : Loc Cert.StepFf2Ideal.nD Cert.StepFf2Ideal.τ Cert.StepFf2Ideal.sig) → Buf (Elt Ideal) ℓ) (g : Dev Cert.StepFf2Ideal.nD → PrngReg)
    (m' : (ℓ : Loc Cert.StepFf2ReferenceIdeal.nD Cert.StepFf2ReferenceIdeal.τ Cert.StepFf2ReferenceIdeal.sig) → Buf (Elt Ideal) ℓ) (g' : Dev Cert.StepFf2ReferenceIdeal.nD → PrngReg), Pre_StepFf2Ideal m →
    (∀ c : Dev Cert.StepFf2Ideal.nD,
      m' ((c.tc : Thread Cert.StepFf2ReferenceIdeal.nD Cert.StepFf2ReferenceIdeal.τ).loc Cert.StepFf2ReferenceIdeal.main_arg0) = m ((c.tc : Thread Cert.StepFf2Ideal.nD Cert.StepFf2Ideal.τ).loc Cert.StepFf2Ideal.main_arg0)
      ∧ m' ((c.tc : Thread Cert.StepFf2ReferenceIdeal.nD Cert.StepFf2ReferenceIdeal.τ).loc Cert.StepFf2ReferenceIdeal.main_arg1) = m ((c.tc : Thread Cert.StepFf2Ideal.nD Cert.StepFf2Ideal.τ).loc Cert.StepFf2Ideal.main_arg1)
      ∧ m' ((c.tc : Thread Cert.StepFf2ReferenceIdeal.nD Cert.StepFf2ReferenceIdeal.τ).loc Cert.StepFf2ReferenceIdeal.main_arg2) = m ((c.tc : Thread Cert.StepFf2Ideal.nD Cert.StepFf2Ideal.τ).loc Cert.StepFf2Ideal.main_arg2)
      ∧ m' ((c.tc : Thread Cert.StepFf2ReferenceIdeal.nD Cert.StepFf2ReferenceIdeal.τ).loc Cert.StepFf2ReferenceIdeal.main_arg3) = m ((c.tc : Thread Cert.StepFf2Ideal.nD Cert.StepFf2Ideal.τ).loc Cert.StepFf2Ideal.main_arg3)
      ∧ m' ((c.tc : Thread Cert.StepFf2ReferenceIdeal.nD Cert.StepFf2ReferenceIdeal.τ).loc Cert.StepFf2ReferenceIdeal.main_arg4) = m ((c.tc : Thread Cert.StepFf2Ideal.nD Cert.StepFf2Ideal.τ).loc Cert.StepFf2Ideal.main_arg4)
      ∧ m' ((c.tc : Thread Cert.StepFf2ReferenceIdeal.nD Cert.StepFf2ReferenceIdeal.τ).loc Cert.StepFf2ReferenceIdeal.main_arg5) = m ((c.tc : Thread Cert.StepFf2Ideal.nD Cert.StepFf2Ideal.τ).loc Cert.StepFf2Ideal.main_arg5)) →
    ∃ (v0 : (c : Dev Cert.StepFf2Ideal.nD) → Buf (Elt Ideal) ((c.tc : Thread Cert.StepFf2Ideal.nD Cert.StepFf2Ideal.τ).loc Cert.StepFf2Ideal.main_v0_0)) (v1 : (c : Dev Cert.StepFf2Ideal.nD) → Buf (Elt Ideal) ((c.tc : Thread Cert.StepFf2Ideal.nD Cert.StepFf2Ideal.τ).loc Cert.StepFf2Ideal.main_v0_1)) (v2 : (c : Dev Cert.StepFf2Ideal.nD) → Buf (Elt Ideal) ((c.tc : Thread Cert.StepFf2Ideal.nD Cert.StepFf2Ideal.τ).loc Cert.StepFf2Ideal.main_v0_2)) (v3 : (c : Dev Cert.StepFf2Ideal.nD) → Buf (Elt Ideal) ((c.tc : Thread Cert.StepFf2Ideal.nD Cert.StepFf2Ideal.τ).loc Cert.StepFf2Ideal.main_v0_3)),
      θ_run (Cert.StepFf2Ideal.defs (F := Ideal)) (onTc (τ := Cert.StepFf2Ideal.τ) (Cert.StepFf2Ideal.main (F := Ideal))) ⟨m, fun _ => 0, g⟩ (fun r => ∀ c : Dev Cert.StepFf2Ideal.nD,
          r.2.mem ((c.tc : Thread Cert.StepFf2Ideal.nD Cert.StepFf2Ideal.τ).loc Cert.StepFf2Ideal.main_v0_0) = v0 c
          ∧ r.2.mem ((c.tc : Thread Cert.StepFf2Ideal.nD Cert.StepFf2Ideal.τ).loc Cert.StepFf2Ideal.main_v0_1) = v1 c
          ∧ r.2.mem ((c.tc : Thread Cert.StepFf2Ideal.nD Cert.StepFf2Ideal.τ).loc Cert.StepFf2Ideal.main_v0_2) = v2 c
          ∧ r.2.mem ((c.tc : Thread Cert.StepFf2Ideal.nD Cert.StepFf2Ideal.τ).loc Cert.StepFf2Ideal.main_v0_3) = v3 c
          ∧ r.2.mem ((c.tc : Thread Cert.StepFf2Ideal.nD Cert.StepFf2Ideal.τ).loc Cert.StepFf2Ideal.main_arg0) = m ((c.tc : Thread Cert.StepFf2Ideal.nD Cert.StepFf2Ideal.τ).loc Cert.StepFf2Ideal.main_arg0)
          ∧ r.2.mem ((c.tc : Thread Cert.StepFf2Ideal.nD Cert.StepFf2Ideal.τ).loc Cert.StepFf2Ideal.main_arg1) = m ((c.tc : Thread Cert.StepFf2Ideal.nD Cert.StepFf2Ideal.τ).loc Cert.StepFf2Ideal.main_arg1)
          ∧ r.2.mem ((c.tc : Thread Cert.StepFf2Ideal.nD Cert.StepFf2Ideal.τ).loc Cert.StepFf2Ideal.main_arg2) = m ((c.tc : Thread Cert.StepFf2Ideal.nD Cert.StepFf2Ideal.τ).loc Cert.StepFf2Ideal.main_arg2)
          ∧ r.2.mem ((c.tc : Thread Cert.StepFf2Ideal.nD Cert.StepFf2Ideal.τ).loc Cert.StepFf2Ideal.main_arg3) = m ((c.tc : Thread Cert.StepFf2Ideal.nD Cert.StepFf2Ideal.τ).loc Cert.StepFf2Ideal.main_arg3)
          ∧ r.2.mem ((c.tc : Thread Cert.StepFf2Ideal.nD Cert.StepFf2Ideal.τ).loc Cert.StepFf2Ideal.main_arg4) = m ((c.tc : Thread Cert.StepFf2Ideal.nD Cert.StepFf2Ideal.τ).loc Cert.StepFf2Ideal.main_arg4)
          ∧ r.2.mem ((c.tc : Thread Cert.StepFf2Ideal.nD Cert.StepFf2Ideal.τ).loc Cert.StepFf2Ideal.main_arg5) = m ((c.tc : Thread Cert.StepFf2Ideal.nD Cert.StepFf2Ideal.τ).loc Cert.StepFf2Ideal.main_arg5))
      ∧ θ_run (Cert.StepFf2ReferenceIdeal.defs (F := Ideal)) (onTc (τ := Cert.StepFf2ReferenceIdeal.τ) (Cert.StepFf2ReferenceIdeal.main (F := Ideal))) ⟨m', fun _ => 0, g'⟩ (fun r => ∀ c : Dev Cert.StepFf2ReferenceIdeal.nD,
          r.2.mem ((c.tc : Thread Cert.StepFf2ReferenceIdeal.nD Cert.StepFf2ReferenceIdeal.τ).loc Cert.StepFf2ReferenceIdeal.main_v6) = v0 c
          ∧ r.2.mem ((c.tc : Thread Cert.StepFf2ReferenceIdeal.nD Cert.StepFf2ReferenceIdeal.τ).loc Cert.StepFf2ReferenceIdeal.main_v30) = v1 c
          ∧ r.2.mem ((c.tc : Thread Cert.StepFf2ReferenceIdeal.nD Cert.StepFf2ReferenceIdeal.τ).loc Cert.StepFf2ReferenceIdeal.main_v11) = v2 c
          ∧ r.2.mem ((c.tc : Thread Cert.StepFf2ReferenceIdeal.nD Cert.StepFf2ReferenceIdeal.τ).loc Cert.StepFf2ReferenceIdeal.main_v17) = v3 c
          ∧ r.2.mem ((c.tc : Thread Cert.StepFf2ReferenceIdeal.nD Cert.StepFf2ReferenceIdeal.τ).loc Cert.StepFf2ReferenceIdeal.main_arg0) = m' ((c.tc : Thread Cert.StepFf2ReferenceIdeal.nD Cert.StepFf2ReferenceIdeal.τ).loc Cert.StepFf2ReferenceIdeal.main_arg0)
          ∧ r.2.mem ((c.tc : Thread Cert.StepFf2ReferenceIdeal.nD Cert.StepFf2ReferenceIdeal.τ).loc Cert.StepFf2ReferenceIdeal.main_arg1) = m' ((c.tc : Thread Cert.StepFf2ReferenceIdeal.nD Cert.StepFf2ReferenceIdeal.τ).loc Cert.StepFf2ReferenceIdeal.main_arg1)
          ∧ r.2.mem ((c.tc : Thread Cert.StepFf2ReferenceIdeal.nD Cert.StepFf2ReferenceIdeal.τ).loc Cert.StepFf2ReferenceIdeal.main_arg2) = m' ((c.tc : Thread Cert.StepFf2ReferenceIdeal.nD Cert.StepFf2ReferenceIdeal.τ).loc Cert.StepFf2ReferenceIdeal.main_arg2)
          ∧ r.2.mem ((c.tc : Thread Cert.StepFf2ReferenceIdeal.nD Cert.StepFf2ReferenceIdeal.τ).loc Cert.StepFf2ReferenceIdeal.main_arg3) = m' ((c.tc : Thread Cert.StepFf2ReferenceIdeal.nD Cert.StepFf2ReferenceIdeal.τ).loc Cert.StepFf2ReferenceIdeal.main_arg3)
          ∧ r.2.mem ((c.tc : Thread Cert.StepFf2ReferenceIdeal.nD Cert.StepFf2ReferenceIdeal.τ).loc Cert.StepFf2ReferenceIdeal.main_arg4) = m' ((c.tc : Thread Cert.StepFf2ReferenceIdeal.nD Cert.StepFf2ReferenceIdeal.τ).loc Cert.StepFf2ReferenceIdeal.main_arg4)
          ∧ r.2.mem ((c.tc : Thread Cert.StepFf2ReferenceIdeal.nD Cert.StepFf2ReferenceIdeal.τ).loc Cert.StepFf2ReferenceIdeal.main_arg5) = m' ((c.tc : Thread Cert.StepFf2ReferenceIdeal.nD Cert.StepFf2ReferenceIdeal.τ).loc Cert.StepFf2ReferenceIdeal.main_arg5))

def preserves_StepIn_StepInIdeal : Prop :=
  True

def algebraic_StepInIdeal_StepInReferenceIdeal [hStepInIdeal : Cert.StepInIdeal.Facts] [hStepInReferenceIdeal : Cert.StepInReferenceIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInReferenceIdeal.nD Cert.StepInReferenceIdeal.τ Cert.StepInReferenceIdeal.sig) → Buf (Elt Ideal) ℓ) (g' : Dev Cert.StepInReferenceIdeal.nD → PrngReg), Pre_StepInIdeal m →
    (∀ c : Dev Cert.StepInIdeal.nD,
      m' ((c.tc : Thread Cert.StepInReferenceIdeal.nD Cert.StepInReferenceIdeal.τ).loc Cert.StepInReferenceIdeal.main_arg0) = m ((c.tc : Thread Cert.StepInIdeal.nD Cert.StepInIdeal.τ).loc Cert.StepInIdeal.main_arg0)
      ∧ m' ((c.tc : Thread Cert.StepInReferenceIdeal.nD Cert.StepInReferenceIdeal.τ).loc Cert.StepInReferenceIdeal.main_arg1) = m ((c.tc : Thread Cert.StepInIdeal.nD Cert.StepInIdeal.τ).loc Cert.StepInIdeal.main_arg1)
      ∧ m' ((c.tc : Thread Cert.StepInReferenceIdeal.nD Cert.StepInReferenceIdeal.τ).loc Cert.StepInReferenceIdeal.main_arg2) = m ((c.tc : Thread Cert.StepInIdeal.nD Cert.StepInIdeal.τ).loc Cert.StepInIdeal.main_arg2)
      ∧ m' ((c.tc : Thread Cert.StepInReferenceIdeal.nD Cert.StepInReferenceIdeal.τ).loc Cert.StepInReferenceIdeal.main_arg3) = m ((c.tc : Thread Cert.StepInIdeal.nD Cert.StepInIdeal.τ).loc Cert.StepInIdeal.main_arg3)
      ∧ m' ((c.tc : Thread Cert.StepInReferenceIdeal.nD Cert.StepInReferenceIdeal.τ).loc Cert.StepInReferenceIdeal.main_arg4) = m ((c.tc : Thread Cert.StepInIdeal.nD Cert.StepInIdeal.τ).loc Cert.StepInIdeal.main_arg4)
      ∧ m' ((c.tc : Thread Cert.StepInReferenceIdeal.nD Cert.StepInReferenceIdeal.τ).loc Cert.StepInReferenceIdeal.main_arg5) = m ((c.tc : Thread Cert.StepInIdeal.nD Cert.StepInIdeal.τ).loc Cert.StepInIdeal.main_arg5)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
          ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
          ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ θ_run (Cert.StepInReferenceIdeal.defs (F := Ideal)) (onTc (τ := Cert.StepInReferenceIdeal.τ) (Cert.StepInReferenceIdeal.main (F := Ideal))) ⟨m', fun _ => 0, g'⟩ (fun r => ∀ c : Dev Cert.StepInReferenceIdeal.nD,
          r.2.mem ((c.tc : Thread Cert.StepInReferenceIdeal.nD Cert.StepInReferenceIdeal.τ).loc Cert.StepInReferenceIdeal.main_v6) = v0 c
          ∧ r.2.mem ((c.tc : Thread Cert.StepInReferenceIdeal.nD Cert.StepInReferenceIdeal.τ).loc Cert.StepInReferenceIdeal.main_v30) = v1 c
          ∧ r.2.mem ((c.tc : Thread Cert.StepInReferenceIdeal.nD Cert.StepInReferenceIdeal.τ).loc Cert.StepInReferenceIdeal.main_v11) = v2 c
          ∧ r.2.mem ((c.tc : Thread Cert.StepInReferenceIdeal.nD Cert.StepInReferenceIdeal.τ).loc Cert.StepInReferenceIdeal.main_v17) = v3 c
          ∧ r.2.mem ((c.tc : Thread Cert.StepInReferenceIdeal.nD Cert.StepInReferenceIdeal.τ).loc Cert.StepInReferenceIdeal.main_arg0) = m' ((c.tc : Thread Cert.StepInReferenceIdeal.nD Cert.StepInReferenceIdeal.τ).loc Cert.StepInReferenceIdeal.main_arg0)
          ∧ r.2.mem ((c.tc : Thread Cert.StepInReferenceIdeal.nD Cert.StepInReferenceIdeal.τ).loc Cert.StepInReferenceIdeal.main_arg1) = m' ((c.tc : Thread Cert.StepInReferenceIdeal.nD Cert.StepInReferenceIdeal.τ).loc Cert.StepInReferenceIdeal.main_arg1)
          ∧ r.2.mem ((c.tc : Thread Cert.StepInReferenceIdeal.nD Cert.StepInReferenceIdeal.τ).loc Cert.StepInReferenceIdeal.main_arg2) = m' ((c.tc : Thread Cert.StepInReferenceIdeal.nD Cert.StepInReferenceIdeal.τ).loc Cert.StepInReferenceIdeal.main_arg2)
          ∧ r.2.mem ((c.tc : Thread Cert.StepInReferenceIdeal.nD Cert.StepInReferenceIdeal.τ).loc Cert.StepInReferenceIdeal.main_arg3) = m' ((c.tc : Thread Cert.StepInReferenceIdeal.nD Cert.StepInReferenceIdeal.τ).loc Cert.StepInReferenceIdeal.main_arg3)
          ∧ r.2.mem ((c.tc : Thread Cert.StepInReferenceIdeal.nD Cert.StepInReferenceIdeal.τ).loc Cert.StepInReferenceIdeal.main_arg4) = m' ((c.tc : Thread Cert.StepInReferenceIdeal.nD Cert.StepInReferenceIdeal.τ).loc Cert.StepInReferenceIdeal.main_arg4)
          ∧ r.2.mem ((c.tc : Thread Cert.StepInReferenceIdeal.nD Cert.StepInReferenceIdeal.τ).loc Cert.StepInReferenceIdeal.main_arg5) = m' ((c.tc : Thread Cert.StepInReferenceIdeal.nD Cert.StepInReferenceIdeal.τ).loc Cert.StepInReferenceIdeal.main_arg5))

def preserves_StepUq_StepUqIdeal : Prop :=
  True

def algebraic_StepUqIdeal_StepUqReferenceIdeal [hStepUqIdeal : Cert.StepUqIdeal.Facts] [hStepUqReferenceIdeal : Cert.StepUqReferenceIdeal.Facts] : Prop :=
  ∀ (m : (ℓ : Loc Cert.StepUqIdeal.nD Cert.StepUqIdeal.τ Cert.StepUqIdeal.sig) → Buf (Elt Ideal) ℓ) (g : Dev Cert.StepUqIdeal.nD → PrngReg)
    (m' : (ℓ : Loc Cert.StepUqReferenceIdeal.nD Cert.StepUqReferenceIdeal.τ Cert.StepUqReferenceIdeal.sig) → Buf (Elt Ideal) ℓ) (g' : Dev Cert.StepUqReferenceIdeal.nD → PrngReg), Pre_StepUqIdeal m →
    (∀ c : Dev Cert.StepUqIdeal.nD,
      m' ((c.tc : Thread Cert.StepUqReferenceIdeal.nD Cert.StepUqReferenceIdeal.τ).loc Cert.StepUqReferenceIdeal.main_arg0) = m ((c.tc : Thread Cert.StepUqIdeal.nD Cert.StepUqIdeal.τ).loc Cert.StepUqIdeal.main_arg0)
      ∧ m' ((c.tc : Thread Cert.StepUqReferenceIdeal.nD Cert.StepUqReferenceIdeal.τ).loc Cert.StepUqReferenceIdeal.main_arg1) = m ((c.tc : Thread Cert.StepUqIdeal.nD Cert.StepUqIdeal.τ).loc Cert.StepUqIdeal.main_arg1)
      ∧ m' ((c.tc : Thread Cert.StepUqReferenceIdeal.nD Cert.StepUqReferenceIdeal.τ).loc Cert.StepUqReferenceIdeal.main_arg2) = m ((c.tc : Thread Cert.StepUqIdeal.nD Cert.StepUqIdeal.τ).loc Cert.StepUqIdeal.main_arg2)
      ∧ m' ((c.tc : Thread Cert.StepUqReferenceIdeal.nD Cert.StepUqReferenceIdeal.τ).loc Cert.StepUqReferenceIdeal.main_arg3) = m ((c.tc : Thread Cert.StepUqIdeal.nD Cert.StepUqIdeal.τ).loc Cert.StepUqIdeal.main_arg3)
      ∧ m' ((c.tc : Thread Cert.StepUqReferenceIdeal.nD Cert.StepUqReferenceIdeal.τ).loc Cert.StepUqReferenceIdeal.main_arg4) = m ((c.tc : Thread Cert.StepUqIdeal.nD Cert.StepUqIdeal.τ).loc Cert.StepUqIdeal.main_arg4)
      ∧ m' ((c.tc : Thread Cert.StepUqReferenceIdeal.nD Cert.StepUqReferenceIdeal.τ).loc Cert.StepUqReferenceIdeal.main_arg5) = m ((c.tc : Thread Cert.StepUqIdeal.nD Cert.StepUqIdeal.τ).loc Cert.StepUqIdeal.main_arg5)) →
    ∃ (v0 : (c : Dev Cert.StepUqIdeal.nD) → Buf (Elt Ideal) ((c.tc : Thread Cert.StepUqIdeal.nD Cert.StepUqIdeal.τ).loc Cert.StepUqIdeal.main_v0_0)) (v1 : (c : Dev Cert.StepUqIdeal.nD) → Buf (Elt Ideal) ((c.tc : Thread Cert.StepUqIdeal.nD Cert.StepUqIdeal.τ).loc Cert.StepUqIdeal.main_v0_1)) (v2 : (c : Dev Cert.StepUqIdeal.nD) → Buf (Elt Ideal) ((c.tc : Thread Cert.StepUqIdeal.nD Cert.StepUqIdeal.τ).loc Cert.StepUqIdeal.main_v0_2)) (v3 : (c : Dev Cert.StepUqIdeal.nD) → Buf (Elt Ideal) ((c.tc : Thread Cert.StepUqIdeal.nD Cert.StepUqIdeal.τ).loc Cert.StepUqIdeal.main_v0_3)),
      θ_run (Cert.StepUqIdeal.defs (F := Ideal)) (onTc (τ := Cert.StepUqIdeal.τ) (Cert.StepUqIdeal.main (F := Ideal))) ⟨m, fun _ => 0, g⟩ (fun r => ∀ c : Dev Cert.StepUqIdeal.nD,
          r.2.mem ((c.tc : Thread Cert.StepUqIdeal.nD Cert.StepUqIdeal.τ).loc Cert.StepUqIdeal.main_v0_0) = v0 c
          ∧ r.2.mem ((c.tc : Thread Cert.StepUqIdeal.nD Cert.StepUqIdeal.τ).loc Cert.StepUqIdeal.main_v0_1) = v1 c
          ∧ r.2.mem ((c.tc : Thread Cert.StepUqIdeal.nD Cert.StepUqIdeal.τ).loc Cert.StepUqIdeal.main_v0_2) = v2 c
          ∧ r.2.mem ((c.tc : Thread Cert.StepUqIdeal.nD Cert.StepUqIdeal.τ).loc Cert.StepUqIdeal.main_v0_3) = v3 c
          ∧ r.2.mem ((c.tc : Thread Cert.StepUqIdeal.nD Cert.StepUqIdeal.τ).loc Cert.StepUqIdeal.main_arg0) = m ((c.tc : Thread Cert.StepUqIdeal.nD Cert.StepUqIdeal.τ).loc Cert.StepUqIdeal.main_arg0)
          ∧ r.2.mem ((c.tc : Thread Cert.StepUqIdeal.nD Cert.StepUqIdeal.τ).loc Cert.StepUqIdeal.main_arg1) = m ((c.tc : Thread Cert.StepUqIdeal.nD Cert.StepUqIdeal.τ).loc Cert.StepUqIdeal.main_arg1)
          ∧ r.2.mem ((c.tc : Thread Cert.StepUqIdeal.nD Cert.StepUqIdeal.τ).loc Cert.StepUqIdeal.main_arg2) = m ((c.tc : Thread Cert.StepUqIdeal.nD Cert.StepUqIdeal.τ).loc Cert.StepUqIdeal.main_arg2)
          ∧ r.2.mem ((c.tc : Thread Cert.StepUqIdeal.nD Cert.StepUqIdeal.τ).loc Cert.StepUqIdeal.main_arg3) = m ((c.tc : Thread Cert.StepUqIdeal.nD Cert.StepUqIdeal.τ).loc Cert.StepUqIdeal.main_arg3)
          ∧ r.2.mem ((c.tc : Thread Cert.StepUqIdeal.nD Cert.StepUqIdeal.τ).loc Cert.StepUqIdeal.main_arg4) = m ((c.tc : Thread Cert.StepUqIdeal.nD Cert.StepUqIdeal.τ).loc Cert.StepUqIdeal.main_arg4)
          ∧ r.2.mem ((c.tc : Thread Cert.StepUqIdeal.nD Cert.StepUqIdeal.τ).loc Cert.StepUqIdeal.main_arg5) = m ((c.tc : Thread Cert.StepUqIdeal.nD Cert.StepUqIdeal.τ).loc Cert.StepUqIdeal.main_arg5))
      ∧ θ_run (Cert.StepUqReferenceIdeal.defs (F := Ideal)) (onTc (τ := Cert.StepUqReferenceIdeal.τ) (Cert.StepUqReferenceIdeal.main (F := Ideal))) ⟨m', fun _ => 0, g'⟩ (fun r => ∀ c : Dev Cert.StepUqReferenceIdeal.nD,
          r.2.mem ((c.tc : Thread Cert.StepUqReferenceIdeal.nD Cert.StepUqReferenceIdeal.τ).loc Cert.StepUqReferenceIdeal.main_v6) = v0 c
          ∧ r.2.mem ((c.tc : Thread Cert.StepUqReferenceIdeal.nD Cert.StepUqReferenceIdeal.τ).loc Cert.StepUqReferenceIdeal.main_v30) = v1 c
          ∧ r.2.mem ((c.tc : Thread Cert.StepUqReferenceIdeal.nD Cert.StepUqReferenceIdeal.τ).loc Cert.StepUqReferenceIdeal.main_v11) = v2 c
          ∧ r.2.mem ((c.tc : Thread Cert.StepUqReferenceIdeal.nD Cert.StepUqReferenceIdeal.τ).loc Cert.StepUqReferenceIdeal.main_v17) = v3 c
          ∧ r.2.mem ((c.tc : Thread Cert.StepUqReferenceIdeal.nD Cert.StepUqReferenceIdeal.τ).loc Cert.StepUqReferenceIdeal.main_arg0) = m' ((c.tc : Thread Cert.StepUqReferenceIdeal.nD Cert.StepUqReferenceIdeal.τ).loc Cert.StepUqReferenceIdeal.main_arg0)
          ∧ r.2.mem ((c.tc : Thread Cert.StepUqReferenceIdeal.nD Cert.StepUqReferenceIdeal.τ).loc Cert.StepUqReferenceIdeal.main_arg1) = m' ((c.tc : Thread Cert.StepUqReferenceIdeal.nD Cert.StepUqReferenceIdeal.τ).loc Cert.StepUqReferenceIdeal.main_arg1)
          ∧ r.2.mem ((c.tc : Thread Cert.StepUqReferenceIdeal.nD Cert.StepUqReferenceIdeal.τ).loc Cert.StepUqReferenceIdeal.main_arg2) = m' ((c.tc : Thread Cert.StepUqReferenceIdeal.nD Cert.StepUqReferenceIdeal.τ).loc Cert.StepUqReferenceIdeal.main_arg2)
          ∧ r.2.mem ((c.tc : Thread Cert.StepUqReferenceIdeal.nD Cert.StepUqReferenceIdeal.τ).loc Cert.StepUqReferenceIdeal.main_arg3) = m' ((c.tc : Thread Cert.StepUqReferenceIdeal.nD Cert.StepUqReferenceIdeal.τ).loc Cert.StepUqReferenceIdeal.main_arg3)
          ∧ r.2.mem ((c.tc : Thread Cert.StepUqReferenceIdeal.nD Cert.StepUqReferenceIdeal.τ).loc Cert.StepUqReferenceIdeal.main_arg4) = m' ((c.tc : Thread Cert.StepUqReferenceIdeal.nD Cert.StepUqReferenceIdeal.τ).loc Cert.StepUqReferenceIdeal.main_arg4)
          ∧ r.2.mem ((c.tc : Thread Cert.StepUqReferenceIdeal.nD Cert.StepUqReferenceIdeal.τ).loc Cert.StepUqReferenceIdeal.main_arg5) = m' ((c.tc : Thread Cert.StepUqReferenceIdeal.nD Cert.StepUqReferenceIdeal.τ).loc Cert.StepUqReferenceIdeal.main_arg5))

def preserves_StepUkv_StepUkvIdeal : Prop :=
  True

def algebraic_StepUkvIdeal_StepUkvReferenceIdeal [hStepUkvIdeal : Cert.StepUkvIdeal.Facts] [hStepUkvReferenceIdeal : Cert.StepUkvReferenceIdeal.Facts] : Prop :=
  ∀ (m : (ℓ : Loc Cert.StepUkvIdeal.nD Cert.StepUkvIdeal.τ Cert.StepUkvIdeal.sig) → Buf (Elt Ideal) ℓ) (g : Dev Cert.StepUkvIdeal.nD → PrngReg)
    (m' : (ℓ : Loc Cert.StepUkvReferenceIdeal.nD Cert.StepUkvReferenceIdeal.τ Cert.StepUkvReferenceIdeal.sig) → Buf (Elt Ideal) ℓ) (g' : Dev Cert.StepUkvReferenceIdeal.nD → PrngReg), Pre_StepUkvIdeal m →
    (∀ c : Dev Cert.StepUkvIdeal.nD,
      m' ((c.tc : Thread Cert.StepUkvReferenceIdeal.nD Cert.StepUkvReferenceIdeal.τ).loc Cert.StepUkvReferenceIdeal.main_arg0) = m ((c.tc : Thread Cert.StepUkvIdeal.nD Cert.StepUkvIdeal.τ).loc Cert.StepUkvIdeal.main_arg0)
      ∧ m' ((c.tc : Thread Cert.StepUkvReferenceIdeal.nD Cert.StepUkvReferenceIdeal.τ).loc Cert.StepUkvReferenceIdeal.main_arg1) = m ((c.tc : Thread Cert.StepUkvIdeal.nD Cert.StepUkvIdeal.τ).loc Cert.StepUkvIdeal.main_arg1)
      ∧ m' ((c.tc : Thread Cert.StepUkvReferenceIdeal.nD Cert.StepUkvReferenceIdeal.τ).loc Cert.StepUkvReferenceIdeal.main_arg2) = m ((c.tc : Thread Cert.StepUkvIdeal.nD Cert.StepUkvIdeal.τ).loc Cert.StepUkvIdeal.main_arg2)
      ∧ m' ((c.tc : Thread Cert.StepUkvReferenceIdeal.nD Cert.StepUkvReferenceIdeal.τ).loc Cert.StepUkvReferenceIdeal.main_arg3) = m ((c.tc : Thread Cert.StepUkvIdeal.nD Cert.StepUkvIdeal.τ).loc Cert.StepUkvIdeal.main_arg3)
      ∧ m' ((c.tc : Thread Cert.StepUkvReferenceIdeal.nD Cert.StepUkvReferenceIdeal.τ).loc Cert.StepUkvReferenceIdeal.main_arg4) = m ((c.tc : Thread Cert.StepUkvIdeal.nD Cert.StepUkvIdeal.τ).loc Cert.StepUkvIdeal.main_arg4)
      ∧ m' ((c.tc : Thread Cert.StepUkvReferenceIdeal.nD Cert.StepUkvReferenceIdeal.τ).loc Cert.StepUkvReferenceIdeal.main_arg5) = m ((c.tc : Thread Cert.StepUkvIdeal.nD Cert.StepUkvIdeal.τ).loc Cert.StepUkvIdeal.main_arg5)) →
    ∃ (v0 : (c : Dev Cert.StepUkvIdeal.nD) → Buf (Elt Ideal) ((c.tc : Thread Cert.StepUkvIdeal.nD Cert.StepUkvIdeal.τ).loc Cert.StepUkvIdeal.main_v0_0)) (v1 : (c : Dev Cert.StepUkvIdeal.nD) → Buf (Elt Ideal) ((c.tc : Thread Cert.StepUkvIdeal.nD Cert.StepUkvIdeal.τ).loc Cert.StepUkvIdeal.main_v0_1)) (v2 : (c : Dev Cert.StepUkvIdeal.nD) → Buf (Elt Ideal) ((c.tc : Thread Cert.StepUkvIdeal.nD Cert.StepUkvIdeal.τ).loc Cert.StepUkvIdeal.main_v0_2)) (v3 : (c : Dev Cert.StepUkvIdeal.nD) → Buf (Elt Ideal) ((c.tc : Thread Cert.StepUkvIdeal.nD Cert.StepUkvIdeal.τ).loc Cert.StepUkvIdeal.main_v0_3)),
      θ_run (Cert.StepUkvIdeal.defs (F := Ideal)) (onTc (τ := Cert.StepUkvIdeal.τ) (Cert.StepUkvIdeal.main (F := Ideal))) ⟨m, fun _ => 0, g⟩ (fun r => ∀ c : Dev Cert.StepUkvIdeal.nD,
          r.2.mem ((c.tc : Thread Cert.StepUkvIdeal.nD Cert.StepUkvIdeal.τ).loc Cert.StepUkvIdeal.main_v0_0) = v0 c
          ∧ r.2.mem ((c.tc : Thread Cert.StepUkvIdeal.nD Cert.StepUkvIdeal.τ).loc Cert.StepUkvIdeal.main_v0_1) = v1 c
          ∧ r.2.mem ((c.tc : Thread Cert.StepUkvIdeal.nD Cert.StepUkvIdeal.τ).loc Cert.StepUkvIdeal.main_v0_2) = v2 c
          ∧ r.2.mem ((c.tc : Thread Cert.StepUkvIdeal.nD Cert.StepUkvIdeal.τ).loc Cert.StepUkvIdeal.main_v0_3) = v3 c
          ∧ r.2.mem ((c.tc : Thread Cert.StepUkvIdeal.nD Cert.StepUkvIdeal.τ).loc Cert.StepUkvIdeal.main_arg0) = m ((c.tc : Thread Cert.StepUkvIdeal.nD Cert.StepUkvIdeal.τ).loc Cert.StepUkvIdeal.main_arg0)
          ∧ r.2.mem ((c.tc : Thread Cert.StepUkvIdeal.nD Cert.StepUkvIdeal.τ).loc Cert.StepUkvIdeal.main_arg1) = m ((c.tc : Thread Cert.StepUkvIdeal.nD Cert.StepUkvIdeal.τ).loc Cert.StepUkvIdeal.main_arg1)
          ∧ r.2.mem ((c.tc : Thread Cert.StepUkvIdeal.nD Cert.StepUkvIdeal.τ).loc Cert.StepUkvIdeal.main_arg2) = m ((c.tc : Thread Cert.StepUkvIdeal.nD Cert.StepUkvIdeal.τ).loc Cert.StepUkvIdeal.main_arg2)
          ∧ r.2.mem ((c.tc : Thread Cert.StepUkvIdeal.nD Cert.StepUkvIdeal.τ).loc Cert.StepUkvIdeal.main_arg3) = m ((c.tc : Thread Cert.StepUkvIdeal.nD Cert.StepUkvIdeal.τ).loc Cert.StepUkvIdeal.main_arg3)
          ∧ r.2.mem ((c.tc : Thread Cert.StepUkvIdeal.nD Cert.StepUkvIdeal.τ).loc Cert.StepUkvIdeal.main_arg4) = m ((c.tc : Thread Cert.StepUkvIdeal.nD Cert.StepUkvIdeal.τ).loc Cert.StepUkvIdeal.main_arg4)
          ∧ r.2.mem ((c.tc : Thread Cert.StepUkvIdeal.nD Cert.StepUkvIdeal.τ).loc Cert.StepUkvIdeal.main_arg5) = m ((c.tc : Thread Cert.StepUkvIdeal.nD Cert.StepUkvIdeal.τ).loc Cert.StepUkvIdeal.main_arg5))
      ∧ θ_run (Cert.StepUkvReferenceIdeal.defs (F := Ideal)) (onTc (τ := Cert.StepUkvReferenceIdeal.τ) (Cert.StepUkvReferenceIdeal.main (F := Ideal))) ⟨m', fun _ => 0, g'⟩ (fun r => ∀ c : Dev Cert.StepUkvReferenceIdeal.nD,
          r.2.mem ((c.tc : Thread Cert.StepUkvReferenceIdeal.nD Cert.StepUkvReferenceIdeal.τ).loc Cert.StepUkvReferenceIdeal.main_v6) = v0 c
          ∧ r.2.mem ((c.tc : Thread Cert.StepUkvReferenceIdeal.nD Cert.StepUkvReferenceIdeal.τ).loc Cert.StepUkvReferenceIdeal.main_v30) = v1 c
          ∧ r.2.mem ((c.tc : Thread Cert.StepUkvReferenceIdeal.nD Cert.StepUkvReferenceIdeal.τ).loc Cert.StepUkvReferenceIdeal.main_v11) = v2 c
          ∧ r.2.mem ((c.tc : Thread Cert.StepUkvReferenceIdeal.nD Cert.StepUkvReferenceIdeal.τ).loc Cert.StepUkvReferenceIdeal.main_v17) = v3 c
          ∧ r.2.mem ((c.tc : Thread Cert.StepUkvReferenceIdeal.nD Cert.StepUkvReferenceIdeal.τ).loc Cert.StepUkvReferenceIdeal.main_arg0) = m' ((c.tc : Thread Cert.StepUkvReferenceIdeal.nD Cert.StepUkvReferenceIdeal.τ).loc Cert.StepUkvReferenceIdeal.main_arg0)
          ∧ r.2.mem ((c.tc : Thread Cert.StepUkvReferenceIdeal.nD Cert.StepUkvReferenceIdeal.τ).loc Cert.StepUkvReferenceIdeal.main_arg1) = m' ((c.tc : Thread Cert.StepUkvReferenceIdeal.nD Cert.StepUkvReferenceIdeal.τ).loc Cert.StepUkvReferenceIdeal.main_arg1)
          ∧ r.2.mem ((c.tc : Thread Cert.StepUkvReferenceIdeal.nD Cert.StepUkvReferenceIdeal.τ).loc Cert.StepUkvReferenceIdeal.main_arg2) = m' ((c.tc : Thread Cert.StepUkvReferenceIdeal.nD Cert.StepUkvReferenceIdeal.τ).loc Cert.StepUkvReferenceIdeal.main_arg2)
          ∧ r.2.mem ((c.tc : Thread Cert.StepUkvReferenceIdeal.nD Cert.StepUkvReferenceIdeal.τ).loc Cert.StepUkvReferenceIdeal.main_arg3) = m' ((c.tc : Thread Cert.StepUkvReferenceIdeal.nD Cert.StepUkvReferenceIdeal.τ).loc Cert.StepUkvReferenceIdeal.main_arg3)
          ∧ r.2.mem ((c.tc : Thread Cert.StepUkvReferenceIdeal.nD Cert.StepUkvReferenceIdeal.τ).loc Cert.StepUkvReferenceIdeal.main_arg4) = m' ((c.tc : Thread Cert.StepUkvReferenceIdeal.nD Cert.StepUkvReferenceIdeal.τ).loc Cert.StepUkvReferenceIdeal.main_arg4)
          ∧ r.2.mem ((c.tc : Thread Cert.StepUkvReferenceIdeal.nD Cert.StepUkvReferenceIdeal.τ).loc Cert.StepUkvReferenceIdeal.main_arg5) = m' ((c.tc : Thread Cert.StepUkvReferenceIdeal.nD Cert.StepUkvReferenceIdeal.τ).loc Cert.StepUkvReferenceIdeal.main_arg5))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hGradFf2 : Cert.GradFf2.Facts) (hGradFf2Ideal : Cert.GradFf2Ideal.Facts) (hGradFf2ReferenceIdeal : Cert.GradFf2ReferenceIdeal.Facts) (hGradFf1 : Cert.GradFf1.Facts) (hGradFf1Ideal : Cert.GradFf1Ideal.Facts) (hGradFf1ReferenceIdeal : Cert.GradFf1ReferenceIdeal.Facts) (hGradOut : Cert.GradOut.Facts) (hGradOutIdeal : Cert.GradOutIdeal.Facts) (hGradOutReferenceIdeal : Cert.GradOutReferenceIdeal.Facts) (hGradIn : Cert.GradIn.Facts) (hGradInIdeal : Cert.GradInIdeal.Facts) (hGradInReferenceIdeal : Cert.GradInReferenceIdeal.Facts) (hGradUq : Cert.GradUq.Facts) (hGradUqIdeal : Cert.GradUqIdeal.Facts) (hGradUqReferenceIdeal : Cert.GradUqReferenceIdeal.Facts) (hGradUkv : Cert.GradUkv.Facts) (hGradUkvIdeal : Cert.GradUkvIdeal.Facts) (hGradUkvReferenceIdeal : Cert.GradUkvReferenceIdeal.Facts) (hAda : Cert.Ada.Facts) (hAdaIdeal : Cert.AdaIdeal.Facts) (hAdaReferenceIdeal : Cert.AdaReferenceIdeal.Facts) (hRows : Cert.Rows.Facts) (hRowsIdeal : Cert.RowsIdeal.Facts) (hRowsReferenceIdeal : Cert.RowsReferenceIdeal.Facts) (hStepOut : Cert.StepOut.Facts) (hStepOutIdeal : Cert.StepOutIdeal.Facts) (hStepOutReferenceIdeal : Cert.StepOutReferenceIdeal.Facts) (hStepFf1 : Cert.StepFf1.Facts) (hStepFf1Ideal : Cert.StepFf1Ideal.Facts) (hStepFf1ReferenceIdeal : Cert.StepFf1ReferenceIdeal.Facts) (hStepFf2 : Cert.StepFf2.Facts) (hStepFf2Ideal : Cert.StepFf2Ideal.Facts) (hStepFf2ReferenceIdeal : Cert.StepFf2ReferenceIdeal.Facts) (hStepIn : Cert.StepIn.Facts) (hStepInIdeal : Cert.StepInIdeal.Facts) (hStepInReferenceIdeal : Cert.StepInReferenceIdeal.Facts) (hStepUq : Cert.StepUq.Facts) (hStepUqIdeal : Cert.StepUqIdeal.Facts) (hStepUqReferenceIdeal : Cert.StepUqReferenceIdeal.Facts) (hStepUkv : Cert.StepUkv.Facts) (hStepUkvIdeal : Cert.StepUkvIdeal.Facts) (hStepUkvReferenceIdeal : Cert.StepUkvReferenceIdeal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostIdeal_pre_finite2 (hPostIdeal := hPostIdeal) (hPre_finite2 := hPre_finite2)
    ∧ quiescent_PostReferenceIdeal (hPostReferenceIdeal := hPostReferenceIdeal)
    ∧ quiescent_PostReferenceIdeal_pre_finite2 (hPostReferenceIdeal := hPostReferenceIdeal) (hPre_finite2 := hPre_finite2)
    ∧ quiescent_GradFf2 (hGradFf2 := hGradFf2)
    ∧ quiescent_GradFf2Ideal (hGradFf2Ideal := hGradFf2Ideal)
    ∧ quiescent_GradFf2ReferenceIdeal (hGradFf2ReferenceIdeal := hGradFf2ReferenceIdeal)
    ∧ quiescent_GradFf1 (hGradFf1 := hGradFf1)
    ∧ quiescent_GradFf1Ideal (hGradFf1Ideal := hGradFf1Ideal)
    ∧ quiescent_GradFf1ReferenceIdeal (hGradFf1ReferenceIdeal := hGradFf1ReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_GradUq (hGradUq := hGradUq)
    ∧ quiescent_GradUqIdeal (hGradUqIdeal := hGradUqIdeal)
    ∧ quiescent_GradUqReferenceIdeal (hGradUqReferenceIdeal := hGradUqReferenceIdeal)
    ∧ quiescent_GradUkv (hGradUkv := hGradUkv)
    ∧ quiescent_GradUkvIdeal (hGradUkvIdeal := hGradUkvIdeal)
    ∧ quiescent_GradUkvReferenceIdeal (hGradUkvReferenceIdeal := hGradUkvReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_StepOut (hStepOut := hStepOut)
    ∧ quiescent_StepOutIdeal (hStepOutIdeal := hStepOutIdeal)
    ∧ quiescent_StepOutReferenceIdeal (hStepOutReferenceIdeal := hStepOutReferenceIdeal)
    ∧ quiescent_StepFf1 (hStepFf1 := hStepFf1)
    ∧ quiescent_StepFf1Ideal (hStepFf1Ideal := hStepFf1Ideal)
    ∧ quiescent_StepFf1ReferenceIdeal (hStepFf1ReferenceIdeal := hStepFf1ReferenceIdeal)
    ∧ quiescent_StepFf2 (hStepFf2 := hStepFf2)
    ∧ quiescent_StepFf2Ideal (hStepFf2Ideal := hStepFf2Ideal)
    ∧ quiescent_StepFf2ReferenceIdeal (hStepFf2ReferenceIdeal := hStepFf2ReferenceIdeal)
    ∧ quiescent_StepIn (hStepIn := hStepIn)
    ∧ quiescent_StepInIdeal (hStepInIdeal := hStepInIdeal)
    ∧ quiescent_StepInReferenceIdeal (hStepInReferenceIdeal := hStepInReferenceIdeal)
    ∧ quiescent_StepUq (hStepUq := hStepUq)
    ∧ quiescent_StepUqIdeal (hStepUqIdeal := hStepUqIdeal)
    ∧ quiescent_StepUqReferenceIdeal (hStepUqReferenceIdeal := hStepUqReferenceIdeal)
    ∧ quiescent_StepUkv (hStepUkv := hStepUkv)
    ∧ quiescent_StepUkvIdeal (hStepUkvIdeal := hStepUkvIdeal)
    ∧ quiescent_StepUkvReferenceIdeal (hStepUkvReferenceIdeal := hStepUkvReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal_pre_finite2 (hPostIdeal := hPostIdeal) (hPostReferenceIdeal := hPostReferenceIdeal) (hPre_finite2 := hPre_finite2)
    ∧ preserves_GradFf2_GradFf2Ideal
    ∧ algebraic_GradFf2Ideal_GradFf2ReferenceIdeal (hGradFf2Ideal := hGradFf2Ideal) (hGradFf2ReferenceIdeal := hGradFf2ReferenceIdeal)
    ∧ preserves_GradFf1_GradFf1Ideal
    ∧ algebraic_GradFf1Ideal_GradFf1ReferenceIdeal (hGradFf1Ideal := hGradFf1Ideal) (hGradFf1ReferenceIdeal := hGradFf1ReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradIn_GradInIdeal
    ∧ algebraic_GradInIdeal_GradInReferenceIdeal (hGradInIdeal := hGradInIdeal) (hGradInReferenceIdeal := hGradInReferenceIdeal)
    ∧ preserves_GradUq_GradUqIdeal
    ∧ algebraic_GradUqIdeal_GradUqReferenceIdeal (hGradUqIdeal := hGradUqIdeal) (hGradUqReferenceIdeal := hGradUqReferenceIdeal)
    ∧ preserves_GradUkv_GradUkvIdeal
    ∧ algebraic_GradUkvIdeal_GradUkvReferenceIdeal (hGradUkvIdeal := hGradUkvIdeal) (hGradUkvReferenceIdeal := hGradUkvReferenceIdeal)
    ∧ preserves_Ada_AdaIdeal
    ∧ algebraic_AdaIdeal_AdaReferenceIdeal (hAdaIdeal := hAdaIdeal) (hAdaReferenceIdeal := hAdaReferenceIdeal)
    ∧ preserves_Rows_RowsIdeal
    ∧ algebraic_RowsIdeal_RowsReferenceIdeal (hRowsIdeal := hRowsIdeal) (hRowsReferenceIdeal := hRowsReferenceIdeal)
    ∧ preserves_StepOut_StepOutIdeal
    ∧ algebraic_StepOutIdeal_StepOutReferenceIdeal (hStepOutIdeal := hStepOutIdeal) (hStepOutReferenceIdeal := hStepOutReferenceIdeal)
    ∧ preserves_StepFf1_StepFf1Ideal
    ∧ algebraic_StepFf1Ideal_StepFf1ReferenceIdeal (hStepFf1Ideal := hStepFf1Ideal) (hStepFf1ReferenceIdeal := hStepFf1ReferenceIdeal)
    ∧ preserves_StepFf2_StepFf2Ideal
    ∧ algebraic_StepFf2Ideal_StepFf2ReferenceIdeal (hStepFf2Ideal := hStepFf2Ideal) (hStepFf2ReferenceIdeal := hStepFf2ReferenceIdeal)
    ∧ preserves_StepIn_StepInIdeal
    ∧ algebraic_StepInIdeal_StepInReferenceIdeal (hStepInIdeal := hStepInIdeal) (hStepInReferenceIdeal := hStepInReferenceIdeal)
    ∧ preserves_StepUq_StepUqIdeal
    ∧ algebraic_StepUqIdeal_StepUqReferenceIdeal (hStepUqIdeal := hStepUqIdeal) (hStepUqReferenceIdeal := hStepUqReferenceIdeal)
    ∧ preserves_StepUkv_StepUkvIdeal
    ∧ algebraic_StepUkvIdeal_StepUkvReferenceIdeal (hStepUkvIdeal := hStepUkvIdeal) (hStepUkvReferenceIdeal := hStepUkvReferenceIdeal)
-- ==== Pre_finite.lean ====
abbrev S4096x1024 : Shape := ⟨2, ![4096, 1024]⟩
abbrev S4608x1024 : Shape := ⟨2, ![4608, 1024]⟩
abbrev S4608x512 : Shape := ⟨2, ![4608, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4608x1024 : S_.BroadcastsInDim S4608x1024 (![] : Fin 0 → Fin S4608x1024.rank)
  reducesTo_S4608x1024_S_d0_1 : S4608x1024.ReducesTo [0, 1] S_
  bcast_S_S4608x512 : S_.BroadcastsInDim S4608x512 (![] : Fin 0 → Fin S4608x512.rank)
  reducesTo_S4608x512_S_d0_1 : S4608x512.ReducesTo [0, 1] S_

variable [Facts]

def fn_part1 {F : FTy → Type} [FloatOps F] (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  main_v22

def fn {F : FTy → Type} [FloatOps F] (main_arg0 : FVec F S4096x1024 .bf16) (main_arg1 : FVec F S4608x1024 .bf16) (main_arg2 : FVec F S4608x512 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4608x1024 .f32 := (extf .f32 · bitsLt_bf16_f32) main_arg1
  let main_v6 : FVec F S4608x1024 .f32 := Host.absf main_v5
  let main_cst_0 : FVec F S_ .f32 := constant S_ .f32 0x7F800000#32
  let main_v7 : FVec F S4608x1024 .f32 := broadcastInDim S4608x1024 ![] bcast_S_S4608x1024 main_cst_0
  let main_v8 : IVec S4608x1024 1 := cmpf .olt main_v6 main_v7
  let main_c_1 : IVec S_ 1 := constantI S_ 1 1#1
  let main_v9 : IVec S_ 1 := (fun x v => Host.reduce IntOp.andi x v reducesTo_S4608x1024_S_d0_1 h_S_) main_v8 main_c_1
  let main_v10 : IVec S_ 1 := andi main_v4 main_v9
  let main_v11 : FVec F S4608x512 .f32 := (extf .f32 · bitsLt_bf16_f32) main_arg2
  let main_v12 : FVec F S4608x512 .f32 := Host.absf main_v11
  let main_cst_2 : FVec F S_ .f32 := constant S_ .f32 0x7F800000#32
  let main_v13 : FVec F S4608x512 .f32 := broadcastInDim S4608x512 ![] bcast_S_S4608x512 main_cst_2
  let main_v14 : IVec S4608x512 1 := cmpf .olt main_v12 main_v13
  let main_c_3 : IVec S_ 1 := constantI S_ 1 1#1
  let main_v15 : IVec S_ 1 := (fun x v => Host.reduce IntOp.andi x v reducesTo_S4608x512_S_d0_1 h_S_) main_v14 main_c_3
  let main_v16 : IVec S_ 1 := andi main_v10 main_v15
  let main_v17 : FVec F S4096x1024 .f32 := (extf .f32 · bitsLt_bf16_f32) main_arg3
  fn_part1 (F := F) main_v16 main_v17
-- ==== Pre_finite2.lean ====
abbrev S4096x512 : Shape := ⟨2, ![4096, 512]⟩
abbrev S4096x1024 : Shape := ⟨2, ![4096, 1024]⟩
abbrev S3x6144 : Shape := ⟨2, ![3, 6144]⟩
abbrev S1x1024 : Shape := ⟨2, ![1, 1024]⟩
abbrev S1024x1024 : Shape := ⟨2, ![1024, 1024]⟩
abbrev S1024x4096 : Shape := ⟨2, ![1024, 4096]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S3x6144 : S_.BroadcastsInDim S3x6144 (![] : Fin 0 → Fin S3x6144.rank)
  reducesTo_S3x6144_S_d0_1 : S3x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_v47 : IVec S_ 1) (main_v51 : IVec S4096x1024 1) (main_c_17 : IVec S_ 1) : IVec S_ 1 :=
  let main_v52 : IVec S_ 1 := (fun x v => Host.reduce IntOp.andi x v reducesTo_S4096x1024_S_d0_1 h_S_) main_v51 main_c_17
  let main_v53 : IVec S_ 1 := andi main_v47 main_v52
  main_v53

def fn_part2 {F : FTy → Type} [FloatOps F] (main_arg7 : FVec F S1024x1024 .bf16) (main_arg8 : FVec F S1024x4096 .bf16) (main_arg9 : FVec F S4096x1024 .bf16) (main_v30 : IVec S_ 1) (main_v33 : IVec S1x1024 1) (main_c_11 : IVec S_ 1) : IVec S_ 1 :=
  let main_v34 : IVec S_ 1 := (fun x v => Host.reduce IntOp.andi x v reducesTo_S1x1024_S_d0_1 h_S_) main_v33 main_c_11
  let main_v35 : IVec S_ 1 := andi main_v30 main_v34
  let main_v36 : FVec F S1024x1024 .f32 := (extf .f32 · bitsLt_bf16_f32) main_arg7
  let main_v37 : FVec F S1024x1024 .f32 := Host.absf main_v36
  let main_cst_12 : FVec F S_ .f32 := constant S_ .f32 0x7F800000#32
  let main_v38 : FVec F S1024x1024 .f32 := broadcastInDim S1024x1024 ![] bcast_S_S1024x1024 main_cst_12
  let main_v39 : IVec S1024x1024 1 := cmpf .olt main_v37 main_v38
  let main_c_13 : IVec S_ 1 := constantI S_ 1 1#1
  let main_v40 : IVec S_ 1 := (fun x v => Host.reduce IntOp.andi x v reducesTo_S1024x1024_S_d0_1 h_S_) main_v39 main_c_13
  let main_v41 : IVec S_ 1 := andi main_v35 main_v40
  let main_v42 : FVec F S1024x4096 .f32 := (extf .f32 · bitsLt_bf16_f32) main_arg8
  let main_v43 : FVec F S1024x4096 .f32 := Host.absf main_v42
  let main_cst_14 : FVec F S_ .f32 := constant S_ .f32 0x7F800000#32
  let main_v44 : FVec F S1024x4096 .f32 := broadcastInDim S1024x4096 ![] bcast_S_S1024x4096 main_cst_14
  let main_v45 : IVec S1024x4096 1 := cmpf .olt main_v43 main_v44
  let main_c_15 : IVec S_ 1 := constantI S_ 1 1#1
  let main_v46 : IVec S_ 1 := (fun x v => Host.reduce IntOp.andi x v reducesTo_S1024x4096_S_d0_1 h_S_) main_v45 main_c_15
  let main_v47 : IVec S_ 1 := andi main_v41 main_v46
  let main_v48 : FVec F S4096x1024 .f32 := (extf .f32 · bitsLt_bf16_f32) main_arg9
  let main_v49 : FVec F S4096x1024 .f32 := Host.absf main_v48
  let main_cst_16 : FVec F S_ .f32 := constant S_ .f32 0x7F800000#32
  let main_v50 : FVec F S4096x1024 .f32 := broadcastInDim S4096x1024 ![] bcast_S_S4096x1024 main_cst_16
  let main_v51 : IVec S4096x1024 1 := cmpf .olt main_v49 main_v50
  let main_c_17 : IVec S_ 1 := constantI S_ 1 1#1
  fn_part3 (F := F) main_v47 main_v51 main_c_17

def fn_part1 {F : FTy → Type} [FloatOps F] (main_arg4 : FVec F S3x6144 .f32) (main_arg5 : FVec F S1x1024 .f32) (main_arg6 : FVec F S1x1024 .f32) (main_arg7 : FVec F S1024x1024 .bf16) (main_arg8 : FVec F S1024x4096 .bf16) (main_arg9 : FVec F S4096x1024 .bf16) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S3x6144 .f32 := Host.absf main_arg4
  let main_cst_6 : FVec F S_ .f32 := constant S_ .f32 0x7F800000#32
  let main_v22 : FVec F S3x6144 .f32 := broadcastInDim S3x6144 ![] bcast_S_S3x6144 main_cst_6
  let main_v23 : IVec S3x6144 1 := cmpf .olt main_v21 main_v22
  let main_c_7 : IVec S_ 1 := constantI S_ 1 1#1
  let main_v24 : IVec S_ 1 := (fun x v => Host.reduce IntOp.andi x v reducesTo_S3x6144_S_d0_1 h_S_) main_v23 main_c_7
  let main_v25 : IVec S_ 1 := andi main_v20 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  let main_v31 : FVec F S1x1024 .f32 := Host.absf main_arg6
  let main_cst_10 : FVec F S_ .f32 := constant S_ .f32 0x7F800000#32
  let main_v32 : FVec F S1x1024 .f32 := broadcastInDim S1x1024 ![] bcast_S_S1x1024 main_cst_10
  let main_v33 : IVec S1x1024 1 := cmpf .olt main_v31 main_v32
  let main_c_11 : IVec S_ 1 := constantI S_ 1 1#1
  fn_part2 (F := F) main_arg7 main_arg8 main_arg9 main_v30 main_v33 main_c_11

def fn {F : FTy → Type} [FloatOps F] (main_arg0 : FVec F S4096x512 .bf16) (main_arg1 : FVec F S4096x512 .bf16) (main_arg2 : FVec F S4096x1024 .f32) (main_arg3 : FVec F S4096x1024 .f32) (main_arg4 : FVec F S3x6144 .f32) (main_arg5 : FVec F S1x1024 .f32) (main_arg6 : FVec F S1x1024 .f32) (main_arg7 : FVec F S1024x1024 .bf16) (main_arg8 : FVec F S1024x4096 .bf16) (main_arg9 : FVec F S4096x1024 .bf16) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S4096x1024 .f32 := Host.absf main_arg3
  let main_cst_4 : FVec F S_ .f32 := constant S_ .f32 0x7F800000#32
  fn_part1 (F := F) main_arg4 main_arg5 main_arg6 main_arg7 main_arg8 main_arg9 main_v15 main_v16 main_cst_4
-- ==== Kernel.lean ====
abbrev S4096x1024 : Shape := ⟨2, ![4096, 1024]⟩
abbrev S4608x1024 : Shape := ⟨2, ![4608, 1024]⟩
abbrev S4608x512 : Shape := ⟨2, ![4608, 512]⟩
abbrev S2x2048x4x256 : Shape := ⟨4, ![2, 2048, 4, 256]⟩
abbrev S512x1024 : Shape := ⟨2, ![512, 1024]⟩
abbrev S2x256x4x256 : Shape := ⟨4, ![2, 256, 4, 256]⟩
abbrev S2x2304x4x256 : Shape := ⟨4, ![2, 2304, 4, 256]⟩
abbrev S512x512 : Shape := ⟨2, ![512, 512]⟩
abbrev S2x256x4x128 : Shape := ⟨4, ![2, 256, 4, 128]⟩
abbrev S4096x512 : Shape := ⟨2, ![4096, 512]⟩
abbrev S2x2048x4x128 : Shape := ⟨4, ![2, 2048, 4, 128]⟩
abbrev S2x2304x4x128 : Shape := ⟨4, ![2, 2304, 4, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x2048x4x1 : Shape := ⟨4, ![2, 2048, 4, 1]⟩
abbrev S512x256 : Shape := ⟨2, ![512, 256]⟩
abbrev S2048x256 : Shape := ⟨2, ![2048, 256]⟩
abbrev S256x256 : Shape := ⟨2, ![256, 256]⟩
abbrev S2048x128 : Shape := ⟨2, ![2048, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩

abbrev nBuf : Space → Nat
  | .hbm => 44
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S4608x1024, .bf16⟩
  | .hbm, ⟨2, _⟩ => ⟨S4608x512, .bf16⟩
  | .hbm, ⟨3, _⟩ => ⟨S4096x1024, .bf16⟩
  | .hbm, ⟨4, _⟩ => ⟨S4096x1024, .f32⟩
  | .hbm, ⟨5, _⟩ => ⟨S2x2048x4x256, .f32⟩
  | .hbm, ⟨6, _⟩ => ⟨S4608x1024, .f32⟩
  | .hbm, ⟨7, _⟩ => ⟨S4608x512, .f32⟩
  | .hbm, ⟨8, _⟩ => ⟨S512x1024, .f32⟩
  | .hbm, ⟨9, _⟩ => ⟨S2x256x4x256, .f32⟩
  | .hbm, ⟨10, _⟩ => ⟨S4096x1024, .f32⟩
  | .hbm, ⟨11, _⟩ => ⟨S2x2048x4x256, .f32⟩
  | .hbm, ⟨12, _⟩ => ⟨S2x2304x4x256, .f32⟩
  | .hbm, ⟨13, _⟩ => ⟨S512x512, .f32⟩
  | .hbm, ⟨14, _⟩ => ⟨S2x256x4x128, .f32⟩
  | .hbm, ⟨15, _⟩ => ⟨S4096x512, .f32⟩
  | .hbm, ⟨16, _⟩ => ⟨S2x2048x4x128, .f32⟩
  | .hbm, ⟨17, _⟩ => ⟨S2x2304x4x128, .f32⟩
  | .hbm, ⟨18, _⟩ => ⟨S2x4x2048x2304, .f32⟩
  | .hbm, ⟨19, _⟩ => ⟨S_, .f32⟩
  | .hbm, ⟨20, _⟩ => ⟨S2x4x2048, .f32⟩
  | .hbm, ⟨21, _⟩ => ⟨S2x4x2048x1, .f32⟩
  | .hbm, ⟨22, _⟩ => ⟨S2x4x2048x2304, .f32⟩
  | .hbm, ⟨23, _⟩ => ⟨S2x4x2048x2304, .f32⟩
  | .hbm, ⟨24, _⟩ => ⟨S2x4x2048x2304, .f32⟩
  | .hbm, ⟨25, _⟩ => ⟨S_, .f32⟩
  | .hbm, ⟨26, _⟩ => ⟨S2x4x2048, .f32⟩
  | .hbm, ⟨27, _⟩ => ⟨S2x4x2048x1, .f32⟩
  | .hbm, ⟨28, _⟩ => ⟨S2x4x2048x2304, .f32⟩
  | .hbm, ⟨29, _⟩ => ⟨S2x4x2048x2304, .f32⟩
  | .hbm, ⟨30, _⟩ => ⟨S2x4x128x2048, .f32⟩
  | .hbm, ⟨31, _⟩ => ⟨S2x2048x4x128, .f32⟩
  | .hbm, ⟨32, _⟩ => ⟨S4096x512, .f32⟩
  | .hbm, ⟨33, _⟩ => ⟨S4096x512, .bf16⟩
  | .hbm, ⟨34, _⟩ => ⟨S2x4x2048x1, .f32⟩
  | .hbm, ⟨35, _⟩ => ⟨S2x4x2048x1, .f32⟩
  | .hbm, ⟨36, _⟩ => ⟨S2x2048x4x1, .f32⟩
  | .hbm, ⟨37, _⟩ => ⟨S2x2048x4x128, .f32⟩
  | .hbm, ⟨38, _⟩ => ⟨S4096x512, .f32⟩
  | .hbm, ⟨39, _⟩ => ⟨S4096x1024, .bf16⟩
  | .hbm, ⟨40, _⟩ => ⟨S4096x1024, .bf16⟩
  | .hbm, ⟨41, _⟩ => ⟨S512x1024, .bf16⟩
  | .hbm, ⟨42, _⟩ => ⟨S4096x512, .bf16⟩
  | .hbm, ⟨43, _⟩ => ⟨S512x512, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S512x256, .bf16⟩
  | .local _ .vmem, ⟨17, _⟩ => ⟨S512x256, .bf16⟩
  | .local _ .vmem, ⟨18, _⟩ => ⟨S2048x256, .bf16⟩
  | .local _ .vmem, ⟨19, _⟩ => ⟨S2048x256, .bf16⟩
  | .local _ .vmem, ⟨20, _⟩ => ⟨S256x256, .bf16⟩
  | .local _ .vmem, ⟨21, _⟩ => ⟨S256x256, .bf16⟩
  | .local _ .vmem, ⟨22, _⟩ => ⟨S2048x128, .bf16⟩
  | .local _ .vmem, ⟨23, _⟩ => ⟨S2048x128, .bf16⟩
  | .local _ .vmem, ⟨24, _⟩ => ⟨S256x128, .bf16⟩
  | .local _ .vmem, ⟨25, _⟩ => ⟨S256x128, .bf16⟩
  | .local _ .vmem, ⟨26, _⟩ => ⟨S2048x256, .f32⟩
  | .local _ .vmem, ⟨27, _⟩ => ⟨S256x256, .f32⟩
  | .local _ .vmem, ⟨28, _⟩ => ⟨S2048x128, .f32⟩
  | .local _ .vmem, ⟨29, _⟩ => ⟨S256x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev main_v33_3 : Ref sig .tc := ⟨.hbm, 42, rfl⟩
abbrev main_v33_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v93 : BitVec 1 := Scalar.cmpi .eq arg2 c3_i32
  let v94 : BitVec 32 := Scalar.extui v93
  let c0_i32_60 : BitVec 32 := 0#32
  let v95 : BitVec 1 := Scalar.cmpi .ne v94 c0_i32_60
  v95

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ReferenceIdeal.lean ====
abbrev S4096x1024 : Shape := ⟨2, ![4096, 1024]⟩
abbrev S4608x1024 : Shape := ⟨2, ![4608, 1024]⟩
abbrev S4608x512 : Shape := ⟨2, ![4608, 512]⟩
abbrev S4096x512 : Shape := ⟨2, ![4096, 512]⟩
abbrev S512x1024 : Shape := ⟨2, ![512, 1024]⟩
abbrev S512x512 : Shape := ⟨2, ![512, 512]⟩
abbrev S2x2048x4x256 : Shape := ⟨4, ![2, 2048, 4, 256]⟩
abbrev S2x256x4x256 : Shape := ⟨4, ![2, 256, 4, 256]⟩
abbrev S2x2304x4x256 : Shape := ⟨4, ![2, 2304, 4, 256]⟩
abbrev S2x256x4x128 : Shape := ⟨4, ![2, 256, 4, 128]⟩
abbrev S2x2048x4x128 : Shape := ⟨4, ![2, 2048, 4, 128]⟩
abbrev S2x2304x4x128 : Shape := ⟨4, ![2, 2304, 4, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x2304 : Shape := ⟨4, ![2, 4, 128, 2304]⟩
abbrev S2x4x2304x256 : Shape := ⟨4, ![2, 4, 2304, 256]⟩
abbrev S2x4x2048x256 : Shape := ⟨4, ![2, 4, 2048, 256]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4608x1024, .bf16⟩
  | .hbm, ⟨2, _⟩ => ⟨S4608x512, .bf16⟩
  | .hbm, ⟨3, _⟩ => ⟨S4096x1024, .bf16⟩
  | .hbm, ⟨4, _⟩ => ⟨S4096x1024, .f32⟩
  | .hbm, ⟨5, _⟩ => ⟨S4608x1024, .f32⟩
  | .hbm, ⟨6, _⟩ => ⟨S4608x512, .f32⟩
  | .hbm, ⟨7, _⟩ => ⟨S4096x1024, .f32⟩
  | .hbm, ⟨8, _⟩ => ⟨S4096x512, .f32⟩
  | .hbm, ⟨9, _⟩ => ⟨S4096x1024, .f32⟩
  | .hbm, ⟨10, _⟩ => ⟨S512x1024, .f32⟩
  | .hbm, ⟨11, _⟩ => ⟨S4096x512, .f32⟩
  | .hbm, ⟨12, _⟩ => ⟨S512x512, .f32⟩
  | .hbm, ⟨13, _⟩ => ⟨S2x2048x4x256, .f32⟩
  | .hbm, ⟨14, _⟩ => ⟨S2x256x4x256, .f32⟩
  | .hbm, ⟨15, _⟩ => ⟨S2x2048x4x256, .f32⟩
  | .hbm, ⟨16, _⟩ => ⟨S2x2304x4x256, .f32⟩
  | .hbm, ⟨17, _⟩ => ⟨S2x256x4x128, .f32⟩
  | .hbm, ⟨18, _⟩ => ⟨S2x2048x4x128, .f32⟩
  | .hbm, ⟨19, _⟩ => ⟨S2x2304x4x128, .f32⟩
  | .hbm, ⟨20, _⟩ => ⟨S2x4x2048x2304, .f32⟩
  | .hbm, ⟨21, _⟩ => ⟨S_, .f32⟩
  | .hbm, ⟨22, _⟩ => ⟨S2x4x2048, .f32⟩
  | .hbm, ⟨23, _⟩ => ⟨S2x4x2048x1, .f32⟩
  | .hbm, ⟨24, _⟩ => ⟨S2x4x2048x2304, .f32⟩
  | .hbm, ⟨25, _⟩ => ⟨S2x4x2048x2304, .i1⟩
  | .hbm, ⟨26, _⟩ => ⟨S2x4x2048x2304, .f32⟩
  | .hbm, ⟨27, _⟩ => ⟨S_, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S2x4x2048, .i1⟩
  | .hbm, ⟨35, _⟩ => ⟨S_, .f32⟩
  | .hbm, ⟨36, _⟩ => ⟨S2x4x2048, .f32⟩
  | .hbm, ⟨37, _⟩ => ⟨S2x4x2048, .i1⟩
  | .hbm, ⟨38, _⟩ => ⟨S_, .f32⟩
  | .hbm, ⟨39, _⟩ => ⟨S2x4x2048, .f32⟩
  | .hbm, ⟨40, _⟩ => ⟨S_, .f32⟩
  | .hbm, ⟨41, _⟩ => ⟨S2x4x2048, .f32⟩
  | .hbm, ⟨42, _⟩ => ⟨S_, .f32⟩
  | .hbm, ⟨43, _⟩ => ⟨S2x4x2048, .f32⟩
  | .hbm, ⟨44, _⟩ => ⟨S2x4x2048, .f32⟩
  | .hbm, ⟨45, _⟩ => ⟨S2x4x2048, .f32⟩
  | .hbm, ⟨46, _⟩ => ⟨S2x4x2048x1, .f32⟩
  | .hbm, ⟨47, _⟩ => ⟨S2x4x2048x2304, .f32⟩
  | .hbm, ⟨48, _⟩ => ⟨S2x4x2048x2304, .f32⟩
  | .hbm, ⟨49, _⟩ => ⟨S2x4x2048x2304, .f32⟩
  | .hbm, ⟨50, _⟩ => ⟨S_, .f32⟩
  | .hbm, ⟨51, _⟩ => ⟨S2x4x2048, .f32⟩
  | .hbm, ⟨52, _⟩ => ⟨S2x4x2048x1, .f32⟩
  | .hbm, ⟨53, _⟩ => ⟨S2x4x2048x2304, .f32⟩
  | .hbm, ⟨54, _⟩ => ⟨S2x4x2048x2304, .f32⟩
  | .hbm, ⟨55, _⟩ => ⟨S2x4x2048x1, .f32⟩
  | .hbm, ⟨56, _⟩ => ⟨S_, .f32⟩
  | .hbm, ⟨57, _⟩ => ⟨S2x4x2048x1, .f32⟩
  | .hbm, ⟨58, _⟩ => ⟨S2x4x2048x1, .f32⟩
  | .hbm, ⟨59, _⟩ => ⟨S2x4x128x2048, .f32⟩
  | .hbm, ⟨60, _⟩ => ⟨S2x2048x4x128, .f32⟩
  | .hbm, ⟨61, _⟩ => ⟨S4096x512, .f32⟩
  | .hbm, ⟨62, _⟩ => ⟨S2x2048x4x128, .f32⟩
  | .hbm, ⟨63, _⟩ => ⟨S2x4x128x2048, .f32⟩
  | .hbm, ⟨64, _⟩ => ⟨S2x4x2048x2304, .f32⟩
  | .hbm, ⟨65, _⟩ => ⟨S2x4x128x2304, .f32⟩
  | .hbm, ⟨66, _⟩ => ⟨S2x2304x4x128, .f32⟩
  | .hbm, ⟨67, _⟩ => ⟨S2x4x2048x2304, .f32⟩
  | .hbm, ⟨68, _⟩ => ⟨S2x4x2048x2304, .f32⟩
  | .hbm, ⟨69, _⟩ => ⟨S2x4x2048x2304, .f32⟩
  | .hbm, ⟨70, _⟩ => ⟨S_, .f32⟩
  | .hbm, ⟨71, _⟩ => ⟨S2x4x2048, .f32⟩
  | .hbm, ⟨72, _⟩ => ⟨S2x4x2048x1, .f32⟩
  | .hbm, ⟨73, _⟩ => ⟨S2x4x2048x1, .f32⟩
  | .hbm, ⟨74, _⟩ => ⟨S2x4x2048x2304, .f32⟩
  | .hbm, ⟨75, _⟩ => ⟨S2x4x2048x2304, .f32⟩
  | .hbm, ⟨76, _⟩ => ⟨S_, .f32⟩
  | .hbm, ⟨77, _⟩ => ⟨S2x4x2048, .f32⟩
  | .hbm, ⟨78, _⟩ => ⟨S2x4x2048x2304, .f32⟩
  | .hbm, ⟨79, _⟩ => ⟨S2x4x2048x2304, .f32⟩
  | .hbm, ⟨80, _⟩ => ⟨S2x4x2048x2304, .f32⟩
  | .hbm, ⟨81, _⟩ => ⟨S2x4x2304x256, .f32⟩
  | .hbm, ⟨82, _⟩ => ⟨S2x2304x4x256, .f32⟩
  | .hbm, ⟨83, _⟩ => ⟨S2x4x2048x256, .f32⟩
  | .hbm, ⟨84, _⟩ => ⟨S2x2048x4x256, .f32⟩
  | .hbm, ⟨85, _⟩ => ⟨S2x256x4x128, .f32⟩
  | .hbm, ⟨86, _⟩ => ⟨S2x2048x4x128, .f32⟩
  | .hbm, ⟨87, _⟩ => ⟨S4096x512, .f32⟩
  | .hbm, ⟨88, _⟩ => ⟨S512x512, .f32⟩
  | .hbm, ⟨89, _⟩ => ⟨S2x256x4x256, .f32⟩
  | .hbm, ⟨90, _⟩ => ⟨S2x2048x4x256, .f32⟩
  | .hbm, ⟨91, _⟩ => ⟨S4096x1024, .f32⟩
  | .hbm, ⟨92, _⟩ => ⟨S512x1024, .f32⟩
  | .hbm, ⟨93, _⟩ => ⟨S4096x1024, .f32⟩
  | .hbm, ⟨94, _⟩ => ⟨S4096x1024, .bf16⟩
  | .hbm, ⟨95, _⟩ => ⟨S4096x1024, .bf16⟩
  | .hbm, ⟨96, _⟩ => ⟨S512x1024, .bf16⟩
  | .hbm, ⟨97, _⟩ => ⟨S4096x512, .bf16⟩
  | .hbm, ⟨98, _⟩ => ⟨S512x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Post.lean ====
abbrev S4096x512 : Shape := ⟨2, ![4096, 512]⟩
abbrev S4096x1024 : Shape := ⟨2, ![4096, 1024]⟩
abbrev S3x6144 : Shape := ⟨2, ![3, 6144]⟩
abbrev S1x1024 : Shape := ⟨2, ![1, 1024]⟩
abbrev S1024x1024 : Shape := ⟨2, ![1024, 1024]⟩
abbrev S1024x4096 : Shape := ⟨2, ![1024, 4096]⟩
abbrev S3x6x1024 : Shape := ⟨3, ![3, 6, 1024]⟩
abbrev S_ : Shape := ⟨0, ![]⟩
abbrev S3x8x1024 : Shape := ⟨3, ![3, 8, 1024]⟩
abbrev S1024x4x1024 : Shape := ⟨3, ![1024, 4, 1024]⟩
abbrev S4x1024x1024 : Shape := ⟨3, ![4, 1024, 1024]⟩
abbrev S4x2x512x1024 : Shape := ⟨4, ![4, 2, 512, 1024]⟩
abbrev S4x1x512x1024 : Shape := ⟨4, ![4, 1, 512, 1024]⟩
abbrev S4x512x1024 : Shape := ⟨3, ![4, 512, 1024]⟩
abbrev S4096x4096 : Shape := ⟨2, ![4096, 4096]⟩
abbrev S2x8x1024 : Shape := ⟨3, ![2, 8, 1024]⟩
abbrev S256x512 : Shape := ⟨2, ![256, 512]⟩
abbrev S256x1024 : Shape := ⟨2, ![256, 1024]⟩
abbrev S1x8x1024 : Shape := ⟨3, ![1, 8, 1024]⟩
abbrev S256x4096 : Shape := ⟨2, ![256, 4096]⟩
abbrev S1x1x1024 : Shape := ⟨3, ![1, 1, 1024]⟩
abbrev S512x1024 : Shape := ⟨2, ![512, 1024]⟩
abbrev S256 : Shape := ⟨1, ![256]⟩
abbrev S256x1 : Shape := ⟨2, ![256, 1]⟩
abbrev S1x1024x1024 : Shape := ⟨3, ![1, 1024, 1024]⟩
abbrev S1x512x1024 : Shape := ⟨3, ![1, 512, 1024]⟩
abbrev S1024 : Shape := ⟨1, ![1024]⟩
abbrev S8x1024 : Shape := ⟨2, ![8, 1024]⟩

abbrev nBuf : Space → Nat
  | .hbm => 30
  | .vmem => 35
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S4096x1024, .f32⟩
  | .hbm, ⟨4, _⟩ => ⟨S3x6144, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1024x4096, .bf16⟩
  | .hbm, ⟨9, _⟩ => ⟨S4096x1024, .bf16⟩
  | .hbm, ⟨10, _⟩ => ⟨S3x6x1024, .f32⟩
  | .hbm, ⟨11, _⟩ => ⟨S_, .i32⟩
  | .hbm, ⟨12, _⟩ => ⟨S_, .f32⟩
  | .hbm, ⟨13, _⟩ => ⟨S3x8x1024, .f32⟩
  | .hbm, ⟨14, _⟩ => ⟨S1024x4x1024, .bf16⟩
  | .hbm, ⟨15, _⟩ => ⟨S4x1024x1024, .bf16⟩
  | .hbm, ⟨16, _⟩ => ⟨S4x2x512x1024, .bf16⟩
  | .hbm, ⟨17, _⟩ => ⟨S4x1x512x1024, .bf16⟩
  | .hbm, ⟨18, _⟩ => ⟨S4x512x1024, .bf16⟩
  | .hbm, ⟨19, _⟩ => ⟨S4x1x512x1024, .bf16⟩
  | .hbm, ⟨20, _⟩ => ⟨S4x512x1024, .bf16⟩
  | .hbm, ⟨21, _⟩ => ⟨S4096x1024, .bf16⟩
  | .hbm, ⟨22, _⟩ => ⟨S4096x4096, .bf16⟩
  | .hbm, ⟨23, _⟩ => ⟨S4096x4096, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x1024, .f32⟩
  | .hbm, ⟨29, _⟩ => ⟨S2x8x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S4x1024x1024, .bf16⟩
  | .local _ .vmem, ⟨14, _⟩ => ⟨S4x512x1024, .bf16⟩
  | .local _ .vmem, ⟨15, _⟩ => ⟨S4x512x1024, .bf16⟩
  | .local _ .vmem, ⟨16, _⟩ => ⟨S256x1024, .bf16⟩
  | .local _ .vmem, ⟨17, _⟩ => ⟨S256x1024, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .f32⟩
  | .local _ .vmem, ⟨31, _⟩ => ⟨S256x1024, .f32⟩
  | .local _ .vmem, ⟨32, _⟩ => ⟨S1x8x1024, .f32⟩
  | .local _ .vmem, ⟨33, _⟩ => ⟨S1x8x1024, .f32⟩
  | .local _ .vmem, ⟨34, _⟩ => ⟨S256x4096, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v286 : BitVec 1 := Scalar.cmpi .eq c8_i32 c0_i32
  let c1_i32 : BitVec 32 := 1#32
  let v287 : BitVec 32 := Scalar.select v286 c1_i32 c8_i32
  let v288 : BitVec 32 := Scalar.remsi arg0 v287
  let c0_i32_197 : BitVec 32 := 0#32
  let v290 : BitVec 1 := Scalar.cmpi .slt v288 c0_i32_197
  let c0_i32_198 : BitVec 32 := 0#32
  let v291 : BitVec 1 := Scalar.cmpi .slt v287 c0_i32_198
  let v292 : BitVec 1 := Scalar.xori v290 v291
  let c0_i32_196 : BitVec 32 := 0#32
  let v289 : BitVec 1 := Scalar.cmpi .ne v288 c0_i32_196
  let v293 : BitVec 1 := Scalar.andi v292 v289
  let v294 : BitVec 32 := Scalar.addi v288 v287
  let v295 : BitVec 32 := Scalar.select v293 v294 v288
  let c0_i32_199 : BitVec 32 := 0#32
  let v296 : BitVec 1 := Scalar.cmpi .eq v295 c0_i32_199
  let v297 : BitVec 32 := Scalar.extui v296
  let c0_i32_200 : BitVec 32 := 0#32
  let v298 : BitVec 1 := Scalar.cmpi .ne v297 c0_i32_200
  v298

def k0_cond2 (i : grid0.Coords) : BitVec 1 :=
  let arg0 : BitVec 32 := BitVec.ofNat 32 (i 0).val
  let c8_i32_201 : BitVec 32 := 8#32
  let c0_i32_202 : BitVec 32 := 0#32
  let v299 : BitVec 1 := Scalar.cmpi .eq c8_i32_201 c0_i32_202
  let c1_i32_203 : BitVec 32 := 1#32
  let v300 : BitVec 32 := Scalar.select v299 c1_i32_203 c8_i32_201
  let v301 : BitVec 32 := Scalar.remsi arg0 v300
  let c0_i32_205 : BitVec 32 := 0#32
  let v303 : BitVec 1 := Scalar.cmpi .slt v301 c0_i32_205
  let c0_i32_206 : BitVec 32 := 0#32
  let v304 : BitVec 1 := Scalar.cmpi .slt v300 c0_i32_206
  let v305 : BitVec 1 := Scalar.xori v303 v304
  let c0_i32_204 : BitVec 32 := 0#32
  let v302 : BitVec 1 := Scalar.cmpi .ne v301 c0_i32_204
  let v306 : BitVec 1 := Scalar.andi v305 v302
  let v307 : BitVec 32 := Scalar.addi v301 v300
  let v308 : BitVec 32 := Scalar.select v306 v307 v301
  let c0_i32_207 : BitVec 32 := 0#32
  let v309 : BitVec 1 := Scalar.cmpi .ne v308 c0_i32_207
  let v310 : BitVec 32 := Scalar.extui v309
  let c0_i32_208 : BitVec 32 := 0#32
  let v311 : BitVec 1 := Scalar.cmpi .ne v310 c0_i32_208
  v311

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PostReferenceIdeal.lean ====
abbrev S4096x512 : Shape := ⟨2, ![4096, 512]⟩
abbrev S4096x1024 : Shape := ⟨2, ![4096, 1024]⟩
abbrev S3x6144 : Shape := ⟨2, ![3, 6144]⟩
abbrev S1x1024 : Shape := ⟨2, ![1, 1024]⟩
abbrev S1024x1024 : Shape := ⟨2, ![1024, 1024]⟩
abbrev S1024x4096 : Shape := ⟨2, ![1024, 4096]⟩
abbrev S2x6144 : Shape := ⟨2, ![2, 6144]⟩
abbrev S2x1024 : Shape := ⟨2, ![2, 1024]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S2x2048x4096 : Shape := ⟨3, ![2, 2048, 4096]⟩
abbrev S2x8x1024 : Shape := ⟨3, ![2, 8, 1024]⟩
abbrev S4096x4096 : Shape := ⟨2, ![4096, 4096]⟩

abbrev nBuf : Space → Nat
  | .hbm => 220
  | .vmem => 0
  | .smem => 0
  | _ => 0

abbrev hbmTy0_0 (i : Nat) : BufTy := match i % 128 with
  | 0 => ⟨S4096x512, .bf16⟩
  | 1 => ⟨S4096x512, .bf16⟩
  | 2 => ⟨S4096x1024, .f32⟩
  | 3 => ⟨S4096x1024, .f32⟩
  | 4 => ⟨S3x6144, .f32⟩
  | 5 => ⟨S1x1024, .f32⟩
  | 6 => ⟨S1x1024, .f32⟩
  | 7 => ⟨S1024x1024, .bf16⟩
  | 8 => ⟨S1024x4096, .bf16⟩
  | 9 => ⟨S4096x1024, .bf16⟩
  | 10 => ⟨S2x6144, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S2x1024, .f32⟩
  | 17 => ⟨S2x1x1024, .f32⟩
  | 18 => ⟨S2x1x1024, .f32⟩
  | 19 => ⟨S2x1x1024, .f32⟩
  | 20 => ⟨S2x1x1024, .f32⟩
  | 21 => ⟨S2x1x1024, .f32⟩
  | 22 => ⟨S2x1x1024, .f32⟩
  | 23 => ⟨S2x2048x1024, .f32⟩
  | 24 => ⟨S2x2048x1024, .f32⟩
  | 25 => ⟨S1024x1024, .f32⟩
  | 26 => ⟨S1024x4096, .f32⟩
  | 27 => ⟨S4096x1024, .f32⟩
  | 28 => ⟨S2x1x1024, .f32⟩
  | 29 => ⟨S2x1x1024, .f32⟩
  | 30 => ⟨S4096x1024, .bf16⟩
  | 31 => ⟨S2x2048x1024, .bf16⟩
  | 32 => ⟨S2x2048x1024, .f32⟩
  | 33 => ⟨S2x2048x1024, .f32⟩
  | 34 => ⟨S2x2048x1024, .f32⟩
  | 35 => ⟨S2x2048x1024, .f32⟩
  | 36 => ⟨S2x2048x1024, .f32⟩
  | 37 => ⟨S2x2048x1024, .f32⟩
  | 38 => ⟨S_, .f32⟩
  | 39 => ⟨S2x2048, .f32⟩
  | 40 => ⟨S2x2048x1, .f32⟩
  | 41 => ⟨S_, .f32⟩
  | 42 => ⟨S2x2048x1, .f32⟩
  | 43 => ⟨S2x2048x1, .f32⟩
  | 44 => ⟨S_, .f32⟩
  | 45 => ⟨S2x2048x1, .f32⟩
  | 46 => ⟨S2x2048x1, .f32⟩
  | 47 => ⟨S2x2048x1, .f32⟩
  | 48 => ⟨S2x2048x1, .f32⟩
  | 49 => ⟨S_, .f32⟩
  | 50 => ⟨S2x2048x1, .f32⟩
  | 51 => ⟨S2x2048x1, .f32⟩
  | 52 => ⟨S2x2048x1024, .f32⟩
  | 53 => ⟨S2x2048x1024, .f32⟩
  | 54 => ⟨S2x2048x1024, .f32⟩
  | 55 => ⟨S2x2048x1024, .f32⟩
  | 56 => ⟨S_, .f32⟩
  | 57 => ⟨S2x1x1024, .f32⟩
  | 58 => ⟨S2x1x1024, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x4096, .f32⟩
  | 64 => ⟨S_, .f32⟩
  | 65 => ⟨S2x2048x4096, .f32⟩
  | 66 => ⟨S2x2048x4096, .f32⟩
  | 67 => ⟨S_, .f32⟩
  | 68 => ⟨S2x2048x4096, .f32⟩
  | 69 => ⟨S2x2048x4096, .i1⟩
  | 70 => ⟨S_, .f32⟩
  | 71 => ⟨S2x2048x4096, .f32⟩
  | 72 => ⟨S2x2048x4096, .f32⟩
  | 73 => ⟨S_, .f32⟩
  | 74 => ⟨S2x2048x4096, .f32⟩
  | 75 => ⟨S2x2048x4096, .f32⟩
  | 76 => ⟨S2x2048x1024, .f32⟩
  | 77 => ⟨S2x2048x1024, .f32⟩
  | 78 => ⟨S2x2048x1024, .f32⟩
  | 79 => ⟨S2x2048x1024, .f32⟩
  | 80 => ⟨S2x2048x1024, .f32⟩
  | 81 => ⟨S_, .f32⟩
  | 82 => ⟨S2x2048, .f32⟩
  | 83 => ⟨S2x2048x1, .f32⟩
  | 84 => ⟨S_, .f32⟩
  | 85 => ⟨S2x2048x1, .f32⟩
  | 86 => ⟨S2x2048x1, .f32⟩
  | 87 => ⟨S_, .f32⟩
  | 88 => ⟨S2x2048x1, .f32⟩
  | 89 => ⟨S2x2048x1, .f32⟩
  | 90 => ⟨S2x2048x1, .f32⟩
  | 91 => ⟨S2x2048x1, .f32⟩
  | 92 => ⟨S_, .f32⟩
  | 93 => ⟨S2x2048x1, .f32⟩
  | 94 => ⟨S2x2048x1, .f32⟩
  | 95 => ⟨S2x2048x1024, .f32⟩
  | 96 => ⟨S2x2048x1024, .f32⟩
  | 97 => ⟨S2x2048x1024, .f32⟩
  | 98 => ⟨S2x2048x1024, .f32⟩
  | 99 => ⟨S2x2048x1024, .f32⟩
  | 100 => ⟨S2x2048x1024, .f32⟩
  | 101 => ⟨S_, .f32⟩
  | 102 => ⟨S2x2048x1024, .f32⟩
  | 103 => ⟨S2x2048x1024, .f32⟩
  | 104 => ⟨S_, .f32⟩
  | 105 => ⟨S2x2048, .f32⟩
  | 106 => ⟨S_, .f32⟩
  | 107 => ⟨S2x2048, .f32⟩
  | 108 => ⟨S2x2048, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S2x2048, .f32⟩
  | 117 => ⟨S_, .f32⟩
  | 118 => ⟨S2x2048, .f32⟩
  | 119 => ⟨S2x2048, .f32⟩
  | 120 => ⟨S2x2048x1024, .f32⟩
  | 121 => ⟨S2x2048x1024, .f32⟩
  | 122 => ⟨S2x2048x1024, .f32⟩
  | 123 => ⟨S_, .f32⟩
  | 124 => ⟨S2x1024, .f32⟩
  | 125 => ⟨S2x1x1024, .f32⟩
  | 126 => ⟨S2x2048x1024, .f32⟩
  | 127 => ⟨S2x2048x1024, .f32⟩
  | _ => ⟨S4096x512, .bf16⟩

abbrev hbmTy0_1 (i : Nat) : BufTy := match i % 128 with
  | 0 => ⟨S2x2048x1024, .f32⟩
  | 1 => ⟨S_, .f32⟩
  | 2 => ⟨S2x2048, .f32⟩
  | 3 => ⟨S2x2048x1, .f32⟩
  | 4 => ⟨S2x2048x1024, .f32⟩
  | 5 => ⟨S2x2048x1024, .f32⟩
  | 6 => ⟨S2x2048x1, .f32⟩
  | 7 => ⟨S_, .f32⟩
  | 8 => ⟨S2x2048x1, .f32⟩
  | 9 => ⟨S2x2048x1, .f32⟩
  | 10 => ⟨S_, .f32⟩
  | 11 => ⟨S2x2048, .f32⟩
  | 12 => ⟨S2x2048x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S2x2048x1024, .f32⟩
  | 20 => ⟨S_, .f32⟩
  | 21 => ⟨S2x1024, .f32⟩
  | 22 => ⟨S2x1x1024, .f32⟩
  | 23 => ⟨S2x2048x4096, .f32⟩
  | 24 => ⟨S2x2048x4096, .f32⟩
  | 25 => ⟨S_, .f32⟩
  | 26 => ⟨S2x2048x4096, .f32⟩
  | 27 => ⟨S2x2048x4096, .f32⟩
  | 28 => ⟨S2x2048x4096, .f32⟩
  | 29 => ⟨S2x2048x1024, .f32⟩
  | 30 => ⟨S_, .f32⟩
  | 31 => ⟨S2x1024, .f32⟩
  | 32 => ⟨S2x1x1024, .f32⟩
  | 33 => ⟨S2x2048x1024, .f32⟩
  | 34 => ⟨S_, .f32⟩
  | 35 => ⟨S2x1024, .f32⟩
  | 36 => ⟨S2x1x1024, .f32⟩
  | 37 => ⟨S2x2048x1024, .f32⟩
  | 38 => ⟨S2x2048x1024, .f32⟩
  | 39 => ⟨S2x2048x1024, .f32⟩
  | 40 => ⟨S_, .f32⟩
  | 41 => ⟨S2x1024, .f32⟩
  | 42 => ⟨S2x1x1024, .f32⟩
  | 43 => ⟨S2x2048x1024, .f32⟩
  | 44 => ⟨S2x2048x1024, .f32⟩
  | 45 => ⟨S2x2048x1024, .f32⟩
  | 46 => ⟨S_, .f32⟩
  | 47 => ⟨S2x2048, .f32⟩
  | 48 => ⟨S2x2048x1, .f32⟩
  | 49 => ⟨S2x2048x1024, .f32⟩
  | 50 => ⟨S2x2048x1024, .f32⟩
  | 51 => ⟨S2x2048x1, .f32⟩
  | 52 => ⟨S_, .f32⟩
  | 53 => ⟨S2x2048x1, .f32⟩
  | 54 => ⟨S2x2048x1, .f32⟩
  | 55 => ⟨S_, .f32⟩
  | 56 => ⟨S2x2048, .f32⟩
  | 57 => ⟨S2x2048x1024, .f32⟩
  | 58 => ⟨S2x2048x1024, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x1024, .f32⟩
  | 64 => ⟨S2x2048x1024, .f32⟩
  | 65 => ⟨S2x2048x1024, .f32⟩
  | 66 => ⟨S_, .f32⟩
  | 67 => ⟨S2x1024, .f32⟩
  | 68 => ⟨S2x1x1024, .f32⟩
  | 69 => ⟨S2x2048x1024, .f32⟩
  | 70 => ⟨S2x2048x1024, .f32⟩
  | 71 => ⟨S_, .f32⟩
  | 72 => ⟨S2x1024, .f32⟩
  | 73 => ⟨S2x1x1024, .f32⟩
  | 74 => ⟨S_, .f32⟩
  | 75 => ⟨S2x1x1024, .f32⟩
  | 76 => ⟨S2x8x1024, .f32⟩
  | 77 => ⟨S4096x1024, .f32⟩
  | 78 => ⟨S4096x1024, .bf16⟩
  | 79 => ⟨S4096x4096, .f32⟩
  | 80 => ⟨S4096x4096, .bf16⟩
  | 81 => ⟨S4096x4096, .f32⟩
  | 82 => ⟨S4096x4096, .bf16⟩
  | 83 => ⟨S4096x1024, .f32⟩
  | 84 => ⟨S4096x1024, .bf16⟩
  | 85 => ⟨S4096x1024, .f32⟩
  | 86 => ⟨S4096x1024, .bf16⟩
  | 87 => ⟨S4096x1024, .f32⟩
  | 88 => ⟨S4096x1024, .bf16⟩
  | 89 => ⟨S4096x1024, .f32⟩
  | 90 => ⟨S4096x1024, .bf16⟩
  | 91 => ⟨S4096x1024, .f32⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_cst : Ref sig .tc := ⟨.hbm, 64, rfl⟩
abbrev main_call0_v0 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_cst_5 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_11 : Ref sig .tc := ⟨.hbm, 101, rfl⟩
abbrev main_v77 : Ref sig .tc := ⟨.hbm, 102, rfl⟩
abbrev main_v78 : Ref sig .tc := ⟨.hbm, 103, rfl⟩
abbrev main_cst_12 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_cst_16 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_cst_18 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_20 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_cst_22 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_23 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_24 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_25 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_26 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_27 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_28 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_29 : Ref sig .tc := ⟨.hbm, 180, rfl⟩
abbrev main_v138 : Ref sig .tc := ⟨.hbm, 181, rfl⟩
abbrev main_v139 : Ref sig .tc := ⟨.hbm, 182, rfl⟩
abbrev main_cst_30 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_31 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_cst_32 : Ref sig .tc := ⟨.hbm, 199, rfl⟩
abbrev main_v154 : Ref sig .tc := ⟨.hbm, 200, rfl⟩
abbrev main_v155 : Ref sig .tc := ⟨.hbm, 201, rfl⟩
abbrev main_cst_33 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩

abbrev nD : Nat := 1
abbrev τ : Topo := Topo.v7x

variable {F : FTy → Type} [FloatOps F]
-- ==== GradFf2.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFf2ReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradFf1.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFf1ReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradOut.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradIn.lean ====
abbrev S4608x2304 : Shape := ⟨2, ![4608, 2304]⟩
abbrev S4608x1024 : Shape := ⟨2, ![4608, 1024]⟩
abbrev S2304x1024 : Shape := ⟨2, ![2304, 1024]⟩
abbrev S1536x1152 : Shape := ⟨2, ![1536, 1152]⟩
abbrev S1536x1024 : Shape := ⟨2, ![1536, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x2304, .bf16⟩
  | .hbm, ⟨1, _⟩ => ⟨S4608x1024, .bf16⟩
  | .hbm, ⟨2, _⟩ => ⟨S2304x1024, .f32⟩
  | .local _ .vmem, ⟨0, _⟩ => ⟨S1536x1152, .bf16⟩
  | .local _ .vmem, ⟨1, _⟩ => ⟨S1536x1152, .bf16⟩
  | .local _ .vmem, ⟨2, _⟩ => ⟨S1536x1024, .bf16⟩
  | .local _ .vmem, ⟨3, _⟩ => ⟨S1536x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S4608x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInReferenceIdeal.lean ====
abbrev S4608x2304 : Shape := ⟨2, ![4608, 2304]⟩
abbrev S4608x1024 : Shape := ⟨2, ![4608, 1024]⟩
abbrev S_ : Shape := ⟨0, ![]⟩
abbrev S2304x1024 : Shape := ⟨2, ![2304, 1024]⟩
abbrev S1024x2304 : Shape := ⟨2, ![1024, 2304]⟩

abbrev nBuf : Space → Nat
  | .hbm => 11
  | .vmem => 0
  | .smem => 0
  | _ => 0

abbrev bufTy : (tb : Table) → Fin (tcTables nBuf tb) → BufTy
  | .hbm, ⟨0, _⟩ => ⟨S4608x2304, .bf16⟩
  | .hbm, ⟨1, _⟩ => ⟨S4608x1024, .bf16⟩
  | .hbm, ⟨2, _⟩ => ⟨S_, .f32⟩
  | .hbm, ⟨3, _⟩ => ⟨S2304x1024, .f32⟩
  | .hbm, ⟨4, _⟩ => ⟨S4608x1024, .f32⟩
  | .hbm, ⟨5, _⟩ => ⟨S1024x2304, .f32⟩
  | .hbm, ⟨6, _⟩ => ⟨S4608x2304, .f32⟩
  | .hbm, ⟨7, _⟩ => ⟨S4608x2304, .f32⟩
  | .hbm, ⟨8, _⟩ => ⟨S2304x1024, .f32⟩
  | .hbm, ⟨9, _⟩ => ⟨S1024x2304, .f32⟩
  | .hbm, ⟨10, _⟩ => ⟨S2304x1024, .f32⟩
  | _, _ => ⟨S4608x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradUq.lean ====
abbrev S4608x1024 : Shape := ⟨2, ![4608, 1024]⟩
abbrev S4608x384 : Shape := ⟨2, ![4608, 384]⟩
abbrev S1024x384 : Shape := ⟨2, ![1024, 384]⟩
abbrev S1536x1024 : Shape := ⟨2, ![1536, 1024]⟩
abbrev S1536x384 : Shape := ⟨2, ![1536, 384]⟩

abbrev nBuf : Space → Nat
  | .hbm => 3
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S4608x384, .bf16⟩
  | .hbm, ⟨2, _⟩ => ⟨S1024x384, .f32⟩
  | .local _ .vmem, ⟨0, _⟩ => ⟨S1536x1024, .bf16⟩
  | .local _ .vmem, ⟨1, _⟩ => ⟨S1536x1024, .bf16⟩
  | .local _ .vmem, ⟨2, _⟩ => ⟨S1536x384, .bf16⟩
  | .local _ .vmem, ⟨3, _⟩ => ⟨S1536x384, .bf16⟩
  | .local _ .vmem, ⟨4, _⟩ => ⟨S1024x384, .f32⟩
  | .local _ .vmem, ⟨5, _⟩ => ⟨S1024x384, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradUqReferenceIdeal.lean ====
abbrev S4608x1024 : Shape := ⟨2, ![4608, 1024]⟩
abbrev S4608x384 : Shape := ⟨2, ![4608, 384]⟩
abbrev S_ : Shape := ⟨0, ![]⟩
abbrev S1024x384 : Shape := ⟨2, ![1024, 384]⟩
abbrev S384x1024 : Shape := ⟨2, ![384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x384, .bf16⟩
  | .hbm, ⟨2, _⟩ => ⟨S_, .f32⟩
  | .hbm, ⟨3, _⟩ => ⟨S1024x384, .f32⟩
  | .hbm, ⟨4, _⟩ => ⟨S4608x384, .f32⟩
  | .hbm, ⟨5, _⟩ => ⟨S384x1024, .f32⟩
  | .hbm, ⟨6, _⟩ => ⟨S4608x1024, .f32⟩
  | .hbm, ⟨7, _⟩ => ⟨S4608x1024, .f32⟩
  | .hbm, ⟨8, _⟩ => ⟨S1024x384, .f32⟩
  | .hbm, ⟨9, _⟩ => ⟨S384x1024, .f32⟩
  | .hbm, ⟨10, _⟩ => ⟨S1024x384, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradUkv.lean ====
abbrev S4608x256 : Shape := ⟨2, ![4608, 256]⟩
abbrev S4608x1024 : Shape := ⟨2, ![4608, 1024]⟩
abbrev S4x256x256 : Shape := ⟨3, ![4, 256, 256]⟩
abbrev S1536x256 : Shape := ⟨2, ![1536, 256]⟩
abbrev S1536x1024 : Shape := ⟨2, ![1536, 1024]⟩
abbrev S256x256 : Shape := ⟨2, ![256, 256]⟩
abbrev S1x256x256 : Shape := ⟨3, ![1, 256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4608x256, .bf16⟩
  | .hbm, ⟨1, _⟩ => ⟨S4608x1024, .bf16⟩
  | .hbm, ⟨2, _⟩ => ⟨S4x256x256, .f32⟩
  | .local _ .vmem, ⟨0, _⟩ => ⟨S1536x256, .bf16⟩
  | .local _ .vmem, ⟨1, _⟩ => ⟨S1536x256, .bf16⟩
  | .local _ .vmem, ⟨2, _⟩ => ⟨S1536x1024, .bf16⟩
  | .local _ .vmem, ⟨3, _⟩ => ⟨S1536x1024, .bf16⟩
  | .local _ .vmem, ⟨4, _⟩ => ⟨S4x256x256, .f32⟩
  | .local _ .vmem, ⟨5, _⟩ => ⟨S4x256x256, .f32⟩
  | _, _ => ⟨S4608x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v18 : BitVec 1 := Scalar.cmpi .eq arg2 c2_i32
  let v19 : BitVec 32 := Scalar.extui v18
  let c0_i32_18 : BitVec 32 := 0#32
  let v20 : BitVec 1 := Scalar.cmpi .ne v19 c0_i32_18
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradUkvReferenceIdeal.lean ====
abbrev S4608x256 : Shape := ⟨2, ![4608, 256]⟩
abbrev S4608x1024 : Shape := ⟨2, ![4608, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S4608x256, .bf16⟩
  | .hbm, ⟨1, _⟩ => ⟨S4608x1024, .bf16⟩
  | .hbm, ⟨2, _⟩ => ⟨S_, .f32⟩
  | .hbm, ⟨3, _⟩ => ⟨S256x1024, .f32⟩
  | .hbm, ⟨4, _⟩ => ⟨S4608x256, .f32⟩
  | .hbm, ⟨5, _⟩ => ⟨S4608x1024, .f32⟩
  | .hbm, ⟨6, _⟩ => ⟨S4608x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | _, _ => ⟨S4608x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ada.lean ====
abbrev S24x1024 : Shape := ⟨2, ![24, 1024]⟩
abbrev S24x1536 : Shape := ⟨2, ![24, 1536]⟩
abbrev S1024x1536 : Shape := ⟨2, ![1024, 1536]⟩
abbrev S24x256 : Shape := ⟨2, ![24, 256]⟩
abbrev S256x1536 : Shape := ⟨2, ![256, 1536]⟩

abbrev nBuf : Space → Nat
  | .hbm => 10
  | .vmem => 19
  | .smem => 0
  | _ => 0

abbrev bufTy : (tb : Table) → Fin (tcTables nBuf tb) → BufTy
  | .hbm, ⟨0, _⟩ => ⟨S24x1024, .f32⟩
  | .hbm, ⟨1, _⟩ => ⟨S24x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S24x1024, .f32⟩
  | .hbm, ⟨7, _⟩ => ⟨S1024x1536, .f32⟩
  | .hbm, ⟨8, _⟩ => ⟨S1024x1536, .f32⟩
  | .hbm, ⟨9, _⟩ => ⟨S1024x1536, .f32⟩
  | .local _ .vmem, ⟨0, _⟩ => ⟨S24x256, .f32⟩
  | .local _ .vmem, ⟨1, _⟩ => ⟨S24x256, .f32⟩
  | .local _ .vmem, ⟨2, _⟩ => ⟨S24x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S24x256, .f32⟩
  | .local _ .vmem, ⟨12, _⟩ => ⟨S24x256, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | .local _ .vmem, ⟨18, _⟩ => ⟨S256x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdaReferenceIdeal.lean ====
abbrev S24x1024 : Shape := ⟨2, ![24, 1024]⟩
abbrev S24x1536 : Shape := ⟨2, ![24, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 61
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S24x1024, .f32⟩
  | .hbm, ⟨14, _⟩ => ⟨S24x1536, .f32⟩
  | .hbm, ⟨15, _⟩ => ⟨S1536x1024, .f32⟩
  | .hbm, ⟨16, _⟩ => ⟨S1024x1536, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S24x1536, .f32⟩
  | .hbm, ⟨27, _⟩ => ⟨S24x1024, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S_, .f32⟩
  | .hbm, ⟨32, _⟩ => ⟨S1024x1536, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S_, .f32⟩
  | .hbm, ⟨47, _⟩ => ⟨S1024x1536, .f32⟩
  | .hbm, ⟨48, _⟩ => ⟨S1024x1536, .f32⟩
  | .hbm, ⟨49, _⟩ => ⟨S1024x1536, .f32⟩
  | .hbm, ⟨50, _⟩ => ⟨S_, .f32⟩
  | .hbm, ⟨51, _⟩ => ⟨S1024x1536, .f32⟩
  | .hbm, ⟨52, _⟩ => ⟨S1024x1536, .f32⟩
  | .hbm, ⟨53, _⟩ => ⟨S1024x1536, .f32⟩
  | .hbm, ⟨54, _⟩ => ⟨S_, .f32⟩
  | .hbm, ⟨55, _⟩ => ⟨S1024x1536, .f32⟩
  | .hbm, ⟨56, _⟩ => ⟨S1024x1536, .f32⟩
  | .hbm, ⟨57, _⟩ => ⟨S1024x1536, .f32⟩
  | .hbm, ⟨58, _⟩ => ⟨S_, .f32⟩
  | .hbm, ⟨59, _⟩ => ⟨S1024x1536, .f32⟩
  | .hbm, ⟨60, _⟩ => ⟨S1024x1536, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_cst_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_7 : Ref sig .tc := ⟨.hbm, 58, rfl⟩
abbrev main_v29 : Ref sig .tc := ⟨.hbm, 59, rfl⟩
abbrev main_v30 : Ref sig .tc := ⟨.hbm, 60, rfl⟩

abbrev nD : Nat := 1
abbrev τ : Topo := Topo.v7x

variable {F : FTy → Type} [FloatOps F]
-- ==== Rows.lean ====
abbrev S8x32x1024 : Shape := ⟨3, ![8, 32, 1024]⟩
abbrev S24x1024 : Shape := ⟨2, ![24, 1024]⟩
abbrev S1x16x1024 : Shape := ⟨3, ![1, 16, 1024]⟩
abbrev S16x1024 : Shape := ⟨2, ![16, 1024]⟩
abbrev S1x1x1024 : Shape := ⟨3, ![1, 1, 1024]⟩
abbrev S1x1024 : Shape := ⟨2, ![1, 1024]⟩
abbrev S2x1024 : Shape := ⟨2, ![2, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1024, .f32⟩
  | .hbm, ⟨1, _⟩ => ⟨S24x1024, .f32⟩
  | .local _ .vmem, ⟨0, _⟩ => ⟨S8x32x1024, .f32⟩
  | .local _ .vmem, ⟨1, _⟩ => ⟨S24x1024, .f32⟩
  | _, _ => ⟨S8x32x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RowsReferenceIdeal.lean ====
abbrev S8x32x1024 : Shape := ⟨3, ![8, 32, 1024]⟩
abbrev S_ : Shape := ⟨0, ![]⟩
abbrev S32x1024 : Shape := ⟨2, ![32, 1024]⟩
abbrev S6x1024 : Shape := ⟨2, ![6, 1024]⟩
abbrev S16x1024 : Shape := ⟨2, ![16, 1024]⟩
abbrev S2x1024 : Shape := ⟨2, ![2, 1024]⟩
abbrev S4x1024 : Shape := ⟨2, ![4, 1024]⟩
abbrev S24x1024 : Shape := ⟨2, ![24, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S_, .f32⟩
  | .hbm, ⟨2, _⟩ => ⟨S32x1024, .f32⟩
  | .hbm, ⟨3, _⟩ => ⟨S6x1024, .f32⟩
  | .hbm, ⟨4, _⟩ => ⟨S6x1024, .f32⟩
  | .hbm, ⟨5, _⟩ => ⟨S6x1024, .f32⟩
  | .hbm, ⟨6, _⟩ => ⟨S16x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S4x1024, .f32⟩
  | .hbm, ⟨11, _⟩ => ⟨S_, .f32⟩
  | .hbm, ⟨12, _⟩ => ⟨S2x1024, .f32⟩
  | .hbm, ⟨13, _⟩ => ⟨S24x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== StepOut.lean ====
abbrev S256x1024 : Shape := ⟨2, ![256, 1024]⟩
abbrev S128x1024 : Shape := ⟨2, ![128, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.subi arg0 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  ![v4.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.subi arg0 v2
  let c0_i32 : BitVec 32 := 0#32
  let c0_i32_1 : BitVec 32 := 0#32
  let v4 : BitVec 32 := Scalar.maxsi c0_i32 v3
  let v5 : BitVec 32 := Scalar.minsi c0_i32_1 v4
  let c0_i32_2 : BitVec 32 := 0#32
  let c0_i32_3 : BitVec 32 := 0#32
  ![v5.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepOutReferenceIdeal.lean ====
abbrev S256x1024 : Shape := ⟨2, ![256, 1024]⟩
abbrev S128x1024 : Shape := ⟨2, ![128, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== StepFf1.lean ====
abbrev S1024x1024 : Shape := ⟨2, ![1024, 1024]⟩
abbrev S512x1024 : Shape := ⟨2, ![512, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.subi arg0 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  ![v4.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.subi arg0 v2
  let c0_i32 : BitVec 32 := 0#32
  let c0_i32_1 : BitVec 32 := 0#32
  let v4 : BitVec 32 := Scalar.maxsi c0_i32 v3
  let v5 : BitVec 32 := Scalar.minsi c0_i32_1 v4
  let c0_i32_2 : BitVec 32 := 0#32
  let c0_i32_3 : BitVec 32 := 0#32
  ![v5.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepFf1ReferenceIdeal.lean ====
abbrev S1024x1024 : Shape := ⟨2, ![1024, 1024]⟩
abbrev S512x1024 : Shape := ⟨2, ![512, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== StepFf2.lean ====
abbrev S1024x1024 : Shape := ⟨2, ![1024, 1024]⟩
abbrev S512x1024 : Shape := ⟨2, ![512, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.subi arg0 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  ![v4.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.subi arg0 v2
  let c0_i32 : BitVec 32 := 0#32
  let c0_i32_1 : BitVec 32 := 0#32
  let v4 : BitVec 32 := Scalar.maxsi c0_i32 v3
  let v5 : BitVec 32 := Scalar.minsi c0_i32_1 v4
  let c0_i32_2 : BitVec 32 := 0#32
  let c0_i32_3 : BitVec 32 := 0#32
  ![v5.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepFf2ReferenceIdeal.lean ====
abbrev S1024x1024 : Shape := ⟨2, ![1024, 1024]⟩
abbrev S512x1024 : Shape := ⟨2, ![512, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== StepIn.lean ====
abbrev S560x1024 : Shape := ⟨2, ![560, 1024]⟩
abbrev S280x1024 : Shape := ⟨2, ![280, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S560x1024, .f32⟩
  | .hbm, ⟨1, _⟩ => ⟨S280x1024, .f32⟩
  | .hbm, ⟨2, _⟩ => ⟨S280x1024, .f32⟩
  | .hbm, ⟨3, _⟩ => ⟨S560x1024, .f32⟩
  | .hbm, ⟨4, _⟩ => ⟨S560x1024, .f32⟩
  | .hbm, ⟨5, _⟩ => ⟨S560x1024, .f32⟩
  | .hbm, ⟨6, _⟩ => ⟨S560x1024, .f32⟩
  | .hbm, ⟨7, _⟩ => ⟨S560x1024, .f32⟩
  | .hbm, ⟨8, _⟩ => ⟨S560x1024, .f32⟩
  | .local _ .vmem, ⟨0, _⟩ => ⟨S280x1024, .f32⟩
  | .local _ .vmem, ⟨1, _⟩ => ⟨S280x1024, .f32⟩
  | .local _ .vmem, ⟨2, _⟩ => ⟨S280x1024, .f32⟩
  | .local _ .vmem, ⟨3, _⟩ => ⟨S280x1024, .f32⟩
  | .local _ .vmem, ⟨4, _⟩ => ⟨S280x1024, .f32⟩
  | .local _ .vmem, ⟨5, _⟩ => ⟨S280x1024, .f32⟩
  | .local _ .vmem, ⟨6, _⟩ => ⟨S280x1024, .f32⟩
  | .local _ .vmem, ⟨7, _⟩ => ⟨S280x1024, .f32⟩
  | .local _ .vmem, ⟨8, _⟩ => ⟨S280x1024, .f32⟩
  | .local _ .vmem, ⟨9, _⟩ => ⟨S280x1024, .f32⟩
  | .local _ .vmem, ⟨10, _⟩ => ⟨S280x1024, .f32⟩
  | .local _ .vmem, ⟨11, _⟩ => ⟨S280x1024, .f32⟩
  | .local _ .vmem, ⟨12, _⟩ => ⟨S280x1024, .f32⟩
  | .local _ .vmem, ⟨13, _⟩ => ⟨S280x1024, .f32⟩
  | .local _ .vmem, ⟨14, _⟩ => ⟨S280x1024, .f32⟩
  | .local _ .vmem, ⟨15, _⟩ => ⟨S280x1024, .f32⟩
  | .local _ .vmem, ⟨16, _⟩ => ⟨S280x1024, .f32⟩
  | .local _ .vmem, ⟨17, _⟩ => ⟨S280x1024, .f32⟩
  | .local _ .smem, ⟨0, _⟩ => ⟨S1, .i32⟩
  | _, _ => ⟨S560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.subi arg0 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  ![v4.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.subi arg0 v2
  let c0_i32 : BitVec 32 := 0#32
  let c0_i32_1 : BitVec 32 := 0#32
  let v4 : BitVec 32 := Scalar.maxsi c0_i32 v3
  let v5 : BitVec 32 := Scalar.minsi c0_i32_1 v4
  let c0_i32_2 : BitVec 32 := 0#32
  let c0_i32_3 : BitVec 32 := 0#32
  ![v5.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S280x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S280x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S280x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S280x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepInReferenceIdeal.lean ====
abbrev S560x1024 : Shape := ⟨2, ![560, 1024]⟩
abbrev S280x1024 : Shape := ⟨2, ![280, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S560x1024, .f32⟩
  | .hbm, ⟨1, _⟩ => ⟨S280x1024, .f32⟩
  | .hbm, ⟨2, _⟩ => ⟨S280x1024, .f32⟩
  | .hbm, ⟨3, _⟩ => ⟨S560x1024, .f32⟩
  | .hbm, ⟨4, _⟩ => ⟨S560x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S280x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S280x1024, .f32⟩
  | .hbm, ⟨14, _⟩ => ⟨S560x1024, .f32⟩
  | .hbm, ⟨15, _⟩ => ⟨S_, .f32⟩
  | .hbm, ⟨16, _⟩ => ⟨S560x1024, .f32⟩
  | .hbm, ⟨17, _⟩ => ⟨S560x1024, .f32⟩
  | .hbm, ⟨18, _⟩ => ⟨S_, .f32⟩
  | .hbm, ⟨19, _⟩ => ⟨S560x1024, .f32⟩
  | .hbm, ⟨20, _⟩ => ⟨S560x1024, .f32⟩
  | .hbm, ⟨21, _⟩ => ⟨S560x1024, .f32⟩
  | .hbm, ⟨22, _⟩ => ⟨S_, .f32⟩
  | .hbm, ⟨23, _⟩ => ⟨S560x1024, .f32⟩
  | .hbm, ⟨24, _⟩ => ⟨S560x1024, .f32⟩
  | .hbm, ⟨25, _⟩ => ⟨S560x1024, .f32⟩
  | .hbm, ⟨26, _⟩ => ⟨S_, .f32⟩
  | .hbm, ⟨27, _⟩ => ⟨S560x1024, .f32⟩
  | .hbm, ⟨28, _⟩ => ⟨S560x1024, .f32⟩
  | .hbm, ⟨29, _⟩ => ⟨S560x1024, .f32⟩
  | .hbm, ⟨30, _⟩ => ⟨S_, .f32⟩
  | .hbm, ⟨31, _⟩ => ⟨S560x1024, .f32⟩
  | .hbm, ⟨32, _⟩ => ⟨S560x1024, .f32⟩
  | .hbm, ⟨33, _⟩ => ⟨S_, .f32⟩
  | .hbm, ⟨34, _⟩ => ⟨S560x1024, .f32⟩
  | .hbm, ⟨35, _⟩ => ⟨S560x1024, .f32⟩
  | .hbm, ⟨36, _⟩ => ⟨S560x1024, .f32⟩
  | .hbm, ⟨37, _⟩ => ⟨S_, .f32⟩
  | .hbm, ⟨38, _⟩ => ⟨S560x1024, .f32⟩
  | .hbm, ⟨39, _⟩ => ⟨S560x1024, .f32⟩
  | .hbm, ⟨40, _⟩ => ⟨S560x1024, .f32⟩
  | .hbm, ⟨41, _⟩ => ⟨S_, .f32⟩
  | .hbm, ⟨42, _⟩ => ⟨S560x1024, .f32⟩
  | .hbm, ⟨43, _⟩ => ⟨S560x1024, .f32⟩
  | .hbm, ⟨44, _⟩ => ⟨S560x1024, .f32⟩
  | .hbm, ⟨45, _⟩ => ⟨S_, .f32⟩
  | .hbm, ⟨46, _⟩ => ⟨S560x1024, .f32⟩
  | .hbm, ⟨47, _⟩ => ⟨S560x1024, .f32⟩
  | _, _ => ⟨S560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== StepUq.lean ====
abbrev S192x384 : Shape := ⟨2, ![192, 384]⟩
abbrev S96x384 : Shape := ⟨2, ![96, 384]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S192x384, .f32⟩
  | .hbm, ⟨1, _⟩ => ⟨S96x384, .f32⟩
  | .hbm, ⟨2, _⟩ => ⟨S96x384, .f32⟩
  | .hbm, ⟨3, _⟩ => ⟨S192x384, .f32⟩
  | .hbm, ⟨4, _⟩ => ⟨S192x384, .f32⟩
  | .hbm, ⟨5, _⟩ => ⟨S192x384, .f32⟩
  | .hbm, ⟨6, _⟩ => ⟨S192x384, .f32⟩
  | .hbm, ⟨7, _⟩ => ⟨S192x384, .f32⟩
  | .hbm, ⟨8, _⟩ => ⟨S192x384, .f32⟩
  | .local _ .vmem, ⟨0, _⟩ => ⟨S96x384, .f32⟩
  | .local _ .vmem, ⟨1, _⟩ => ⟨S96x384, .f32⟩
  | .local _ .vmem, ⟨2, _⟩ => ⟨S96x384, .f32⟩
  | .local _ .vmem, ⟨3, _⟩ => ⟨S96x384, .f32⟩
  | .local _ .vmem, ⟨4, _⟩ => ⟨S96x384, .f32⟩
  | .local _ .vmem, ⟨5, _⟩ => ⟨S96x384, .f32⟩
  | .local _ .vmem, ⟨6, _⟩ => ⟨S96x384, .f32⟩
  | .local _ .vmem, ⟨7, _⟩ => ⟨S96x384, .f32⟩
  | .local _ .vmem, ⟨8, _⟩ => ⟨S96x384, .f32⟩
  | .local _ .vmem, ⟨9, _⟩ => ⟨S96x384, .f32⟩
  | .local _ .vmem, ⟨10, _⟩ => ⟨S96x384, .f32⟩
  | .local _ .vmem, ⟨11, _⟩ => ⟨S96x384, .f32⟩
  | .local _ .vmem, ⟨12, _⟩ => ⟨S96x384, .f32⟩
  | .local _ .vmem, ⟨13, _⟩ => ⟨S96x384, .f32⟩
  | .local _ .vmem, ⟨14, _⟩ => ⟨S96x384, .f32⟩
  | .local _ .vmem, ⟨15, _⟩ => ⟨S96x384, .f32⟩
  | .local _ .vmem, ⟨16, _⟩ => ⟨S96x384, .f32⟩
  | .local _ .vmem, ⟨17, _⟩ => ⟨S96x384, .f32⟩
  | .local _ .smem, ⟨0, _⟩ => ⟨S1, .i32⟩
  | _, _ => ⟨S192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.subi arg0 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  ![v4.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.subi arg0 v2
  let c0_i32 : BitVec 32 := 0#32
  let c0_i32_1 : BitVec 32 := 0#32
  let v4 : BitVec 32 := Scalar.maxsi c0_i32 v3
  let v5 : BitVec 32 := Scalar.minsi c0_i32_1 v4
  let c0_i32_2 : BitVec 32 := 0#32
  let c0_i32_3 : BitVec 32 := 0#32
  ![v5.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S96x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepUqReferenceIdeal.lean ====
abbrev S192x384 : Shape := ⟨2, ![192, 384]⟩
abbrev S96x384 : Shape := ⟨2, ![96, 384]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S192x384, .f32⟩
  | .hbm, ⟨1, _⟩ => ⟨S96x384, .f32⟩
  | .hbm, ⟨2, _⟩ => ⟨S96x384, .f32⟩
  | .hbm, ⟨3, _⟩ => ⟨S192x384, .f32⟩
  | .hbm, ⟨4, _⟩ => ⟨S192x384, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S96x384, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S96x384, .f32⟩
  | .hbm, ⟨14, _⟩ => ⟨S192x384, .f32⟩
  | .hbm, ⟨15, _⟩ => ⟨S_, .f32⟩
  | .hbm, ⟨16, _⟩ => ⟨S192x384, .f32⟩
  | .hbm, ⟨17, _⟩ => ⟨S192x384, .f32⟩
  | .hbm, ⟨18, _⟩ => ⟨S_, .f32⟩
  | .hbm, ⟨19, _⟩ => ⟨S192x384, .f32⟩
  | .hbm, ⟨20, _⟩ => ⟨S192x384, .f32⟩
  | .hbm, ⟨21, _⟩ => ⟨S192x384, .f32⟩
  | .hbm, ⟨22, _⟩ => ⟨S_, .f32⟩
  | .hbm, ⟨23, _⟩ => ⟨S192x384, .f32⟩
  | .hbm, ⟨24, _⟩ => ⟨S192x384, .f32⟩
  | .hbm, ⟨25, _⟩ => ⟨S192x384, .f32⟩
  | .hbm, ⟨26, _⟩ => ⟨S_, .f32⟩
  | .hbm, ⟨27, _⟩ => ⟨S192x384, .f32⟩
  | .hbm, ⟨28, _⟩ => ⟨S192x384, .f32⟩
  | .hbm, ⟨29, _⟩ => ⟨S192x384, .f32⟩
  | .hbm, ⟨30, _⟩ => ⟨S_, .f32⟩
  | .hbm, ⟨31, _⟩ => ⟨S192x384, .f32⟩
  | .hbm, ⟨32, _⟩ => ⟨S192x384, .f32⟩
  | .hbm, ⟨33, _⟩ => ⟨S_, .f32⟩
  | .hbm, ⟨34, _⟩ => ⟨S192x384, .f32⟩
  | .hbm, ⟨35, _⟩ => ⟨S192x384, .f32⟩
  | .hbm, ⟨36, _⟩ => ⟨S192x384, .f32⟩
  | .hbm, ⟨37, _⟩ => ⟨S_, .f32⟩
  | .hbm, ⟨38, _⟩ => ⟨S192x384, .f32⟩
  | .hbm, ⟨39, _⟩ => ⟨S192x384, .f32⟩
  | .hbm, ⟨40, _⟩ => ⟨S192x384, .f32⟩
  | .hbm, ⟨41, _⟩ => ⟨S_, .f32⟩
  | .hbm, ⟨42, _⟩ => ⟨S192x384, .f32⟩
  | .hbm, ⟨43, _⟩ => ⟨S192x384, .f32⟩
  | .hbm, ⟨44, _⟩ => ⟨S192x384, .f32⟩
  | .hbm, ⟨45, _⟩ => ⟨S_, .f32⟩
  | .hbm, ⟨46, _⟩ => ⟨S192x384, .f32⟩
  | .hbm, ⟨47, _⟩ => ⟨S192x384, .f32⟩
  | _, _ => ⟨S192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== StepUkv.lean ====
abbrev S256x256 : Shape := ⟨2, ![256, 256]⟩
abbrev S128x256 : Shape := ⟨2, ![128, 256]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S256x256, .f32⟩
  | .hbm, ⟨1, _⟩ => ⟨S128x256, .f32⟩
  | .hbm, ⟨2, _⟩ => ⟨S128x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .smem, ⟨0, _⟩ => ⟨S1, .i32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.subi arg0 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  ![v4.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.subi arg0 v2
  let c0_i32 : BitVec 32 := 0#32
  let c0_i32_1 : BitVec 32 := 0#32
  let v4 : BitVec 32 := Scalar.maxsi c0_i32 v3
  let v5 : BitVec 32 := Scalar.minsi c0_i32_1 v4
  let c0_i32_2 : BitVec 32 := 0#32
  let c0_i32_3 : BitVec 32 := 0#32
  ![v5.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== StepUkvReferenceIdeal.lean ====
abbrev S256x256 : Shape := ⟨2, ![256, 256]⟩
abbrev S128x256 : Shape := ⟨2, ![128, 256]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S128x256, .f32⟩
  | .hbm, ⟨2, _⟩ => ⟨S128x256, .f32⟩
  | .hbm, ⟨3, _⟩ => ⟨S256x256, .f32⟩
  | .hbm, ⟨4, _⟩ => ⟨S256x256, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S_, .f32⟩
  | .hbm, ⟨46, _⟩ => ⟨S256x256, .f32⟩
  | .hbm, ⟨47, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.GradFf2Sum.lean ====
/- The gradient of the second feed-forward layer's weights: the product of a saved array and a gradient over 4096 rows, added up from 2 tiles of 2048 rows
   in a running sum that starts at a block's first tile and is written out at its last. The array the call leaves is the whole sum. -/
module

public import proofs.«01_k».proof.Proof.Gen.GradFf2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GradFf2

open Cert.GradFf2Ideal Cert.GradFf2Ideal.Gen Idealize.ShloMosaic Idealize.ShloMosaic.TcCoe Idealize.SL.Sem

variable (m : (ℓ : Loc nD τ sig) → Buf (Elt Ideal) ℓ) (c : Dev nD)

/-- The left argument. -/
abbrev left : FVec Ideal S4096x4096 .bf16 := m ((c : Thread nD τ).loc main_arg0)
/-- The right argument. -/
abbrev right : FVec Ideal S4096x1024 .bf16 := m ((c : Thread nD τ).loc main_arg1)

/-- The block index of each window at a point. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

theorem lt_points (t : Fin cfg0.N) : t.val < 8 := lt_of_lt_of_eq t.isLt (by decide +kernel : cfg0.N = 8)

/-- The array's row that row `i` of block `q` is. -/
def row (q : Fin 4) (i : Fin 1024) : Fin 4096 := ⟨q * 1024 + i, by omega⟩
/-- One entry of the product, summed over all rows. -/
def entry (i : Fin 4096) (j : Fin 1024) : EReal := ∑ k : Fin 4096, left m c (ix2 k i) * right m c (ix2 k j)

variable (t : Fin cfg0.N)

/-- The point's tile of the left argument. -/
abbrev leftT : FVec Ideal S2048x1024 .bf16 := iblk m c 0 t
/-- Of the right one. -/
abbrev rightT : FVec Ideal S2048x1024 .bf16 := iblk m c 1 t

/-- What a point adds to an entry of its block. -/
def part (i : Fin 1024) (j : Fin 1024) : EReal := ∑ r : Fin 2048, leftT m c t (ix2 r i) * rightT m c t (ix2 r j)

theorem at0 (r : Fin 2048) (i : Fin 1024) : leftT m c t (ix2 r i)
    = left m c (ix2 ⟨t.val % 2 * 2048 + r, by have := Nat.mod_lt t.val (show 0 < 2 by decide); omega⟩ ⟨(t.val / 2) * 1024 + i, by have := lt_points t; omega⟩) := by
  have := lt_points t
  blk_ext [iblk, V, idx t]
theorem at1 (r : Fin 2048) (j : Fin 1024) : rightT m c t (ix2 r j)
    = right m c (ix2 ⟨t.val % 2 * 2048 + r, by have := Nat.mod_lt t.val (show 0 < 2 by decide); omega⟩ ⟨j, by have := lt_points t; omega⟩) := by
  have := lt_points t
  blk_ext [iblk, V, idx t]

/-- The running sum after a block's first tile. -/
theorem sum_A (h0 : t.val % 2 = 0) (h1 : ¬t.val % 2 = 1) (h2 : ¬t.val % 2 = 1) (i : Fin 1024) (j : Fin 1024) :
    (outsAt0 m c t.val t.isLt).2 (ix2 i j) = part m c t i j := by
  unfold part
  rw [outsAt0_A m c t h0 h1 h2]
  frame_out
  pointwise [k0_pay1, k0_pay2, k0_pay3, k0_pay4, zero_add]

/-- What is written out at a block's last tile. -/
theorem out_B (h0 : ¬t.val % 2 = 0) (h1 : t.val % 2 = 1) (h2 : t.val % 2 = 1) (i : Fin 1024) (j : Fin 1024) :
    (outsAt0 m c t.val t.isLt).1 (ix2 i j) = (outsAt0 m c (t.val - 1) (Nat.lt_of_le_of_lt (Nat.sub_le _ _) t.isLt)).2 (ix2 i j) + part m c t i j := by
  unfold part
  rw [outsAt0_B m c t h0 h1 h2]
  frame_out
  pointwise [k0_pay1, k0_pay2, k0_pay3, k0_pay4, zero_add]
  simp only [read_unread_whole]

/-- The point's share, read off the arguments: the rows of tile `s`, an entry of block `q`. -/
theorem part_eq (s : Fin 2) (q : Fin 4) (hs : t.val % 2 = s) (hq : t.val / 2 = q) (i : Fin 1024) (j : Fin 1024) :
    part m c t i j = ∑ r : Fin 2048, left m c (ix2 ⟨s * 2048 + r, by omega⟩ (row q i)) * right m c (ix2 ⟨s * 2048 + r, by omega⟩ j) := by
  unfold part
  refine Finset.sum_congr rfl fun r _ => ?_
  rw [at0, at1]
  simp only [hs, hq, row]

/-- What a block's last tile writes out: the sums over all rows. -/
theorem whole_at (q : Fin 4) (h : t.val % 2 = 1) (hq : t.val / 2 = q) (i : Fin 1024) (j : Fin 1024) :
    (outsAt0 m c t.val t.isLt).1 (ix2 i j) = entry m c (row q i) (j) := by
  refine (out_B m c t (by omega) h h i j).trans ?_
  rw [sum_A m c ⟨t.val - 1, (Nat.lt_of_le_of_lt (Nat.sub_le _ _) t.isLt)⟩ (show (t.val - 1) % 2 = 0 by omega) (show ¬(t.val - 1) % 2 = 1 by omega) (show ¬(t.val - 1) % 2 = 1 by omega) i j,
    part_eq m c ⟨t.val - 1, (Nat.lt_of_le_of_lt (Nat.sub_le _ _) t.isLt)⟩ 0 q (show (t.val - 1) % 2 = 0 by omega) (show (t.val - 1) / 2 = q by omega), part_eq m c t 1 q h hq]
  unfold entry
  rw [Fin.sum_univ_tiles 2 2048 rfl, Fin.sum_univ_two]

theorem whole (q : Fin 4) (h : t.val % 2 = 1) (hq : t.val / 2 = q) :
    (outsAt0 m c t.val t.isLt).1 = fun y : S1024x1024.Idx => entry m c (row q (y 0)) (y 1) :=
  funext fun y => (congrArg (outsAt0 m c t.val t.isLt).1 (ix2_eta y).symm).trans (whole_at m c t q h hq (y 0) (y 1))

/-- The array the call leaves. -/
theorem final : (dats m 0 c).arrAt 2 cfg0.N = fun i : S4096x1024.Idx => entry m c (i 0) (i 1) := by
  refine (dats m 0 c).arrAt_eq_of_covers 2 _ (by decide +kernel) fun t hf y => ?_
  have h := (flush0_2 t).mp hf
  obtain ⟨q, hq⟩ : ∃ q : Fin 4, t.val / 2 = q := ⟨⟨t.val / 2, by have := lt_points t; omega⟩, rfl⟩
  have e : (win0_2.blk t).view.emb y = (ix2 (row q (y 0)) (y 1) : S4096x1024.Idx) := by
    have := lt_points t
    unfold row; blk_ext [idx t, hq]
  blk_simp
  rw [after0_2]
  refine (congrFun (whole m c t q h hq) y).trans ?_
  rw [e]
  rfl

end Cert.Proof.GradFf2
-- ==== Proof.GradFf1Sum.lean ====
/- The gradient of the first feed-forward layer's weights: the product of a saved array and a gradient over 4096 rows, added up from 2 tiles of 2048 rows
   in a running sum that starts at a block's first tile and is written out at its last. The array the call leaves is the whole sum. -/
module

public import proofs.«01_k».proof.Proof.Gen.GradFf1Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GradFf1

open Cert.GradFf1Ideal Cert.GradFf1Ideal.Gen Idealize.ShloMosaic Idealize.ShloMosaic.TcCoe Idealize.SL.Sem

variable (m : (ℓ : Loc nD τ sig) → Buf (Elt Ideal) ℓ) (c : Dev nD)

/-- The left argument. -/
abbrev left : FVec Ideal S4096x1024 .bf16 := m ((c : Thread nD τ).loc main_arg0)
/-- The right argument. -/
abbrev right : FVec Ideal S4096x4096 .bf16 := m ((c : Thread nD τ).loc main_arg1)

/-- The block index of each window at a point. -/
theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

theorem lt_points (t : Fin cfg0.N) : t.val < 8 := lt_of_lt_of_eq t.isLt (by decide +kernel : cfg0.N = 8)

/-- The array's column that column `j` of block `q` is. -/
def col (q : Fin 4) (j : Fin 1024) : Fin 4096 := ⟨q * 1024 + j, by omega⟩
/-- One entry of the product, summed over all rows. -/
def entry (i : Fin 1024) (j : Fin 4096) : EReal := ∑ k : Fin 4096, left m c (ix2 k i) * right m c (ix2 k j)

variable (t : Fin cfg0.N)

/-- The point's tile of the left argument. -/
abbrev leftT : FVec Ideal S2048x1024 .bf16 := iblk m c 0 t
/-- Of the right one. -/
abbrev rightT : FVec Ideal S2048x1024 .bf16 := iblk m c 1 t

/-- What a point adds to an entry of its block. -/
def part (i : Fin 1024) (j : Fin 1024) : EReal := ∑ r : Fin 2048, leftT m c t (ix2 r i) * rightT m c t (ix2 r j)

theorem at0 (r : Fin 2048) (i : Fin 1024) : leftT m c t (ix2 r i)
    = left m c (ix2 ⟨t.val % 2 * 2048 + r, by have := Nat.mod_lt t.val (show 0 < 2 by decide); omega⟩ ⟨i, by have := lt_points t; omega⟩) := by
  have := lt_points t
  blk_ext [iblk, V, idx t]
theorem at1 (r : Fin 2048) (j : Fin 1024) : rightT m c t (ix2 r j)
    = right m c (ix2 ⟨t.val % 2 * 2048 + r, by have := Nat.mod_lt t.val (show 0 < 2 by decide); omega⟩ ⟨(t.val / 2) * 1024 + j, by have := lt_points t; omega⟩) := by
  have := lt_points t
  blk_ext [iblk, V, idx t]

/-- The running sum after a block's first tile. -/
theorem sum_A (h0 : t.val % 2 = 0) (h1 : ¬t.val % 2 = 1) (h2 : ¬t.val % 2 = 1) (z : Fin 1) (i : Fin 1024) (j : Fin 1024) :
    (outsAt0 m c t.val t.isLt).2 (ix3 z i j) = part m c t i j := by
  unfold part
  rw [outsAt0_A m c t h0 h1 h2]
  obtain rfl : z = 0 := Subsingleton.elim _ _
  frame_out
  pointwise [k0_pay1, k0_pay2, k0_pay3, k0_pay4, zero_add]

/-- What is written out at a block's last tile. -/
theorem out_B (h0 : ¬t.val % 2 = 0) (h1 : t.val % 2 = 1) (h2 : t.val % 2 = 1) (z : Fin 1) (i : Fin 1024) (j : Fin 1024) :
    (outsAt0 m c t.val t.isLt).1 (ix3 z i j) = (outsAt0 m c (t.val - 1) (Nat.lt_of_le_of_lt (Nat.sub_le _ _) t.isLt)).2 (ix3 z i j) + part m c t i j := by
  unfold part
  rw [outsAt0_B m c t h0 h1 h2]
  obtain rfl : z = 0 := Subsingleton.elim _ _
  frame_out
  pointwise [k0_pay1, k0_pay2, k0_pay3, k0_pay4, zero_add]
  simp only [read_unread_whole]

/-- The point's share, read off the arguments: the rows of tile `s`, an entry of block `q`. -/
theorem part_eq (s : Fin 2) (q : Fin 4) (hs : t.val % 2 = s) (hq : t.val / 2 = q) (i : Fin 1024) (j : Fin 1024) :
    part m c t i j = ∑ r : Fin 2048, left m c (ix2 ⟨s * 2048 + r, by omega⟩ i) * right m c (ix2 ⟨s * 2048 + r, by omega⟩ (col q j)) := by
  unfold part
  refine Finset.sum_congr rfl fun r _ => ?_
  rw [at0, at1]
  simp only [hs, hq, col]

/-- What a block's last tile writes out: the sums over all rows. -/
theorem whole_at (q : Fin 4) (h : t.val % 2 = 1) (hq : t.val / 2 = q) (z : Fin 1) (i : Fin 1024) (j : Fin 1024) :
    (outsAt0 m c t.val t.isLt).1 (ix3 z i j) = entry m c (i) (col q j) := by
  refine (out_B m c t (by omega) h h z i j).trans ?_
  rw [sum_A m c ⟨t.val - 1, (Nat.lt_of_le_of_lt (Nat.sub_le _ _) t.isLt)⟩ (show (t.val - 1) % 2 = 0 by omega) (show ¬(t.val - 1) % 2 = 1 by omega) (show ¬(t.val - 1) % 2 = 1 by omega) z i j,
    part_eq m c ⟨t.val - 1, (Nat.lt_of_le_of_lt (Nat.sub_le _ _) t.isLt)⟩ 0 q (show (t.val - 1) % 2 = 0 by omega) (show (t.val - 1) / 2 = q by omega), part_eq m c t 1 q h hq]
  unfold entry
  rw [Fin.sum_univ_tiles 2 2048 rfl, Fin.sum_univ_two]

theorem whole (q : Fin 4) (h : t.val % 2 = 1) (hq : t.val / 2 = q) :
    (outsAt0 m c t.val t.isLt).1 = fun y : S1x1024x1024.Idx => entry m c (y 1) (col q (y 2)) :=
  funext fun y => (congrArg (outsAt0 m c t.val t.isLt).1 (ix3_eta y).symm).trans (whole_at m c t q h hq (y 0) (y 1) (y 2))

/-- The array the call leaves. -/
theorem final : (dats m 0 c).arrAt 2 cfg0.N = fun i : S4x1024x1024.Idx => entry m c (i 1) (col (i 0) (i 2)) := by
  refine (dats m 0 c).arrAt_eq_of_covers 2 _ (by decide +kernel) fun t hf y => ?_
  have h := (flush0_2 t).mp hf
  obtain ⟨q, hq⟩ : ∃ q : Fin 4, t.val / 2 = q := ⟨⟨t.val / 2, by have := lt_points t; omega⟩, rfl⟩
  have e : (win0_2.blk t).view.emb y = (ix3 q (y 1) (y 2) : S4x1024x1024.Idx) := by
    have := lt_points t
    blk_ext [idx t, hq]
  blk_simp
  rw [after0_2]
  refine (congrFun (whole m c t q h hq) y).trans ?_
  rw [e]
  rfl

end Cert.Proof.GradFf1
-- ==== Proof.GradOutSum.lean ====
/- The gradient of the output projection's weights: the product of a saved array and a gradient over 4096 rows, added up from 2 tiles of 2048 rows
   in a running sum that starts at a block's first tile and is written out at its last. The array the call leaves is the whole sum. -/
module

public import proofs.«01_k».proof.Proof.Gen.GradOutIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GradOut

open Cert.GradOutIdeal Cert.GradOutIdeal.Gen Idealize.ShloMosaic Idealize.ShloMosaic.TcCoe Idealize.SL.Sem

variable (m : (ℓ : Loc nD τ sig) → Buf (Elt Ideal) ℓ) (c : Dev nD)

/-- The left argument. -/
abbrev left : FVec Ideal S4096x1024 .bf16 := m ((c : Thread nD τ).loc main_arg0)
/-- The right argument. -/
abbrev right : FVec Ideal S4096x1024 .bf16 := m ((c : Thread nD τ).loc main_arg1)

/-- The block index of each window at a point. -/
theorem idx : ∀ t : Fin cfg0.N, win0_0.index t = ![t.val % 2, 0] ∧ win0_1.index t = ![t.val % 2, 0]
    ∧ win0_2.index t = ![0, 0] :=
  (by decide +kernel : ∀ t : Fin grid0.N, _)

theorem lt_points (t : Fin cfg0.N) : t.val < 2 := lt_of_lt_of_eq t.isLt (by decide +kernel : cfg0.N = 2)

/-- One entry of the product, summed over all rows. -/
def entry (i : Fin 1024) (j : Fin 1024) : EReal := ∑ k : Fin 4096, left m c (ix2 k i) * right m c (ix2 k j)

variable (t : Fin cfg0.N)

/-- The point's tile of the left argument. -/
abbrev leftT : FVec Ideal S2048x1024 .bf16 := iblk m c 0 t
/-- Of the right one. -/
abbrev rightT : FVec Ideal S2048x1024 .bf16 := iblk m c 1 t

/-- What a point adds to an entry of its block. -/
def part (i : Fin 1024) (j : Fin 1024) : EReal := ∑ r : Fin 2048, leftT m c t (ix2 r i) * rightT m c t (ix2 r j)

theorem at0 (r : Fin 2048) (i : Fin 1024) : leftT m c t (ix2 r i)
    = left m c (ix2 ⟨t.val % 2 * 2048 + r, by have := Nat.mod_lt t.val (show 0 < 2 by decide); omega⟩ ⟨i, by have := lt_points t; omega⟩) := by
  have := lt_points t
  blk_ext [iblk, V, idx t]
theorem at1 (r : Fin 2048) (j : Fin 1024) : rightT m c t (ix2 r j)
    = right m c (ix2 ⟨t.val % 2 * 2048 + r, by have := Nat.mod_lt t.val (show 0 < 2 by decide); omega⟩ ⟨j, by have := lt_points t; omega⟩) := by
  have := lt_points t
  blk_ext [iblk, V, idx t]

/-- The running sum after a block's first tile. -/
theorem sum_A (h0 : t.val % 2 = 0) (h1 : ¬t.val % 2 = 1) (h2 : ¬t.val % 2 = 1) (i : Fin 1024) (j : Fin 1024) :
    (outsAt0 m c t.val t.isLt).2 (ix2 i j) = part m c t i j := by
  unfold part
  rw [outsAt0_A m c t h0 h1 h2]
  frame_out
  pointwise [k0_pay1, k0_pay2, k0_pay3, k0_pay4, zero_add]

/-- What is written out at a block's last tile. -/
theorem out_B (h0 : ¬t.val % 2 = 0) (h1 : t.val % 2 = 1) (h2 : t.val % 2 = 1) (i : Fin 1024) (j : Fin 1024) :
    (outsAt0 m c t.val t.isLt).1 (ix2 i j) = (outsAt0 m c (t.val - 1) (Nat.lt_of_le_of_lt (Nat.sub_le _ _) t.isLt)).2 (ix2 i j) + part m c t i j := by
  unfold part
  rw [outsAt0_B m c t h0 h1 h2]
  frame_out
  pointwise [k0_pay1, k0_pay2, k0_pay3, k0_pay4, zero_add]
  simp only [read_unread_whole]

/-- The point's share, read off the arguments: the rows of tile `s`, an entry of block `q`. -/
theorem part_eq (s : Fin 2) (q : Fin 1) (hs : t.val % 2 = s) (hq : t.val / 2 = q) (i : Fin 1024) (j : Fin 1024) :
    part m c t i j = ∑ r : Fin 2048, left m c (ix2 ⟨s * 2048 + r, by omega⟩ i) * right m c (ix2 ⟨s * 2048 + r, by omega⟩ j) := by
  unfold part
  refine Finset.sum_congr rfl fun r _ => ?_
  rw [at0, at1]
  simp only [hs, hq]

/-- What a block's last tile writes out: the sums over all rows. -/
theorem whole_at (q : Fin 1) (h : t.val % 2 = 1) (hq : t.val / 2 = q) (i : Fin 1024) (j : Fin 1024) :
    (outsAt0 m c t.val t.isLt).1 (ix2 i j) = entry m c (i) (j) := by
  refine (out_B m c t (by omega) h h i j).trans ?_
  rw [sum_A m c ⟨t.val - 1, (Nat.lt_of_le_of_lt (Nat.sub_le _ _) t.isLt)⟩ (show (t.val - 1) % 2 = 0 by omega) (show ¬(t.val - 1) % 2 = 1 by omega) (show ¬(t.val - 1) % 2 = 1 by omega) i j,
    part_eq m c ⟨t.val - 1, (Nat.lt_of_le_of_lt (Nat.sub_le _ _) t.isLt)⟩ 0 q (show (t.val - 1) % 2 = 0 by omega) (show (t.val - 1) / 2 = q by omega), part_eq m c t 1 q h hq]
  unfold entry
  rw [Fin.sum_univ_tiles 2 2048 rfl, Fin.sum_univ_two]

theorem whole (q : Fin 1) (h : t.val % 2 = 1) (hq : t.val / 2 = q) :
    (outsAt0 m c t.val t.isLt).1 = fun y : S1024x1024.Idx => entry m c (y 0) (y 1) :=
  funext fun y => (congrArg (outsAt0 m c t.val t.isLt).1 (ix2_eta y).symm).trans (whole_at m c t q h hq (y 0) (y 1))

/-- The array the call leaves. -/
theorem final : (dats m 0 c).arrAt 2 cfg0.N = fun i : S1024x1024.Idx => entry m c (i 0) (i 1) := by
  refine (dats m 0 c).arrAt_eq_of_covers 2 _ (by decide +kernel) fun t hf y => ?_
  have h := (flush0_2 t).mp hf
  obtain ⟨q, hq⟩ : ∃ q : Fin 1, t.val / 2 = q := ⟨⟨t.val / 2, by have := lt_points t; omega⟩, rfl⟩
  have e : (win0_2.blk t).view.emb y = (ix2 (y 0) (y 1) : S1024x1024.Idx) := by
    have := lt_points t
    blk_ext [idx t, hq]
  blk_simp
  rw [after0_2]
  refine (congrFun (whole m c t q h hq) y).trans ?_
  rw [e]
  rfl

end Cert.Proof.GradOut
-- ==== Proof.GradInSum.lean ====
/- The gradient of the input projection's weights: the product of a saved array and a gradient over 4608 rows, added up from 3 tiles of 1536 rows
   in a running sum that starts at a block's first tile and is written out at its last. The array the call leaves is the whole sum. -/
module

public import proofs.«01_k».proof.Proof.Gen.GradInIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GradIn

open Cert.GradInIdeal Cert.GradInIdeal.Gen Idealize.ShloMosaic Idealize.ShloMosaic.TcCoe Idealize.SL.Sem

variable (m : (ℓ : Loc nD τ sig) → Buf (Elt Ideal) ℓ) (c : Dev nD)

/-- The left argument. -/
abbrev left : FVec Ideal S4608x2304 .bf16 := m ((c : Thread nD τ).loc main_arg0)
/-- The right argument. -/
abbrev right : FVec Ideal S4608x1024 .bf16 := m ((c : Thread nD τ).loc main_arg1)

/-- The block index of each window at a point. -/
theorem idx : ∀ t : Fin cfg0.N, win0_0.index t = ![t.val % 3, t.val / 3] ∧ win0_1.index t = ![t.val % 3, 0]
    ∧ win0_2.index t = ![t.val / 3, 0] :=
  (by decide +kernel : ∀ t : Fin grid0.N, _)

theorem lt_points (t : Fin cfg0.N) : t.val < 6 := lt_of_lt_of_eq t.isLt (by decide +kernel : cfg0.N = 6)

/-- The array's row that row `i` of block `q` is. -/
def row (q : Fin 2) (i : Fin 1152) : Fin 2304 := ⟨q * 1152 + i, by omega⟩
/-- One entry of the product, summed over all rows. -/
def entry (i : Fin 2304) (j : Fin 1024) : EReal := ∑ k : Fin 4608, left m c (ix2 k i) * right m c (ix2 k j)

variable (t : Fin cfg0.N)

/-- The point's tile of the left argument. -/
abbrev leftT : FVec Ideal S1536x1152 .bf16 := iblk m c 0 t
/-- Of the right one. -/
abbrev rightT : FVec Ideal S1536x1024 .bf16 := iblk m c 1 t

/-- What a point adds to an entry of its block. -/
def part (i : Fin 1152) (j : Fin 1024) : EReal := ∑ r : Fin 1536, leftT m c t (ix2 r i) * rightT m c t (ix2 r j)

theorem at0 (r : Fin 1536) (i : Fin 1152) : leftT m c t (ix2 r i)
    = left m c (ix2 ⟨t.val % 3 * 1536 + r, by have := Nat.mod_lt t.val (show 0 < 3 by decide); omega⟩ ⟨(t.val / 3) * 1152 + i, by have := lt_points t; omega⟩) := by
  have := lt_points t
  blk_ext [iblk, V, idx t]
theorem at1 (r : Fin 1536) (j : Fin 1024) : rightT m c t (ix2 r j)
    = right m c (ix2 ⟨t.val % 3 * 1536 + r, by have := Nat.mod_lt t.val (show 0 < 3 by decide); omega⟩ ⟨j, by have := lt_points t; omega⟩) := by
  have := lt_points t
  blk_ext [iblk, V, idx t]

/-- The running sum after a block's first tile. -/
theorem sum_A (h0 : t.val % 3 = 0) (h1 : ¬1 ≤ t.val % 3) (h2 : ¬t.val % 3 = 2) (i : Fin 1152) (j : Fin 1024) :
    (outsAt0 m c t.val t.isLt).2 (ix2 i j) = part m c t i j := by
  unfold part
  rw [outsAt0_A m c t h0 h1 h2]
  frame_out
  pointwise [k0_pay1, k0_pay2, k0_pay3, zero_add]

/-- The running sum after a tile in the middle. -/
theorem sum_B (h0 : ¬t.val % 3 = 0) (h1 : 1 ≤ t.val % 3) (h2 : ¬t.val % 3 = 2) (i : Fin 1152) (j : Fin 1024) :
    (outsAt0 m c t.val t.isLt).2 (ix2 i j) = (outsAt0 m c (t.val - 1) (Nat.lt_of_le_of_lt (Nat.sub_le _ _) t.isLt)).2 (ix2 i j) + part m c t i j := by
  unfold part
  rw [outsAt0_B m c t h0 h1 h2]
  frame_out
  pointwise [k0_pay1, k0_pay2, k0_pay3, zero_add]
  simp only [read_unread_whole]

/-- What is written out at a block's last tile. -/
theorem out_C (h0 : ¬t.val % 3 = 0) (h1 : 1 ≤ t.val % 3) (h2 : t.val % 3 = 2) (i : Fin 1152) (j : Fin 1024) :
    (outsAt0 m c t.val t.isLt).1 (ix2 i j) = (outsAt0 m c (t.val - 1) (Nat.lt_of_le_of_lt (Nat.sub_le _ _) t.isLt)).2 (ix2 i j) + part m c t i j := by
  unfold part
  rw [outsAt0_C m c t h0 h1 h2]
  frame_out
  pointwise [k0_pay1, k0_pay2, k0_pay3, zero_add]
  simp only [read_unread_whole]

/-- The point's share, read off the arguments: the rows of tile `s`, an entry of block `q`. -/
theorem part_eq (s : Fin 3) (q : Fin 2) (hs : t.val % 3 = s) (hq : t.val / 3 = q) (i : Fin 1152) (j : Fin 1024) :
    part m c t i j = ∑ r : Fin 1536, left m c (ix2 ⟨s * 1536 + r, by omega⟩ (row q i)) * right m c (ix2 ⟨s * 1536 + r, by omega⟩ j) := by
  unfold part
  refine Finset.sum_congr rfl fun r _ => ?_
  rw [at0, at1]
  simp only [hs, hq, row]

/-- What a block's last tile writes out: the sums over all rows. -/
theorem whole_at (q : Fin 2) (h : t.val % 3 = 2) (hq : t.val / 3 = q) (i : Fin 1152) (j : Fin 1024) :
    (outsAt0 m c t.val t.isLt).1 (ix2 i j) = entry m c (row q i) (j) := by
  refine (out_C m c t (by omega) (by omega) h i j).trans ?_
  rw [sum_B m c ⟨t.val - 1, (Nat.lt_of_le_of_lt (Nat.sub_le _ _) t.isLt)⟩ (show ¬(t.val - 1) % 3 = 0 by omega) (show 1 ≤ (t.val - 1) % 3 by omega) (show ¬(t.val - 1) % 3 = 2 by omega) i j,
    sum_A m c ⟨t.val - 1 - 1, (Nat.lt_of_le_of_lt (Nat.sub_le _ _) (Nat.lt_of_le_of_lt (Nat.sub_le _ _) t.isLt))⟩ (show (t.val - 1 - 1) % 3 = 0 by omega) (show ¬1 ≤ (t.val - 1 - 1) % 3 by have := lt_points t; omega)
      (show ¬(t.val - 1 - 1) % 3 = 2 by omega) i j,
    part_eq m c ⟨t.val - 1 - 1, (Nat.lt_of_le_of_lt (Nat.sub_le _ _) (Nat.lt_of_le_of_lt (Nat.sub_le _ _) t.isLt))⟩ 0 q (show (t.val - 1 - 1) % 3 = 0 by omega) (show (t.val - 1 - 1) / 3 = q by omega),
    part_eq m c ⟨t.val - 1, (Nat.lt_of_le_of_lt (Nat.sub_le _ _) t.isLt)⟩ 1 q (show (t.val - 1) % 3 = 1 by omega) (show (t.val - 1) / 3 = q by omega), part_eq m c t 2 q h hq]
  unfold entry
  rw [Fin.sum_univ_tiles 3 1536 rfl, Fin.sum_univ_three]

theorem whole (q : Fin 2) (h : t.val % 3 = 2) (hq : t.val / 3 = q) :
    (outsAt0 m c t.val t.isLt).1 = fun y : S1152x1024.Idx => entry m c (row q (y 0)) (y 1) :=
  funext fun y => (congrArg (outsAt0 m c t.val t.isLt).1 (ix2_eta y).symm).trans (whole_at m c t q h hq (y 0) (y 1))

/-- The array the call leaves. -/
theorem final : (dats m 0 c).arrAt 2 cfg0.N = fun i : S2304x1024.Idx => entry m c (i 0) (i 1) := by
  refine (dats m 0 c).arrAt_eq_of_covers 2 _ (by decide +kernel) fun t hf y => ?_
  have h := (flush0_2 t).mp hf
  obtain ⟨q, hq⟩ : ∃ q : Fin 2, t.val / 3 = q := ⟨⟨t.val / 3, by have := lt_points t; omega⟩, rfl⟩
  have e : (win0_2.blk t).view.emb y = (ix2 (row q (y 0)) (y 1) : S2304x1024.Idx) := by
    have := lt_points t
    unfold row; blk_ext [idx t, hq]
  blk_simp
  rw [after0_2]
  refine (congrFun (whole m c t q h hq) y).trans ?_
  rw [e]
  rfl

end Cert.Proof.GradIn
-- ==== Proof.GradUqSum.lean ====
/- The gradient of the queries' second projection: the product of a saved array and a gradient over 4608 rows, added up from 3 tiles of 1536 rows
   in a running sum that starts at a block's first tile and is written out at its last. The array the call leaves is the whole sum. -/
module

public import proofs.«01_k».proof.Proof.Gen.GradUqIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GradUq

open Cert.GradUqIdeal Cert.GradUqIdeal.Gen Idealize.ShloMosaic Idealize.ShloMosaic.TcCoe Idealize.SL.Sem

variable (m : (ℓ : Loc nD τ sig) → Buf (Elt Ideal) ℓ) (c : Dev nD)

/-- The left argument. -/
abbrev left : FVec Ideal S4608x1024 .bf16 := m ((c : Thread nD τ).loc main_arg0)
/-- The right argument. -/
abbrev right : FVec Ideal S4608x384 .bf16 := m ((c : Thread nD τ).loc main_arg1)

/-- The block index of each window at a point. -/
theorem idx : ∀ t : Fin cfg0.N, win0_0.index t = ![t.val % 3, 0] ∧ win0_1.index t = ![t.val % 3, 0]
    ∧ win0_2.index t = ![0, 0] :=
  (by decide +kernel : ∀ t : Fin grid0.N, _)

theorem lt_points (t : Fin cfg0.N) : t.val < 3 := lt_of_lt_of_eq t.isLt (by decide +kernel : cfg0.N = 3)

/-- One entry of the product, summed over all rows. -/
def entry (i : Fin 1024) (j : Fin 384) : EReal := ∑ k : Fin 4608, left m c (ix2 k i) * right m c (ix2 k j)

variable (t : Fin cfg0.N)

/-- The point's tile of the left argument. -/
abbrev leftT : FVec Ideal S1536x1024 .bf16 := iblk m c 0 t
/-- Of the right one. -/
abbrev rightT : FVec Ideal S1536x384 .bf16 := iblk m c 1 t

/-- What a point adds to an entry of its block. -/
def part (i : Fin 1024) (j : Fin 384) : EReal := ∑ r : Fin 1536, leftT m c t (ix2 r i) * rightT m c t (ix2 r j)

theorem at0 (r : Fin 1536) (i : Fin 1024) : leftT m c t (ix2 r i)
    = left m c (ix2 ⟨t.val % 3 * 1536 + r, by have := Nat.mod_lt t.val (show 0 < 3 by decide); omega⟩ ⟨i, by have := lt_points t; omega⟩) := by
  have := lt_points t
  blk_ext [iblk, V, idx t]
theorem at1 (r : Fin 1536) (j : Fin 384) : rightT m c t (ix2 r j)
    = right m c (ix2 ⟨t.val % 3 * 1536 + r, by have := Nat.mod_lt t.val (show 0 < 3 by decide); omega⟩ ⟨j, by have := lt_points t; omega⟩) := by
  have := lt_points t
  blk_ext [iblk, V, idx t]

/-- The running sum after a block's first tile. -/
theorem sum_A (h0 : t.val % 3 = 0) (h1 : ¬1 ≤ t.val) (h2 : ¬t.val % 3 = 2) (i : Fin 1024) (j : Fin 384) :
    (outsAt0 m c t.val t.isLt).2 (ix2 i j) = part m c t i j := by
  unfold part
  rw [outsAt0_A m c t h0 h1 h2]
  frame_out
  pointwise [k0_pay1, k0_pay2, k0_pay3, zero_add]

/-- The running sum after a tile in the middle. -/
theorem sum_B (h0 : ¬t.val % 3 = 0) (h1 : 1 ≤ t.val) (h2 : ¬t.val % 3 = 2) (i : Fin 1024) (j : Fin 384) :
    (outsAt0 m c t.val t.isLt).2 (ix2 i j) = (outsAt0 m c (t.val - 1) (Nat.lt_of_le_of_lt (Nat.sub_le _ _) t.isLt)).2 (ix2 i j) + part m c t i j := by
  unfold part
  rw [outsAt0_B m c t h0 h1 h2]
  frame_out
  pointwise [k0_pay1, k0_pay2, k0_pay3, zero_add]
  simp only [read_unread_whole]

/-- What is written out at a block's last tile. -/
theorem out_C (h0 : ¬t.val % 3 = 0) (h1 : 1 ≤ t.val) (h2 : t.val % 3 = 2) (i : Fin 1024) (j : Fin 384) :
    (outsAt0 m c t.val t.isLt).1 (ix2 i j) = (outsAt0 m c (t.val - 1) (Nat.lt_of_le_of_lt (Nat.sub_le _ _) t.isLt)).2 (ix2 i j) + part m c t i j := by
  unfold part
  rw [outsAt0_C m c t h0 h1 h2]
  frame_out
  pointwise [k0_pay1, k0_pay2, k0_pay3, zero_add]
  simp only [read_unread_whole]

/-- The point's share, read off the arguments: the rows of tile `s`, an entry of block `q`. -/
theorem part_eq (s : Fin 3) (q : Fin 1) (hs : t.val % 3 = s) (hq : t.val / 3 = q) (i : Fin 1024) (j : Fin 384) :
    part m c t i j = ∑ r : Fin 1536, left m c (ix2 ⟨s * 1536 + r, by omega⟩ i) * right m c (ix2 ⟨s * 1536 + r, by omega⟩ j) := by
  unfold part
  refine Finset.sum_congr rfl fun r _ => ?_
  rw [at0, at1]
  simp only [hs, hq]

/-- What a block's last tile writes out: the sums over all rows. -/
theorem whole_at (q : Fin 1) (h : t.val % 3 = 2) (hq : t.val / 3 = q) (i : Fin 1024) (j : Fin 384) :
    (outsAt0 m c t.val t.isLt).1 (ix2 i j) = entry m c (i) (j) := by
  refine (out_C m c t (by omega) (by omega) h i j).trans ?_
  rw [sum_B m c ⟨t.val - 1, (Nat.lt_of_le_of_lt (Nat.sub_le _ _) t.isLt)⟩ (show ¬(t.val - 1) % 3 = 0 by omega) (show 1 ≤ (t.val - 1) by omega) (show ¬(t.val - 1) % 3 = 2 by omega) i j,
    sum_A m c ⟨t.val - 1 - 1, (Nat.lt_of_le_of_lt (Nat.sub_le _ _) (Nat.lt_of_le_of_lt (Nat.sub_le _ _) t.isLt))⟩ (show (t.val - 1 - 1) % 3 = 0 by omega) (show ¬1 ≤ (t.val - 1 - 1) by have := lt_points t; omega)
      (show ¬(t.val - 1 - 1) % 3 = 2 by omega) i j,
    part_eq m c ⟨t.val - 1 - 1, (Nat.lt_of_le_of_lt (Nat.sub_le _ _) (Nat.lt_of_le_of_lt (Nat.sub_le _ _) t.isLt))⟩ 0 q (show (t.val - 1 - 1) % 3 = 0 by omega) (show (t.val - 1 - 1) / 3 = q by omega),
    part_eq m c ⟨t.val - 1, (Nat.lt_of_le_of_lt (Nat.sub_le _ _) t.isLt)⟩ 1 q (show (t.val - 1) % 3 = 1 by omega) (show (t.val - 1) / 3 = q by omega), part_eq m c t 2 q h hq]
  unfold entry
  rw [Fin.sum_univ_tiles 3 1536 rfl, Fin.sum_univ_three]

theorem whole (q : Fin 1) (h : t.val % 3 = 2) (hq : t.val / 3 = q) :
    (outsAt0 m c t.val t.isLt).1 = fun y : S1024x384.Idx => entry m c (y 0) (y 1) :=
  funext fun y => (congrArg (outsAt0 m c t.val t.isLt).1 (ix2_eta y).symm).trans (whole_at m c t q h hq (y 0) (y 1))

/-- The array the call leaves. -/
theorem final : (dats m 0 c).arrAt 2 cfg0.N = fun i : S1024x384.Idx => entry m c (i 0) (i 1) := by
  refine (dats m 0 c).arrAt_eq_of_covers 2 _ (by decide +kernel) fun t hf y => ?_
  have h := (flush0_2 t).mp hf
  obtain ⟨q, hq⟩ : ∃ q : Fin 1, t.val / 3 = q := ⟨⟨t.val / 3, by have := lt_points t; omega⟩, rfl⟩
  have e : (win0_2.blk t).view.emb y = (ix2 (y 0) (y 1) : S1024x384.Idx) := by
    have := lt_points t
    blk_ext [idx t, hq]
  blk_simp
  rw [after0_2]
  refine (congrFun (whole m c t q h hq) y).trans ?_
  rw [e]
  rfl

end Cert.Proof.GradUq
-- ==== Proof.GradUkvSum.lean ====
/- The gradient of the keys' and values' second projection: the product of a saved array and a gradient over 4608 rows, added up from 3 tiles of 1536 rows
   in a running sum that starts at a block's first tile and is written out at its last. The array the call leaves is the whole sum. -/
module

public import proofs.«01_k».proof.Proof.Gen.GradUkvIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GradUkv

open Cert.GradUkvIdeal Cert.GradUkvIdeal.Gen Idealize.ShloMosaic Idealize.ShloMosaic.TcCoe Idealize.SL.Sem

variable (m : (ℓ : Loc nD τ sig) → Buf (Elt Ideal) ℓ) (c : Dev nD)

/-- The left argument. -/
abbrev left : FVec Ideal S4608x256 .bf16 := m ((c : Thread nD τ).loc main_arg0)
/-- The right argument. -/
abbrev right : FVec Ideal S4608x1024 .bf16 := m ((c : Thread nD τ).loc main_arg1)

/-- The block index of each window at a point. -/
theorem idx : ∀ t : Fin cfg0.N, win0_0.index t = ![t.val % 3, 0] ∧ win0_1.index t = ![t.val % 3, 0]
    ∧ win0_2.index t = ![0, 0, 0] :=
  (by decide +kernel : ∀ t : Fin grid0.N, _)

theorem lt_points (t : Fin cfg0.N) : t.val < 3 := lt_of_lt_of_eq t.isLt (by decide +kernel : cfg0.N = 3)

/-- The column that column `j` of slab `s` is. -/
def lane (s : Fin 4) (j : Fin 256) : Fin 1024 := ⟨s * 256 + j, by omega⟩
/-- One entry of the product, summed over all rows. -/
def entry (i : Fin 256) (j : Fin 1024) : EReal := ∑ k : Fin 4608, left m c (ix2 k i) * right m c (ix2 k j)

variable (t : Fin cfg0.N)

/-- The point's tile of the left argument. -/
abbrev leftT : FVec Ideal S1536x256 .bf16 := iblk m c 0 t
/-- Of the right one. -/
abbrev rightT : FVec Ideal S1536x1024 .bf16 := iblk m c 1 t

/-- What a point adds to an entry of its block. -/
def part (i : Fin 256) (j : Fin 1024) : EReal := ∑ r : Fin 1536, leftT m c t (ix2 r i) * rightT m c t (ix2 r j)

theorem at0 (r : Fin 1536) (i : Fin 256) : leftT m c t (ix2 r i)
    = left m c (ix2 ⟨t.val % 3 * 1536 + r, by have := Nat.mod_lt t.val (show 0 < 3 by decide); omega⟩ ⟨i, by have := lt_points t; omega⟩) := by
  have := lt_points t
  blk_ext [iblk, V, idx t]
theorem at1 (r : Fin 1536) (j : Fin 1024) : rightT m c t (ix2 r j)
    = right m c (ix2 ⟨t.val % 3 * 1536 + r, by have := Nat.mod_lt t.val (show 0 < 3 by decide); omega⟩ ⟨j, by have := lt_points t; omega⟩) := by
  have := lt_points t
  blk_ext [iblk, V, idx t]

/-- The running sum after a block's first tile. -/
theorem sum_A (h0 : t.val % 3 = 0) (h1 : ¬1 ≤ t.val) (h2 : ¬t.val % 3 = 2) (s : Fin 4) (i : Fin 256) (j : Fin 256) :
    (outsAt0 m c t.val t.isLt).2 (ix3 s i j) = part m c t i (lane s j) := by
  unfold part
  rw [outsAt0_A m c t h0 h1 h2]
  frame_out
  canon_tiles x h
  · have es : s = 3 := Fin.ext (by have e : (s : ℕ) = 3 + (x 0 : ℕ) := h0; show (s : ℕ) = 3; omega)
    have el : lane s j = (⟨768 + (x 2 : ℕ), by omega⟩ : Fin 1024) :=
      Fin.ext (by have e : (s : ℕ) = 3 + (x 0 : ℕ) := h0; have e' : (j : ℕ) = x 2 := h2; show (s : ℕ) * 256 + j = 768 + (x 2 : ℕ); omega)
    obtain rfl : i = x 1 := Fin.ext h1
    obtain rfl : j = x 2 := Fin.ext h2
    rw [el, es]
    open_payloads
    pointwise [zero_add]
  · have es : s = 2 := Fin.ext (by have e : (s : ℕ) = 2 + (x 0 : ℕ) := h0; show (s : ℕ) = 2; omega)
    have el : lane s j = (⟨512 + (x 2 : ℕ), by omega⟩ : Fin 1024) :=
      Fin.ext (by have e : (s : ℕ) = 2 + (x 0 : ℕ) := h0; have e' : (j : ℕ) = x 2 := h2; show (s : ℕ) * 256 + j = 512 + (x 2 : ℕ); omega)
    obtain rfl : i = x 1 := Fin.ext h1
    obtain rfl : j = x 2 := Fin.ext h2
    rw [el, es]
    open_payloads
    pointwise [zero_add]
  · have es : s = 1 := Fin.ext (by have e : (s : ℕ) = 1 + (x 0 : ℕ) := h0; show (s : ℕ) = 1; omega)
    have el : lane s j = (⟨256 + (x 2 : ℕ), by omega⟩ : Fin 1024) :=
      Fin.ext (by have e : (s : ℕ) = 1 + (x 0 : ℕ) := h0; have e' : (j : ℕ) = x 2 := h2; show (s : ℕ) * 256 + j = 256 + (x 2 : ℕ); omega)
    obtain rfl : i = x 1 := Fin.ext h1
    obtain rfl : j = x 2 := Fin.ext h2
    rw [el, es]
    open_payloads
    pointwise [zero_add]
  · have es : s = 0 := Fin.ext (by have e : (s : ℕ) = (x 0 : ℕ) := h0; show (s : ℕ) = 0; omega)
    have el : lane s j = (⟨(x 2 : ℕ), by omega⟩ : Fin 1024) :=
      Fin.ext (by have e : (s : ℕ) = (x 0 : ℕ) := h0; have e' : (j : ℕ) = x 2 := h2; show (s : ℕ) * 256 + j = (x 2 : ℕ); omega)
    obtain rfl : i = x 1 := Fin.ext h1
    obtain rfl : j = x 2 := Fin.ext h2
    rw [el, es]
    open_payloads
    pointwise [zero_add]

/-- The running sum after a tile in the middle. -/
theorem sum_B (h0 : ¬t.val % 3 = 0) (h1 : 1 ≤ t.val) (h2 : ¬t.val % 3 = 2) (s : Fin 4) (i : Fin 256) (j : Fin 256) :
    (outsAt0 m c t.val t.isLt).2 (ix3 s i j) = (outsAt0 m c (t.val - 1) (Nat.lt_of_le_of_lt (Nat.sub_le _ _) t.isLt)).2 (ix3 s i j) + part m c t i (lane s j) := by
  unfold part
  rw [outsAt0_B m c t h0 h1 h2]
  frame_out
  canon_tiles x h
  · have es : s = 3 := Fin.ext (by have e : (s : ℕ) = 3 + (x 0 : ℕ) := h0; show (s : ℕ) = 3; omega)
    have el : lane s j = (⟨768 + (x 2 : ℕ), by omega⟩ : Fin 1024) :=
      Fin.ext (by have e : (s : ℕ) = 3 + (x 0 : ℕ) := h0; have e' : (j : ℕ) = x 2 := h2; show (s : ℕ) * 256 + j = 768 + (x 2 : ℕ); omega)
    obtain rfl : i = x 1 := Fin.ext h1
    obtain rfl : j = x 2 := Fin.ext h2
    rw [el, es]
    open_payloads
    pointwise [zero_add]
    simp only [read_unread_whole]
  · have es : s = 2 := Fin.ext (by have e : (s : ℕ) = 2 + (x 0 : ℕ) := h0; show (s : ℕ) = 2; omega)
    have el : lane s j = (⟨512 + (x 2 : ℕ), by omega⟩ : Fin 1024) :=
      Fin.ext (by have e : (s : ℕ) = 2 + (x 0 : ℕ) := h0; have e' : (j : ℕ) = x 2 := h2; show (s : ℕ) * 256 + j = 512 + (x 2 : ℕ); omega)
    obtain rfl : i = x 1 := Fin.ext h1
    obtain rfl : j = x 2 := Fin.ext h2
    rw [el, es]
    open_payloads
    pointwise [zero_add]
    simp only [read_unread_whole]
  · have es : s = 1 := Fin.ext (by have e : (s : ℕ) = 1 + (x 0 : ℕ) := h0; show (s : ℕ) = 1; omega)
    have el : lane s j = (⟨256 + (x 2 : ℕ), by omega⟩ : Fin 1024) :=
      Fin.ext (by have e : (s : ℕ) = 1 + (x 0 : ℕ) := h0; have e' : (j : ℕ) = x 2 := h2; show (s : ℕ) * 256 + j = 256 + (x 2 : ℕ); omega)
    obtain rfl : i = x 1 := Fin.ext h1
    obtain rfl : j = x 2 := Fin.ext h2
    rw [el, es]
    open_payloads
    pointwise [zero_add]
    simp only [read_unread_whole]
  · have es : s = 0 := Fin.ext (by have e : (s : ℕ) = (x 0 : ℕ) := h0; show (s : ℕ) = 0; omega)
    have el : lane s j = (⟨(x 2 : ℕ), by omega⟩ : Fin 1024) :=
      Fin.ext (by have e : (s : ℕ) = (x 0 : ℕ) := h0; have e' : (j : ℕ) = x 2 := h2; show (s : ℕ) * 256 + j = (x 2 : ℕ); omega)
    obtain rfl : i = x 1 := Fin.ext h1
    obtain rfl : j = x 2 := Fin.ext h2
    rw [el, es]
    open_payloads
    pointwise [zero_add]
    simp only [read_unread_whole]

/-- What is written out at a block's last tile. -/
theorem out_C (h0 : ¬t.val % 3 = 0) (h1 : 1 ≤ t.val) (h2 : t.val % 3 = 2) (s : Fin 4) (i : Fin 256) (j : Fin 256) :
    (outsAt0 m c t.val t.isLt).1 (ix3 s i j) = (outsAt0 m c (t.val - 1) (Nat.lt_of_le_of_lt (Nat.sub_le _ _) t.isLt)).2 (ix3 s i j) + part m c t i (lane s j) := by
  unfold part
  rw [outsAt0_C m c t h0 h1 h2]
  frame_out
  rw [View.readCov_eq_canon_ld, View.ld_unit_lit]
  rotate_left
  · decide
  · exact View.cover_of_tiledL _ S1x256x256.size (by sl_kernel_rfl)
  canon_tiles x h
  · have es : s = 3 := Fin.ext (by have e : (s : ℕ) = 3 + (x 0 : ℕ) := h0; show (s : ℕ) = 3; omega)
    have el : lane s j = (⟨768 + (x 2 : ℕ), by omega⟩ : Fin 1024) :=
      Fin.ext (by have e : (s : ℕ) = 3 + (x 0 : ℕ) := h0; have e' : (j : ℕ) = x 2 := h2; show (s : ℕ) * 256 + j = 768 + (x 2 : ℕ); omega)
    obtain rfl : i = x 1 := Fin.ext h1
    obtain rfl : j = x 2 := Fin.ext h2
    rw [el, es]
    open_payloads
    pointwise [zero_add]
    simp only [read_unread_whole]
  · have es : s = 2 := Fin.ext (by have e : (s : ℕ) = 2 + (x 0 : ℕ) := h0; show (s : ℕ) = 2; omega)
    have el : lane s j = (⟨512 + (x 2 : ℕ), by omega⟩ : Fin 1024) :=
      Fin.ext (by have e : (s : ℕ) = 2 + (x 0 : ℕ) := h0; have e' : (j : ℕ) = x 2 := h2; show (s : ℕ) * 256 + j = 512 + (x 2 : ℕ); omega)
    obtain rfl : i = x 1 := Fin.ext h1
    obtain rfl : j = x 2 := Fin.ext h2
    rw [el, es]
    open_payloads
    pointwise [zero_add]
    simp only [read_unread_whole]
  · have es : s = 1 := Fin.ext (by have e : (s : ℕ) = 1 + (x 0 : ℕ) := h0; show (s : ℕ) = 1; omega)
    have el : lane s j = (⟨256 + (x 2 : ℕ), by omega⟩ : Fin 1024) :=
      Fin.ext (by have e : (s : ℕ) = 1 + (x 0 : ℕ) := h0; have e' : (j : ℕ) = x 2 := h2; show (s : ℕ) * 256 + j = 256 + (x 2 : ℕ); omega)
    obtain rfl : i = x 1 := Fin.ext h1
    obtain rfl : j = x 2 := Fin.ext h2
    rw [el, es]
    open_payloads
    pointwise [zero_add]
    simp only [read_unread_whole]
  · have es : s = 0 := Fin.ext (by have e : (s : ℕ) = (x 0 : ℕ) := h0; show (s : ℕ) = 0; omega)
    have el : lane s j = (⟨(x 2 : ℕ), by omega⟩ : Fin 1024) :=
      Fin.ext (by have e : (s : ℕ) = (x 0 : ℕ) := h0; have e' : (j : ℕ) = x 2 := h2; show (s : ℕ) * 256 + j = (x 2 : ℕ); omega)
    obtain rfl : i = x 1 := Fin.ext h1
    obtain rfl : j = x 2 := Fin.ext h2
    rw [el, es]
    open_payloads
    pointwise [zero_add]
    simp only [read_unread_whole]

/-- The point's share, read off the arguments: the rows of tile `s`, an entry of block `q`. -/
theorem part_eq (s : Fin 3) (q : Fin 1) (hs : t.val % 3 = s) (hq : t.val / 3 = q) (i : Fin 256) (j : Fin 1024) :
    part m c t i j = ∑ r : Fin 1536, left m c (ix2 ⟨s * 1536 + r, by omega⟩ i) * right m c (ix2 ⟨s * 1536 + r, by omega⟩ j) := by
  unfold part
  refine Finset.sum_congr rfl fun r _ => ?_
  rw [at0, at1]
  simp only [hs, hq]

/-- What a block's last tile writes out: the sums over all rows. -/
theorem whole_at (q : Fin 1) (h : t.val % 3 = 2) (hq : t.val / 3 = q) (s : Fin 4) (i : Fin 256) (j : Fin 256) :
    (outsAt0 m c t.val t.isLt).1 (ix3 s i j) = entry m c (i) ((lane s j)) := by
  refine (out_C m c t (by omega) (by omega) h s i j).trans ?_
  rw [sum_B m c ⟨t.val - 1, (Nat.lt_of_le_of_lt (Nat.sub_le _ _) t.isLt)⟩ (show ¬(t.val - 1) % 3 = 0 by omega) (show 1 ≤ (t.val - 1) by omega) (show ¬(t.val - 1) % 3 = 2 by omega) s i j,
    sum_A m c ⟨t.val - 1 - 1, (Nat.lt_of_le_of_lt (Nat.sub_le _ _) (Nat.lt_of_le_of_lt (Nat.sub_le _ _) t.isLt))⟩ (show (t.val - 1 - 1) % 3 = 0 by omega) (show ¬1 ≤ (t.val - 1 - 1) by have := lt_points t; omega)
      (show ¬(t.val - 1 - 1) % 3 = 2 by omega) s i j,
    part_eq m c ⟨t.val - 1 - 1, (Nat.lt_of_le_of_lt (Nat.sub_le _ _) (Nat.lt_of_le_of_lt (Nat.sub_le _ _) t.isLt))⟩ 0 q (show (t.val - 1 - 1) % 3 = 0 by omega) (show (t.val - 1 - 1) / 3 = q by omega),
    part_eq m c ⟨t.val - 1, (Nat.lt_of_le_of_lt (Nat.sub_le _ _) t.isLt)⟩ 1 q (show (t.val - 1) % 3 = 1 by omega) (show (t.val - 1) / 3 = q by omega), part_eq m c t 2 q h hq]
  unfold entry
  rw [Fin.sum_univ_tiles 3 1536 rfl, Fin.sum_univ_three]

theorem whole (q : Fin 1) (h : t.val % 3 = 2) (hq : t.val / 3 = q) :
    (outsAt0 m c t.val t.isLt).1 = fun y : S4x256x256.Idx => entry m c (y 1) (lane (y 0) (y 2)) :=
  funext fun y => (congrArg (outsAt0 m c t.val t.isLt).1 (ix3_eta y).symm).trans (whole_at m c t q h hq (y 0) (y 1) (y 2))

/-- The array the call leaves. -/
theorem final : (dats m 0 c).arrAt 2 cfg0.N = fun i : S4x256x256.Idx => entry m c (i 1) (lane (i 0) (i 2)) := by
  refine (dats m 0 c).arrAt_eq_of_covers 2 _ (by decide +kernel) fun t hf y => ?_
  have h := (flush0_2 t).mp hf
  obtain ⟨q, hq⟩ : ∃ q : Fin 1, t.val / 3 = q := ⟨⟨t.val / 3, by have := lt_points t; omega⟩, rfl⟩
  have e : (win0_2.blk t).view.emb y = (ix3 (y 0) (y 1) (y 2) : S4x256x256.Idx) := by
    have := lt_points t
    blk_ext [idx t, hq]
  blk_simp
  rw [after0_2]
  refine (congrFun (whole m c t q h hq) y).trans ?_
  rw [e]
  rfl

end Cert.Proof.GradUkv
-- ==== Proof.GradEquation.lean ====
/- Each call's array is the reference's: the derivative of the product with respect to the weights is the same sum over all rows, up to the order of
   the two factors and the layout of the result. -/
module

public import proofs.«01_k».proof.Defs
public import proofs.«01_k».proof.Proof.Gen.GradFf2.Frame
public import proofs.«01_k».proof.Proof.Gen.GradFf2ReferenceIdeal.Run
public import proofs.«01_k».proof.Proof.GradFf2Sum
public import proofs.«01_k».proof.Proof.Gen.GradFf1.Frame
public import proofs.«01_k».proof.Proof.Gen.GradFf1ReferenceIdeal.Run
public import proofs.«01_k».proof.Proof.GradFf1Sum
public import proofs.«01_k».proof.Proof.Gen.GradOut.Frame
public import proofs.«01_k».proof.Proof.Gen.GradOutReferenceIdeal.Run
public import proofs.«01_k».proof.Proof.GradOutSum
public import proofs.«01_k».proof.Proof.Gen.GradIn.Frame
public import proofs.«01_k».proof.Proof.Gen.GradInReferenceIdeal.Run
public import proofs.«01_k».proof.Proof.GradInSum
public import proofs.«01_k».proof.Proof.Gen.GradUq.Frame
public import proofs.«01_k».proof.Proof.Gen.GradUqReferenceIdeal.Run
public import proofs.«01_k».proof.Proof.GradUqSum
public import proofs.«01_k».proof.Proof.Gen.GradUkv.Frame
public import proofs.«01_k».proof.Proof.Gen.GradUkvReferenceIdeal.Run
public import proofs.«01_k».proof.Proof.GradUkvSum
public import Idealize.ShloMosaic.Lib.Quiescent
public import Idealize.ShloMosaic.Adequacy
public import Idealize.ShloMosaic.Init

@[expose] public section

set_option maxRecDepth 16384

noncomputable section

namespace Cert.Proof.GradEquation

open Idealize.ShloMosaic Idealize.SL.Sem

attribute [local instance] Cert.GradFf2.Gen.facts Cert.GradFf2Ideal.Gen.facts Cert.GradFf2ReferenceIdeal.Gen.facts Cert.GradFf1.Gen.facts Cert.GradFf1Ideal.Gen.facts Cert.GradFf1ReferenceIdeal.Gen.facts Cert.GradOut.Gen.facts Cert.GradOutIdeal.Gen.facts Cert.GradOutReferenceIdeal.Gen.facts Cert.GradIn.Gen.facts Cert.GradInIdeal.Gen.facts Cert.GradInReferenceIdeal.Gen.facts Cert.GradUq.Gen.facts Cert.GradUqIdeal.Gen.facts Cert.GradUqReferenceIdeal.Gen.facts Cert.GradUkv.Gen.facts Cert.GradUkvIdeal.Gen.facts Cert.GradUkvReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _
theorem ext3 {a b d : ℕ} {f g : (⟨3, ![a, b, d]⟩ : Shape).Idx → EReal} (h : ∀ (i : Fin a) (j : Fin b) (k : Fin d), f (ix3 i j k) = g (ix3 i j k)) :
    f = g :=
  funext fun i => by rw [← ix3_eta i]; exact h _ _ _

/-- The reference of the second feed-forward layer's weights ends, its arguments and counters as they were. -/
theorem frame_ff2 : Cert.quiescent_GradFf2ReferenceIdeal := fun m g _ =>
  (θ_run Cert.GradFf2ReferenceIdeal.defs _ _).mono (fun r h => ⟨fun c => (h c).2, sem_eq_zero_of_no_sems (by decide) r.2⟩)
    (Cert.GradFf2ReferenceIdeal.Value.run (F := Ideal) m g)

open Cert.GradFf2ReferenceIdeal Cert.GradFf2ReferenceIdeal.Gen in
/-- The reference's array, entry by entry. -/
theorem read_ff2 (A : FVec Ideal S4096x4096 .bf16) (B : FVec Ideal S4096x1024 .bf16) :
    truncf .bf16 (transpose S4096x1024 [1, 0] (Host.dotGeneral dot_S4096x1024_S4096x4096_S1024x4096_0_0_1_1_n_n none (extf .f32 B bitsLt_bf16_f32) (extf .f32 A bitsLt_bf16_f32)) transposes_S1024x4096_S4096x1024_1_0) bitsLt_bf16_f32
      = fun i => ∑ k, A (ix2 k (i 0)) * B (ix2 k (i 1)) := by
  refine ext2 fun i j => ?_
  pointwise [mul_comm]

/-- The gradient of the second feed-forward layer's weights. -/
theorem grad_ff2 : Cert.algebraic_GradFf2Ideal_GradFf2ReferenceIdeal := by
  intro m g m' g' _ hagree
  refine ⟨fun c => (Cert.GradFf2Ideal.Gen.dats m 0 c).arrAt 2 Cert.GradFf2Ideal.cfg0.N, Cert.GradFf2Ideal.Value.run_blocks m g, ?_⟩
  refine (θ_run Cert.GradFf2ReferenceIdeal.defs _ _).mono (fun _ h c => ⟨?_, (h c).2⟩) (Cert.GradFf2ReferenceIdeal.Value.run (F := Ideal) m' g')
  obtain ⟨a0, a1⟩ := hagree c
  refine (h c).1.trans (Eq.trans ?_ (GradFf2.final m c).symm)
  rw [a0, a1]
  exact read_ff2 _ _

/-- The reference of the first feed-forward layer's weights ends, its arguments and counters as they were. -/
theorem frame_ff1 : Cert.quiescent_GradFf1ReferenceIdeal := fun m g _ =>
  (θ_run Cert.GradFf1ReferenceIdeal.defs _ _).mono (fun r h => ⟨fun c => (h c).2, sem_eq_zero_of_no_sems (by decide) r.2⟩)
    (Cert.GradFf1ReferenceIdeal.Value.run (F := Ideal) m g)

open Cert.GradFf1ReferenceIdeal Cert.GradFf1ReferenceIdeal.Gen in
/-- The reference's array, entry by entry. -/
theorem read_ff1 (A : FVec Ideal S4096x1024 .bf16) (B : FVec Ideal S4096x4096 .bf16) :
    transpose S4x1024x1024 [1, 0, 2] (shapeCast S1024x4x1024 (truncf .bf16 (transpose S1024x4096 [1, 0] (Host.dotGeneral dot_S4096x4096_S4096x1024_S4096x1024_0_0_1_1_n_n none (extf .f32 B bitsLt_bf16_f32) (extf .f32 A bitsLt_bf16_f32)) transposes_S4096x1024_S1024x4096_1_0) bitsLt_bf16_f32) shapeCasts_S1024x4096_S1024x4x1024) transposes_S1024x4x1024_S4x1024x1024_1_0_2
      = fun i => ∑ k, A (ix2 k (i 1)) * B (ix2 k (Cert.Proof.GradFf1.col (i 0) (i 2))) := by
  refine ext3 fun s i j => ?_
  pointwise [Cert.Proof.GradFf1.col, mul_comm]

/-- The gradient of the first feed-forward layer's weights. -/
theorem grad_ff1 : Cert.algebraic_GradFf1Ideal_GradFf1ReferenceIdeal := by
  intro m g m' g' _ hagree
  refine ⟨fun c => (Cert.GradFf1Ideal.Gen.dats m 0 c).arrAt 2 Cert.GradFf1Ideal.cfg0.N, Cert.GradFf1Ideal.Value.run_blocks m g, ?_⟩
  refine (θ_run Cert.GradFf1ReferenceIdeal.defs _ _).mono (fun _ h c => ⟨?_, (h c).2⟩) (Cert.GradFf1ReferenceIdeal.Value.run (F := Ideal) m' g')
  obtain ⟨a0, a1⟩ := hagree c
  refine (h c).1.trans (Eq.trans ?_ (GradFf1.final m c).symm)
  rw [a0, a1]
  exact read_ff1 _ _

/-- The reference of the output projection's weights ends, its arguments and counters as they were. -/
theorem frame_out : Cert.quiescent_GradOutReferenceIdeal := fun m g _ =>
  (θ_run Cert.GradOutReferenceIdeal.defs _ _).mono (fun r h => ⟨fun c => (h c).2, sem_eq_zero_of_no_sems (by decide) r.2⟩)
    (Cert.GradOutReferenceIdeal.Value.run (F := Ideal) m g)

open Cert.GradOutReferenceIdeal Cert.GradOutReferenceIdeal.Gen in
/-- The reference's array, entry by entry. -/
theorem read_out (A : FVec Ideal S4096x1024 .bf16) (B : FVec Ideal S4096x1024 .bf16) :
    truncf .bf16 (transpose S1024x1024 [1, 0] (Host.dotGeneral dot_S4096x1024_S4096x1024_S1024x1024_0_0_1_1_n_n none (extf .f32 B bitsLt_bf16_f32) (extf .f32 A bitsLt_bf16_f32)) transposes_S1024x1024_S1024x1024_1_0) bitsLt_bf16_f32
      = fun i => ∑ k, A (ix2 k (i 0)) * B (ix2 k (i 1)) := by
  refine ext2 fun i j => ?_
  pointwise [mul_comm]

/-- The gradient of the output projection's weights. -/
theorem grad_out : Cert.algebraic_GradOutIdeal_GradOutReferenceIdeal := by
  intro m g m' g' _ hagree
  refine ⟨fun c => (Cert.GradOutIdeal.Gen.dats m 0 c).arrAt 2 Cert.GradOutIdeal.cfg0.N, Cert.GradOutIdeal.Value.run_blocks m g, ?_⟩
  refine (θ_run Cert.GradOutReferenceIdeal.defs _ _).mono (fun _ h c => ⟨?_, (h c).2⟩) (Cert.GradOutReferenceIdeal.Value.run (F := Ideal) m' g')
  obtain ⟨a0, a1⟩ := hagree c
  refine (h c).1.trans (Eq.trans ?_ (GradOut.final m c).symm)
  rw [a0, a1]
  exact read_out _ _

/-- The reference of the input projection's weights ends, its arguments and counters as they were. -/
theorem frame_in : Cert.quiescent_GradInReferenceIdeal := fun m g _ =>
  (θ_run Cert.GradInReferenceIdeal.defs _ _).mono (fun r h => ⟨fun c => (h c).2, sem_eq_zero_of_no_sems (by decide) r.2⟩)
    (Cert.GradInReferenceIdeal.Value.run (F := Ideal) m g)

open Cert.GradInReferenceIdeal Cert.GradInReferenceIdeal.Gen in
/-- The reference's array, entry by entry. -/
theorem read_in (A : FVec Ideal S4608x2304 .bf16) (B : FVec Ideal S4608x1024 .bf16) :
    transpose S2304x1024 [1, 0] (transpose S1024x2304 [1, 0] (Host.dotGeneral dot_S4608x2304_S4608x1024_S2304x1024_0_0_1_1_n_n none (extf .f32 A bitsLt_bf16_f32) (extf .f32 B bitsLt_bf16_f32)) transposes_S2304x1024_S1024x2304_1_0) transposes_S1024x2304_S2304x1024_1_0
      = fun i => ∑ k, A (ix2 k (i 0)) * B (ix2 k (i 1)) := by
  refine ext2 fun i j => ?_
  pointwise [mul_comm]

/-- The gradient of the input projection's weights. -/
theorem grad_in : Cert.algebraic_GradInIdeal_GradInReferenceIdeal := by
  intro m g m' g' _ hagree
  refine ⟨fun c => (Cert.GradInIdeal.Gen.dats m 0 c).arrAt 2 Cert.GradInIdeal.cfg0.N, Cert.GradInIdeal.Value.run_blocks m g, ?_⟩
  refine (θ_run Cert.GradInReferenceIdeal.defs _ _).mono (fun _ h c => ⟨?_, (h c).2⟩) (Cert.GradInReferenceIdeal.Value.run (F := Ideal) m' g')
  obtain ⟨a0, a1⟩ := hagree c
  refine (h c).1.trans (Eq.trans ?_ (GradIn.final m c).symm)
  rw [a0, a1]
  exact read_in _ _

/-- The reference of the queries' projection's weights ends, its arguments and counters as they were. -/
theorem frame_uq : Cert.quiescent_GradUqReferenceIdeal := fun m g _ =>
  (θ_run Cert.GradUqReferenceIdeal.defs _ _).mono (fun r h => ⟨fun c => (h c).2, sem_eq_zero_of_no_sems (by decide) r.2⟩)
    (Cert.GradUqReferenceIdeal.Value.run (F := Ideal) m g)

open Cert.GradUqReferenceIdeal Cert.GradUqReferenceIdeal.Gen in
/-- The reference's array, entry by entry. -/
theorem read_uq (A : FVec Ideal S4608x1024 .bf16) (B : FVec Ideal S4608x384 .bf16) :
    transpose S1024x384 [1, 0] (transpose S384x1024 [1, 0] (Host.dotGeneral dot_S4608x1024_S4608x384_S1024x384_0_0_1_1_n_n none (extf .f32 A bitsLt_bf16_f32) (extf .f32 B bitsLt_bf16_f32)) transposes_S1024x384_S384x1024_1_0) transposes_S384x1024_S1024x384_1_0
      = fun i => ∑ k, A (ix2 k (i 0)) * B (ix2 k (i 1)) := by
  refine ext2 fun i j => ?_
  pointwise [mul_comm]

/-- The gradient of the queries' projection's weights. -/
theorem grad_uq : Cert.algebraic_GradUqIdeal_GradUqReferenceIdeal := by
  intro m g m' g' _ hagree
  refine ⟨fun c => (Cert.GradUqIdeal.Gen.dats m 0 c).arrAt 2 Cert.GradUqIdeal.cfg0.N, Cert.GradUqIdeal.Value.run_blocks m g, ?_⟩
  refine (θ_run Cert.GradUqReferenceIdeal.defs _ _).mono (fun _ h c => ⟨?_, (h c).2⟩) (Cert.GradUqReferenceIdeal.Value.run (F := Ideal) m' g')
  obtain ⟨a0, a1⟩ := hagree c
  refine (h c).1.trans (Eq.trans ?_ (GradUq.final m c).symm)
  rw [a0, a1]
  exact read_uq _ _

/-- The reference of the keys' and values' projection's weights ends, its arguments and counters as they were. -/
theorem frame_ukv : Cert.quiescent_GradUkvReferenceIdeal := fun m g _ =>
  (θ_run Cert.GradUkvReferenceIdeal.defs _ _).mono (fun r h => ⟨fun c => (h c).2, sem_eq_zero_of_no_sems (by decide) r.2⟩)
    (Cert.GradUkvReferenceIdeal.Value.run (F := Ideal) m g)

open Cert.GradUkvReferenceIdeal Cert.GradUkvReferenceIdeal.Gen in
/-- The reference's array, entry by entry. -/
theorem read_ukv (A : FVec Ideal S4608x256 .bf16) (B : FVec Ideal S4608x1024 .bf16) :
    transpose S4x256x256 [1, 0, 2] (shapeCast S256x4x256 (transpose S256x1024 [1, 0] (Host.dotGeneral dot_S4608x1024_S4608x256_S1024x256_0_0_1_1_n_n none (extf .f32 B bitsLt_bf16_f32) (extf .f32 A bitsLt_bf16_f32)) transposes_S1024x256_S256x1024_1_0) shapeCasts_S256x1024_S256x4x256) transposes_S256x4x256_S4x256x256_1_0_2
      = fun i => ∑ k, A (ix2 k (i 1)) * B (ix2 k (Cert.Proof.GradUkv.lane (i 0) (i 2))) := by
  refine ext3 fun s i j => ?_
  pointwise [Cert.Proof.GradUkv.lane, mul_comm]

/-- The gradient of the keys' and values' projection's weights. -/
theorem grad_ukv : Cert.algebraic_GradUkvIdeal_GradUkvReferenceIdeal := by
  intro m g m' g' _ hagree
  refine ⟨fun c => (Cert.GradUkvIdeal.Gen.dats m 0 c).arrAt 2 Cert.GradUkvIdeal.cfg0.N, Cert.GradUkvIdeal.Value.run_blocks m g, ?_⟩
  refine (θ_run Cert.GradUkvReferenceIdeal.defs _ _).mono (fun _ h c => ⟨?_, (h c).2⟩) (Cert.GradUkvReferenceIdeal.Value.run (F := Ideal) m' g')
  obtain ⟨a0, a1⟩ := hagree c
  refine (h c).1.trans (Eq.trans ?_ (GradUkv.final m c).symm)
  rw [a0, a1]
  exact read_ukv _ _

end Cert.Proof.GradEquation
-- ==== Proof.AdamW.lean ====
/- One step of the optimiser on numbers, as the calls and the references write it. -/
module

public import Idealize.ShloMosaic.Lib.Pointwise
public import Idealize.ShloMosaic.Lib.IdealHost

@[expose] public section

noncomputable section

namespace Cert.Proof.AdamW

open Idealize.ShloMosaic

/-- The activation of the modulation's input, `x / (1 + exp (-x))`. -/
def act (x : EReal) : EReal := Ideal.div x (1 + Ideal.exp (0 - x))
/-- The new first moment. -/
def first (g m : EReal) : EReal := Ideal.ofBits .f32 0x3F666666#32 * m + Ideal.ofBits .f32 0x3DCCCCCD#32 * g
/-- The new second moment. -/
def second (g v : EReal) : EReal := Ideal.ofBits .f32 0x3F7FBE77#32 * v + Ideal.ofBits .f32 0x3A83126F#32 * (g * g)
/-- The step: minus the rate times the corrected first moment over the root of the corrected second one, and the decay. -/
def step (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

theorem ne_zero (x : EReal) : 1 + Ideal.exp x ≠ 0 := by
  refine ne_of_gt (lt_of_lt_of_le zero_lt_one (le_add_of_nonneg_right ?_))
  induction x using EReal.rec with
  | bot => exact le_refl _
  | top => exact le_top
  | coe r => exact EReal.coe_nonneg.mpr (Real.exp_pos r).le

/-- The activation as a product with the sigmoid. -/
theorem act_mul (x : EReal) : x * Ideal.div 1 (1 + Ideal.exp (-x)) = act x := by
  unfold act
  rw [Ideal.mul_one_div (ne_zero _), zero_sub]

end Cert.Proof.AdamW
-- ==== Proof.AdaArrays.lean ====
/- The call on the modulation's weights: its points take 256 of the 1024 rows each, and the arrays it leaves are the gradient of the weights, that of the
   activations, the step and the two moments, entry by entry. -/
module

public import proofs.«01_k».proof.Proof.AdamW
public import proofs.«01_k».proof.Proof.Gen.AdaIdeal.Value
public import Idealize.ShloMosaic.Lib.Pipeline.ValueKit
public import Idealize.ShloMosaic.Lib.Pipeline.ReadBack

@[expose] public section

set_option maxRecDepth 16384

noncomputable section

namespace Cert.Proof.AdaArrays

open Cert.AdaIdeal Cert.AdaIdeal.Gen Idealize.ShloMosaic Idealize.ShloMosaic.TcCoe Idealize.SL.Sem
open Cert.Proof.AdamW

/-- An entry of the weights' gradient: the sum over the rows of activation and gradient. -/
def grad (a : FVec Ideal S24x1024 .f32) (d : FVec Ideal S24x1536 .f32) (i : Fin 1024) (j : Fin 1536) : EReal :=
  ∑ k : Fin 24, act (a (ix2 k i)) * d (ix2 k j)
/-- An entry of the activations' gradient: the sum over the columns of gradient and weight. -/
def back (d : FVec Ideal S24x1536 .f32) (w : FVec Ideal S1024x1536 .f32) (i : Fin 24) (j : Fin 1024) : EReal :=
  ∑ k : Fin 1536, d (ix2 i k) * w (ix2 j k)

section
variable (x0 : FVec Ideal S24x256 .f32) (x1 : FVec Ideal S24x1536 .f32) (x2 x3 x4 : FVec Ideal S256x1536 .f32)

/-- A block's entry of the weights' gradient. -/
def g (i : Fin 256) (j : Fin 1536) : EReal := ∑ k : Fin 24, act (x0 (ix2 k i)) * x1 (ix2 k j)

theorem out5 (i : Fin 256) (j : Fin 1536) : out0_5 (F := Ideal) x0 x1 x2 x3 x4 (ix2 i j) = g x0 x1 i j := by
  unfold out0_5
  frame_out
  pointwise [k0_pay4, k0_pay3, zero_add]
  rfl
theorem out6 (i : Fin 24) (j : Fin 256) : out0_6 (F := Ideal) x0 x1 x2 x3 x4 (ix2 i j) = ∑ k : Fin 1536, x1 (ix2 i k) * x2 (ix2 j k) := by
  unfold out0_6
  frame_out
  pointwise [k0_pay2, k0_pay3, zero_add]
theorem out7 (i : Fin 256) (j : Fin 1536) : out0_7 (F := Ideal) x0 x1 x2 x3 x4 (ix2 i j)
    = step (x2 (ix2 i j)) (g x0 x1 i j) (x3 (ix2 i j)) (x4 (ix2 i j)) := by
  unfold out0_7
  frame_out
  pointwise [k0_pay1, k0_pay7, k0_pay8, k0_pay6, k0_pay5, k0_pay4, k0_pay3, zero_add]
  rfl
theorem out8 (i : Fin 256) (j : Fin 1536) : out0_8 (F := Ideal) x0 x1 x2 x3 x4 (ix2 i j) = first (g x0 x1 i j) (x3 (ix2 i j)) := by
  unfold out0_8
  frame_out
  pointwise [k0_pay5, k0_pay4, k0_pay3, zero_add]
  rfl
theorem out9 (i : Fin 256) (j : Fin 1536) : out0_9 (F := Ideal) x0 x1 x2 x3 x4 (ix2 i j) = second (g x0 x1 i j) (x4 (ix2 i j)) := by
  unfold out0_9
  frame_out
  pointwise [k0_pay6, k0_pay4, k0_pay3, zero_add]
  rfl
end

variable (m : (ℓ : Loc nD τ sig) → Buf (Elt Ideal) ℓ) (c : Dev nD)

/-- The inputs of the modulation, the gradient behind it, its weights and their two moments. -/
abbrev inp : FVec Ideal S24x1024 .f32 := m ((c : Thread nD τ).loc main_arg0)
abbrev dmod : FVec Ideal S24x1536 .f32 := m ((c : Thread nD τ).loc main_arg1)
abbrev wt : FVec Ideal S1024x1536 .f32 := m ((c : Thread nD τ).loc main_arg2)
abbrev mo : FVec Ideal S1024x1536 .f32 := m ((c : Thread nD τ).loc main_arg3)
abbrev ve : FVec Ideal S1024x1536 .f32 := m ((c : Thread nD τ).loc main_arg4)

/-- The block index of each window at a point. -/
theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![0, t.val]
    ∧ win0_7.index t = ![t.val, 0] ∧ win0_8.index t = ![t.val, 0] ∧ win0_9.index t = ![t.val, 0] :=
  (by decide +kernel : ∀ t : Fin grid0.N, _)

theorem lt_points (t : Fin cfg0.N) : t.val < 4 := lt_of_lt_of_eq t.isLt (by decide +kernel : cfg0.N = 4)

/-- The array's row that row `i` of a point's block is. -/
def row (t : Fin cfg0.N) (i : Fin 256) : Fin 1024 := ⟨t.val * 256 + i, by have := lt_points t; omega⟩

variable (t : Fin cfg0.N)

theorem at0 (k : Fin 24) (i : Fin 256) : (iblk m c 0 t : FVec Ideal S24x256 .f32) (ix2 k i) = inp m c (ix2 k (row t i)) := by
  have := lt_points t
  blk_ext [iblk, V, idx t, row]
theorem at1 (k : Fin 24) (j : Fin 1536) : (iblk m c 1 t : FVec Ideal S24x1536 .f32) (ix2 k j) = dmod m c (ix2 k j) := by
  have := lt_points t
  blk_ext [iblk, V, idx t, row]
theorem at2 (i : Fin 256) (j : Fin 1536) : (iblk m c 2 t : FVec Ideal S256x1536 .f32) (ix2 i j) = wt m c (ix2 (row t i) j) := by
  have := lt_points t
  blk_ext [iblk, V, idx t, row]
theorem at3 (i : Fin 256) (j : Fin 1536) : (iblk m c 3 t : FVec Ideal S256x1536 .f32) (ix2 i j) = mo m c (ix2 (row t i) j) := by
  have := lt_points t
  blk_ext [iblk, V, idx t, row]
theorem at4 (i : Fin 256) (j : Fin 1536) : (iblk m c 4 t : FVec Ideal S256x1536 .f32) (ix2 i j) = ve m c (ix2 (row t i) j) := by
  have := lt_points t
  blk_ext [iblk, V, idx t, row]
theorem g_at (i : Fin 256) (j : Fin 1536) : g (iblk m c 0 t) (iblk m c 1 t) i j = grad (inp m c) (dmod m c) (row t i) j := by
  unfold g grad
  exact Finset.sum_congr rfl fun k _ => by rw [at0, at1]

theorem blk5 (i : Fin 256) (j : Fin 1536) :
    out0_5 (F := Ideal) (iblk m c 0 t) (iblk m c 1 t) (iblk m c 2 t) (iblk m c 3 t) (iblk m c 4 t) (ix2 i j)
      = grad (inp m c) (dmod m c) (row t i) j := by
  rw [out5, g_at]
/-- What the call leaves: the weights' gradient. -/
theorem final5 : (dats m 0 c).arrAt 5 cfg0.N = fun i : S1024x1536.Idx => grad (inp m c) (dmod m c) (i 0) (i 1) := by
  refine (dats m 0 c).arrAt_eq_of_covers 5 _ (by decide +kernel) fun t hf y => ?_
  have e : (win0_5.blk t).view.emb y = (ix2 (row t (y 0)) (y 1) : S1024x1536.Idx) := by
    have := lt_points t
    blk_ext [idx t, row]
  blk_simp
  rw [after0_5]
  refine (congrArg (out0_5 (F := Ideal) (iblk m c 0 t) (iblk m c 1 t) (iblk m c 2 t) (iblk m c 3 t) (iblk m c 4 t)) (ix2_eta y).symm).trans ?_
  refine (blk5 m c t (y 0) (y 1)).trans ?_
  rw [e]
  rfl

theorem blk7 (i : Fin 256) (j : Fin 1536) :
    out0_7 (F := Ideal) (iblk m c 0 t) (iblk m c 1 t) (iblk m c 2 t) (iblk m c 3 t) (iblk m c 4 t) (ix2 i j)
      = step (wt m c (ix2 (row t i) j)) (grad (inp m c) (dmod m c) (row t i) j) (mo m c (ix2 (row t i) j)) (ve m c (ix2 (row t i) j)) := by
  rw [out7, at2, at3, at4, g_at]
/-- What the call leaves: the step. -/
theorem final7 : (dats m 0 c).arrAt 7 cfg0.N = fun i : S1024x1536.Idx => step (wt m c i) (grad (inp m c) (dmod m c) (i 0) (i 1)) (mo m c i) (ve m c i) := by
  refine (dats m 0 c).arrAt_eq_of_covers 7 _ (by decide +kernel) fun t hf y => ?_
  have e : (win0_7.blk t).view.emb y = (ix2 (row t (y 0)) (y 1) : S1024x1536.Idx) := by
    have := lt_points t
    blk_ext [idx t, row]
  blk_simp
  rw [after0_7]
  refine (congrArg (out0_7 (F := Ideal) (iblk m c 0 t) (iblk m c 1 t) (iblk m c 2 t) (iblk m c 3 t) (iblk m c 4 t)) (ix2_eta y).symm).trans ?_
  refine (blk7 m c t (y 0) (y 1)).trans ?_
  rw [e]
  rfl

theorem blk8 (i : Fin 256) (j : Fin 1536) :
    out0_8 (F := Ideal) (iblk m c 0 t) (iblk m c 1 t) (iblk m c 2 t) (iblk m c 3 t) (iblk m c 4 t) (ix2 i j)
      = first (grad (inp m c) (dmod m c) (row t i) j) (mo m c (ix2 (row t i) j)) := by
  rw [out8, at3, g_at]
/-- What the call leaves: the first moment. -/
theorem final8 : (dats m 0 c).arrAt 8 cfg0.N = fun i : S1024x1536.Idx => first (grad (inp m c) (dmod m c) (i 0) (i 1)) (mo m c i) := by
  refine (dats m 0 c).arrAt_eq_of_covers 8 _ (by decide +kernel) fun t hf y => ?_
  have e : (win0_8.blk t).view.emb y = (ix2 (row t (y 0)) (y 1) : S1024x1536.Idx) := by
    have := lt_points t
    blk_ext [idx t, row]
  blk_simp
  rw [after0_8]
  refine (congrArg (out0_8 (F := Ideal) (iblk m c 0 t) (iblk m c 1 t) (iblk m c 2 t) (iblk m c 3 t) (iblk m c 4 t)) (ix2_eta y).symm).trans ?_
  refine (blk8 m c t (y 0) (y 1)).trans ?_
  rw [e]
  rfl

theorem blk9 (i : Fin 256) (j : Fin 1536) :
    out0_9 (F := Ideal) (iblk m c 0 t) (iblk m c 1 t) (iblk m c 2 t) (iblk m c 3 t) (iblk m c 4 t) (ix2 i j)
      = second (grad (inp m c) (dmod m c) (row t i) j) (ve m c (ix2 (row t i) j)) := by
  rw [out9, at4, g_at]
/-- What the call leaves: the second moment. -/
theorem final9 : (dats m 0 c).arrAt 9 cfg0.N = fun i : S1024x1536.Idx => second (grad (inp m c) (dmod m c) (i 0) (i 1)) (ve m c i) := by
  refine (dats m 0 c).arrAt_eq_of_covers 9 _ (by decide +kernel) fun t hf y => ?_
  have e : (win0_9.blk t).view.emb y = (ix2 (row t (y 0)) (y 1) : S1024x1536.Idx) := by
    have := lt_points t
    blk_ext [idx t, row]
  blk_simp
  rw [after0_9]
  refine (congrArg (out0_9 (F := Ideal) (iblk m c 0 t) (iblk m c 1 t) (iblk m c 2 t) (iblk m c 3 t) (iblk m c 4 t)) (ix2_eta y).symm).trans ?_
  refine (blk9 m c t (y 0) (y 1)).trans ?_
  rw [e]
  rfl

/-- What the call leaves: the activations' gradient. -/
theorem final6 : (dats m 0 c).arrAt 6 cfg0.N = fun i : S24x1024.Idx => back (dmod m c) (wt m c) (i 0) (i 1) := by
  refine (dats m 0 c).arrAt_eq_of_covers 6 _ (by decide +kernel) fun t hf y => ?_
  have e : (win0_6.blk t).view.emb y = (ix2 (y 0) (row t (y 1)) : S24x1024.Idx) := by
    have := lt_points t
    blk_ext [idx t, row]
  blk_simp
  rw [after0_6]
  refine (congrArg (out0_6 (F := Ideal) (iblk m c 0 t) (iblk m c 1 t) (iblk m c 2 t) (iblk m c 3 t) (iblk m c 4 t)) (ix2_eta y).symm).trans ?_
  refine (out6 (iblk m c 0 t) (iblk m c 1 t) (iblk m c 2 t) (iblk m c 3 t) (iblk m c 4 t) (y 0) (y 1)).trans ?_
  rw [e]
  exact Finset.sum_congr rfl fun k _ => congrArg₂ (· * ·) (at1 m c t (y 0) k) (at2 m c t (y 1) k)

end Cert.Proof.AdaArrays
-- ==== Proof.AdaEquation.lean ====
/- The call on the modulation's weights leaves the reference's arrays: the reference, read entry by entry. -/
module

public import proofs.«01_k».proof.Defs
public import proofs.«01_k».proof.Proof.Gen.Ada.Frame
public import proofs.«01_k».proof.Proof.Gen.AdaReferenceIdeal.Run
public import proofs.«01_k».proof.Proof.AdaArrays
public import Idealize.ShloMosaic.Lib.Quiescent
public import Idealize.ShloMosaic.Adequacy
public import Idealize.ShloMosaic.Init

@[expose] public section

set_option maxRecDepth 16384

noncomputable section

namespace Cert.Proof.AdaEquation

open Idealize.ShloMosaic Idealize.SL.Sem
open Cert.Proof.AdamW Cert.Proof.AdaArrays

attribute [local instance] Cert.Ada.Gen.facts Cert.AdaIdeal.Gen.facts Cert.AdaReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _

section
open Cert.AdaReferenceIdeal Cert.AdaReferenceIdeal.Gen
variable (A : FVec Ideal S24x1024 .f32) (B : FVec Ideal S24x1536 .f32) (C D E G : FVec Ideal S1024x1536 .f32)

theorem read_grad : transpose S1024x1536 [1, 0] (Host.dotGeneral dot_S24x1536_S24x1024_S1536x1024_0_0_1_1_n_n none B (mulf A (Host.divf (broadcastInDim S24x1024 ![] bcast_S_S24x1024 (constant S_ .f32 0x3F800000#32)) (addf (broadcastInDim S24x1024 ![] bcast_S_S24x1024 (constant S_ .f32 0x3F800000#32)) (Host.exp (Host.negf A)))))) transposes_S1536x1024_S1024x1536_1_0
    = fun i => grad A B (i 0) (i 1) := by
  refine ext2 fun i j => ?_
  pointwise []
  refine Finset.sum_congr rfl fun k _ => ?_
  rw [act_mul, mul_comm]
theorem read_back : Host.dotGeneral dot_S24x1536_S1024x1536_S24x1024_1_1_0_0_n_n none B C
    = fun i => back B C (i 0) (i 1) := by
  refine ext2 fun i j => ?_
  unfold back
  pointwise []
theorem read_step : mulf (broadcastInDim S1024x1536 ![] bcast_S_S1024x1536 (constant S_ .f32 0xBA83126F#32)) (addf (Host.divf (Host.divf (addf (mulf (broadcastInDim S1024x1536 ![] bcast_S_S1024x1536 (constant S_ .f32 0x3F666666#32)) D) (mulf (broadcastInDim S1024x1536 ![] bcast_S_S1024x1536 (constant S_ .f32 0x3DCCCCCD#32)) G)) (broadcastInDim S1024x1536 ![] bcast_S_S1024x1536 (constant S_ .f32 0x3F26BD02#32))) (addf (Host.sqrt (Host.divf (addf (mulf (broadcastInDim S1024x1536 ![] bcast_S_S1024x1536 (constant S_ .f32 0x3F7FBE77#32)) E) (mulf (broadcastInDim S1024x1536 ![] bcast_S_S1024x1536 (constant S_ .f32 0x3A83126F#32)) (mulf G G))) (broadcastInDim S1024x1536 ![] bcast_S_S1024x1536 (constant S_ .f32 0x3C231ACC#32)))) (broadcastInDim S1024x1536 ![] bcast_S_S1024x1536 (constant S_ .f32 0x322BCC77#32)))) (mulf (broadcastInDim S1024x1536 ![] bcast_S_S1024x1536 (constant S_ .f32 0x3C23D70A#32)) C))
    = fun i => step (C i) (G i) (D i) (E i) := by
  refine ext2 fun i j => ?_
  pointwise []
  rfl
theorem read_first : addf (mulf (broadcastInDim S1024x1536 ![] bcast_S_S1024x1536 (constant S_ .f32 0x3F666666#32)) D) (mulf (broadcastInDim S1024x1536 ![] bcast_S_S1024x1536 (constant S_ .f32 0x3DCCCCCD#32)) G)
    = fun i => first (G i) (D i) := by
  refine ext2 fun i j => ?_
  pointwise []
  rfl
theorem read_second : addf (mulf (broadcastInDim S1024x1536 ![] bcast_S_S1024x1536 (constant S_ .f32 0x3F7FBE77#32)) E) (mulf (broadcastInDim S1024x1536 ![] bcast_S_S1024x1536 (constant S_ .f32 0x3A83126F#32)) (mulf G G))
    = fun i => second (G i) (E i) := by
  refine ext2 fun i j => ?_
  pointwise []
  rfl
end

/-- The reference ends, its arguments and counters as they were. -/
theorem frame : Cert.quiescent_AdaReferenceIdeal := fun m g _ =>
  (θ_run Cert.AdaReferenceIdeal.defs _ _).mono (fun r h => ⟨fun c => (h c).2.2.2.2.2, sem_eq_zero_of_no_sems (by decide) r.2⟩)
    (Cert.AdaReferenceIdeal.Value.run (F := Ideal) m g)

/-- The call's five arrays are the reference's. -/
theorem algebraic : Cert.algebraic_AdaIdeal_AdaReferenceIdeal := by
  intro m g m' g' _ hagree
  refine ⟨fun c => (Cert.AdaIdeal.Gen.dats m 0 c).arrAt 5 Cert.AdaIdeal.cfg0.N, fun c => (Cert.AdaIdeal.Gen.dats m 0 c).arrAt 6 Cert.AdaIdeal.cfg0.N,
    fun c => (Cert.AdaIdeal.Gen.dats m 0 c).arrAt 7 Cert.AdaIdeal.cfg0.N, fun c => (Cert.AdaIdeal.Gen.dats m 0 c).arrAt 8 Cert.AdaIdeal.cfg0.N,
    fun c => (Cert.AdaIdeal.Gen.dats m 0 c).arrAt 9 Cert.AdaIdeal.cfg0.N, Cert.AdaIdeal.Value.run_blocks m g, ?_⟩
  refine (θ_run Cert.AdaReferenceIdeal.defs _ _).mono (fun _ h c => ?_) (Cert.AdaReferenceIdeal.Value.run (F := Ideal) m' g')
  obtain ⟨r5, r6, r7, r8, r9, kept⟩ := h c
  obtain ⟨a0, a1, a2, a3, a4⟩ := hagree c
  rw [a0, a1] at r5
  rw [a1, a2] at r6
  rw [a0, a1, a2, a3, a4] at r7
  rw [a0, a1, a3] at r8
  rw [a0, a1, a4] at r9
  rw [read_grad] at r5 r7 r8 r9
  exact ⟨r5.trans (final5 m c).symm, r6.trans ((read_back _ _).trans (final6 m c).symm), r7.trans ((read_step _ _ _ _).trans (final7 m c).symm),
    r8.trans ((read_first _ _).trans (final8 m c).symm), r9.trans ((read_second _ _).trans (final9 m c).symm), kept⟩

end Cert.Proof.AdaEquation
-- ==== Proof.RowsSums.lean ====
/- What the call that adds the devices' packed rows leaves: each row of its output, as sums over the devices. -/
module

public import proofs.«01_k».proof.Proof.Gen.RowsIdeal.Value
public import Idealize.ShloMosaic.Lib.Pipeline.ValueKit
public import Idealize.ShloMosaic.Lib.Pipeline.ReadBack
public import Idealize.ShloMosaic.Lib.Pipeline.RowLoads

@[expose] public section

set_option maxRecDepth 16384

noncomputable section

namespace Cert.Proof.RowsSums

open Cert.RowsIdeal Cert.RowsIdeal.Gen Idealize.ShloMosaic Idealize.ShloMosaic.TcCoe Idealize.SL.Sem

/-- One row's entry added over the eight devices. -/
def total (X : FVec Ideal S8x32x1024 .f32) (r : Fin 32) (j : Fin 1024) : EReal := ∑ d : Fin 8, X (ix3 d r j)

/-- The rows the call leaves: the first sixteen as they are added; then the modulation's bias, both examples' halves and, in its
first two rows, the context's; then two rows of zeros. -/
def want (X : FVec Ideal S8x32x1024 .f32) (i : Fin 24) (j : Fin 1024) : EReal :=
  if h : i.val < 16 then total X ⟨i.val, by omega⟩ j
  else if i.val < 18 then total X ⟨i.val - 4, by omega⟩ j + total X ⟨i.val + 2, by omega⟩ j + total X ⟨i.val - 8, by omega⟩ j
  else if i.val < 22 then total X ⟨i.val - 4, by omega⟩ j + total X ⟨i.val + 2, by omega⟩ j
  else 0

/-- The two halves, taken device by device, are the two sums. -/
theorem pairs (a b : Fin 8 → EReal) :
    a 0 + b 0 + a 1 + b 1 + a 2 + b 2 + a 3 + b 3 + a 4 + b 4 + a 5 + b 5 + a 6 + b 6 + a 7 + b 7
      = ∑ d, a d + ∑ d, b d := by
  rw [Fin.sum_univ_eight, Fin.sum_univ_eight]
  ac_rfl

/-- One of the sixteen rows, read back from what the body has just stored. -/
theorem readOwn {κ : Kind} {sp : Space} (v : View sig κ sp S24x1024 .f32) (o : Nat) (ho : o < 16)
    (inb : ∀ a, (![0, 0] : Fin 2 → Nat) a + (![16, 1024] : Fin 2 → Nat) a ≤ S24x1024.size a) (w : S16x1024.Idx → Elt Ideal .f32)
    (inb' : ∀ a, (![o, 0] : Fin 2 → Nat) a + (![1, 1024] : Fin 2 → Nat) a ≤ S24x1024.size a) (x : S1x1024.Idx) :
    (v.readCov (Val := Elt Ideal) [⟨Rect.unit (s := S24x1024) ![0, 0] ![16, 1024] inb, w⟩] (Rect.unit (s := S24x1024) ![o, 0] ![1, 1024] inb').toLoadRect : S1x1024.Idx → Elt Ideal .f32) x
      = w (ix2 ⟨o, ho⟩ (x 1)) := by
  rw [View.readCov_eq_canon']
  have e : (Rect.unit (s := S24x1024) ![o, 0] ![1, 1024] inb').toLoadRect.idx x
      = (Rect.unit (s := S24x1024) ![0, 0] ![16, 1024] inb).emb (ix2 ⟨o, ho⟩ (x 1) : S16x1024.Idx) := by
    funext a; apply Fin.ext
    have : (x 0).val < 1 := (x 0).isLt
    fin_cases a
    · show o + 1 * (x 0).val = 0 + 1 * o; omega
    · show 0 + 1 * (x 1).val = 0 + 1 * (x 1).val; rfl
  exact (congrArg (View.canon [⟨Rect.unit (s := S24x1024) ![0, 0] ![16, 1024] inb, w⟩]) e).trans
    (View.canon_cons_emb (Rect.unit (s := S24x1024) ![0, 0] ![16, 1024] inb) w [] _)

/-- The same, where another row has been stored since. -/
theorem readOwn₂ {κ : Kind} {sp : Space} (v : View sig κ sp S24x1024 .f32) (o : Nat) (ho : o < 16)
    (inb₂ : ∀ a, (![16, 0] : Fin 2 → Nat) a + (![1, 1024] : Fin 2 → Nat) a ≤ S24x1024.size a) (w₂ : S1x1024.Idx → Elt Ideal .f32)
    (inb : ∀ a, (![0, 0] : Fin 2 → Nat) a + (![16, 1024] : Fin 2 → Nat) a ≤ S24x1024.size a) (w : S16x1024.Idx → Elt Ideal .f32)
    (inb' : ∀ a, (![o, 0] : Fin 2 → Nat) a + (![1, 1024] : Fin 2 → Nat) a ≤ S24x1024.size a) (x : S1x1024.Idx) :
    (v.readCov (Val := Elt Ideal) [⟨Rect.unit (s := S24x1024) ![16, 0] ![1, 1024] inb₂, w₂⟩, ⟨Rect.unit (s := S24x1024) ![0, 0] ![16, 1024] inb, w⟩]
        (Rect.unit (s := S24x1024) ![o, 0] ![1, 1024] inb').toLoadRect : S1x1024.Idx → Elt Ideal .f32) x
      = w (ix2 ⟨o, ho⟩ (x 1)) := by
  rw [View.readCov_cons_of_rows_disjoint (k := 1) (k' := 1) v 16 o (Or.inr (by omega)) w₂ _ inb₂ inb']
  exact readOwn v o ho inb w inb' x

variable (m : (ℓ : Loc nD τ sig) → Buf (Elt Ideal) ℓ) (c : Dev nD) (t : Fin cfg0.N)
/-- The block the body reads: the gathered rows. -/
abbrev X : FVec Ideal S8x32x1024 .f32 := iblk m c 0 t

/-- What the body stores, entry by entry. -/
theorem top (i : Fin 24) (j : Fin 1024) : (outsAt0 m c t : FVec Ideal S24x1024 .f32) (ix2 i j) = want (X m c t) i j := by
  unfold outsAt0 out0_A_1
  frame_out
  simp only [read_unread_whole]
  canon_tiles x h using View.cover_of_tiledBy _ ![1, 1024] (by sl_kernel_rfl) _
  · have hi : 22 ≤ i.val := by have : i.val = 22 + (x 0).val := h0; omega
    have e : want (X m c t) i j = 0 := by
      unfold want
      rw [dif_neg (by omega), if_neg (by omega), if_neg (by omega)]
    rw [e]
    open_payloads
    pointwise []
  · open_payloads
    pointwise []
    obtain rfl : i = 21 := Fin.ext (by have : i.val = 21 + (x 0).val := h0; show i.val = 21; omega)
    obtain rfl : j = x 1 := Fin.ext h1
    exact pairs (fun d => X m c t (ix3 d 17 (x 1))) (fun d => X m c t (ix3 d 23 (x 1)))
  · open_payloads
    pointwise []
    obtain rfl : i = 20 := Fin.ext (by have : i.val = 20 + (x 0).val := h0; show i.val = 20; omega)
    obtain rfl : j = x 1 := Fin.ext h1
    exact pairs (fun d => X m c t (ix3 d 16 (x 1))) (fun d => X m c t (ix3 d 22 (x 1)))
  · open_payloads
    pointwise []
    obtain rfl : i = 19 := Fin.ext (by have : i.val = 19 + (x 0).val := h0; show i.val = 19; omega)
    obtain rfl : j = x 1 := Fin.ext h1
    exact pairs (fun d => X m c t (ix3 d 15 (x 1))) (fun d => X m c t (ix3 d 21 (x 1)))
  · open_payloads
    pointwise []
    obtain rfl : i = 18 := Fin.ext (by have : i.val = 18 + (x 0).val := h0; show i.val = 18; omega)
    obtain rfl : j = x 1 := Fin.ext h1
    exact pairs (fun d => X m c t (ix3 d 14 (x 1))) (fun d => X m c t (ix3 d 20 (x 1)))
  · open_payloads
    pointwise []
    obtain rfl : i = 17 := Fin.ext (by have : i.val = 17 + (x 0).val := h0; show i.val = 17; omega)
    obtain rfl : j = x 1 := Fin.ext h1
    refine congrArg₂ (· + ·) (pairs (fun d => X m c t (ix3 d 13 (x 1))) (fun d => X m c t (ix3 d 19 (x 1)))) ?_
    refine (readOwn₂ _ 9 (by omega) _ _ _ _ _ x).trans ?_
    pointwise []
    exact (Fin.sum_univ_eight fun d => X m c t (ix3 d 9 (x 1))).symm
  · open_payloads
    pointwise []
    obtain rfl : i = 16 := Fin.ext (by have : i.val = 16 + (x 0).val := h0; show i.val = 16; omega)
    obtain rfl : j = x 1 := Fin.ext h1
    refine congrArg₂ (· + ·) (pairs (fun d => X m c t (ix3 d 12 (x 1))) (fun d => X m c t (ix3 d 18 (x 1)))) ?_
    refine (readOwn _ 8 (by omega) _ _ _ x).trans ?_
    pointwise []
    exact (Fin.sum_univ_eight fun d => X m c t (ix3 d 8 (x 1))).symm
  · open_payloads
    pointwise []
    have hi : i.val = (x 0).val := h0
    obtain rfl : j = x 1 := Fin.ext h1
    have e : want (X m c t) i (x 1) = total (X m c t) ⟨(x 0).val, by omega⟩ (x 1) := by
      unfold want
      rw [dif_pos (by omega)]
      congr 2
    rw [e]
    exact (Fin.sum_univ_eight fun d => X m c t (ix3 d ⟨(x 0).val, by omega⟩ (x 1))).symm

/-- The rows of all devices, as the program is given them. -/
abbrev gathered : FVec Ideal S8x32x1024 .f32 := m ((c : Thread nD τ).loc main_arg0)

/-- The block index of each window at the one point. -/
theorem idx : ∀ t : Fin cfg0.N, win0_0.index t = ![0, 0, 0] ∧ win0_1.index t = ![0, 0] :=
  (by decide +kernel : ∀ t : Fin grid0.N, _)

theorem at0 (d : Fin 8) (i : Fin 32) (j : Fin 1024) : X m c t (ix3 d i j) = gathered m c (ix3 d i j) := by
  blk_ext [iblk, V, idx t]

/-- The block is the whole argument. -/
theorem X_eq : X m c t = gathered m c := by
  funext y
  rw [← ix3_eta y]
  exact at0 m c t _ _ _

/-- What the call leaves. -/
theorem final1 : (dats m 0 c).arrAt 1 cfg0.N = fun i : S24x1024.Idx => want (gathered m c) (i 0) (i 1) := by
  refine (dats m 0 c).arrAt_eq_of_covers 1 _ (by decide +kernel) fun t hf y => ?_
  have e : (win0_1.blk t).view.emb y = (y : S24x1024.Idx) := by
    blk_ext [idx t]
  blk_simp
  rw [after0_1]
  refine (congrArg (outsAt0 m c t : FVec Ideal S24x1024 .f32) (ix2_eta y).symm).trans ?_
  refine (top m c t (y 0) (y 1)).trans ?_
  rw [e, X_eq]

end Cert.Proof.RowsSums
-- ==== Proof.RowsEquation.lean ====
/- The call that adds the devices' rows leaves the reference's rows: the reference, read entry by entry. -/
module

public import proofs.«01_k».proof.Defs
public import proofs.«01_k».proof.Proof.Gen.Rows.Frame
public import proofs.«01_k».proof.Proof.Gen.RowsReferenceIdeal.Run
public import proofs.«01_k».proof.Proof.RowsSums
public import Idealize.ShloMosaic.Lib.Quiescent
public import Idealize.ShloMosaic.Adequacy
public import Idealize.ShloMosaic.Init

@[expose] public section

set_option maxRecDepth 16384

noncomputable section

namespace Cert.Proof.RowsEquation

open Idealize.ShloMosaic Idealize.SL.Sem
open Cert.Proof.RowsSums

attribute [local instance] Cert.Rows.Gen.facts Cert.RowsIdeal.Gen.facts Cert.RowsReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _

section
open Cert.RowsReferenceIdeal Cert.RowsReferenceIdeal.Gen
variable (A : FVec Ideal S8x32x1024 .f32)

/-- The reference's rows. -/
theorem read_rows : (concatenate S24x1024 0 [⟨S16x1024, ((extractStridedSlice S16x1024 ![0, 0] (Host.reduceAdd A (constant S_ .f32 0x00000000#32) reducesTo_S8x32x1024_S32x1024_d0 h_S_) slices_S32x1024_S16x1024_0_0) : FVec Ideal S16x1024 .f32)⟩, ⟨S2x1024, ((addf (extractStridedSlice S2x1024 ![0, 0] (addf (extractStridedSlice S6x1024 ![12, 0] (Host.reduceAdd A (constant S_ .f32 0x00000000#32) reducesTo_S8x32x1024_S32x1024_d0 h_S_) slices_S32x1024_S6x1024_12_0) (extractStridedSlice S6x1024 ![18, 0] (Host.reduceAdd A (constant S_ .f32 0x00000000#32) reducesTo_S8x32x1024_S32x1024_d0 h_S_) slices_S32x1024_S6x1024_18_0)) slices_S6x1024_S2x1024_0_0) (extractStridedSlice S2x1024 ![8, 0] (Host.reduceAdd A (constant S_ .f32 0x00000000#32) reducesTo_S8x32x1024_S32x1024_d0 h_S_) slices_S32x1024_S2x1024_8_0)) : FVec Ideal S2x1024 .f32)⟩, ⟨S4x1024, ((extractStridedSlice S4x1024 ![2, 0] (addf (extractStridedSlice S6x1024 ![12, 0] (Host.reduceAdd A (constant S_ .f32 0x00000000#32) reducesTo_S8x32x1024_S32x1024_d0 h_S_) slices_S32x1024_S6x1024_12_0) (extractStridedSlice S6x1024 ![18, 0] (Host.reduceAdd A (constant S_ .f32 0x00000000#32) reducesTo_S8x32x1024_S32x1024_d0 h_S_) slices_S32x1024_S6x1024_18_0)) slices_S6x1024_S4x1024_2_0) : FVec Ideal S4x1024 .f32)⟩, ⟨S2x1024, ((broadcastInDim S2x1024 ![] bcast_S_S2x1024 (constant S_ .f32 0x00000000#32)) : FVec Ideal S2x1024 .f32)⟩] concatenates_S16x1024_S2x1024_S4x1024_S2x1024_S24x1024_d0 : FVec Ideal S24x1024 .f32)
    = fun i => want A (i 0) (i 1) := by
  refine ext2 fun i j => ?_
  unfold want total
  pointwise []
  have same : ∀ (a b : ℕ) (ha : a < 32) (hb : b < 32), a = b → ∑ x, A (ix3 x ⟨a, ha⟩ j) = ∑ x, A (ix3 x ⟨b, hb⟩ j) := by
    intro a b _ _ h
    subst h
    rfl
  by_cases h : i.val < 16
  · rw [dif_pos h, dif_pos h]
  rw [dif_neg h, dif_neg h]
  by_cases h₂ : i.val < 18
  · rw [dif_pos (by omega), if_pos h₂]
    exact congrArg₂ (· + ·) (congrArg₂ (· + ·) (same _ _ _ _ (by omega)) (same _ _ _ _ (by omega))) (same _ _ _ _ (by omega))
  rw [dif_neg (by omega), if_neg h₂]
  by_cases h₃ : i.val < 22
  · rw [dif_pos (by omega), if_pos h₃]
    exact congrArg₂ (· + ·) (same _ _ _ _ (by omega)) (same _ _ _ _ (by omega))
  rw [dif_neg (by omega), if_neg h₃]
end

/-- The reference ends, its arguments and counters as they were. -/
theorem frame : Cert.quiescent_RowsReferenceIdeal := fun m g _ =>
  (θ_run Cert.RowsReferenceIdeal.defs _ _).mono (fun r h => ⟨fun c => (h c).2, sem_eq_zero_of_no_sems (by decide) r.2⟩)
    (Cert.RowsReferenceIdeal.Value.run (F := Ideal) m g)

/-- The call's rows are the reference's. -/
theorem algebraic : Cert.algebraic_RowsIdeal_RowsReferenceIdeal := by
  intro m g m' g' _ hagree
  refine ⟨fun c => (Cert.RowsIdeal.Gen.dats m 0 c).arrAt 1 Cert.RowsIdeal.cfg0.N, Cert.RowsIdeal.Value.run_blocks m g, ?_⟩
  refine (θ_run Cert.RowsReferenceIdeal.defs _ _).mono (fun _ h c => ?_) (Cert.RowsReferenceIdeal.Value.run (F := Ideal) m' g')
  obtain ⟨r1, kept⟩ := h c
  have a0 := hagree c
  rw [a0] at r1
  exact ⟨r1.trans ((read_rows _).trans (final1 m c).symm), kept⟩

end Cert.Proof.RowsEquation
-- ==== Proof.StepOutArrays.lean ====
/- The optimiser's call on the output projection's weights: its two points take one half of the rows each, and the arrays it leaves are the gradient,
   put together from its two halves, the step and the two moments, entry by entry. -/
module

public import proofs.«01_k».proof.Proof.AdamW
public import proofs.«01_k».proof.Proof.Gen.StepOutIdeal.Frame
public import Idealize.ShloMosaic.Lib.Pipeline.ValueKit
public import Idealize.ShloMosaic.Lib.Pipeline.ReadBack

@[expose] public section

set_option maxRecDepth 16384

noncomputable section

namespace Cert.Proof.StepOutArrays

open Cert.StepOutIdeal Cert.StepOutIdeal.Gen Idealize.ShloMosaic Idealize.ShloMosaic.TcCoe Idealize.SL.Sem
open Cert.Proof.AdamW

/-- A number clamped to 0 is 0. -/
theorem clamp (x : BitVec 32) : Scalar.minsi 0#32 (Scalar.maxsi 0#32 x) = 0#32 := by
  unfold Scalar.minsi Scalar.maxsi IntOp.minsi IntOp.maxsi
  by_cases h : x.slt 0#32 <;> by_cases h' : (0#32).slt x <;> simp [h, h']
  simp only [BitVec.slt, decide_eq_true_eq] at h h'
  exact BitVec.eq_of_toInt_eq (by simp at h h' ⊢; omega)
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl

/-- The halves' blocks are inside the halves, whatever the core. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩
  · rw [index1]; revert a; decide
  · rw [index2]; revert a; decide

variable (m : (ℓ : Loc nD τ sig) → Buf (Elt Ideal) ℓ) (c : Dev nD)

/-- The core's number. -/
abbrev core : BitVec 32 := (m ((c : Thread nD τ).loc main_arg5) : IVec S1 32) (ix1 0)
/-- The weights, the gradient's halves of this core and of the other, and the two moments. -/
abbrev wt : FVec Ideal S256x1024 .f32 := m ((c : Thread nD τ).loc main_arg0)
abbrev mine : FVec Ideal S128x1024 .f32 := m ((c : Thread nD τ).loc main_arg1)
abbrev theirs : FVec Ideal S128x1024 .f32 := m ((c : Thread nD τ).loc main_arg2)
abbrev mo : FVec Ideal S256x1024 .f32 := m ((c : Thread nD τ).loc main_arg3)
abbrev ve : FVec Ideal S256x1024 .f32 := m ((c : Thread nD τ).loc main_arg4)

/-- The entry of half `k` of the gradient. -/
def half (z : BitVec 32) (a b : FVec Ideal S128x1024 .f32) (k : ℕ) (i : Fin 128) (j : Fin 1024) : EReal :=
  if BitVec.ofNat 32 k = z then a (ix2 i j) else b (ix2 i j)
/-- The gradient's entry: of the half the row is in, its row there. -/
def grad (z : BitVec 32) (a b : FVec Ideal S128x1024 .f32) (i : Fin 256) (j : Fin 1024) : EReal :=
  half z a b (i.val / 128) ⟨i.val % 128, Nat.mod_lt _ (by decide)⟩ j

theorem quotient (k : ℕ) (h : k < 2) : Scalar.select (Scalar.andi (Scalar.cmpi .ne (Scalar.subi (Scalar.extui (Scalar.cmpi .sgt (BitVec.ofNat 32 k) 0#32)) (Scalar.extui (Scalar.cmpi .slt (BitVec.ofNat 32 k) 0#32))) (Scalar.subi (Scalar.extui (Scalar.cmpi .sgt 1#32 0#32)) (Scalar.extui (Scalar.cmpi .slt 1#32 0#32)) : BitVec 32)) (Scalar.cmpi .ne (Scalar.remsi (BitVec.ofNat 32 k) 1#32) 0#32)) (Scalar.subi (Scalar.divsi (BitVec.ofNat 32 k) 1#32) 1#32) (Scalar.divsi (BitVec.ofNat 32 k) 1#32) = BitVec.ofNat 32 k := by
  rcases (by omega : k = 0 ∨ k = 1) with e | e <;> subst e <;> decide

theorem pay3 (i : grid0.Coords) (z : BitVec 32) (a b : Vec Ideal S128x1024 .f32) (p : Fin 128) (q : Fin 1024) :
    k0_pay3 (F := Ideal) i z a b (ix2 p q) = half z a b (i 0).val p q := by
  unfold k0_pay3 half
  dsimp only
  rw [quotient _ (i 0).isLt]
  by_cases e : BitVec.ofNat 32 (i 0).val = z
  · simp [Scalar.select, Scalar.cmpi, IntOp.cmpi, e]
  · have e' := beq_false_of_ne e
    simp [Scalar.select, Scalar.cmpi, IntOp.cmpi, e, e']

theorem coord : ∀ t : Fin grid0.N, (grid0.coords t 0).val = t.val := by decide +kernel
theorem lt_points (t : Fin (cfgM m (ok m)).N) : t.val < 2 := lt_of_lt_of_eq t.isLt (by decide +kernel : grid0.N = 2)
/-- The array's row that row `i` of a point's block is. -/
def row (t : Fin (cfgM m (ok m)).N) (i : Fin 128) : Fin 256 := ⟨t.val * 128 + i, by have := lt_points m t; omega⟩

variable (t : Fin (cfgM m (ok m)).N)

/-- The block index of each window at a point. -/
theorem idx : ((cfgM m (ok m)).win 0).index t = ![t.val, 0] ∧ ((cfgM m (ok m)).win 1).index t = ![0, 0] ∧ ((cfgM m (ok m)).win 2).index t = ![0, 0]
    ∧ ((cfgM m (ok m)).win 3).index t = ![t.val, 0] ∧ ((cfgM m (ok m)).win 4).index t = ![t.val, 0] ∧ ((cfgM m (ok m)).win 5).index t = ![t.val, 0]
    ∧ ((cfgM m (ok m)).win 6).index t = ![t.val, 0] ∧ ((cfgM m (ok m)).win 7).index t = ![t.val, 0] ∧ ((cfgM m (ok m)).win 8).index t = ![t.val, 0] := by
  have h := (by decide +kernel : ∀ t : Fin grid0.N, cc0_transform_0 (grid0.coords t) = ![t.val, 0] ∧ cc0_transform_3 (grid0.coords t) = ![t.val, 0]
    ∧ cc0_transform_4 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0]) t
  exact ⟨h.1, index1 _ _, index2 _ _, h.2.1, h.2.2.1, h.2.2.2.1, h.2.2.2.2.1, h.2.2.2.2.2.1, h.2.2.2.2.2.2⟩

theorem at0 (i : Fin 128) (j : Fin 1024) : (iblk m (ok m) c 0 t : FVec Ideal S128x1024 .f32) (ix2 i j) = wt m c (ix2 (row m t i) j) := by
  have := lt_points m t
  blk_ext [iblk, V, idx m t, row]
theorem at1 (i : Fin 128) (j : Fin 1024) : (iblk m (ok m) c 1 t : FVec Ideal S128x1024 .f32) (ix2 i j) = mine m c (ix2 i j) := by
  have := lt_points m t
  blk_ext [iblk, V, idx m t, row]
theorem at2 (i : Fin 128) (j : Fin 1024) : (iblk m (ok m) c 2 t : FVec Ideal S128x1024 .f32) (ix2 i j) = theirs m c (ix2 i j) := by
  have := lt_points m t
  blk_ext [iblk, V, idx m t, row]
theorem at3 (i : Fin 128) (j : Fin 1024) : (iblk m (ok m) c 3 t : FVec Ideal S128x1024 .f32) (ix2 i j) = mo m c (ix2 (row m t i) j) := by
  have := lt_points m t
  blk_ext [iblk, V, idx m t, row]
theorem at4 (i : Fin 128) (j : Fin 1024) : (iblk m (ok m) c 4 t : FVec Ideal S128x1024 .f32) (ix2 i j) = ve m c (ix2 (row m t i) j) := by
  have := lt_points m t
  blk_ext [iblk, V, idx m t, row]

/-- What the point reads of the table is the core's number. -/
theorem word (k : S1.Idx) : View.read (Elt Ideal) (View.whole main_arg5) (tbl m 0) k = core m c := by
  obtain rfl : c = 0 := Subsingleton.elim _ _
  refine congrArg (m (((0 : Dev nD) : Thread nD τ).loc main_arg5) : IVec S1 32) (funext fun a => Fin.ext ?_)
  fin_cases a
  exact Nat.lt_one_iff.mp (k 0).isLt

section
variable (i : grid0.Coords) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole) (a9 : Memref sig .tc .vmem S128x1024 .f32) (h9 : a9.IsWhole) (a10 : Memref sig .tc .vmem S128x1024 .f32) (h10 : a10.IsWhole)
  (x0 x1 x2 x3 x4 : Vec Ideal S128x1024 .f32) (xt : TbBuf0 (F := Ideal) c tbM0_0) (z : BitVec 32)
  (hz : ∀ k : S1.Idx, View.read (Elt Ideal) (View.whole main_arg5) xt k = z)
  (p : Fin 128) (q : Fin 1024)
include hz

theorem point5 : out0_A_5 (F := Ideal) c i a2 h2 a3 h3 a4 h4 a5 h5 a6 h6 a7 h7 a8 h8 a9 h9 a10 h10 x0 x1 x2 x3 x4 xt (ix2 p q) = half z x1 x2 (i 0).val p q := by
  frame_out
  generalize e : View.read _ (View.whole main_arg5) xt _ = z'
  obtain rfl : z' = z := e.symm.trans (hz _)
  exact pay3 i _ x1 x2 p q
theorem point6 : out0_A_6 (F := Ideal) c i a2 h2 a3 h3 a4 h4 a5 h5 a6 h6 a7 h7 a8 h8 a9 h9 a10 h10 x0 x1 x2 x3 x4 xt (ix2 p q) = step (x0 (ix2 p q)) (half z x1 x2 (i 0).val p q) (x3 (ix2 p q)) (x4 (ix2 p q)) := by
  frame_out
  generalize e : View.read _ (View.whole main_arg5) xt _ = z'
  obtain rfl : z' = z := e.symm.trans (hz _)
  pointwise [k0_pay2, k0_pay1, k0_pay4, k0_pay5, k0_pay6, pay3]
  rfl
theorem point7 : out0_A_7 (F := Ideal) c i a2 h2 a3 h3 a4 h4 a5 h5 a6 h6 a7 h7 a8 h8 a9 h9 a10 h10 x0 x1 x2 x3 x4 xt (ix2 p q) = first (half z x1 x2 (i 0).val p q) (x3 (ix2 p q)) := by
  frame_out
  generalize e : View.read _ (View.whole main_arg5) xt _ = z'
  obtain rfl : z' = z := e.symm.trans (hz _)
  pointwise [k0_pay4, pay3]
  rfl
theorem point8 : out0_A_8 (F := Ideal) c i a2 h2 a3 h3 a4 h4 a5 h5 a6 h6 a7 h7 a8 h8 a9 h9 a10 h10 x0 x1 x2 x3 x4 xt (ix2 p q) = second (half z x1 x2 (i 0).val p q) (x4 (ix2 p q)) := by
  frame_out
  generalize e : View.read _ (View.whole main_arg5) xt _ = z'
  obtain rfl : z' = z := e.symm.trans (hz _)
  pointwise [k0_pay1, k0_pay5, k0_pay6, pay3]
  rfl
end

theorem half_at (i : Fin 128) (j : Fin 1024) : half (core m c) (iblk m (ok m) c 1 t) (iblk m (ok m) c 2 t) (grid0.coords t 0).val i j
    = grad (core m c) (mine m c) (theirs m c) (row m t i) j := by
  rw [coord]
  unfold grad half row
  have e : (t.val * 128 + i.val) / 128 = t.val := by omega
  have e' : (t.val * 128 + i.val) % 128 = i.val := by omega
  simp only [e, e']
  rw [at1, at2]

theorem out5 (i : Fin 128) (j : Fin 1024) : (outsAt0 m (ok m) c t).1 (ix2 i j)
    = grad (core m c) (mine m c) (theirs m c) (row m t i) j := by
  unfold outsAt0
  dsimp only
  refine (point5 (hz := word m c) ..).trans ?_
  rw [half_at]
theorem out6 (i : Fin 128) (j : Fin 1024) : (outsAt0 m (ok m) c t).2.1 (ix2 i j)
    = step (wt m c (ix2 (row m t i) j)) (grad (core m c) (mine m c) (theirs m c) (row m t i) j) (mo m c (ix2 (row m t i) j)) (ve m c (ix2 (row m t i) j)) := by
  unfold outsAt0
  dsimp only
  refine (point6 (hz := word m c) ..).trans ?_
  rw [half_at, at0, at3, at4]
theorem out7 (i : Fin 128) (j : Fin 1024) : (outsAt0 m (ok m) c t).2.2.1 (ix2 i j)
    = first (grad (core m c) (mine m c) (theirs m c) (row m t i) j) (mo m c (ix2 (row m t i) j)) := by
  unfold outsAt0
  dsimp only
  refine (point7 (hz := word m c) ..).trans ?_
  rw [half_at, at3]
theorem out8 (i : Fin 128) (j : Fin 1024) : (outsAt0 m (ok m) c t).2.2.2 (ix2 i j)
    = second (grad (core m c) (mine m c) (theirs m c) (row m t i) j) (ve m c (ix2 (row m t i) j)) := by
  unfold outsAt0
  dsimp only
  refine (point8 (hz := word m c) ..).trans ?_
  rw [half_at, at4]
/-- The point of a block's number. -/
abbrev pt (k : ℕ) (h : k < 2) : Fin (cfgM m (ok m)).N := ⟨k, lt_of_lt_of_eq h N_0.symm⟩
/-- The blocks written cover the arrays. -/
theorem covers5 : ((cfgM m (ok m)).win 5).Covers := by
  refine ⟨(by decide : ∀ a : Fin 2, 0 < S128x1024.size a), fun β => ?_⟩
  have h0 : (β (0 : Fin 2)).val < 2 := lt_of_lt_of_eq (β (0 : Fin 2)).isLt (by decide : (S256x1024.size 0 + S128x1024.size 0 - 1) / S128x1024.size 0 = 2)
  have h1 : (β (1 : Fin 2)).val < 1 := lt_of_lt_of_eq (β (1 : Fin 2)).isLt (by decide : (S256x1024.size 1 + S128x1024.size 1 - 1) / S128x1024.size 1 = 1)
  refine ⟨pt m _ h0, flush0_5 _ _, fun (a : Fin 2) => ⟨?_, Or.inl rfl⟩⟩
  rw [(idx m (pt m _ h0)).2.2.2.2.2.1]
  fin_cases a
  · rfl
  · exact (Nat.lt_one_iff.mp h1).symm
theorem covers6 : ((cfgM m (ok m)).win 6).Covers := by
  refine ⟨(by decide : ∀ a : Fin 2, 0 < S128x1024.size a), fun β => ?_⟩
  have h0 : (β (0 : Fin 2)).val < 2 := lt_of_lt_of_eq (β (0 : Fin 2)).isLt (by decide : (S256x1024.size 0 + S128x1024.size 0 - 1) / S128x1024.size 0 = 2)
  have h1 : (β (1 : Fin 2)).val < 1 := lt_of_lt_of_eq (β (1 : Fin 2)).isLt (by decide : (S256x1024.size 1 + S128x1024.size 1 - 1) / S128x1024.size 1 = 1)
  refine ⟨pt m _ h0, flush0_6 _ _, fun (a : Fin 2) => ⟨?_, Or.inl rfl⟩⟩
  rw [(idx m (pt m _ h0)).2.2.2.2.2.2.1]
  fin_cases a
  · rfl
  · exact (Nat.lt_one_iff.mp h1).symm
theorem covers7 : ((cfgM m (ok m)).win 7).Covers := by
  refine ⟨(by decide : ∀ a : Fin 2, 0 < S128x1024.size a), fun β => ?_⟩
  have h0 : (β (0 : Fin 2)).val < 2 := lt_of_lt_of_eq (β (0 : Fin 2)).isLt (by decide : (S256x1024.size 0 + S128x1024.size 0 - 1) / S128x1024.size 0 = 2)
  have h1 : (β (1 : Fin 2)).val < 1 := lt_of_lt_of_eq (β (1 : Fin 2)).isLt (by decide : (S256x1024.size 1 + S128x1024.size 1 - 1) / S128x1024.size 1 = 1)
  refine ⟨pt m _ h0, flush0_7 _ _, fun (a : Fin 2) => ⟨?_, Or.inl rfl⟩⟩
  rw [(idx m (pt m _ h0)).2.2.2.2.2.2.2.1]
  fin_cases a
  · rfl
  · exact (Nat.lt_one_iff.mp h1).symm
theorem covers8 : ((cfgM m (ok m)).win 8).Covers := by
  refine ⟨(by decide : ∀ a : Fin 2, 0 < S128x1024.size a), fun β => ?_⟩
  have h0 : (β (0 : Fin 2)).val < 2 := lt_of_lt_of_eq (β (0 : Fin 2)).isLt (by decide : (S256x1024.size 0 + S128x1024.size 0 - 1) / S128x1024.size 0 = 2)
  have h1 : (β (1 : Fin 2)).val < 1 := lt_of_lt_of_eq (β (1 : Fin 2)).isLt (by decide : (S256x1024.size 1 + S128x1024.size 1 - 1) / S128x1024.size 1 = 1)
  refine ⟨pt m _ h0, flush0_8 _ _, fun (a : Fin 2) => ⟨?_, Or.inl rfl⟩⟩
  rw [(idx m (pt m _ h0)).2.2.2.2.2.2.2.2]
  fin_cases a
  · rfl
  · exact (Nat.lt_one_iff.mp h1).symm

/-- What the call leaves: the gradient. -/
theorem final5 : (dats m (ok m) 0 c).arrAt 5 (cfgM m (ok m)).N = fun i : S256x1024.Idx => grad (core m c) (mine m c) (theirs m c) (i 0) (i 1) := by
  refine (dats m (ok m) 0 c).arrAt_eq_of_covers 5 _ (covers5 m) fun t hf (y : S128x1024.Idx) => ?_
  have e : (((cfgM m (ok m)).win 5).blk t).view.emb y = (ix2 (row m t (y 0)) (y 1) : S256x1024.Idx) := by
    have := lt_points m t
    blk_ext [idx m t, row]
  blk_simp
  rw [after0_5]
  refine (congrArg (outsAt0 m (ok m) c t).1 (ix2_eta y).symm).trans ?_
  refine (out5 m c t (y 0) (y 1)).trans ?_
  rw [e]
  rfl

/-- What the call leaves: the step. -/
theorem final6 : (dats m (ok m) 0 c).arrAt 6 (cfgM m (ok m)).N = fun i : S256x1024.Idx => step (wt m c i) (grad (core m c) (mine m c) (theirs m c) (i 0) (i 1)) (mo m c i) (ve m c i) := by
  refine (dats m (ok m) 0 c).arrAt_eq_of_covers 6 _ (covers6 m) fun t hf (y : S128x1024.Idx) => ?_
  have e : (((cfgM m (ok m)).win 6).blk t).view.emb y = (ix2 (row m t (y 0)) (y 1) : S256x1024.Idx) := by
    have := lt_points m t
    blk_ext [idx m t, row]
  blk_simp
  rw [after0_6]
  refine (congrArg (outsAt0 m (ok m) c t).2.1 (ix2_eta y).symm).trans ?_
  refine (out6 m c t (y 0) (y 1)).trans ?_
  rw [e]
  rfl

/-- What the call leaves: the first moment. -/
theorem final7 : (dats m (ok m) 0 c).arrAt 7 (cfgM m (ok m)).N = fun i : S256x1024.Idx => first (grad (core m c) (mine m c) (theirs m c) (i 0) (i 1)) (mo m c i) := by
  refine (dats m (ok m) 0 c).arrAt_eq_of_covers 7 _ (covers7 m) fun t hf (y : S128x1024.Idx) => ?_
  have e : (((cfgM m (ok m)).win 7).blk t).view.emb y = (ix2 (row m t (y 0)) (y 1) : S256x1024.Idx) := by
    have := lt_points m t
    blk_ext [idx m t, row]
  blk_simp
  rw [after0_7]
  refine (congrArg (outsAt0 m (ok m) c t).2.2.1 (ix2_eta y).symm).trans ?_
  refine (out7 m c t (y 0) (y 1)).trans ?_
  rw [e]
  rfl

/-- What the call leaves: the second moment. -/
theorem final8 : (dats m (ok m) 0 c).arrAt 8 (cfgM m (ok m)).N = fun i : S256x1024.Idx => second (grad (core m c) (mine m c) (theirs m c) (i 0) (i 1)) (ve m c i) := by
  refine (dats m (ok m) 0 c).arrAt_eq_of_covers 8 _ (covers8 m) fun t hf (y : S128x1024.Idx) => ?_
  have e : (((cfgM m (ok m)).win 8).blk t).view.emb y = (ix2 (row m t (y 0)) (y 1) : S256x1024.Idx) := by
    have := lt_points m t
    blk_ext [idx m t, row]
  blk_simp
  rw [after0_8]
  refine (congrArg (outsAt0 m (ok m) c t).2.2.2 (ix2_eta y).symm).trans ?_
  refine (out8 m c t (y 0) (y 1)).trans ?_
  rw [e]
  rfl

end Cert.Proof.StepOutArrays
-- ==== Proof.StepOutEquation.lean ====
/- The optimiser's call on the output projection's weights leaves the reference's arrays: the reference, read entry by entry. -/
module

public import proofs.«01_k».proof.Defs
public import proofs.«01_k».proof.Proof.Gen.StepOut.Frame
public import proofs.«01_k».proof.Proof.Gen.StepOutReferenceIdeal.Run
public import proofs.«01_k».proof.Proof.StepOutArrays
public import Idealize.ShloMosaic.Lib.Quiescent
public import Idealize.ShloMosaic.Adequacy
public import Idealize.ShloMosaic.Init

@[expose] public section

set_option maxRecDepth 16384

noncomputable section

namespace Cert.Proof.StepOutEquation

open Idealize.ShloMosaic Idealize.SL.Sem
open Cert.Proof.AdamW
open Cert.Proof.StepOutArrays hiding index1 index2

attribute [local instance] Cert.StepOut.Gen.facts Cert.StepOutIdeal.Gen.facts Cert.StepOutReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _

section
open Cert.StepOutReferenceIdeal Cert.StepOutReferenceIdeal.Gen
variable (Z : IVec S1 32) (A B : FVec Ideal S128x1024 .f32) (C D E G : FVec Ideal S256x1024 .f32)

/-- The one number of the table. -/
theorem number (h : S1.ShapeCasts S_) (i : S_.Idx) : shapeCast S_ Z h i = Z (ix1 0) := by
  refine congrArg Z (funext fun a => Fin.ext ?_)
  fin_cases a
  exact Nat.lt_one_iff.mp (Fin.isLt _)
/-- A half: of this core if the core has the half's number, else of the other. -/
theorem read_half (k : ℕ) (p : Fin 128) (q : Fin 1024) :
    select (broadcastInDim S128x1024 ![] bcast_S_S128x1024 (cmpi .eq (shapeCast S_ Z shapeCasts_S1_S_) (constantI S_ 32 (BitVec.ofNat 32 k)))) A B (ix2 p q)
      = half (Z (ix1 0)) A B k p q := by
  unfold half
  show Scalar.select (IntOp.cmpi .eq (shapeCast S_ Z shapeCasts_S1_S_ _) (BitVec.ofNat 32 k)) _ _ = _
  rw [number]
  by_cases e : BitVec.ofNat 32 k = Z (ix1 0)
  · simp [Scalar.select, IntOp.cmpi, e]
  · have e' := beq_false_of_ne (Ne.symm e)
    simp [Scalar.select, IntOp.cmpi, e, e']
theorem read_grad : (concatenate S256x1024 0 [⟨S128x1024, ((select (broadcastInDim S128x1024 ![] bcast_S_S128x1024 (cmpi .eq (shapeCast S_ Z shapeCasts_S1_S_) (constantI S_ 32 0#32))) A B) : FVec Ideal S128x1024 .f32)⟩, ⟨S128x1024, ((select (broadcastInDim S128x1024 ![] bcast_S_S128x1024 (cmpi .eq (shapeCast S_ Z shapeCasts_S1_S_) (constantI S_ 32 1#32))) A B) : FVec Ideal S128x1024 .f32)⟩] concatenates_S128x1024_S128x1024_S256x1024_d0 : FVec Ideal S256x1024 .f32)
    = fun i => grad (Z (ix1 0)) A B (i 0) (i 1) := by
  have h0 := read_half Z A B 0
  have h1 := read_half Z A B 1
  generalize select (broadcastInDim S128x1024 ![] bcast_S_S128x1024 (cmpi .eq (shapeCast S_ Z shapeCasts_S1_S_) (constantI S_ 32 (BitVec.ofNat 32 0)))) A B = X at h0 ⊢
  generalize select (broadcastInDim S128x1024 ![] bcast_S_S128x1024 (cmpi .eq (shapeCast S_ Z shapeCasts_S1_S_) (constantI S_ 32 (BitVec.ofNat 32 1)))) A B = Y at h1 ⊢
  refine ext2 fun i j => ?_
  pointwise []
  unfold grad
  by_cases h : i.val < 128
  · rw [dif_pos h]
    refine (h0 _ _).trans ?_
    have e : i.val / 128 = 0 := by omega
    have e' : i.val % 128 = i.val := by omega
    simp only [e, e']
  · rw [dif_neg h]
    refine (h1 _ _).trans ?_
    have e : i.val / 128 = 1 := by omega
    have e' : i.val % 128 = i.val - 128 := by omega
    simp only [e, e']
theorem read_step : mulf (broadcastInDim S256x1024 ![] bcast_S_S256x1024 (constant S_ .f32 0xBA83126F#32)) (addf (Host.divf (Host.divf (addf (mulf (broadcastInDim S256x1024 ![] bcast_S_S256x1024 (constant S_ .f32 0x3F666666#32)) D) (mulf (broadcastInDim S256x1024 ![] bcast_S_S256x1024 (constant S_ .f32 0x3DCCCCCD#32)) G)) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) E) (mulf (broadcastInDim S256x1024 ![] bcast_S_S256x1024 (constant S_ .f32 0x3A83126F#32)) (mulf G G))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) C))
    = fun i => step (C i) (G i) (D i) (E i) := by
  refine ext2 fun i j => ?_
  pointwise []
  rfl
theorem read_first : addf (mulf (broadcastInDim S256x1024 ![] bcast_S_S256x1024 (constant S_ .f32 0x3F666666#32)) D) (mulf (broadcastInDim S256x1024 ![] bcast_S_S256x1024 (constant S_ .f32 0x3DCCCCCD#32)) G)
    = fun i => first (G i) (D i) := by
  refine ext2 fun i j => ?_
  pointwise []
  rfl
theorem read_second : addf (mulf (broadcastInDim S256x1024 ![] bcast_S_S256x1024 (constant S_ .f32 0x3F7FBE77#32)) E) (mulf (broadcastInDim S256x1024 ![] bcast_S_S256x1024 (constant S_ .f32 0x3A83126F#32)) (mulf G G))
    = fun i => second (G i) (E i) := by
  refine ext2 fun i j => ?_
  pointwise []
  rfl
end

section
open Cert.StepOut Cert.StepOut.Gen

/-- The halves' blocks are inside the halves in the kernel's own program too. -/
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl
/-- The kernel ends, its arguments and counters as they were, whatever the core's number. -/
theorem frameKernel : Cert.quiescent_StepOut := by
  refine fun m ρ _ => Cert.StepOut.Gen.frame m ρ ⟨fun i => ⟨fun a => ?_, Or.inl rfl⟩, fun i => ⟨fun a => ?_, Or.inl rfl⟩⟩
  · rw [index1]; revert a; decide
  · rw [index2]; revert a; decide
end
/-- Its idealization likewise. -/
theorem frameIdeal : Cert.quiescent_StepOutIdeal := fun m ρ _ => Cert.StepOutIdeal.Gen.frame m ρ (ok m)

/-- The reference ends, its arguments and counters as they were. -/
theorem frame : Cert.quiescent_StepOutReferenceIdeal := fun m g _ =>
  (θ_run Cert.StepOutReferenceIdeal.defs _ _).mono (fun r h => ⟨fun c => (h c).2.2.2.2, sem_eq_zero_of_no_sems (by decide) r.2⟩)
    (Cert.StepOutReferenceIdeal.Value.run (F := Ideal) m g)

section
open Cert.StepOutIdeal Cert.StepOutIdeal.Gen Idealize.ShloMosaic.TcCoe

/-- The call's arrays when it ends, its arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (dats m (ok m) 0 c).arrAt 5 (cfgM m (ok m)).N
      ∧ r.2.mem ((c : Thread nD τ).loc main_v0_1) = (dats m (ok m) 0 c).arrAt 6 (cfgM m (ok m)).N
      ∧ r.2.mem ((c : Thread nD τ).loc main_v0_2) = (dats m (ok m) 0 c).arrAt 7 (cfgM m (ok m)).N
      ∧ r.2.mem ((c : Thread nD τ).loc main_v0_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 5, (h.1 c).1 6, (h.1 c).1 7, (h.1 c).1 8, h.2 c⟩)
    (θ_run_and (run_main m ρ (ok m)) (unchanged m ρ (ok m)))
end

/-- The call's four arrays are the reference's. -/
theorem algebraic : Cert.algebraic_StepOutIdeal_StepOutReferenceIdeal := by
  intro m g m' g' _ hagree
  refine ⟨fun c => (Cert.StepOutIdeal.Gen.dats m (ok m) 0 c).arrAt 5 (Cert.StepOutIdeal.Gen.cfgM m (ok m)).N,
    fun c => (Cert.StepOutIdeal.Gen.dats m (ok m) 0 c).arrAt 6 (Cert.StepOutIdeal.Gen.cfgM m (ok m)).N,
    fun c => (Cert.StepOutIdeal.Gen.dats m (ok m) 0 c).arrAt 7 (Cert.StepOutIdeal.Gen.cfgM m (ok m)).N,
    fun c => (Cert.StepOutIdeal.Gen.dats m (ok m) 0 c).arrAt 8 (Cert.StepOutIdeal.Gen.cfgM m (ok m)).N, run_blocks m g, ?_⟩
  refine (θ_run Cert.StepOutReferenceIdeal.defs _ _).mono (fun _ h c => ?_) (Cert.StepOutReferenceIdeal.Value.run (F := Ideal) m' g')
  obtain ⟨r5, r6, r7, r8, kept⟩ := h c
  obtain ⟨a0, a1, a2, a3, a4, a5⟩ := hagree c
  rw [a1, a2, a5] at r5
  rw [a0, a1, a2, a3, a4, a5] at r6
  rw [a1, a2, a3, a5] at r7
  rw [a1, a2, a4, a5] at r8
  rw [read_grad] at r5 r6 r7 r8
  exact ⟨r5.trans (final5 m c).symm, r6.trans ((read_step _ _ _ _).trans (final6 m c).symm), r7.trans ((read_first _ _).trans (final7 m c).symm),
    r8.trans ((read_second _ _).trans (final8 m c).symm), kept⟩

end Cert.Proof.StepOutEquation
-- ==== Proof.StepFf1Arrays.lean ====
/- The optimiser's call on the first feed-forward layer's weights: its two points take one half of the rows each, and the arrays it leaves are the gradient,
   put together from its two halves, the step and the two moments, entry by entry. -/
module

public import proofs.«01_k».proof.Proof.AdamW
public import proofs.«01_k».proof.Proof.Gen.StepFf1Ideal.Frame
public import Idealize.ShloMosaic.Lib.Pipeline.ValueKit
public import Idealize.ShloMosaic.Lib.Pipeline.ReadBack

@[expose] public section

set_option maxRecDepth 16384

noncomputable section

namespace Cert.Proof.StepFf1Arrays

open Cert.StepFf1Ideal Cert.StepFf1Ideal.Gen Idealize.ShloMosaic Idealize.ShloMosaic.TcCoe Idealize.SL.Sem
open Cert.Proof.AdamW

/-- A number clamped to 0 is 0. -/
theorem clamp (x : BitVec 32) : Scalar.minsi 0#32 (Scalar.maxsi 0#32 x) = 0#32 := by
  unfold Scalar.minsi Scalar.maxsi IntOp.minsi IntOp.maxsi
  by_cases h : x.slt 0#32 <;> by_cases h' : (0#32).slt x <;> simp [h, h']
  simp only [BitVec.slt, decide_eq_true_eq] at h h'
  exact BitVec.eq_of_toInt_eq (by simp at h h' ⊢; omega)
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl

/-- The halves' blocks are inside the halves, whatever the core. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩
  · rw [index1]; revert a; decide
  · rw [index2]; revert a; decide

variable (m : (ℓ : Loc nD τ sig) → Buf (Elt Ideal) ℓ) (c : Dev nD)

/-- The core's number. -/
abbrev core : BitVec 32 := (m ((c : Thread nD τ).loc main_arg5) : IVec S1 32) (ix1 0)
/-- The weights, the gradient's halves of this core and of the other, and the two moments. -/
abbrev wt : FVec Ideal S1024x1024 .f32 := m ((c : Thread nD τ).loc main_arg0)
abbrev mine : FVec Ideal S512x1024 .f32 := m ((c : Thread nD τ).loc main_arg1)
abbrev theirs : FVec Ideal S512x1024 .f32 := m ((c : Thread nD τ).loc main_arg2)
abbrev mo : FVec Ideal S1024x1024 .f32 := m ((c : Thread nD τ).loc main_arg3)
abbrev ve : FVec Ideal S1024x1024 .f32 := m ((c : Thread nD τ).loc main_arg4)

/-- The entry of half `k` of the gradient. -/
def half (z : BitVec 32) (a b : FVec Ideal S512x1024 .f32) (k : ℕ) (i : Fin 512) (j : Fin 1024) : EReal :=
  if BitVec.ofNat 32 k = z then a (ix2 i j) else b (ix2 i j)
/-- The gradient's entry: of the half the row is in, its row there. -/
def grad (z : BitVec 32) (a b : FVec Ideal S512x1024 .f32) (i : Fin 1024) (j : Fin 1024) : EReal :=
  half z a b (i.val / 512) ⟨i.val % 512, Nat.mod_lt _ (by decide)⟩ j

theorem quotient (k : ℕ) (h : k < 2) : Scalar.select (Scalar.andi (Scalar.cmpi .ne (Scalar.subi (Scalar.extui (Scalar.cmpi .sgt (BitVec.ofNat 32 k) 0#32)) (Scalar.extui (Scalar.cmpi .slt (BitVec.ofNat 32 k) 0#32))) (Scalar.subi (Scalar.extui (Scalar.cmpi .sgt 1#32 0#32)) (Scalar.extui (Scalar.cmpi .slt 1#32 0#32)) : BitVec 32)) (Scalar.cmpi .ne (Scalar.remsi (BitVec.ofNat 32 k) 1#32) 0#32)) (Scalar.subi (Scalar.divsi (BitVec.ofNat 32 k) 1#32) 1#32) (Scalar.divsi (BitVec.ofNat 32 k) 1#32) = BitVec.ofNat 32 k := by
  rcases (by omega : k = 0 ∨ k = 1) with e | e <;> subst e <;> decide

theorem pay3 (i : grid0.Coords) (z : BitVec 32) (a b : Vec Ideal S512x1024 .f32) (p : Fin 512) (q : Fin 1024) :
    k0_pay3 (F := Ideal) i z a b (ix2 p q) = half z a b (i 0).val p q := by
  unfold k0_pay3 half
  dsimp only
  rw [quotient _ (i 0).isLt]
  by_cases e : BitVec.ofNat 32 (i 0).val = z
  · simp [Scalar.select, Scalar.cmpi, IntOp.cmpi, e]
  · have e' := beq_false_of_ne e
    simp [Scalar.select, Scalar.cmpi, IntOp.cmpi, e, e']

theorem coord : ∀ t : Fin grid0.N, (grid0.coords t 0).val = t.val := by decide +kernel
theorem lt_points (t : Fin (cfgM m (ok m)).N) : t.val < 2 := lt_of_lt_of_eq t.isLt (by decide +kernel : grid0.N = 2)
/-- The array's row that row `i` of a point's block is. -/
def row (t : Fin (cfgM m (ok m)).N) (i : Fin 512) : Fin 1024 := ⟨t.val * 512 + i, by have := lt_points m t; omega⟩

variable (t : Fin (cfgM m (ok m)).N)

/-- The block index of each window at a point. -/
theorem idx : ((cfgM m (ok m)).win 0).index t = ![t.val, 0] ∧ ((cfgM m (ok m)).win 1).index t = ![0, 0] ∧ ((cfgM m (ok m)).win 2).index t = ![0, 0]
    ∧ ((cfgM m (ok m)).win 3).index t = ![t.val, 0] ∧ ((cfgM m (ok m)).win 4).index t = ![t.val, 0] ∧ ((cfgM m (ok m)).win 5).index t = ![t.val, 0]
    ∧ ((cfgM m (ok m)).win 6).index t = ![t.val, 0] ∧ ((cfgM m (ok m)).win 7).index t = ![t.val, 0] ∧ ((cfgM m (ok m)).win 8).index t = ![t.val, 0] := by
  have h := (by decide +kernel : ∀ t : Fin grid0.N, cc0_transform_0 (grid0.coords t) = ![t.val, 0] ∧ cc0_transform_3 (grid0.coords t) = ![t.val, 0]
    ∧ cc0_transform_4 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0]) t
  exact ⟨h.1, index1 _ _, index2 _ _, h.2.1, h.2.2.1, h.2.2.2.1, h.2.2.2.2.1, h.2.2.2.2.2.1, h.2.2.2.2.2.2⟩

theorem at0 (i : Fin 512) (j : Fin 1024) : (iblk m (ok m) c 0 t : FVec Ideal S512x1024 .f32) (ix2 i j) = wt m c (ix2 (row m t i) j) := by
  have := lt_points m t
  blk_ext [iblk, V, idx m t, row]
theorem at1 (i : Fin 512) (j : Fin 1024) : (iblk m (ok m) c 1 t : FVec Ideal S512x1024 .f32) (ix2 i j) = mine m c (ix2 i j) := by
  have := lt_points m t
  blk_ext [iblk, V, idx m t, row]
theorem at2 (i : Fin 512) (j : Fin 1024) : (iblk m (ok m) c 2 t : FVec Ideal S512x1024 .f32) (ix2 i j) = theirs m c (ix2 i j) := by
  have := lt_points m t
  blk_ext [iblk, V, idx m t, row]
theorem at3 (i : Fin 512) (j : Fin 1024) : (iblk m (ok m) c 3 t : FVec Ideal S512x1024 .f32) (ix2 i j) = mo m c (ix2 (row m t i) j) := by
  have := lt_points m t
  blk_ext [iblk, V, idx m t, row]
theorem at4 (i : Fin 512) (j : Fin 1024) : (iblk m (ok m) c 4 t : FVec Ideal S512x1024 .f32) (ix2 i j) = ve m c (ix2 (row m t i) j) := by
  have := lt_points m t
  blk_ext [iblk, V, idx m t, row]

/-- What the point reads of the table is the core's number. -/
theorem word (k : S1.Idx) : View.read (Elt Ideal) (View.whole main_arg5) (tbl m 0) k = core m c := by
  obtain rfl : c = 0 := Subsingleton.elim _ _
  refine congrArg (m (((0 : Dev nD) : Thread nD τ).loc main_arg5) : IVec S1 32) (funext fun a => Fin.ext ?_)
  fin_cases a
  exact Nat.lt_one_iff.mp (k 0).isLt

section
variable (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .f32) (h9 : a9.IsWhole) (a10 : Memref sig .tc .vmem S512x1024 .f32) (h10 : a10.IsWhole)
  (x0 x1 x2 x3 x4 : Vec Ideal S512x1024 .f32) (xt : TbBuf0 (F := Ideal) c tbM0_0) (z : BitVec 32)
  (hz : ∀ k : S1.Idx, View.read (Elt Ideal) (View.whole main_arg5) xt k = z)
  (p : Fin 512) (q : Fin 1024)
include hz

theorem point5 : out0_A_5 (F := Ideal) c i a2 h2 a3 h3 a4 h4 a5 h5 a6 h6 a7 h7 a8 h8 a9 h9 a10 h10 x0 x1 x2 x3 x4 xt (ix2 p q) = half z x1 x2 (i 0).val p q := by
  frame_out
  generalize e : View.read _ (View.whole main_arg5) xt _ = z'
  obtain rfl : z' = z := e.symm.trans (hz _)
  exact pay3 i _ x1 x2 p q
theorem point6 : out0_A_6 (F := Ideal) c i a2 h2 a3 h3 a4 h4 a5 h5 a6 h6 a7 h7 a8 h8 a9 h9 a10 h10 x0 x1 x2 x3 x4 xt (ix2 p q) = step (x0 (ix2 p q)) (half z x1 x2 (i 0).val p q) (x3 (ix2 p q)) (x4 (ix2 p q)) := by
  frame_out
  generalize e : View.read _ (View.whole main_arg5) xt _ = z'
  obtain rfl : z' = z := e.symm.trans (hz _)
  pointwise [k0_pay2, k0_pay1, k0_pay4, k0_pay5, k0_pay6, pay3]
  rfl
theorem point7 : out0_A_7 (F := Ideal) c i a2 h2 a3 h3 a4 h4 a5 h5 a6 h6 a7 h7 a8 h8 a9 h9 a10 h10 x0 x1 x2 x3 x4 xt (ix2 p q) = first (half z x1 x2 (i 0).val p q) (x3 (ix2 p q)) := by
  frame_out
  generalize e : View.read _ (View.whole main_arg5) xt _ = z'
  obtain rfl : z' = z := e.symm.trans (hz _)
  pointwise [k0_pay4, pay3]
  rfl
theorem point8 : out0_A_8 (F := Ideal) c i a2 h2 a3 h3 a4 h4 a5 h5 a6 h6 a7 h7 a8 h8 a9 h9 a10 h10 x0 x1 x2 x3 x4 xt (ix2 p q) = second (half z x1 x2 (i 0).val p q) (x4 (ix2 p q)) := by
  frame_out
  generalize e : View.read _ (View.whole main_arg5) xt _ = z'
  obtain rfl : z' = z := e.symm.trans (hz _)
  pointwise [k0_pay1, k0_pay5, k0_pay6, pay3]
  rfl
end

theorem half_at (i : Fin 512) (j : Fin 1024) : half (core m c) (iblk m (ok m) c 1 t) (iblk m (ok m) c 2 t) (grid0.coords t 0).val i j
    = grad (core m c) (mine m c) (theirs m c) (row m t i) j := by
  rw [coord]
  unfold grad half row
  have e : (t.val * 512 + i.val) / 512 = t.val := by omega
  have e' : (t.val * 512 + i.val) % 512 = i.val := by omega
  simp only [e, e']
  rw [at1, at2]

theorem out5 (i : Fin 512) (j : Fin 1024) : (outsAt0 m (ok m) c t).1 (ix2 i j)
    = grad (core m c) (mine m c) (theirs m c) (row m t i) j := by
  unfold outsAt0
  dsimp only
  refine (point5 (hz := word m c) ..).trans ?_
  rw [half_at]
theorem out6 (i : Fin 512) (j : Fin 1024) : (outsAt0 m (ok m) c t).2.1 (ix2 i j)
    = step (wt m c (ix2 (row m t i) j)) (grad (core m c) (mine m c) (theirs m c) (row m t i) j) (mo m c (ix2 (row m t i) j)) (ve m c (ix2 (row m t i) j)) := by
  unfold outsAt0
  dsimp only
  refine (point6 (hz := word m c) ..).trans ?_
  rw [half_at, at0, at3, at4]
theorem out7 (i : Fin 512) (j : Fin 1024) : (outsAt0 m (ok m) c t).2.2.1 (ix2 i j)
    = first (grad (core m c) (mine m c) (theirs m c) (row m t i) j) (mo m c (ix2 (row m t i) j)) := by
  unfold outsAt0
  dsimp only
  refine (point7 (hz := word m c) ..).trans ?_
  rw [half_at, at3]
theorem out8 (i : Fin 512) (j : Fin 1024) : (outsAt0 m (ok m) c t).2.2.2 (ix2 i j)
    = second (grad (core m c) (mine m c) (theirs m c) (row m t i) j) (ve m c (ix2 (row m t i) j)) := by
  unfold outsAt0
  dsimp only
  refine (point8 (hz := word m c) ..).trans ?_
  rw [half_at, at4]
/-- The point of a block's number. -/
abbrev pt (k : ℕ) (h : k < 2) : Fin (cfgM m (ok m)).N := ⟨k, lt_of_lt_of_eq h N_0.symm⟩
/-- The blocks written cover the arrays. -/
theorem covers5 : ((cfgM m (ok m)).win 5).Covers := by
  refine ⟨(by decide : ∀ a : Fin 2, 0 < S512x1024.size a), fun β => ?_⟩
  have h0 : (β (0 : Fin 2)).val < 2 := lt_of_lt_of_eq (β (0 : Fin 2)).isLt (by decide : (S1024x1024.size 0 + S512x1024.size 0 - 1) / S512x1024.size 0 = 2)
  have h1 : (β (1 : Fin 2)).val < 1 := lt_of_lt_of_eq (β (1 : Fin 2)).isLt (by decide : (S1024x1024.size 1 + S512x1024.size 1 - 1) / S512x1024.size 1 = 1)
  refine ⟨pt m _ h0, flush0_5 _ _, fun (a : Fin 2) => ⟨?_, Or.inl rfl⟩⟩
  rw [(idx m (pt m _ h0)).2.2.2.2.2.1]
  fin_cases a
  · rfl
  · exact (Nat.lt_one_iff.mp h1).symm
theorem covers6 : ((cfgM m (ok m)).win 6).Covers := by
  refine ⟨(by decide : ∀ a : Fin 2, 0 < S512x1024.size a), fun β => ?_⟩
  have h0 : (β (0 : Fin 2)).val < 2 := lt_of_lt_of_eq (β (0 : Fin 2)).isLt (by decide : (S1024x1024.size 0 + S512x1024.size 0 - 1) / S512x1024.size 0 = 2)
  have h1 : (β (1 : Fin 2)).val < 1 := lt_of_lt_of_eq (β (1 : Fin 2)).isLt (by decide : (S1024x1024.size 1 + S512x1024.size 1 - 1) / S512x1024.size 1 = 1)
  refine ⟨pt m _ h0, flush0_6 _ _, fun (a : Fin 2) => ⟨?_, Or.inl rfl⟩⟩
  rw [(idx m (pt m _ h0)).2.2.2.2.2.2.1]
  fin_cases a
  · rfl
  · exact (Nat.lt_one_iff.mp h1).symm
theorem covers7 : ((cfgM m (ok m)).win 7).Covers := by
  refine ⟨(by decide : ∀ a : Fin 2, 0 < S512x1024.size a), fun β => ?_⟩
  have h0 : (β (0 : Fin 2)).val < 2 := lt_of_lt_of_eq (β (0 : Fin 2)).isLt (by decide : (S1024x1024.size 0 + S512x1024.size 0 - 1) / S512x1024.size 0 = 2)
  have h1 : (β (1 : Fin 2)).val < 1 := lt_of_lt_of_eq (β (1 : Fin 2)).isLt (by decide : (S1024x1024.size 1 + S512x1024.size 1 - 1) / S512x1024.size 1 = 1)
  refine ⟨pt m _ h0, flush0_7 _ _, fun (a : Fin 2) => ⟨?_, Or.inl rfl⟩⟩
  rw [(idx m (pt m _ h0)).2.2.2.2.2.2.2.1]
  fin_cases a
  · rfl
  · exact (Nat.lt_one_iff.mp h1).symm
theorem covers8 : ((cfgM m (ok m)).win 8).Covers := by
  refine ⟨(by decide : ∀ a : Fin 2, 0 < S512x1024.size a), fun β => ?_⟩
  have h0 : (β (0 : Fin 2)).val < 2 := lt_of_lt_of_eq (β (0 : Fin 2)).isLt (by decide : (S1024x1024.size 0 + S512x1024.size 0 - 1) / S512x1024.size 0 = 2)
  have h1 : (β (1 : Fin 2)).val < 1 := lt_of_lt_of_eq (β (1 : Fin 2)).isLt (by decide : (S1024x1024.size 1 + S512x1024.size 1 - 1) / S512x1024.size 1 = 1)
  refine ⟨pt m _ h0, flush0_8 _ _, fun (a : Fin 2) => ⟨?_, Or.inl rfl⟩⟩
  rw [(idx m (pt m _ h0)).2.2.2.2.2.2.2.2]
  fin_cases a
  · rfl
  · exact (Nat.lt_one_iff.mp h1).symm

/-- What the call leaves: the gradient. -/
theorem final5 : (dats m (ok m) 0 c).arrAt 5 (cfgM m (ok m)).N = fun i : S1024x1024.Idx => grad (core m c) (mine m c) (theirs m c) (i 0) (i 1) := by
  refine (dats m (ok m) 0 c).arrAt_eq_of_covers 5 _ (covers5 m) fun t hf (y : S512x1024.Idx) => ?_
  have e : (((cfgM m (ok m)).win 5).blk t).view.emb y = (ix2 (row m t (y 0)) (y 1) : S1024x1024.Idx) := by
    have := lt_points m t
    blk_ext [idx m t, row]
  blk_simp
  rw [after0_5]
  refine (congrArg (outsAt0 m (ok m) c t).1 (ix2_eta y).symm).trans ?_
  refine (out5 m c t (y 0) (y 1)).trans ?_
  rw [e]
  rfl

/-- What the call leaves: the step. -/
theorem final6 : (dats m (ok m) 0 c).arrAt 6 (cfgM m (ok m)).N = fun i : S1024x1024.Idx => step (wt m c i) (grad (core m c) (mine m c) (theirs m c) (i 0) (i 1)) (mo m c i) (ve m c i) := by
  refine (dats m (ok m) 0 c).arrAt_eq_of_covers 6 _ (covers6 m) fun t hf (y : S512x1024.Idx) => ?_
  have e : (((cfgM m (ok m)).win 6).blk t).view.emb y = (ix2 (row m t (y 0)) (y 1) : S1024x1024.Idx) := by
    have := lt_points m t
    blk_ext [idx m t, row]
  blk_simp
  rw [after0_6]
  refine (congrArg (outsAt0 m (ok m) c t).2.1 (ix2_eta y).symm).trans ?_
  refine (out6 m c t (y 0) (y 1)).trans ?_
  rw [e]
  rfl

/-- What the call leaves: the first moment. -/
theorem final7 : (dats m (ok m) 0 c).arrAt 7 (cfgM m (ok m)).N = fun i : S1024x1024.Idx => first (grad (core m c) (mine m c) (theirs m c) (i 0) (i 1)) (mo m c i) := by
  refine (dats m (ok m) 0 c).arrAt_eq_of_covers 7 _ (covers7 m) fun t hf (y : S512x1024.Idx) => ?_
  have e : (((cfgM m (ok m)).win 7).blk t).view.emb y = (ix2 (row m t (y 0)) (y 1) : S1024x1024.Idx) := by
    have := lt_points m t
    blk_ext [idx m t, row]
  blk_simp
  rw [after0_7]
  refine (congrArg (outsAt0 m (ok m) c t).2.2.1 (ix2_eta y).symm).trans ?_
  refine (out7 m c t (y 0) (y 1)).trans ?_
  rw [e]
  rfl

/-- What the call leaves: the second moment. -/
theorem final8 : (dats m (ok m) 0 c).arrAt 8 (cfgM m (ok m)).N = fun i : S1024x1024.Idx => second (grad (core m c) (mine m c) (theirs m c) (i 0) (i 1)) (ve m c i) := by
  refine (dats m (ok m) 0 c).arrAt_eq_of_covers 8 _ (covers8 m) fun t hf (y : S512x1024.Idx) => ?_
  have e : (((cfgM m (ok m)).win 8).blk t).view.emb y = (ix2 (row m t (y 0)) (y 1) : S1024x1024.Idx) := by
    have := lt_points m t
    blk_ext [idx m t, row]
  blk_simp
  rw [after0_8]
  refine (congrArg (outsAt0 m (ok m) c t).2.2.2 (ix2_eta y).symm).trans ?_
  refine (out8 m c t (y 0) (y 1)).trans ?_
  rw [e]
  rfl

end Cert.Proof.StepFf1Arrays
-- ==== Proof.StepFf1Equation.lean ====
/- The optimiser's call on the first feed-forward layer's weights leaves the reference's arrays: the reference, read entry by entry. -/
module

public import proofs.«01_k».proof.Defs
public import proofs.«01_k».proof.Proof.Gen.StepFf1.Frame
public import proofs.«01_k».proof.Proof.Gen.StepFf1ReferenceIdeal.Run
public import proofs.«01_k».proof.Proof.StepFf1Arrays
public import Idealize.ShloMosaic.Lib.Quiescent
public import Idealize.ShloMosaic.Adequacy
public import Idealize.ShloMosaic.Init

@[expose] public section

set_option maxRecDepth 16384

noncomputable section

namespace Cert.Proof.StepFf1Equation

open Idealize.ShloMosaic Idealize.SL.Sem
open Cert.Proof.AdamW
open Cert.Proof.StepFf1Arrays hiding index1 index2

attribute [local instance] Cert.StepFf1.Gen.facts Cert.StepFf1Ideal.Gen.facts Cert.StepFf1ReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _

section
open Cert.StepFf1ReferenceIdeal Cert.StepFf1ReferenceIdeal.Gen
variable (Z : IVec S1 32) (A B : FVec Ideal S512x1024 .f32) (C D E G : FVec Ideal S1024x1024 .f32)

/-- The one number of the table. -/
theorem number (h : S1.ShapeCasts S_) (i : S_.Idx) : shapeCast S_ Z h i = Z (ix1 0) := by
  refine congrArg Z (funext fun a => Fin.ext ?_)
  fin_cases a
  exact Nat.lt_one_iff.mp (Fin.isLt _)
/-- A half: of this core if the core has the half's number, else of the other. -/
theorem read_half (k : ℕ) (p : Fin 512) (q : Fin 1024) :
    select (broadcastInDim S512x1024 ![] bcast_S_S512x1024 (cmpi .eq (shapeCast S_ Z shapeCasts_S1_S_) (constantI S_ 32 (BitVec.ofNat 32 k)))) A B (ix2 p q)
      = half (Z (ix1 0)) A B k p q := by
  unfold half
  show Scalar.select (IntOp.cmpi .eq (shapeCast S_ Z shapeCasts_S1_S_ _) (BitVec.ofNat 32 k)) _ _ = _
  rw [number]
  by_cases e : BitVec.ofNat 32 k = Z (ix1 0)
  · simp [Scalar.select, IntOp.cmpi, e]
  · have e' := beq_false_of_ne (Ne.symm e)
    simp [Scalar.select, IntOp.cmpi, e, e']
theorem read_grad : (concatenate S1024x1024 0 [⟨S512x1024, ((select (broadcastInDim S512x1024 ![] bcast_S_S512x1024 (cmpi .eq (shapeCast S_ Z shapeCasts_S1_S_) (constantI S_ 32 0#32))) A B) : FVec Ideal S512x1024 .f32)⟩, ⟨S512x1024, ((select (broadcastInDim S512x1024 ![] bcast_S_S512x1024 (cmpi .eq (shapeCast S_ Z shapeCasts_S1_S_) (constantI S_ 32 1#32))) A B) : FVec Ideal S512x1024 .f32)⟩] concatenates_S512x1024_S512x1024_S1024x1024_d0 : FVec Ideal S1024x1024 .f32)
    = fun i => grad (Z (ix1 0)) A B (i 0) (i 1) := by
  have h0 := read_half Z A B 0
  have h1 := read_half Z A B 1
  generalize select (broadcastInDim S512x1024 ![] bcast_S_S512x1024 (cmpi .eq (shapeCast S_ Z shapeCasts_S1_S_) (constantI S_ 32 (BitVec.ofNat 32 0)))) A B = X at h0 ⊢
  generalize select (broadcastInDim S512x1024 ![] bcast_S_S512x1024 (cmpi .eq (shapeCast S_ Z shapeCasts_S1_S_) (constantI S_ 32 (BitVec.ofNat 32 1)))) A B = Y at h1 ⊢
  refine ext2 fun i j => ?_
  pointwise []
  unfold grad
  by_cases h : i.val < 512
  · rw [dif_pos h]
    refine (h0 _ _).trans ?_
    have e : i.val / 512 = 0 := by omega
    have e' : i.val % 512 = i.val := by omega
    simp only [e, e']
  · rw [dif_neg h]
    refine (h1 _ _).trans ?_
    have e : i.val / 512 = 1 := by omega
    have e' : i.val % 512 = i.val - 512 := by omega
    simp only [e, e']
theorem read_step : mulf (broadcastInDim S1024x1024 ![] bcast_S_S1024x1024 (constant S_ .f32 0xBA83126F#32)) (addf (Host.divf (Host.divf (addf (mulf (broadcastInDim S1024x1024 ![] bcast_S_S1024x1024 (constant S_ .f32 0x3F666666#32)) D) (mulf (broadcastInDim S1024x1024 ![] bcast_S_S1024x1024 (constant S_ .f32 0x3DCCCCCD#32)) G)) (broadcastInDim S1024x1024 ![] bcast_S_S1024x1024 (constant S_ .f32 0x3F26BD02#32))) (addf (Host.sqrt (Host.divf (addf (mulf (broadcastInDim S1024x1024 ![] bcast_S_S1024x1024 (constant S_ .f32 0x3F7FBE77#32)) E) (mulf (broadcastInDim S1024x1024 ![] bcast_S_S1024x1024 (constant S_ .f32 0x3A83126F#32)) (mulf G G))) (broadcastInDim S1024x1024 ![] bcast_S_S1024x1024 (constant S_ .f32 0x3C231ACC#32)))) (broadcastInDim S1024x1024 ![] bcast_S_S1024x1024 (constant S_ .f32 0x322BCC77#32)))) (mulf (broadcastInDim S1024x1024 ![] bcast_S_S1024x1024 (constant S_ .f32 0x3C23D70A#32)) C))
    = fun i => step (C i) (G i) (D i) (E i) := by
  refine ext2 fun i j => ?_
  pointwise []
  rfl
theorem read_first : addf (mulf (broadcastInDim S1024x1024 ![] bcast_S_S1024x1024 (constant S_ .f32 0x3F666666#32)) D) (mulf (broadcastInDim S1024x1024 ![] bcast_S_S1024x1024 (constant S_ .f32 0x3DCCCCCD#32)) G)
    = fun i => first (G i) (D i) := by
  refine ext2 fun i j => ?_
  pointwise []
  rfl
theorem read_second : addf (mulf (broadcastInDim S1024x1024 ![] bcast_S_S1024x1024 (constant S_ .f32 0x3F7FBE77#32)) E) (mulf (broadcastInDim S1024x1024 ![] bcast_S_S1024x1024 (constant S_ .f32 0x3A83126F#32)) (mulf G G))
    = fun i => second (G i) (E i) := by
  refine ext2 fun i j => ?_
  pointwise []
  rfl
end

section
open Cert.StepFf1 Cert.StepFf1.Gen

/-- The halves' blocks are inside the halves in the kernel's own program too. -/
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl
/-- The kernel ends, its arguments and counters as they were, whatever the core's number. -/
theorem frameKernel : Cert.quiescent_StepFf1 := by
  refine fun m ρ _ => Cert.StepFf1.Gen.frame m ρ ⟨fun i => ⟨fun a => ?_, Or.inl rfl⟩, fun i => ⟨fun a => ?_, Or.inl rfl⟩⟩
  · rw [index1]; revert a; decide
  · rw [index2]; revert a; decide
end
/-- Its idealization likewise. -/
theorem frameIdeal : Cert.quiescent_StepFf1Ideal := fun m ρ _ => Cert.StepFf1Ideal.Gen.frame m ρ (ok m)

/-- The reference ends, its arguments and counters as they were. -/
theorem frame : Cert.quiescent_StepFf1ReferenceIdeal := fun m g _ =>
  (θ_run Cert.StepFf1ReferenceIdeal.defs _ _).mono (fun r h => ⟨fun c => (h c).2.2.2.2, sem_eq_zero_of_no_sems (by decide) r.2⟩)
    (Cert.StepFf1ReferenceIdeal.Value.run (F := Ideal) m g)

section
open Cert.StepFf1Ideal Cert.StepFf1Ideal.Gen Idealize.ShloMosaic.TcCoe

/-- The call's arrays when it ends, its arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (dats m (ok m) 0 c).arrAt 5 (cfgM m (ok m)).N
      ∧ r.2.mem ((c : Thread nD τ).loc main_v0_1) = (dats m (ok m) 0 c).arrAt 6 (cfgM m (ok m)).N
      ∧ r.2.mem ((c : Thread nD τ).loc main_v0_2) = (dats m (ok m) 0 c).arrAt 7 (cfgM m (ok m)).N
      ∧ r.2.mem ((c : Thread nD τ).loc main_v0_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 5, (h.1 c).1 6, (h.1 c).1 7, (h.1 c).1 8, h.2 c⟩)
    (θ_run_and (run_main m ρ (ok m)) (unchanged m ρ (ok m)))
end

/-- The call's four arrays are the reference's. -/
theorem algebraic : Cert.algebraic_StepFf1Ideal_StepFf1ReferenceIdeal := by
  intro m g m' g' _ hagree
  refine ⟨fun c => (Cert.StepFf1Ideal.Gen.dats m (ok m) 0 c).arrAt 5 (Cert.StepFf1Ideal.Gen.cfgM m (ok m)).N,
    fun c => (Cert.StepFf1Ideal.Gen.dats m (ok m) 0 c).arrAt 6 (Cert.StepFf1Ideal.Gen.cfgM m (ok m)).N,
    fun c => (Cert.StepFf1Ideal.Gen.dats m (ok m) 0 c).arrAt 7 (Cert.StepFf1Ideal.Gen.cfgM m (ok m)).N,
    fun c => (Cert.StepFf1Ideal.Gen.dats m (ok m) 0 c).arrAt 8 (Cert.StepFf1Ideal.Gen.cfgM m (ok m)).N, run_blocks m g, ?_⟩
  refine (θ_run Cert.StepFf1ReferenceIdeal.defs _ _).mono (fun _ h c => ?_) (Cert.StepFf1ReferenceIdeal.Value.run (F := Ideal) m' g')
  obtain ⟨r5, r6, r7, r8, kept⟩ := h c
  obtain ⟨a0, a1, a2, a3, a4, a5⟩ := hagree c
  rw [a1, a2, a5] at r5
  rw [a0, a1, a2, a3, a4, a5] at r6
  rw [a1, a2, a3, a5] at r7
  rw [a1, a2, a4, a5] at r8
  rw [read_grad] at r5 r6 r7 r8
  exact ⟨r5.trans (final5 m c).symm, r6.trans ((read_step _ _ _ _).trans (final6 m c).symm), r7.trans ((read_first _ _).trans (final7 m c).symm),
    r8.trans ((read_second _ _).trans (final8 m c).symm), kept⟩

end Cert.Proof.StepFf1Equation
-- ==== Proof.StepFf2Arrays.lean ====
/- The optimiser's call on the second feed-forward layer's weights: its two points take one half of the rows each, and the arrays it leaves are the gradient,
   put together from its two halves, the step and the two moments, entry by entry. -/
module

public import proofs.«01_k».proof.Proof.AdamW
public import proofs.«01_k».proof.Proof.Gen.StepFf2Ideal.Frame
public import Idealize.ShloMosaic.Lib.Pipeline.ValueKit
public import Idealize.ShloMosaic.Lib.Pipeline.ReadBack

@[expose] public section

set_option maxRecDepth 16384

noncomputable section

namespace Cert.Proof.StepFf2Arrays

open Cert.StepFf2Ideal Cert.StepFf2Ideal.Gen Idealize.ShloMosaic Idealize.ShloMosaic.TcCoe Idealize.SL.Sem
open Cert.Proof.AdamW

/-- A number clamped to 0 is 0. -/
theorem clamp (x : BitVec 32) : Scalar.minsi 0#32 (Scalar.maxsi 0#32 x) = 0#32 := by
  unfold Scalar.minsi Scalar.maxsi IntOp.minsi IntOp.maxsi
  by_cases h : x.slt 0#32 <;> by_cases h' : (0#32).slt x <;> simp [h, h']
  simp only [BitVec.slt, decide_eq_true_eq] at h h'
  exact BitVec.eq_of_toInt_eq (by simp at h h' ⊢; omega)
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl

/-- The halves' blocks are inside the halves, whatever the core. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩
  · rw [index1]; revert a; decide
  · rw [index2]; revert a; decide

variable (m : (ℓ : Loc nD τ sig) → Buf (Elt Ideal) ℓ) (c : Dev nD)

/-- The core's number. -/
abbrev core : BitVec 32 := (m ((c : Thread nD τ).loc main_arg5) : IVec S1 32) (ix1 0)
/-- The weights, the gradient's halves of this core and of the other, and the two moments. -/
abbrev wt : FVec Ideal S1024x1024 .f32 := m ((c : Thread nD τ).loc main_arg0)
abbrev mine : FVec Ideal S512x1024 .f32 := m ((c : Thread nD τ).loc main_arg1)
abbrev theirs : FVec Ideal S512x1024 .f32 := m ((c : Thread nD τ).loc main_arg2)
abbrev mo : FVec Ideal S1024x1024 .f32 := m ((c : Thread nD τ).loc main_arg3)
abbrev ve : FVec Ideal S1024x1024 .f32 := m ((c : Thread nD τ).loc main_arg4)

/-- The entry of half `k` of the gradient. -/
def half (z : BitVec 32) (a b : FVec Ideal S512x1024 .f32) (k : ℕ) (i : Fin 512) (j : Fin 1024) : EReal :=
  if BitVec.ofNat 32 k = z then a (ix2 i j) else b (ix2 i j)
/-- The gradient's entry: of the half the row is in, its row there. -/
def grad (z : BitVec 32) (a b : FVec Ideal S512x1024 .f32) (i : Fin 1024) (j : Fin 1024) : EReal :=
  half z a b (i.val / 512) ⟨i.val % 512, Nat.mod_lt _ (by decide)⟩ j

theorem quotient (k : ℕ) (h : k < 2) : Scalar.select (Scalar.andi (Scalar.cmpi .ne (Scalar.subi (Scalar.extui (Scalar.cmpi .sgt (BitVec.ofNat 32 k) 0#32)) (Scalar.extui (Scalar.cmpi .slt (BitVec.ofNat 32 k) 0#32))) (Scalar.subi (Scalar.extui (Scalar.cmpi .sgt 1#32 0#32)) (Scalar.extui (Scalar.cmpi .slt 1#32 0#32)) : BitVec 32)) (Scalar.cmpi .ne (Scalar.remsi (BitVec.ofNat 32 k) 1#32) 0#32)) (Scalar.subi (Scalar.divsi (BitVec.ofNat 32 k) 1#32) 1#32) (Scalar.divsi (BitVec.ofNat 32 k) 1#32) = BitVec.ofNat 32 k := by
  rcases (by omega : k = 0 ∨ k = 1) with e | e <;> subst e <;> decide

theorem pay3 (i : grid0.Coords) (z : BitVec 32) (a b : Vec Ideal S512x1024 .f32) (p : Fin 512) (q : Fin 1024) :
    k0_pay3 (F := Ideal) i z a b (ix2 p q) = half z a b (i 0).val p q := by
  unfold k0_pay3 half
  dsimp only
  rw [quotient _ (i 0).isLt]
  by_cases e : BitVec.ofNat 32 (i 0).val = z
  · simp [Scalar.select, Scalar.cmpi, IntOp.cmpi, e]
  · have e' := beq_false_of_ne e
    simp [Scalar.select, Scalar.cmpi, IntOp.cmpi, e, e']

theorem coord : ∀ t : Fin grid0.N, (grid0.coords t 0).val = t.val := by decide +kernel
theorem lt_points (t : Fin (cfgM m (ok m)).N) : t.val < 2 := lt_of_lt_of_eq t.isLt (by decide +kernel : grid0.N = 2)
/-- The array's row that row `i` of a point's block is. -/
def row (t : Fin (cfgM m (ok m)).N) (i : Fin 512) : Fin 1024 := ⟨t.val * 512 + i, by have := lt_points m t; omega⟩

variable (t : Fin (cfgM m (ok m)).N)

/-- The block index of each window at a point. -/
theorem idx : ((cfgM m (ok m)).win 0).index t = ![t.val, 0] ∧ ((cfgM m (ok m)).win 1).index t = ![0, 0] ∧ ((cfgM m (ok m)).win 2).index t = ![0, 0]
    ∧ ((cfgM m (ok m)).win 3).index t = ![t.val, 0] ∧ ((cfgM m (ok m)).win 4).index t = ![t.val, 0] ∧ ((cfgM m (ok m)).win 5).index t = ![t.val, 0]
    ∧ ((cfgM m (ok m)).win 6).index t = ![t.val, 0] ∧ ((cfgM m (ok m)).win 7).index t = ![t.val, 0] ∧ ((cfgM m (ok m)).win 8).index t = ![t.val, 0] := by
  have h := (by decide +kernel : ∀ t : Fin grid0.N, cc0_transform_0 (grid0.coords t) = ![t.val, 0] ∧ cc0_transform_3 (grid0.coords t) = ![t.val, 0]
    ∧ cc0_transform_4 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0]) t
  exact ⟨h.1, index1 _ _, index2 _ _, h.2.1, h.2.2.1, h.2.2.2.1, h.2.2.2.2.1, h.2.2.2.2.2.1, h.2.2.2.2.2.2⟩

theorem at0 (i : Fin 512) (j : Fin 1024) : (iblk m (ok m) c 0 t : FVec Ideal S512x1024 .f32) (ix2 i j) = wt m c (ix2 (row m t i) j) := by
  have := lt_points m t
  blk_ext [iblk, V, idx m t, row]
theorem at1 (i : Fin 512) (j : Fin 1024) : (iblk m (ok m) c 1 t : FVec Ideal S512x1024 .f32) (ix2 i j) = mine m c (ix2 i j) := by
  have := lt_points m t
  blk_ext [iblk, V, idx m t, row]
theorem at2 (i : Fin 512) (j : Fin 1024) : (iblk m (ok m) c 2 t : FVec Ideal S512x1024 .f32) (ix2 i j) = theirs m c (ix2 i j) := by
  have := lt_points m t
  blk_ext [iblk, V, idx m t, row]
theorem at3 (i : Fin 512) (j : Fin 1024) : (iblk m (ok m) c 3 t : FVec Ideal S512x1024 .f32) (ix2 i j) = mo m c (ix2 (row m t i) j) := by
  have := lt_points m t
  blk_ext [iblk, V, idx m t, row]
theorem at4 (i : Fin 512) (j : Fin 1024) : (iblk m (ok m) c 4 t : FVec Ideal S512x1024 .f32) (ix2 i j) = ve m c (ix2 (row m t i) j) := by
  have := lt_points m t
  blk_ext [iblk, V, idx m t, row]

/-- What the point reads of the table is the core's number. -/
theorem word (k : S1.Idx) : View.read (Elt Ideal) (View.whole main_arg5) (tbl m 0) k = core m c := by
  obtain rfl : c = 0 := Subsingleton.elim _ _
  refine congrArg (m (((0 : Dev nD) : Thread nD τ).loc main_arg5) : IVec S1 32) (funext fun a => Fin.ext ?_)
  fin_cases a
  exact Nat.lt_one_iff.mp (k 0).isLt

section
variable (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .f32) (h9 : a9.IsWhole) (a10 : Memref sig .tc .vmem S512x1024 .f32) (h10 : a10.IsWhole)
  (x0 x1 x2 x3 x4 : Vec Ideal S512x1024 .f32) (xt : TbBuf0 (F := Ideal) c tbM0_0) (z : BitVec 32)
  (hz : ∀ k : S1.Idx, View.read (Elt Ideal) (View.whole main_arg5) xt k = z)
  (p : Fin 512) (q : Fin 1024)
include hz

theorem point5 : out0_A_5 (F := Ideal) c i a2 h2 a3 h3 a4 h4 a5 h5 a6 h6 a7 h7 a8 h8 a9 h9 a10 h10 x0 x1 x2 x3 x4 xt (ix2 p q) = half z x1 x2 (i 0).val p q := by
  frame_out
  generalize e : View.read _ (View.whole main_arg5) xt _ = z'
  obtain rfl : z' = z := e.symm.trans (hz _)
  exact pay3 i _ x1 x2 p q
theorem point6 : out0_A_6 (F := Ideal) c i a2 h2 a3 h3 a4 h4 a5 h5 a6 h6 a7 h7 a8 h8 a9 h9 a10 h10 x0 x1 x2 x3 x4 xt (ix2 p q) = step (x0 (ix2 p q)) (half z x1 x2 (i 0).val p q) (x3 (ix2 p q)) (x4 (ix2 p q)) := by
  frame_out
  generalize e : View.read _ (View.whole main_arg5) xt _ = z'
  obtain rfl : z' = z := e.symm.trans (hz _)
  pointwise [k0_pay2, k0_pay1, k0_pay4, k0_pay5, k0_pay6, pay3]
  rfl
theorem point7 : out0_A_7 (F := Ideal) c i a2 h2 a3 h3 a4 h4 a5 h5 a6 h6 a7 h7 a8 h8 a9 h9 a10 h10 x0 x1 x2 x3 x4 xt (ix2 p q) = first (half z x1 x2 (i 0).val p q) (x3 (ix2 p q)) := by
  frame_out
  generalize e : View.read _ (View.whole main_arg5) xt _ = z'
  obtain rfl : z' = z := e.symm.trans (hz _)
  pointwise [k0_pay4, pay3]
  rfl
theorem point8 : out0_A_8 (F := Ideal) c i a2 h2 a3 h3 a4 h4 a5 h5 a6 h6 a7 h7 a8 h8 a9 h9 a10 h10 x0 x1 x2 x3 x4 xt (ix2 p q) = second (half z x1 x2 (i 0).val p q) (x4 (ix2 p q)) := by
  frame_out
  generalize e : View.read _ (View.whole main_arg5) xt _ = z'
  obtain rfl : z' = z := e.symm.trans (hz _)
  pointwise [k0_pay1, k0_pay5, k0_pay6, pay3]
  rfl
end

theorem half_at (i : Fin 512) (j : Fin 1024) : half (core m c) (iblk m (ok m) c 1 t) (iblk m (ok m) c 2 t) (grid0.coords t 0).val i j
    = grad (core m c) (mine m c) (theirs m c) (row m t i) j := by
  rw [coord]
  unfold grad half row
  have e : (t.val * 512 + i.val) / 512 = t.val := by omega
  have e' : (t.val * 512 + i.val) % 512 = i.val := by omega
  simp only [e, e']
  rw [at1, at2]

theorem out5 (i : Fin 512) (j : Fin 1024) : (outsAt0 m (ok m) c t).1 (ix2 i j)
    = grad (core m c) (mine m c) (theirs m c) (row m t i) j := by
  unfold outsAt0
  dsimp only
  refine (point5 (hz := word m c) ..).trans ?_
  rw [half_at]
theorem out6 (i : Fin 512) (j : Fin 1024) : (outsAt0 m (ok m) c t).2.1 (ix2 i j)
    = step (wt m c (ix2 (row m t i) j)) (grad (core m c) (mine m c) (theirs m c) (row m t i) j) (mo m c (ix2 (row m t i) j)) (ve m c (ix2 (row m t i) j)) := by
  unfold outsAt0
  dsimp only
  refine (point6 (hz := word m c) ..).trans ?_
  rw [half_at, at0, at3, at4]
theorem out7 (i : Fin 512) (j : Fin 1024) : (outsAt0 m (ok m) c t).2.2.1 (ix2 i j)
    = first (grad (core m c) (mine m c) (theirs m c) (row m t i) j) (mo m c (ix2 (row m t i) j)) := by
  unfold outsAt0
  dsimp only
  refine (point7 (hz := word m c) ..).trans ?_
  rw [half_at, at3]
theorem out8 (i : Fin 512) (j : Fin 1024) : (outsAt0 m (ok m) c t).2.2.2 (ix2 i j)
    = second (grad (core m c) (mine m c) (theirs m c) (row m t i) j) (ve m c (ix2 (row m t i) j)) := by
  unfold outsAt0
  dsimp only
  refine (point8 (hz := word m c) ..).trans ?_
  rw [half_at, at4]
/-- The point of a block's number. -/
abbrev pt (k : ℕ) (h : k < 2) : Fin (cfgM m (ok m)).N := ⟨k, lt_of_lt_of_eq h N_0.symm⟩
/-- The blocks written cover the arrays. -/
theorem covers5 : ((cfgM m (ok m)).win 5).Covers := by
  refine ⟨(by decide : ∀ a : Fin 2, 0 < S512x1024.size a), fun β => ?_⟩
  have h0 : (β (0 : Fin 2)).val < 2 := lt_of_lt_of_eq (β (0 : Fin 2)).isLt (by decide : (S1024x1024.size 0 + S512x1024.size 0 - 1) / S512x1024.size 0 = 2)
  have h1 : (β (1 : Fin 2)).val < 1 := lt_of_lt_of_eq (β (1 : Fin 2)).isLt (by decide : (S1024x1024.size 1 + S512x1024.size 1 - 1) / S512x1024.size 1 = 1)
  refine ⟨pt m _ h0, flush0_5 _ _, fun (a : Fin 2) => ⟨?_, Or.inl rfl⟩⟩
  rw [(idx m (pt m _ h0)).2.2.2.2.2.1]
  fin_cases a
  · rfl
  · exact (Nat.lt_one_iff.mp h1).symm
theorem covers6 : ((cfgM m (ok m)).win 6).Covers := by
  refine ⟨(by decide : ∀ a : Fin 2, 0 < S512x1024.size a), fun β => ?_⟩
  have h0 : (β (0 : Fin 2)).val < 2 := lt_of_lt_of_eq (β (0 : Fin 2)).isLt (by decide : (S1024x1024.size 0 + S512x1024.size 0 - 1) / S512x1024.size 0 = 2)
  have h1 : (β (1 : Fin 2)).val < 1 := lt_of_lt_of_eq (β (1 : Fin 2)).isLt (by decide : (S1024x1024.size 1 + S512x1024.size 1 - 1) / S512x1024.size 1 = 1)
  refine ⟨pt m _ h0, flush0_6 _ _, fun (a : Fin 2) => ⟨?_, Or.inl rfl⟩⟩
  rw [(idx m (pt m _ h0)).2.2.2.2.2.2.1]
  fin_cases a
  · rfl
  · exact (Nat.lt_one_iff.mp h1).symm
theorem covers7 : ((cfgM m (ok m)).win 7).Covers := by
  refine ⟨(by decide : ∀ a : Fin 2, 0 < S512x1024.size a), fun β => ?_⟩
  have h0 : (β (0 : Fin 2)).val < 2 := lt_of_lt_of_eq (β (0 : Fin 2)).isLt (by decide : (S1024x1024.size 0 + S512x1024.size 0 - 1) / S512x1024.size 0 = 2)
  have h1 : (β (1 : Fin 2)).val < 1 := lt_of_lt_of_eq (β (1 : Fin 2)).isLt (by decide : (S1024x1024.size 1 + S512x1024.size 1 - 1) / S512x1024.size 1 = 1)
  refine ⟨pt m _ h0, flush0_7 _ _, fun (a : Fin 2) => ⟨?_, Or.inl rfl⟩⟩
  rw [(idx m (pt m _ h0)).2.2.2.2.2.2.2.1]
  fin_cases a
  · rfl
  · exact (Nat.lt_one_iff.mp h1).symm
theorem covers8 : ((cfgM m (ok m)).win 8).Covers := by
  refine ⟨(by decide : ∀ a : Fin 2, 0 < S512x1024.size a), fun β => ?_⟩
  have h0 : (β (0 : Fin 2)).val < 2 := lt_of_lt_of_eq (β (0 : Fin 2)).isLt (by decide : (S1024x1024.size 0 + S512x1024.size 0 - 1) / S512x1024.size 0 = 2)
  have h1 : (β (1 : Fin 2)).val < 1 := lt_of_lt_of_eq (β (1 : Fin 2)).isLt (by decide : (S1024x1024.size 1 + S512x1024.size 1 - 1) / S512x1024.size 1 = 1)
  refine ⟨pt m _ h0, flush0_8 _ _, fun (a : Fin 2) => ⟨?_, Or.inl rfl⟩⟩
  rw [(idx m (pt m _ h0)).2.2.2.2.2.2.2.2]
  fin_cases a
  · rfl
  · exact (Nat.lt_one_iff.mp h1).symm

/-- What the call leaves: the gradient. -/
theorem final5 : (dats m (ok m) 0 c).arrAt 5 (cfgM m (ok m)).N = fun i : S1024x1024.Idx => grad (core m c) (mine m c) (theirs m c) (i 0) (i 1) := by
  refine (dats m (ok m) 0 c).arrAt_eq_of_covers 5 _ (covers5 m) fun t hf (y : S512x1024.Idx) => ?_
  have e : (((cfgM m (ok m)).win 5).blk t).view.emb y = (ix2 (row m t (y 0)) (y 1) : S1024x1024.Idx) := by
    have := lt_points m t
    blk_ext [idx m t, row]
  blk_simp
  rw [after0_5]
  refine (congrArg (outsAt0 m (ok m) c t).1 (ix2_eta y).symm).trans ?_
  refine (out5 m c t (y 0) (y 1)).trans ?_
  rw [e]
  rfl

/-- What the call leaves: the step. -/
theorem final6 : (dats m (ok m) 0 c).arrAt 6 (cfgM m (ok m)).N = fun i : S1024x1024.Idx => step (wt m c i) (grad (core m c) (mine m c) (theirs m c) (i 0) (i 1)) (mo m c i) (ve m c i) := by
  refine (dats m (ok m) 0 c).arrAt_eq_of_covers 6 _ (covers6 m) fun t hf (y : S512x1024.Idx) => ?_
  have e : (((cfgM m (ok m)).win 6).blk t).view.emb y = (ix2 (row m t (y 0)) (y 1) : S1024x1024.Idx) := by
    have := lt_points m t
    blk_ext [idx m t, row]
  blk_simp
  rw [after0_6]
  refine (congrArg (outsAt0 m (ok m) c t).2.1 (ix2_eta y).symm).trans ?_
  refine (out6 m c t (y 0) (y 1)).trans ?_
  rw [e]
  rfl

/-- What the call leaves: the first moment. -/
theorem final7 : (dats m (ok m) 0 c).arrAt 7 (cfgM m (ok m)).N = fun i : S1024x1024.Idx => first (grad (core m c) (mine m c) (theirs m c) (i 0) (i 1)) (mo m c i) := by
  refine (dats m (ok m) 0 c).arrAt_eq_of_covers 7 _ (covers7 m) fun t hf (y : S512x1024.Idx) => ?_
  have e : (((cfgM m (ok m)).win 7).blk t).view.emb y = (ix2 (row m t (y 0)) (y 1) : S1024x1024.Idx) := by
    have := lt_points m t
    blk_ext [idx m t, row]
  blk_simp
  rw [after0_7]
  refine (congrArg (outsAt0 m (ok m) c t).2.2.1 (ix2_eta y).symm).trans ?_
  refine (out7 m c t (y 0) (y 1)).trans ?_
  rw [e]
  rfl

/-- What the call leaves: the second moment. -/
theorem final8 : (dats m (ok m) 0 c).arrAt 8 (cfgM m (ok m)).N = fun i : S1024x1024.Idx => second (grad (core m c) (mine m c) (theirs m c) (i 0) (i 1)) (ve m c i) := by
  refine (dats m (ok m) 0 c).arrAt_eq_of_covers 8 _ (covers8 m) fun t hf (y : S512x1024.Idx) => ?_
  have e : (((cfgM m (ok m)).win 8).blk t).view.emb y = (ix2 (row m t (y 0)) (y 1) : S1024x1024.Idx) := by
    have := lt_points m t
    blk_ext [idx m t, row]
  blk_simp
  rw [after0_8]
  refine (congrArg (outsAt0 m (ok m) c t).2.2.2 (ix2_eta y).symm).trans ?_
  refine (out8 m c t (y 0) (y 1)).trans ?_
  rw [e]
  rfl

end Cert.Proof.StepFf2Arrays
-- ==== Proof.StepFf2Equation.lean ====
/- The optimiser's call on the second feed-forward layer's weights leaves the reference's arrays: the reference, read entry by entry. -/
module

public import proofs.«01_k».proof.Defs
public import proofs.«01_k».proof.Proof.Gen.StepFf2.Frame
public import proofs.«01_k».proof.Proof.Gen.StepFf2ReferenceIdeal.Run
public import proofs.«01_k».proof.Proof.StepFf2Arrays
public import Idealize.ShloMosaic.Lib.Quiescent
public import Idealize.ShloMosaic.Adequacy
public import Idealize.ShloMosaic.Init

@[expose] public section

set_option maxRecDepth 16384

noncomputable section

namespace Cert.Proof.StepFf2Equation

open Idealize.ShloMosaic Idealize.SL.Sem
open Cert.Proof.AdamW
open Cert.Proof.StepFf2Arrays hiding index1 index2

attribute [local instance] Cert.StepFf2.Gen.facts Cert.StepFf2Ideal.Gen.facts Cert.StepFf2ReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _

section
open Cert.StepFf2ReferenceIdeal Cert.StepFf2ReferenceIdeal.Gen
variable (Z : IVec S1 32) (A B : FVec Ideal S512x1024 .f32) (C D E G : FVec Ideal S1024x1024 .f32)

/-- The one number of the table. -/
theorem number (h : S1.ShapeCasts S_) (i : S_.Idx) : shapeCast S_ Z h i = Z (ix1 0) := by
  refine congrArg Z (funext fun a => Fin.ext ?_)
  fin_cases a
  exact Nat.lt_one_iff.mp (Fin.isLt _)
/-- A half: of this core if the core has the half's number, else of the other. -/
theorem read_half (k : ℕ) (p : Fin 512) (q : Fin 1024) :
    select (broadcastInDim S512x1024 ![] bcast_S_S512x1024 (cmpi .eq (shapeCast S_ Z shapeCasts_S1_S_) (constantI S_ 32 (BitVec.ofNat 32 k)))) A B (ix2 p q)
      = half (Z (ix1 0)) A B k p q := by
  unfold half
  show Scalar.select (IntOp.cmpi .eq (shapeCast S_ Z shapeCasts_S1_S_ _) (BitVec.ofNat 32 k)) _ _ = _
  rw [number]
  by_cases e : BitVec.ofNat 32 k = Z (ix1 0)
  · simp [Scalar.select, IntOp.cmpi, e]
  · have e' := beq_false_of_ne (Ne.symm e)
    simp [Scalar.select, IntOp.cmpi, e, e']
theorem read_grad : (concatenate S1024x1024 0 [⟨S512x1024, ((select (broadcastInDim S512x1024 ![] bcast_S_S512x1024 (cmpi .eq (shapeCast S_ Z shapeCasts_S1_S_) (constantI S_ 32 0#32))) A B) : FVec Ideal S512x1024 .f32)⟩, ⟨S512x1024, ((select (broadcastInDim S512x1024 ![] bcast_S_S512x1024 (cmpi .eq (shapeCast S_ Z shapeCasts_S1_S_) (constantI S_ 32 1#32))) A B) : FVec Ideal S512x1024 .f32)⟩] concatenates_S512x1024_S512x1024_S1024x1024_d0 : FVec Ideal S1024x1024 .f32)
    = fun i => grad (Z (ix1 0)) A B (i 0) (i 1) := by
  have h0 := read_half Z A B 0
  have h1 := read_half Z A B 1
  generalize select (broadcastInDim S512x1024 ![] bcast_S_S512x1024 (cmpi .eq (shapeCast S_ Z shapeCasts_S1_S_) (constantI S_ 32 (BitVec.ofNat 32 0)))) A B = X at h0 ⊢
  generalize select (broadcastInDim S512x1024 ![] bcast_S_S512x1024 (cmpi .eq (shapeCast S_ Z shapeCasts_S1_S_) (constantI S_ 32 (BitVec.ofNat 32 1)))) A B = Y at h1 ⊢
  refine ext2 fun i j => ?_
  pointwise []
  unfold grad
  by_cases h : i.val < 512
  · rw [dif_pos h]
    refine (h0 _ _).trans ?_
    have e : i.val / 512 = 0 := by omega
    have e' : i.val % 512 = i.val := by omega
    simp only [e, e']
  · rw [dif_neg h]
    refine (h1 _ _).trans ?_
    have e : i.val / 512 = 1 := by omega
    have e' : i.val % 512 = i.val - 512 := by omega
    simp only [e, e']
theorem read_step : mulf (broadcastInDim S1024x1024 ![] bcast_S_S1024x1024 (constant S_ .f32 0xBA83126F#32)) (addf (Host.divf (Host.divf (addf (mulf (broadcastInDim S1024x1024 ![] bcast_S_S1024x1024 (constant S_ .f32 0x3F666666#32)) D) (mulf (broadcastInDim S1024x1024 ![] bcast_S_S1024x1024 (constant S_ .f32 0x3DCCCCCD#32)) G)) (broadcastInDim S1024x1024 ![] bcast_S_S1024x1024 (constant S_ .f32 0x3F26BD02#32))) (addf (Host.sqrt (Host.divf (addf (mulf (broadcastInDim S1024x1024 ![] bcast_S_S1024x1024 (constant S_ .f32 0x3F7FBE77#32)) E) (mulf (broadcastInDim S1024x1024 ![] bcast_S_S1024x1024 (constant S_ .f32 0x3A83126F#32)) (mulf G G))) (broadcastInDim S1024x1024 ![] bcast_S_S1024x1024 (constant S_ .f32 0x3C231ACC#32)))) (broadcastInDim S1024x1024 ![] bcast_S_S1024x1024 (constant S_ .f32 0x322BCC77#32)))) (mulf (broadcastInDim S1024x1024 ![] bcast_S_S1024x1024 (constant S_ .f32 0x3C23D70A#32)) C))
    = fun i => step (C i) (G i) (D i) (E i) := by
  refine ext2 fun i j => ?_
  pointwise []
  rfl
theorem read_first : addf (mulf (broadcastInDim S1024x1024 ![] bcast_S_S1024x1024 (constant S_ .f32 0x3F666666#32)) D) (mulf (broadcastInDim S1024x1024 ![] bcast_S_S1024x1024 (constant S_ .f32 0x3DCCCCCD#32)) G)
    = fun i => first (G i) (D i) := by
  refine ext2 fun i j => ?_
  pointwise []
  rfl
theorem read_second : addf (mulf (broadcastInDim S1024x1024 ![] bcast_S_S1024x1024 (constant S_ .f32 0x3F7FBE77#32)) E) (mulf (broadcastInDim S1024x1024 ![] bcast_S_S1024x1024 (constant S_ .f32 0x3A83126F#32)) (mulf G G))
    = fun i => second (G i) (E i) := by
  refine ext2 fun i j => ?_
  pointwise []
  rfl
end

section
open Cert.StepFf2 Cert.StepFf2.Gen

/-- The halves' blocks are inside the halves in the kernel's own program too. -/
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl
/-- The kernel ends, its arguments and counters as they were, whatever the core's number. -/
theorem frameKernel : Cert.quiescent_StepFf2 := by
  refine fun m ρ _ => Cert.StepFf2.Gen.frame m ρ ⟨fun i => ⟨fun a => ?_, Or.inl rfl⟩, fun i => ⟨fun a => ?_, Or.inl rfl⟩⟩
  · rw [index1]; revert a; decide
  · rw [index2]; revert a; decide
end
/-- Its idealization likewise. -/
theorem frameIdeal : Cert.quiescent_StepFf2Ideal := fun m ρ _ => Cert.StepFf2Ideal.Gen.frame m ρ (ok m)

/-- The reference ends, its arguments and counters as they were. -/
theorem frame : Cert.quiescent_StepFf2ReferenceIdeal := fun m g _ =>
  (θ_run Cert.StepFf2ReferenceIdeal.defs _ _).mono (fun r h => ⟨fun c => (h c).2.2.2.2, sem_eq_zero_of_no_sems (by decide) r.2⟩)
    (Cert.StepFf2ReferenceIdeal.Value.run (F := Ideal) m g)

section
open Cert.StepFf2Ideal Cert.StepFf2Ideal.Gen Idealize.ShloMosaic.TcCoe

/-- The call's arrays when it ends, its arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (dats m (ok m) 0 c).arrAt 5 (cfgM m (ok m)).N
      ∧ r.2.mem ((c : Thread nD τ).loc main_v0_1) = (dats m (ok m) 0 c).arrAt 6 (cfgM m (ok m)).N
      ∧ r.2.mem ((c : Thread nD τ).loc main_v0_2) = (dats m (ok m) 0 c).arrAt 7 (cfgM m (ok m)).N
      ∧ r.2.mem ((c : Thread nD τ).loc main_v0_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 5, (h.1 c).1 6, (h.1 c).1 7, (h.1 c).1 8, h.2 c⟩)
    (θ_run_and (run_main m ρ (ok m)) (unchanged m ρ (ok m)))
end

/-- The call's four arrays are the reference's. -/
theorem algebraic : Cert.algebraic_StepFf2Ideal_StepFf2ReferenceIdeal := by
  intro m g m' g' _ hagree
  refine ⟨fun c => (Cert.StepFf2Ideal.Gen.dats m (ok m) 0 c).arrAt 5 (Cert.StepFf2Ideal.Gen.cfgM m (ok m)).N,
    fun c => (Cert.StepFf2Ideal.Gen.dats m (ok m) 0 c).arrAt 6 (Cert.StepFf2Ideal.Gen.cfgM m (ok m)).N,
    fun c => (Cert.StepFf2Ideal.Gen.dats m (ok m) 0 c).arrAt 7 (Cert.StepFf2Ideal.Gen.cfgM m (ok m)).N,
    fun c => (Cert.StepFf2Ideal.Gen.dats m (ok m) 0 c).arrAt 8 (Cert.StepFf2Ideal.Gen.cfgM m (ok m)).N, run_blocks m g, ?_⟩
  refine (θ_run Cert.StepFf2ReferenceIdeal.defs _ _).mono (fun _ h c => ?_) (Cert.StepFf2ReferenceIdeal.Value.run (F := Ideal) m' g')
  obtain ⟨r5, r6, r7, r8, kept⟩ := h c
  obtain ⟨a0, a1, a2, a3, a4, a5⟩ := hagree c
  rw [a1, a2, a5] at r5
  rw [a0, a1, a2, a3, a4, a5] at r6
  rw [a1, a2, a3, a5] at r7
  rw [a1, a2, a4, a5] at r8
  rw [read_grad] at r5 r6 r7 r8
  exact ⟨r5.trans (final5 m c).symm, r6.trans ((read_step _ _ _ _).trans (final6 m c).symm), r7.trans ((read_first _ _).trans (final7 m c).symm),
    r8.trans ((read_second _ _).trans (final8 m c).symm), kept⟩

end Cert.Proof.StepFf2Equation
-- ==== Proof.StepInArrays.lean ====
/- The optimiser's call on the input projection's weights: its two points take one half of the rows each, and the arrays it leaves are the gradient,
   put together from its two halves, the step and the two moments, entry by entry.
   The weights lie with their columns first. -/
module

public import proofs.«01_k».proof.Proof.AdamW
public import proofs.«01_k».proof.Proof.Gen.StepInIdeal.Frame
public import Idealize.ShloMosaic.Lib.Pipeline.ValueKit
public import Idealize.ShloMosaic.Lib.Pipeline.ReadBack

@[expose] public section

set_option maxRecDepth 16384

noncomputable section

namespace Cert.Proof.StepInArrays

open Cert.StepInIdeal Cert.StepInIdeal.Gen Idealize.ShloMosaic Idealize.ShloMosaic.TcCoe Idealize.SL.Sem
open Cert.Proof.AdamW

/-- A number clamped to 0 is 0. -/
theorem clamp (x : BitVec 32) : Scalar.minsi 0#32 (Scalar.maxsi 0#32 x) = 0#32 := by
  unfold Scalar.minsi Scalar.maxsi IntOp.minsi IntOp.maxsi
  by_cases h : x.slt 0#32 <;> by_cases h' : (0#32).slt x <;> simp [h, h']
  simp only [BitVec.slt, decide_eq_true_eq] at h h'
  exact BitVec.eq_of_toInt_eq (by simp at h h' ⊢; omega)
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl

/-- The halves' blocks are inside the halves, whatever the core. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩
  · rw [index1]; revert a; decide
  · rw [index2]; revert a; decide

variable (m : (ℓ : Loc nD τ sig) → Buf (Elt Ideal) ℓ) (c : Dev nD)

/-- The core's number. -/
abbrev core : BitVec 32 := (m ((c : Thread nD τ).loc main_arg5) : IVec S1 32) (ix1 0)
/-- The weights, the gradient's halves of this core and of the other, and the two moments. -/
abbrev wt : FVec Ideal S560x1024 .f32 := m ((c : Thread nD τ).loc main_arg0)
abbrev mine : FVec Ideal S280x1024 .f32 := m ((c : Thread nD τ).loc main_arg1)
abbrev theirs : FVec Ideal S280x1024 .f32 := m ((c : Thread nD τ).loc main_arg2)
abbrev mo : FVec Ideal S560x1024 .f32 := m ((c : Thread nD τ).loc main_arg3)
abbrev ve : FVec Ideal S560x1024 .f32 := m ((c : Thread nD τ).loc main_arg4)

/-- The entry of half `k` of the gradient. -/
def half (z : BitVec 32) (a b : FVec Ideal S280x1024 .f32) (k : ℕ) (i : Fin 280) (j : Fin 1024) : EReal :=
  if BitVec.ofNat 32 k = z then a (ix2 i j) else b (ix2 i j)
/-- The gradient's entry: of the half the row is in, its row there. -/
def grad (z : BitVec 32) (a b : FVec Ideal S280x1024 .f32) (i : Fin 560) (j : Fin 1024) : EReal :=
  half z a b (i.val / 280) ⟨i.val % 280, Nat.mod_lt _ (by decide)⟩ j

theorem quotient (k : ℕ) (h : k < 2) : Scalar.select (Scalar.andi (Scalar.cmpi .ne (Scalar.subi (Scalar.extui (Scalar.cmpi .sgt (BitVec.ofNat 32 k) 0#32)) (Scalar.extui (Scalar.cmpi .slt (BitVec.ofNat 32 k) 0#32))) (Scalar.subi (Scalar.extui (Scalar.cmpi .sgt 1#32 0#32)) (Scalar.extui (Scalar.cmpi .slt 1#32 0#32)) : BitVec 32)) (Scalar.cmpi .ne (Scalar.remsi (BitVec.ofNat 32 k) 1#32) 0#32)) (Scalar.subi (Scalar.divsi (BitVec.ofNat 32 k) 1#32) 1#32) (Scalar.divsi (BitVec.ofNat 32 k) 1#32) = BitVec.ofNat 32 k := by
  rcases (by omega : k = 0 ∨ k = 1) with e | e <;> subst e <;> decide

theorem pay3 (i : grid0.Coords) (z : BitVec 32) (a b : Vec Ideal S280x1024 .f32) (p : Fin 280) (q : Fin 1024) :
    k0_pay3 (F := Ideal) i z a b (ix2 p q) = half z a b (i 0).val p q := by
  unfold k0_pay3 half
  dsimp only
  rw [quotient _ (i 0).isLt]
  by_cases e : BitVec.ofNat 32 (i 0).val = z
  · simp [Scalar.select, Scalar.cmpi, IntOp.cmpi, e]
  · have e' := beq_false_of_ne e
    simp [Scalar.select, Scalar.cmpi, IntOp.cmpi, e, e']

theorem coord : ∀ t : Fin grid0.N, (grid0.coords t 0).val = t.val := by decide +kernel
theorem lt_points (t : Fin (cfgM m (ok m)).N) : t.val < 2 := lt_of_lt_of_eq t.isLt (by decide +kernel : grid0.N = 2)
/-- The array's row that row `i` of a point's block is. -/
def row (t : Fin (cfgM m (ok m)).N) (i : Fin 280) : Fin 560 := ⟨t.val * 280 + i, by have := lt_points m t; omega⟩

variable (t : Fin (cfgM m (ok m)).N)

/-- The block index of each window at a point. -/
theorem idx : ((cfgM m (ok m)).win 0).index t = ![t.val, 0] ∧ ((cfgM m (ok m)).win 1).index t = ![0, 0] ∧ ((cfgM m (ok m)).win 2).index t = ![0, 0]
    ∧ ((cfgM m (ok m)).win 3).index t = ![t.val, 0] ∧ ((cfgM m (ok m)).win 4).index t = ![t.val, 0] ∧ ((cfgM m (ok m)).win 5).index t = ![t.val, 0]
    ∧ ((cfgM m (ok m)).win 6).index t = ![t.val, 0] ∧ ((cfgM m (ok m)).win 7).index t = ![t.val, 0] ∧ ((cfgM m (ok m)).win 8).index t = ![t.val, 0] := by
  have h := (by decide +kernel : ∀ t : Fin grid0.N, cc0_transform_0 (grid0.coords t) = ![t.val, 0] ∧ cc0_transform_3 (grid0.coords t) = ![t.val, 0]
    ∧ cc0_transform_4 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0]) t
  exact ⟨h.1, index1 _ _, index2 _ _, h.2.1, h.2.2.1, h.2.2.2.1, h.2.2.2.2.1, h.2.2.2.2.2.1, h.2.2.2.2.2.2⟩

theorem at0 (i : Fin 280) (j : Fin 1024) : (iblk m (ok m) c 0 t : FVec Ideal S280x1024 .f32) (ix2 i j) = wt m c (ix2 (row m t i) j) := by
  have := lt_points m t
  blk_ext [iblk, V, idx m t, row]
theorem at1 (i : Fin 280) (j : Fin 1024) : (iblk m (ok m) c 1 t : FVec Ideal S280x1024 .f32) (ix2 i j) = mine m c (ix2 i j) := by
  have := lt_points m t
  blk_ext [iblk, V, idx m t, row]
theorem at2 (i : Fin 280) (j : Fin 1024) : (iblk m (ok m) c 2 t : FVec Ideal S280x1024 .f32) (ix2 i j) = theirs m c (ix2 i j) := by
  have := lt_points m t
  blk_ext [iblk, V, idx m t, row]
theorem at3 (i : Fin 280) (j : Fin 1024) : (iblk m (ok m) c 3 t : FVec Ideal S280x1024 .f32) (ix2 i j) = mo m c (ix2 (row m t i) j) := by
  have := lt_points m t
  blk_ext [iblk, V, idx m t, row]
theorem at4 (i : Fin 280) (j : Fin 1024) : (iblk m (ok m) c 4 t : FVec Ideal S280x1024 .f32) (ix2 i j) = ve m c (ix2 (row m t i) j) := by
  have := lt_points m t
  blk_ext [iblk, V, idx m t, row]

/-- What the point reads of the table is the core's number. -/
theorem word (k : S1.Idx) : View.read (Elt Ideal) (View.whole main_arg5) (tbl m 0) k = core m c := by
  obtain rfl : c = 0 := Subsingleton.elim _ _
  refine congrArg (m (((0 : Dev nD) : Thread nD τ).loc main_arg5) : IVec S1 32) (funext fun a => Fin.ext ?_)
  fin_cases a
  exact Nat.lt_one_iff.mp (k 0).isLt

section
variable (i : grid0.Coords) (a2 : Memref sig .tc .vmem S280x1024 .f32) (h2 : a2.IsWhole) (a3 : Memref sig .tc .vmem S280x1024 .f32) (h3 : a3.IsWhole) (a4 : Memref sig .tc .vmem S280x1024 .f32) (h4 : a4.IsWhole) (a5 : Memref sig .tc .vmem S280x1024 .f32) (h5 : a5.IsWhole) (a6 : Memref sig .tc .vmem S280x1024 .f32) (h6 : a6.IsWhole) (a7 : Memref sig .tc .vmem S280x1024 .f32) (h7 : a7.IsWhole) (a8 : Memref sig .tc .vmem S280x1024 .f32) (h8 : a8.IsWhole) (a9 : Memref sig .tc .vmem S280x1024 .f32) (h9 : a9.IsWhole) (a10 : Memref sig .tc .vmem S280x1024 .f32) (h10 : a10.IsWhole)
  (x0 x1 x2 x3 x4 : Vec Ideal S280x1024 .f32) (xt : TbBuf0 (F := Ideal) c tbM0_0) (z : BitVec 32)
  (hz : ∀ k : S1.Idx, View.read (Elt Ideal) (View.whole main_arg5) xt k = z)
  (p : Fin 280) (q : Fin 1024)
include hz

theorem point5 : out0_A_5 (F := Ideal) c i a2 h2 a3 h3 a4 h4 a5 h5 a6 h6 a7 h7 a8 h8 a9 h9 a10 h10 x0 x1 x2 x3 x4 xt (ix2 p q) = half z x1 x2 (i 0).val p q := by
  frame_out
  generalize e : View.read _ (View.whole main_arg5) xt _ = z'
  obtain rfl : z' = z := e.symm.trans (hz _)
  exact pay3 i _ x1 x2 p q
theorem point6 : out0_A_6 (F := Ideal) c i a2 h2 a3 h3 a4 h4 a5 h5 a6 h6 a7 h7 a8 h8 a9 h9 a10 h10 x0 x1 x2 x3 x4 xt (ix2 p q) = step (x0 (ix2 p q)) (half z x1 x2 (i 0).val p q) (x3 (ix2 p q)) (x4 (ix2 p q)) := by
  frame_out
  generalize e : View.read _ (View.whole main_arg5) xt _ = z'
  obtain rfl : z' = z := e.symm.trans (hz _)
  pointwise [k0_pay2, k0_pay1, k0_pay4, k0_pay5, k0_pay6, pay3]
  rfl
theorem point7 : out0_A_7 (F := Ideal) c i a2 h2 a3 h3 a4 h4 a5 h5 a6 h6 a7 h7 a8 h8 a9 h9 a10 h10 x0 x1 x2 x3 x4 xt (ix2 p q) = first (half z x1 x2 (i 0).val p q) (x3 (ix2 p q)) := by
  frame_out
  generalize e : View.read _ (View.whole main_arg5) xt _ = z'
  obtain rfl : z' = z := e.symm.trans (hz _)
  pointwise [k0_pay4, pay3]
  rfl
theorem point8 : out0_A_8 (F := Ideal) c i a2 h2 a3 h3 a4 h4 a5 h5 a6 h6 a7 h7 a8 h8 a9 h9 a10 h10 x0 x1 x2 x3 x4 xt (ix2 p q) = second (half z x1 x2 (i 0).val p q) (x4 (ix2 p q)) := by
  frame_out
  generalize e : View.read _ (View.whole main_arg5) xt _ = z'
  obtain rfl : z' = z := e.symm.trans (hz _)
  pointwise [k0_pay1, k0_pay5, k0_pay6, pay3]
  rfl
end

theorem half_at (i : Fin 280) (j : Fin 1024) : half (core m c) (iblk m (ok m) c 1 t) (iblk m (ok m) c 2 t) (grid0.coords t 0).val i j
    = grad (core m c) (mine m c) (theirs m c) (row m t i) j := by
  rw [coord]
  unfold grad half row
  have e : (t.val * 280 + i.val) / 280 = t.val := by omega
  have e' : (t.val * 280 + i.val) % 280 = i.val := by omega
  simp only [e, e']
  rw [at1, at2]

theorem out5 (i : Fin 280) (j : Fin 1024) : (outsAt0 m (ok m) c t).1 (ix2 i j)
    = grad (core m c) (mine m c) (theirs m c) (row m t i) j := by
  unfold outsAt0
  dsimp only
  refine (point5 (hz := word m c) ..).trans ?_
  rw [half_at]
theorem out6 (i : Fin 280) (j : Fin 1024) : (outsAt0 m (ok m) c t).2.1 (ix2 i j)
    = step (wt m c (ix2 (row m t i) j)) (grad (core m c) (mine m c) (theirs m c) (row m t i) j) (mo m c (ix2 (row m t i) j)) (ve m c (ix2 (row m t i) j)) := by
  unfold outsAt0
  dsimp only
  refine (point6 (hz := word m c) ..).trans ?_
  rw [half_at, at0, at3, at4]
theorem out7 (i : Fin 280) (j : Fin 1024) : (outsAt0 m (ok m) c t).2.2.1 (ix2 i j)
    = first (grad (core m c) (mine m c) (theirs m c) (row m t i) j) (mo m c (ix2 (row m t i) j)) := by
  unfold outsAt0
  dsimp only
  refine (point7 (hz := word m c) ..).trans ?_
  rw [half_at, at3]
theorem out8 (i : Fin 280) (j : Fin 1024) : (outsAt0 m (ok m) c t).2.2.2 (ix2 i j)
    = second (grad (core m c) (mine m c) (theirs m c) (row m t i) j) (ve m c (ix2 (row m t i) j)) := by
  unfold outsAt0
  dsimp only
  refine (point8 (hz := word m c) ..).trans ?_
  rw [half_at, at4]
/-- The point of a block's number. -/
abbrev pt (k : ℕ) (h : k < 2) : Fin (cfgM m (ok m)).N := ⟨k, lt_of_lt_of_eq h N_0.symm⟩
/-- The blocks written cover the arrays. -/
theorem covers5 : ((cfgM m (ok m)).win 5).Covers := by
  refine ⟨(by decide : ∀ a : Fin 2, 0 < S280x1024.size a), fun β => ?_⟩
  have h0 : (β (0 : Fin 2)).val < 2 := lt_of_lt_of_eq (β (0 : Fin 2)).isLt (by decide : (S560x1024.size 0 + S280x1024.size 0 - 1) / S280x1024.size 0 = 2)
  have h1 : (β (1 : Fin 2)).val < 1 := lt_of_lt_of_eq (β (1 : Fin 2)).isLt (by decide : (S560x1024.size 1 + S280x1024.size 1 - 1) / S280x1024.size 1 = 1)
  refine ⟨pt m _ h0, flush0_5 _ _, fun (a : Fin 2) => ⟨?_, Or.inl rfl⟩⟩
  rw [(idx m (pt m _ h0)).2.2.2.2.2.1]
  fin_cases a
  · rfl
  · exact (Nat.lt_one_iff.mp h1).symm
theorem covers6 : ((cfgM m (ok m)).win 6).Covers := by
  refine ⟨(by decide : ∀ a : Fin 2, 0 < S280x1024.size a), fun β => ?_⟩
  have h0 : (β (0 : Fin 2)).val < 2 := lt_of_lt_of_eq (β (0 : Fin 2)).isLt (by decide : (S560x1024.size 0 + S280x1024.size 0 - 1) / S280x1024.size 0 = 2)
  have h1 : (β (1 : Fin 2)).val < 1 := lt_of_lt_of_eq (β (1 : Fin 2)).isLt (by decide : (S560x1024.size 1 + S280x1024.size 1 - 1) / S280x1024.size 1 = 1)
  refine ⟨pt m _ h0, flush0_6 _ _, fun (a : Fin 2) => ⟨?_, Or.inl rfl⟩⟩
  rw [(idx m (pt m _ h0)).2.2.2.2.2.2.1]
  fin_cases a
  · rfl
  · exact (Nat.lt_one_iff.mp h1).symm
theorem covers7 : ((cfgM m (ok m)).win 7).Covers := by
  refine ⟨(by decide : ∀ a : Fin 2, 0 < S280x1024.size a), fun β => ?_⟩
  have h0 : (β (0 : Fin 2)).val < 2 := lt_of_lt_of_eq (β (0 : Fin 2)).isLt (by decide : (S560x1024.size 0 + S280x1024.size 0 - 1) / S280x1024.size 0 = 2)
  have h1 : (β (1 : Fin 2)).val < 1 := lt_of_lt_of_eq (β (1 : Fin 2)).isLt (by decide : (S560x1024.size 1 + S280x1024.size 1 - 1) / S280x1024.size 1 = 1)
  refine ⟨pt m _ h0, flush0_7 _ _, fun (a : Fin 2) => ⟨?_, Or.inl rfl⟩⟩
  rw [(idx m (pt m _ h0)).2.2.2.2.2.2.2.1]
  fin_cases a
  · rfl
  · exact (Nat.lt_one_iff.mp h1).symm
theorem covers8 : ((cfgM m (ok m)).win 8).Covers := by
  refine ⟨(by decide : ∀ a : Fin 2, 0 < S280x1024.size a), fun β => ?_⟩
  have h0 : (β (0 : Fin 2)).val < 2 := lt_of_lt_of_eq (β (0 : Fin 2)).isLt (by decide : (S560x1024.size 0 + S280x1024.size 0 - 1) / S280x1024.size 0 = 2)
  have h1 : (β (1 : Fin 2)).val < 1 := lt_of_lt_of_eq (β (1 : Fin 2)).isLt (by decide : (S560x1024.size 1 + S280x1024.size 1 - 1) / S280x1024.size 1 = 1)
  refine ⟨pt m _ h0, flush0_8 _ _, fun (a : Fin 2) => ⟨?_, Or.inl rfl⟩⟩
  rw [(idx m (pt m _ h0)).2.2.2.2.2.2.2.2]
  fin_cases a
  · rfl
  · exact (Nat.lt_one_iff.mp h1).symm

/-- What the call leaves: the gradient. -/
theorem final5 : (dats m (ok m) 0 c).arrAt 5 (cfgM m (ok m)).N = fun i : S560x1024.Idx => grad (core m c) (mine m c) (theirs m c) (i 0) (i 1) := by
  refine (dats m (ok m) 0 c).arrAt_eq_of_covers 5 _ (covers5 m) fun t hf (y : S280x1024.Idx) => ?_
  have e : (((cfgM m (ok m)).win 5).blk t).view.emb y = (ix2 (row m t (y 0)) (y 1) : S560x1024.Idx) := by
    have := lt_points m t
    blk_ext [idx m t, row]
  blk_simp
  rw [after0_5]
  refine (congrArg (outsAt0 m (ok m) c t).1 (ix2_eta y).symm).trans ?_
  refine (out5 m c t (y 0) (y 1)).trans ?_
  rw [e]
  rfl

/-- What the call leaves: the step. -/
theorem final6 : (dats m (ok m) 0 c).arrAt 6 (cfgM m (ok m)).N = fun i : S560x1024.Idx => step (wt m c i) (grad (core m c) (mine m c) (theirs m c) (i 0) (i 1)) (mo m c i) (ve m c i) := by
  refine (dats m (ok m) 0 c).arrAt_eq_of_covers 6 _ (covers6 m) fun t hf (y : S280x1024.Idx) => ?_
  have e : (((cfgM m (ok m)).win 6).blk t).view.emb y = (ix2 (row m t (y 0)) (y 1) : S560x1024.Idx) := by
    have := lt_points m t
    blk_ext [idx m t, row]
  blk_simp
  rw [after0_6]
  refine (congrArg (outsAt0 m (ok m) c t).2.1 (ix2_eta y).symm).trans ?_
  refine (out6 m c t (y 0) (y 1)).trans ?_
  rw [e]
  rfl

/-- What the call leaves: the first moment. -/
theorem final7 : (dats m (ok m) 0 c).arrAt 7 (cfgM m (ok m)).N = fun i : S560x1024.Idx => first (grad (core m c) (mine m c) (theirs m c) (i 0) (i 1)) (mo m c i) := by
  refine (dats m (ok m) 0 c).arrAt_eq_of_covers 7 _ (covers7 m) fun t hf (y : S280x1024.Idx) => ?_
  have e : (((cfgM m (ok m)).win 7).blk t).view.emb y = (ix2 (row m t (y 0)) (y 1) : S560x1024.Idx) := by
    have := lt_points m t
    blk_ext [idx m t, row]
  blk_simp
  rw [after0_7]
  refine (congrArg (outsAt0 m (ok m) c t).2.2.1 (ix2_eta y).symm).trans ?_
  refine (out7 m c t (y 0) (y 1)).trans ?_
  rw [e]
  rfl

/-- What the call leaves: the second moment. -/
theorem final8 : (dats m (ok m) 0 c).arrAt 8 (cfgM m (ok m)).N = fun i : S560x1024.Idx => second (grad (core m c) (mine m c) (theirs m c) (i 0) (i 1)) (ve m c i) := by
  refine (dats m (ok m) 0 c).arrAt_eq_of_covers 8 _ (covers8 m) fun t hf (y : S280x1024.Idx) => ?_
  have e : (((cfgM m (ok m)).win 8).blk t).view.emb y = (ix2 (row m t (y 0)) (y 1) : S560x1024.Idx) := by
    have := lt_points m t
    blk_ext [idx m t, row]
  blk_simp
  rw [after0_8]
  refine (congrArg (outsAt0 m (ok m) c t).2.2.2 (ix2_eta y).symm).trans ?_
  refine (out8 m c t (y 0) (y 1)).trans ?_
  rw [e]
  rfl

end Cert.Proof.StepInArrays
-- ==== Proof.StepInEquation.lean ====
/- The optimiser's call on the input projection's weights leaves the reference's arrays: the reference, read entry by entry. -/
module

public import proofs.«01_k».proof.Defs
public import proofs.«01_k».proof.Proof.Gen.StepIn.Frame
public import proofs.«01_k».proof.Proof.Gen.StepInReferenceIdeal.Run
public import proofs.«01_k».proof.Proof.StepInArrays
public import Idealize.ShloMosaic.Lib.Quiescent
public import Idealize.ShloMosaic.Adequacy
public import Idealize.ShloMosaic.Init

@[expose] public section

set_option maxRecDepth 16384

noncomputable section

namespace Cert.Proof.StepInEquation

open Idealize.ShloMosaic Idealize.SL.Sem
open Cert.Proof.AdamW
open Cert.Proof.StepInArrays hiding index1 index2

attribute [local instance] Cert.StepIn.Gen.facts Cert.StepInIdeal.Gen.facts Cert.StepInReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _

section
open Cert.StepInReferenceIdeal Cert.StepInReferenceIdeal.Gen
variable (Z : IVec S1 32) (A B : FVec Ideal S280x1024 .f32) (C D E G : FVec Ideal S560x1024 .f32)

/-- The one number of the table. -/
theorem number (h : S1.ShapeCasts S_) (i : S_.Idx) : shapeCast S_ Z h i = Z (ix1 0) := by
  refine congrArg Z (funext fun a => Fin.ext ?_)
  fin_cases a
  exact Nat.lt_one_iff.mp (Fin.isLt _)
/-- A half: of this core if the core has the half's number, else of the other. -/
theorem read_half (k : ℕ) (p : Fin 280) (q : Fin 1024) :
    select (broadcastInDim S280x1024 ![] bcast_S_S280x1024 (cmpi .eq (shapeCast S_ Z shapeCasts_S1_S_) (constantI S_ 32 (BitVec.ofNat 32 k)))) A B (ix2 p q)
      = half (Z (ix1 0)) A B k p q := by
  unfold half
  show Scalar.select (IntOp.cmpi .eq (shapeCast S_ Z shapeCasts_S1_S_ _) (BitVec.ofNat 32 k)) _ _ = _
  rw [number]
  by_cases e : BitVec.ofNat 32 k = Z (ix1 0)
  · simp [Scalar.select, IntOp.cmpi, e]
  · have e' := beq_false_of_ne (Ne.symm e)
    simp [Scalar.select, IntOp.cmpi, e, e']
theorem read_grad : (concatenate S560x1024 0 [⟨S280x1024, ((select (broadcastInDim S280x1024 ![] bcast_S_S280x1024 (cmpi .eq (shapeCast S_ Z shapeCasts_S1_S_) (constantI S_ 32 0#32))) A B) : FVec Ideal S280x1024 .f32)⟩, ⟨S280x1024, ((select (broadcastInDim S280x1024 ![] bcast_S_S280x1024 (cmpi .eq (shapeCast S_ Z shapeCasts_S1_S_) (constantI S_ 32 1#32))) A B) : FVec Ideal S280x1024 .f32)⟩] concatenates_S280x1024_S280x1024_S560x1024_d0 : FVec Ideal S560x1024 .f32)
    = fun i => grad (Z (ix1 0)) A B (i 0) (i 1) := by
  have h0 := read_half Z A B 0
  have h1 := read_half Z A B 1
  generalize select (broadcastInDim S280x1024 ![] bcast_S_S280x1024 (cmpi .eq (shapeCast S_ Z shapeCasts_S1_S_) (constantI S_ 32 (BitVec.ofNat 32 0)))) A B = X at h0 ⊢
  generalize select (broadcastInDim S280x1024 ![] bcast_S_S280x1024 (cmpi .eq (shapeCast S_ Z shapeCasts_S1_S_) (constantI S_ 32 (BitVec.ofNat 32 1)))) A B = Y at h1 ⊢
  refine ext2 fun i j => ?_
  pointwise []
  unfold grad
  by_cases h : i.val < 280
  · rw [dif_pos h]
    refine (h0 _ _).trans ?_
    have e : i.val / 280 = 0 := by omega
    have e' : i.val % 280 = i.val := by omega
    simp only [e, e']
  · rw [dif_neg h]
    refine (h1 _ _).trans ?_
    have e : i.val / 280 = 1 := by omega
    have e' : i.val % 280 = i.val - 280 := by omega
    simp only [e, e']
theorem read_step : mulf (broadcastInDim S560x1024 ![] bcast_S_S560x1024 (constant S_ .f32 0xBA83126F#32)) (addf (Host.divf (Host.divf (addf (mulf (broadcastInDim S560x1024 ![] bcast_S_S560x1024 (constant S_ .f32 0x3F666666#32)) D) (mulf (broadcastInDim S560x1024 ![] bcast_S_S560x1024 (constant S_ .f32 0x3DCCCCCD#32)) G)) (broadcastInDim S560x1024 ![] bcast_S_S560x1024 (constant S_ .f32 0x3F26BD02#32))) (addf (Host.sqrt (Host.divf (addf (mulf (broadcastInDim S560x1024 ![] bcast_S_S560x1024 (constant S_ .f32 0x3F7FBE77#32)) E) (mulf (broadcastInDim S560x1024 ![] bcast_S_S560x1024 (constant S_ .f32 0x3A83126F#32)) (mulf G G))) (broadcastInDim S560x1024 ![] bcast_S_S560x1024 (constant S_ .f32 0x3C231ACC#32)))) (broadcastInDim S560x1024 ![] bcast_S_S560x1024 (constant S_ .f32 0x322BCC77#32)))) (mulf (broadcastInDim S560x1024 ![] bcast_S_S560x1024 (constant S_ .f32 0x3C23D70A#32)) C))
    = fun i => step (C i) (G i) (D i) (E i) := by
  refine ext2 fun i j => ?_
  pointwise []
  rfl
theorem read_first : addf (mulf (broadcastInDim S560x1024 ![] bcast_S_S560x1024 (constant S_ .f32 0x3F666666#32)) D) (mulf (broadcastInDim S560x1024 ![] bcast_S_S560x1024 (constant S_ .f32 0x3DCCCCCD#32)) G)
    = fun i => first (G i) (D i) := by
  refine ext2 fun i j => ?_
  pointwise []
  rfl
theorem read_second : addf (mulf (broadcastInDim S560x1024 ![] bcast_S_S560x1024 (constant S_ .f32 0x3F7FBE77#32)) E) (mulf (broadcastInDim S560x1024 ![] bcast_S_S560x1024 (constant S_ .f32 0x3A83126F#32)) (mulf G G))
    = fun i => second (G i) (E i) := by
  refine ext2 fun i j => ?_
  pointwise []
  rfl
end

section
open Cert.StepIn Cert.StepIn.Gen

/-- The halves' blocks are inside the halves in the kernel's own program too. -/
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl
/-- The kernel ends, its arguments and counters as they were, whatever the core's number. -/
theorem frameKernel : Cert.quiescent_StepIn := by
  refine fun m ρ _ => Cert.StepIn.Gen.frame m ρ ⟨fun i => ⟨fun a => ?_, Or.inl rfl⟩, fun i => ⟨fun a => ?_, Or.inl rfl⟩⟩
  · rw [index1]; revert a; decide
  · rw [index2]; revert a; decide
end
/-- Its idealization likewise. -/
theorem frameIdeal : Cert.quiescent_StepInIdeal := fun m ρ _ => Cert.StepInIdeal.Gen.frame m ρ (ok m)

/-- The reference ends, its arguments and counters as they were. -/
theorem frame : Cert.quiescent_StepInReferenceIdeal := fun m g _ =>
  (θ_run Cert.StepInReferenceIdeal.defs _ _).mono (fun r h => ⟨fun c => (h c).2.2.2.2, sem_eq_zero_of_no_sems (by decide) r.2⟩)
    (Cert.StepInReferenceIdeal.Value.run (F := Ideal) m g)

section
open Cert.StepInIdeal Cert.StepInIdeal.Gen Idealize.ShloMosaic.TcCoe

/-- The call's arrays when it ends, its arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (dats m (ok m) 0 c).arrAt 5 (cfgM m (ok m)).N
      ∧ r.2.mem ((c : Thread nD τ).loc main_v0_1) = (dats m (ok m) 0 c).arrAt 6 (cfgM m (ok m)).N
      ∧ r.2.mem ((c : Thread nD τ).loc main_v0_2) = (dats m (ok m) 0 c).arrAt 7 (cfgM m (ok m)).N
      ∧ r.2.mem ((c : Thread nD τ).loc main_v0_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 5, (h.1 c).1 6, (h.1 c).1 7, (h.1 c).1 8, h.2 c⟩)
    (θ_run_and (run_main m ρ (ok m)) (unchanged m ρ (ok m)))
end

/-- The call's four arrays are the reference's. -/
theorem algebraic : Cert.algebraic_StepInIdeal_StepInReferenceIdeal := by
  intro m g m' g' _ hagree
  refine ⟨fun c => (Cert.StepInIdeal.Gen.dats m (ok m) 0 c).arrAt 5 (Cert.StepInIdeal.Gen.cfgM m (ok m)).N,
    fun c => (Cert.StepInIdeal.Gen.dats m (ok m) 0 c).arrAt 6 (Cert.StepInIdeal.Gen.cfgM m (ok m)).N,
    fun c => (Cert.StepInIdeal.Gen.dats m (ok m) 0 c).arrAt 7 (Cert.StepInIdeal.Gen.cfgM m (ok m)).N,
    fun c => (Cert.StepInIdeal.Gen.dats m (ok m) 0 c).arrAt 8 (Cert.StepInIdeal.Gen.cfgM m (ok m)).N, run_blocks m g, ?_⟩
  refine (θ_run Cert.StepInReferenceIdeal.defs _ _).mono (fun _ h c => ?_) (Cert.StepInReferenceIdeal.Value.run (F := Ideal) m' g')
  obtain ⟨r5, r6, r7, r8, kept⟩ := h c
  obtain ⟨a0, a1, a2, a3, a4, a5⟩ := hagree c
  rw [a1, a2, a5] at r5
  rw [a0, a1, a2, a3, a4, a5] at r6
  rw [a1, a2, a3, a5] at r7
  rw [a1, a2, a4, a5] at r8
  rw [read_grad] at r5 r6 r7 r8
  exact ⟨r5.trans (final5 m c).symm, r6.trans ((read_step _ _ _ _).trans (final6 m c).symm), r7.trans ((read_first _ _).trans (final7 m c).symm),
    r8.trans ((read_second _ _).trans (final8 m c).symm), kept⟩

end Cert.Proof.StepInEquation
-- ==== Proof.StepUqArrays.lean ====
/- The optimiser's call on the queries' projection's weights: its two points take one half of the rows each, and the arrays it leaves are the gradient,
   put together from its two halves, the step and the two moments, entry by entry.
   The weights lie with their columns first. -/
module

public import proofs.«01_k».proof.Proof.AdamW
public import proofs.«01_k».proof.Proof.Gen.StepUqIdeal.Frame
public import Idealize.ShloMosaic.Lib.Pipeline.ValueKit
public import Idealize.ShloMosaic.Lib.Pipeline.ReadBack

@[expose] public section

set_option maxRecDepth 16384

noncomputable section

namespace Cert.Proof.StepUqArrays

open Cert.StepUqIdeal Cert.StepUqIdeal.Gen Idealize.ShloMosaic Idealize.ShloMosaic.TcCoe Idealize.SL.Sem
open Cert.Proof.AdamW

/-- A number clamped to 0 is 0. -/
theorem clamp (x : BitVec 32) : Scalar.minsi 0#32 (Scalar.maxsi 0#32 x) = 0#32 := by
  unfold Scalar.minsi Scalar.maxsi IntOp.minsi IntOp.maxsi
  by_cases h : x.slt 0#32 <;> by_cases h' : (0#32).slt x <;> simp [h, h']
  simp only [BitVec.slt, decide_eq_true_eq] at h h'
  exact BitVec.eq_of_toInt_eq (by simp at h h' ⊢; omega)
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl

/-- The halves' blocks are inside the halves, whatever the core. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩
  · rw [index1]; revert a; decide
  · rw [index2]; revert a; decide

variable (m : (ℓ : Loc nD τ sig) → Buf (Elt Ideal) ℓ) (c : Dev nD)

/-- The core's number. -/
abbrev core : BitVec 32 := (m ((c : Thread nD τ).loc main_arg5) : IVec S1 32) (ix1 0)
/-- The weights, the gradient's halves of this core and of the other, and the two moments. -/
abbrev wt : FVec Ideal S192x384 .f32 := m ((c : Thread nD τ).loc main_arg0)
abbrev mine : FVec Ideal S96x384 .f32 := m ((c : Thread nD τ).loc main_arg1)
abbrev theirs : FVec Ideal S96x384 .f32 := m ((c : Thread nD τ).loc main_arg2)
abbrev mo : FVec Ideal S192x384 .f32 := m ((c : Thread nD τ).loc main_arg3)
abbrev ve : FVec Ideal S192x384 .f32 := m ((c : Thread nD τ).loc main_arg4)

/-- The entry of half `k` of the gradient. -/
def half (z : BitVec 32) (a b : FVec Ideal S96x384 .f32) (k : ℕ) (i : Fin 96) (j : Fin 384) : EReal :=
  if BitVec.ofNat 32 k = z then a (ix2 i j) else b (ix2 i j)
/-- The gradient's entry: of the half the row is in, its row there. -/
def grad (z : BitVec 32) (a b : FVec Ideal S96x384 .f32) (i : Fin 192) (j : Fin 384) : EReal :=
  half z a b (i.val / 96) ⟨i.val % 96, Nat.mod_lt _ (by decide)⟩ j

theorem quotient (k : ℕ) (h : k < 2) : Scalar.select (Scalar.andi (Scalar.cmpi .ne (Scalar.subi (Scalar.extui (Scalar.cmpi .sgt (BitVec.ofNat 32 k) 0#32)) (Scalar.extui (Scalar.cmpi .slt (BitVec.ofNat 32 k) 0#32))) (Scalar.subi (Scalar.extui (Scalar.cmpi .sgt 1#32 0#32)) (Scalar.extui (Scalar.cmpi .slt 1#32 0#32)) : BitVec 32)) (Scalar.cmpi .ne (Scalar.remsi (BitVec.ofNat 32 k) 1#32) 0#32)) (Scalar.subi (Scalar.divsi (BitVec.ofNat 32 k) 1#32) 1#32) (Scalar.divsi (BitVec.ofNat 32 k) 1#32) = BitVec.ofNat 32 k := by
  rcases (by omega : k = 0 ∨ k = 1) with e | e <;> subst e <;> decide

theorem pay3 (i : grid0.Coords) (z : BitVec 32) (a b : Vec Ideal S96x384 .f32) (p : Fin 96) (q : Fin 384) :
    k0_pay3 (F := Ideal) i z a b (ix2 p q) = half z a b (i 0).val p q := by
  unfold k0_pay3 half
  dsimp only
  rw [quotient _ (i 0).isLt]
  by_cases e : BitVec.ofNat 32 (i 0).val = z
  · simp [Scalar.select, Scalar.cmpi, IntOp.cmpi, e]
  · have e' := beq_false_of_ne e
    simp [Scalar.select, Scalar.cmpi, IntOp.cmpi, e, e']

theorem coord : ∀ t : Fin grid0.N, (grid0.coords t 0).val = t.val := by decide +kernel
theorem lt_points (t : Fin (cfgM m (ok m)).N) : t.val < 2 := lt_of_lt_of_eq t.isLt (by decide +kernel : grid0.N = 2)
/-- The array's row that row `i` of a point's block is. -/
def row (t : Fin (cfgM m (ok m)).N) (i : Fin 96) : Fin 192 := ⟨t.val * 96 + i, by have := lt_points m t; omega⟩

variable (t : Fin (cfgM m (ok m)).N)

/-- The block index of each window at a point. -/
theorem idx : ((cfgM m (ok m)).win 0).index t = ![t.val, 0] ∧ ((cfgM m (ok m)).win 1).index t = ![0, 0] ∧ ((cfgM m (ok m)).win 2).index t = ![0, 0]
    ∧ ((cfgM m (ok m)).win 3).index t = ![t.val, 0] ∧ ((cfgM m (ok m)).win 4).index t = ![t.val, 0] ∧ ((cfgM m (ok m)).win 5).index t = ![t.val, 0]
    ∧ ((cfgM m (ok m)).win 6).index t = ![t.val, 0] ∧ ((cfgM m (ok m)).win 7).index t = ![t.val, 0] ∧ ((cfgM m (ok m)).win 8).index t = ![t.val, 0] := by
  have h := (by decide +kernel : ∀ t : Fin grid0.N, cc0_transform_0 (grid0.coords t) = ![t.val, 0] ∧ cc0_transform_3 (grid0.coords t) = ![t.val, 0]
    ∧ cc0_transform_4 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0]) t
  exact ⟨h.1, index1 _ _, index2 _ _, h.2.1, h.2.2.1, h.2.2.2.1, h.2.2.2.2.1, h.2.2.2.2.2.1, h.2.2.2.2.2.2⟩

theorem at0 (i : Fin 96) (j : Fin 384) : (iblk m (ok m) c 0 t : FVec Ideal S96x384 .f32) (ix2 i j) = wt m c (ix2 (row m t i) j) := by
  have := lt_points m t
  blk_ext [iblk, V, idx m t, row]
theorem at1 (i : Fin 96) (j : Fin 384) : (iblk m (ok m) c 1 t : FVec Ideal S96x384 .f32) (ix2 i j) = mine m c (ix2 i j) := by
  have := lt_points m t
  blk_ext [iblk, V, idx m t, row]
theorem at2 (i : Fin 96) (j : Fin 384) : (iblk m (ok m) c 2 t : FVec Ideal S96x384 .f32) (ix2 i j) = theirs m c (ix2 i j) := by
  have := lt_points m t
  blk_ext [iblk, V, idx m t, row]
theorem at3 (i : Fin 96) (j : Fin 384) : (iblk m (ok m) c 3 t : FVec Ideal S96x384 .f32) (ix2 i j) = mo m c (ix2 (row m t i) j) := by
  have := lt_points m t
  blk_ext [iblk, V, idx m t, row]
theorem at4 (i : Fin 96) (j : Fin 384) : (iblk m (ok m) c 4 t : FVec Ideal S96x384 .f32) (ix2 i j) = ve m c (ix2 (row m t i) j) := by
  have := lt_points m t
  blk_ext [iblk, V, idx m t, row]

/-- What the point reads of the table is the core's number. -/
theorem word (k : S1.Idx) : View.read (Elt Ideal) (View.whole main_arg5) (tbl m 0) k = core m c := by
  obtain rfl : c = 0 := Subsingleton.elim _ _
  refine congrArg (m (((0 : Dev nD) : Thread nD τ).loc main_arg5) : IVec S1 32) (funext fun a => Fin.ext ?_)
  fin_cases a
  exact Nat.lt_one_iff.mp (k 0).isLt

section
variable (i : grid0.Coords) (a2 : Memref sig .tc .vmem S96x384 .f32) (h2 : a2.IsWhole) (a3 : Memref sig .tc .vmem S96x384 .f32) (h3 : a3.IsWhole) (a4 : Memref sig .tc .vmem S96x384 .f32) (h4 : a4.IsWhole) (a5 : Memref sig .tc .vmem S96x384 .f32) (h5 : a5.IsWhole) (a6 : Memref sig .tc .vmem S96x384 .f32) (h6 : a6.IsWhole) (a7 : Memref sig .tc .vmem S96x384 .f32) (h7 : a7.IsWhole) (a8 : Memref sig .tc .vmem S96x384 .f32) (h8 : a8.IsWhole) (a9 : Memref sig .tc .vmem S96x384 .f32) (h9 : a9.IsWhole) (a10 : Memref sig .tc .vmem S96x384 .f32) (h10 : a10.IsWhole)
  (x0 x1 x2 x3 x4 : Vec Ideal S96x384 .f32) (xt : TbBuf0 (F := Ideal) c tbM0_0) (z : BitVec 32)
  (hz : ∀ k : S1.Idx, View.read (Elt Ideal) (View.whole main_arg5) xt k = z)
  (p : Fin 96) (q : Fin 384)
include hz

theorem point5 : out0_A_5 (F := Ideal) c i a2 h2 a3 h3 a4 h4 a5 h5 a6 h6 a7 h7 a8 h8 a9 h9 a10 h10 x0 x1 x2 x3 x4 xt (ix2 p q) = half z x1 x2 (i 0).val p q := by
  frame_out
  generalize e : View.read _ (View.whole main_arg5) xt _ = z'
  obtain rfl : z' = z := e.symm.trans (hz _)
  exact pay3 i _ x1 x2 p q
theorem point6 : out0_A_6 (F := Ideal) c i a2 h2 a3 h3 a4 h4 a5 h5 a6 h6 a7 h7 a8 h8 a9 h9 a10 h10 x0 x1 x2 x3 x4 xt (ix2 p q) = step (x0 (ix2 p q)) (half z x1 x2 (i 0).val p q) (x3 (ix2 p q)) (x4 (ix2 p q)) := by
  frame_out
  generalize e : View.read _ (View.whole main_arg5) xt _ = z'
  obtain rfl : z' = z := e.symm.trans (hz _)
  pointwise [k0_pay2, k0_pay1, k0_pay4, k0_pay5, k0_pay6, pay3]
  rfl
theorem point7 : out0_A_7 (F := Ideal) c i a2 h2 a3 h3 a4 h4 a5 h5 a6 h6 a7 h7 a8 h8 a9 h9 a10 h10 x0 x1 x2 x3 x4 xt (ix2 p q) = first (half z x1 x2 (i 0).val p q) (x3 (ix2 p q)) := by
  frame_out
  generalize e : View.read _ (View.whole main_arg5) xt _ = z'
  obtain rfl : z' = z := e.symm.trans (hz _)
  pointwise [k0_pay4, pay3]
  rfl
theorem point8 : out0_A_8 (F := Ideal) c i a2 h2 a3 h3 a4 h4 a5 h5 a6 h6 a7 h7 a8 h8 a9 h9 a10 h10 x0 x1 x2 x3 x4 xt (ix2 p q) = second (half z x1 x2 (i 0).val p q) (x4 (ix2 p q)) := by
  frame_out
  generalize e : View.read _ (View.whole main_arg5) xt _ = z'
  obtain rfl : z' = z := e.symm.trans (hz _)
  pointwise [k0_pay1, k0_pay5, k0_pay6, pay3]
  rfl
end

theorem half_at (i : Fin 96) (j : Fin 384) : half (core m c) (iblk m (ok m) c 1 t) (iblk m (ok m) c 2 t) (grid0.coords t 0).val i j
    = grad (core m c) (mine m c) (theirs m c) (row m t i) j := by
  rw [coord]
  unfold grad half row
  have e : (t.val * 96 + i.val) / 96 = t.val := by omega
  have e' : (t.val * 96 + i.val) % 96 = i.val := by omega
  simp only [e, e']
  rw [at1, at2]

theorem out5 (i : Fin 96) (j : Fin 384) : (outsAt0 m (ok m) c t).1 (ix2 i j)
    = grad (core m c) (mine m c) (theirs m c) (row m t i) j := by
  unfold outsAt0
  dsimp only
  refine (point5 (hz := word m c) ..).trans ?_
  rw [half_at]
theorem out6 (i : Fin 96) (j : Fin 384) : (outsAt0 m (ok m) c t).2.1 (ix2 i j)
    = step (wt m c (ix2 (row m t i) j)) (grad (core m c) (mine m c) (theirs m c) (row m t i) j) (mo m c (ix2 (row m t i) j)) (ve m c (ix2 (row m t i) j)) := by
  unfold outsAt0
  dsimp only
  refine (point6 (hz := word m c) ..).trans ?_
  rw [half_at, at0, at3, at4]
theorem out7 (i : Fin 96) (j : Fin 384) : (outsAt0 m (ok m) c t).2.2.1 (ix2 i j)
    = first (grad (core m c) (mine m c) (theirs m c) (row m t i) j) (mo m c (ix2 (row m t i) j)) := by
  unfold outsAt0
  dsimp only
  refine (point7 (hz := word m c) ..).trans ?_
  rw [half_at, at3]
theorem out8 (i : Fin 96) (j : Fin 384) : (outsAt0 m (ok m) c t).2.2.2 (ix2 i j)
    = second (grad (core m c) (mine m c) (theirs m c) (row m t i) j) (ve m c (ix2 (row m t i) j)) := by
  unfold outsAt0
  dsimp only
  refine (point8 (hz := word m c) ..).trans ?_
  rw [half_at, at4]
/-- The point of a block's number. -/
abbrev pt (k : ℕ) (h : k < 2) : Fin (cfgM m (ok m)).N := ⟨k, lt_of_lt_of_eq h N_0.symm⟩
/-- The blocks written cover the arrays. -/
theorem covers5 : ((cfgM m (ok m)).win 5).Covers := by
  refine ⟨(by decide : ∀ a : Fin 2, 0 < S96x384.size a), fun β => ?_⟩
  have h0 : (β (0 : Fin 2)).val < 2 := lt_of_lt_of_eq (β (0 : Fin 2)).isLt (by decide : (S192x384.size 0 + S96x384.size 0 - 1) / S96x384.size 0 = 2)
  have h1 : (β (1 : Fin 2)).val < 1 := lt_of_lt_of_eq (β (1 : Fin 2)).isLt (by decide : (S192x384.size 1 + S96x384.size 1 - 1) / S96x384.size 1 = 1)
  refine ⟨pt m _ h0, flush0_5 _ _, fun (a : Fin 2) => ⟨?_, Or.inl rfl⟩⟩
  rw [(idx m (pt m _ h0)).2.2.2.2.2.1]
  fin_cases a
  · rfl
  · exact (Nat.lt_one_iff.mp h1).symm
theorem covers6 : ((cfgM m (ok m)).win 6).Covers := by
  refine ⟨(by decide : ∀ a : Fin 2, 0 < S96x384.size a), fun β => ?_⟩
  have h0 : (β (0 : Fin 2)).val < 2 := lt_of_lt_of_eq (β (0 : Fin 2)).isLt (by decide : (S192x384.size 0 + S96x384.size 0 - 1) / S96x384.size 0 = 2)
  have h1 : (β (1 : Fin 2)).val < 1 := lt_of_lt_of_eq (β (1 : Fin 2)).isLt (by decide : (S192x384.size 1 + S96x384.size 1 - 1) / S96x384.size 1 = 1)
  refine ⟨pt m _ h0, flush0_6 _ _, fun (a : Fin 2) => ⟨?_, Or.inl rfl⟩⟩
  rw [(idx m (pt m _ h0)).2.2.2.2.2.2.1]
  fin_cases a
  · rfl
  · exact (Nat.lt_one_iff.mp h1).symm
theorem covers7 : ((cfgM m (ok m)).win 7).Covers := by
  refine ⟨(by decide : ∀ a : Fin 2, 0 < S96x384.size a), fun β => ?_⟩
  have h0 : (β (0 : Fin 2)).val < 2 := lt_of_lt_of_eq (β (0 : Fin 2)).isLt (by decide : (S192x384.size 0 + S96x384.size 0 - 1) / S96x384.size 0 = 2)
  have h1 : (β (1 : Fin 2)).val < 1 := lt_of_lt_of_eq (β (1 : Fin 2)).isLt (by decide : (S192x384.size 1 + S96x384.size 1 - 1) / S96x384.size 1 = 1)
  refine ⟨pt m _ h0, flush0_7 _ _, fun (a : Fin 2) => ⟨?_, Or.inl rfl⟩⟩
  rw [(idx m (pt m _ h0)).2.2.2.2.2.2.2.1]
  fin_cases a
  · rfl
  · exact (Nat.lt_one_iff.mp h1).symm
theorem covers8 : ((cfgM m (ok m)).win 8).Covers := by
  refine ⟨(by decide : ∀ a : Fin 2, 0 < S96x384.size a), fun β => ?_⟩
  have h0 : (β (0 : Fin 2)).val < 2 := lt_of_lt_of_eq (β (0 : Fin 2)).isLt (by decide : (S192x384.size 0 + S96x384.size 0 - 1) / S96x384.size 0 = 2)
  have h1 : (β (1 : Fin 2)).val < 1 := lt_of_lt_of_eq (β (1 : Fin 2)).isLt (by decide : (S192x384.size 1 + S96x384.size 1 - 1) / S96x384.size 1 = 1)
  refine ⟨pt m _ h0, flush0_8 _ _, fun (a : Fin 2) => ⟨?_, Or.inl rfl⟩⟩
  rw [(idx m (pt m _ h0)).2.2.2.2.2.2.2.2]
  fin_cases a
  · rfl
  · exact (Nat.lt_one_iff.mp h1).symm

/-- What the call leaves: the gradient. -/
theorem final5 : (dats m (ok m) 0 c).arrAt 5 (cfgM m (ok m)).N = fun i : S192x384.Idx => grad (core m c) (mine m c) (theirs m c) (i 0) (i 1) := by
  refine (dats m (ok m) 0 c).arrAt_eq_of_covers 5 _ (covers5 m) fun t hf (y : S96x384.Idx) => ?_
  have e : (((cfgM m (ok m)).win 5).blk t).view.emb y = (ix2 (row m t (y 0)) (y 1) : S192x384.Idx) := by
    have := lt_points m t
    blk_ext [idx m t, row]
  blk_simp
  rw [after0_5]
  refine (congrArg (outsAt0 m (ok m) c t).1 (ix2_eta y).symm).trans ?_
  refine (out5 m c t (y 0) (y 1)).trans ?_
  rw [e]
  rfl

/-- What the call leaves: the step. -/
theorem final6 : (dats m (ok m) 0 c).arrAt 6 (cfgM m (ok m)).N = fun i : S192x384.Idx => step (wt m c i) (grad (core m c) (mine m c) (theirs m c) (i 0) (i 1)) (mo m c i) (ve m c i) := by
  refine (dats m (ok m) 0 c).arrAt_eq_of_covers 6 _ (covers6 m) fun t hf (y : S96x384.Idx) => ?_
  have e : (((cfgM m (ok m)).win 6).blk t).view.emb y = (ix2 (row m t (y 0)) (y 1) : S192x384.Idx) := by
    have := lt_points m t
    blk_ext [idx m t, row]
  blk_simp
  rw [after0_6]
  refine (congrArg (outsAt0 m (ok m) c t).2.1 (ix2_eta y).symm).trans ?_
  refine (out6 m c t (y 0) (y 1)).trans ?_
  rw [e]
  rfl

/-- What the call leaves: the first moment. -/
theorem final7 : (dats m (ok m) 0 c).arrAt 7 (cfgM m (ok m)).N = fun i : S192x384.Idx => first (grad (core m c) (mine m c) (theirs m c) (i 0) (i 1)) (mo m c i) := by
  refine (dats m (ok m) 0 c).arrAt_eq_of_covers 7 _ (covers7 m) fun t hf (y : S96x384.Idx) => ?_
  have e : (((cfgM m (ok m)).win 7).blk t).view.emb y = (ix2 (row m t (y 0)) (y 1) : S192x384.Idx) := by
    have := lt_points m t
    blk_ext [idx m t, row]
  blk_simp
  rw [after0_7]
  refine (congrArg (outsAt0 m (ok m) c t).2.2.1 (ix2_eta y).symm).trans ?_
  refine (out7 m c t (y 0) (y 1)).trans ?_
  rw [e]
  rfl

/-- What the call leaves: the second moment. -/
theorem final8 : (dats m (ok m) 0 c).arrAt 8 (cfgM m (ok m)).N = fun i : S192x384.Idx => second (grad (core m c) (mine m c) (theirs m c) (i 0) (i 1)) (ve m c i) := by
  refine (dats m (ok m) 0 c).arrAt_eq_of_covers 8 _ (covers8 m) fun t hf (y : S96x384.Idx) => ?_
  have e : (((cfgM m (ok m)).win 8).blk t).view.emb y = (ix2 (row m t (y 0)) (y 1) : S192x384.Idx) := by
    have := lt_points m t
    blk_ext [idx m t, row]
  blk_simp
  rw [after0_8]
  refine (congrArg (outsAt0 m (ok m) c t).2.2.2 (ix2_eta y).symm).trans ?_
  refine (out8 m c t (y 0) (y 1)).trans ?_
  rw [e]
  rfl

end Cert.Proof.StepUqArrays
-- ==== Proof.StepUqEquation.lean ====
/- The optimiser's call on the queries' projection's weights leaves the reference's arrays: the reference, read entry by entry. -/
module

public import proofs.«01_k».proof.Defs
public import proofs.«01_k».proof.Proof.Gen.StepUq.Frame
public import proofs.«01_k».proof.Proof.Gen.StepUqReferenceIdeal.Run
public import proofs.«01_k».proof.Proof.StepUqArrays
public import Idealize.ShloMosaic.Lib.Quiescent
public import Idealize.ShloMosaic.Adequacy
public import Idealize.ShloMosaic.Init

@[expose] public section

set_option maxRecDepth 16384

noncomputable section

namespace Cert.Proof.StepUqEquation

open Idealize.ShloMosaic Idealize.SL.Sem
open Cert.Proof.AdamW
open Cert.Proof.StepUqArrays hiding index1 index2

attribute [local instance] Cert.StepUq.Gen.facts Cert.StepUqIdeal.Gen.facts Cert.StepUqReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _

section
open Cert.StepUqReferenceIdeal Cert.StepUqReferenceIdeal.Gen
variable (Z : IVec S1 32) (A B : FVec Ideal S96x384 .f32) (C D E G : FVec Ideal S192x384 .f32)

/-- The one number of the table. -/
theorem number (h : S1.ShapeCasts S_) (i : S_.Idx) : shapeCast S_ Z h i = Z (ix1 0) := by
  refine congrArg Z (funext fun a => Fin.ext ?_)
  fin_cases a
  exact Nat.lt_one_iff.mp (Fin.isLt _)
/-- A half: of this core if the core has the half's number, else of the other. -/
theorem read_half (k : ℕ) (p : Fin 96) (q : Fin 384) :
    select (broadcastInDim S96x384 ![] bcast_S_S96x384 (cmpi .eq (shapeCast S_ Z shapeCasts_S1_S_) (constantI S_ 32 (BitVec.ofNat 32 k)))) A B (ix2 p q)
      = half (Z (ix1 0)) A B k p q := by
  unfold half
  show Scalar.select (IntOp.cmpi .eq (shapeCast S_ Z shapeCasts_S1_S_ _) (BitVec.ofNat 32 k)) _ _ = _
  rw [number]
  by_cases e : BitVec.ofNat 32 k = Z (ix1 0)
  · simp [Scalar.select, IntOp.cmpi, e]
  · have e' := beq_false_of_ne (Ne.symm e)
    simp [Scalar.select, IntOp.cmpi, e, e']
theorem read_grad : (concatenate S192x384 0 [⟨S96x384, ((select (broadcastInDim S96x384 ![] bcast_S_S96x384 (cmpi .eq (shapeCast S_ Z shapeCasts_S1_S_) (constantI S_ 32 0#32))) A B) : FVec Ideal S96x384 .f32)⟩, ⟨S96x384, ((select (broadcastInDim S96x384 ![] bcast_S_S96x384 (cmpi .eq (shapeCast S_ Z shapeCasts_S1_S_) (constantI S_ 32 1#32))) A B) : FVec Ideal S96x384 .f32)⟩] concatenates_S96x384_S96x384_S192x384_d0 : FVec Ideal S192x384 .f32)
    = fun i => grad (Z (ix1 0)) A B (i 0) (i 1) := by
  have h0 := read_half Z A B 0
  have h1 := read_half Z A B 1
  generalize select (broadcastInDim S96x384 ![] bcast_S_S96x384 (cmpi .eq (shapeCast S_ Z shapeCasts_S1_S_) (constantI S_ 32 (BitVec.ofNat 32 0)))) A B = X at h0 ⊢
  generalize select (broadcastInDim S96x384 ![] bcast_S_S96x384 (cmpi .eq (shapeCast S_ Z shapeCasts_S1_S_) (constantI S_ 32 (BitVec.ofNat 32 1)))) A B = Y at h1 ⊢
  refine ext2 fun i j => ?_
  pointwise []
  unfold grad
  by_cases h : i.val < 96
  · rw [dif_pos h]
    refine (h0 _ _).trans ?_
    have e : i.val / 96 = 0 := by omega
    have e' : i.val % 96 = i.val := by omega
    simp only [e, e']
  · rw [dif_neg h]
    refine (h1 _ _).trans ?_
    have e : i.val / 96 = 1 := by omega
    have e' : i.val % 96 = i.val - 96 := by omega
    simp only [e, e']
theorem read_step : mulf (broadcastInDim S192x384 ![] bcast_S_S192x384 (constant S_ .f32 0xBA83126F#32)) (addf (Host.divf (Host.divf (addf (mulf (broadcastInDim S192x384 ![] bcast_S_S192x384 (constant S_ .f32 0x3F666666#32)) D) (mulf (broadcastInDim S192x384 ![] bcast_S_S192x384 (constant S_ .f32 0x3DCCCCCD#32)) G)) (broadcastInDim S192x384 ![] bcast_S_S192x384 (constant S_ .f32 0x3F26BD02#32))) (addf (Host.sqrt (Host.divf (addf (mulf (broadcastInDim S192x384 ![] bcast_S_S192x384 (constant S_ .f32 0x3F7FBE77#32)) E) (mulf (broadcastInDim S192x384 ![] bcast_S_S192x384 (constant S_ .f32 0x3A83126F#32)) (mulf G G))) (broadcastInDim S192x384 ![] bcast_S_S192x384 (constant S_ .f32 0x3C231ACC#32)))) (broadcastInDim S192x384 ![] bcast_S_S192x384 (constant S_ .f32 0x322BCC77#32)))) (mulf (broadcastInDim S192x384 ![] bcast_S_S192x384 (constant S_ .f32 0x3C23D70A#32)) C))
    = fun i => step (C i) (G i) (D i) (E i) := by
  refine ext2 fun i j => ?_
  pointwise []
  rfl
theorem read_first : addf (mulf (broadcastInDim S192x384 ![] bcast_S_S192x384 (constant S_ .f32 0x3F666666#32)) D) (mulf (broadcastInDim S192x384 ![] bcast_S_S192x384 (constant S_ .f32 0x3DCCCCCD#32)) G)
    = fun i => first (G i) (D i) := by
  refine ext2 fun i j => ?_
  pointwise []
  rfl
theorem read_second : addf (mulf (broadcastInDim S192x384 ![] bcast_S_S192x384 (constant S_ .f32 0x3F7FBE77#32)) E) (mulf (broadcastInDim S192x384 ![] bcast_S_S192x384 (constant S_ .f32 0x3A83126F#32)) (mulf G G))
    = fun i => second (G i) (E i) := by
  refine ext2 fun i j => ?_
  pointwise []
  rfl
end

section
open Cert.StepUq Cert.StepUq.Gen

/-- The halves' blocks are inside the halves in the kernel's own program too. -/
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl
/-- The kernel ends, its arguments and counters as they were, whatever the core's number. -/
theorem frameKernel : Cert.quiescent_StepUq := by
  refine fun m ρ _ => Cert.StepUq.Gen.frame m ρ ⟨fun i => ⟨fun a => ?_, Or.inl rfl⟩, fun i => ⟨fun a => ?_, Or.inl rfl⟩⟩
  · rw [index1]; revert a; decide
  · rw [index2]; revert a; decide
end
/-- Its idealization likewise. -/
theorem frameIdeal : Cert.quiescent_StepUqIdeal := fun m ρ _ => Cert.StepUqIdeal.Gen.frame m ρ (ok m)

/-- The reference ends, its arguments and counters as they were. -/
theorem frame : Cert.quiescent_StepUqReferenceIdeal := fun m g _ =>
  (θ_run Cert.StepUqReferenceIdeal.defs _ _).mono (fun r h => ⟨fun c => (h c).2.2.2.2, sem_eq_zero_of_no_sems (by decide) r.2⟩)
    (Cert.StepUqReferenceIdeal.Value.run (F := Ideal) m g)

section
open Cert.StepUqIdeal Cert.StepUqIdeal.Gen Idealize.ShloMosaic.TcCoe

/-- The call's arrays when it ends, its arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (dats m (ok m) 0 c).arrAt 5 (cfgM m (ok m)).N
      ∧ r.2.mem ((c : Thread nD τ).loc main_v0_1) = (dats m (ok m) 0 c).arrAt 6 (cfgM m (ok m)).N
      ∧ r.2.mem ((c : Thread nD τ).loc main_v0_2) = (dats m (ok m) 0 c).arrAt 7 (cfgM m (ok m)).N
      ∧ r.2.mem ((c : Thread nD τ).loc main_v0_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 5, (h.1 c).1 6, (h.1 c).1 7, (h.1 c).1 8, h.2 c⟩)
    (θ_run_and (run_main m ρ (ok m)) (unchanged m ρ (ok m)))
end

/-- The call's four arrays are the reference's. -/
theorem algebraic : Cert.algebraic_StepUqIdeal_StepUqReferenceIdeal := by
  intro m g m' g' _ hagree
  refine ⟨fun c => (Cert.StepUqIdeal.Gen.dats m (ok m) 0 c).arrAt 5 (Cert.StepUqIdeal.Gen.cfgM m (ok m)).N,
    fun c => (Cert.StepUqIdeal.Gen.dats m (ok m) 0 c).arrAt 6 (Cert.StepUqIdeal.Gen.cfgM m (ok m)).N,
    fun c => (Cert.StepUqIdeal.Gen.dats m (ok m) 0 c).arrAt 7 (Cert.StepUqIdeal.Gen.cfgM m (ok m)).N,
    fun c => (Cert.StepUqIdeal.Gen.dats m (ok m) 0 c).arrAt 8 (Cert.StepUqIdeal.Gen.cfgM m (ok m)).N, run_blocks m g, ?_⟩
  refine (θ_run Cert.StepUqReferenceIdeal.defs _ _).mono (fun _ h c => ?_) (Cert.StepUqReferenceIdeal.Value.run (F := Ideal) m' g')
  obtain ⟨r5, r6, r7, r8, kept⟩ := h c
  obtain ⟨a0, a1, a2, a3, a4, a5⟩ := hagree c
  rw [a1, a2, a5] at r5
  rw [a0, a1, a2, a3, a4, a5] at r6
  rw [a1, a2, a3, a5] at r7
  rw [a1, a2, a4, a5] at r8
  rw [read_grad] at r5 r6 r7 r8
  exact ⟨r5.trans (final5 m c).symm, r6.trans ((read_step _ _ _ _).trans (final6 m c).symm), r7.trans ((read_first _ _).trans (final7 m c).symm),
    r8.trans ((read_second _ _).trans (final8 m c).symm), kept⟩

end Cert.Proof.StepUqEquation
-- ==== Proof.StepUkvArrays.lean ====
/- The optimiser's call on the keys' and values' projection's weights: its two points take one half of the rows each, and the arrays it leaves are the gradient,
   put together from its two halves, the step and the two moments, entry by entry. -/
module

public import proofs.«01_k».proof.Proof.AdamW
public import proofs.«01_k».proof.Proof.Gen.StepUkvIdeal.Frame
public import Idealize.ShloMosaic.Lib.Pipeline.ValueKit
public import Idealize.ShloMosaic.Lib.Pipeline.ReadBack

@[expose] public section

set_option maxRecDepth 16384

noncomputable section

namespace Cert.Proof.StepUkvArrays

open Cert.StepUkvIdeal Cert.StepUkvIdeal.Gen Idealize.ShloMosaic Idealize.ShloMosaic.TcCoe Idealize.SL.Sem
open Cert.Proof.AdamW

/-- A number clamped to 0 is 0. -/
theorem clamp (x : BitVec 32) : Scalar.minsi 0#32 (Scalar.maxsi 0#32 x) = 0#32 := by
  unfold Scalar.minsi Scalar.maxsi IntOp.minsi IntOp.maxsi
  by_cases h : x.slt 0#32 <;> by_cases h' : (0#32).slt x <;> simp [h, h']
  simp only [BitVec.slt, decide_eq_true_eq] at h h'
  exact BitVec.eq_of_toInt_eq (by simp at h h' ⊢; omega)
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl

/-- The halves' blocks are inside the halves, whatever the core. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩
  · rw [index1]; revert a; decide
  · rw [index2]; revert a; decide

variable (m : (ℓ : Loc nD τ sig) → Buf (Elt Ideal) ℓ) (c : Dev nD)

/-- The core's number. -/
abbrev core : BitVec 32 := (m ((c : Thread nD τ).loc main_arg5) : IVec S1 32) (ix1 0)
/-- The weights, the gradient's halves of this core and of the other, and the two moments. -/
abbrev wt : FVec Ideal S256x256 .f32 := m ((c : Thread nD τ).loc main_arg0)
abbrev mine : FVec Ideal S128x256 .f32 := m ((c : Thread nD τ).loc main_arg1)
abbrev theirs : FVec Ideal S128x256 .f32 := m ((c : Thread nD τ).loc main_arg2)
abbrev mo : FVec Ideal S256x256 .f32 := m ((c : Thread nD τ).loc main_arg3)
abbrev ve : FVec Ideal S256x256 .f32 := m ((c : Thread nD τ).loc main_arg4)

/-- The entry of half `k` of the gradient. -/
def half (z : BitVec 32) (a b : FVec Ideal S128x256 .f32) (k : ℕ) (i : Fin 128) (j : Fin 256) : EReal :=
  if BitVec.ofNat 32 k = z then a (ix2 i j) else b (ix2 i j)
/-- The gradient's entry: of the half the row is in, its row there. -/
def grad (z : BitVec 32) (a b : FVec Ideal S128x256 .f32) (i : Fin 256) (j : Fin 256) : EReal :=
  half z a b (i.val / 128) ⟨i.val % 128, Nat.mod_lt _ (by decide)⟩ j

theorem quotient (k : ℕ) (h : k < 2) : Scalar.select (Scalar.andi (Scalar.cmpi .ne (Scalar.subi (Scalar.extui (Scalar.cmpi .sgt (BitVec.ofNat 32 k) 0#32)) (Scalar.extui (Scalar.cmpi .slt (BitVec.ofNat 32 k) 0#32))) (Scalar.subi (Scalar.extui (Scalar.cmpi .sgt 1#32 0#32)) (Scalar.extui (Scalar.cmpi .slt 1#32 0#32)) : BitVec 32)) (Scalar.cmpi .ne (Scalar.remsi (BitVec.ofNat 32 k) 1#32) 0#32)) (Scalar.subi (Scalar.divsi (BitVec.ofNat 32 k) 1#32) 1#32) (Scalar.divsi (BitVec.ofNat 32 k) 1#32) = BitVec.ofNat 32 k := by
  rcases (by omega : k = 0 ∨ k = 1) with e | e <;> subst e <;> decide

theorem pay3 (i : grid0.Coords) (z : BitVec 32) (a b : Vec Ideal S128x256 .f32) (p : Fin 128) (q : Fin 256) :
    k0_pay3 (F := Ideal) i z a b (ix2 p q) = half z a b (i 0).val p q := by
  unfold k0_pay3 half
  dsimp only
  rw [quotient _ (i 0).isLt]
  by_cases e : BitVec.ofNat 32 (i 0).val = z
  · simp [Scalar.select, Scalar.cmpi, IntOp.cmpi, e]
  · have e' := beq_false_of_ne e
    simp [Scalar.select, Scalar.cmpi, IntOp.cmpi, e, e']

theorem coord : ∀ t : Fin grid0.N, (grid0.coords t 0).val = t.val := by decide +kernel
theorem lt_points (t : Fin (cfgM m (ok m)).N) : t.val < 2 := lt_of_lt_of_eq t.isLt (by decide +kernel : grid0.N = 2)
/-- The array's row that row `i` of a point's block is. -/
def row (t : Fin (cfgM m (ok m)).N) (i : Fin 128) : Fin 256 := ⟨t.val * 128 + i, by have := lt_points m t; omega⟩

variable (t : Fin (cfgM m (ok m)).N)

/-- The block index of each window at a point. -/
theorem idx : ((cfgM m (ok m)).win 0).index t = ![t.val, 0] ∧ ((cfgM m (ok m)).win 1).index t = ![0, 0] ∧ ((cfgM m (ok m)).win 2).index t = ![0, 0]
    ∧ ((cfgM m (ok m)).win 3).index t = ![t.val, 0] ∧ ((cfgM m (ok m)).win 4).index t = ![t.val, 0] ∧ ((cfgM m (ok m)).win 5).index t = ![t.val, 0]
    ∧ ((cfgM m (ok m)).win 6).index t = ![t.val, 0] ∧ ((cfgM m (ok m)).win 7).index t = ![t.val, 0] ∧ ((cfgM m (ok m)).win 8).index t = ![t.val, 0] := by
  have h := (by decide +kernel : ∀ t : Fin grid0.N, cc0_transform_0 (grid0.coords t) = ![t.val, 0] ∧ cc0_transform_3 (grid0.coords t) = ![t.val, 0]
    ∧ cc0_transform_4 (grid0.coords t) = ![t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0]) t
  exact ⟨h.1, index1 _ _, index2 _ _, h.2.1, h.2.2.1, h.2.2.2.1, h.2.2.2.2.1, h.2.2.2.2.2.1, h.2.2.2.2.2.2⟩

theorem at0 (i : Fin 128) (j : Fin 256) : (iblk m (ok m) c 0 t : FVec Ideal S128x256 .f32) (ix2 i j) = wt m c (ix2 (row m t i) j) := by
  have := lt_points m t
  blk_ext [iblk, V, idx m t, row]
theorem at1 (i : Fin 128) (j : Fin 256) : (iblk m (ok m) c 1 t : FVec Ideal S128x256 .f32) (ix2 i j) = mine m c (ix2 i j) := by
  have := lt_points m t
  blk_ext [iblk, V, idx m t, row]
theorem at2 (i : Fin 128) (j : Fin 256) : (iblk m (ok m) c 2 t : FVec Ideal S128x256 .f32) (ix2 i j) = theirs m c (ix2 i j) := by
  have := lt_points m t
  blk_ext [iblk, V, idx m t, row]
theorem at3 (i : Fin 128) (j : Fin 256) : (iblk m (ok m) c 3 t : FVec Ideal S128x256 .f32) (ix2 i j) = mo m c (ix2 (row m t i) j) := by
  have := lt_points m t
  blk_ext [iblk, V, idx m t, row]
theorem at4 (i : Fin 128) (j : Fin 256) : (iblk m (ok m) c 4 t : FVec Ideal S128x256 .f32) (ix2 i j) = ve m c (ix2 (row m t i) j) := by
  have := lt_points m t
  blk_ext [iblk, V, idx m t, row]

/-- What the point reads of the table is the core's number. -/
theorem word (k : S1.Idx) : View.read (Elt Ideal) (View.whole main_arg5) (tbl m 0) k = core m c := by
  obtain rfl : c = 0 := Subsingleton.elim _ _
  refine congrArg (m (((0 : Dev nD) : Thread nD τ).loc main_arg5) : IVec S1 32) (funext fun a => Fin.ext ?_)
  fin_cases a
  exact Nat.lt_one_iff.mp (k 0).isLt

section
variable (i : grid0.Coords) (a2 : Memref sig .tc .vmem S128x256 .f32) (h2 : a2.IsWhole) (a3 : Memref sig .tc .vmem S128x256 .f32) (h3 : a3.IsWhole) (a4 : Memref sig .tc .vmem S128x256 .f32) (h4 : a4.IsWhole) (a5 : Memref sig .tc .vmem S128x256 .f32) (h5 : a5.IsWhole) (a6 : Memref sig .tc .vmem S128x256 .f32) (h6 : a6.IsWhole) (a7 : Memref sig .tc .vmem S128x256 .f32) (h7 : a7.IsWhole) (a8 : Memref sig .tc .vmem S128x256 .f32) (h8 : a8.IsWhole) (a9 : Memref sig .tc .vmem S128x256 .f32) (h9 : a9.IsWhole) (a10 : Memref sig .tc .vmem S128x256 .f32) (h10 : a10.IsWhole)
  (x0 x1 x2 x3 x4 : Vec Ideal S128x256 .f32) (xt : TbBuf0 (F := Ideal) c tbM0_0) (z : BitVec 32)
  (hz : ∀ k : S1.Idx, View.read (Elt Ideal) (View.whole main_arg5) xt k = z)
  (p : Fin 128) (q : Fin 256)
include hz

theorem point5 : out0_A_5 (F := Ideal) c i a2 h2 a3 h3 a4 h4 a5 h5 a6 h6 a7 h7 a8 h8 a9 h9 a10 h10 x0 x1 x2 x3 x4 xt (ix2 p q) = half z x1 x2 (i 0).val p q := by
  frame_out
  generalize e : View.read _ (View.whole main_arg5) xt _ = z'
  obtain rfl : z' = z := e.symm.trans (hz _)
  exact pay3 i _ x1 x2 p q
theorem point6 : out0_A_6 (F := Ideal) c i a2 h2 a3 h3 a4 h4 a5 h5 a6 h6 a7 h7 a8 h8 a9 h9 a10 h10 x0 x1 x2 x3 x4 xt (ix2 p q) = step (x0 (ix2 p q)) (half z x1 x2 (i 0).val p q) (x3 (ix2 p q)) (x4 (ix2 p q)) := by
  frame_out
  generalize e : View.read _ (View.whole main_arg5) xt _ = z'
  obtain rfl : z' = z := e.symm.trans (hz _)
  pointwise [k0_pay2, k0_pay1, k0_pay4, k0_pay5, k0_pay6, pay3]
  rfl
theorem point7 : out0_A_7 (F := Ideal) c i a2 h2 a3 h3 a4 h4 a5 h5 a6 h6 a7 h7 a8 h8 a9 h9 a10 h10 x0 x1 x2 x3 x4 xt (ix2 p q) = first (half z x1 x2 (i 0).val p q) (x3 (ix2 p q)) := by
  frame_out
  generalize e : View.read _ (View.whole main_arg5) xt _ = z'
  obtain rfl : z' = z := e.symm.trans (hz _)
  pointwise [k0_pay4, pay3]
  rfl
theorem point8 : out0_A_8 (F := Ideal) c i a2 h2 a3 h3 a4 h4 a5 h5 a6 h6 a7 h7 a8 h8 a9 h9 a10 h10 x0 x1 x2 x3 x4 xt (ix2 p q) = second (half z x1 x2 (i 0).val p q) (x4 (ix2 p q)) := by
  frame_out
  generalize e : View.read _ (View.whole main_arg5) xt _ = z'
  obtain rfl : z' = z := e.symm.trans (hz _)
  pointwise [k0_pay1, k0_pay5, k0_pay6, pay3]
  rfl
end

theorem half_at (i : Fin 128) (j : Fin 256) : half (core m c) (iblk m (ok m) c 1 t) (iblk m (ok m) c 2 t) (grid0.coords t 0).val i j
    = grad (core m c) (mine m c) (theirs m c) (row m t i) j := by
  rw [coord]
  unfold grad half row
  have e : (t.val * 128 + i.val) / 128 = t.val := by omega
  have e' : (t.val * 128 + i.val) % 128 = i.val := by omega
  simp only [e, e']
  rw [at1, at2]

theorem out5 (i : Fin 128) (j : Fin 256) : (outsAt0 m (ok m) c t).1 (ix2 i j)
    = grad (core m c) (mine m c) (theirs m c) (row m t i) j := by
  unfold outsAt0
  dsimp only
  refine (point5 (hz := word m c) ..).trans ?_
  rw [half_at]
theorem out6 (i : Fin 128) (j : Fin 256) : (outsAt0 m (ok m) c t).2.1 (ix2 i j)
    = step (wt m c (ix2 (row m t i) j)) (grad (core m c) (mine m c) (theirs m c) (row m t i) j) (mo m c (ix2 (row m t i) j)) (ve m c (ix2 (row m t i) j)) := by
  unfold outsAt0
  dsimp only
  refine (point6 (hz := word m c) ..).trans ?_
  rw [half_at, at0, at3, at4]
theorem out7 (i : Fin 128) (j : Fin 256) : (outsAt0 m (ok m) c t).2.2.1 (ix2 i j)
    = first (grad (core m c) (mine m c) (theirs m c) (row m t i) j) (mo m c (ix2 (row m t i) j)) := by
  unfold outsAt0
  dsimp only
  refine (point7 (hz := word m c) ..).trans ?_
  rw [half_at, at3]
theorem out8 (i : Fin 128) (j : Fin 256) : (outsAt0 m (ok m) c t).2.2.2 (ix2 i j)
    = second (grad (core m c) (mine m c) (theirs m c) (row m t i) j) (ve m c (ix2 (row m t i) j)) := by
  unfold outsAt0
  dsimp only
  refine (point8 (hz := word m c) ..).trans ?_
  rw [half_at, at4]
/-- The point of a block's number. -/
abbrev pt (k : ℕ) (h : k < 2) : Fin (cfgM m (ok m)).N := ⟨k, lt_of_lt_of_eq h N_0.symm⟩
/-- The blocks written cover the arrays. -/
theorem covers5 : ((cfgM m (ok m)).win 5).Covers := by
  refine ⟨(by decide : ∀ a : Fin 2, 0 < S128x256.size a), fun β => ?_⟩
  have h0 : (β (0 : Fin 2)).val < 2 := lt_of_lt_of_eq (β (0 : Fin 2)).isLt (by decide : (S256x256.size 0 + S128x256.size 0 - 1) / S128x256.size 0 = 2)
  have h1 : (β (1 : Fin 2)).val < 1 := lt_of_lt_of_eq (β (1 : Fin 2)).isLt (by decide : (S256x256.size 1 + S128x256.size 1 - 1) / S128x256.size 1 = 1)
  refine ⟨pt m _ h0, flush0_5 _ _, fun (a : Fin 2) => ⟨?_, Or.inl rfl⟩⟩
  rw [(idx m (pt m _ h0)).2.2.2.2.2.1]
  fin_cases a
  · rfl
  · exact (Nat.lt_one_iff.mp h1).symm
theorem covers6 : ((cfgM m (ok m)).win 6).Covers := by
  refine ⟨(by decide : ∀ a : Fin 2, 0 < S128x256.size a), fun β => ?_⟩
  have h0 : (β (0 : Fin 2)).val < 2 := lt_of_lt_of_eq (β (0 : Fin 2)).isLt (by decide : (S256x256.size 0 + S128x256.size 0 - 1) / S128x256.size 0 = 2)
  have h1 : (β (1 : Fin 2)).val < 1 := lt_of_lt_of_eq (β (1 : Fin 2)).isLt (by decide : (S256x256.size 1 + S128x256.size 1 - 1) / S128x256.size 1 = 1)
  refine ⟨pt m _ h0, flush0_6 _ _, fun (a : Fin 2) => ⟨?_, Or.inl rfl⟩⟩
  rw [(idx m (pt m _ h0)).2.2.2.2.2.2.1]
  fin_cases a
  · rfl
  · exact (Nat.lt_one_iff.mp h1).symm
theorem covers7 : ((cfgM m (ok m)).win 7).Covers := by
  refine ⟨(by decide : ∀ a : Fin 2, 0 < S128x256.size a), fun β => ?_⟩
  have h0 : (β (0 : Fin 2)).val < 2 := lt_of_lt_of_eq (β (0 : Fin 2)).isLt (by decide : (S256x256.size 0 + S128x256.size 0 - 1) / S128x256.size 0 = 2)
  have h1 : (β (1 : Fin 2)).val < 1 := lt_of_lt_of_eq (β (1 : Fin 2)).isLt (by decide : (S256x256.size 1 + S128x256.size 1 - 1) / S128x256.size 1 = 1)
  refine ⟨pt m _ h0, flush0_7 _ _, fun (a : Fin 2) => ⟨?_, Or.inl rfl⟩⟩
  rw [(idx m (pt m _ h0)).2.2.2.2.2.2.2.1]
  fin_cases a
  · rfl
  · exact (Nat.lt_one_iff.mp h1).symm
theorem covers8 : ((cfgM m (ok m)).win 8).Covers := by
  refine ⟨(by decide : ∀ a : Fin 2, 0 < S128x256.size a), fun β => ?_⟩
  have h0 : (β (0 : Fin 2)).val < 2 := lt_of_lt_of_eq (β (0 : Fin 2)).isLt (by decide : (S256x256.size 0 + S128x256.size 0 - 1) / S128x256.size 0 = 2)
  have h1 : (β (1 : Fin 2)).val < 1 := lt_of_lt_of_eq (β (1 : Fin 2)).isLt (by decide : (S256x256.size 1 + S128x256.size 1 - 1) / S128x256.size 1 = 1)
  refine ⟨pt m _ h0, flush0_8 _ _, fun (a : Fin 2) => ⟨?_, Or.inl rfl⟩⟩
  rw [(idx m (pt m _ h0)).2.2.2.2.2.2.2.2]
  fin_cases a
  · rfl
  · exact (Nat.lt_one_iff.mp h1).symm

/-- What the call leaves: the gradient. -/
theorem final5 : (dats m (ok m) 0 c).arrAt 5 (cfgM m (ok m)).N = fun i : S256x256.Idx => grad (core m c) (mine m c) (theirs m c) (i 0) (i 1) := by
  refine (dats m (ok m) 0 c).arrAt_eq_of_covers 5 _ (covers5 m) fun t hf (y : S128x256.Idx) => ?_
  have e : (((cfgM m (ok m)).win 5).blk t).view.emb y = (ix2 (row m t (y 0)) (y 1) : S256x256.Idx) := by
    have := lt_points m t
    blk_ext [idx m t, row]
  blk_simp
  rw [after0_5]
  refine (congrArg (outsAt0 m (ok m) c t).1 (ix2_eta y).symm).trans ?_
  refine (out5 m c t (y 0) (y 1)).trans ?_
  rw [e]
  rfl

/-- What the call leaves: the step. -/
theorem final6 : (dats m (ok m) 0 c).arrAt 6 (cfgM m (ok m)).N = fun i : S256x256.Idx => step (wt m c i) (grad (core m c) (mine m c) (theirs m c) (i 0) (i 1)) (mo m c i) (ve m c i) := by
  refine (dats m (ok m) 0 c).arrAt_eq_of_covers 6 _ (covers6 m) fun t hf (y : S128x256.Idx) => ?_
  have e : (((cfgM m (ok m)).win 6).blk t).view.emb y = (ix2 (row m t (y 0)) (y 1) : S256x256.Idx) := by
    have := lt_points m t
    blk_ext [idx m t, row]
  blk_simp
  rw [after0_6]
  refine (congrArg (outsAt0 m (ok m) c t).2.1 (ix2_eta y).symm).trans ?_
  refine (out6 m c t (y 0) (y 1)).trans ?_
  rw [e]
  rfl

/-- What the call leaves: the first moment. -/
theorem final7 : (dats m (ok m) 0 c).arrAt 7 (cfgM m (ok m)).N = fun i : S256x256.Idx => first (grad (core m c) (mine m c) (theirs m c) (i 0) (i 1)) (mo m c i) := by
  refine (dats m (ok m) 0 c).arrAt_eq_of_covers 7 _ (covers7 m) fun t hf (y : S128x256.Idx) => ?_
  have e : (((cfgM m (ok m)).win 7).blk t).view.emb y = (ix2 (row m t (y 0)) (y 1) : S256x256.Idx) := by
    have := lt_points m t
    blk_ext [idx m t, row]
  blk_simp
  rw [after0_7]
  refine (congrArg (outsAt0 m (ok m) c t).2.2.1 (ix2_eta y).symm).trans ?_
  refine (out7 m c t (y 0) (y 1)).trans ?_
  rw [e]
  rfl

/-- What the call leaves: the second moment. -/
theorem final8 : (dats m (ok m) 0 c).arrAt 8 (cfgM m (ok m)).N = fun i : S256x256.Idx => second (grad (core m c) (mine m c) (theirs m c) (i 0) (i 1)) (ve m c i) := by
  refine (dats m (ok m) 0 c).arrAt_eq_of_covers 8 _ (covers8 m) fun t hf (y : S128x256.Idx) => ?_
  have e : (((cfgM m (ok m)).win 8).blk t).view.emb y = (ix2 (row m t (y 0)) (y 1) : S256x256.Idx) := by
    have := lt_points m t
    blk_ext [idx m t, row]
  blk_simp
  rw [after0_8]
  refine (congrArg (outsAt0 m (ok m) c t).2.2.2 (ix2_eta y).symm).trans ?_
  refine (out8 m c t (y 0) (y 1)).trans ?_
  rw [e]
  rfl

end Cert.Proof.StepUkvArrays
-- ==== Proof.StepUkvEquation.lean ====
/- The optimiser's call on the keys' and values' projection's weights leaves the reference's arrays: the reference, read entry by entry. -/
module

public import proofs.«01_k».proof.Defs
public import proofs.«01_k».proof.Proof.Gen.StepUkv.Frame
public import proofs.«01_k».proof.Proof.Gen.StepUkvReferenceIdeal.Run
public import proofs.«01_k».proof.Proof.StepUkvArrays
public import Idealize.ShloMosaic.Lib.Quiescent
public import Idealize.ShloMosaic.Adequacy
public import Idealize.ShloMosaic.Init

@[expose] public section

set_option maxRecDepth 16384

noncomputable section

namespace Cert.Proof.StepUkvEquation

open Idealize.ShloMosaic Idealize.SL.Sem
open Cert.Proof.AdamW
open Cert.Proof.StepUkvArrays hiding index1 index2

attribute [local instance] Cert.StepUkv.Gen.facts Cert.StepUkvIdeal.Gen.facts Cert.StepUkvReferenceIdeal.Gen.facts

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _

section
open Cert.StepUkvReferenceIdeal Cert.StepUkvReferenceIdeal.Gen
variable (Z : IVec S1 32) (A B : FVec Ideal S128x256 .f32) (C D E G : FVec Ideal S256x256 .f32)

/-- The one number of the table. -/
theorem number (h : S1.ShapeCasts S_) (i : S_.Idx) : shapeCast S_ Z h i = Z (ix1 0) := by
  refine congrArg Z (funext fun a => Fin.ext ?_)
  fin_cases a
  exact Nat.lt_one_iff.mp (Fin.isLt _)
/-- A half: of this core if the core has the half's number, else of the other. -/
theorem read_half (k : ℕ) (p : Fin 128) (q : Fin 256) :
    select (broadcastInDim S128x256 ![] bcast_S_S128x256 (cmpi .eq (shapeCast S_ Z shapeCasts_S1_S_) (constantI S_ 32 (BitVec.ofNat 32 k)))) A B (ix2 p q)
      = half (Z (ix1 0)) A B k p q := by
  unfold half
  show Scalar.select (IntOp.cmpi .eq (shapeCast S_ Z shapeCasts_S1_S_ _) (BitVec.ofNat 32 k)) _ _ = _
  rw [number]
  by_cases e : BitVec.ofNat 32 k = Z (ix1 0)
  · simp [Scalar.select, IntOp.cmpi, e]
  · have e' := beq_false_of_ne (Ne.symm e)
    simp [Scalar.select, IntOp.cmpi, e, e']
theorem read_grad : (concatenate S256x256 0 [⟨S128x256, ((select (broadcastInDim S128x256 ![] bcast_S_S128x256 (cmpi .eq (shapeCast S_ Z shapeCasts_S1_S_) (constantI S_ 32 0#32))) A B) : FVec Ideal S128x256 .f32)⟩, ⟨S128x256, ((select (broadcastInDim S128x256 ![] bcast_S_S128x256 (cmpi .eq (shapeCast S_ Z shapeCasts_S1_S_) (constantI S_ 32 1#32))) A B) : FVec Ideal S128x256 .f32)⟩] concatenates_S128x256_S128x256_S256x256_d0 : FVec Ideal S256x256 .f32)
    = fun i => grad (Z (ix1 0)) A B (i 0) (i 1) := by
  have h0 := read_half Z A B 0
  have h1 := read_half Z A B 1
  generalize select (broadcastInDim S128x256 ![] bcast_S_S128x256 (cmpi .eq (shapeCast S_ Z shapeCasts_S1_S_) (constantI S_ 32 (BitVec.ofNat 32 0)))) A B = X at h0 ⊢
  generalize select (broadcastInDim S128x256 ![] bcast_S_S128x256 (cmpi .eq (shapeCast S_ Z shapeCasts_S1_S_) (constantI S_ 32 (BitVec.ofNat 32 1)))) A B = Y at h1 ⊢
  refine ext2 fun i j => ?_
  pointwise []
  unfold grad
  by_cases h : i.val < 128
  · rw [dif_pos h]
    refine (h0 _ _).trans ?_
    have e : i.val / 128 = 0 := by omega
    have e' : i.val % 128 = i.val := by omega
    simp only [e, e']
  · rw [dif_neg h]
    refine (h1 _ _).trans ?_
    have e : i.val / 128 = 1 := by omega
    have e' : i.val % 128 = i.val - 128 := by omega
    simp only [e, e']
theorem read_step : mulf (broadcastInDim S256x256 ![] bcast_S_S256x256 (constant S_ .f32 0xBA83126F#32)) (addf (Host.divf (Host.divf (addf (mulf (broadcastInDim S256x256 ![] bcast_S_S256x256 (constant S_ .f32 0x3F666666#32)) D) (mulf (broadcastInDim S256x256 ![] bcast_S_S256x256 (constant S_ .f32 0x3DCCCCCD#32)) G)) (broadcastInDim S256x256 ![] bcast_S_S256x256 (constant S_ .f32 0x3F26BD02#32))) (addf (Host.sqrt (Host.divf (addf (mulf (broadcastInDim S256x256 ![] bcast_S_S256x256 (constant S_ .f32 0x3F7FBE77#32)) E) (mulf (broadcastInDim S256x256 ![] bcast_S_S256x256 (constant S_ .f32 0x3A83126F#32)) (mulf G G))) (broadcastInDim S256x256 ![] bcast_S_S256x256 (constant S_ .f32 0x3C231ACC#32)))) (broadcastInDim S256x256 ![] bcast_S_S256x256 (constant S_ .f32 0x322BCC77#32)))) (mulf (broadcastInDim S256x256 ![] bcast_S_S256x256 (constant S_ .f32 0x3C23D70A#32)) C))
    = fun i => step (C i) (G i) (D i) (E i) := by
  refine ext2 fun i j => ?_
  pointwise []
  rfl
theorem read_first : addf (mulf (broadcastInDim S256x256 ![] bcast_S_S256x256 (constant S_ .f32 0x3F666666#32)) D) (mulf (broadcastInDim S256x256 ![] bcast_S_S256x256 (constant S_ .f32 0x3DCCCCCD#32)) G)
    = fun i => first (G i) (D i) := by
  refine ext2 fun i j => ?_
  pointwise []
  rfl
theorem read_second : addf (mulf (broadcastInDim S256x256 ![] bcast_S_S256x256 (constant S_ .f32 0x3F7FBE77#32)) E) (mulf (broadcastInDim S256x256 ![] bcast_S_S256x256 (constant S_ .f32 0x3A83126F#32)) (mulf G G))
    = fun i => second (G i) (E i) := by
  refine ext2 fun i j => ?_
  pointwise []
  rfl
end

section
open Cert.StepUkv Cert.StepUkv.Gen

/-- The halves' blocks are inside the halves in the kernel's own program too. -/
theorem index1 {F : FTy → Type} [FloatOps F] (pf : pre0.Contents (Elt F)) (i : grid0.Coords) : cc0_transform_1 inb_S1_S1_0 numel1_S1 pf i = ![0, 0] := by
  unfold cc0_transform_1
  dsimp only
  rw [clamp]
  rfl
theorem index2 {F : FTy → Type} [FloatOps F] (pf : pre0.Contents (Elt F)) (i : grid0.Coords) : cc0_transform_2 inb_S1_S1_0 numel1_S1 pf i = ![0, 0] := by
  unfold cc0_transform_2
  dsimp only
  rw [clamp]
  rfl
/-- The kernel ends, its arguments and counters as they were, whatever the core's number. -/
theorem frameKernel : Cert.quiescent_StepUkv := by
  refine fun m ρ _ => Cert.StepUkv.Gen.frame m ρ ⟨fun i => ⟨fun a => ?_, Or.inl rfl⟩, fun i => ⟨fun a => ?_, Or.inl rfl⟩⟩
  · rw [index1]; revert a; decide
  · rw [index2]; revert a; decide
end
/-- Its idealization likewise. -/
theorem frameIdeal : Cert.quiescent_StepUkvIdeal := fun m ρ _ => Cert.StepUkvIdeal.Gen.frame m ρ (ok m)

/-- The reference ends, its arguments and counters as they were. -/
theorem frame : Cert.quiescent_StepUkvReferenceIdeal := fun m g _ =>
  (θ_run Cert.StepUkvReferenceIdeal.defs _ _).mono (fun r h => ⟨fun c => (h c).2.2.2.2, sem_eq_zero_of_no_sems (by decide) r.2⟩)
    (Cert.StepUkvReferenceIdeal.Value.run (F := Ideal) m g)

section
open Cert.StepUkvIdeal Cert.StepUkvIdeal.Gen Idealize.ShloMosaic.TcCoe

/-- The call's arrays when it ends, its arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (dats m (ok m) 0 c).arrAt 5 (cfgM m (ok m)).N
      ∧ r.2.mem ((c : Thread nD τ).loc main_v0_1) = (dats m (ok m) 0 c).arrAt 6 (cfgM m (ok m)).N
      ∧ r.2.mem ((c : Thread nD τ).loc main_v0_2) = (dats m (ok m) 0 c).arrAt 7 (cfgM m (ok m)).N
      ∧ r.2.mem ((c : Thread nD τ).loc main_v0_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 5, (h.1 c).1 6, (h.1 c).1 7, (h.1 c).1 8, h.2 c⟩)
    (θ_run_and (run_main m ρ (ok m)) (unchanged m ρ (ok m)))
end

/-- The call's four arrays are the reference's. -/
theorem algebraic : Cert.algebraic_StepUkvIdeal_StepUkvReferenceIdeal := by
  intro m g m' g' _ hagree
  refine ⟨fun c => (Cert.StepUkvIdeal.Gen.dats m (ok m) 0 c).arrAt 5 (Cert.StepUkvIdeal.Gen.cfgM m (ok m)).N,
    fun c => (Cert.StepUkvIdeal.Gen.dats m (ok m) 0 c).arrAt 6 (Cert.StepUkvIdeal.Gen.cfgM m (ok m)).N,
    fun c => (Cert.StepUkvIdeal.Gen.dats m (ok m) 0 c).arrAt 7 (Cert.StepUkvIdeal.Gen.cfgM m (ok m)).N,
    fun c => (Cert.StepUkvIdeal.Gen.dats m (ok m) 0 c).arrAt 8 (Cert.StepUkvIdeal.Gen.cfgM m (ok m)).N, run_blocks m g, ?_⟩
  refine (θ_run Cert.StepUkvReferenceIdeal.defs _ _).mono (fun _ h c => ?_) (Cert.StepUkvReferenceIdeal.Value.run (F := Ideal) m' g')
  obtain ⟨r5, r6, r7, r8, kept⟩ := h c
  obtain ⟨a0, a1, a2, a3, a4, a5⟩ := hagree c
  rw [a1, a2, a5] at r5
  rw [a0, a1, a2, a3, a4, a5] at r6
  rw [a1, a2, a3, a5] at r7
  rw [a1, a2, a4, a5] at r8
  rw [read_grad] at r5 r6 r7 r8
  exact ⟨r5.trans (final5 m c).symm, r6.trans ((read_step _ _ _ _).trans (final6 m c).symm), r7.trans ((read_first _ _).trans (final7 m c).symm),
    r8.trans ((read_second _ _).trans (final8 m c).symm), kept⟩

end Cert.Proof.StepUkvEquation
-- ==== Proof.Block.lean ====
/- What one grid point computes. A point holds one tile of 512 query rows of one example and one head, all 2048 latent keys and the 256
   context keys. `weight` is a key's softmax weight in a row, `slope` the gradient of its score. A point adds to the four running sums (key and
   value gradients, latent and context) the tile's products, and writes the tile's query gradient; at the last tile of a run it writes the sums. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Block

open Cert.KernelIdeal Cert.KernelIdeal.Gen Idealize.ShloMosaic Idealize.ShloMosaic.TcCoe Idealize.SL.Sem

/-- The weight of key `κ` in row `r` of a query tile: the exponential of the score minus the row's log-sum. -/
def weight {n : ℕ} (q : FVec Ideal S512x256 .bf16) (l : FVec Ideal S512x128 .f32) (k : FVec Ideal ⟨2, ![n, 256]⟩ .bf16)
    (r : Fin 512) (κ : Fin n) : EReal :=
  Ideal.exp ((∑ x : Fin 256, q (ix2 r x) * k (ix2 κ x)) - l (ix2 r 0))

/-- The gradient of the score of key `κ` in row `r` of a query tile. -/
def slope {n : ℕ} (q : FVec Ideal S512x256 .bf16) (o : FVec Ideal S512x128 .bf16) (l : FVec Ideal S512x128 .f32)
    (d : FVec Ideal S512x128 .bf16) (k : FVec Ideal ⟨2, ![n, 256]⟩ .bf16) (v : FVec Ideal ⟨2, ![n, 128]⟩ .bf16)
    (r : Fin 512) (κ : Fin n) : EReal :=
  weight q l k r κ * ((∑ e : Fin 128, d (ix2 r e) * v (ix2 κ e)) - ∑ e : Fin 128, d (ix2 r e) * o (ix2 r e))

/-- Later stores that cover an index hide the earlier ones. -/
theorem canon_two {Val : EltTy → Type} {s : Shape} {e : EltTy} [∀ e, Nonempty (Val e)] (p₁ p₂ : View.Piece Val s e)
    (L : List (View.Piece Val s e)) (y : s.Idx) (h : y ∈ p₁.1.set ∨ y ∈ p₂.1.set) :
    View.canon (p₁ :: p₂ :: L) y = View.canon [p₁, p₂] y := by
  by_cases h₁ : y ∈ p₁.1.set
  · obtain ⟨r, w⟩ := p₁
    obtain ⟨x, rfl⟩ : ∃ x, r.emb x = y := r.exists_idx_of_mem h₁
    rw [View.canon_cons_emb, View.canon_cons_emb]
  · rw [View.canon_cons_of_not_mem p₁ _ h₁, View.canon_cons_of_not_mem p₁ _ h₁]
    obtain ⟨r, w⟩ := p₂
    obtain ⟨x, rfl⟩ : ∃ x, r.emb x = y := r.exists_idx_of_mem (h.resolve_left h₁)
    rw [View.canon_cons_emb, View.canon_cons_emb]

variable (m : (ℓ : Loc nD τ sig) → Buf (Elt Ideal) ℓ) (c : Dev nD) (t : Fin cfg0.N)

/-- The point's tile of the queries. -/
abbrev qT : FVec Ideal S512x256 .bf16 := iblk m c 0 t
/-- The latent keys of the point's example and head. -/
abbrev kT : FVec Ideal S2048x256 .bf16 := X0_1 m c t
/-- Its context keys. -/
abbrev kcT : FVec Ideal S256x256 .bf16 := iblk m c 2 t
/-- Its latent values. -/
abbrev vT : FVec Ideal S2048x128 .bf16 := X0_3 m c t
/-- Its context values. -/
abbrev vcT : FVec Ideal S256x128 .bf16 := iblk m c 4 t
/-- The point's tile of the attention's output. -/
abbrev oT : FVec Ideal S512x128 .bf16 := iblk m c 5 t
/-- The point's tile of the rows' log-sums. -/
abbrev lT : FVec Ideal S512x128 .f32 := iblk m c 6 t
/-- The point's tile of the output's gradient. -/
abbrev dT : FVec Ideal S512x128 .bf16 := iblk m c 7 t

/-- The running sum of the latent keys' gradient after point `n`. -/
abbrev accK (n : ℕ) (h : n < cfg0.N) : FVec Ideal S2048x256 .f32 := (outsAt0 m c n h).2.2.2.2.2.1
/-- The context keys'. -/
abbrev accKc (n : ℕ) (h : n < cfg0.N) : FVec Ideal S256x256 .f32 := (outsAt0 m c n h).2.2.2.2.2.2.1
/-- The latent values'. -/
abbrev accV (n : ℕ) (h : n < cfg0.N) : FVec Ideal S2048x128 .f32 := (outsAt0 m c n h).2.2.2.2.2.2.2.1
/-- The context values'. -/
abbrev accVc (n : ℕ) (h : n < cfg0.N) : FVec Ideal S256x128 .f32 := (outsAt0 m c n h).2.2.2.2.2.2.2.2

/-- What the point adds to the latent keys' gradient. -/
def partK (κ : Fin 2048) (x : Fin 256) : EReal :=
  ∑ r : Fin 512, slope (qT m c t) (oT m c t) (lT m c t) (dT m c t) (kT m c t) (vT m c t) r κ * qT m c t (ix2 r x)
/-- To the context keys'. -/
def partKc (κ : Fin 256) (x : Fin 256) : EReal :=
  ∑ r : Fin 512, slope (qT m c t) (oT m c t) (lT m c t) (dT m c t) (kcT m c t) (vcT m c t) r κ * qT m c t (ix2 r x)
/-- To the latent values'. -/
def partV (κ : Fin 2048) (e : Fin 128) : EReal := ∑ r : Fin 512, weight (qT m c t) (lT m c t) (kT m c t) r κ * dT m c t (ix2 r e)
/-- To the context values'. -/
def partVc (κ : Fin 256) (e : Fin 128) : EReal := ∑ r : Fin 512, weight (qT m c t) (lT m c t) (kcT m c t) r κ * dT m c t (ix2 r e)

/-- The tile's query gradient: the context keys' part, then the two halves of the latent keys. -/
def tileQ (r : Fin 512) (x : Fin 256) : EReal :=
  (∑ κ : Fin 256, slope (qT m c t) (oT m c t) (lT m c t) (dT m c t) (kcT m c t) (vcT m c t) r κ * kcT m c t (ix2 κ x))
  + (∑ κ : Fin 1024, slope (qT m c t) (oT m c t) (lT m c t) (dT m c t) (kT m c t) (vT m c t) r ⟨κ, by omega⟩ * kT m c t (ix2 ⟨κ, by omega⟩ x))
  + ∑ κ : Fin 1024, slope (qT m c t) (oT m c t) (lT m c t) (dT m c t) (kT m c t) (vT m c t) r ⟨1024 + κ, by omega⟩ * kT m c t (ix2 ⟨1024 + κ, by omega⟩ x)

/-- At the first tile of a run the sum starts from zero. -/
theorem accK_A (h0 : t.val % 4 = 0) (h1 : ¬t.val % 4 = 3) (y : S2048x256.Idx) :
    accK m c t.val t.isLt y = partK m c t (y 0) (y 1) := by
  unfold accK partK
  rw [outsAt0_A m c t h0 h1]
  frame_open
  simp (disch := decide) only [↓ View.readCov_skip, ↓ View.readCov_cons_toLoadRect, ↓ View.readCov_fill]
  frame_out
  refine (canon_two _ _ _ _ ?_).trans ?_
  · rw [Rect.mem_set_unit, Rect.mem_set_unit]
    have hy0 : (y 0 : ℕ) < 2048 := (y 0).isLt
    have hy1 : (y 1 : ℕ) < 256 := (y 1).isLt
    rcases Nat.lt_or_ge (y 0 : ℕ) 1024 with hlt | hge
    · exact .inr fun a => by match a with
        | ⟨0, _⟩ => exact ⟨Nat.zero_le _, hlt⟩
        | ⟨1, _⟩ => exact ⟨Nat.zero_le _, hy1⟩
    · exact .inl fun a => by match a with
        | ⟨0, _⟩ => exact ⟨hge, hy0⟩
        | ⟨1, _⟩ => exact ⟨Nat.zero_le _, hy1⟩
  canon_tiles x h
  all_goals
    open_payloads
    pointwise [slope, weight, k0_pay10, zero_add]
  · have e : y = ix2 (⟨1024 + (x 0 : ℕ), by omega⟩ : Fin 2048) (⟨(x 1 : ℕ), x1_lt⟩ : Fin 256) := by idx_ext <;> omega
    rw [e]
    rfl
  · have e : y = ix2 (⟨(x 0 : ℕ), by omega⟩ : Fin 2048) (⟨(x 1 : ℕ), x1_lt⟩ : Fin 256) := by idx_ext <;> omega
    rw [e]
    rfl

/-- At the first tile of a run the sum starts from zero. -/
theorem accKc_A (h0 : t.val % 4 = 0) (h1 : ¬t.val % 4 = 3) (y : S256x256.Idx) :
    accKc m c t.val t.isLt y = partKc m c t (y 0) (y 1) := by
  unfold accKc partKc
  rw [outsAt0_A m c t h0 h1]
  frame_out
  idx_vars y
  pointwise [k0_pay18, k0_pay17, k0_pay16, k0_pay15, k0_pay14, k0_pay11, slope, weight, zero_add]

/-- At the first tile of a run the sum starts from zero. -/
theorem accV_A (h0 : t.val % 4 = 0) (h1 : ¬t.val % 4 = 3) (y : S2048x128.Idx) :
    accV m c t.val t.isLt y = partV m c t (y 0) (y 1) := by
  unfold accV partV
  rw [outsAt0_A m c t h0 h1]
  frame_open
  simp (disch := decide) only [↓ View.readCov_skip, ↓ View.readCov_cons_toLoadRect, ↓ View.readCov_fill]
  frame_out
  refine (canon_two _ _ _ _ ?_).trans ?_
  · rw [Rect.mem_set_unit, Rect.mem_set_unit]
    have hy0 : (y 0 : ℕ) < 2048 := (y 0).isLt
    have hy1 : (y 1 : ℕ) < 128 := (y 1).isLt
    rcases Nat.lt_or_ge (y 0 : ℕ) 1024 with hlt | hge
    · exact .inr fun a => by match a with
        | ⟨0, _⟩ => exact ⟨Nat.zero_le _, hlt⟩
        | ⟨1, _⟩ => exact ⟨Nat.zero_le _, hy1⟩
    · exact .inl fun a => by match a with
        | ⟨0, _⟩ => exact ⟨hge, hy0⟩
        | ⟨1, _⟩ => exact ⟨Nat.zero_le _, hy1⟩
  canon_tiles x h
  all_goals
    open_payloads
    pointwise [slope, weight, k0_pay12, zero_add]
  · have e : y = ix2 (⟨1024 + (x 0 : ℕ), by omega⟩ : Fin 2048) (⟨(x 1 : ℕ), x1_lt⟩ : Fin 128) := by idx_ext <;> omega
    rw [e]
    rfl
  · have e : y = ix2 (⟨(x 0 : ℕ), by omega⟩ : Fin 2048) (⟨(x 1 : ℕ), x1_lt⟩ : Fin 128) := by idx_ext <;> omega
    rw [e]
    rfl

/-- At the first tile of a run the sum starts from zero. -/
theorem accVc_A (h0 : t.val % 4 = 0) (h1 : ¬t.val % 4 = 3) (y : S256x128.Idx) :
    accVc m c t.val t.isLt y = partVc m c t (y 0) (y 1) := by
  unfold accVc partVc
  rw [outsAt0_A m c t h0 h1]
  frame_out
  idx_vars y
  pointwise [k0_pay19, k0_pay16, k0_pay15, k0_pay14, k0_pay13, slope, weight, zero_add]

/-- At a middle tile the point adds to it. -/
theorem accK_B (h0 : ¬t.val % 4 = 0) (h1 : ¬t.val % 4 = 3) (y : S2048x256.Idx) :
    accK m c t.val t.isLt y = accK m c (t.val - 1) (Nat.lt_of_le_of_lt (Nat.sub_le _ _) t.isLt) y + partK m c t (y 0) (y 1) := by
  unfold accK partK
  rw [outsAt0_B m c t h0 h1]
  frame_out
  simp only [read_unread_whole]
  canon_tiles x h
  all_goals
    open_payloads
    pointwise [slope, weight]
  · have e : y = ix2 (⟨1024 + (x 0 : ℕ), by omega⟩ : Fin 2048) (⟨(x 1 : ℕ), x1_lt⟩ : Fin 256) := by idx_ext <;> omega
    rw [e]
    rfl
  · have e : y = ix2 (⟨(x 0 : ℕ), by omega⟩ : Fin 2048) (⟨(x 1 : ℕ), x1_lt⟩ : Fin 256) := by idx_ext <;> omega
    rw [e]
    rfl

/-- At a middle tile the point adds to it. -/
theorem accKc_B (h0 : ¬t.val % 4 = 0) (h1 : ¬t.val % 4 = 3) (y : S256x256.Idx) :
    accKc m c t.val t.isLt y = accKc m c (t.val - 1) (Nat.lt_of_le_of_lt (Nat.sub_le _ _) t.isLt) y + partKc m c t (y 0) (y 1) := by
  unfold accKc partKc
  rw [outsAt0_B m c t h0 h1]
  frame_out
  simp only [read_unread_whole]
  idx_vars y
  pointwise [k0_pay18, k0_pay17, k0_pay16, k0_pay15, k0_pay14, slope, weight]

/-- At a middle tile the point adds to it. -/
theorem accV_B (h0 : ¬t.val % 4 = 0) (h1 : ¬t.val % 4 = 3) (y : S2048x128.Idx) :
    accV m c t.val t.isLt y = accV m c (t.val - 1) (Nat.lt_of_le_of_lt (Nat.sub_le _ _) t.isLt) y + partV m c t (y 0) (y 1) := by
  unfold accV partV
  rw [outsAt0_B m c t h0 h1]
  frame_out
  simp only [read_unread_whole]
  canon_tiles x h
  all_goals
    open_payloads
    pointwise [slope, weight]
  · have e : y = ix2 (⟨1024 + (x 0 : ℕ), by omega⟩ : Fin 2048) (⟨(x 1 : ℕ), x1_lt⟩ : Fin 128) := by idx_ext <;> omega
    rw [e]
    rfl
  · have e : y = ix2 (⟨(x 0 : ℕ), by omega⟩ : Fin 2048) (⟨(x 1 : ℕ), x1_lt⟩ : Fin 128) := by idx_ext <;> omega
    rw [e]
    rfl

/-- At a middle tile the point adds to it. -/
theorem accVc_B (h0 : ¬t.val % 4 = 0) (h1 : ¬t.val % 4 = 3) (y : S256x128.Idx) :
    accVc m c t.val t.isLt y = accVc m c (t.val - 1) (Nat.lt_of_le_of_lt (Nat.sub_le _ _) t.isLt) y + partVc m c t (y 0) (y 1) := by
  unfold accVc partVc
  rw [outsAt0_B m c t h0 h1]
  frame_out
  simp only [read_unread_whole]
  idx_vars y
  pointwise [k0_pay19, k0_pay16, k0_pay15, k0_pay14, slope, weight]

/-- At the last tile too. -/
theorem accK_C (h0 : ¬t.val % 4 = 0) (h1 : t.val % 4 = 3) (y : S2048x256.Idx) :
    accK m c t.val t.isLt y = accK m c (t.val - 1) (Nat.lt_of_le_of_lt (Nat.sub_le _ _) t.isLt) y + partK m c t (y 0) (y 1) := by
  unfold accK partK
  rw [outsAt0_C m c t h0 h1]
  frame_out
  simp only [read_unread_whole]
  canon_tiles x h
  all_goals
    open_payloads
    pointwise [slope, weight]
  · have e : y = ix2 (⟨1024 + (x 0 : ℕ), by omega⟩ : Fin 2048) (⟨(x 1 : ℕ), x1_lt⟩ : Fin 256) := by idx_ext <;> omega
    rw [e]
    rfl
  · have e : y = ix2 (⟨(x 0 : ℕ), by omega⟩ : Fin 2048) (⟨(x 1 : ℕ), x1_lt⟩ : Fin 256) := by idx_ext <;> omega
    rw [e]
    rfl

/-- At the last tile too. -/
theorem accKc_C (h0 : ¬t.val % 4 = 0) (h1 : t.val % 4 = 3) (y : S256x256.Idx) :
    accKc m c t.val t.isLt y = accKc m c (t.val - 1) (Nat.lt_of_le_of_lt (Nat.sub_le _ _) t.isLt) y + partKc m c t (y 0) (y 1) := by
  unfold accKc partKc
  rw [outsAt0_C m c t h0 h1]
  frame_out
  simp only [read_unread_whole]
  idx_vars y
  pointwise [k0_pay18, k0_pay17, k0_pay16, k0_pay15, k0_pay14, slope, weight]

/-- At the last tile too. -/
theorem accV_C (h0 : ¬t.val % 4 = 0) (h1 : t.val % 4 = 3) (y : S2048x128.Idx) :
    accV m c t.val t.isLt y = accV m c (t.val - 1) (Nat.lt_of_le_of_lt (Nat.sub_le _ _) t.isLt) y + partV m c t (y 0) (y 1) := by
  unfold accV partV
  rw [outsAt0_C m c t h0 h1]
  frame_out
  simp only [read_unread_whole]
  canon_tiles x h
  all_goals
    open_payloads
    pointwise [slope, weight]
  · have e : y = ix2 (⟨1024 + (x 0 : ℕ), by omega⟩ : Fin 2048) (⟨(x 1 : ℕ), x1_lt⟩ : Fin 128) := by idx_ext <;> omega
    rw [e]
    rfl
  · have e : y = ix2 (⟨(x 0 : ℕ), by omega⟩ : Fin 2048) (⟨(x 1 : ℕ), x1_lt⟩ : Fin 128) := by idx_ext <;> omega
    rw [e]
    rfl

/-- At the last tile too. -/
theorem accVc_C (h0 : ¬t.val % 4 = 0) (h1 : t.val % 4 = 3) (y : S256x128.Idx) :
    accVc m c t.val t.isLt y = accVc m c (t.val - 1) (Nat.lt_of_le_of_lt (Nat.sub_le _ _) t.isLt) y + partVc m c t (y 0) (y 1) := by
  unfold accVc partVc
  rw [outsAt0_C m c t h0 h1]
  frame_out
  simp only [read_unread_whole]
  idx_vars y
  pointwise [k0_pay19, k0_pay16, k0_pay15, k0_pay14, slope, weight]

/-- The query gradient that a point of case A writes. -/
theorem outQ_A (h0 : t.val % 4 = 0) (h1 : ¬t.val % 4 = 3) (y : S512x256.Idx) :
    (outsAt0 m c t.val t.isLt).1 y = tileQ m c t (y 0) (y 1) := by
  unfold tileQ
  rw [outsAt0_A m c t h0 h1]
  frame_out
  idx_vars y
  pointwise [k0_pay5, k0_pay2, k0_pay1, k0_pay24, k0_pay21, k0_pay20, k0_pay17, k0_pay16, k0_pay15, k0_pay14, slope, weight]

/-- The query gradient that a point of case B writes. -/
theorem outQ_B (h0 : ¬t.val % 4 = 0) (h1 : ¬t.val % 4 = 3) (y : S512x256.Idx) :
    (outsAt0 m c t.val t.isLt).1 y = tileQ m c t (y 0) (y 1) := by
  unfold tileQ
  rw [outsAt0_B m c t h0 h1]
  frame_out
  idx_vars y
  pointwise [k0_pay5, k0_pay2, k0_pay1, k0_pay24, k0_pay21, k0_pay20, k0_pay17, k0_pay16, k0_pay15, k0_pay14, slope, weight]

/-- The query gradient that a point of case C writes. -/
theorem outQ_C (h0 : ¬t.val % 4 = 0) (h1 : t.val % 4 = 3) (y : S512x256.Idx) :
    (outsAt0 m c t.val t.isLt).1 y = tileQ m c t (y 0) (y 1) := by
  unfold tileQ
  rw [outsAt0_C m c t h0 h1]
  frame_out
  idx_vars y
  pointwise [k0_pay5, k0_pay2, k0_pay1, k0_pay24, k0_pay21, k0_pay20, k0_pay17, k0_pay16, k0_pay15, k0_pay14, slope, weight]

/-- At the last tile of a run the point writes the running sum. -/
theorem outK_C (h0 : ¬t.val % 4 = 0) (h1 : t.val % 4 = 3) (y : S2048x256.Idx) :
    (outsAt0 m c t.val t.isLt).2.1 y = accK m c t.val t.isLt y := by
  unfold accK
  rw [outsAt0_C m c t h0 h1]
  frame_out
  idx_vars y
  pointwise [k0_pay6]
  rw [View.readCov_eq_canon']
  refine congrArg (View.canon _) ?_
  refine funext fun a => Fin.ext ?_
  match a with
  | ⟨0, _⟩ => exact (Nat.zero_add _).trans (Nat.one_mul _)
  | ⟨1, _⟩ => exact (Nat.zero_add _).trans (Nat.one_mul _)

/-- At the last tile of a run the point writes the running sum. -/
theorem outKc_C (h0 : ¬t.val % 4 = 0) (h1 : t.val % 4 = 3) (y : S256x256.Idx) :
    (outsAt0 m c t.val t.isLt).2.2.1 y = accKc m c t.val t.isLt y := by
  unfold accKc
  rw [outsAt0_C m c t h0 h1]
  frame_out
  idx_vars y
  pointwise [k0_pay7]

/-- At the last tile of a run the point writes the running sum. -/
theorem outV_C (h0 : ¬t.val % 4 = 0) (h1 : t.val % 4 = 3) (y : S2048x128.Idx) :
    (outsAt0 m c t.val t.isLt).2.2.2.1 y = accV m c t.val t.isLt y := by
  unfold accV
  rw [outsAt0_C m c t h0 h1]
  frame_out
  idx_vars y
  pointwise [k0_pay8]
  rw [View.readCov_eq_canon']
  refine congrArg (View.canon _) ?_
  refine funext fun a => Fin.ext ?_
  match a with
  | ⟨0, _⟩ => exact (Nat.zero_add _).trans (Nat.one_mul _)
  | ⟨1, _⟩ => exact (Nat.zero_add _).trans (Nat.one_mul _)

/-- At the last tile of a run the point writes the running sum. -/
theorem outVc_C (h0 : ¬t.val % 4 = 0) (h1 : t.val % 4 = 3) (y : S256x128.Idx) :
    (outsAt0 m c t.val t.isLt).2.2.2.2.1 y = accVc m c t.val t.isLt y := by
  unfold accVc
  rw [outsAt0_C m c t h0 h1]
  frame_out
  idx_vars y
  pointwise [k0_pay9]

end Cert.Proof.Block
-- ==== Proof.Arrays.lean ====
/- What the five result arrays hold after the run, as functions of the arrays the launch finds: the queries, keys, values and the gradient of the
   mixed output as launched, and the attention's output and log-sums as the host left them. A run of four query tiles shares one example and head,
   so a running sum at a run's last point is the sum over the example's 2048 rows. -/
module

public import proofs.«01_k».proof.Proof.Block

@[expose] public section

set_option maxRecDepth 16384

noncomputable section

namespace Cert.Proof.Arrays

open Cert.KernelIdeal Cert.KernelIdeal.Gen Idealize.ShloMosaic Idealize.ShloMosaic.TcCoe Idealize.SL.Sem
open Cert.Proof.Block

variable (m : (ℓ : Loc nD τ sig) → Buf (Elt Ideal) ℓ) (c : Dev nD)

abbrev Q : FVec Ideal S4096x1024 .bf16 := m ((c : Thread nD τ).loc main_arg0)
abbrev K : FVec Ideal S4608x1024 .bf16 := m ((c : Thread nD τ).loc main_arg1)
abbrev W : FVec Ideal S4608x512 .bf16 := m ((c : Thread nD τ).loc main_arg2)
abbrev D : FVec Ideal S4096x1024 .bf16 := m ((c : Thread nD τ).loc main_arg3)
abbrev O : FVec Ideal S4096x512 .bf16 := V m c main_v27
abbrev L : FVec Ideal S4096x512 .f32 := V m c main_v32

/-- Every window's block index at a point. -/
theorem idx : ∀ t : Fin cfg0.N,
    win0_0.index t = ![t.val / 16 * 4 + t.val % 4, t.val / 4 % 4] ∧ win0_1.index t = ![t.val / 16, t.val / 4 % 4]
    ∧ win0_2.index t = ![16 + t.val / 16, t.val / 4 % 4] ∧ win0_3.index t = ![t.val / 16, t.val / 4 % 4]
    ∧ win0_4.index t = ![16 + t.val / 16, t.val / 4 % 4] ∧ win0_5.index t = ![t.val / 16 * 4 + t.val % 4, t.val / 4 % 4]
    ∧ win0_6.index t = ![t.val / 16 * 4 + t.val % 4, t.val / 4 % 4] ∧ win0_7.index t = ![t.val / 16 * 4 + t.val % 4, 4 + t.val / 4 % 4]
    ∧ win0_8.index t = ![t.val / 16 * 4 + t.val % 4, t.val / 4 % 4] ∧ win0_9.index t = ![t.val / 16, t.val / 4 % 4]
    ∧ win0_10.index t = ![t.val / 16, t.val / 4 % 4] ∧ win0_11.index t = ![t.val / 16, t.val / 4 % 4]
    ∧ win0_12.index t = ![t.val / 16, t.val / 4 % 4] :=
  (by decide +kernel : ∀ t : Fin grid0.N, _)

theorem lt32 (t : Fin cfg0.N) : t.val < 32 := lt_of_lt_of_eq t.isLt (by decide +kernel : cfg0.N = 32)

/-- The row of the arrays that a tile's row is. -/
def row (t : Fin cfg0.N) (r : Fin 512) : Fin 4096 := ⟨(t.val / 16 * 4 + t.val % 4) * 512 + r, by have := lt32 t; omega⟩
/-- The head of a point. -/
def head (t : Fin cfg0.N) : Fin 4 := ⟨t.val / 4 % 4, by omega⟩
/-- The example of a point. -/
def ex (t : Fin cfg0.N) : Fin 2 := ⟨t.val / 16, by have := lt32 t; omega⟩

/-- Feature `x` of head `h` among the queries' and keys' columns. -/
def wide (h : Fin 4) (x : Fin 256) : Fin 1024 := ⟨h * 256 + x, by omega⟩
/-- Feature `e` of head `h` among the values' columns. -/
def narrow (h : Fin 4) (e : Fin 128) : Fin 512 := ⟨h * 128 + e, by omega⟩
/-- The same feature among the columns of the mixed output's gradient: its second half. -/
def mixed (h : Fin 4) (e : Fin 128) : Fin 1024 := ⟨512 + (h * 128 + e), by omega⟩
/-- Latent key `κ` of example `b` among the keys' rows. -/
def lat (b : Fin 2) (κ : Fin 2048) : Fin 4608 := ⟨b * 2048 + κ, by omega⟩
/-- Context key `κ` of example `b`: after all latent keys. -/
def ctx (b : Fin 2) (κ : Fin 256) : Fin 4608 := ⟨4096 + (b * 256 + κ), by omega⟩

/-- The weight of the key in row `ρ` for the query in row `i`, in head `h`. -/
def wgt (q : FVec Ideal S4096x1024 .bf16) (k : FVec Ideal S4608x1024 .bf16) (l : FVec Ideal S4096x512 .f32) (h : Fin 4) (i : Fin 4096)
    (ρ : Fin 4608) : EReal :=
  Ideal.exp ((∑ x : Fin 256, q (ix2 i (wide h x)) * k (ix2 ρ (wide h x))) - l (ix2 i (narrow h 0)))

/-- The gradient of that score. -/
def slp (q : FVec Ideal S4096x1024 .bf16) (k : FVec Ideal S4608x1024 .bf16) (v : FVec Ideal S4608x512 .bf16) (d : FVec Ideal S4096x1024 .bf16)
    (o : FVec Ideal S4096x512 .bf16) (l : FVec Ideal S4096x512 .f32) (h : Fin 4) (i : Fin 4096) (ρ : Fin 4608) : EReal :=
  wgt q k l h i ρ * ((∑ e : Fin 128, d (ix2 i (mixed h e)) * v (ix2 ρ (narrow h e)))
    - ∑ e : Fin 128, d (ix2 i (mixed h e)) * o (ix2 i (narrow h e)))

variable (t : Fin cfg0.N)

theorem qT_at (r : Fin 512) (x : Fin 256) : qT m c t (ix2 r x) = Q m c (ix2 (row t r) (wide (head t) x)) := by
  have := lt32 t
  unfold row wide head; blk_ext [iblk, V, idx t]
theorem kT_at (κ : Fin 2048) (x : Fin 256) : kT m c t (ix2 κ x) = K m c (ix2 (lat (ex t) κ) (wide (head t) x)) := by
  have := lt32 t
  unfold kT X0_1 Pipeline.Window.fill
  rw [dif_pos (moved0_1 t _)]
  unfold lat wide head ex; blk_ext [iblk, V, idx t]
theorem kcT_at (κ : Fin 256) (x : Fin 256) : kcT m c t (ix2 κ x) = K m c (ix2 (ctx (ex t) κ) (wide (head t) x)) := by
  have := lt32 t
  unfold ctx wide head ex; blk_ext [iblk, V, idx t]
theorem vT_at (κ : Fin 2048) (e : Fin 128) : vT m c t (ix2 κ e) = W m c (ix2 (lat (ex t) κ) (narrow (head t) e)) := by
  have := lt32 t
  unfold vT X0_3 Pipeline.Window.fill
  rw [dif_pos (moved0_3 t _)]
  unfold lat narrow head ex; blk_ext [iblk, V, idx t]
theorem vcT_at (κ : Fin 256) (e : Fin 128) : vcT m c t (ix2 κ e) = W m c (ix2 (ctx (ex t) κ) (narrow (head t) e)) := by
  have := lt32 t
  unfold ctx narrow head ex; blk_ext [iblk, V, idx t]
theorem read5 (A : FVec Ideal S4096x512 .bf16) (r : Fin 512) (e : Fin 128) :
    ((cfg0.win 5).blk t).view.read (Elt Ideal) A (ix2 r e) = A (ix2 (row t r) (narrow (head t) e)) := by
  have := lt32 t
  unfold row narrow head; blk_ext [idx t]
theorem read6 (A : FVec Ideal S4096x512 .f32) (r : Fin 512) (e : Fin 128) :
    ((cfg0.win 6).blk t).view.read (Elt Ideal) A (ix2 r e) = A (ix2 (row t r) (narrow (head t) e)) := by
  have := lt32 t
  unfold row narrow head; blk_ext [idx t]

theorem oT_at (r : Fin 512) (e : Fin 128) : oT m c t (ix2 r e) = O m c (ix2 (row t r) (narrow (head t) e)) :=
  read5 t (V m c main_v27) r e
theorem lT_at (r : Fin 512) (e : Fin 128) : lT m c t (ix2 r e) = L m c (ix2 (row t r) (narrow (head t) e)) :=
  read6 t (V m c main_v32) r e

theorem dT_at (r : Fin 512) (e : Fin 128) : dT m c t (ix2 r e) = D m c (ix2 (row t r) (mixed (head t) e)) := by
  have := lt32 t
  unfold row mixed head; blk_ext [iblk, V, idx t]

end Cert.Proof.Arrays
-- ==== Proof.Final.lean ====
/- The five result arrays after the run. A point's products are turned into sums over the arrays; the four points of a run together sum over the
   2048 query rows of an example. -/
module

public import proofs.«01_k».proof.Proof.Arrays

@[expose] public section

set_option maxRecDepth 16384

noncomputable section

namespace Cert.Proof.Final

open Cert.KernelIdeal Cert.KernelIdeal.Gen Idealize.ShloMosaic Idealize.ShloMosaic.TcCoe Idealize.SL.Sem
open Cert.Proof.Block Cert.Proof.Arrays

/-- Query row `s` of example `b`. -/
def qry (b : Fin 2) (s : Fin 2048) : Fin 4096 := ⟨b * 2048 + s, by omega⟩
/-- The example of a query row. -/
def exq (i : Fin 4096) : Fin 2 := ⟨i / 2048, by omega⟩
/-- The example of a context key. -/
def exc (i : Fin 512) : Fin 2 := ⟨i / 256, by omega⟩
/-- The head and the feature of a wide column. -/
def hw (i : Fin 1024) : Fin 4 := ⟨i / 256, by omega⟩
def fw (i : Fin 1024) : Fin 256 := ⟨i % 256, by omega⟩
/-- The head and the feature of a narrow column. -/
def hn (i : Fin 512) : Fin 4 := ⟨i / 128, by omega⟩
def fn (i : Fin 512) : Fin 128 := ⟨i % 128, by omega⟩
/-- The key row of a latent result row, and of a context result row. -/
def kl (i : Fin 4096) : Fin 4608 := ⟨i, by omega⟩
def kc (i : Fin 512) : Fin 4608 := ⟨4096 + i, by omega⟩

section
variable (q : FVec Ideal S4096x1024 .bf16) (k : FVec Ideal S4608x1024 .bf16) (v : FVec Ideal S4608x512 .bf16) (d : FVec Ideal S4096x1024 .bf16)
  (o : FVec Ideal S4096x512 .bf16) (l : FVec Ideal S4096x512 .f32)

/-- The gradient of a query's feature. -/
def qGrad (h : Fin 4) (b : Fin 2) (i : Fin 4096) (x : Fin 256) : EReal :=
  (∑ κ : Fin 256, slp q k v d o l h i (ctx b κ) * k (ix2 (ctx b κ) (wide h x)))
  + (∑ κ : Fin 1024, slp q k v d o l h i (lat b ⟨κ, by omega⟩) * k (ix2 (lat b ⟨κ, by omega⟩) (wide h x)))
  + ∑ κ : Fin 1024, slp q k v d o l h i (lat b ⟨1024 + κ, by omega⟩) * k (ix2 (lat b ⟨1024 + κ, by omega⟩) (wide h x))

/-- The gradient of a key's feature. -/
def kGrad (h : Fin 4) (b : Fin 2) (ρ : Fin 4608) (x : Fin 256) : EReal :=
  ∑ s : Fin 2048, slp q k v d o l h (qry b s) ρ * q (ix2 (qry b s) (wide h x))

/-- The gradient of a value's feature. -/
def vGrad (h : Fin 4) (b : Fin 2) (ρ : Fin 4608) (e : Fin 128) : EReal :=
  ∑ s : Fin 2048, wgt q k l h (qry b s) ρ * d (ix2 (qry b s) (mixed h e))
end

variable (m : (ℓ : Loc nD τ sig) → Buf (Elt Ideal) ℓ) (c : Dev nD) (t : Fin cfg0.N)

theorem weight_lat (r : Fin 512) (κ : Fin 2048) : weight (qT m c t) (lT m c t) (kT m c t) r κ
    = wgt (Q m c) (K m c) (L m c) (head t) (row t r) (lat (ex t) κ) := by
  unfold weight wgt; rw [lT_at]; simp only [qT_at, kT_at]
theorem weight_ctx (r : Fin 512) (κ : Fin 256) : weight (qT m c t) (lT m c t) (kcT m c t) r κ
    = wgt (Q m c) (K m c) (L m c) (head t) (row t r) (ctx (ex t) κ) := by
  unfold weight wgt; rw [lT_at]; simp only [qT_at, kcT_at]

theorem slope_lat (r : Fin 512) (κ : Fin 2048) : slope (qT m c t) (oT m c t) (lT m c t) (dT m c t) (kT m c t) (vT m c t) r κ
    = slp (Q m c) (K m c) (W m c) (D m c) (O m c) (L m c) (head t) (row t r) (lat (ex t) κ) := by
  unfold Block.slope slp; rw [weight_lat]; simp only [dT_at, vT_at, oT_at]
theorem slope_ctx (r : Fin 512) (κ : Fin 256) : slope (qT m c t) (oT m c t) (lT m c t) (dT m c t) (kcT m c t) (vcT m c t) r κ
    = slp (Q m c) (K m c) (W m c) (D m c) (O m c) (L m c) (head t) (row t r) (ctx (ex t) κ) := by
  unfold Block.slope slp; rw [weight_ctx]; simp only [dT_at, vcT_at, oT_at]

theorem exq_row (r : Fin 512) : exq (row t r) = ex t := by
  have := lt32 t
  unfold exq row ex; apply Fin.ext; dsimp only; omega

/-- A point's query gradient is its rows' of the array. -/
theorem tileQ_eq (r : Fin 512) (x : Fin 256) : tileQ m c t r x
    = qGrad (Q m c) (K m c) (W m c) (D m c) (O m c) (L m c) (head t) (ex t) (row t r) x := by
  unfold tileQ qGrad
  simp only [slope_lat, slope_ctx, kT_at, kcT_at]

/-- What window 8 writes at a point. -/
theorem out8 (y : S512x256.Idx) : (outsAt0 m c t.val t.isLt).1 y = tileQ m c t (y 0) (y 1) := by
  by_cases h0 : t.val % 4 = 0
  · exact outQ_A m c t h0 (by omega) y
  · by_cases h1 : t.val % 4 = 3
    · exact outQ_C m c t h0 h1 y
    · exact outQ_B m c t h0 h1 y

theorem wide_hw (h : Fin 4) (x : Fin 256) : hw (wide h x) = h := by unfold hw wide; apply Fin.ext; dsimp only; omega
theorem wide_fw (h : Fin 4) (x : Fin 256) : fw (wide h x) = x := by unfold fw wide; apply Fin.ext; dsimp only; omega
theorem narrow_hn (h : Fin 4) (e : Fin 128) : hn (narrow h e) = h := by unfold hn narrow; apply Fin.ext; dsimp only; omega
theorem narrow_fn (h : Fin 4) (e : Fin 128) : fn (narrow h e) = e := by unfold fn narrow; apply Fin.ext; dsimp only; omega

theorem glue8 (r : Fin 512) (x : Fin 256) :
    qGrad (Q m c) (K m c) (W m c) (D m c) (O m c) (L m c) (hw (wide (head t) x)) (exq (row t r)) (row t r) (fw (wide (head t) x))
    = qGrad (Q m c) (K m c) (W m c) (D m c) (O m c) (L m c) (head t) (ex t) (row t r) x := by
  rw [wide_hw, wide_fw, exq_row]

/-- The query gradients. -/
theorem final8 : (dats m 0 c).arrAt 8 cfg0.N
    = fun i : S4096x1024.Idx => qGrad (Q m c) (K m c) (W m c) (D m c) (O m c) (L m c) (hw (i 1)) (exq (i 0)) (i 0) (fw (i 1)) := by
  refine (dats m 0 c).arrAt_eq_of_covers 8 _ (by decide +kernel) fun t _ y => ?_
  have e : (win0_8.blk t).view.emb y = (ix2 (row t (y 0)) (wide (head t) (y 1)) : S4096x1024.Idx) := by
    have := lt32 t
    unfold row wide head; blk_ext [idx t]
  blk_simp
  rw [after0_8]
  refine (out8 m c t y).trans ((tileQ_eq m c t (y 0) (y 1)).trans ?_)
  rw [e]
  exact (glue8 m c t (y 0) (y 1)).symm

/-- The points of a run share the head and the example, and their rows follow one another. -/
theorem run_head (s : Fin 4) (h) : head (⟨4 * (t.val / 4) + s.val, h⟩ : Fin cfg0.N) = head t := by
  unfold head; apply Fin.ext; dsimp only; omega
theorem run_ex (s : Fin 4) (h) : ex (⟨4 * (t.val / 4) + s.val, h⟩ : Fin cfg0.N) = ex t := by
  unfold ex; apply Fin.ext; dsimp only; omega
theorem run_row (s : Fin 4) (r : Fin 512) (h) (hl) : row (⟨4 * (t.val / 4) + s.val, h⟩ : Fin cfg0.N) r = qry (ex t) ⟨s.val * 512 + r.val, hl⟩ := by
  unfold row qry ex; apply Fin.ext; dsimp only; omega

/-- A point's part of a latent key's gradient. -/
theorem partK_eq (κ : Fin 2048) (x : Fin 256) : partK m c t κ x
    = ∑ r : Fin 512, slp (Q m c) (K m c) (W m c) (D m c) (O m c) (L m c) (head t) (row t r) (lat (ex t) κ)
      * Q m c (ix2 (row t r) (wide (head t) x)) := by
  unfold partK; simp only [slope_lat, qT_at]
theorem partKc_eq (κ : Fin 256) (x : Fin 256) : partKc m c t κ x
    = ∑ r : Fin 512, slp (Q m c) (K m c) (W m c) (D m c) (O m c) (L m c) (head t) (row t r) (ctx (ex t) κ)
      * Q m c (ix2 (row t r) (wide (head t) x)) := by
  unfold partKc; simp only [slope_ctx, qT_at]
theorem partV_eq (κ : Fin 2048) (e : Fin 128) : partV m c t κ e
    = ∑ r : Fin 512, wgt (Q m c) (K m c) (L m c) (head t) (row t r) (lat (ex t) κ)
      * D m c (ix2 (row t r) (mixed (head t) e)) := by
  unfold partV; simp only [weight_lat, dT_at]
theorem partVc_eq (κ : Fin 256) (e : Fin 128) : partVc m c t κ e
    = ∑ r : Fin 512, wgt (Q m c) (K m c) (L m c) (head t) (row t r) (ctx (ex t) κ)
      * D m c (ix2 (row t r) (mixed (head t) e)) := by
  unfold partVc; simp only [weight_ctx, dT_at]

/-- A running sum at a run's last point. -/
theorem sumK (h1 : t.val % 4 = 3) (κ : Fin 2048) (x : Fin 256) : accK m c t.val t.isLt (ix2 κ x)
    = kGrad (Q m c) (K m c) (W m c) (D m c) (O m c) (L m c) (head t) (ex t) (lat (ex t) κ) x := by
  rw [Pipeline.eq_sum_fin_of_reset_step_apply_of_flush (fun n h => accK m c n h) 4 (fun _ => 0) (fun t y => partK m c t (y 0) (y 1))
    (fun t h y => (accK_A m c t h (by omega) y).trans (zero_add _).symm)
    (fun t h y => by
      by_cases h3 : t.val % 4 = 3
      · exact accK_C m c t h h3 y
      · exact accK_B m c t h h3 y) t h1 (ix2 κ x), zero_add]
  unfold kGrad
  refine (Finset.sum_congr rfl fun s _ => partK_eq m c _ κ x).trans ?_
  simp only [run_head, run_ex]
  exact Fin.sum_mul_add_congr fun s r hl => by rw [run_row t s r _ hl]

theorem sumKc (h1 : t.val % 4 = 3) (κ : Fin 256) (x : Fin 256) : accKc m c t.val t.isLt (ix2 κ x)
    = kGrad (Q m c) (K m c) (W m c) (D m c) (O m c) (L m c) (head t) (ex t) (ctx (ex t) κ) x := by
  rw [Pipeline.eq_sum_fin_of_reset_step_apply_of_flush (fun n h => accKc m c n h) 4 (fun _ => 0) (fun t y => partKc m c t (y 0) (y 1))
    (fun t h y => (accKc_A m c t h (by omega) y).trans (zero_add _).symm)
    (fun t h y => by
      by_cases h3 : t.val % 4 = 3
      · exact accKc_C m c t h h3 y
      · exact accKc_B m c t h h3 y) t h1 (ix2 κ x), zero_add]
  unfold kGrad
  refine (Finset.sum_congr rfl fun s _ => partKc_eq m c _ κ x).trans ?_
  simp only [run_head, run_ex]
  exact Fin.sum_mul_add_congr fun s r hl => by rw [run_row t s r _ hl]

theorem sumV (h1 : t.val % 4 = 3) (κ : Fin 2048) (x : Fin 128) : accV m c t.val t.isLt (ix2 κ x)
    = vGrad (Q m c) (K m c) (D m c) (L m c) (head t) (ex t) (lat (ex t) κ) x := by
  rw [Pipeline.eq_sum_fin_of_reset_step_apply_of_flush (fun n h => accV m c n h) 4 (fun _ => 0) (fun t y => partV m c t (y 0) (y 1))
    (fun t h y => (accV_A m c t h (by omega) y).trans (zero_add _).symm)
    (fun t h y => by
      by_cases h3 : t.val % 4 = 3
      · exact accV_C m c t h h3 y
      · exact accV_B m c t h h3 y) t h1 (ix2 κ x), zero_add]
  unfold vGrad
  refine (Finset.sum_congr rfl fun s _ => partV_eq m c _ κ x).trans ?_
  simp only [run_head, run_ex]
  exact Fin.sum_mul_add_congr fun s r hl => by rw [run_row t s r _ hl]

theorem sumVc (h1 : t.val % 4 = 3) (κ : Fin 256) (x : Fin 128) : accVc m c t.val t.isLt (ix2 κ x)
    = vGrad (Q m c) (K m c) (D m c) (L m c) (head t) (ex t) (ctx (ex t) κ) x := by
  rw [Pipeline.eq_sum_fin_of_reset_step_apply_of_flush (fun n h => accVc m c n h) 4 (fun _ => 0) (fun t y => partVc m c t (y 0) (y 1))
    (fun t h y => (accVc_A m c t h (by omega) y).trans (zero_add _).symm)
    (fun t h y => by
      by_cases h3 : t.val % 4 = 3
      · exact accVc_C m c t h h3 y
      · exact accVc_B m c t h h3 y) t h1 (ix2 κ x), zero_add]
  unfold vGrad
  refine (Finset.sum_congr rfl fun s _ => partVc_eq m c _ κ x).trans ?_
  simp only [run_head, run_ex]
  exact Fin.sum_mul_add_congr fun s r hl => by rw [run_row t s r _ hl]

/-- A latent key's row in the results, and a context key's. -/
def klat (b : Fin 2) (κ : Fin 2048) : Fin 4096 := ⟨b * 2048 + κ, by omega⟩
def kctx (b : Fin 2) (κ : Fin 256) : Fin 512 := ⟨b * 256 + κ, by omega⟩
theorem klat_ex (b : Fin 2) (κ : Fin 2048) : exq (klat b κ) = b := by unfold exq klat; apply Fin.ext; dsimp only; omega
theorem kctx_ex (b : Fin 2) (κ : Fin 256) : exc (kctx b κ) = b := by unfold exc kctx; apply Fin.ext; dsimp only; omega
theorem klat_kl (b : Fin 2) (κ : Fin 2048) : kl (klat b κ) = lat b κ := rfl
theorem kctx_kc (b : Fin 2) (κ : Fin 256) : kc (kctx b κ) = ctx b κ := rfl

theorem glue9 (h : Fin 4) (b : Fin 2) (κ : Fin 2048) (x : Fin 256) :
    kGrad (Q m c) (K m c) (W m c) (D m c) (O m c) (L m c) (hw (wide h x)) (exq (klat b κ)) (kl (klat b κ)) (fw (wide h x))
    = kGrad (Q m c) (K m c) (W m c) (D m c) (O m c) (L m c) h b (lat b κ) x := by
  rw [wide_hw, wide_fw, klat_ex, klat_kl]

/-- The latent keys' gradients. -/
theorem final9 : (dats m 0 c).arrAt 9 cfg0.N
    = fun i : S4096x1024.Idx => kGrad (Q m c) (K m c) (W m c) (D m c) (O m c) (L m c) (hw (i 1)) (exq (i 0)) (kl (i 0)) (fw (i 1)) := by
  refine (dats m 0 c).arrAt_eq_of_covers 9 _ (by decide +kernel) fun t hf y => ?_
  have h3 := (flush0_9 t).mp hf
  have e : (win0_9.blk t).view.emb y = (ix2 (klat (ex t) (y 0)) (wide (head t) (y 1)) : S4096x1024.Idx) := by
    have := lt32 t
    unfold klat wide head ex; blk_ext [idx t]
  blk_simp
  rw [after0_9]
  refine (outK_C m c t (by omega) h3 y).trans ?_
  rw [e]
  refine Eq.trans ?_ (glue9 m c (head t) (ex t) (y 0) (y 1)).symm
  refine Eq.trans (congrArg (accK m c t.val t.isLt) ?_) (sumK m c t h3 (y 0) (y 1))
  exact (ix2_eta y).symm

theorem glue10 (h : Fin 4) (b : Fin 2) (κ : Fin 256) (x : Fin 256) :
    kGrad (Q m c) (K m c) (W m c) (D m c) (O m c) (L m c) (hw (wide h x)) (exc (kctx b κ)) (kc (kctx b κ)) (fw (wide h x))
    = kGrad (Q m c) (K m c) (W m c) (D m c) (O m c) (L m c) h b (ctx b κ) x := by
  rw [wide_hw, wide_fw, kctx_ex, kctx_kc]

/-- The context keys' gradients. -/
theorem final10 : (dats m 0 c).arrAt 10 cfg0.N
    = fun i : S512x1024.Idx => kGrad (Q m c) (K m c) (W m c) (D m c) (O m c) (L m c) (hw (i 1)) (exc (i 0)) (kc (i 0)) (fw (i 1)) := by
  refine (dats m 0 c).arrAt_eq_of_covers 10 _ (by decide +kernel) fun t hf y => ?_
  have h3 := (flush0_10 t).mp hf
  have e : (win0_10.blk t).view.emb y = (ix2 (kctx (ex t) (y 0)) (wide (head t) (y 1)) : S512x1024.Idx) := by
    have := lt32 t
    unfold kctx wide head ex; blk_ext [idx t]
  blk_simp
  rw [after0_10]
  refine (outKc_C m c t (by omega) h3 y).trans ?_
  rw [e]
  refine Eq.trans ?_ (glue10 m c (head t) (ex t) (y 0) (y 1)).symm
  refine Eq.trans (congrArg (accKc m c t.val t.isLt) ?_) (sumKc m c t h3 (y 0) (y 1))
  exact (ix2_eta y).symm

theorem glue11 (h : Fin 4) (b : Fin 2) (κ : Fin 2048) (x : Fin 128) :
    vGrad (Q m c) (K m c) (D m c) (L m c) (hn (narrow h x)) (exq (klat b κ)) (kl (klat b κ)) (fn (narrow h x))
    = vGrad (Q m c) (K m c) (D m c) (L m c) h b (lat b κ) x := by
  rw [narrow_hn, narrow_fn, klat_ex, klat_kl]

/-- The latent values' gradients. -/
theorem final11 : (dats m 0 c).arrAt 11 cfg0.N
    = fun i : S4096x512.Idx => vGrad (Q m c) (K m c) (D m c) (L m c) (hn (i 1)) (exq (i 0)) (kl (i 0)) (fn (i 1)) := by
  refine (dats m 0 c).arrAt_eq_of_covers 11 _ (by decide +kernel) fun t hf y => ?_
  have h3 := (flush0_11 t).mp hf
  have e : (win0_11.blk t).view.emb y = (ix2 (klat (ex t) (y 0)) (narrow (head t) (y 1)) : S4096x512.Idx) := by
    have := lt32 t
    unfold klat narrow head ex; blk_ext [idx t]
  blk_simp
  rw [after0_11]
  refine (outV_C m c t (by omega) h3 y).trans ?_
  rw [e]
  refine Eq.trans ?_ (glue11 m c (head t) (ex t) (y 0) (y 1)).symm
  refine Eq.trans (congrArg (accV m c t.val t.isLt) ?_) (sumV m c t h3 (y 0) (y 1))
  exact (ix2_eta y).symm

theorem glue12 (h : Fin 4) (b : Fin 2) (κ : Fin 256) (x : Fin 128) :
    vGrad (Q m c) (K m c) (D m c) (L m c) (hn (narrow h x)) (exc (kctx b κ)) (kc (kctx b κ)) (fn (narrow h x))
    = vGrad (Q m c) (K m c) (D m c) (L m c) h b (ctx b κ) x := by
  rw [narrow_hn, narrow_fn, kctx_ex, kctx_kc]

/-- The context values' gradients. -/
theorem final12 : (dats m 0 c).arrAt 12 cfg0.N
    = fun i : S512x512.Idx => vGrad (Q m c) (K m c) (D m c) (L m c) (hn (i 1)) (exc (i 0)) (kc (i 0)) (fn (i 1)) := by
  refine (dats m 0 c).arrAt_eq_of_covers 12 _ (by decide +kernel) fun t hf y => ?_
  have h3 := (flush0_12 t).mp hf
  have e : (win0_12.blk t).view.emb y = (ix2 (kctx (ex t) (y 0)) (narrow (head t) (y 1)) : S512x512.Idx) := by
    have := lt32 t
    unfold kctx narrow head ex; blk_ext [idx t]
  blk_simp
  rw [after0_12]
  refine (outVc_C m c t (by omega) h3 y).trans ?_
  rw [e]
  refine Eq.trans ?_ (glue12 m c (head t) (ex t) (y 0) (y 1)).symm
  refine Eq.trans (congrArg (accVc m c t.val t.isLt) ?_) (sumVc m c t h3 (y 0) (y 1))
  exact (ix2_eta y).symm

end Cert.Proof.Final
-- ==== Proof.Model.lean ====
/- The attention's gradient over the real numbers, and the extended-real arithmetic that computes it. Neither program's row maximum matters: a
   softmax with any real number subtracted from the scores is the softmax. -/
module

public import proofs.«01_k».proof.Proof.Final
public import Idealize.ShloMosaic.Lib.IdealHost

@[expose] public section

noncomputable section

namespace Cert.Proof.Model

open Idealize.ShloMosaic
open Cert.Proof.Arrays Cert.Proof.Final

/-- Key `κ` of example `b` in the joined order: the context keys first. -/
def key (b : Fin 2) (κ : Fin 2304) : Fin 4608 :=
  if h : κ.val < 256 then ctx b ⟨κ, h⟩ else lat b ⟨κ - 256, by omega⟩

/-- Real arrays under the four arguments. -/
structure Args where
  q : Fin 4096 → Fin 1024 → ℝ
  k : Fin 4608 → Fin 1024 → ℝ
  v : Fin 4608 → Fin 512 → ℝ
  d : Fin 4096 → Fin 1024 → ℝ

variable (A : Args)

/-- The score of a query row against a key row. -/
def sc (h : Fin 4) (i : Fin 4096) (ρ : Fin 4608) : ℝ := ∑ x : Fin 256, A.q i (wide h x) * A.k ρ (wide h x)
/-- The sum of a row's exponentials. -/
def den (h : Fin 4) (i : Fin 4096) : ℝ := ∑ κ : Fin 2304, Real.exp (sc A h i (key (exq i) κ))
/-- The softmax weight. -/
def sm (h : Fin 4) (i : Fin 4096) (ρ : Fin 4608) : ℝ := Real.exp (sc A h i ρ) / den A h i
/-- The gradient that reaches a weight. -/
def dp (h : Fin 4) (i : Fin 4096) (ρ : Fin 4608) : ℝ := ∑ e : Fin 128, A.d i (mixed h e) * A.v ρ (narrow h e)
/-- Its mean over a row's keys. -/
def mean (h : Fin 4) (i : Fin 4096) : ℝ := ∑ κ : Fin 2304, sm A h i (key (exq i) κ) * dp A h i (key (exq i) κ)
/-- The gradient of a score. -/
def ds (h : Fin 4) (i : Fin 4096) (ρ : Fin 4608) : ℝ := sm A h i ρ * (dp A h i ρ - mean A h i)
/-- The attention's output. -/
def out (h : Fin 4) (i : Fin 4096) (e : Fin 128) : ℝ := ∑ κ : Fin 2304, A.v (key (exq i) κ) (narrow h e) * sm A h i (key (exq i) κ)

theorem den_pos (h : Fin 4) (i : Fin 4096) : 0 < den A h i :=
  Finset.sum_pos (fun _ _ => Real.exp_pos _) ⟨0, Finset.mem_univ _⟩

/-- A sum of real numbers, among the extended ones. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A finite product sum. -/
theorem dot_coe {n : ℕ} (f g : Fin n → ℝ) : (∑ i, (f i : EReal) * (g i : EReal)) = ((∑ i, f i * g i : ℝ) : EReal) := by
  rw [coe_sum]; exact Finset.sum_congr rfl fun i _ => (EReal.coe_mul _ _).symm

/-- A quotient by a positive number. -/
theorem div_pos_coe (x y : ℝ) (hy : 0 < y) : Ideal.div (x : EReal) (y : EReal) = ((x / y : ℝ) : EReal) := by
  rw [Ideal.div_coe hy.ne', ← EReal.coe_mul]; congr 1; ring

section Row
variable {n : ℕ} (S : Fin (n + 1) → ℝ) (T : ℝ)

theorem shift_sum : (∑ κ, Ideal.exp ((S κ : EReal) - (T : EReal))) = ((Real.exp (-T) * ∑ κ, Real.exp (S κ) : ℝ) : EReal) := by
  rw [Finset.mul_sum, coe_sum]
  refine Finset.sum_congr rfl fun κ _ => ?_
  rw [← EReal.coe_sub, Ideal.exp_coe, ← Real.exp_add]; congr 2; ring

theorem total_pos : 0 < ∑ κ, Real.exp (S κ) := Finset.sum_pos (fun _ _ => Real.exp_pos _) ⟨0, Finset.mem_univ _⟩

theorem shift_pos : 0 < Real.exp (-T) * ∑ κ, Real.exp (S κ) := mul_pos (Real.exp_pos _) (total_pos S)

/-- The shifted exponential over the sum of the shifted exponentials is the softmax. -/
theorem softmax_shift (κ) : Ideal.div (Ideal.exp ((S κ : EReal) - (T : EReal))) (∑ κ, Ideal.exp ((S κ : EReal) - (T : EReal)))
    = ((Real.exp (S κ) / ∑ κ, Real.exp (S κ) : ℝ) : EReal) := by
  rw [shift_sum, ← EReal.coe_sub, Ideal.exp_coe, div_pos_coe _ _ (shift_pos S T)]
  congr 1
  rw [sub_eq_neg_add, Real.exp_add, mul_div_mul_left _ _ (Real.exp_pos _).ne']

/-- The shift plus the logarithm of the shifted sum is the logarithm of the sum. -/
theorem logsum_shift : (T : EReal) + Ideal.log (∑ κ, Ideal.exp ((S κ : EReal) - (T : EReal)))
    = ((Real.log (∑ κ, Real.exp (S κ)) : ℝ) : EReal) := by
  rw [shift_sum, Ideal.log_coe, if_neg (not_le.mpr (shift_pos S T)), ← EReal.coe_add,
    Real.log_mul (Real.exp_pos _).ne' (total_pos S).ne', Real.log_exp]
  congr 1; ring

/-- The exponential of the score minus the log-sum is the softmax. -/
theorem exp_logsum (κ) : Ideal.exp ((S κ : EReal) - ((Real.log (∑ κ, Real.exp (S κ)) : ℝ) : EReal))
    = ((Real.exp (S κ) / ∑ κ, Real.exp (S κ) : ℝ) : EReal) := by
  rw [← EReal.coe_sub, Ideal.exp_coe, Real.exp_sub, Real.exp_log (total_pos S)]

/-- The derivative of the quotient, as the rules of differentiation give it: the numerator's part and the denominator's. -/
theorem softmax_vjp (P : Fin (n + 1) → ℝ) (κ) :
    let e : Fin (n + 1) → EReal := fun κ => Ideal.exp ((S κ : EReal) - (T : EReal))
    let t : EReal := ∑ κ, e κ
    (Ideal.div (P κ : EReal) t + -(∑ κ', (P κ' : EReal) * Ideal.div 1 (t * t) * e κ')) * e κ
    = ((Real.exp (S κ) / (∑ κ, Real.exp (S κ)) * (P κ - ∑ κ', Real.exp (S κ') / (∑ κ, Real.exp (S κ)) * P κ') : ℝ) : EReal) := by
  intro e t
  have ht : t = ((Real.exp (-T) * ∑ κ, Real.exp (S κ) : ℝ) : EReal) := shift_sum S T
  have he : ∀ κ, e κ = ((Real.exp (-T) * Real.exp (S κ) : ℝ) : EReal) := fun κ => by
    show Ideal.exp _ = _
    rw [← EReal.coe_sub, Ideal.exp_coe, ← Real.exp_add]; congr 2; ring
  have hp := shift_pos S T
  have h0 := Real.exp_pos (-T)
  have h1 := total_pos S
  generalize hN : ∑ κ, Real.exp (S κ) = N at *
  generalize Real.exp (-T) = a at *
  have h2 : ∀ κ', (P κ' : EReal) * Ideal.div 1 (t * t) * e κ' = ((P κ' * (1 / ((a * N) * (a * N))) * (a * Real.exp (S κ')) : ℝ) : EReal) := fun κ' => by
    rw [ht, he, ← EReal.coe_mul, ← EReal.coe_one, div_pos_coe _ _ (mul_pos hp hp), ← EReal.coe_mul, ← EReal.coe_mul]
  rw [Finset.sum_congr rfl fun κ' _ => h2 κ', ← coe_sum, ht, he, div_pos_coe _ _ hp, ← EReal.coe_neg, ← EReal.coe_add, ← EReal.coe_mul]
  congr 1
  have h3 : ∑ κ', P κ' * (1 / ((a * N) * (a * N))) * (a * Real.exp (S κ')) = (1 / (a * N)) * ∑ κ', Real.exp (S κ') / N * P κ' := by
    rw [Finset.mul_sum]
    refine Finset.sum_congr rfl fun κ' _ => ?_
    field_simp
  rw [h3]
  field_simp
  ring

/-- The maximum of finitely many numbers, one at least, is a number. -/
theorem fold_max_real {ι : Type*} [DecidableEq ι] (s : Finset ι) (hs : s.Nonempty) (f : ι → EReal) (hf : ∀ i, ∃ r : ℝ, f i = r) :
    ∃ r : ℝ, s.fold max ⊥ f = r := by
  have ht : s.fold max ⊥ f ≠ ⊤ := by
    refine ne_of_lt ?_
    rw [Finset.fold_max_lt]
    exact ⟨bot_lt_top, fun i _ => by obtain ⟨r, hr⟩ := hf i; rw [hr]; exact EReal.coe_lt_top r⟩
  have hb : s.fold max ⊥ f ≠ ⊥ := by
    obtain ⟨i, hi⟩ := hs
    refine (ne_of_gt ?_)
    rw [Finset.lt_fold_max]
    exact .inr ⟨i, hi, by obtain ⟨r, hr⟩ := hf i; rw [hr]; exact EReal.bot_lt_coe r⟩
  exact ⟨_, (EReal.coe_toReal ht hb).symm⟩
end Row

end Cert.Proof.Model
-- ==== Proof.Host.lean ====
/- What the host leaves in the two arrays that stand for the forward pass's: the attention's output and the logarithm of each row's sum of
   exponentials, at arrays of real numbers. -/
module

public import proofs.«01_k».proof.Proof.Model

@[expose] public section

set_option maxRecDepth 16384

noncomputable section

namespace Cert.Proof.Host

open Cert.KernelIdeal Cert.KernelIdeal.Gen Idealize.ShloMosaic Idealize.ShloMosaic.TcCoe
open Cert.Proof.Arrays Cert.Proof.Final Cert.Proof.Model

variable (q : FVec Ideal S4096x1024 .bf16) (k : FVec Ideal S4608x1024 .bf16) (v : FVec Ideal S4608x512 .bf16)

/-- The queries by example, row, head and feature. -/
def q4 : FVec Ideal S2x2048x4x256 .f32 :=
  shapeCast S2x2048x4x256 (extf .f32 q bitsLt_bf16_f32) shapeCasts_S4096x1024_S2x2048x4x256
def kc4 : FVec Ideal S2x256x4x256 .f32 :=
  shapeCast S2x256x4x256 (extractStridedSlice S512x1024 ![4096, 0] (extf .f32 k bitsLt_bf16_f32) slices_S4608x1024_S512x1024_4096_0)
    shapeCasts_S512x1024_S2x256x4x256
def kl4 : FVec Ideal S2x2048x4x256 .f32 :=
  shapeCast S2x2048x4x256 (extractStridedSlice S4096x1024 ![0, 0] (extf .f32 k bitsLt_bf16_f32) slices_S4608x1024_S4096x1024_0_0)
    shapeCasts_S4096x1024_S2x2048x4x256
/-- The keys, the context's first. -/
def k4 : FVec Ideal S2x2304x4x256 .f32 :=
  concatenate S2x2304x4x256 1 [⟨S2x256x4x256, kc4 k⟩, ⟨S2x2048x4x256, kl4 k⟩] concatenates_S2x256x4x256_S2x2048x4x256_S2x2304x4x256_d1
def vc4 : FVec Ideal S2x256x4x128 .f32 :=
  shapeCast S2x256x4x128 (extractStridedSlice S512x512 ![4096, 0] (extf .f32 v bitsLt_bf16_f32) slices_S4608x512_S512x512_4096_0)
    shapeCasts_S512x512_S2x256x4x128
def vl4 : FVec Ideal S2x2048x4x128 .f32 :=
  shapeCast S2x2048x4x128 (extractStridedSlice S4096x512 ![0, 0] (extf .f32 v bitsLt_bf16_f32) slices_S4608x512_S4096x512_0_0)
    shapeCasts_S4096x512_S2x2048x4x128
/-- The values, in the same order. -/
def v4 : FVec Ideal S2x2304x4x128 .f32 :=
  concatenate S2x2304x4x128 1 [⟨S2x256x4x128, vc4 v⟩, ⟨S2x2048x4x128, vl4 v⟩] concatenates_S2x256x4x128_S2x2048x4x128_S2x2304x4x128_d1
/-- The scores. -/
def score : FVec Ideal S2x4x2048x2304 .f32 :=
  Host.dotGeneral dot_S2x2048x4x256_S2x2304x4x256_S2x4x2048x2304_3_3_1_1_02_02 none (q4 q) (k4 k)
/-- The rows' maxima, the shifted exponentials and their sums, over any scores. -/
def top (y : FVec Ideal S2x4x2048x2304 .f32) : FVec Ideal S2x4x2048x1 .f32 :=
  broadcastInDim S2x4x2048x1 ![0, 1, 2] bcast_S2x4x2048_S2x4x2048x1_0_1_2
    (Host.reduce (FloatOps.maximumf (F := Ideal) (φ := .f32)) y (constant S_ .f32 4286578688#32) reducesTo_S2x4x2048x2304_S2x4x2048_d3 h_S_)
def expo (y : FVec Ideal S2x4x2048x2304 .f32) (t : FVec Ideal S2x4x2048x1 .f32) : FVec Ideal S2x4x2048x2304 .f32 :=
  Host.exp (subf y (broadcastInDim S2x4x2048x2304 ![0, 1, 2, 3] bcast_S2x4x2048x1_S2x4x2048x2304_0_1_2_3 t))
def tot (e : FVec Ideal S2x4x2048x2304 .f32) : FVec Ideal S2x4x2048x1 .f32 :=
  broadcastInDim S2x4x2048x1 ![0, 1, 2] bcast_S2x4x2048_S2x4x2048x1_0_1_2
    (Host.reduceAdd e (constant S_ .f32 0#32) reducesTo_S2x4x2048x2304_S2x4x2048_d3 h_S_)
/-- The weights. -/
def prob (e : FVec Ideal S2x4x2048x2304 .f32) (t : FVec Ideal S2x4x2048x1 .f32) : FVec Ideal S2x4x2048x2304 .f32 :=
  Host.divf e (broadcastInDim S2x4x2048x2304 ![0, 1, 2, 3] bcast_S2x4x2048x1_S2x4x2048x2304_0_1_2_3 t)

variable (m : (ℓ : Loc nD τ sig) → Buf (Elt Ideal) ℓ) (c : Dev nD)

theorem L_eq : L m c
    = shapeCast S4096x512
        (broadcastInDim S2x2048x4x128 ![0, 1, 2, 3] bcast_S2x2048x4x1_S2x2048x4x128_0_1_2_3
          (transpose S2x2048x4x1 [0, 2, 1, 3]
            (addf (top (score (Q m c) (K m c)))
              (Host.log (tot (expo (score (Q m c) (K m c)) (top (score (Q m c) (K m c)))))))
            transposes_S2x4x2048x1_S2x2048x4x1_0_2_1_3))
        shapeCasts_S2x2048x4x128_S4096x512 := by
  show V m c main_v32 = _
  entry_read
  rfl

theorem O_eq : O m c
    = truncf .bf16 (shapeCast S4096x512
        (transpose S2x2048x4x128 [0, 3, 1, 2]
          (Host.dotGeneral dot_S2x2304x4x128_S2x4x2048x2304_S2x4x128x2048_1_3_3_2_02_01 none (v4 (W m c))
            (prob (expo (score (Q m c) (K m c)) (top (score (Q m c) (K m c))))
              (tot (expo (score (Q m c) (K m c)) (top (score (Q m c) (K m c)))))))
          transposes_S2x4x128x2048_S2x2048x4x128_0_3_1_2)
        shapeCasts_S2x2048x4x128_S4096x512) bitsLt_bf16_f32 := by
  show V m c main_v27 = _
  entry_read
  rfl

/-- The arguments are the real arrays `A`. -/
structure Real (A : Args) : Prop where
  q : ∀ i x, q (ix2 i x) = A.q i x
  k : ∀ i x, k (ix2 i x) = A.k i x
  v : ∀ i x, v (ix2 i x) = A.v i x

theorem q_at (b : Fin 2) (s : Fin 2048) (h : Fin 4) (x : Fin 256) : q4 q (ix4 b s h x) = q (ix2 (qry b s) (wide h x)) := by
  pointwise [q4]
  unfold qry wide; blk_ext []
theorem kc_at (b : Fin 2) (κ : Fin 256) (h : Fin 4) (x : Fin 256) : kc4 k (ix4 b κ h x) = k (ix2 (ctx b κ) (wide h x)) := by
  pointwise [kc4]
  unfold ctx wide; blk_ext []
theorem kl_at (b : Fin 2) (κ : Fin 2048) (h : Fin 4) (x : Fin 256) : kl4 k (ix4 b κ h x) = k (ix2 (lat b κ) (wide h x)) := by
  pointwise [kl4]
  unfold lat wide; blk_ext []
theorem k_at (b : Fin 2) (κ : Fin 2304) (h : Fin 4) (x : Fin 256) : k4 k (ix4 b κ h x) = k (ix2 (key b κ) (wide h x)) := by
  pointwise [k4]
  unfold key
  split
  · exact kc_at k b _ h x
  · exact kl_at k b _ h x
theorem vc_at (b : Fin 2) (κ : Fin 256) (h : Fin 4) (e : Fin 128) : vc4 v (ix4 b κ h e) = v (ix2 (ctx b κ) (narrow h e)) := by
  pointwise [vc4]
  unfold ctx narrow; blk_ext []
theorem vl_at (b : Fin 2) (κ : Fin 2048) (h : Fin 4) (e : Fin 128) : vl4 v (ix4 b κ h e) = v (ix2 (lat b κ) (narrow h e)) := by
  pointwise [vl4]
  unfold lat narrow; blk_ext []
theorem v_at (b : Fin 2) (κ : Fin 2304) (h : Fin 4) (e : Fin 128) : v4 v (ix4 b κ h e) = v (ix2 (key b κ) (narrow h e)) := by
  pointwise [v4]
  unfold key
  split
  · exact vc_at v b _ h e
  · exact vl_at v b _ h e

section
variable (y e : FVec Ideal S2x4x2048x2304 .f32) (t : FVec Ideal S2x4x2048x1 .f32) (b : Fin 2) (h : Fin 4) (s : Fin 2048)

theorem top_at : top y (ix4 b h s 0) = Finset.univ.fold max ⊥ fun κ : Fin 2304 => y (ix4 b h s κ) := by
  have hb : (Ideal.ofBits .f32 4286578688#32 : EReal) = ⊥ := by simp [Ideal.ofBits, Ideal.ieee]
  pointwise [top]
  rw [hb]
theorem expo_at (κ : Fin 2304) : expo y t (ix4 b h s κ) = Ideal.exp (y (ix4 b h s κ) - t (ix4 b h s 0)) := by
  pointwise [expo]
theorem tot_at : tot e (ix4 b h s 0) = ∑ κ : Fin 2304, e (ix4 b h s κ) := by
  pointwise [tot, zero_add]
theorem prob_at (κ : Fin 2304) : prob e t (ix4 b h s κ) = Ideal.div (e (ix4 b h s κ)) (t (ix4 b h s 0)) := by
  pointwise [prob]
end

variable {q k v} {A : Args} (H : Real q k v A)

theorem exq_qry (b : Fin 2) (s : Fin 2048) : exq (qry b s) = b := by unfold exq qry; apply Fin.ext; dsimp only; omega

include H

theorem score_at (b : Fin 2) (h : Fin 4) (s : Fin 2048) (κ : Fin 2304) : score q k (ix4 b h s κ) = (sc A h (qry b s) (key b κ) : EReal) := by
  pointwise [score]
  simp only [q_at, k_at, H.q, H.k]
  exact dot_coe _ _

theorem top_real (b : Fin 2) (h : Fin 4) (s : Fin 2048) : ∃ T : ℝ, top (score q k) (ix4 b h s 0) = (T : EReal) := by
  rw [top_at]
  exact fold_max_real _ ⟨0, Finset.mem_univ _⟩ _ fun κ => ⟨_, score_at H b h s κ⟩

/-- The logarithm of a row's sum. -/
theorem logsum_at (b : Fin 2) (h : Fin 4) (s : Fin 2048) :
    top (score q k) (ix4 b h s 0) + Ideal.log (tot (expo (score q k) (top (score q k))) (ix4 b h s 0))
    = ((Real.log (den A h (qry b s)) : ℝ) : EReal) := by
  obtain ⟨T, hT⟩ := top_real H b h s
  rw [tot_at]
  simp only [expo_at, hT, score_at H]
  refine (logsum_shift (fun κ : Fin 2304 => sc A h (qry b s) (key b κ)) T).trans ?_
  unfold den
  rw [exq_qry]

/-- The softmax. -/
theorem sm_at (b : Fin 2) (h : Fin 4) (s : Fin 2048) (κ : Fin 2304) :
    prob (expo (score q k) (top (score q k))) (tot (expo (score q k) (top (score q k)))) (ix4 b h s κ)
    = (sm A h (qry b s) (key b κ) : EReal) := by
  obtain ⟨T, hT⟩ := top_real H b h s
  rw [prob_at, tot_at]
  simp only [expo_at, hT, score_at H]
  refine (softmax_shift (fun κ : Fin 2304 => sc A h (qry b s) (key b κ)) T κ).trans ?_
  unfold sm den
  rw [exq_qry]

omit H in
/-- The two saved arrays, read. -/
theorem read_L (y : FVec Ideal S2x4x2048x1 .f32) (b : Fin 2) (h : Fin 4) (s : Fin 2048) (e : Fin 128) :
    shapeCast S4096x512 (broadcastInDim S2x2048x4x128 ![0, 1, 2, 3] bcast_S2x2048x4x1_S2x2048x4x128_0_1_2_3
      (transpose S2x2048x4x1 [0, 2, 1, 3] y transposes_S2x4x2048x1_S2x2048x4x1_0_2_1_3)) shapeCasts_S2x2048x4x128_S4096x512
      (ix2 (qry b s) (narrow h e)) = y (ix4 b h s 0) := by
  unfold qry narrow
  pointwise
omit H in
theorem read_O (y : FVec Ideal S2x4x128x2048 .f32) (b : Fin 2) (h : Fin 4) (s : Fin 2048) (e : Fin 128) :
    truncf .bf16 (shapeCast S4096x512 (transpose S2x2048x4x128 [0, 3, 1, 2] y transposes_S2x4x128x2048_S2x2048x4x128_0_3_1_2)
      shapeCasts_S2x2048x4x128_S4096x512) bitsLt_bf16_f32 (ix2 (qry b s) (narrow h e)) = y (ix4 b h e s) := by
  unfold qry narrow
  pointwise

theorem out_at (y : FVec Ideal S2x4x2048x2304 .f32) (b : Fin 2) (h : Fin 4) (s : Fin 2048) (e : Fin 128)
    (hy : ∀ κ, y (ix4 b h s κ) = (sm A h (qry b s) (key b κ) : EReal)) :
    Host.dotGeneral dot_S2x2304x4x128_S2x4x2048x2304_S2x4x128x2048_1_3_3_2_02_01 none (v4 v) y (ix4 b h e s)
    = (out A h (qry b s) e : EReal) := by
  pointwise
  simp only [v_at, H.v, hy]
  refine (dot_coe _ _).trans ?_
  unfold out
  rw [exq_qry]
omit H

theorem sum_apply (t l : FVec Ideal S2x4x2048x1 .f32) (j : S2x4x2048x1.Idx) : addf t (Host.log l) j = t j + Ideal.log (l j) := rfl

theorem read_sum (X : FVec Ideal S4096x512 .f32) (t l : FVec Ideal S2x4x2048x1 .f32)
    (hX : X = shapeCast S4096x512 (broadcastInDim S2x2048x4x128 ![0, 1, 2, 3] bcast_S2x2048x4x1_S2x2048x4x128_0_1_2_3
      (transpose S2x2048x4x1 [0, 2, 1, 3] (addf t (Host.log l)) transposes_S2x4x2048x1_S2x2048x4x1_0_2_1_3)) shapeCasts_S2x2048x4x128_S4096x512)
    (b : Fin 2) (h : Fin 4) (s : Fin 2048) (e : Fin 128) :
    X (ix2 (qry b s) (narrow h e)) = t (ix4 b h s 0) + Ideal.log (l (ix4 b h s 0)) := by
  subst hX
  exact (read_L _ b h s e).trans (sum_apply t l _)

theorem read_out (X : FVec Ideal S4096x512 .bf16) (y : FVec Ideal S2x4x128x2048 .f32)
    (hX : X = truncf .bf16 (shapeCast S4096x512 (transpose S2x2048x4x128 [0, 3, 1, 2] y transposes_S2x4x128x2048_S2x2048x4x128_0_3_1_2)
      shapeCasts_S2x2048x4x128_S4096x512) bitsLt_bf16_f32) (b : Fin 2) (h : Fin 4) (s : Fin 2048) (e : Fin 128) :
    X (ix2 (qry b s) (narrow h e)) = y (ix4 b h e s) := by
  subst hX
  exact read_O y b h s e

theorem L_at (H : Real (Q m c) (K m c) (W m c) A) (b : Fin 2) (h : Fin 4) (s : Fin 2048) (e : Fin 128) :
    L m c (ix2 (qry b s) (narrow h e)) = ((Real.log (den A h (qry b s)) : ℝ) : EReal) := by
  exact (read_sum (L m c) _ _ (L_eq m c) b h s e).trans (logsum_at H b h s)
theorem O_at (H : Real (Q m c) (K m c) (W m c) A) (b : Fin 2) (h : Fin 4) (s : Fin 2048) (e : Fin 128) :
    O m c (ix2 (qry b s) (narrow h e)) = (out A h (qry b s) e : EReal) := by
  exact (read_out (O m c) _ (O_eq m c) b h s e).trans (out_at H _ b h s e fun κ => sm_at H b h s κ)

end Cert.Proof.Host
-- ==== Proof.Reference.lean ====
/- What the reference computes, at arrays of real numbers: its softmax is the model's weight, its score gradient the model's, and its five results
   the products of these with the queries, the keys and the output's gradient. -/
module

public import proofs.«01_k».proof.Proof.Model
public import proofs.«01_k».proof.Proof.Gen.ReferenceIdeal.Read

@[expose] public section

set_option maxRecDepth 16384

noncomputable section

namespace Cert.Proof.Reference

open Cert.ReferenceIdeal Idealize.ShloMosaic Cert.ReferenceIdeal.Read
open Cert.Proof.Arrays Cert.Proof.Final Cert.Proof.Model

variable (q : FVec Ideal S4096x1024 .bf16) (k : FVec Ideal S4608x1024 .bf16) (v : FVec Ideal S4608x512 .bf16) (d : FVec Ideal S4096x1024 .bf16)

/-- The arguments are the real arrays `A`. -/
structure Real (A : Args) : Prop where
  q : ∀ i x, q (ix2 i x) = A.q i x
  k : ∀ i x, k (ix2 i x) = A.k i x
  v : ∀ i x, v (ix2 i x) = A.v i x
  d : ∀ i x, d (ix2 i x) = A.d i x

theorem q_at (b : Fin 2) (s : Fin 2048) (h : Fin 4) (x : Fin 256) :
    val_main_v9 (F := Ideal) q (ix4 b s h x) = q (ix2 (qry b s) (wide h x)) := by
  pointwise [val_main_v9, val_main_v0]
  unfold qry wide; blk_ext []
theorem kc_at (b : Fin 2) (κ : Fin 256) (h : Fin 4) (x : Fin 256) :
    val_main_v10 (F := Ideal) k (ix4 b κ h x) = k (ix2 (ctx b κ) (wide h x)) := by
  pointwise [val_main_v10, val_main_v6, val_main_v1]
  unfold ctx wide; blk_ext []
theorem kl_at (b : Fin 2) (κ : Fin 2048) (h : Fin 4) (x : Fin 256) :
    val_main_v11 (F := Ideal) k (ix4 b κ h x) = k (ix2 (lat b κ) (wide h x)) := by
  pointwise [val_main_v11, val_main_v5, val_main_v1]
  unfold lat wide; blk_ext []
theorem k_at (b : Fin 2) (κ : Fin 2304) (h : Fin 4) (x : Fin 256) :
    val_main_v12 (F := Ideal) k (ix4 b κ h x) = k (ix2 (key b κ) (wide h x)) := by
  pointwise [val_main_v12]
  unfold key
  split
  · exact kc_at k b _ h x
  · exact kl_at k b _ h x
theorem vc_at (b : Fin 2) (κ : Fin 256) (h : Fin 4) (e : Fin 128) :
    val_main_v13 (F := Ideal) v (ix4 b κ h e) = v (ix2 (ctx b κ) (narrow h e)) := by
  pointwise [val_main_v13, val_main_v8, val_main_v2]
  unfold ctx narrow; blk_ext []
theorem vl_at (b : Fin 2) (κ : Fin 2048) (h : Fin 4) (e : Fin 128) :
    val_main_v14 (F := Ideal) v (ix4 b κ h e) = v (ix2 (lat b κ) (narrow h e)) := by
  pointwise [val_main_v14, val_main_v7, val_main_v2]
  unfold lat narrow; blk_ext []
theorem v_at (b : Fin 2) (κ : Fin 2304) (h : Fin 4) (e : Fin 128) :
    val_main_v15 (F := Ideal) v (ix4 b κ h e) = v (ix2 (key b κ) (narrow h e)) := by
  pointwise [val_main_v15]
  unfold key
  split
  · exact vc_at v b _ h e
  · exact vl_at v b _ h e
theorem d_at (b : Fin 2) (h : Fin 4) (e : Fin 128) (s : Fin 2048) :
    val_main_v49 (F := Ideal) d (ix4 b h e s) = d (ix2 (qry b s) (mixed h e)) := by
  pointwise [val_main_v49, val_main_v48, val_main_v4, val_main_v3]
  unfold qry mixed; blk_ext []

/-- The row maximum, over any array of scores. -/
theorem max_at (y : FVec Ideal S2x4x2048x2304 .f32) (b : Fin 2) (h : Fin 4) (s : Fin 2048) :
    Host.reduce (FloatOps.maximumf (F := Ideal) (φ := .f32)) y (val_main_cst (F := Ideal)) Gen.reducesTo_S2x4x2048x2304_S2x4x2048_d3 Gen.h_S_ (ix3 b h s)
    = Finset.univ.fold max ⊥ fun κ : Fin 2304 => y (ix4 b h s κ) := by
  have hb : (Ideal.ofBits .f32 4286578688#32 : EReal) = ⊥ := by simp [Ideal.ofBits, Ideal.ieee]
  pointwise [val_main_cst]
  rw [hb]

variable {q k v d} {A : Args} (H : Real q k v d A)
include H

omit H in
theorem exq_qry (b : Fin 2) (s : Fin 2048) : exq (qry b s) = b := by unfold exq qry; apply Fin.ext; dsimp only; omega

theorem score_at (b : Fin 2) (h : Fin 4) (s : Fin 2048) (κ : Fin 2304) :
    val_main_v16 (F := Ideal) q k (ix4 b h s κ) = sc A h (qry b s) (key b κ) := by
  pointwise [val_main_v16]
  simp only [q_at, k_at, H.q, H.k]
  exact dot_coe _ _

theorem top_at (b : Fin 2) (h : Fin 4) (s : Fin 2048) : ∃ T : ℝ, val_main_v24 (F := Ideal) q k (ix3 b h s) = T := by
  have hb : (val_main_v23 (F := Ideal) (ix3 b h s) : EReal) = ⊥ := by
    rw [val_main_v23_apply, val_main_cst_1_apply]
    show Ideal.ofBits .f32 4286578688#32 = _
    simp [Ideal.ofBits, Ideal.ieee]
  obtain ⟨T, hT⟩ := fold_max_real (Finset.univ : Finset (Fin 2304)) ⟨0, Finset.mem_univ _⟩
    (fun κ => val_main_v16 (F := Ideal) q k (ix4 b h s κ)) fun κ => ⟨_, score_at H b h s κ⟩
  refine ⟨T, ?_⟩
  rw [val_main_v24_apply]
  refine (congrArg₂ max hb (max_at (val_main_v16 (F := Ideal) q k) b h s)).trans ?_
  rw [bot_sup_eq]
  exact hT

/-- The shifted exponentials. -/
theorem e_at (b : Fin 2) (h : Fin 4) (s : Fin 2048) (κ : Fin 2304) : val_main_v37 (F := Ideal) q k (ix4 b h s κ)
    = Ideal.exp ((sc A h (qry b s) (key b κ) : EReal) - val_main_v24 (F := Ideal) q k (ix3 b h s)) := by
  have e : idx_main_v34 (idx_main_v35 (ix4 b h s κ)) = ix3 b h s := by idx_ext <;> rfl
  rw [val_main_v37_apply, val_main_v36_apply, score_at H, val_main_v35_apply, val_main_v34_apply, e]
  generalize val_main_v24 (F := Ideal) q k (ix3 b h s) = T
  rfl

omit H in
/-- A row's sum, over any array. -/
theorem sum_at (y : FVec Ideal S2x4x2048x2304 .f32) (b : Fin 2) (h : Fin 4) (s : Fin 2048) :
    Host.reduceAdd (F := Ideal) y (val_main_cst_7 (F := Ideal)) Gen.reducesTo_S2x4x2048x2304_S2x4x2048_d3 Gen.h_S_ (ix3 b h s)
    = ∑ κ : Fin 2304, y (ix4 b h s κ) := by
  pointwise [val_main_cst_7, zero_add]

/-- Their sum. -/
theorem tot_at (b : Fin 2) (h : Fin 4) (s : Fin 2048) (j : S2x4x2048x1.Idx) (hj : j = ix4 b h s 0) : val_main_v39 (F := Ideal) q k j
    = ∑ κ : Fin 2304, Ideal.exp ((sc A h (qry b s) (key b κ) : EReal) - val_main_v24 (F := Ideal) q k (ix3 b h s)) := by
  subst hj
  rw [val_main_v39_apply]
  refine Eq.trans (congrArg (val_main_v38 (F := Ideal) q k) (?_ : _ = ix3 b h s)) ?_
  · idx_ext <;> rfl
  refine (sum_at (val_main_v37 (F := Ideal) q k) b h s).trans ?_
  simp only [e_at H]

/-- The softmax. -/
theorem sm_at (b : Fin 2) (h : Fin 4) (s : Fin 2048) (κ : Fin 2304) : val_main_v41 (F := Ideal) q k (ix4 b h s κ)
    = (sm A h (qry b s) (key b κ) : EReal) := by
  obtain ⟨T, hT⟩ := top_at H b h s
  rw [val_main_v41_apply, e_at H, val_main_v40_apply, tot_at H b h s _ (by idx_ext <;> rfl), hT]
  refine (softmax_shift (fun κ : Fin 2304 => sc A h (qry b s) (key b κ)) T κ).trans ?_
  unfold sm den
  rw [exq_qry]

/-- The gradient that reaches a weight. -/
theorem dp_at (b : Fin 2) (h : Fin 4) (s : Fin 2048) (κ : Fin 2304) : val_main_v50 (F := Ideal) v d (ix4 b h s κ)
    = (dp A h (qry b s) (key b κ) : EReal) := by
  pointwise [val_main_v50]
  simp only [d_at, v_at, H.d, H.v]
  exact dot_coe _ _

/-- The denominator's part of the derivative, the same for all keys of a row. -/
theorem rest_at (b : Fin 2) (h : Fin 4) (s : Fin 2048) (j : S2x4x2048.Idx) (hj : j = ix3 b h s) : val_main_v61 (F := Ideal) q k v d j
    = -(∑ κ : Fin 2304, (dp A h (qry b s) (key b κ) : EReal) * Ideal.div 1 (val_main_v39 (F := Ideal) q k (ix4 b h s 0) * val_main_v39 (F := Ideal) q k (ix4 b h s 0))
        * val_main_v37 (F := Ideal) q k (ix4 b h s κ)) := by
  subst hj
  have hz : (FloatOps.ofBits (F := Ideal) .f32 0x00000000#32 : EReal) = 0 := by simp [Ideal.ofBits, Ideal.ieee]
  have ho : (FloatOps.ofBits (F := Ideal) .f32 0x3F800000#32 : EReal) = 1 := Ideal.ofBits_one_f32
  rw [val_main_v61_apply, val_main_cst_10_apply, hz, zero_add, Fin.sum_univ_one, val_main_v58_apply, val_main_v57_apply, val_main_v56_apply,
    val_main_cst_9_apply, hz, zero_add]
  refine congrArg (fun x : EReal => -x) (Finset.sum_congr rfl fun κ _ => ?_)
  have e : idx_main_v56 (idx_main_v57 (idx_main_v61 (ix3 b h s) 0)) κ = ix4 b h s κ := by idx_ext <;> dsimp <;> omega
  rw [e, val_main_v55_apply, val_main_v54_apply, dp_at H, val_main_v53_apply, val_main_v44_apply, val_main_v42_apply, val_main_v43_apply,
    val_main_cst_8_apply, ho]
  have e' : idx_main_v53 (ix4 b h s κ) = ix4 b h s 0 := by idx_ext <;> rfl
  rw [e']
  rfl

/-- The gradient of a score. -/
theorem ds_at (b : Fin 2) (h : Fin 4) (s : Fin 2048) (κ : Fin 2304) : val_main_v64 (F := Ideal) q k v d (ix4 b h s κ)
    = (ds A h (qry b s) (key b κ) : EReal) := by
  obtain ⟨T, hT⟩ := top_at H b h s
  rw [val_main_v64_apply, val_main_v63_apply, val_main_v60_apply, val_main_v62_apply, dp_at H, val_main_v59_apply,
    rest_at H b h s _ (by idx_ext <;> rfl), tot_at H b h s _ (by idx_ext <;> rfl), tot_at H b h s _ rfl]
  simp only [e_at H, hT]
  refine (softmax_vjp (fun κ : Fin 2304 => sc A h (qry b s) (key b κ)) T (fun κ : Fin 2304 => dp A h (qry b s) (key b κ)) κ).trans ?_
  unfold ds mean sm den
  rw [exq_qry]

/-- The gradient of a query's feature. -/
theorem dq_at (b : Fin 2) (s : Fin 2048) (h : Fin 4) (x : Fin 256) : val_main_v78 (F := Ideal) q k v d (ix2 (qry b s) (wide h x))
    = ∑ κ : Fin 2304, (ds A h (qry b s) (key b κ) : EReal) * (A.k (key b κ) (wide h x) : EReal) := by
  rw [val_main_v78_apply, val_main_v77_apply, val_main_v68_apply]
  refine Eq.trans (congrArg (val_main_v67 (F := Ideal) q k v d) (?_ : _ = ix4 b h s x)) ?_
  · unfold qry wide; idx_ext <;> dsimp <;> omega
  pointwise [val_main_v67]
  simp only [ds_at H, k_at, H.k]

/-- The gradient of a key's feature, in the joined order. -/
theorem dk_at (b : Fin 2) (κ : Fin 2304) (h : Fin 4) (x : Fin 256) : val_main_v66 (F := Ideal) q k v d (ix4 b κ h x)
    = ∑ s : Fin 2048, (ds A h (qry b s) (key b κ) : EReal) * (A.q (qry b s) (wide h x) : EReal) := by
  rw [val_main_v66_apply]
  refine Eq.trans (congrArg (val_main_v65 (F := Ideal) q k v d) (?_ : _ = ix4 b h κ x)) ?_
  · idx_ext <;> rfl
  pointwise [val_main_v65]
  simp only [ds_at H, q_at, H.q]

/-- The gradient of a value's feature, in the joined order. -/
theorem dv_at (b : Fin 2) (κ : Fin 2304) (h : Fin 4) (e : Fin 128) : val_main_v52 (F := Ideal) q k d (ix4 b κ h e)
    = ∑ s : Fin 2048, (A.d (qry b s) (mixed h e) : EReal) * (sm A h (qry b s) (key b κ) : EReal) := by
  rw [val_main_v52_apply]
  refine Eq.trans (congrArg (val_main_v51 (F := Ideal) q k d) (?_ : _ = ix4 b h e κ)) ?_
  · idx_ext <;> rfl
  pointwise [val_main_v51]
  simp only [sm_at H, d_at, H.d]

/-- A latent key and a context key in the joined order. -/
def late (κ : Fin 2048) : Fin 2304 := ⟨256 + κ, by omega⟩
def early (κ : Fin 256) : Fin 2304 := ⟨κ, by omega⟩
omit H in
theorem key_late (b : Fin 2) (κ : Fin 2048) : key b (late κ) = lat b κ := by
  unfold key late; rw [dif_neg (by dsimp; omega)]; unfold lat; apply Fin.ext; dsimp; omega
omit H in
theorem key_early (b : Fin 2) (κ : Fin 256) : key b (early κ) = ctx b κ := by
  unfold key early; rw [dif_pos (by dsimp; omega)]

theorem dkl_at (b : Fin 2) (κ : Fin 2048) (h : Fin 4) (x : Fin 256) : val_main_v79 (F := Ideal) q k v d (ix2 (klat b κ) (wide h x))
    = ∑ s : Fin 2048, (ds A h (qry b s) (lat b κ) : EReal) * (A.q (qry b s) (wide h x) : EReal) := by
  rw [val_main_v79_apply, val_main_v75_apply, val_main_v74_apply]
  refine Eq.trans (congrArg (val_main_v66 (F := Ideal) q k v d) (?_ : _ = ix4 b (late κ) h x)) ?_
  · unfold klat wide late; idx_ext <;> dsimp <;> omega
  rw [dk_at H, key_late]
theorem dkc_at (b : Fin 2) (κ : Fin 256) (h : Fin 4) (x : Fin 256) : val_main_v80 (F := Ideal) q k v d (ix2 (kctx b κ) (wide h x))
    = ∑ s : Fin 2048, (ds A h (qry b s) (ctx b κ) : EReal) * (A.q (qry b s) (wide h x) : EReal) := by
  rw [val_main_v80_apply, val_main_v76_apply, val_main_v73_apply]
  refine Eq.trans (congrArg (val_main_v66 (F := Ideal) q k v d) (?_ : _ = ix4 b (early κ) h x)) ?_
  · unfold kctx wide early; idx_ext <;> dsimp <;> omega
  rw [dk_at H, key_early]
theorem dvl_at (b : Fin 2) (κ : Fin 2048) (h : Fin 4) (e : Fin 128) : val_main_v81 (F := Ideal) q k d (ix2 (klat b κ) (narrow h e))
    = ∑ s : Fin 2048, (A.d (qry b s) (mixed h e) : EReal) * (sm A h (qry b s) (lat b κ) : EReal) := by
  rw [val_main_v81_apply, val_main_v71_apply, val_main_v70_apply]
  refine Eq.trans (congrArg (val_main_v52 (F := Ideal) q k d) (?_ : _ = ix4 b (late κ) h e)) ?_
  · unfold klat narrow late; idx_ext <;> dsimp <;> omega
  rw [dv_at H, key_late]
theorem dvc_at (b : Fin 2) (κ : Fin 256) (h : Fin 4) (e : Fin 128) : val_main_v82 (F := Ideal) q k d (ix2 (kctx b κ) (narrow h e))
    = ∑ s : Fin 2048, (A.d (qry b s) (mixed h e) : EReal) * (sm A h (qry b s) (ctx b κ) : EReal) := by
  rw [val_main_v82_apply, val_main_v72_apply, val_main_v69_apply]
  refine Eq.trans (congrArg (val_main_v52 (F := Ideal) q k d) (?_ : _ = ix4 b (early κ) h e)) ?_
  · unfold kctx narrow early; idx_ext <;> dsimp <;> omega
  rw [dv_at H, key_early]

end Cert.Proof.Reference
-- ==== Proof.Equation.lean ====
/- The equation: at arrays of real numbers the kernel's five results are the reference's. The kernel recomputes a weight from the saved logarithm of
   its row's sum, and takes the mean of the weights' gradients from the saved output; both are the reference's own weight and mean. -/
module

public import proofs.«01_k».proof.Proof.Host
public import proofs.«01_k».proof.Proof.Reference

@[expose] public section

set_option maxRecDepth 16384

noncomputable section

namespace Cert.Proof.Equation

open Cert.KernelIdeal Cert.KernelIdeal.Gen Idealize.ShloMosaic
open Cert.Proof.Arrays Cert.Proof.Final Cert.Proof.Model

/-- The output's product with its gradient is the mean of the weights' gradients. -/
theorem out_mean (A : Args) (h : Fin 4) (i : Fin 4096) : ∑ e : Fin 128, A.d i (mixed h e) * out A h i e = mean A h i := by
  unfold mean out dp
  simp only [Finset.mul_sum]
  rw [Finset.sum_comm]
  refine Finset.sum_congr rfl fun κ _ => Finset.sum_congr rfl fun e _ => ?_
  ring

/-- A sum over the joined keys: the context's, then the latent keys' two halves. -/
theorem split_keys (f : Fin 4608 → EReal) (b : Fin 2) : ∑ κ : Fin 2304, f (key b κ)
    = (∑ κ : Fin 256, f (ctx b κ)) + (∑ κ : Fin 1024, f (lat b ⟨κ, by omega⟩)) + ∑ κ : Fin 1024, f (lat b ⟨1024 + κ, by omega⟩) := by
  have h1 : ∑ κ : Fin 2304, f (key b κ) = (∑ κ : Fin 256, f (ctx b κ)) + ∑ κ : Fin 2048, f (lat b κ) :=
    (Fin.sum_univ_two_halves 256 2048 rfl fun κ => f (key b κ)).trans (congrArg₂ (· + ·)
      (Finset.sum_congr rfl fun κ _ => congrArg f (Reference.key_early b κ)) (Finset.sum_congr rfl fun κ _ => congrArg f (Reference.key_late b κ)))
  rw [h1, add_assoc]
  exact congrArg _ (Fin.sum_univ_two_halves 1024 1024 rfl fun κ => f (lat b κ))

section
variable (q : FVec Ideal S4096x1024 .bf16) (k : FVec Ideal S4608x1024 .bf16) (v : FVec Ideal S4608x512 .bf16) (d : FVec Ideal S4096x1024 .bf16)
  (o : FVec Ideal S4096x512 .bf16) (l : FVec Ideal S4096x512 .f32) (A : Args)

/-- The arguments are the real arrays `A`, and the two saved arrays what the forward pass makes of them. -/
structure Saved : Prop where
  q : ∀ i x, q (ix2 i x) = A.q i x
  k : ∀ i x, k (ix2 i x) = A.k i x
  v : ∀ i x, v (ix2 i x) = A.v i x
  d : ∀ i x, d (ix2 i x) = A.d i x
  o : ∀ b s h e, o (ix2 (qry b s) (narrow h e)) = out A h (qry b s) e
  l : ∀ b s h e, l (ix2 (qry b s) (narrow h e)) = (Real.log (den A h (qry b s)) : ℝ)

variable {q k v d o l A} (S : Saved q k v d o l A)
include S

theorem wgt_at (h : Fin 4) (b : Fin 2) (s : Fin 2048) (ρ : Fin 4608) : wgt q k l h (qry b s) ρ = (sm A h (qry b s) ρ : EReal) := by
  unfold wgt
  simp only [S.q, S.k, S.l]
  rw [dot_coe, ← EReal.coe_sub, Ideal.exp_coe, Real.exp_sub, Real.exp_log (den_pos A h _)]
  rfl

theorem slp_at (h : Fin 4) (b : Fin 2) (s : Fin 2048) (ρ : Fin 4608) : slp q k v d o l h (qry b s) ρ = (ds A h (qry b s) ρ : EReal) := by
  unfold slp
  simp only [wgt_at S, S.d, S.v, S.o]
  rw [dot_coe, dot_coe, out_mean, ← EReal.coe_sub, ← EReal.coe_mul]
  rfl

theorem qGrad_at (h : Fin 4) (b : Fin 2) (s : Fin 2048) (x : Fin 256) : qGrad q k v d o l h b (qry b s) x
    = ∑ κ : Fin 2304, (ds A h (qry b s) (key b κ) : EReal) * (A.k (key b κ) (wide h x) : EReal) := by
  refine Eq.trans ?_ (split_keys (fun ρ => (ds A h (qry b s) ρ : EReal) * (A.k ρ (wide h x) : EReal)) b).symm
  unfold qGrad
  simp only [slp_at S, S.k]

theorem kGrad_at (h : Fin 4) (b : Fin 2) (ρ : Fin 4608) (x : Fin 256) : kGrad q k v d o l h b ρ x
    = ∑ s : Fin 2048, (ds A h (qry b s) ρ : EReal) * (A.q (qry b s) (wide h x) : EReal) :=
  Finset.sum_congr rfl fun s _ => by rw [slp_at S, S.q]

theorem vGrad_at (h : Fin 4) (b : Fin 2) (ρ : Fin 4608) (e : Fin 128) : vGrad q k d l h b ρ e
    = ∑ s : Fin 2048, (A.d (qry b s) (mixed h e) : EReal) * (sm A h (qry b s) ρ : EReal) :=
  Finset.sum_congr rfl fun s _ => by rw [wgt_at S, S.d, mul_comm]

theorem real : Reference.Real q k v d A := ⟨S.q, S.k, S.v, S.d⟩
end

/-- A row of a result is a row of an example, and a column a feature of a head. -/
theorem row_eq (i : Fin 4096) : ∃ b s, i = qry b s :=
  ⟨⟨i / 2048, by omega⟩, ⟨i % 2048, by omega⟩, by unfold qry; apply Fin.ext; dsimp only; omega⟩
theorem lat_eq (i : Fin 4096) : ∃ b s, i = klat b s :=
  ⟨⟨i / 2048, by omega⟩, ⟨i % 2048, by omega⟩, by unfold klat; apply Fin.ext; dsimp only; omega⟩
theorem ctx_eq (i : Fin 512) : ∃ b s, i = kctx b s :=
  ⟨⟨i / 256, by omega⟩, ⟨i % 256, by omega⟩, by unfold kctx; apply Fin.ext; dsimp only; omega⟩
theorem wide_eq (i : Fin 1024) : ∃ h x, i = wide h x :=
  ⟨⟨i / 256, by omega⟩, ⟨i % 256, by omega⟩, by unfold wide; apply Fin.ext; dsimp only; omega⟩
theorem narrow_eq (i : Fin 512) : ∃ h x, i = narrow h x :=
  ⟨⟨i / 128, by omega⟩, ⟨i % 128, by omega⟩, by unfold narrow; apply Fin.ext; dsimp only; omega⟩

section
variable {q : FVec Ideal S4096x1024 .bf16} {k : FVec Ideal S4608x1024 .bf16} {v : FVec Ideal S4608x512 .bf16} {d : FVec Ideal S4096x1024 .bf16}
  {o : FVec Ideal S4096x512 .bf16} {l : FVec Ideal S4096x512 .f32} {A : Args} (S : Saved q k v d o l A)
include S

theorem dq_at (i : Fin 4096) (j : Fin 1024) : qGrad q k v d o l (hw j) (exq i) i (fw j)
    = Cert.ReferenceIdeal.Read.val_main_v78 (F := Ideal) q k v d (ix2 i j) := by
  obtain ⟨b, s, rfl⟩ := row_eq i
  obtain ⟨h, x, rfl⟩ := wide_eq j
  rw [wide_hw, wide_fw, Host.exq_qry, qGrad_at S, Reference.dq_at (real S)]
theorem dkl_at (i : Fin 4096) (j : Fin 1024) : kGrad q k v d o l (hw j) (exq i) (kl i) (fw j)
    = Cert.ReferenceIdeal.Read.val_main_v79 (F := Ideal) q k v d (ix2 i j) := by
  obtain ⟨b, s, rfl⟩ := lat_eq i
  obtain ⟨h, x, rfl⟩ := wide_eq j
  rw [wide_hw, wide_fw, klat_ex, klat_kl, kGrad_at S, Reference.dkl_at (real S)]
theorem dkc_at (i : Fin 512) (j : Fin 1024) : kGrad q k v d o l (hw j) (exc i) (kc i) (fw j)
    = Cert.ReferenceIdeal.Read.val_main_v80 (F := Ideal) q k v d (ix2 i j) := by
  obtain ⟨b, s, rfl⟩ := ctx_eq i
  obtain ⟨h, x, rfl⟩ := wide_eq j
  rw [wide_hw, wide_fw, kctx_ex, kctx_kc, kGrad_at S, Reference.dkc_at (real S)]
theorem dvl_at (i : Fin 4096) (j : Fin 512) : vGrad q k d l (hn j) (exq i) (kl i) (fn j)
    = Cert.ReferenceIdeal.Read.val_main_v81 (F := Ideal) q k d (ix2 i j) := by
  obtain ⟨b, s, rfl⟩ := lat_eq i
  obtain ⟨h, x, rfl⟩ := narrow_eq j
  rw [narrow_hn, narrow_fn, klat_ex, klat_kl, vGrad_at S, Reference.dvl_at (real S)]
theorem dvc_at (i : Fin 512) (j : Fin 512) : vGrad q k d l (hn j) (exc i) (kc i) (fn j)
    = Cert.ReferenceIdeal.Read.val_main_v82 (F := Ideal) q k d (ix2 i j) := by
  obtain ⟨b, s, rfl⟩ := ctx_eq i
  obtain ⟨h, x, rfl⟩ := narrow_eq j
  rw [narrow_hn, narrow_fn, kctx_ex, kctx_kc, vGrad_at S, Reference.dvc_at (real S)]
end

variable (m : (ℓ : Loc nD τ sig) → Buf (Elt Ideal) ℓ) (c : Dev nD) {A : Args}
  (S : Saved (Q m c) (K m c) (W m c) (D m c) (O m c) (L m c) A)
include S

/-- The five arrays. -/
theorem dq : (dats m 0 c).arrAt 8 cfg0.N = Cert.ReferenceIdeal.Read.val_main_v78 (F := Ideal) (Q m c) (K m c) (W m c) (D m c) :=
  (final8 m c).trans (funext fun i => (dq_at S (i 0) (i 1)).trans (congrArg _ (ix2_eta i)))
theorem dkl : (dats m 0 c).arrAt 9 cfg0.N = Cert.ReferenceIdeal.Read.val_main_v79 (F := Ideal) (Q m c) (K m c) (W m c) (D m c) :=
  (final9 m c).trans (funext fun i => (dkl_at S (i 0) (i 1)).trans (congrArg _ (ix2_eta i)))
theorem dkc : (dats m 0 c).arrAt 10 cfg0.N = Cert.ReferenceIdeal.Read.val_main_v80 (F := Ideal) (Q m c) (K m c) (W m c) (D m c) :=
  (final10 m c).trans (funext fun i => (dkc_at S (i 0) (i 1)).trans (congrArg _ (ix2_eta i)))
theorem dvl : (dats m 0 c).arrAt 11 cfg0.N = Cert.ReferenceIdeal.Read.val_main_v81 (F := Ideal) (Q m c) (K m c) (D m c) :=
  (final11 m c).trans (funext fun i => (dvl_at S (i 0) (i 1)).trans (congrArg _ (ix2_eta i)))
theorem dvc : (dats m 0 c).arrAt 12 cfg0.N = Cert.ReferenceIdeal.Read.val_main_v82 (F := Ideal) (Q m c) (K m c) (D m c) :=
  (final12 m c).trans (funext fun i => (dvc_at S (i 0) (i 1)).trans (congrArg _ (ix2_eta i)))

end Cert.Proof.Equation
-- ==== Proof.PostModel.lean ====
/- The tokens after the attention, one token at a time and over the real numbers: the forward lines to the token's error, and the gradients back to
   the attention's output. A token is independent of the others but for the parameters' gradients, which are sums over tokens. -/
module

public import Idealize.ShloMosaic.Lib.IdealHost
public import Idealize.ShloMosaic.Lib.Pointwise

@[expose] public section

noncomputable section

namespace Cert.Proof.PostModel

open Idealize.ShloMosaic

/-- What the tokens of an example share: its modulation, the gains and the weights. -/
structure Params where
  gta : Fin 1024 → ℝ
  shf : Fin 1024 → ℝ
  scf : Fin 1024 → ℝ
  gtf : Fin 1024 → ℝ
  gffn : Fin 1024 → ℝ
  gfin : Fin 1024 → ℝ
  wo : Fin 1024 → Fin 1024 → ℝ
  w1 : Fin 1024 → Fin 4096 → ℝ
  w2 : Fin 4096 → Fin 1024 → ℝ

/-- One token: the two halves of the attention's output, the residual stream and the target. -/
structure Token where
  yr : Fin 512 → ℝ
  ym : Fin 512 → ℝ
  x : Fin 1024 → ℝ
  t : Fin 1024 → ℝ

/-- The small number under the root. -/
def eps : ℝ := 8796093 / 8796093022208
/-- The reciprocal root of a row's mean square. -/
def rs (z : Fin 1024 → ℝ) : ℝ := (Real.sqrt ((∑ d, z d * z d) / 1024 + eps))⁻¹
/-- The gradient of a row through its normalisation, `g` reaching the normalised row. -/
def back (z g : Fin 1024 → ℝ) (d : Fin 1024) : ℝ := rs z * (g d - z d * rs z * ((∑ k, g k * (z k * rs z)) / 1024))

variable (P : Params) (Y : Token)

def mix (k : Fin 1024) : ℝ := if h : k.val < 512 then Y.yr ⟨k, h⟩ else Y.ym ⟨k - 512, by omega⟩
def op (d : Fin 1024) : ℝ := ∑ k, mix Y k * P.wo k d
def xm (d : Fin 1024) : ℝ := Y.x d + P.gta d * op P Y d
def xh2 (d : Fin 1024) : ℝ := xm P Y d * rs (xm P Y)
def h2 (d : Fin 1024) : ℝ := xh2 P Y d * P.gffn d * (1 + P.scf d) + P.shf d
def ru (c : Fin 4096) : ℝ := max (∑ d, h2 P Y d * P.w1 d c) 0
def sq (c : Fin 4096) : ℝ := ru P Y c * ru P Y c
def f (d : Fin 1024) : ℝ := ∑ c, sq P Y c * P.w2 c d
def xo (d : Fin 1024) : ℝ := xm P Y d + P.gtf d * f P Y d
def xh3 (d : Fin 1024) : ℝ := xo P Y d * rs (xo P Y)
def err (d : Fin 1024) : ℝ := xh3 P Y d * P.gfin d - Y.t d
def dy (d : Fin 1024) : ℝ := err P Y d * (1 / 1024)
def dout (d : Fin 1024) : ℝ := back (xo P Y) (fun k => dy P Y k * P.gfin k) d
def df (d : Fin 1024) : ℝ := dout P Y d * P.gtf d
def da (c : Fin 4096) : ℝ := ∑ d, df P Y d * P.w2 c d
def du (c : Fin 4096) : ℝ := da P Y c * (2 * ru P Y c)
def dh (d : Fin 1024) : ℝ := ∑ c, du P Y c * P.w1 d c
def dxm (d : Fin 1024) : ℝ := dout P Y d + back (xm P Y) (fun k => dh P Y k * (1 + P.scf k) * P.gffn k) d
def dmo (d : Fin 1024) : ℝ := dxm P Y d * P.gta d
def dmix (k : Fin 1024) : ℝ := ∑ d, dmo P Y d * P.wo k d

/-- A token's part of the eight sums: the gradients of the shift, the scale, the two gates and the two gains, the squared error, nothing. -/
def part (j : Fin 8) (d : Fin 1024) : ℝ := match j with
  | 0 => dh P Y d
  | 1 => dh P Y d * xh2 P Y d * P.gffn d
  | 2 => dout P Y d * f P Y d
  | 3 => dxm P Y d * op P Y d
  | 4 => dh P Y d * (1 + P.scf d) * xh2 P Y d
  | 5 => dy P Y d * xh3 P Y d
  | 6 => err P Y d * err P Y d
  | 7 => 0

/-! ## Real numbers among the extended ones -/

/-- A sum of real numbers. -/
theorem coe_sum {ι : Type*} (s : Finset ι) (g : ι → ℝ) : (∑ i ∈ s, (g i : EReal)) = ((∑ i ∈ s, g i : ℝ) : EReal) :=
  (map_sum (⟨⟨Real.toEReal, EReal.coe_zero⟩, EReal.coe_add⟩ : ℝ →+ EReal) g s).symm

/-- A finite product sum. -/
theorem dot_coe {n : ℕ} (g h : Fin n → ℝ) : (∑ i, (g i : EReal) * (h i : EReal)) = ((∑ i, g i * h i : ℝ) : EReal) := by
  rw [← coe_sum]; exact Finset.sum_congr rfl fun i _ => (EReal.coe_mul _ _).symm

/-- The larger of two. -/
theorem max_coe (x y : ℝ) : max (x : EReal) (y : EReal) = ((max x y : ℝ) : EReal) :=
  (EReal.coe_strictMono.monotone.map_max).symm

theorem c1024 : Ideal.ofBits .f32 0x44800000#32 = ((1024 : ℝ) : EReal) := by
  simp [Ideal.ofBits, Ideal.ieee, -EReal.coe_mul]; norm_num
theorem ceps : Ideal.ofBits .f32 0x358637BD#32 = (eps : EReal) := by
  unfold eps
  simp [Ideal.ofBits, Ideal.ieee, -EReal.coe_mul]; norm_num
theorem cinv : Ideal.ofBits .f32 0x3A800000#32 = ((1 / 1024 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem cneg : Ideal.ofBits .f32 0xBF000000#32 = ((-(1 / 2) : ℝ) : EReal) := by
  simp [Ideal.ofBits, Ideal.ieee, -EReal.coe_mul, -EReal.coe_neg]; norm_num
theorem cone : Ideal.ofBits .f32 0x3F800000#32 = ((1 : ℝ) : EReal) := Ideal.ofBits_one_f32
theorem czero : Ideal.ofBits .f32 0x00000000#32 = ((0 : ℝ) : EReal) := Ideal.ofBits_zero_f32

/-- A quotient by 1024. -/
theorem div_coe' (x : ℝ) : Ideal.div (x : EReal) ((1024 : ℝ) : EReal) = ((x / 1024 : ℝ) : EReal) := by
  rw [Ideal.div_coe (by norm_num : (1024 : ℝ) ≠ 0), ← EReal.coe_mul]; congr 1; ring

theorem under_pos (z : Fin 1024 → ℝ) : 0 < (∑ d, z d * z d) / 1024 + eps := by
  have h : 0 ≤ ∑ d, z d * z d := Finset.sum_nonneg fun d _ => mul_self_nonneg _
  unfold eps; positivity

/-- The reciprocal root of a positive number. -/
theorem rsqrt_pos (x : ℝ) (h : 0 < x) : Ideal.rsqrt (x : EReal) = (((Real.sqrt x)⁻¹ : ℝ) : EReal) := by
  rw [Ideal.rsqrt_coe, if_neg (not_lt.2 h.le), if_neg h.ne']

/-- The kernel's reciprocal root. -/
theorem rs_coe (z : Fin 1024 → ℝ) : Ideal.rsqrt (((∑ d, z d * z d : ℝ) / 1024 : ℝ) + (eps : EReal)) = (rs z : EReal) := by
  rw [← EReal.coe_add, rsqrt_pos _ (under_pos z)]; rfl

/-- The differentiated root: half its negative over the number under it. -/
theorem slope_rs (z : Fin 1024 → ℝ) (u : ℝ) :
    u * (-(1 / 2) * (rs z / ((∑ d, z d * z d) / 1024 + eps))) / 1024 = -(1 / 2) * (rs z * rs z * rs z * u / 1024) := by
  have h := under_pos z
  have e : rs z * rs z = ((∑ d, z d * z d) / 1024 + eps)⁻¹ := by
    unfold rs; rw [← mul_inv, Real.mul_self_sqrt h.le]
  rw [div_eq_mul_inv (rs z), ← e]; ring

/-- The derivative of the normalisation as automatic differentiation writes it. -/
theorem back_eq (z g : Fin 1024 → ℝ) (d : Fin 1024) :
    g d * rs z + z d * ((∑ k, z k * g k) * (-(1 / 2) * (rs z / ((∑ d, z d * z d) / 1024 + eps))) / 1024)
      + (∑ k, z k * g k) * (-(1 / 2) * (rs z / ((∑ d, z d * z d) / 1024 + eps))) / 1024 * z d = back z g d := by
  rw [slope_rs]
  have e : (∑ k, g k * (z k * rs z)) = rs z * ∑ k, z k * g k := by
    rw [Finset.mul_sum]; exact Finset.sum_congr rfl fun k _ => by ring
  unfold back
  rw [e]; ring

/-- The rectifier's derivative. -/
theorem relu_grad (a u : ℝ) : (if 0 < u then a * (2 * max u 0) else 0) = a * (2 * max u 0) := by
  split_ifs with h
  · rfl
  · rw [max_eq_right (not_lt.1 h)]; ring

/-- A sum over 4096 columns, in eight pieces one after the other. -/
theorem sum_eight (g : Fin 4096 → ℝ) : ∑ c, g c
    = 0 + (∑ k : Fin 512, g ⟨k, by omega⟩) + (∑ k : Fin 512, g ⟨512 + k, by omega⟩) + (∑ k : Fin 512, g ⟨1024 + k, by omega⟩)
      + (∑ k : Fin 512, g ⟨1536 + k, by omega⟩) + (∑ k : Fin 512, g ⟨2048 + k, by omega⟩) + (∑ k : Fin 512, g ⟨2560 + k, by omega⟩)
      + (∑ k : Fin 512, g ⟨3072 + k, by omega⟩) + ∑ k : Fin 512, g ⟨3584 + k, by omega⟩ := by
  rw [Fin.sum_univ_tiles 8 512 rfl g, Fin.sum_univ_eight, zero_add]
  simp only [Fin.val_zero, zero_mul, zero_add]
  rfl

/-- A sum over 4096 columns, in four pieces. -/
theorem sum_four (g : Fin 4096 → ℝ) : ∑ c, g c
    = 0 + (∑ k : Fin 1024, g ⟨k, by omega⟩) + (∑ k : Fin 1024, g ⟨1024 + k, by omega⟩) + (∑ k : Fin 1024, g ⟨2048 + k, by omega⟩)
      + ∑ k : Fin 1024, g ⟨3072 + k, by omega⟩ := by
  rw [Fin.sum_univ_tiles 4 1024 rfl g, Fin.sum_univ_four, zero_add]
  simp only [Fin.val_zero, zero_mul, zero_add]
  rfl

/-- The two halves of the mixed row. -/
theorem op_halves (d : Fin 1024) :
    (∑ k : Fin 512, Y.yr k * P.wo ⟨k, by omega⟩ d) + (∑ k : Fin 512, Y.ym k * P.wo ⟨512 + k, by omega⟩ d) = op P Y d := by
  unfold op
  rw [Fin.sum_univ_two_halves 512 512 rfl]
  refine congrArg₂ (· + ·) (Finset.sum_congr rfl fun k _ => ?_) (Finset.sum_congr rfl fun k _ => ?_)
  · unfold mix; rw [dif_pos k.isLt]
  · unfold mix; rw [dif_neg (by simp)]; simp

end Cert.Proof.PostModel
-- ==== Proof.PostTile.lean ====
/- The steps of one grid point of the call, each as an equation between arrays of real numbers: a point holds 256 tokens `Y` of one example with
   parameters `P`, and each step's array is the model's quantity of those tokens. -/
module

public import proofs.«01_k».proof.Proof.Gen.PostIdeal.Skeleton
public import proofs.«01_k».proof.Proof.PostModel
public import Idealize.ShloMosaic.Lib.Pipeline.ValueKit
public import Idealize.ShloMosaic.Lib.Pointwise

@[expose] public section

set_option maxRecDepth 16384

noncomputable section

namespace Cert.Proof.PostTile

open Cert.PostIdeal Cert.PostIdeal.Gen Idealize.ShloMosaic Idealize.ShloMosaic.TcCoe Idealize.SL.Sem
open Cert.Proof.PostModel

/-! ## Arrays of real numbers in the point's shapes -/

def wide (g : Fin 256 → Fin 1024 → ℝ) : S256x1024.Idx → EReal := fun i => ((g (i 0) (i 1) : ℝ) : EReal)
def half (g : Fin 256 → Fin 512 → ℝ) : S256x512.Idx → EReal := fun i => ((g (i 0) (i 1) : ℝ) : EReal)
def col (g : Fin 256 → ℝ) : S256x1.Idx → EReal := fun i => ((g (i 0) : ℝ) : EReal)
def row (g : Fin 1024 → ℝ) : S1x1024.Idx → EReal := fun i => ((g (i 1) : ℝ) : EReal)
def lane (g : Fin 1024 → ℝ) : S1x1x1024.Idx → EReal := fun i => ((g (i 2) : ℝ) : EReal)
def tall (g : Fin 512 → Fin 1024 → ℝ) : S512x1024.Idx → EReal := fun i => ((g (i 0) (i 1) : ℝ) : EReal)
def slab (g : Fin 512 → Fin 1024 → ℝ) : S1x512x1024.Idx → EReal := fun i => ((g (i 1) (i 2) : ℝ) : EReal)
def cube (g : Fin 1024 → Fin 1024 → ℝ) : S1x1024x1024.Idx → EReal := fun i => ((g (i 1) (i 2) : ℝ) : EReal)
def square (g : Fin 1024 → Fin 1024 → ℝ) : S1024x1024.Idx → EReal := fun i => ((g (i 0) (i 1) : ℝ) : EReal)

/-- Column `c` of slab `s`. -/
def at4 (s : Fin 4) (c : Fin 1024) : Fin 4096 := ⟨1024 * s.val + c.val, by omega⟩
/-- A slab's first half. -/
def lo (k : Fin 512) : Fin 1024 := ⟨k.val, by omega⟩
/-- Its second half. -/
def hi (k : Fin 512) : Fin 1024 := ⟨512 + k.val, by omega⟩

variable (P : Params) (Y : Fin 256 → Token)

theorem pay2_eq (g : Fin 1024 → ℝ) : k0_pay2 (F := Ideal) (lane g) = row g := by
  funext i
  pointwise [k0_pay2, lane, row]
theorem pay3_eq (g : Fin 1024 → ℝ) : k0_pay3 (F := Ideal) (lane g) = row g := by
  funext i
  pointwise [k0_pay3, lane, row]
theorem pay4_eq (g : Fin 1024 → ℝ) : k0_pay4 (F := Ideal) (lane g) = row g := by
  funext i
  pointwise [k0_pay4, lane, row]
theorem pay5_eq (g : Fin 1024 → ℝ) : k0_pay5 (F := Ideal) (lane g) = row g := by
  funext i
  pointwise [k0_pay5, lane, row]

theorem pay6_eq : k0_pay6 (F := Ideal) (half fun n => (Y n).yr) (half fun n => (Y n).ym) (tall fun k d => P.wo (lo k) d) (tall fun k d => P.wo (hi k) d)
    = wide fun n => op P (Y n) := by
  funext i
  pointwise [k0_pay6, half, tall, wide, zero_add]
  rw [dot_coe, dot_coe, ← EReal.coe_add]
  exact congrArg _ (op_halves P (Y (i 0)) (i 1))

theorem pay7_eq : k0_pay7 (F := Ideal) (lane P.gta) (half fun n => (Y n).yr) (half fun n => (Y n).ym) (tall fun k d => P.wo (lo k) d) (tall fun k d => P.wo (hi k) d)
    (wide fun n => (Y n).x) = wide fun n => xm P (Y n) := by
  funext i
  pointwise [k0_pay7, pay2_eq, pay6_eq, row, wide]
  rfl

theorem pay8_eq : k0_pay8 (F := Ideal) (lane P.gta) (half fun n => (Y n).yr) (half fun n => (Y n).ym) (tall fun k d => P.wo (lo k) d) (tall fun k d => P.wo (hi k) d)
    (wide fun n => (Y n).x) = wide fun n d => xm P (Y n) d * xm P (Y n) d := by
  funext i
  pointwise [k0_pay8, pay7_eq, wide]
  rfl

/-- A sum over the columns, half slab by half slab. -/
theorem sum_halves (g : Fin 4096 → ℝ) : ∑ c, g c
    = 0 + (∑ k : Fin 512, g (at4 0 (lo k))) + (∑ k : Fin 512, g (at4 0 (hi k))) + (∑ k : Fin 512, g (at4 1 (lo k)))
      + (∑ k : Fin 512, g (at4 1 (hi k))) + (∑ k : Fin 512, g (at4 2 (lo k))) + (∑ k : Fin 512, g (at4 2 (hi k)))
      + (∑ k : Fin 512, g (at4 3 (lo k))) + ∑ k : Fin 512, g (at4 3 (hi k)) := by
  rw [sum_eight]
  have e (s : Fin 4) (p : Fin 512 → Fin 1024) (n : ℕ) (h : ∀ k : Fin 512, 1024 * s.val + (p k).val = n + k.val) (hn : n + 512 ≤ 4096) :
      (∑ k : Fin 512, g (at4 s (p k))) = ∑ k : Fin 512, g ⟨n + k.val, by omega⟩ :=
    Finset.sum_congr rfl fun k _ => congrArg g (Fin.ext (h k))
  have e0 : (∑ k : Fin 512, g (at4 0 (lo k))) = ∑ k : Fin 512, g ⟨k.val, by omega⟩ :=
    Finset.sum_congr rfl fun k _ => congrArg g (Fin.ext (Nat.zero_add _))
  rw [e0, e 0 hi 512 (fun k => by simp [hi]) (by omega), e 1 lo 1024 (fun k => by simp [lo]) (by omega),
    e 1 hi 1536 (fun k => by simp [hi]; omega) (by omega), e 2 lo 2048 (fun k => by simp [lo]) (by omega),
    e 2 hi 2560 (fun k => by simp [hi]; omega) (by omega), e 3 lo 3072 (fun k => by simp [lo]) (by omega),
    e 3 hi 3584 (fun k => by simp [hi]; omega) (by omega)]

/-- A sum over the columns, slab by slab. -/
theorem sum_slabs (g : Fin 4096 → ℝ) : ∑ c, g c
    = 0 + (∑ k : Fin 1024, g (at4 0 k)) + (∑ k : Fin 1024, g (at4 1 k)) + (∑ k : Fin 1024, g (at4 2 k)) + ∑ k : Fin 1024, g (at4 3 k) := by
  rw [sum_four]
  have e0 : (∑ k : Fin 1024, g (at4 0 k)) = ∑ k : Fin 1024, g ⟨k.val, by omega⟩ :=
    Finset.sum_congr rfl fun k _ => congrArg g (Fin.ext (Nat.zero_add _))
  rw [e0]
  rfl

/-- The second layer's sum after the first half slab, -/
def fA (Y : Token) (d : Fin 1024) : ℝ := ∑ k : Fin 512, sq P Y (at4 0 (lo k)) * P.w2 (at4 0 (lo k)) d
/-- after the second slab, -/
def fB (Y : Token) (d : Fin 1024) : ℝ := fA P Y d + (∑ k : Fin 512, sq P Y (at4 0 (hi k)) * P.w2 (at4 0 (hi k)) d)
  + (∑ k : Fin 512, sq P Y (at4 1 (lo k)) * P.w2 (at4 1 (lo k)) d) + ∑ k : Fin 512, sq P Y (at4 1 (hi k)) * P.w2 (at4 1 (hi k)) d
/-- and before the last half slab. -/
def fC (Y : Token) (d : Fin 1024) : ℝ := fB P Y d + (∑ k : Fin 512, sq P Y (at4 2 (lo k)) * P.w2 (at4 2 (lo k)) d)
  + (∑ k : Fin 512, sq P Y (at4 2 (hi k)) * P.w2 (at4 2 (hi k)) d) + ∑ k : Fin 512, sq P Y (at4 3 (lo k)) * P.w2 (at4 3 (lo k)) d
theorem f_last (Y : Token) (d : Fin 1024) : fC P Y d + (∑ k : Fin 512, sq P Y (at4 3 (hi k)) * P.w2 (at4 3 (hi k)) d) = f P Y d :=
  ((sum_halves fun c => sq P Y c * P.w2 c d).trans (by rw [zero_add]; rfl)).symm

/-- The first layer's gradient sum after the first slab, -/
def dhA (Y : Token) (d : Fin 1024) : ℝ := 0 + ∑ c : Fin 1024, du P Y (at4 0 c) * P.w1 d (at4 0 c)
/-- and after the third. -/
def dhB (Y : Token) (d : Fin 1024) : ℝ := dhA P Y d + (∑ c : Fin 1024, du P Y (at4 1 c) * P.w1 d (at4 1 c))
  + ∑ c : Fin 1024, du P Y (at4 2 c) * P.w1 d (at4 2 c)
theorem dh_last (Y : Token) (d : Fin 1024) : dhB P Y d + (∑ c : Fin 1024, du P Y (at4 3 c) * P.w1 d (at4 3 c)) = dh P Y d :=
  (sum_slabs fun c => du P Y c * P.w1 d c).symm

/-- The real mean square plus the small number, under the root. -/
theorem root (z : Fin 1024 → ℝ) :
    Ideal.rsqrt (Ideal.div (∑ x, ((z x * z x : ℝ) : EReal)) (Ideal.ofBits FTy.f32 0x44800000#32) + Ideal.ofBits FTy.f32 0x358637BD#32) = ((rs z : ℝ) : EReal) := by
  rw [coe_sum, c1024, div_coe', ceps]; exact rs_coe z

/-- The gradient through a normalisation as the call writes it. -/
theorem back_coe (z g : Fin 1024 → ℝ) (d : Fin 1024) :
    (rs z : EReal) * ((g d : EReal) - ((z d * rs z : ℝ) : EReal) * Ideal.div (∑ x, ((g x * (z x * rs z) : ℝ) : EReal)) (Ideal.ofBits FTy.f32 0x44800000#32))
      = ((back z g d : ℝ) : EReal) := by
  rw [coe_sum, c1024, div_coe']; rfl

/-- The gradient through the second normalisation, added to what passes it. -/
theorem mid_coe (Y : Token) (d : Fin 1024) :
    ((dout P Y d : ℝ) : EReal) + (rs (xm P Y) : EReal) * (((dh P Y d * (1 + P.scf d) * P.gffn d : ℝ) : EReal) - ((xh2 P Y d : ℝ) : EReal)
      * Ideal.div (∑ x, ((dh P Y x * (1 + P.scf x) * P.gffn x * xh2 P Y x : ℝ) : EReal)) (Ideal.ofBits FTy.f32 0x44800000#32))
      = ((dxm P Y d : ℝ) : EReal) :=
  congrArg ((dout P Y d : EReal) + ·) (back_coe (xm P Y) (fun k => dh P Y k * (1 + P.scf k) * P.gffn k) d)

/-- The gradient of a squared column, from the two half slabs' products. -/
theorem da_coe (Y : Token) (s : Fin 4) (c : Fin 1024) :
    (if h : c.val < 512 then ∑ x, (df P Y x : EReal) * (P.w2 (at4 s (lo ⟨c.val, h⟩)) x : EReal)
      else ∑ x, (df P Y x : EReal) * (P.w2 (at4 s (hi ⟨c.val - 512, by omega⟩)) x : EReal)) = ((da P Y (at4 s c) : ℝ) : EReal) := by
  split_ifs with h
  · exact dot_coe _ _
  · rw [dot_coe]
    have e : hi ⟨c.val - 512, by omega⟩ = c := Fin.ext (by simp only [hi]; omega)
    rw [e]; rfl

/-- The gradient of a column before the square. -/
theorem du_coe (Y : Token) (s : Fin 4) (c : Fin 1024) :
    (if h : c.val < 512 then ∑ x, (df P Y x : EReal) * (P.w2 (at4 s (lo ⟨c.val, h⟩)) x : EReal)
      else ∑ x, (df P Y x : EReal) * (P.w2 (at4 s (hi ⟨c.val - 512, by omega⟩)) x : EReal))
        * (Ideal.ofBits FTy.f32 0x40000000#32 * ((ru P Y (at4 s c) : ℝ) : EReal)) = ((du P Y (at4 s c) : ℝ) : EReal) := by
  rw [da_coe, c2]; rfl

/-- The eight rows of sums. -/
theorem stats_coe (j : Fin 8) (d : Fin 1024) :
    (if _h : (j : ℕ) < 1 then ((∑ x, dh P (Y x) d : ℝ) : EReal)
    else if _h : (j : ℕ) - 1 < 1 then ∑ x, ((dh P (Y x) d * xh2 P (Y x) d : ℝ) : EReal) * (P.gffn d : EReal)
    else if _h : (j : ℕ) - 1 - 1 < 1 then ∑ x, (dout P (Y x) d : EReal) * (f P (Y x) d : EReal)
    else if _h : (j : ℕ) - 1 - 1 - 1 < 1 then ∑ x, (dxm P (Y x) d : EReal) * (op P (Y x) d : EReal)
    else if _h : (j : ℕ) - 1 - 1 - 1 - 1 < 1 then ∑ x, (dh P (Y x) d : EReal) * (1 + (P.scf d : EReal)) * (xh2 P (Y x) d : EReal)
    else if _h : (j : ℕ) - 1 - 1 - 1 - 1 - 1 < 1 then ∑ x, (dy P (Y x) d : EReal) * (xh3 P (Y x) d : EReal)
    else if _h : (j : ℕ) - 1 - 1 - 1 - 1 - 1 - 1 < 1 then ∑ x, (err P (Y x) d : EReal) * (err P (Y x) d : EReal)
    else 0) = ((∑ n, part P (Y n) j d : ℝ) : EReal) := by
  match j with
  | 0 => rfl
  | 1 => exact coe_sum Finset.univ fun n => part P (Y n) 1 d
  | 2 => exact coe_sum Finset.univ fun n => part P (Y n) 2 d
  | 3 => exact coe_sum Finset.univ fun n => part P (Y n) 3 d
  | 4 => exact coe_sum Finset.univ fun n => part P (Y n) 4 d
  | 5 => exact coe_sum Finset.univ fun n => part P (Y n) 5 d
  | 6 => exact coe_sum Finset.univ fun n => part P (Y n) 6 d
  | 7 => exact (coe_sum Finset.univ fun n => part P (Y n) 7 d).symm.trans (Finset.sum_const_zero) |>.symm

/-- A mean over a row. -/
theorem mean (g : Fin 1024 → ℝ) : Ideal.div (∑ x, ((g x : ℝ) : EReal)) (Ideal.ofBits FTy.f32 0x44800000#32) = (((∑ x, g x) / 1024 : ℝ) : EReal) := by
  rw [coe_sum, c1024, div_coe']

theorem pay9_eq (z : Fin 256 → Fin 1024 → ℝ) : k0_pay9 (F := Ideal) (wide fun n d => z n d * z n d) = col fun n => rs (z n) := by
  funext i
  pointwise [k0_pay9, wide, col]
  exact root _

theorem pay10_eq : k0_pay10 (F := Ideal) (wide fun n => xm P (Y n)) (wide fun n d => xm P (Y n) d * xm P (Y n) d)
    = wide fun n => xh2 P (Y n) := by
  funext i
  pointwise [k0_pay10, pay9_eq (fun n => xm P (Y n)), wide, col]
  rfl

theorem pay11_eq : k0_pay11 (F := Ideal) (row P.shf) (row P.scf) (row P.gffn) (wide fun n => xm P (Y n)) (wide fun n d => xm P (Y n) d * xm P (Y n) d)
    = wide fun n => h2 P (Y n) := by
  funext i
  pointwise [k0_pay11, pay10_eq P Y, wide, row]
  rfl

theorem pay12_eq : k0_pay12 (F := Ideal) (row P.shf) (row P.scf) (row P.gffn) (wide fun n => xm P (Y n)) (wide fun n d => xm P (Y n) d * xm P (Y n) d) (cube fun d c => P.w1 d (at4 0 c))
    = wide fun n c => ru P (Y n) (at4 0 c) := by
  funext i
  pointwise [k0_pay12, pay11_eq P Y, wide, cube]
  rw [dot_coe]
  exact max_coe _ 0

theorem pay13_eq : k0_pay13 (F := Ideal) (row P.shf) (row P.scf) (row P.gffn) (wide fun n => xm P (Y n)) (wide fun n d => xm P (Y n) d * xm P (Y n) d) (cube fun d c => P.w1 d (at4 0 c))
    = wide fun n c => ru P (Y n) (at4 0 c) := by
  funext i
  pointwise [k0_pay13, pay12_eq P Y, wide]

theorem pay14_eq : k0_pay14 (F := Ideal) (row P.shf) (row P.scf) (row P.gffn) (wide fun n => xm P (Y n)) (wide fun n d => xm P (Y n) d * xm P (Y n) d) (cube fun d c => P.w1 d (at4 0 c))
    = wide fun n c => sq P (Y n) (at4 0 c) := by
  funext i
  pointwise [k0_pay14, pay12_eq P Y, wide]
  rfl

theorem pay15_eq : k0_pay15 (F := Ideal) (row P.shf) (row P.scf) (row P.gffn) (wide fun n => xm P (Y n)) (wide fun n d => xm P (Y n) d * xm P (Y n) d) (cube fun d c => P.w1 d (at4 0 c)) (slab fun k d => P.w2 (at4 0 (lo k)) d)
    = wide fun n => fA P (Y n) := by
  funext i
  pointwise [k0_pay15, pay14_eq P Y, wide, slab]
  rw [dot_coe]
  rfl

theorem pay16_eq : k0_pay16 (F := Ideal) (row P.shf) (row P.scf) (row P.gffn) (wide fun n => xm P (Y n)) (wide fun n d => xm P (Y n) d * xm P (Y n) d) (cube fun d c => P.w1 d (at4 0 c))
    = half fun n k => sq P (Y n) (at4 0 (hi k)) := by
  funext i
  pointwise [k0_pay16, pay14_eq P Y, wide, half]
  rfl

theorem pay17_eq : k0_pay17 (F := Ideal) (wide fun n => h2 P (Y n)) (cube fun d c => P.w1 d (at4 1 c))
    = wide fun n c => ru P (Y n) (at4 1 c) := by
  funext i
  pointwise [k0_pay17, wide, cube]
  rw [dot_coe]
  exact max_coe _ 0

theorem pay18_eq : k0_pay18 (F := Ideal) (wide fun n => h2 P (Y n)) (cube fun d c => P.w1 d (at4 1 c))
    = wide fun n c => ru P (Y n) (at4 1 c) := by
  funext i
  pointwise [k0_pay18, pay17_eq P Y, wide]

theorem pay19_eq : k0_pay19 (F := Ideal) (wide fun n => h2 P (Y n)) (cube fun d c => P.w1 d (at4 1 c))
    = wide fun n c => sq P (Y n) (at4 1 c) := by
  funext i
  pointwise [k0_pay19, pay17_eq P Y, wide]
  rfl

theorem pay24_eq : k0_pay24 (F := Ideal) (wide fun n => h2 P (Y n)) (cube fun d c => P.w1 d (at4 3 c))
    = wide fun n c => ru P (Y n) (at4 3 c) := by
  funext i
  pointwise [k0_pay24, wide, cube]
  rw [dot_coe]
  exact max_coe _ 0

theorem pay25_eq : k0_pay25 (F := Ideal) (wide fun n => h2 P (Y n)) (cube fun d c => P.w1 d (at4 3 c))
    = wide fun n c => ru P (Y n) (at4 3 c) := by
  funext i
  pointwise [k0_pay25, pay24_eq P Y, wide]

theorem pay26_eq : k0_pay26 (F := Ideal) (wide fun n => h2 P (Y n)) (cube fun d c => P.w1 d (at4 3 c))
    = wide fun n c => sq P (Y n) (at4 3 c) := by
  funext i
  pointwise [k0_pay26, pay24_eq P Y, wide]
  rfl

theorem pay21_eq : k0_pay21 (F := Ideal) (wide fun n => h2 P (Y n)) (cube fun d c => P.w1 d (at4 2 c))
    = wide fun n c => ru P (Y n) (at4 2 c) := by
  funext i
  pointwise [k0_pay21, wide, cube]
  rw [dot_coe]
  exact max_coe _ 0

theorem pay22_eq : k0_pay22 (F := Ideal) (wide fun n c => ru P (Y n) (at4 2 c))
    = wide fun n c => ru P (Y n) (at4 2 c) := by
  funext i
  pointwise [k0_pay22, wide]

theorem pay23_eq : k0_pay23 (F := Ideal) (wide fun n c => ru P (Y n) (at4 2 c))
    = wide fun n c => sq P (Y n) (at4 2 c) := by
  funext i
  pointwise [k0_pay23, wide]
  rfl

theorem pay20_eq : k0_pay20 (F := Ideal) (wide fun n => h2 P (Y n)) (wide fun n => fA P (Y n)) (half fun n k => sq P (Y n) (at4 0 (hi k))) (slab fun k d => P.w2 (at4 0 (hi k)) d) (cube fun d c => P.w1 d (at4 1 c)) (slab fun k d => P.w2 (at4 1 (lo k)) d) (slab fun k d => P.w2 (at4 1 (hi k)) d)
    = wide fun n => fB P (Y n) := by
  funext i
  pointwise [k0_pay20, pay19_eq P Y, wide, half, slab]
  rw [dot_coe, dot_coe, dot_coe]
  rfl

theorem pay27_eq : k0_pay27 (F := Ideal) (wide fun n => h2 P (Y n)) (wide fun n => fB P (Y n)) (wide fun n c => ru P (Y n) (at4 2 c)) (slab fun k d => P.w2 (at4 2 (lo k)) d) (slab fun k d => P.w2 (at4 2 (hi k)) d) (cube fun d c => P.w1 d (at4 3 c)) (slab fun k d => P.w2 (at4 3 (lo k)) d)
    = wide fun n => fC P (Y n) := by
  funext i
  pointwise [k0_pay27, pay23_eq P Y, pay26_eq P Y, wide, slab]
  rw [dot_coe, dot_coe, dot_coe]
  rfl

theorem pay28_eq : k0_pay28 (F := Ideal) (wide fun n => h2 P (Y n)) (cube fun d c => P.w1 d (at4 3 c))
    = half fun n k => sq P (Y n) (at4 3 (hi k)) := by
  funext i
  pointwise [k0_pay28, pay26_eq P Y, wide, half]
  rfl

theorem pay29_eq : k0_pay29 (F := Ideal) (wide fun n => fC P (Y n)) (half fun n k => sq P (Y n) (at4 3 (hi k))) (slab fun k d => P.w2 (at4 3 (hi k)) d)
    = wide fun n => f P (Y n) := by
  funext i
  pointwise [k0_pay29, wide, half, slab]
  rw [dot_coe, ← EReal.coe_add]
  exact congrArg _ (f_last P (Y (i 0)) (i 1))

theorem pay30_eq : k0_pay30 (F := Ideal) (row P.gtf) (wide fun n => xm P (Y n)) (wide fun n => fC P (Y n)) (half fun n k => sq P (Y n) (at4 3 (hi k))) (slab fun k d => P.w2 (at4 3 (hi k)) d)
    = wide fun n => xo P (Y n) := by
  funext i
  pointwise [k0_pay30, pay29_eq P Y, wide, row]
  rfl

theorem pay31_eq : k0_pay31 (F := Ideal) (row P.gtf) (wide fun n => xm P (Y n)) (wide fun n => fC P (Y n)) (half fun n k => sq P (Y n) (at4 3 (hi k))) (slab fun k d => P.w2 (at4 3 (hi k)) d)
    = col fun n => rs (xo P (Y n)) := by
  funext i
  pointwise [k0_pay31, pay30_eq P Y, wide, col]
  exact root _

theorem pay32_eq : k0_pay32 (F := Ideal) (row P.gtf) (wide fun n => xm P (Y n)) (wide fun n => fC P (Y n)) (half fun n k => sq P (Y n) (at4 3 (hi k))) (slab fun k d => P.w2 (at4 3 (hi k)) d)
    = wide fun n => xh3 P (Y n) := by
  funext i
  pointwise [k0_pay32, pay30_eq P Y, pay31_eq P Y, wide, col]
  rfl

theorem pay33_eq : k0_pay33 (F := Ideal) (row P.gtf) (row P.gfin) (wide fun n => xm P (Y n)) (wide fun n => fC P (Y n)) (half fun n k => sq P (Y n) (at4 3 (hi k))) (slab fun k d => P.w2 (at4 3 (hi k)) d) (wide fun n => (Y n).t)
    = wide fun n => err P (Y n) := by
  funext i
  pointwise [k0_pay33, pay32_eq P Y, wide, row]
  rfl

theorem pay34_eq : k0_pay34 (F := Ideal) (row P.gtf) (row P.gfin) (wide fun n => xm P (Y n)) (wide fun n => fC P (Y n)) (half fun n k => sq P (Y n) (at4 3 (hi k))) (slab fun k d => P.w2 (at4 3 (hi k)) d) (wide fun n => (Y n).t)
    = wide fun n => dy P (Y n) := by
  funext i
  pointwise [k0_pay34, pay33_eq P Y, wide]
  rw [cinv]
  rfl

theorem pay35_eq : k0_pay35 (F := Ideal) (row P.gtf) (row P.gfin) (wide fun n => xm P (Y n)) (wide fun n => fC P (Y n)) (half fun n k => sq P (Y n) (at4 3 (hi k))) (slab fun k d => P.w2 (at4 3 (hi k)) d) (wide fun n => (Y n).t)
    = wide fun n => dout P (Y n) := by
  funext i
  pointwise [k0_pay35, pay34_eq P Y, pay32_eq P Y, pay31_eq P Y, wide, row, col]
  exact back_coe (xo P (Y (i 0))) (fun k => dy P (Y (i 0)) k * P.gfin k) (i 1)

theorem pay36_eq : k0_pay36 (F := Ideal) (row P.gtf) (row P.gfin) (wide fun n => xm P (Y n)) (wide fun n => fC P (Y n)) (half fun n k => sq P (Y n) (at4 3 (hi k))) (slab fun k d => P.w2 (at4 3 (hi k)) d) (wide fun n => (Y n).t)
    = wide fun n => df P (Y n) := by
  funext i
  pointwise [k0_pay36, pay35_eq P Y, wide, row]
  rfl

theorem pay37_eq : k0_pay37 (F := Ideal)
    = wide fun _ _ => 0 := by
  funext i
  pointwise [k0_pay37, wide]
  rfl

theorem pay45_eq : k0_pay45 (F := Ideal)
    = wide fun _ _ => 2 := by
  funext i
  pointwise [k0_pay45, wide]
  exact c2

theorem pay38_eq (g : Fin 512 → Fin 1024 → ℝ) : k0_pay38 (F := Ideal) (slab g) = tall g := by
  funext i
  pointwise [k0_pay38, slab, tall]

theorem pay39_eq : k0_pay39 (F := Ideal) (wide fun n => df P (Y n)) (tall fun k d => P.w2 (at4 0 (lo k)) d) (slab fun k d => P.w2 (at4 0 (hi k)) d) (wide fun n c => ru P (Y n) (at4 0 c))
    = wide fun n c => du P (Y n) (at4 0 c) := by
  funext i
  pointwise [k0_pay39, wide, tall, slab]
  exact du_coe P (Y (i 0)) 0 (i 1)

theorem pay41_eq : k0_pay41 (F := Ideal) (wide fun n => df P (Y n)) (slab fun k d => P.w2 (at4 1 (lo k)) d) (slab fun k d => P.w2 (at4 1 (hi k)) d) (wide fun n c => ru P (Y n) (at4 1 c))
    = wide fun n c => du P (Y n) (at4 1 c) := by
  funext i
  pointwise [k0_pay41, wide, tall, slab]
  exact du_coe P (Y (i 0)) 1 (i 1)

theorem pay42_eq : k0_pay42 (F := Ideal) (wide fun n => df P (Y n)) (slab fun k d => P.w2 (at4 2 (lo k)) d) (slab fun k d => P.w2 (at4 2 (hi k)) d) (wide fun n c => ru P (Y n) (at4 2 c))
    = wide fun n c => du P (Y n) (at4 2 c) := by
  funext i
  pointwise [k0_pay42, wide, tall, slab]
  exact du_coe P (Y (i 0)) 2 (i 1)

theorem pay44_eq : k0_pay44 (F := Ideal) (wide fun n => df P (Y n)) (slab fun k d => P.w2 (at4 3 (lo k)) d) (slab fun k d => P.w2 (at4 3 (hi k)) d)
    = wide fun n c => da P (Y n) (at4 3 c) := by
  funext i
  pointwise [k0_pay44, wide, tall, slab]
  exact da_coe P (Y (i 0)) 3 (i 1)

theorem pay46_eq : k0_pay46 (F := Ideal) (wide fun n c => da P (Y n) (at4 3 c)) (wide fun n c => ru P (Y n) (at4 3 c)) (wide fun _ _ => 2)
    = wide fun n c => du P (Y n) (at4 3 c) := by
  funext i
  pointwise [k0_pay46, wide]
  rfl

theorem pay40_eq : k0_pay40 (F := Ideal) (wide fun n => df P (Y n)) (wide fun _ _ => 0) (tall fun k d => P.w2 (at4 0 (lo k)) d) (slab fun k d => P.w2 (at4 0 (hi k)) d) (wide fun n c => ru P (Y n) (at4 0 c)) (cube fun d c => P.w1 d (at4 0 c))
    = wide fun n => dhA P (Y n) := by
  funext i
  pointwise [k0_pay40, pay39_eq P Y, wide, cube]
  rw [dot_coe]
  rfl

theorem pay43_eq : k0_pay43 (F := Ideal) (wide fun n => df P (Y n)) (wide fun n => dhA P (Y n)) (wide fun n c => du P (Y n) (at4 1 c)) (cube fun d c => P.w1 d (at4 1 c)) (slab fun k d => P.w2 (at4 2 (lo k)) d) (slab fun k d => P.w2 (at4 2 (hi k)) d) (wide fun n c => ru P (Y n) (at4 2 c)) (cube fun d c => P.w1 d (at4 2 c))
    = wide fun n => dhB P (Y n) := by
  funext i
  pointwise [k0_pay43, pay42_eq P Y, wide, cube]
  rw [dot_coe, dot_coe]
  rfl

theorem pay47_eq : k0_pay47 (F := Ideal) (wide fun n => dhB P (Y n)) (wide fun n c => da P (Y n) (at4 3 c)) (wide fun n c => ru P (Y n) (at4 3 c)) (wide fun _ _ => 2) (cube fun d c => P.w1 d (at4 3 c))
    = wide fun n => dh P (Y n) := by
  funext i
  pointwise [k0_pay47, pay46_eq P Y, wide, cube]
  rw [dot_coe, ← EReal.coe_add]
  exact congrArg _ (dh_last P (Y (i 0)) (i 1))

theorem pay48_eq : k0_pay48 (F := Ideal) (row P.scf) (row P.gffn) (col fun n => rs (xm P (Y n))) (wide fun n => xh2 P (Y n)) (wide fun n => dout P (Y n)) (wide fun n => dhB P (Y n)) (wide fun n c => da P (Y n) (at4 3 c)) (wide fun n c => ru P (Y n) (at4 3 c)) (wide fun _ _ => 2) (cube fun d c => P.w1 d (at4 3 c))
    = wide fun n => dxm P (Y n) := by
  funext i
  pointwise [k0_pay48, pay47_eq P Y, wide, row, col]
  exact mid_coe P (Y (i 0)) (i 1)

theorem pay49_eq : k0_pay49 (F := Ideal) (row P.gta) (row P.scf) (row P.gffn) (col fun n => rs (xm P (Y n))) (wide fun n => xh2 P (Y n)) (wide fun n => dout P (Y n)) (wide fun n => dhB P (Y n)) (wide fun n c => da P (Y n) (at4 3 c)) (wide fun n c => ru P (Y n) (at4 3 c)) (wide fun _ _ => 2) (cube fun d c => P.w1 d (at4 3 c))
    = wide fun n => dmo P (Y n) := by
  funext i
  pointwise [k0_pay49, pay48_eq P Y, wide, row]
  rfl

theorem pay50_eq : k0_pay50 (F := Ideal) (row P.gta) (row P.scf) (row P.gffn) (col fun n => rs (xm P (Y n))) (wide fun n => xh2 P (Y n)) (wide fun n => dout P (Y n)) (wide fun n => dhB P (Y n)) (wide fun n c => da P (Y n) (at4 3 c)) (wide fun n c => ru P (Y n) (at4 3 c)) (wide fun _ _ => 2) (cube fun d c => P.w1 d (at4 3 c)) (square P.wo)
    = wide fun n => dmix P (Y n) := by
  funext i
  pointwise [k0_pay50, pay49_eq P Y, wide, square]
  rw [dot_coe]
  rfl

theorem pay51_eq : k0_pay51 (F := Ideal) (wide fun n => dhB P (Y n)) (wide fun n c => da P (Y n) (at4 3 c)) (wide fun n c => ru P (Y n) (at4 3 c)) (wide fun _ _ => 2) (cube fun d c => P.w1 d (at4 3 c))
    = row fun d => ∑ n, dh P (Y n) d := by
  funext i
  pointwise [k0_pay51, pay47_eq P Y, wide, row]
  rw [coe_sum]

theorem pay52_eq : k0_pay52 (F := Ideal) (wide fun n => xh2 P (Y n)) (wide fun n => dhB P (Y n)) (wide fun n c => da P (Y n) (at4 3 c)) (wide fun n c => ru P (Y n) (at4 3 c)) (wide fun _ _ => 2) (cube fun d c => P.w1 d (at4 3 c))
    = wide fun n d => dh P (Y n) d * xh2 P (Y n) d := by
  funext i
  pointwise [k0_pay52, pay47_eq P Y, wide]
  rfl

/-- Eight rows. -/
def oct (g : Fin 8 → Fin 1024 → ℝ) : S8x1024.Idx → EReal := fun i => ((g (i 0) (i 1) : ℝ) : EReal)
/-- Eight rows of one example. -/
def plane (g : Fin 8 → Fin 1024 → ℝ) : S1x8x1024.Idx → EReal := fun i => ((g (i 1) (i 2) : ℝ) : EReal)

/-- A later point adds its eight rows. -/
theorem pay1_eq (g h : Fin 8 → Fin 1024 → ℝ) : k0_pay1 (F := Ideal) (oct g) (plane h) = plane fun j d => h j d + g j d := by
  funext i
  pointwise [k0_pay1, plane, oct]
  rfl

theorem pay53_eq : k0_pay53 (F := Ideal) (row P.scf) (row P.gffn) (wide fun n => op P (Y n)) (wide fun n => xh2 P (Y n)) (wide fun n => f P (Y n)) (wide fun n => xh3 P (Y n)) (wide fun n => err P (Y n)) (wide fun n => dy P (Y n)) (wide fun n => dout P (Y n)) (wide fun n => dh P (Y n)) (wide fun n => dxm P (Y n)) (row fun d => ∑ n, dh P (Y n) d) (wide fun n d => dh P (Y n) d * xh2 P (Y n) d)
    = oct fun j d => ∑ n, part P (Y n) j d := by
  funext i
  pointwise [k0_pay53, wide, row, oct]
  exact stats_coe P Y (i 0) (i 1)

theorem pay54_eq : k0_pay54 (F := Ideal) (row P.scf) (row P.gffn) (wide fun n => op P (Y n)) (wide fun n => xh2 P (Y n)) (wide fun n => f P (Y n)) (wide fun n => xh3 P (Y n)) (wide fun n => err P (Y n)) (wide fun n => dy P (Y n)) (wide fun n => dout P (Y n)) (wide fun n => dh P (Y n)) (wide fun n => dxm P (Y n)) (row fun d => ∑ n, dh P (Y n) d) (wide fun n d => dh P (Y n) d * xh2 P (Y n) d)
    = plane fun j d => ∑ n, part P (Y n) j d := by
  funext i
  pointwise [k0_pay54, pay53_eq P Y, plane, oct]

end Cert.Proof.PostTile
-- ==== Proof.PostBlock.lean ====
/- What one grid point of the call leaves in its result tiles, when its inputs are real numbers. -/
module

public import proofs.«01_k».proof.Proof.PostTile
public import proofs.«01_k».proof.Proof.Gen.PostIdeal.Value
public import Idealize.ShloMosaic.Lib.Pipeline.ReadBack

@[expose] public section

set_option maxRecDepth 16384

noncomputable section

namespace Cert.Proof.PostBlock

open Cert.PostIdeal Cert.PostIdeal.Gen Idealize.ShloMosaic Idealize.ShloMosaic.TcCoe Idealize.SL.Sem
open Cert.Proof.PostModel Cert.Proof.PostTile

/-! ## Loads of a part -/

/-- The first layer's weights in four slabs of columns. -/
def slabs1 (P : Params) : S4x1024x1024.Idx → EReal := fun i => ((P.w1 (i 1) (at4 (i 0) (i 2)) : ℝ) : EReal)
/-- The second layer's weights: the first halves of the four slabs of rows, -/
def slabs2a (P : Params) : S4x512x1024.Idx → EReal := fun i => ((P.w2 (at4 (i 0) (lo (i 1))) (i 2) : ℝ) : EReal)
/-- and the second halves. -/
def slabs2b (P : Params) : S4x512x1024.Idx → EReal := fun i => ((P.w2 (at4 (i 0) (hi (i 1))) (i 2) : ℝ) : EReal)

variable (P : Params)

theorem ld_mod2 (M : Fin 8 → Fin 1024 → ℝ) (h : M 2 = P.gta) : View.ld (Val := Elt Ideal) (S := S1x8x1024) (e' := .f32) (plane M)
    (Rect.unit ![0, 2, 0] ![1, 1, 1024] inb_S1x8x1024_S1x1x1024_0_2_0) = lane P.gta := by
  rw [← h]
  funext i
  pointwise [plane, lane]

theorem ld_mod3 (M : Fin 8 → Fin 1024 → ℝ) (h : M 3 = P.shf) : View.ld (Val := Elt Ideal) (S := S1x8x1024) (e' := .f32) (plane M)
    (Rect.unit ![0, 3, 0] ![1, 1, 1024] inb_S1x8x1024_S1x1x1024_0_3_0) = lane P.shf := by
  rw [← h]
  funext i
  pointwise [plane, lane]

theorem ld_mod4 (M : Fin 8 → Fin 1024 → ℝ) (h : M 4 = P.scf) : View.ld (Val := Elt Ideal) (S := S1x8x1024) (e' := .f32) (plane M)
    (Rect.unit ![0, 4, 0] ![1, 1, 1024] inb_S1x8x1024_S1x1x1024_0_4_0) = lane P.scf := by
  rw [← h]
  funext i
  pointwise [plane, lane]

theorem ld_mod5 (M : Fin 8 → Fin 1024 → ℝ) (h : M 5 = P.gtf) : View.ld (Val := Elt Ideal) (S := S1x8x1024) (e' := .f32) (plane M)
    (Rect.unit ![0, 5, 0] ![1, 1, 1024] inb_S1x8x1024_S1x1x1024_0_5_0) = lane P.gtf := by
  rw [← h]
  funext i
  pointwise [plane, lane]

theorem ld_wo0 : View.ld (Val := Elt Ideal) (S := S1024x1024) (e' := .bf16) (square P.wo)
    (Rect.unit ![0, 0] ![512, 1024] inb_S1024x1024_S512x1024_0_0) = tall fun k d => P.wo (lo k) d := by
  funext i
  pointwise [square, tall, lo]

theorem ld_wo512 : View.ld (Val := Elt Ideal) (S := S1024x1024) (e' := .bf16) (square P.wo)
    (Rect.unit ![512, 0] ![512, 1024] inb_S1024x1024_S512x1024_512_0) = tall fun k d => P.wo (hi k) d := by
  funext i
  pointwise [square, tall, hi]

theorem ld_w1_0 : View.ld (Val := Elt Ideal) (S := S4x1024x1024) (e' := .bf16) (slabs1 P)
    (Rect.unit ![0, 0, 0] ![1, 1024, 1024] inb_S4x1024x1024_S1x1024x1024_0_0_0) = cube fun d c => P.w1 d (at4 0 c) := by
  funext i
  pointwise [slabs1, cube]

theorem ld_w2a_0 : View.ld (Val := Elt Ideal) (S := S4x512x1024) (e' := .bf16) (slabs2a P)
    (Rect.unit ![0, 0, 0] ![1, 512, 1024] inb_S4x512x1024_S1x512x1024_0_0_0) = slab fun k d => P.w2 (at4 0 (lo k)) d := by
  funext i
  pointwise [slabs2a, slab]

theorem ld_w2b_0 : View.ld (Val := Elt Ideal) (S := S4x512x1024) (e' := .bf16) (slabs2b P)
    (Rect.unit ![0, 0, 0] ![1, 512, 1024] inb_S4x512x1024_S1x512x1024_0_0_0) = slab fun k d => P.w2 (at4 0 (hi k)) d := by
  funext i
  pointwise [slabs2b, slab]

theorem ld_w1_1 : View.ld (Val := Elt Ideal) (S := S4x1024x1024) (e' := .bf16) (slabs1 P)
    (Rect.unit ![1, 0, 0] ![1, 1024, 1024] inb_S4x1024x1024_S1x1024x1024_1_0_0) = cube fun d c => P.w1 d (at4 1 c) := by
  funext i
  pointwise [slabs1, cube]

theorem ld_w2a_1 : View.ld (Val := Elt Ideal) (S := S4x512x1024) (e' := .bf16) (slabs2a P)
    (Rect.unit ![1, 0, 0] ![1, 512, 1024] inb_S4x512x1024_S1x512x1024_1_0_0) = slab fun k d => P.w2 (at4 1 (lo k)) d := by
  funext i
  pointwise [slabs2a, slab]

theorem ld_w2b_1 : View.ld (Val := Elt Ideal) (S := S4x512x1024) (e' := .bf16) (slabs2b P)
    (Rect.unit ![1, 0, 0] ![1, 512, 1024] inb_S4x512x1024_S1x512x1024_1_0_0) = slab fun k d => P.w2 (at4 1 (hi k)) d := by
  funext i
  pointwise [slabs2b, slab]

theorem ld_w1_2 : View.ld (Val := Elt Ideal) (S := S4x1024x1024) (e' := .bf16) (slabs1 P)
    (Rect.unit ![2, 0, 0] ![1, 1024, 1024] inb_S4x1024x1024_S1x1024x1024_2_0_0) = cube fun d c => P.w1 d (at4 2 c) := by
  funext i
  pointwise [slabs1, cube]

theorem ld_w2a_2 : View.ld (Val := Elt Ideal) (S := S4x512x1024) (e' := .bf16) (slabs2a P)
    (Rect.unit ![2, 0, 0] ![1, 512, 1024] inb_S4x512x1024_S1x512x1024_2_0_0) = slab fun k d => P.w2 (at4 2 (lo k)) d := by
  funext i
  pointwise [slabs2a, slab]

theorem ld_w2b_2 : View.ld (Val := Elt Ideal) (S := S4x512x1024) (e' := .bf16) (slabs2b P)
    (Rect.unit ![2, 0, 0] ![1, 512, 1024] inb_S4x512x1024_S1x512x1024_2_0_0) = slab fun k d => P.w2 (at4 2 (hi k)) d := by
  funext i
  pointwise [slabs2b, slab]

theorem ld_w1_3 : View.ld (Val := Elt Ideal) (S := S4x1024x1024) (e' := .bf16) (slabs1 P)
    (Rect.unit ![3, 0, 0] ![1, 1024, 1024] inb_S4x1024x1024_S1x1024x1024_3_0_0) = cube fun d c => P.w1 d (at4 3 c) := by
  funext i
  pointwise [slabs1, cube]

theorem ld_w2a_3 : View.ld (Val := Elt Ideal) (S := S4x512x1024) (e' := .bf16) (slabs2a P)
    (Rect.unit ![3, 0, 0] ![1, 512, 1024] inb_S4x512x1024_S1x512x1024_3_0_0) = slab fun k d => P.w2 (at4 3 (lo k)) d := by
  funext i
  pointwise [slabs2a, slab]

theorem ld_w2b_3 : View.ld (Val := Elt Ideal) (S := S4x512x1024) (e' := .bf16) (slabs2b P)
    (Rect.unit ![3, 0, 0] ![1, 512, 1024] inb_S4x512x1024_S1x512x1024_3_0_0) = slab fun k d => P.w2 (at4 3 (hi k)) d := by
  funext i
  pointwise [slabs2b, slab]

variable (m : (ℓ : Loc nD τ sig) → Buf (Elt Ideal) ℓ) (c : Dev nD) (t : Fin cfg0.N) (Y : Fin 256 → Token)

/-- The point's inputs are the real numbers of its tokens and parameters; `M` are the modulation's rows, of which four are read. -/
structure Inputs (M : Fin 8 → Fin 1024 → ℝ) : Prop where
  yr : (iblk m c 0 t : S256x512.Idx → EReal) = half fun n => (Y n).yr
  ym : (iblk m c 1 t : S256x512.Idx → EReal) = half fun n => (Y n).ym
  x : (iblk m c 2 t : S256x1024.Idx → EReal) = wide fun n => (Y n).x
  tgt : (iblk m c 3 t : S256x1024.Idx → EReal) = wide fun n => (Y n).t
  mod : (iblk m c 4 t : S1x8x1024.Idx → EReal) = plane M
  gta : M 2 = P.gta
  shf : M 3 = P.shf
  scf : M 4 = P.scf
  gtf : M 5 = P.gtf
  gffn : (iblk m c 5 t : S1x1024.Idx → EReal) = row P.gffn
  gfin : (iblk m c 6 t : S1x1024.Idx → EReal) = row P.gfin
  wo : (iblk m c 7 t : S1024x1024.Idx → EReal) = square P.wo
  w1 : (iblk m c 8 t : S4x1024x1024.Idx → EReal) = slabs1 P
  w2a : (iblk m c 9 t : S4x512x1024.Idx → EReal) = slabs2a P
  w2b : (iblk m c 10 t : S4x512x1024.Idx → EReal) = slabs2b P

/-- A tile's 4096 columns. -/
def broad (g : Fin 256 → Fin 4096 → ℝ) : S256x4096.Idx → EReal := fun i => ((g (i 0) (i 1) : ℝ) : EReal)

/-- A slab's columns among the tile's. -/
theorem broad_piece (g : Fin 256 → Fin 4096 → ℝ) (s : Fin 4) (x : S256x1024.Idx) (y : S256x4096.Idx) (h0 : (y 0 : ℕ) = x 0)
    (h1 : (y 1 : ℕ) = 1024 * s.val + x 1) : wide (fun n c => g n (at4 s c)) x = broad g y := by
  have a : (y 0 : Fin 256) = (x 0 : Fin 256) := Fin.ext h0
  have b : (y 1 : Fin 4096) = at4 s (x 1 : Fin 1024) := Fin.ext h1
  exact (congrArg₂ (fun a b => ((g a b : ℝ) : EReal)) a b).symm

theorem mix_at_lo (Y : Token) (k : Fin 512) : mix Y (lo k) = Y.yr k := by
  unfold mix lo; exact dif_pos k.isLt
theorem mix_at_hi (Y : Token) (k : Fin 512) : mix Y (hi k) = Y.ym k := by
  unfold mix hi
  rw [dif_neg (by simp only; omega)]
  exact congrArg Y.ym (Fin.ext (by simp))

/-- The mixed row's first half, -/
theorem mix_lo (Y : Fin 256 → Token) (x : S256x512.Idx) (y : S256x1024.Idx) (h0 : (y 0 : ℕ) = x 0) (h1 : (y 1 : ℕ) = x 1) :
    half (fun n => (Y n).yr) x = wide (fun n => mix (Y n)) y := by
  have a : (y 0 : Fin 256) = (x 0 : Fin 256) := Fin.ext h0
  have b : (y 1 : Fin 1024) = lo (x 1 : Fin 512) := Fin.ext h1
  exact ((congrArg₂ (fun a b => ((mix (Y a) b : ℝ) : EReal)) a b).trans (congrArg _ (mix_at_lo (Y (x 0 : Fin 256)) (x 1 : Fin 512)))).symm
/-- and its second half. -/
theorem mix_hi (Y : Fin 256 → Token) (x : S256x512.Idx) (y : S256x1024.Idx) (h0 : (y 0 : ℕ) = x 0) (h1 : (y 1 : ℕ) = 512 + x 1) :
    half (fun n => (Y n).ym) x = wide (fun n => mix (Y n)) y := by
  have a : (y 0 : Fin 256) = (x 0 : Fin 256) := Fin.ext h0
  have b : (y 1 : Fin 1024) = hi (x 1 : Fin 512) := Fin.ext h1
  exact ((congrArg₂ (fun a b => ((mix (Y a) b : ℝ) : EReal)) a b).trans (congrArg _ (mix_at_hi (Y (x 0 : Fin 256)) (x 1 : Fin 512)))).symm

variable {P m c t Y} {M : Fin 8 → Fin 1024 → ℝ} (H : Inputs P m c t Y M)
include H

theorem tile14_A (h0 : t.val % 8 = 0) (h1 : ¬¬(t.val % 8 = 0)) (y : S256x1024.Idx) :
    (outsAt0 m c t.val t.isLt).2.2.2.1 y = wide (fun n => h2 P (Y n)) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile15_A (h0 : t.val % 8 = 0) (h1 : ¬¬(t.val % 8 = 0)) (y : S256x1024.Idx) :
    (outsAt0 m c t.val t.isLt).2.2.2.2.1 y = wide (fun n => df P (Y n)) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile16_A (h0 : t.val % 8 = 0) (h1 : ¬¬(t.val % 8 = 0)) (y : S256x1024.Idx) :
    (outsAt0 m c t.val t.isLt).2.2.2.2.2.1 y = wide (fun n => dmo P (Y n)) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile17_A (h0 : t.val % 8 = 0) (h1 : ¬¬(t.val % 8 = 0)) (y : S256x1024.Idx) :
    (outsAt0 m c t.val t.isLt).2.2.2.2.2.2.1 y = wide (fun n => dmix P (Y n)) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile18_A (h0 : t.val % 8 = 0) (h1 : ¬¬(t.val % 8 = 0)) (y : S256x1024.Idx) :
    (outsAt0 m c t.val t.isLt).2.2.2.2.2.2.2.1 y = wide (fun n => dxm P (Y n)) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile11_A (h0 : t.val % 8 = 0) (h1 : ¬¬(t.val % 8 = 0)) (y : S256x1024.Idx) :
    (outsAt0 m c t.val t.isLt).1 y = wide (fun n => mix (Y n)) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]
  canon_tiles x h
  · exact mix_hi Y x y h0 h1
  · exact mix_lo Y x y h0 h1

theorem tile12_A (h0 : t.val % 8 = 0) (h1 : ¬¬(t.val % 8 = 0)) (y : S256x4096.Idx) :
    (outsAt0 m c t.val t.isLt).2.1 y = broad (fun n => sq P (Y n)) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]
  canon_tiles x h
  · exact broad_piece (fun n => sq P (Y n)) 3 x y h0 h1
  · exact broad_piece (fun n => sq P (Y n)) 2 x y h0 h1
  · exact broad_piece (fun n => sq P (Y n)) 1 x y h0 h1
  · exact broad_piece (fun n => sq P (Y n)) 0 x y h0 (h1.trans (Nat.zero_add _).symm)

theorem tile13_A (h0 : t.val % 8 = 0) (h1 : ¬¬(t.val % 8 = 0)) (y : S256x4096.Idx) :
    (outsAt0 m c t.val t.isLt).2.2.1 y = broad (fun n => du P (Y n)) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]
  canon_tiles x h
  · exact broad_piece (fun n => du P (Y n)) 3 x y h0 h1
  · exact broad_piece (fun n => du P (Y n)) 2 x y h0 h1
  · exact broad_piece (fun n => du P (Y n)) 1 x y h0 h1
  · exact broad_piece (fun n => du P (Y n)) 0 x y h0 (h1.trans (Nat.zero_add _).symm)

theorem tile14_B (h0 : ¬t.val % 8 = 0) (h1 : ¬(t.val % 8 = 0)) (y : S256x1024.Idx) :
    (outsAt0 m c t.val t.isLt).2.2.2.1 y = wide (fun n => h2 P (Y n)) y := by
  rw [outsAt0_B m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile15_B (h0 : ¬t.val % 8 = 0) (h1 : ¬(t.val % 8 = 0)) (y : S256x1024.Idx) :
    (outsAt0 m c t.val t.isLt).2.2.2.2.1 y = wide (fun n => df P (Y n)) y := by
  rw [outsAt0_B m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile16_B (h0 : ¬t.val % 8 = 0) (h1 : ¬(t.val % 8 = 0)) (y : S256x1024.Idx) :
    (outsAt0 m c t.val t.isLt).2.2.2.2.2.1 y = wide (fun n => dmo P (Y n)) y := by
  rw [outsAt0_B m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile17_B (h0 : ¬t.val % 8 = 0) (h1 : ¬(t.val % 8 = 0)) (y : S256x1024.Idx) :
    (outsAt0 m c t.val t.isLt).2.2.2.2.2.2.1 y = wide (fun n => dmix P (Y n)) y := by
  rw [outsAt0_B m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile18_B (h0 : ¬t.val % 8 = 0) (h1 : ¬(t.val % 8 = 0)) (y : S256x1024.Idx) :
    (outsAt0 m c t.val t.isLt).2.2.2.2.2.2.2.1 y = wide (fun n => dxm P (Y n)) y := by
  rw [outsAt0_B m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile11_B (h0 : ¬t.val % 8 = 0) (h1 : ¬(t.val % 8 = 0)) (y : S256x1024.Idx) :
    (outsAt0 m c t.val t.isLt).1 y = wide (fun n => mix (Y n)) y := by
  rw [outsAt0_B m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]
  canon_tiles x h
  · exact mix_hi Y x y h0 h1
  · exact mix_lo Y x y h0 h1

theorem tile12_B (h0 : ¬t.val % 8 = 0) (h1 : ¬(t.val % 8 = 0)) (y : S256x4096.Idx) :
    (outsAt0 m c t.val t.isLt).2.1 y = broad (fun n => sq P (Y n)) y := by
  rw [outsAt0_B m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]
  canon_tiles x h
  · exact broad_piece (fun n => sq P (Y n)) 3 x y h0 h1
  · exact broad_piece (fun n => sq P (Y n)) 2 x y h0 h1
  · exact broad_piece (fun n => sq P (Y n)) 1 x y h0 h1
  · exact broad_piece (fun n => sq P (Y n)) 0 x y h0 (h1.trans (Nat.zero_add _).symm)

theorem tile13_B (h0 : ¬t.val % 8 = 0) (h1 : ¬(t.val % 8 = 0)) (y : S256x4096.Idx) :
    (outsAt0 m c t.val t.isLt).2.2.1 y = broad (fun n => du P (Y n)) y := by
  rw [outsAt0_B m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]
  canon_tiles x h
  · exact broad_piece (fun n => du P (Y n)) 3 x y h0 h1
  · exact broad_piece (fun n => du P (Y n)) 2 x y h0 h1
  · exact broad_piece (fun n => du P (Y n)) 1 x y h0 h1
  · exact broad_piece (fun n => du P (Y n)) 0 x y h0 (h1.trans (Nat.zero_add _).symm)

theorem tile19_A (h0 : t.val % 8 = 0) (h1 : ¬¬(t.val % 8 = 0)) (y : S1x8x1024.Idx) :
    (outsAt0 m c t.val t.isLt).2.2.2.2.2.2.2.2 y = plane (fun j d => ∑ n, part P (Y n) j d) y := by
  rw [outsAt0_A m c t h0 h1]
  frame_out
  simp (disch := decide) only [View.readCov_cons_toLoadRect, View.readCov_skip, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y]

theorem tile19_B (g : Fin 8 → Fin 1024 → ℝ) (h0 : ¬t.val % 8 = 0) (h1 : ¬(t.val % 8 = 0))
    (hg : ((outsAt0 m c (t.val - 1) (Nat.lt_of_le_of_lt (Nat.sub_le _ _) t.isLt)).2.2.2.2.2.2.2.2 : S1x8x1024.Idx → EReal) = plane g) (y : S1x8x1024.Idx) :
    (outsAt0 m c t.val t.isLt).2.2.2.2.2.2.2.2 y = plane (fun j d => g j d + ∑ n, part P (Y n) j d) y := by
  rw [outsAt0_B m c t h0 h1]
  frame_out
  simp (disch := decide) only [View.readCov_cons_toLoadRect, View.readCov_skip, hg, H.yr, H.ym, H.x, H.tgt, H.mod, H.gffn, H.gfin, H.wo, H.w1, H.w2a, H.w2b, ld_mod2 P M H.gta, ld_mod3 P M H.shf, ld_mod4 P M H.scf, ld_mod5 P M H.gtf, ld_wo0, ld_wo512, ld_w1_0, ld_w2a_0, ld_w2b_0, ld_w1_1, ld_w2a_1, ld_w2b_1, ld_w1_2, ld_w2a_2, ld_w2b_2, ld_w1_3, ld_w2a_3, ld_w2b_3, pay1_eq, pay2_eq, pay3_eq, pay4_eq, pay5_eq, pay6_eq P Y, pay7_eq P Y, pay8_eq P Y, pay9_eq (fun n => xm P (Y n)), pay10_eq P Y, pay11_eq P Y, pay12_eq P Y, pay13_eq P Y, pay14_eq P Y, pay15_eq P Y, pay16_eq P Y, pay17_eq P Y, pay18_eq P Y, pay19_eq P Y, pay20_eq P Y, pay21_eq P Y, pay22_eq P Y, pay23_eq P Y, pay24_eq P Y, pay25_eq P Y, pay26_eq P Y, pay27_eq P Y, pay28_eq P Y, pay29_eq P Y, pay30_eq P Y, pay31_eq P Y, pay32_eq P Y, pay33_eq P Y, pay34_eq P Y, pay35_eq P Y, pay36_eq P Y, pay37_eq, pay38_eq, pay39_eq P Y, pay40_eq P Y, pay41_eq P Y, pay42_eq P Y, pay43_eq P Y, pay44_eq P Y, pay45_eq, pay46_eq P Y, pay47_eq P Y, pay48_eq P Y, pay49_eq P Y, pay50_eq P Y, pay51_eq P Y, pay52_eq P Y, pay53_eq P Y, pay54_eq P Y, pay1_eq]

end Cert.Proof.PostBlock
-- ==== Proof.PostReference.lean ====
/- What the reference computes, at arrays of real numbers: each of its arrays holds the model's number of the token. -/
module

public import proofs.«01_k».proof.Proof.PostModel
public import proofs.«01_k».proof.Proof.Gen.PostReferenceIdeal.Read

@[expose] public section

set_option maxRecDepth 16384

noncomputable section

namespace Cert.Proof.PostReference

open Cert.PostReferenceIdeal Idealize.ShloMosaic Cert.PostReferenceIdeal.Read
open Cert.Proof.PostModel

/-- Real arrays under the ten arguments. -/
structure Args where
  yr : Fin 4096 → Fin 512 → ℝ
  ym : Fin 4096 → Fin 512 → ℝ
  x : Fin 4096 → Fin 1024 → ℝ
  t : Fin 4096 → Fin 1024 → ℝ
  mod : Fin 3 → Fin 6144 → ℝ
  gffn : Fin 1024 → ℝ
  gfin : Fin 1024 → ℝ
  wo : Fin 1024 → Fin 1024 → ℝ
  w1 : Fin 1024 → Fin 4096 → ℝ
  w2 : Fin 4096 → Fin 1024 → ℝ

/-- What example `b`'s tokens share. -/
def Args.par (A : Args) (b : Fin 2) : Params where
  gta d := A.mod ⟨b, by omega⟩ ⟨2048 + d, by omega⟩
  shf d := A.mod ⟨b, by omega⟩ ⟨3072 + d, by omega⟩
  scf d := A.mod ⟨b, by omega⟩ ⟨4096 + d, by omega⟩
  gtf d := A.mod ⟨b, by omega⟩ ⟨5120 + d, by omega⟩
  gffn := A.gffn
  gfin := A.gfin
  wo := A.wo
  w1 := A.w1
  w2 := A.w2

/-- Token `n`. -/
def Args.tok (A : Args) (n : Fin 4096) : Token where
  yr := A.yr n
  ym := A.ym n
  x := A.x n
  t := A.t n

/-- Token `s` of example `b`. -/
def pos (b : Fin 2) (s : Fin 2048) : Fin 4096 := ⟨b * 2048 + s, by omega⟩

variable (x0 x1 : FVec Ideal S4096x512 .bf16) (x2 x3 : FVec Ideal S4096x1024 .f32) (x4 : FVec Ideal S3x6144 .f32) (x5 x6 : FVec Ideal S1x1024 .f32)
  (x7 : FVec Ideal S1024x1024 .bf16) (x8 : FVec Ideal S1024x4096 .bf16) (x9 : FVec Ideal S4096x1024 .bf16)

/-- The arguments are the real arrays `A`. -/
structure Real (A : Args) : Prop where
  yr : ∀ j, x0 j = A.yr (j 0) (j 1)
  ym : ∀ j, x1 j = A.ym (j 0) (j 1)
  x : ∀ j, x2 j = A.x (j 0) (j 1)
  t : ∀ j, x3 j = A.t (j 0) (j 1)
  mod : ∀ j, x4 j = A.mod (j 0) (j 1)
  gffn : ∀ j, x5 j = A.gffn (j 1)
  gfin : ∀ j, x6 j = A.gfin (j 1)
  wo : ∀ j, x7 j = A.wo (j 0) (j 1)
  w1 : ∀ j, x8 j = A.w1 (j 0) (j 1)
  w2 : ∀ j, x9 j = A.w2 (j 0) (j 1)

variable {x0 x1 x2 x3 x4 x5 x6 x7 x8 x9} {A : Args} (H : Real x0 x1 x2 x3 x4 x5 x6 x7 x8 x9 A)
include H

/-! ## The modulation, the gains and the weights -/

theorem n9 (i : S2x1x1024.Idx) : val_main_v9 (F := Ideal) x4 i = (A.par (i 0)).gta (i 2) := by
  rw [val_main_v9_apply, val_main_v3_apply, val_main_v0_apply]; exact H.mod _
theorem n10 (i : S2x1x1024.Idx) : val_main_v10 (F := Ideal) x4 i = (A.par (i 0)).shf (i 2) := by
  rw [val_main_v10_apply, val_main_v4_apply, val_main_v0_apply]; exact H.mod _
theorem n11 (i : S2x1x1024.Idx) : val_main_v11 (F := Ideal) x4 i = (A.par (i 0)).scf (i 2) := by
  rw [val_main_v11_apply, val_main_v5_apply, val_main_v0_apply]; exact H.mod _
theorem n12 (i : S2x1x1024.Idx) : val_main_v12 (F := Ideal) x4 i = (A.par (i 0)).gtf (i 2) := by
  rw [val_main_v12_apply, val_main_v6_apply, val_main_v0_apply]; exact H.mod _
theorem n18 (i : S2x1x1024.Idx) : val_main_v18 (F := Ideal) x5 i = A.gffn (i 2) := by
  rw [val_main_v18_apply]; exact H.gffn _
theorem n19 (i : S2x1x1024.Idx) : val_main_v19 (F := Ideal) x6 i = A.gfin (i 2) := by
  rw [val_main_v19_apply]; exact H.gfin _
theorem n15 (i : S1024x1024.Idx) : val_main_v15 (F := Ideal) x7 i = A.wo (i 0) (i 1) := by
  rw [val_main_v15_apply]; exact H.wo _
theorem n16 (i : S1024x4096.Idx) : val_main_v16 (F := Ideal) x8 i = A.w1 (i 0) (i 1) := by
  rw [val_main_v16_apply]; exact H.w1 _
theorem n17 (i : S4096x1024.Idx) : val_main_v17 (F := Ideal) x9 i = A.w2 (i 0) (i 1) := by
  rw [val_main_v17_apply]; exact H.w2 _

/-! ## The tokens -/

theorem n13 (i : S2x2048x1024.Idx) : val_main_v13 (F := Ideal) x2 i = (A.tok (pos (i 0) (i 1))).x (i 2) := by
  have h2 : (i 2).val < 1024 := (i 2).isLt
  have e : idx_main_v13 i = ix2 (pos (i 0) (i 1)) (i 2) := by unfold pos; idx_ext <;> (dsimp only; omega)
  rw [val_main_v13_apply, e]; exact H.x _
theorem n14 (i : S2x2048x1024.Idx) : val_main_v14 (F := Ideal) x3 i = (A.tok (pos (i 0) (i 1))).t (i 2) := by
  have h2 : (i 2).val < 1024 := (i 2).isLt
  have e : idx_main_v14 i = ix2 (pos (i 0) (i 1)) (i 2) := by unfold pos; idx_ext <;> (dsimp only; omega)
  rw [val_main_v14_apply, e]; exact H.t _
theorem n20 (n : Fin 4096) (k : Fin 1024) : val_main_v20 (F := Ideal) x0 x1 (ix2 n k) = mix (A.tok n) k := by
  pointwise [val_main_v20]
  unfold mix
  split
  · exact H.yr _
  · exact H.ym _
theorem n22 (i : S2x2048x1024.Idx) : val_main_v22 (F := Ideal) x0 x1 i = mix (A.tok (pos (i 0) (i 1))) (i 2) := by
  have h2 : (i 2).val < 1024 := (i 2).isLt
  have e : idx_main_v21 i = ix2 (pos (i 0) (i 1)) (i 2) := by unfold pos; idx_ext <;> (dsimp only; omega)
  rw [val_main_v22_apply, val_main_v21_apply, e]; exact n20 H _ _

/-! ## Forward -/

theorem n23 (i : S2x2048x1024.Idx) : val_main_v23 (F := Ideal) x0 x1 x7 i = op (A.par (i 0)) (A.tok (pos (i 0) (i 1))) (i 2) := by
  rw [val_main_v23_apply]
  simp only [n22 H, n15 H]
  exact dot_coe _ _
theorem n26 (i : S2x2048x1024.Idx) : val_main_v26 (F := Ideal) x0 x1 x2 x4 x7 i = xm (A.par (i 0)) (A.tok (pos (i 0) (i 1))) (i 2) := by
  rw [val_main_v26_apply, val_main_v25_apply, val_main_v24_apply, n9 H, n13 H, n23 H]
  simp only [Ideal.addf_def, Ideal.mulf_def, ← EReal.coe_mul, ← EReal.coe_add]
  rfl

omit H in
/-- A sum that starts from zero. -/
theorem from_zero (z : EReal) (hz : z = Ideal.ofBits .f32 0x00000000#32) (x : ℝ) : z + (x : EReal) = x := by
  rw [hz, czero, ← EReal.coe_add, zero_add]

theorem n28 (i : S2x2048.Idx) : val_main_v28 (F := Ideal) x0 x1 x2 x4 x7 i
    = ((∑ d, xm (A.par (i 0)) (A.tok (pos (i 0) (i 1))) d * xm (A.par (i 0)) (A.tok (pos (i 0) (i 1))) d : ℝ) : EReal) := by
  rw [val_main_v28_apply]
  simp only [val_main_v27_apply, n26 H, Ideal.mulf_def, ← EReal.coe_mul]
  rw [coe_sum]
  exact from_zero _ rfl _
omit H in
theorem n30 (i : S2x2048x1.Idx) : val_main_v30 (F := Ideal) i = ((1024 : ℝ) : EReal) := (val_main_v30_apply i).trans c1024
omit H in
theorem n32 (i : S2x2048x1.Idx) : val_main_v32 (F := Ideal) i = (eps : EReal) := (val_main_v32_apply i).trans ceps
omit H in
theorem n36 (i : S2x2048x1.Idx) : val_main_v36 (F := Ideal) i = ((-(1 / 2) : ℝ) : EReal) := (val_main_v36_apply i).trans cneg
/-- The number under a row's root. -/
abbrev under (z : Fin 1024 → ℝ) : ℝ := (∑ d, z d * z d) / 1024 + eps
theorem n33 (i : S2x2048x1.Idx) : val_main_v33 (F := Ideal) x0 x1 x2 x4 x7 i = under (xm (A.par (i 0)) (A.tok (pos (i 0) (i 1)))) := by
  rw [val_main_v33_apply, val_main_v31_apply, val_main_v29_apply, n28 H, n30, n32]
  simp only [Ideal.addf_def, Ideal.hostDivf_def, div_coe', ← EReal.coe_add]
  rfl
theorem n34 (i : S2x2048x1.Idx) : val_main_v34 (F := Ideal) x0 x1 x2 x4 x7 i = rs (xm (A.par (i 0)) (A.tok (pos (i 0) (i 1)))) := by
  rw [val_main_v34_apply, n33 H]
  exact rsqrt_pos _ (under_pos _)
omit H in
theorem div_under (r : ℝ) (z : Fin 1024 → ℝ) : Ideal.div (r : EReal) (under z : EReal) = ((r / under z : ℝ) : EReal) := by
  rw [Ideal.div_coe (under_pos z).ne', ← EReal.coe_mul]; congr 1; ring
theorem n37 (i : S2x2048x1.Idx) : val_main_v37 (F := Ideal) x0 x1 x2 x4 x7 i = ((-(1 / 2) * (rs (xm (A.par (i 0)) (A.tok (pos (i 0) (i 1))))
    / under (xm (A.par (i 0)) (A.tok (pos (i 0) (i 1))))) : ℝ) : EReal) := by
  rw [val_main_v37_apply, val_main_v35_apply, n34 H, n33 H, n36]
  simp only [Ideal.mulf_def, Ideal.hostDivf_def, div_under, ← EReal.coe_mul]
theorem n39 (i : S2x2048x1024.Idx) : val_main_v39 (F := Ideal) x0 x1 x2 x4 x7 i = xh2 (A.par (i 0)) (A.tok (pos (i 0) (i 1))) (i 2) := by
  rw [val_main_v39_apply, val_main_v38_apply, n26 H, n34 H]
  simp only [Ideal.mulf_def, ← EReal.coe_mul]
  rfl
theorem n41 (i : S2x2048x1024.Idx) : val_main_v41 (F := Ideal) x0 x1 x2 x4 x5 x7 i = ((xh2 (A.par (i 0)) (A.tok (pos (i 0) (i 1))) (i 2) * A.gffn (i 2) : ℝ) : EReal) := by
  rw [val_main_v41_apply, val_main_v40_apply, n39 H, n18 H]
  simp only [Ideal.mulf_def, ← EReal.coe_mul]
  rfl
omit H in
theorem n42 (i : S2x1x1024.Idx) : val_main_v42 (F := Ideal) i = ((1 : ℝ) : EReal) := (val_main_v42_apply i).trans cone
theorem n43 (i : S2x1x1024.Idx) : val_main_v43 (F := Ideal) x4 i = ((1 + (A.par (i 0)).scf (i 2) : ℝ) : EReal) := by
  rw [val_main_v43_apply, n42, n11 H]
  simp only [Ideal.addf_def, ← EReal.coe_add]
theorem n47 (i : S2x2048x1024.Idx) : val_main_v47 (F := Ideal) x0 x1 x2 x4 x5 x7 i = h2 (A.par (i 0)) (A.tok (pos (i 0) (i 1))) (i 2) := by
  rw [val_main_v47_apply, val_main_v45_apply, val_main_v44_apply, val_main_v46_apply, n41 H, n43 H, n10 H]
  simp only [Ideal.addf_def, Ideal.mulf_def, ← EReal.coe_mul, ← EReal.coe_add]
  rfl
theorem n48 (i : S2x2048x4096.Idx) : val_main_v48 (F := Ideal) x0 x1 x2 x4 x5 x7 x8 i
    = ((∑ d, h2 (A.par (i 0)) (A.tok (pos (i 0) (i 1))) d * A.w1 d (i 2) : ℝ) : EReal) := by
  rw [val_main_v48_apply]
  simp only [n47 H, n16 H]
  exact dot_coe _ _
omit H in
theorem n50 (i : S2x2048x4096.Idx) : val_main_v50 (F := Ideal) i = ((0 : ℝ) : EReal) := (val_main_v50_apply i).trans czero
theorem n49 (i : S2x2048x4096.Idx) : val_main_v49 (F := Ideal) x0 x1 x2 x4 x5 x7 x8 i = ru (A.par (i 0)) (A.tok (pos (i 0) (i 1))) (i 2) := by
  rw [val_main_v49_apply, n48 H]
  exact (congrArg (max _) czero).trans (max_coe _ _)
theorem n53 (i : S2x2048x4096.Idx) : val_main_v53 (F := Ideal) x0 x1 x2 x4 x5 x7 x8 i = sq (A.par (i 0)) (A.tok (pos (i 0) (i 1))) (i 2) := by
  rw [val_main_v53_apply, n49 H]
  simp only [Ideal.mulf_def, ← EReal.coe_mul]
  rfl
omit H in
theorem n54 (i : S2x2048x4096.Idx) : val_main_v54 (F := Ideal) i = ((2 : ℝ) : EReal) := (val_main_v54_apply i).trans c2
theorem n55 (i : S2x2048x4096.Idx) : val_main_v55 (F := Ideal) x0 x1 x2 x4 x5 x7 x8 i = ((2 * ru (A.par (i 0)) (A.tok (pos (i 0) (i 1))) (i 2) : ℝ) : EReal) := by
  rw [val_main_v55_apply, n49 H, n54]
  simp only [Ideal.mulf_def, ← EReal.coe_mul]
theorem n56 (i : S2x2048x1024.Idx) : val_main_v56 (F := Ideal) x0 x1 x2 x4 x5 x7 x8 x9 i = f (A.par (i 0)) (A.tok (pos (i 0) (i 1))) (i 2) := by
  rw [val_main_v56_apply]
  simp only [n53 H, n17 H]
  exact dot_coe _ _
theorem n59 (i : S2x2048x1024.Idx) : val_main_v59 (F := Ideal) x0 x1 x2 x4 x5 x7 x8 x9 i = xo (A.par (i 0)) (A.tok (pos (i 0) (i 1))) (i 2) := by
  rw [val_main_v59_apply, val_main_v58_apply, val_main_v57_apply, n12 H, n26 H, n56 H]
  simp only [Ideal.addf_def, Ideal.mulf_def, ← EReal.coe_mul, ← EReal.coe_add]
  rfl
theorem n61 (i : S2x2048.Idx) : val_main_v61 (F := Ideal) x0 x1 x2 x4 x5 x7 x8 x9 i
    = ((∑ d, xo (A.par (i 0)) (A.tok (pos (i 0) (i 1))) d * xo (A.par (i 0)) (A.tok (pos (i 0) (i 1))) d : ℝ) : EReal) := by
  rw [val_main_v61_apply]
  simp only [val_main_v60_apply, n59 H, Ideal.mulf_def, ← EReal.coe_mul]
  rw [coe_sum]
  exact from_zero _ rfl _
omit H in
theorem n63 (i : S2x2048x1.Idx) : val_main_v63 (F := Ideal) i = ((1024 : ℝ) : EReal) := (val_main_v63_apply i).trans c1024
omit H in
theorem n65 (i : S2x2048x1.Idx) : val_main_v65 (F := Ideal) i = (eps : EReal) := (val_main_v65_apply i).trans ceps
omit H in
theorem n69 (i : S2x2048x1.Idx) : val_main_v69 (F := Ideal) i = ((-(1 / 2) : ℝ) : EReal) := (val_main_v69_apply i).trans cneg
theorem n66 (i : S2x2048x1.Idx) : val_main_v66 (F := Ideal) x0 x1 x2 x4 x5 x7 x8 x9 i = under (xo (A.par (i 0)) (A.tok (pos (i 0) (i 1)))) := by
  rw [val_main_v66_apply, val_main_v64_apply, val_main_v62_apply, n61 H, n63, n65]
  simp only [Ideal.addf_def, Ideal.hostDivf_def, div_coe', ← EReal.coe_add]
  rfl
theorem n67 (i : S2x2048x1.Idx) : val_main_v67 (F := Ideal) x0 x1 x2 x4 x5 x7 x8 x9 i = rs (xo (A.par (i 0)) (A.tok (pos (i 0) (i 1)))) := by
  rw [val_main_v67_apply, n66 H]
  exact rsqrt_pos _ (under_pos _)
theorem n70 (i : S2x2048x1.Idx) : val_main_v70 (F := Ideal) x0 x1 x2 x4 x5 x7 x8 x9 i = ((-(1 / 2) * (rs (xo (A.par (i 0)) (A.tok (pos (i 0) (i 1))))
    / under (xo (A.par (i 0)) (A.tok (pos (i 0) (i 1))))) : ℝ) : EReal) := by
  rw [val_main_v70_apply, val_main_v68_apply, n67 H, n66 H, n69]
  simp only [Ideal.mulf_def, Ideal.hostDivf_def, div_under, ← EReal.coe_mul]
theorem n72 (i : S2x2048x1024.Idx) : val_main_v72 (F := Ideal) x0 x1 x2 x4 x5 x7 x8 x9 i = xh3 (A.par (i 0)) (A.tok (pos (i 0) (i 1))) (i 2) := by
  rw [val_main_v72_apply, val_main_v71_apply, n59 H, n67 H]
  simp only [Ideal.mulf_def, ← EReal.coe_mul]
  rfl
theorem n75 (i : S2x2048x1024.Idx) : val_main_v75 (F := Ideal) x0 x1 x2 x3 x4 x5 x6 x7 x8 x9 i = err (A.par (i 0)) (A.tok (pos (i 0) (i 1))) (i 2) := by
  rw [val_main_v75_apply, val_main_v74_apply, val_main_v73_apply, n72 H, n19 H, n14 H]
  simp only [Ideal.subf_def, Ideal.mulf_def, ← EReal.coe_mul, ← EReal.coe_sub]
  rfl

/-! ## Backward -/

omit H in
theorem n77 (i : S2x2048x1024.Idx) : val_main_v77 (F := Ideal) i = ((2 : ℝ) : EReal) := (val_main_v77_apply i).trans c2
omit H in
theorem n85 (i : S2x2048.Idx) : val_main_v85 (F := Ideal) i = ((1 / 2 : ℝ) : EReal) := by
  rw [val_main_v85_apply, val_main_v84_apply]
  refine (congrArg₂ (fun a b : EReal => a * b) chalf cone).trans ?_
  show ((1 / 2 : ℝ) : EReal) * ((1 : ℝ) : EReal) = _
  rw [← EReal.coe_mul, mul_one]
omit H in
theorem n86 (i : S2x2048.Idx) : val_main_v86 (F := Ideal) i = ((1024 : ℝ) : EReal) := (val_main_v86_apply i).trans c1024
theorem n89 (i : S2x2048x1024.Idx) : val_main_v89 (F := Ideal) x0 x1 x2 x3 x4 x5 x6 x7 x8 x9 i = dy (A.par (i 0)) (A.tok (pos (i 0) (i 1))) (i 2) := by
  rw [val_main_v89_apply, val_main_v88_apply, val_main_v87_apply, val_main_v78_apply, n85, n86, n77, n75 H]
  simp only [Ideal.mulf_def, Ideal.hostDivf_def, div_coe', ← EReal.coe_mul]
  refine congrArg _ ?_
  unfold dy; ring
theorem n94 (i : S2x2048x1024.Idx) : val_main_v94 (F := Ideal) x0 x1 x2 x3 x4 x5 x6 x7 x8 x9 i = ((dy (A.par (i 0)) (A.tok (pos (i 0) (i 1))) (i 2) * (A.par (i 0)).gfin (i 2) : ℝ) : EReal) := by
  rw [val_main_v94_apply, val_main_v93_apply, n89 H, n19 H]
  simp only [Ideal.mulf_def, ← EReal.coe_mul]
  rfl
theorem n96 (i : S2x2048.Idx) : val_main_v96 (F := Ideal) x0 x1 x2 x3 x4 x5 x6 x7 x8 x9 i = ((∑ d, xo (A.par (i 0)) (A.tok (pos (i 0) (i 1))) d
    * (dy (A.par (i 0)) (A.tok (pos (i 0) (i 1))) d * (A.par (i 0)).gfin d) : ℝ) : EReal) := by
  rw [val_main_v96_apply]
  simp only [val_main_v95_apply, n59 H, n94 H, Ideal.mulf_def, ← EReal.coe_mul]
  rw [coe_sum]
  exact from_zero _ rfl _
omit H in
theorem n101 (i : S2x2048x1.Idx) : val_main_v101 (F := Ideal) i = ((1024 : ℝ) : EReal) := (val_main_v101_apply i).trans c1024
omit H in
theorem unit3 (i : S2x2048x1.Idx) (w : Fin 2 → Fin 2048 → EReal) (j : S2x2048.Idx) (h : j = ix2 (i 0) (i 1)) :
    w (j 0) (j 1) = w (i 0) (i 1) := by subst h; rfl
theorem n97 (i : S2x2048x1.Idx) : val_main_v97 (F := Ideal) x0 x1 x2 x3 x4 x5 x6 x7 x8 x9 i = ((∑ d, xo (A.par (i 0)) (A.tok (pos (i 0) (i 1))) d
    * (dy (A.par (i 0)) (A.tok (pos (i 0) (i 1))) d * (A.par (i 0)).gfin d) : ℝ) : EReal) := by
  have h1 : (i 1).val < 2048 := (i 1).isLt
  have h2 : (i 2).val < 1 := (i 2).isLt
  have e : idx_main_v97 i = ix2 (i 0) (i 1) := by idx_ext <;> (dsimp only; omega)
  rw [val_main_v97_apply, e]
  exact n96 H _
theorem n102 (i : S2x2048x1.Idx) : val_main_v102 (F := Ideal) x0 x1 x2 x3 x4 x5 x6 x7 x8 x9 i = (((∑ d, xo (A.par (i 0)) (A.tok (pos (i 0) (i 1))) d
    * (dy (A.par (i 0)) (A.tok (pos (i 0) (i 1))) d * (A.par (i 0)).gfin d))
    * (-(1 / 2) * (rs (xo (A.par (i 0)) (A.tok (pos (i 0) (i 1)))) / under (xo (A.par (i 0)) (A.tok (pos (i 0) (i 1)))))) / 1024 : ℝ) : EReal) := by
  rw [val_main_v102_apply, val_main_v100_apply, n97 H, n70 H, n101]
  simp only [Ideal.mulf_def, Ideal.hostDivf_def, div_coe', ← EReal.coe_mul]
theorem n103 (i : S2x2048.Idx) : val_main_v103 (F := Ideal) x0 x1 x2 x3 x4 x5 x6 x7 x8 x9 i = (((∑ d, xo (A.par (i 0)) (A.tok (pos (i 0) (i 1))) d
    * (dy (A.par (i 0)) (A.tok (pos (i 0) (i 1))) d * (A.par (i 0)).gfin d))
    * (-(1 / 2) * (rs (xo (A.par (i 0)) (A.tok (pos (i 0) (i 1)))) / under (xo (A.par (i 0)) (A.tok (pos (i 0) (i 1)))))) / 1024 : ℝ) : EReal) := by
  rw [val_main_v103_apply, Fin.sum_univ_one, n102 H]
  exact from_zero _ rfl _
theorem n108 (i : S2x2048x1024.Idx) : val_main_v108 (F := Ideal) x0 x1 x2 x3 x4 x5 x6 x7 x8 x9 i = dout (A.par (i 0)) (A.tok (pos (i 0) (i 1))) (i 2) := by
  rw [val_main_v108_apply, val_main_v106_apply, val_main_v107_apply, val_main_v99_apply, val_main_v105_apply, val_main_v104_apply, val_main_v98_apply, n94 H, n67 H, n59 H, n103 H]
  simp only [Ideal.addf_def, Ideal.mulf_def, ← EReal.coe_mul, ← EReal.coe_add]
  exact congrArg _ (back_eq (xo (A.par (i 0)) (A.tok (pos (i 0) (i 1))))
    (fun k => dy (A.par (i 0)) (A.tok (pos (i 0) (i 1))) k * (A.par (i 0)).gfin k) (i 2))
theorem n110 (i : S2x2048x1024.Idx) : val_main_v110 (F := Ideal) x0 x1 x2 x3 x4 x5 x6 x7 x8 x9 i = df (A.par (i 0)) (A.tok (pos (i 0) (i 1))) (i 2) := by
  rw [val_main_v110_apply, val_main_v109_apply, n12 H, n108 H]
  simp only [Ideal.mulf_def, ← EReal.coe_mul]
  exact congrArg _ (mul_comm _ _)
theorem n114 (i : S2x2048x4096.Idx) : val_main_v114 (F := Ideal) x0 x1 x2 x3 x4 x5 x6 x7 x8 x9 i = da (A.par (i 0)) (A.tok (pos (i 0) (i 1))) (i 2) := by
  rw [val_main_v114_apply]
  simp only [n110 H, n17 H]
  exact dot_coe _ _
omit H in
theorem n116 (i : S2x2048x4096.Idx) : val_main_v116 (F := Ideal) i = ((0 : ℝ) : EReal) := (val_main_v116_apply i).trans czero
omit H in
/-- The rectifier's gate, where the gradient it multiplies already holds the rectified number. -/
theorem select_relu (a u : ℝ) : (Scalar.select (FloatOps.cmpf (F := Ideal) (φ := .f32) .ogt (u : EReal) ((0 : ℝ) : EReal))
    ((a * (2 * max u 0) : ℝ) : EReal) ((0 : ℝ) : EReal) : EReal) = ((a * (2 * max u 0) : ℝ) : EReal) := by
  pointwise
  have h : ((0 : EReal) < (u : EReal)) ↔ 0 < u := EReal.coe_pos
  simp only [EReal.coe_zero, h]
  refine Eq.trans ?_ (congrArg _ (relu_grad a u))
  split <;> rfl
theorem n117 (i : S2x2048x4096.Idx) : val_main_v117 (F := Ideal) x0 x1 x2 x3 x4 x5 x6 x7 x8 x9 i = du (A.par (i 0)) (A.tok (pos (i 0) (i 1))) (i 2) := by
  rw [val_main_v117_apply, val_main_v115_apply, val_main_v51_apply, n50, n48 H, n114 H, n55 H, n116]
  simp only [Ideal.mulf_def, ← EReal.coe_mul]
  exact select_relu _ _
theorem n119 (i : S2x2048x1024.Idx) : val_main_v119 (F := Ideal) x0 x1 x2 x3 x4 x5 x6 x7 x8 x9 i = dh (A.par (i 0)) (A.tok (pos (i 0) (i 1))) (i 2) := by
  rw [val_main_v119_apply]
  simp only [n117 H, n16 H]
  exact dot_coe _ _
theorem n126 (i : S2x2048x1024.Idx) : val_main_v126 (F := Ideal) x0 x1 x2 x3 x4 x5 x6 x7 x8 x9 i
    = ((dh (A.par (i 0)) (A.tok (pos (i 0) (i 1))) (i 2) * (1 + (A.par (i 0)).scf (i 2)) : ℝ) : EReal) := by
  rw [val_main_v126_apply, val_main_v125_apply, n119 H, n43 H]
  simp only [Ideal.mulf_def, ← EReal.coe_mul]
  rfl
theorem n131 (i : S2x2048x1024.Idx) : val_main_v131 (F := Ideal) x0 x1 x2 x3 x4 x5 x6 x7 x8 x9 i = ((dh (A.par (i 0)) (A.tok (pos (i 0) (i 1))) (i 2) * (1 + (A.par (i 0)).scf (i 2))
    * (A.par (i 0)).gffn (i 2) : ℝ) : EReal) := by
  rw [val_main_v131_apply, val_main_v130_apply, n126 H, n18 H]
  simp only [Ideal.mulf_def, ← EReal.coe_mul]
  rfl
theorem n133 (i : S2x2048.Idx) : val_main_v133 (F := Ideal) x0 x1 x2 x3 x4 x5 x6 x7 x8 x9 i = ((∑ d, xm (A.par (i 0)) (A.tok (pos (i 0) (i 1))) d
    * (dh (A.par (i 0)) (A.tok (pos (i 0) (i 1))) d * (1 + (A.par (i 0)).scf d) * (A.par (i 0)).gffn d) : ℝ) : EReal) := by
  rw [val_main_v133_apply]
  simp only [val_main_v132_apply, n26 H, n131 H, Ideal.mulf_def, ← EReal.coe_mul]
  rw [coe_sum]
  exact from_zero _ rfl _
omit H in
theorem n138 (i : S2x2048x1.Idx) : val_main_v138 (F := Ideal) i = ((1024 : ℝ) : EReal) := (val_main_v138_apply i).trans c1024
theorem n134 (i : S2x2048x1.Idx) : val_main_v134 (F := Ideal) x0 x1 x2 x3 x4 x5 x6 x7 x8 x9 i = ((∑ d, xm (A.par (i 0)) (A.tok (pos (i 0) (i 1))) d
    * (dh (A.par (i 0)) (A.tok (pos (i 0) (i 1))) d * (1 + (A.par (i 0)).scf d) * (A.par (i 0)).gffn d) : ℝ) : EReal) := by
  have h1 : (i 1).val < 2048 := (i 1).isLt
  have h2 : (i 2).val < 1 := (i 2).isLt
  have e : idx_main_v134 i = ix2 (i 0) (i 1) := by idx_ext <;> (dsimp only; omega)
  rw [val_main_v134_apply, e]
  exact n133 H _
theorem n139 (i : S2x2048x1.Idx) : val_main_v139 (F := Ideal) x0 x1 x2 x3 x4 x5 x6 x7 x8 x9 i = (((∑ d, xm (A.par (i 0)) (A.tok (pos (i 0) (i 1))) d
    * (dh (A.par (i 0)) (A.tok (pos (i 0) (i 1))) d * (1 + (A.par (i 0)).scf d) * (A.par (i 0)).gffn d))
    * (-(1 / 2) * (rs (xm (A.par (i 0)) (A.tok (pos (i 0) (i 1)))) / under (xm (A.par (i 0)) (A.tok (pos (i 0) (i 1)))))) / 1024 : ℝ) : EReal) := by
  rw [val_main_v139_apply, val_main_v137_apply, n134 H, n37 H, n138]
  simp only [Ideal.mulf_def, Ideal.hostDivf_def, div_coe', ← EReal.coe_mul]
theorem n140 (i : S2x2048.Idx) : val_main_v140 (F := Ideal) x0 x1 x2 x3 x4 x5 x6 x7 x8 x9 i = (((∑ d, xm (A.par (i 0)) (A.tok (pos (i 0) (i 1))) d
    * (dh (A.par (i 0)) (A.tok (pos (i 0) (i 1))) d * (1 + (A.par (i 0)).scf d) * (A.par (i 0)).gffn d))
    * (-(1 / 2) * (rs (xm (A.par (i 0)) (A.tok (pos (i 0) (i 1)))) / under (xm (A.par (i 0)) (A.tok (pos (i 0) (i 1)))))) / 1024 : ℝ) : EReal) := by
  rw [val_main_v140_apply, Fin.sum_univ_one, n139 H]
  exact from_zero _ rfl _
theorem n146 (i : S2x2048x1024.Idx) : val_main_v146 (F := Ideal) x0 x1 x2 x3 x4 x5 x6 x7 x8 x9 i = dxm (A.par (i 0)) (A.tok (pos (i 0) (i 1))) (i 2) := by
  rw [val_main_v146_apply, val_main_v145_apply, val_main_v143_apply, val_main_v144_apply, val_main_v136_apply, val_main_v142_apply, val_main_v141_apply, val_main_v135_apply, n108 H, n131 H, n34 H, n26 H, n140 H]
  simp only [Ideal.addf_def, Ideal.mulf_def, ← EReal.coe_mul, ← EReal.coe_add]
  exact congrArg _ (congrArg (dout (A.par (i 0)) (A.tok (pos (i 0) (i 1))) (i 2) + ·) (back_eq (xm (A.par (i 0)) (A.tok (pos (i 0) (i 1))))
    (fun k => dh (A.par (i 0)) (A.tok (pos (i 0) (i 1))) k * (1 + (A.par (i 0)).scf k) * (A.par (i 0)).gffn k) (i 2)))
theorem n148 (i : S2x2048x1024.Idx) : val_main_v148 (F := Ideal) x0 x1 x2 x3 x4 x5 x6 x7 x8 x9 i = dmo (A.par (i 0)) (A.tok (pos (i 0) (i 1))) (i 2) := by
  rw [val_main_v148_apply, val_main_v147_apply, n9 H, n146 H]
  simp only [Ideal.mulf_def, ← EReal.coe_mul]
  exact congrArg _ (mul_comm _ _)
theorem n152 (i : S2x2048x1024.Idx) : val_main_v152 (F := Ideal) x0 x1 x2 x3 x4 x5 x6 x7 x8 x9 i = dmix (A.par (i 0)) (A.tok (pos (i 0) (i 1))) (i 2) := by
  rw [val_main_v152_apply]
  simp only [n148 H, n15 H]
  exact dot_coe _ _

/-! ## The sums over an example's tokens -/

/-- The sum of the tokens' parts. -/
def total (A : Args) (b : Fin 2) (j : Fin 8) (d : Fin 1024) : ℝ := ∑ s, part (A.par b) (A.tok (pos b s)) j d

theorem n120 (i : S2x1024.Idx) : val_main_v120 (F := Ideal) x0 x1 x2 x3 x4 x5 x6 x7 x8 x9 i = total A (i 0) 0 (i 1) := by
  rw [val_main_v120_apply]
  simp only [n119 H]
  rw [coe_sum]
  exact from_zero _ rfl _
theorem n123 (i : S2x1024.Idx) : val_main_v123 (F := Ideal) x0 x1 x2 x3 x4 x5 x6 x7 x8 x9 i = total A (i 0) 1 (i 1) := by
  rw [val_main_v123_apply]
  simp only [val_main_v122_apply, n41 H, n119 H, Ideal.mulf_def, ← EReal.coe_mul]
  rw [coe_sum]
  refine (from_zero _ rfl _).trans (congrArg _ (Finset.sum_congr rfl fun s _ => ?_))
  exact (mul_comm _ _).trans (mul_assoc _ _ _).symm
theorem n112 (i : S2x1024.Idx) : val_main_v112 (F := Ideal) x0 x1 x2 x3 x4 x5 x6 x7 x8 x9 i = total A (i 0) 2 (i 1) := by
  rw [val_main_v112_apply]
  simp only [val_main_v111_apply, n108 H, n56 H, Ideal.mulf_def, ← EReal.coe_mul]
  rw [coe_sum]
  exact from_zero _ rfl _
theorem n150 (i : S2x1024.Idx) : val_main_v150 (F := Ideal) x0 x1 x2 x3 x4 x5 x6 x7 x8 x9 i = total A (i 0) 3 (i 1) := by
  rw [val_main_v150_apply]
  simp only [val_main_v149_apply, n146 H, n23 H, Ideal.mulf_def, ← EReal.coe_mul]
  rw [coe_sum]
  exact from_zero _ rfl _
theorem n128 (i : S2x1024.Idx) : val_main_v128 (F := Ideal) x0 x1 x2 x3 x4 x5 x6 x7 x8 x9 i = total A (i 0) 4 (i 1) := by
  rw [val_main_v128_apply]
  simp only [val_main_v127_apply, n39 H, n126 H, Ideal.mulf_def, ← EReal.coe_mul]
  rw [coe_sum]
  refine (from_zero _ rfl _).trans (congrArg _ (Finset.sum_congr rfl fun s _ => ?_))
  exact mul_comm _ _
theorem n91 (i : S2x1024.Idx) : val_main_v91 (F := Ideal) x0 x1 x2 x3 x4 x5 x6 x7 x8 x9 i = total A (i 0) 5 (i 1) := by
  rw [val_main_v91_apply]
  simp only [val_main_v90_apply, n72 H, n89 H, Ideal.mulf_def, ← EReal.coe_mul]
  rw [coe_sum]
  refine (from_zero _ rfl _).trans (congrArg _ (Finset.sum_congr rfl fun s _ => ?_))
  exact mul_comm _ _
theorem n154 (i : S2x1024.Idx) : val_main_v154 (F := Ideal) x0 x1 x2 x3 x4 x5 x6 x7 x8 x9 i = total A (i 0) 6 (i 1) := by
  rw [val_main_v154_apply]
  simp only [val_main_v153_apply, n75 H, Ideal.mulf_def, ← EReal.coe_mul]
  rw [coe_sum]
  exact from_zero _ rfl _
theorem n156 (i : S2x1x1024.Idx) : val_main_v156 (F := Ideal) i = total A (i 0) 7 (i 2) := by
  refine (val_main_v156_apply i).trans (czero.trans (congrArg _ ?_))
  exact Finset.sum_const_zero.symm

theorem n121 (b : Fin 2) (z : Fin 1) (d : Fin 1024) : val_main_v121 (F := Ideal) x0 x1 x2 x3 x4 x5 x6 x7 x8 x9 (ix3 b z d) = total A b 0 d := by
  have e : idx_main_v121 (ix3 b z d) = ix2 b d := by idx_ext <;> (dsimp only; omega)
  rw [val_main_v121_apply, e]; exact n120 H _
theorem n124 (b : Fin 2) (z : Fin 1) (d : Fin 1024) : val_main_v124 (F := Ideal) x0 x1 x2 x3 x4 x5 x6 x7 x8 x9 (ix3 b z d) = total A b 1 d := by
  have e : idx_main_v124 (ix3 b z d) = ix2 b d := by idx_ext <;> (dsimp only; omega)
  rw [val_main_v124_apply, e]; exact n123 H _
theorem n113 (b : Fin 2) (z : Fin 1) (d : Fin 1024) : val_main_v113 (F := Ideal) x0 x1 x2 x3 x4 x5 x6 x7 x8 x9 (ix3 b z d) = total A b 2 d := by
  have e : idx_main_v113 (ix3 b z d) = ix2 b d := by idx_ext <;> (dsimp only; omega)
  rw [val_main_v113_apply, e]; exact n112 H _
theorem n151 (b : Fin 2) (z : Fin 1) (d : Fin 1024) : val_main_v151 (F := Ideal) x0 x1 x2 x3 x4 x5 x6 x7 x8 x9 (ix3 b z d) = total A b 3 d := by
  have e : idx_main_v151 (ix3 b z d) = ix2 b d := by idx_ext <;> (dsimp only; omega)
  rw [val_main_v151_apply, e]; exact n150 H _
theorem n129 (b : Fin 2) (z : Fin 1) (d : Fin 1024) : val_main_v129 (F := Ideal) x0 x1 x2 x3 x4 x5 x6 x7 x8 x9 (ix3 b z d) = total A b 4 d := by
  have e : idx_main_v129 (ix3 b z d) = ix2 b d := by idx_ext <;> (dsimp only; omega)
  rw [val_main_v129_apply, e]; exact n128 H _
theorem n92 (b : Fin 2) (z : Fin 1) (d : Fin 1024) : val_main_v92 (F := Ideal) x0 x1 x2 x3 x4 x5 x6 x7 x8 x9 (ix3 b z d) = total A b 5 d := by
  have e : idx_main_v92 (ix3 b z d) = ix2 b d := by idx_ext <;> (dsimp only; omega)
  rw [val_main_v92_apply, e]; exact n91 H _
theorem n155 (b : Fin 2) (z : Fin 1) (d : Fin 1024) : val_main_v155 (F := Ideal) x0 x1 x2 x3 x4 x5 x6 x7 x8 x9 (ix3 b z d) = total A b 6 d := by
  rw [val_main_v155_apply]; exact n154 H _

theorem sums (b : Fin 2) (j : Fin 8) (d : Fin 1024) : val_main_v157 (F := Ideal) x0 x1 x2 x3 x4 x5 x6 x7 x8 x9 (ix3 b j d) = total A b j d := by
  pointwise [val_main_v157]
  fin_vals j with hj
  all_goals simp only [hj, Nat.reduceSub, Nat.reduceLT, ↓reduceDIte]
  · obtain rfl : j = 0 := Fin.ext hj
    exact n121 H b _ d
  · obtain rfl : j = 1 := Fin.ext hj
    exact n124 H b _ d
  · obtain rfl : j = 2 := Fin.ext hj
    exact n113 H b _ d
  · obtain rfl : j = 3 := Fin.ext hj
    exact n151 H b _ d
  · obtain rfl : j = 4 := Fin.ext hj
    exact n129 H b _ d
  · obtain rfl : j = 5 := Fin.ext hj
    exact n92 H b _ d
  · obtain rfl : j = 6 := Fin.ext hj
    exact n155 H b _ d
  · obtain rfl : j = 7 := Fin.ext hj
    exact n156 H _

/-! ## The results -/

theorem out_mix (b : Fin 2) (s : Fin 2048) (d : Fin 1024) : val_main_v159 (F := Ideal) x0 x1 (ix2 (pos b s) d) = mix (A.tok (pos b s)) d := by
  have e : idx_main_v158 (ix2 (pos b s) d) = ix3 b s d := by unfold pos; idx_ext <;> (dsimp only; omega)
  rw [val_main_v159_apply, val_main_v158_apply, e]; exact n22 H _
theorem out_sq (b : Fin 2) (s : Fin 2048) (d : Fin 4096) : val_main_v161 (F := Ideal) x0 x1 x2 x4 x5 x7 x8 (ix2 (pos b s) d) = sq (A.par b) (A.tok (pos b s)) d := by
  have e : idx_main_v160 (ix2 (pos b s) d) = ix3 b s d := by unfold pos; idx_ext <;> (dsimp only; omega)
  rw [val_main_v161_apply, val_main_v160_apply, e]; exact n53 H _
theorem out_du (b : Fin 2) (s : Fin 2048) (d : Fin 4096) : val_main_v163 (F := Ideal) x0 x1 x2 x3 x4 x5 x6 x7 x8 x9 (ix2 (pos b s) d) = du (A.par b) (A.tok (pos b s)) d := by
  have e : idx_main_v162 (ix2 (pos b s) d) = ix3 b s d := by unfold pos; idx_ext <;> (dsimp only; omega)
  rw [val_main_v163_apply, val_main_v162_apply, e]; exact n117 H _
theorem out_h2 (b : Fin 2) (s : Fin 2048) (d : Fin 1024) : val_main_v165 (F := Ideal) x0 x1 x2 x4 x5 x7 (ix2 (pos b s) d) = h2 (A.par b) (A.tok (pos b s)) d := by
  have e : idx_main_v164 (ix2 (pos b s) d) = ix3 b s d := by unfold pos; idx_ext <;> (dsimp only; omega)
  rw [val_main_v165_apply, val_main_v164_apply, e]; exact n47 H _
theorem out_df (b : Fin 2) (s : Fin 2048) (d : Fin 1024) : val_main_v167 (F := Ideal) x0 x1 x2 x3 x4 x5 x6 x7 x8 x9 (ix2 (pos b s) d) = df (A.par b) (A.tok (pos b s)) d := by
  have e : idx_main_v166 (ix2 (pos b s) d) = ix3 b s d := by unfold pos; idx_ext <;> (dsimp only; omega)
  rw [val_main_v167_apply, val_main_v166_apply, e]; exact n110 H _
theorem out_dmo (b : Fin 2) (s : Fin 2048) (d : Fin 1024) : val_main_v169 (F := Ideal) x0 x1 x2 x3 x4 x5 x6 x7 x8 x9 (ix2 (pos b s) d) = dmo (A.par b) (A.tok (pos b s)) d := by
  have e : idx_main_v168 (ix2 (pos b s) d) = ix3 b s d := by unfold pos; idx_ext <;> (dsimp only; omega)
  rw [val_main_v169_apply, val_main_v168_apply, e]; exact n148 H _
theorem out_dmix (b : Fin 2) (s : Fin 2048) (d : Fin 1024) : val_main_v171 (F := Ideal) x0 x1 x2 x3 x4 x5 x6 x7 x8 x9 (ix2 (pos b s) d) = dmix (A.par b) (A.tok (pos b s)) d := by
  have e : idx_main_v170 (ix2 (pos b s) d) = ix3 b s d := by unfold pos; idx_ext <;> (dsimp only; omega)
  rw [val_main_v171_apply, val_main_v170_apply, e]; exact n152 H _
theorem out_dxm (b : Fin 2) (s : Fin 2048) (d : Fin 1024) : val_main_v172 (F := Ideal) x0 x1 x2 x3 x4 x5 x6 x7 x8 x9 (ix2 (pos b s) d) = dxm (A.par b) (A.tok (pos b s)) d := by
  have e : idx_main_v172 (ix2 (pos b s) d) = ix3 b s d := by unfold pos; idx_ext <;> (dsimp only; omega)
  rw [val_main_v172_apply, e]; exact n146 H _

end Cert.Proof.PostReference
-- ==== Proof.PostArrays.lean ====
/- What a grid point of the call reads: point `t` takes the 256 tokens from row `256 t` on, of example `t / 8`, the example's modulation rows and all
   weights, the first layer's in four slabs of columns and the second's in eight slabs of rows as the host arranged them. -/
module

public import proofs.«01_k».proof.Proof.PostBlock
public import proofs.«01_k».proof.Proof.PostReference

@[expose] public section

set_option maxRecDepth 16384

noncomputable section

namespace Cert.Proof.PostArrays

open Cert.PostIdeal Cert.PostIdeal.Gen Idealize.ShloMosaic Idealize.ShloMosaic.TcCoe Idealize.SL.Sem
open Cert.Proof.PostModel Cert.Proof.PostTile Cert.Proof.PostBlock
open Cert.Proof.PostReference (Args pos)

variable (m : (ℓ : Loc nD τ sig) → Buf (Elt Ideal) ℓ) (c : Dev nD)

abbrev yr : FVec Ideal S4096x512 .bf16 := m ((c : Thread nD τ).loc main_arg0)
abbrev ym : FVec Ideal S4096x512 .bf16 := m ((c : Thread nD τ).loc main_arg1)
abbrev xs : FVec Ideal S4096x1024 .f32 := m ((c : Thread nD τ).loc main_arg2)
abbrev tg : FVec Ideal S4096x1024 .f32 := m ((c : Thread nD τ).loc main_arg3)
abbrev md : FVec Ideal S3x6144 .f32 := m ((c : Thread nD τ).loc main_arg4)
abbrev gn : FVec Ideal S1x1024 .f32 := m ((c : Thread nD τ).loc main_arg5)
abbrev gf : FVec Ideal S1x1024 .f32 := m ((c : Thread nD τ).loc main_arg6)
abbrev wo : FVec Ideal S1024x1024 .bf16 := m ((c : Thread nD τ).loc main_arg7)
abbrev w1 : FVec Ideal S1024x4096 .bf16 := m ((c : Thread nD τ).loc main_arg8)
abbrev w2 : FVec Ideal S4096x1024 .bf16 := m ((c : Thread nD τ).loc main_arg9)

/-- The launch's arguments are the real arrays `A`. -/
abbrev Real (A : Args) : Prop :=
  PostReference.Real (yr m c) (ym m c) (xs m c) (tg m c) (md m c) (gn m c) (gf m c) (wo m c) (w1 m c) (w2 m c) A

/-- Every window's block index at a point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![t.val / 8, 0, 0] ∧ win0_5.index t = ![0, 0] ∧ win0_6.index t = ![0, 0] ∧ win0_7.index t = ![0, 0]
    ∧ win0_8.index t = ![0, 0, 0] ∧ win0_9.index t = ![0, 0, 0] ∧ win0_10.index t = ![0, 0, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val / 8, 0, 0] :=
  (by decide +kernel : ∀ t : Fin grid0.N, _)

theorem lt16 (t : Fin cfg0.N) : t.val < 16 := lt_of_lt_of_eq t.isLt (by decide +kernel : cfg0.N = 16)

/-- The row of the arrays that a tile's row is. -/
def tok (t : Fin cfg0.N) (r : Fin 256) : Fin 4096 := ⟨t.val * 256 + r, by have := lt16 t; omega⟩
/-- The example of a point. -/
def ex (t : Fin cfg0.N) : Fin 2 := ⟨t.val / 8, by have := lt16 t; omega⟩

/-- The modulation's rows of an example, two more of zeros after them. -/
def rows (A : Args) (b : Fin 2) (j : Fin 8) (d : Fin 1024) : ℝ :=
  if h : j.val < 6 then A.mod ⟨b, by omega⟩ ⟨j.val * 1024 + d, by omega⟩ else 0

/-! ## The arrays the host arranged -/

theorem mod_eq : (V m c main_v1 : FVec Ideal S3x8x1024 .f32) = pad S3x8x1024 ![0, 0, 0] ![0, 2, 0] ![0, 0, 0]
    (shapeCast S3x6x1024 (md m c) shapeCasts_S3x6144_S3x6x1024) (sitofp .f32 (constantI S_ 32 0#32)) pads_S3x6x1024_S3x8x1024_000_020_000 h_S_ := by
  show V m c main_v1 = _; entry_read; rfl
theorem w1_eq : (V m c main_v3 : FVec Ideal S4x1024x1024 .bf16)
    = transpose S4x1024x1024 [1, 0, 2] (shapeCast S1024x4x1024 (w1 m c) shapeCasts_S1024x4096_S1024x4x1024) transposes_S1024x4x1024_S4x1024x1024_1_0_2 := by
  show V m c main_v3 = _; entry_read; rfl
theorem w2a_eq : (V m c main_v6 : FVec Ideal S4x512x1024 .bf16)
    = shapeCast S4x512x1024 (extractStridedSlice S4x1x512x1024 ![0, 0, 0, 0] (shapeCast S4x2x512x1024 (w2 m c) shapeCasts_S4096x1024_S4x2x512x1024)
        slices_S4x2x512x1024_S4x1x512x1024_0_0_0_0) shapeCasts_S4x1x512x1024_S4x512x1024 := by
  show V m c main_v6 = _; entry_read; rfl
theorem w2b_eq : (V m c main_v8 : FVec Ideal S4x512x1024 .bf16)
    = shapeCast S4x512x1024 (extractStridedSlice S4x1x512x1024 ![0, 1, 0, 0] (shapeCast S4x2x512x1024 (w2 m c) shapeCasts_S4096x1024_S4x2x512x1024)
        slices_S4x2x512x1024_S4x1x512x1024_0_1_0_0) shapeCasts_S4x1x512x1024_S4x512x1024 := by
  show V m c main_v8 = _; entry_read; rfl

section
variable (t : Fin cfg0.N)

theorem read4 (B : FVec Ideal S3x8x1024 .f32) (z : Fin 1) (j : Fin 8) (d : Fin 1024) :
    ((cfg0.win 4).blk t).view.read (Elt Ideal) B (ix3 z j d) = B (ix3 ⟨ex t, by omega⟩ j d) := by
  have := lt16 t
  unfold ex; blk_ext [idx t]
theorem read8 (B : FVec Ideal S4x1024x1024 .bf16) (s : Fin 4) (k d : Fin 1024) :
    ((cfg0.win 8).blk t).view.read (Elt Ideal) B (ix3 s k d) = B (ix3 s k d) := by
  blk_ext [idx t]
theorem read9 (B : FVec Ideal S4x512x1024 .bf16) (s : Fin 4) (k : Fin 512) (d : Fin 1024) :
    ((cfg0.win 9).blk t).view.read (Elt Ideal) B (ix3 s k d) = B (ix3 s k d) := by
  blk_ext [idx t]
theorem read10 (B : FVec Ideal S4x512x1024 .bf16) (s : Fin 4) (k : Fin 512) (d : Fin 1024) :
    ((cfg0.win 10).blk t).view.read (Elt Ideal) B (ix3 s k d) = B (ix3 s k d) := by
  blk_ext [idx t]

theorem at0 (r : Fin 256) (k : Fin 512) : (iblk m c 0 t : S256x512.Idx → EReal) (ix2 r k) = yr m c (ix2 (tok t r) k) := by
  have := lt16 t
  unfold tok; blk_ext [iblk, V, idx t]
theorem at1 (r : Fin 256) (k : Fin 512) : (iblk m c 1 t : S256x512.Idx → EReal) (ix2 r k) = ym m c (ix2 (tok t r) k) := by
  have := lt16 t
  unfold tok; blk_ext [iblk, V, idx t]
theorem at2 (r : Fin 256) (d : Fin 1024) : (iblk m c 2 t : S256x1024.Idx → EReal) (ix2 r d) = xs m c (ix2 (tok t r) d) := by
  have := lt16 t
  unfold tok; blk_ext [iblk, V, idx t]
theorem at3 (r : Fin 256) (d : Fin 1024) : (iblk m c 3 t : S256x1024.Idx → EReal) (ix2 r d) = tg m c (ix2 (tok t r) d) := by
  have := lt16 t
  unfold tok; blk_ext [iblk, V, idx t]
theorem at5 (z : Fin 1) (d : Fin 1024) : (iblk m c 5 t : S1x1024.Idx → EReal) (ix2 z d) = gn m c (ix2 z d) := by
  blk_ext [iblk, V, idx t]
theorem at6 (z : Fin 1) (d : Fin 1024) : (iblk m c 6 t : S1x1024.Idx → EReal) (ix2 z d) = gf m c (ix2 z d) := by
  blk_ext [iblk, V, idx t]
theorem at7 (k d : Fin 1024) : (iblk m c 7 t : S1024x1024.Idx → EReal) (ix2 k d) = wo m c (ix2 k d) := by
  blk_ext [iblk, V, idx t]
end

/-! ## The host's arrays at an index -/

theorem ext2 {a b : ℕ} {f g : (⟨2, ![a, b]⟩ : Shape).Idx → EReal} (h : ∀ (i : Fin a) (j : Fin b), f (ix2 i j) = g (ix2 i j)) : f = g :=
  funext fun i => by rw [← ix2_eta i]; exact h _ _
theorem ext3 {a b d : ℕ} {f g : (⟨3, ![a, b, d]⟩ : Shape).Idx → EReal} (h : ∀ (i : Fin a) (j : Fin b) (k : Fin d), f (ix3 i j k) = g (ix3 i j k)) :
    f = g :=
  funext fun i => by rw [← ix3_eta i]; exact h _ _ _

theorem zero_at (i : S_.Idx) : (sitofp (F := Ideal) .f32 (constantI S_ 32 0#32) i : EReal) = ((0 : ℝ) : EReal) := by
  show (((0#32 : BitVec 32).toInt : ℝ) : EReal) = _
  simp

theorem mod_at (B : FVec Ideal S3x6144 .f32) (A : Args) (h : ∀ j, B j = A.mod (j 0) (j 1)) (b : Fin 2) (j : Fin 8) (d : Fin 1024) :
    pad S3x8x1024 ![0, 0, 0] ![0, 2, 0] ![0, 0, 0] (shapeCast S3x6x1024 B shapeCasts_S3x6144_S3x6x1024)
      (sitofp .f32 (constantI S_ 32 0#32)) pads_S3x6x1024_S3x8x1024_000_020_000 h_S_ (ix3 (⟨b, by omega⟩ : Fin 3) j d) = ((rows A b j d : ℝ) : EReal) := by
  unfold rows
  pointwise [pad]
  by_cases h6 : j.val < 6
  · rw [dif_pos ⟨by omega, h6⟩, dif_pos h6]; exact h _
  · rw [dif_neg (fun e => h6 e.2), dif_neg h6]; exact zero_at (fun a => a.elim0)

theorem w1_at (B : FVec Ideal S1024x4096 .bf16) (s : Fin 4) (k d : Fin 1024) :
    transpose S4x1024x1024 [1, 0, 2] (shapeCast S1024x4x1024 B shapeCasts_S1024x4096_S1024x4x1024) transposes_S1024x4x1024_S4x1024x1024_1_0_2 (ix3 s k d)
    = B (ix2 k (at4 s d)) := by
  unfold at4; pointwise []; blk_ext []
theorem w2a_at (B : FVec Ideal S4096x1024 .bf16) (s : Fin 4) (k : Fin 512) (d : Fin 1024) :
    shapeCast S4x512x1024 (extractStridedSlice S4x1x512x1024 ![0, 0, 0, 0] (shapeCast S4x2x512x1024 B shapeCasts_S4096x1024_S4x2x512x1024)
        slices_S4x2x512x1024_S4x1x512x1024_0_0_0_0) shapeCasts_S4x1x512x1024_S4x512x1024 (ix3 s k d) = B (ix2 (at4 s (lo k)) d) := by
  unfold at4 lo; pointwise []; blk_ext []
theorem w2b_at (B : FVec Ideal S4096x1024 .bf16) (s : Fin 4) (k : Fin 512) (d : Fin 1024) :
    shapeCast S4x512x1024 (extractStridedSlice S4x1x512x1024 ![0, 1, 0, 0] (shapeCast S4x2x512x1024 B shapeCasts_S4096x1024_S4x2x512x1024)
        slices_S4x2x512x1024_S4x1x512x1024_0_1_0_0) shapeCasts_S4x1x512x1024_S4x512x1024 (ix3 s k d) = B (ix2 (at4 s (hi k)) d) := by
  unfold at4 hi; pointwise []; blk_ext []

theorem rows_par (A : Args) (b : Fin 2) (k : Fin 8) (n : ℕ) (hk : k.val * 1024 = n) (h6 : k.val < 6) (d : Fin 1024) (hd : n + d < 6144) :
    rows A b k d = A.mod ⟨b, by omega⟩ ⟨n + d, hd⟩ := by
  subst hk; unfold rows; rw [dif_pos h6]

/-- A point's inputs are the real numbers of its tokens and its example's parameters. -/
theorem inputs {A : Args} (H : Real m c A) (t : Fin cfg0.N) : Inputs (A.par (ex t)) m c t (fun n => A.tok (tok t n)) (rows A (ex t)) where
  yr := ext2 fun i j => (at0 m c t i j).trans (H.yr _)
  ym := ext2 fun i j => (at1 m c t i j).trans (H.ym _)
  x := ext2 fun i j => (at2 m c t i j).trans (H.x _)
  tgt := ext2 fun i j => (at3 m c t i j).trans (H.t _)
  mod := ext3 fun i j k =>
    (read4 t (V m c main_v1) i j k).trans ((congrFun (mod_eq m c) _).trans (mod_at _ A H.mod (ex t) j k))
  gta := funext fun d => rows_par A _ 2 2048 rfl (by decide) d _
  shf := funext fun d => rows_par A _ 3 3072 rfl (by decide) d _
  scf := funext fun d => rows_par A _ 4 4096 rfl (by decide) d _
  gtf := funext fun d => rows_par A _ 5 5120 rfl (by decide) d _
  gffn := ext2 fun i j => (at5 m c t i j).trans (H.gffn _)
  gfin := ext2 fun i j => (at6 m c t i j).trans (H.gfin _)
  wo := ext2 fun i j => (at7 m c t i j).trans (H.wo _)
  w1 := ext3 fun i j k =>
    (read8 t (V m c main_v3) i j k).trans ((congrFun (w1_eq m c) _).trans ((w1_at _ i j k).trans (H.w1 _)))
  w2a := ext3 fun i j k =>
    (read9 t (V m c main_v6) i j k).trans ((congrFun (w2a_eq m c) _).trans ((w2a_at _ i j k).trans (H.w2 _)))
  w2b := ext3 fun i j k =>
    (read10 t (V m c main_v8) i j k).trans ((congrFun (w2b_eq m c) _).trans ((w2b_at _ i j k).trans (H.w2 _)))

end Cert.Proof.PostArrays
-- ==== Proof.PostFinal.lean ====
/- The result arrays after the run, at real arguments: eight arrays row by row, and the sums over an example's 2048 tokens, which the example's eight
   points add up one after another. -/
module

public import proofs.«01_k».proof.Proof.PostArrays

@[expose] public section

set_option maxRecDepth 16384

noncomputable section

namespace Cert.Proof.PostFinal

open Cert.PostIdeal Cert.PostIdeal.Gen Idealize.ShloMosaic Idealize.ShloMosaic.TcCoe Idealize.SL.Sem
open Cert.Proof.PostModel Cert.Proof.PostTile Cert.Proof.PostBlock Cert.Proof.PostArrays
open Cert.Proof.PostReference (Args pos total)

variable {m : (ℓ : Loc nD τ sig) → Buf (Elt Ideal) ℓ} {c : Dev nD} {A : Args}

/-- The example of a token. -/
def exr (n : Fin 4096) : Fin 2 := ⟨n / 2048, by omega⟩
theorem exr_tok (t : Fin cfg0.N) (n : Fin 256) : exr (tok t n) = ex t := by
  unfold exr tok ex; apply Fin.ext; dsimp only; omega

/-- An array whose row is a function of the row's token and its example's parameters. -/
def tokens (g : Params → Token → Fin 1024 → ℝ) (A : Args) : S4096x1024.Idx → EReal :=
  fun i => ((g (A.par (exr (i 0))) (A.tok (i 0)) (i 1) : ℝ) : EReal)
def wideTokens (g : Params → Token → Fin 4096 → ℝ) (A : Args) : S4096x4096.Idx → EReal :=
  fun i => ((g (A.par (exr (i 0))) (A.tok (i 0)) (i 1) : ℝ) : EReal)

theorem tokens_at (g : Params → Token → Fin 1024 → ℝ) (t : Fin cfg0.N) (y : S256x1024.Idx) (i : S4096x1024.Idx) (e : i = ix2 (tok t (y 0)) (y 1)) :
    wide (fun n => g (A.par (ex t)) (A.tok (tok t n))) y = tokens g A i := by
  subst e
  exact congrArg (fun b => ((g (A.par b) (A.tok (tok t (y 0))) (y 1) : ℝ) : EReal)) (exr_tok t (y 0)).symm
theorem wideTokens_at (g : Params → Token → Fin 4096 → ℝ) (t : Fin cfg0.N) (y : S256x4096.Idx) (i : S4096x4096.Idx) (e : i = ix2 (tok t (y 0)) (y 1)) :
    broad (fun n => g (A.par (ex t)) (A.tok (tok t n))) y = wideTokens g A i := by
  subst e
  exact congrArg (fun b => ((g (A.par b) (A.tok (tok t (y 0))) (y 1) : ℝ) : EReal)) (exr_tok t (y 0)).symm

/-- Result 0: the mixed rows. -/
theorem final11 (H : Real m c A) : (dats m 0 c).arrAt 11 cfg0.N = tokens (fun _ Y => mix Y) A := by
  refine (dats m 0 c).arrAt_eq_of_covers 11 _ (by decide +kernel) fun t _ y => ?_
  have e : (win0_11.blk t).view.emb y = (ix2 (tok t (y 0)) (y 1) : S4096x1024.Idx) := by
    have := lt16 t
    unfold tok; blk_ext [idx t]
  blk_simp
  rw [after0_11]
  refine Eq.trans ?_ (tokens_at (fun _ Y => mix Y) t y _ e)
  by_cases h : t.val % 8 = 0
  · exact tile11_A (inputs m c H t) h (not_not_intro h) y
  · exact tile11_B (inputs m c H t) h h y

/-- Result 1: the squares. -/
theorem final12 (H : Real m c A) : (dats m 0 c).arrAt 12 cfg0.N = wideTokens (sq) A := by
  refine (dats m 0 c).arrAt_eq_of_covers 12 _ (by decide +kernel) fun t _ y => ?_
  have e : (win0_12.blk t).view.emb y = (ix2 (tok t (y 0)) (y 1) : S4096x4096.Idx) := by
    have := lt16 t
    unfold tok; blk_ext [idx t]
  blk_simp
  rw [after0_12]
  refine Eq.trans ?_ (wideTokens_at (sq) t y _ e)
  by_cases h : t.val % 8 = 0
  · exact tile12_A (inputs m c H t) h (not_not_intro h) y
  · exact tile12_B (inputs m c H t) h h y

/-- Result 2: the gradient at the first layer. -/
theorem final13 (H : Real m c A) : (dats m 0 c).arrAt 13 cfg0.N = wideTokens (du) A := by
  refine (dats m 0 c).arrAt_eq_of_covers 13 _ (by decide +kernel) fun t _ y => ?_
  have e : (win0_13.blk t).view.emb y = (ix2 (tok t (y 0)) (y 1) : S4096x4096.Idx) := by
    have := lt16 t
    unfold tok; blk_ext [idx t]
  blk_simp
  rw [after0_13]
  refine Eq.trans ?_ (wideTokens_at (du) t y _ e)
  by_cases h : t.val % 8 = 0
  · exact tile13_A (inputs m c H t) h (not_not_intro h) y
  · exact tile13_B (inputs m c H t) h h y

/-- Result 3: the normed rows. -/
theorem final14 (H : Real m c A) : (dats m 0 c).arrAt 14 cfg0.N = tokens (h2) A := by
  refine (dats m 0 c).arrAt_eq_of_covers 14 _ (by decide +kernel) fun t _ y => ?_
  have e : (win0_14.blk t).view.emb y = (ix2 (tok t (y 0)) (y 1) : S4096x1024.Idx) := by
    have := lt16 t
    unfold tok; blk_ext [idx t]
  blk_simp
  rw [after0_14]
  refine Eq.trans ?_ (tokens_at (h2) t y _ e)
  by_cases h : t.val % 8 = 0
  · exact tile14_A (inputs m c H t) h (not_not_intro h) y
  · exact tile14_B (inputs m c H t) h h y

/-- Result 4: the feed-forward's gradient. -/
theorem final15 (H : Real m c A) : (dats m 0 c).arrAt 15 cfg0.N = tokens (df) A := by
  refine (dats m 0 c).arrAt_eq_of_covers 15 _ (by decide +kernel) fun t _ y => ?_
  have e : (win0_15.blk t).view.emb y = (ix2 (tok t (y 0)) (y 1) : S4096x1024.Idx) := by
    have := lt16 t
    unfold tok; blk_ext [idx t]
  blk_simp
  rw [after0_15]
  refine Eq.trans ?_ (tokens_at (df) t y _ e)
  by_cases h : t.val % 8 = 0
  · exact tile15_A (inputs m c H t) h (not_not_intro h) y
  · exact tile15_B (inputs m c H t) h h y

/-- Result 5: the projection's gradient. -/
theorem final16 (H : Real m c A) : (dats m 0 c).arrAt 16 cfg0.N = tokens (dmo) A := by
  refine (dats m 0 c).arrAt_eq_of_covers 16 _ (by decide +kernel) fun t _ y => ?_
  have e : (win0_16.blk t).view.emb y = (ix2 (tok t (y 0)) (y 1) : S4096x1024.Idx) := by
    have := lt16 t
    unfold tok; blk_ext [idx t]
  blk_simp
  rw [after0_16]
  refine Eq.trans ?_ (tokens_at (dmo) t y _ e)
  by_cases h : t.val % 8 = 0
  · exact tile16_A (inputs m c H t) h (not_not_intro h) y
  · exact tile16_B (inputs m c H t) h h y

/-- Result 6: the mixed rows' gradient. -/
theorem final17 (H : Real m c A) : (dats m 0 c).arrAt 17 cfg0.N = tokens (dmix) A := by
  refine (dats m 0 c).arrAt_eq_of_covers 17 _ (by decide +kernel) fun t _ y => ?_
  have e : (win0_17.blk t).view.emb y = (ix2 (tok t (y 0)) (y 1) : S4096x1024.Idx) := by
    have := lt16 t
    unfold tok; blk_ext [idx t]
  blk_simp
  rw [after0_17]
  refine Eq.trans ?_ (tokens_at (dmix) t y _ e)
  by_cases h : t.val % 8 = 0
  · exact tile17_A (inputs m c H t) h (not_not_intro h) y
  · exact tile17_B (inputs m c H t) h h y

/-- Result 7: the rows' gradient. -/
theorem final18 (H : Real m c A) : (dats m 0 c).arrAt 18 cfg0.N = tokens (dxm) A := by
  refine (dats m 0 c).arrAt_eq_of_covers 18 _ (by decide +kernel) fun t _ y => ?_
  have e : (win0_18.blk t).view.emb y = (ix2 (tok t (y 0)) (y 1) : S4096x1024.Idx) := by
    have := lt16 t
    unfold tok; blk_ext [idx t]
  blk_simp
  rw [after0_18]
  refine Eq.trans ?_ (tokens_at (dxm) t y _ e)
  by_cases h : t.val % 8 = 0
  · exact tile18_A (inputs m c H t) h (not_not_intro h) y
  · exact tile18_B (inputs m c H t) h h y

/-- Token `n` of the `s`-th tile of example `b`, counted around. -/
def at8 (b : Fin 2) (s : ℕ) (n : Fin 256) : Fin 4096 := ⟨(b * 2048 + s * 256 + n) % 4096, Nat.mod_lt _ (by decide)⟩
theorem tok_at8 (t : Fin cfg0.N) (n : Fin 256) : tok t n = at8 (ex t) (t.val % 8) n := by
  have := lt16 t
  unfold tok at8 ex; apply Fin.ext; dsimp only; omega

/-- The sums over the first `k + 1` tiles of an example. -/
def upto (A : Args) (b : Fin 2) (k : ℕ) (j : Fin 8) (d : Fin 1024) : ℝ :=
  ∑ s ∈ Finset.range (k + 1), ∑ n : Fin 256, part (A.par b) (A.tok (at8 b s n)) j d

/-- A point leaves the sums over its example's tiles so far. -/
theorem running (H : Real m c A) : ∀ (k : ℕ) (t : Fin cfg0.N), t.val % 8 = k →
    ((outsAt0 m c t.val t.isLt).2.2.2.2.2.2.2.2 : S1x8x1024.Idx → EReal) = plane (upto A (ex t) k)
  | 0, t, h => by
    funext y
    refine (tile19_A (inputs m c H t) h (not_not_intro h) y).trans ?_
    refine congrArg (fun g => plane g y) (funext fun j => funext fun d => ?_)
    unfold upto
    rw [Finset.sum_range_one]
    exact Finset.sum_congr rfl fun n _ => by rw [tok_at8, h]
  | k + 1, t, h => by
    have lt := lt16 t
    have hp : t.val - 1 < cfg0.N := Nat.lt_of_le_of_lt (Nat.sub_le _ _) t.isLt
    have ih := running H k ⟨t.val - 1, hp⟩ (by dsimp only; omega)
    have hx : ex ⟨t.val - 1, hp⟩ = ex t := by unfold ex; apply Fin.ext; dsimp only; omega
    rw [hx] at ih
    have h0 : ¬t.val % 8 = 0 := by omega
    funext y
    refine (tile19_B (inputs m c H t) _ h0 h0 ih y).trans ?_
    refine congrArg (fun g => plane g y) (funext fun j => funext fun d => ?_)
    unfold upto
    rw [Finset.sum_range_succ _ (k + 1)]
    refine congrArg _ (Finset.sum_congr rfl fun n _ => ?_)
    rw [tok_at8, h]

/-- All eight tiles are the example. -/
theorem upto_all (b : Fin 2) (j : Fin 8) (d : Fin 1024) : upto A b 7 j d = total A b j d := by
  unfold upto total
  rw [Finset.sum_range]
  refine Eq.symm ((Fin.sum_univ_tiles 8 256 rfl fun s : Fin 2048 => part (A.par b) (A.tok (pos b s)) j d).trans ?_)
  refine Finset.sum_congr rfl fun s _ => Finset.sum_congr rfl fun n _ => congrArg (fun r => part (A.par b) (A.tok r) j d) ?_
  unfold pos at8; apply Fin.ext; dsimp only; omega

/-- Result 8: the sums over each example's tokens. -/
theorem final19 (H : Real m c A) : (dats m 0 c).arrAt 19 cfg0.N = fun i : S2x8x1024.Idx => ((total A (i 0) (i 1) (i 2) : ℝ) : EReal) := by
  refine (dats m 0 c).arrAt_eq_of_covers 19 _ (by decide +kernel) fun t hf y => ?_
  have h7 := (flush0_19 t).mp hf
  have e : (win0_19.blk t).view.emb y = (ix3 (ex t) (y 1) (y 2) : S2x8x1024.Idx) := by
    have := lt16 t
    unfold ex; blk_ext [idx t]
  blk_simp
  rw [after0_19]
  refine (congrFun (running H 7 t h7) y).trans ?_
  rw [e]
  exact congrArg (fun r : ℝ => (r : EReal)) (upto_all (ex t) (y 1) (y 2))

end Cert.Proof.PostFinal
-- ==== Proof.PostEquation.lean ====
/- The reference's result arrays at real arguments, in the form the kernel's have: a row is a function of its token and of its example's parameters. -/
module

public import proofs.«01_k».proof.Proof.PostFinal

@[expose] public section

set_option maxRecDepth 16384

noncomputable section

namespace Cert.Proof.PostEquation

open Cert.PostReferenceIdeal Cert.PostReferenceIdeal.Read Idealize.ShloMosaic
open Cert.Proof.PostModel Cert.Proof.PostArrays Cert.Proof.PostFinal
open Cert.Proof.PostReference (Args pos total)

/-- A token's place in its example. -/
def place (n : Fin 4096) : Fin 2048 := ⟨n % 2048, Nat.mod_lt _ (by decide)⟩
theorem pos_place (n : Fin 4096) : pos (exr n) (place n) = n := by
  unfold pos exr place; apply Fin.ext; dsimp only; omega

theorem of_rows (f : S4096x1024.Idx → EReal) (g : Params → Token → Fin 1024 → ℝ) (A : Args)
    (h : ∀ b s d, f (ix2 (pos b s) d) = ((g (A.par b) (A.tok (pos b s)) d : ℝ) : EReal)) : f = tokens g A :=
  ext2 fun i d => by
    have e := h (exr i) (place i) d
    rw [pos_place] at e
    exact e
theorem of_wide_rows (f : S4096x4096.Idx → EReal) (g : Params → Token → Fin 4096 → ℝ) (A : Args)
    (h : ∀ b s d, f (ix2 (pos b s) d) = ((g (A.par b) (A.tok (pos b s)) d : ℝ) : EReal)) : f = wideTokens g A :=
  ext2 fun i d => by
    have e := h (exr i) (place i) d
    rw [pos_place] at e
    exact e

variable {x0 x1 : FVec Ideal S4096x512 .bf16} {x2 x3 : FVec Ideal S4096x1024 .f32} {x4 : FVec Ideal S3x6144 .f32} {x5 x6 : FVec Ideal S1x1024 .f32}
  {x7 : FVec Ideal S1024x1024 .bf16} {x8 : FVec Ideal S1024x4096 .bf16} {x9 : FVec Ideal S4096x1024 .bf16}
  {A : Args} (H : PostReference.Real x0 x1 x2 x3 x4 x5 x6 x7 x8 x9 A)
include H

theorem ref_mix : val_main_v159 (F := Ideal) x0 x1 = tokens (fun _ Y => mix Y) A :=
  of_rows _ _ _ (PostReference.out_mix H)
theorem ref_sq : val_main_v161 (F := Ideal) x0 x1 x2 x4 x5 x7 x8 = wideTokens (sq) A :=
  of_wide_rows _ _ _ (PostReference.out_sq H)
theorem ref_du : val_main_v163 (F := Ideal) x0 x1 x2 x3 x4 x5 x6 x7 x8 x9 = wideTokens (du) A :=
  of_wide_rows _ _ _ (PostReference.out_du H)
theorem ref_h2 : val_main_v165 (F := Ideal) x0 x1 x2 x4 x5 x7 = tokens (h2) A :=
  of_rows _ _ _ (PostReference.out_h2 H)
theorem ref_df : val_main_v167 (F := Ideal) x0 x1 x2 x3 x4 x5 x6 x7 x8 x9 = tokens (df) A :=
  of_rows _ _ _ (PostReference.out_df H)
theorem ref_dmo : val_main_v169 (F := Ideal) x0 x1 x2 x3 x4 x5 x6 x7 x8 x9 = tokens (dmo) A :=
  of_rows _ _ _ (PostReference.out_dmo H)
theorem ref_dmix : val_main_v171 (F := Ideal) x0 x1 x2 x3 x4 x5 x6 x7 x8 x9 = tokens (dmix) A :=
  of_rows _ _ _ (PostReference.out_dmix H)
theorem ref_dxm : val_main_v172 (F := Ideal) x0 x1 x2 x3 x4 x5 x6 x7 x8 x9 = tokens (dxm) A :=
  of_rows _ _ _ (PostReference.out_dxm H)
theorem ref_sums : val_main_v157 (F := Ideal) x0 x1 x2 x3 x4 x5 x6 x7 x8 x9 = fun i : S2x8x1024.Idx => ((total A (i 0) (i 1) (i 2) : ℝ) : EReal) :=
  ext3 (PostReference.sums H)

end Cert.Proof.PostEquation
-- ==== Proof.Finite.lean ====
/- The precondition read back: where it holds, every entry of the four arguments is a real number. -/
module

public import proofs.«01_k».proof.Proof.Model
public import proofs.«01_k».proof.Proof.Gen.Pre_finite
public import Idealize.ShloMosaic.Lib.ReduceAll

@[expose] public section

set_option maxRecDepth 16384

noncomputable section

namespace Cert.Proof.Finite

open Cert.Pre_finite Cert.Pre_finite.Facts Idealize.ShloMosaic
open Cert.Proof.Model

/-- An extended real whose magnitude is below infinity is a real number. -/
theorem real_of_lt (x : EReal) (h : FloatOps.cmpf (F := Ideal) (φ := .f32) .olt (max x (-x)) (Ideal.ofBits .f32 0x7F800000#32) = 1#1) : ((x.toReal : ℝ) : EReal) = x := by
  have ht : (Ideal.ofBits .f32 0x7F800000#32 : EReal) = ⊤ := by simp [Ideal.ofBits, Ideal.ieee]
  rw [ht] at h
  have hl : max x (-x) < ⊤ := by
    by_contra hn
    simp only [FloatOps.cmpf, Ideal.cmp, hn, decide_false] at h; exact absurd h (by decide)
  refine EReal.coe_toReal (fun e => ?_) fun e => ?_
  · subst e; simp at hl
  · subst e; simp at hl

instance : Subsingleton S_.Idx := ⟨fun a b => funext fun i => i.elim0⟩

section
variable {s : Shape} (x : FVec Ideal s .bf16) (hb : FTy.bits .bf16 < FTy.bits .f32) (hc : S_.BroadcastsInDim s (![] : Fin 0 → Fin s.rank))
  {ax : List (Fin s.rank)} (hr : s.ReducesTo ax S_) (h0 : 0 < S_.numel)

/-- One argument's conjunct. -/
theorem entry (j : S_.Idx) (e : Host.reduce IntOp.andi (cmpf (F := Ideal) .olt (Host.absf (extf .f32 x hb))
      (broadcastInDim s ![] hc (constant (F := Ideal) S_ .f32 0x7F800000#32))) (constantI S_ 1 1#1) hr h0 j = 1#1) (i : s.Idx) :
    (((x i : EReal).toReal : ℝ) : EReal) = x i :=
  real_of_lt _ (Host.reduce_andi_all _ _ _ _ j e i)
end

/-- The real arrays under four arguments. -/
def args (q : FVec Ideal S4096x1024 .bf16) (k : FVec Ideal S4608x1024 .bf16) (v : FVec Ideal S4608x512 .bf16) (d : FVec Ideal S4096x1024 .bf16) : Args where
  q i x := (q (ix2 i x) : EReal).toReal
  k i x := (k (ix2 i x) : EReal).toReal
  v i x := (v (ix2 i x) : EReal).toReal
  d i x := (d (ix2 i x) : EReal).toReal

theorem of_fn (q : FVec Ideal S4096x1024 .bf16) (k : FVec Ideal S4608x1024 .bf16) (v : FVec Ideal S4608x512 .bf16) (d : FVec Ideal S4096x1024 .bf16)
    (h : fn (F := Ideal) q k v d = fun _ => 1#1) :
    (∀ i, (((q i : EReal).toReal : ℝ) : EReal) = q i) ∧ (∀ i, (((k i : EReal).toReal : ℝ) : EReal) = k i)
    ∧ (∀ i, (((v i : EReal).toReal : ℝ) : EReal) = v i) ∧ ∀ i, (((d i : EReal).toReal : ℝ) : EReal) = d i := by
  have e := congrFun h (fun i => i.elim0)
  dsimp only [fn, fn_part1] at e
  obtain ⟨e3, hd⟩ := IntOp.andi_eq_one.1 e
  obtain ⟨e2, hv⟩ := IntOp.andi_eq_one.1 e3
  obtain ⟨hq, hk⟩ := IntOp.andi_eq_one.1 e2
  exact ⟨entry q _ _ _ _ _ hq, entry k _ _ _ _ _ hk, entry v _ _ _ _ _ hv, entry d _ _ _ _ _ hd⟩

end Cert.Proof.Finite
-- ==== Proof.PostFinite.lean ====
/- The second precondition read back: where it holds, the ten arguments are real arrays. -/
module

public import proofs.«01_k».proof.Proof.Finite
public import proofs.«01_k».proof.Proof.PostReference
public import proofs.«01_k».proof.Proof.Gen.Pre_finite2
public import Idealize.ShloMosaic.Lib.ReduceAll

@[expose] public section

set_option maxRecDepth 16384

noncomputable section

namespace Cert.Proof.PostFinite

open Cert.Pre_finite2 Cert.Pre_finite2.Facts Idealize.ShloMosaic
open Cert.Proof.PostReference

instance : Subsingleton S_.Idx := ⟨fun a b => funext fun i => i.elim0⟩

section
variable {s : Shape} (hb : FTy.bits .bf16 < FTy.bits .f32) (hc : S_.BroadcastsInDim s (![] : Fin 0 → Fin s.rank))
  {ax : List (Fin s.rank)} (hr : s.ReducesTo ax S_) (h0 : 0 < S_.numel)

/-- One argument's conjunct: of an argument in the short format, -/
theorem short (x : FVec Ideal s .bf16) (j : S_.Idx) (e : Host.reduce IntOp.andi (cmpf (F := Ideal) .olt (Host.absf (extf .f32 x hb))
      (broadcastInDim s ![] hc (constant (F := Ideal) S_ .f32 0x7F800000#32))) (constantI S_ 1 1#1) hr h0 j = 1#1) (i : s.Idx) :
    x i = (((x i : EReal).toReal : ℝ) : EReal) :=
  (Finite.real_of_lt _ (Host.reduce_andi_all _ _ _ _ j e i)).symm
/-- and of one in the long format. -/
theorem long (x : FVec Ideal s .f32) (j : S_.Idx) (e : Host.reduce IntOp.andi (cmpf (F := Ideal) .olt (Host.absf x)
      (broadcastInDim s ![] hc (constant (F := Ideal) S_ .f32 0x7F800000#32))) (constantI S_ 1 1#1) hr h0 j = 1#1) (i : s.Idx) :
    x i = (((x i : EReal).toReal : ℝ) : EReal) :=
  (Finite.real_of_lt _ (Host.reduce_andi_all _ _ _ _ j e i)).symm
end

variable (x0 x1 : FVec Ideal S4096x512 .bf16) (x2 x3 : FVec Ideal S4096x1024 .f32) (x4 : FVec Ideal S3x6144 .f32) (x5 x6 : FVec Ideal S1x1024 .f32)
  (x7 : FVec Ideal S1024x1024 .bf16) (x8 : FVec Ideal S1024x4096 .bf16) (x9 : FVec Ideal S4096x1024 .bf16)

/-- The real arrays under the ten arguments. -/
def args : Args where
  yr i j := (x0 (ix2 i j) : EReal).toReal
  ym i j := (x1 (ix2 i j) : EReal).toReal
  x i j := (x2 (ix2 i j) : EReal).toReal
  t i j := (x3 (ix2 i j) : EReal).toReal
  mod i j := (x4 (ix2 i j) : EReal).toReal
  gffn j := (x5 (ix2 0 j) : EReal).toReal
  gfin j := (x6 (ix2 0 j) : EReal).toReal
  wo i j := (x7 (ix2 i j) : EReal).toReal
  w1 i j := (x8 (ix2 i j) : EReal).toReal
  w2 i j := (x9 (ix2 i j) : EReal).toReal

theorem at2 {a b : ℕ} (x : (⟨2, ![a, b]⟩ : Shape).Idx → EReal) (h : ∀ i, x i = (((x i).toReal : ℝ) : EReal)) (j : (⟨2, ![a, b]⟩ : Shape).Idx) :
    x j = (((x (ix2 (j 0) (j 1))).toReal : ℝ) : EReal) := by rw [ix2_eta j]; exact h j
theorem at1 {b : ℕ} (x : (⟨2, ![1, b]⟩ : Shape).Idx → EReal) (h : ∀ i, x i = (((x i).toReal : ℝ) : EReal)) (j : (⟨2, ![1, b]⟩ : Shape).Idx) :
    x j = (((x (ix2 0 (j 1))).toReal : ℝ) : EReal) := by
  have e : (0 : Fin 1) = (j 0 : Fin 1) := Subsingleton.elim _ _
  rw [e]; exact at2 x h j

theorem of_fn (h : fn (F := Ideal) x0 x1 x2 x3 x4 x5 x6 x7 x8 x9 = fun _ => 1#1) :
    Real x0 x1 x2 x3 x4 x5 x6 x7 x8 x9 (args x0 x1 x2 x3 x4 x5 x6 x7 x8 x9) := by
  have e := congrFun h (fun i => i.elim0)
  dsimp only [fn, fn_part1, fn_part2, fn_part3] at e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨at2 x0 (short _ _ _ _ x0 _ h0), at2 x1 (short _ _ _ _ x1 _ h1), at2 x2 (long _ _ _ x2 _ h2), at2 x3 (long _ _ _ x3 _ h3),
    at2 x4 (long _ _ _ x4 _ h4), at1 x5 (long _ _ _ x5 _ h5), at1 x6 (long _ _ _ x6 _ h6), at2 x7 (short _ _ _ _ x7 _ h7),
    at2 x8 (short _ _ _ _ x8 _ h8), at2 x9 (short _ _ _ _ x9 _ h9)⟩

end Cert.Proof.PostFinite
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.Pre_finite2
public import proofs.«01_k».proof.Proof.Gen.GradFf2
public import proofs.«01_k».proof.Proof.Gen.GradFf2.Skeleton
public import proofs.«01_k».proof.Proof.Gen.GradFf2.Launch
public import proofs.«01_k».proof.Proof.Gen.GradFf2.Points
public import proofs.«01_k».proof.Proof.Gen.GradFf2.Frame
public import proofs.«01_k».proof.Proof.Gen.GradFf2Ideal
public import proofs.«01_k».proof.Proof.Gen.GradFf2Ideal.Skeleton
public import proofs.«01_k».proof.Proof.Gen.GradFf2Ideal.Launch
public import proofs.«01_k».proof.Proof.Gen.GradFf2Ideal.Points
public import proofs.«01_k».proof.Proof.Gen.GradFf2Ideal.Frame
public import proofs.«01_k».proof.Proof.Gen.GradFf2Ideal.Value
public import proofs.«01_k».proof.Proof.Gen.GradFf2ReferenceIdeal
public import proofs.«01_k».proof.Proof.Gen.GradFf2ReferenceIdeal.Run
public import proofs.«01_k».proof.Proof.Gen.GradFf1
public import proofs.«01_k».proof.Proof.Gen.GradFf1.Skeleton
public import proofs.«01_k».proof.Proof.Gen.GradFf1.Launch
public import proofs.«01_k».proof.Proof.Gen.GradFf1.Points
public import proofs.«01_k».proof.Proof.Gen.GradFf1.Frame
public import proofs.«01_k».proof.Proof.Gen.GradFf1Ideal
public import proofs.«01_k».proof.Proof.Gen.GradFf1Ideal.Skeleton
public import proofs.«01_k».proof.Proof.Gen.GradFf1Ideal.Launch
public import proofs.«01_k».proof.Proof.Gen.GradFf1Ideal.Points
public import proofs.«01_k».proof.Proof.Gen.GradFf1Ideal.Frame
public import proofs.«01_k».proof.Proof.Gen.GradFf1Ideal.Value
public import proofs.«01_k».proof.Proof.Gen.GradFf1ReferenceIdeal
public import proofs.«01_k».proof.Proof.Gen.GradFf1ReferenceIdeal.Run
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutIdeal.Value
public import proofs.«01_k».proof.Proof.Gen.GradOutReferenceIdeal
public import proofs.«01_k».proof.Proof.Gen.GradOutReferenceIdeal.Run
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradInReferenceIdeal
public import proofs.«01_k».proof.Proof.Gen.GradInReferenceIdeal.Run
public import proofs.«01_k».proof.Proof.Gen.GradUq
public import proofs.«01_k».proof.Proof.Gen.GradUq.Skeleton
public import proofs.«01_k».proof.Proof.Gen.GradUq.Launch
public import proofs.«01_k».proof.Proof.Gen.GradUq.Points
public import proofs.«01_k».proof.Proof.Gen.GradUq.Frame
public import proofs.«01_k».proof.Proof.Gen.GradUqIdeal
public import proofs.«01_k».proof.Proof.Gen.GradUqIdeal.Skeleton
public import proofs.«01_k».proof.Proof.Gen.GradUqIdeal.Launch
public import proofs.«01_k».proof.Proof.Gen.GradUqIdeal.Points
public import proofs.«01_k».proof.Proof.Gen.GradUqIdeal.Frame
public import proofs.«01_k».proof.Proof.Gen.GradUqIdeal.Value
public import proofs.«01_k».proof.Proof.Gen.GradUqReferenceIdeal
public import proofs.«01_k».proof.Proof.Gen.GradUqReferenceIdeal.Run
public import proofs.«01_k».proof.Proof.Gen.GradUkv
public import proofs.«01_k».proof.Proof.Gen.GradUkv.Skeleton
public import proofs.«01_k».proof.Proof.Gen.GradUkv.Launch
public import proofs.«01_k».proof.Proof.Gen.GradUkv.Points
public import proofs.«01_k».proof.Proof.Gen.GradUkv.Frame
public import proofs.«01_k».proof.Proof.Gen.GradUkvIdeal
public import proofs.«01_k».proof.Proof.Gen.GradUkvIdeal.Skeleton
public import proofs.«01_k».proof.Proof.Gen.GradUkvIdeal.Launch
public import proofs.«01_k».proof.Proof.Gen.GradUkvIdeal.Points
public import proofs.«01_k».proof.Proof.Gen.GradUkvIdeal.Frame
public import proofs.«01_k».proof.Proof.Gen.GradUkvIdeal.Value
public import proofs.«01_k».proof.Proof.Gen.GradUkvReferenceIdeal
public import proofs.«01_k».proof.Proof.Gen.GradUkvReferenceIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsIdeal.Value
public import proofs.«01_k».proof.Proof.Gen.RowsReferenceIdeal
public import proofs.«01_k».proof.Proof.Gen.RowsReferenceIdeal.Run
public import proofs.«01_k».proof.Proof.Gen.StepOut
public import proofs.«01_k».proof.Proof.Gen.StepOut.Skeleton
public import proofs.«01_k».proof.Proof.Gen.StepOut.Launch
public import proofs.«01_k».proof.Proof.Gen.StepOut.Points
public import proofs.«01_k».proof.Proof.Gen.StepOut.Frame
public import proofs.«01_k».proof.Proof.Gen.StepOutIdeal
public import proofs.«01_k».proof.Proof.Gen.StepOutIdeal.Skeleton
public import proofs.«01_k».proof.Proof.Gen.StepOutIdeal.Launch
public import proofs.«01_k».proof.Proof.Gen.StepOutIdeal.Points
public import proofs.«01_k».proof.Proof.Gen.StepOutIdeal.Frame
public import proofs.«01_k».proof.Proof.Gen.StepOutReferenceIdeal
public import proofs.«01_k».proof.Proof.Gen.StepOutReferenceIdeal.Run
public import proofs.«01_k».proof.Proof.Gen.StepFf1
public import proofs.«01_k».proof.Proof.Gen.StepFf1.Skeleton
public import proofs.«01_k».proof.Proof.Gen.StepFf1.Launch
public import proofs.«01_k».proof.Proof.Gen.StepFf1.Points
public import proofs.«01_k».proof.Proof.Gen.StepFf1.Frame
public import proofs.«01_k».proof.Proof.Gen.StepFf1Ideal
public import proofs.«01_k».proof.Proof.Gen.StepFf1Ideal.Skeleton
public import proofs.«01_k».proof.Proof.Gen.StepFf1Ideal.Launch
public import proofs.«01_k».proof.Proof.Gen.StepFf1Ideal.Points
public import proofs.«01_k».proof.Proof.Gen.StepFf1Ideal.Frame
public import proofs.«01_k».proof.Proof.Gen.StepFf1ReferenceIdeal
public import proofs.«01_k».proof.Proof.Gen.StepFf1ReferenceIdeal.Run
public import proofs.«01_k».proof.Proof.Gen.StepFf2
public import proofs.«01_k».proof.Proof.Gen.StepFf2.Skeleton
public import proofs.«01_k».proof.Proof.Gen.StepFf2.Launch
public import proofs.«01_k».proof.Proof.Gen.StepFf2.Points
public import proofs.«01_k».proof.Proof.Gen.StepFf2.Frame
public import proofs.«01_k».proof.Proof.Gen.StepFf2Ideal
public import proofs.«01_k».proof.Proof.Gen.StepFf2Ideal.Skeleton
public import proofs.«01_k».proof.Proof.Gen.StepFf2Ideal.Launch
public import proofs.«01_k».proof.Proof.Gen.StepFf2Ideal.Points
public import proofs.«01_k».proof.Proof.Gen.StepFf2Ideal.Frame
public import proofs.«01_k».proof.Proof.Gen.StepFf2ReferenceIdeal
public import proofs.«01_k».proof.Proof.Gen.StepFf2ReferenceIdeal.Run
public import proofs.«01_k».proof.Proof.Gen.StepIn
public import proofs.«01_k».proof.Proof.Gen.StepIn.Skeleton
public import proofs.«01_k».proof.Proof.Gen.StepIn.Launch
public import proofs.«01_k».proof.Proof.Gen.StepIn.Points
public import proofs.«01_k».proof.Proof.Gen.StepIn.Frame
public import proofs.«01_k».proof.Proof.Gen.StepInIdeal
public import proofs.«01_k».proof.Proof.Gen.StepInIdeal.Skeleton
public import proofs.«01_k».proof.Proof.Gen.StepInIdeal.Launch
public import proofs.«01_k».proof.Proof.Gen.StepInIdeal.Points
public import proofs.«01_k».proof.Proof.Gen.StepInIdeal.Frame
public import proofs.«01_k».proof.Proof.Gen.StepInReferenceIdeal
public import proofs.«01_k».proof.Proof.Gen.StepInReferenceIdeal.Run
public import proofs.«01_k».proof.Proof.Gen.StepUq
public import proofs.«01_k».proof.Proof.Gen.StepUq.Skeleton
public import proofs.«01_k».proof.Proof.Gen.StepUq.Launch
public import proofs.«01_k».proof.Proof.Gen.StepUq.Points
public import proofs.«01_k».proof.Proof.Gen.StepUq.Frame
public import proofs.«01_k».proof.Proof.Gen.StepUqIdeal
public import proofs.«01_k».proof.Proof.Gen.StepUqIdeal.Skeleton
public import proofs.«01_k».proof.Proof.Gen.StepUqIdeal.Launch
public import proofs.«01_k».proof.Proof.Gen.StepUqIdeal.Points
public import proofs.«01_k».proof.Proof.Gen.StepUqIdeal.Frame
public import proofs.«01_k».proof.Proof.Gen.StepUqReferenceIdeal
public import proofs.«01_k».proof.Proof.Gen.StepUqReferenceIdeal.Run
public import proofs.«01_k».proof.Proof.Gen.StepUkv
public import proofs.«01_k».proof.Proof.Gen.StepUkv.Skeleton
public import proofs.«01_k».proof.Proof.Gen.StepUkv.Launch
public import proofs.«01_k».proof.Proof.Gen.StepUkv.Points
public import proofs.«01_k».proof.Proof.Gen.StepUkv.Frame
public import proofs.«01_k».proof.Proof.Gen.StepUkvIdeal
public import proofs.«01_k».proof.Proof.Gen.StepUkvIdeal.Skeleton
public import proofs.«01_k».proof.Proof.Gen.StepUkvIdeal.Launch
public import proofs.«01_k».proof.Proof.Gen.StepUkvIdeal.Points
public import proofs.«01_k».proof.Proof.Gen.StepUkvIdeal.Frame
public import proofs.«01_k».proof.Proof.Gen.StepUkvReferenceIdeal
public import proofs.«01_k».proof.Proof.Gen.StepUkvReferenceIdeal.Run
public import proofs.«01_k».proof.Proof.GradEquation
public import proofs.«01_k».proof.Proof.AdaEquation
public import proofs.«01_k».proof.Proof.RowsEquation
public import proofs.«01_k».proof.Proof.StepOutEquation
public import proofs.«01_k».proof.Proof.StepFf1Equation
public import proofs.«01_k».proof.Proof.StepFf2Equation
public import proofs.«01_k».proof.Proof.StepInEquation
public import proofs.«01_k».proof.Proof.StepUqEquation
public import proofs.«01_k».proof.Proof.StepUkvEquation
public import proofs.«01_k».proof.Proof.Equation
public import proofs.«01_k».proof.Proof.PostEquation
public import proofs.«01_k».proof.Proof.PostFinite
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel
open Cert.Proof.Arrays

attribute [local instance] Cert.Kernel.Gen.facts Cert.KernelIdeal.Gen.facts Cert.ReferenceIdeal.Gen.facts Cert.Pre_finite.Gen.facts
  Cert.Post.Gen.facts Cert.PostIdeal.Gen.facts Cert.PostReferenceIdeal.Gen.facts Cert.Pre_finite2.Gen.facts
  Cert.GradFf2.Gen.facts Cert.GradFf2Ideal.Gen.facts Cert.GradFf2ReferenceIdeal.Gen.facts
  Cert.GradFf1.Gen.facts Cert.GradFf1Ideal.Gen.facts Cert.GradFf1ReferenceIdeal.Gen.facts
  Cert.GradOut.Gen.facts Cert.GradOutIdeal.Gen.facts Cert.GradOutReferenceIdeal.Gen.facts
  Cert.GradIn.Gen.facts Cert.GradInIdeal.Gen.facts Cert.GradInReferenceIdeal.Gen.facts
  Cert.GradUq.Gen.facts Cert.GradUqIdeal.Gen.facts Cert.GradUqReferenceIdeal.Gen.facts
  Cert.GradUkv.Gen.facts Cert.GradUkvIdeal.Gen.facts Cert.GradUkvReferenceIdeal.Gen.facts

/-- The reference terminates, leaves its arguments and every semaphore counter as they were. -/
theorem frame_reference : Cert.quiescent_ReferenceIdeal := by
  intro m g _
  exact (θ_run Cert.ReferenceIdeal.defs _ _).mono (fun r h => ⟨fun c => (h c).2.2.2.2.2, sem_eq_zero_of_no_sems (by decide) r.2⟩)
    (Cert.ReferenceIdeal.Value.run m g)

/-- Under the precondition a device's arguments are real arrays, and its saved arrays what the forward pass makes of them. -/
theorem saved (m : (ℓ : Loc Cert.KernelIdeal.nD Cert.KernelIdeal.τ Cert.KernelIdeal.sig) → Buf (Elt Ideal) ℓ) (h : Cert.Pre_KernelIdeal_finite m)
    (c : Dev Cert.KernelIdeal.nD) : ∃ A : Model.Args, Equation.Saved (Q m c) (K m c) (W m c) (D m c) (O m c) (L m c) A := by
  obtain ⟨hq, hk, hv, hd⟩ := Finite.of_fn (Q m c) (K m c) (W m c) (D m c) (h c)
  have H : Host.Real (Q m c) (K m c) (W m c) (Finite.args (Q m c) (K m c) (W m c) (D m c)) :=
    ⟨fun i x => (hq _).symm, fun i x => (hk _).symm, fun i x => (hv _).symm⟩
  exact ⟨Finite.args (Q m c) (K m c) (W m c) (D m c), fun i x => (hq _).symm, fun i x => (hk _).symm, fun i x => (hv _).symm, fun i x => (hd _).symm,
    fun b s h e => Host.O_at m c H b h s e, fun b s h e => Host.L_at m c H b h s e⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The arguments are real arrays, and the saved arrays what the forward pass makes of them. -/
def Saved : Prop := ∃ A : Model.Args, Equation.Saved (Q m c) (K m c) (W m c) (D m c) (O m c) (L m c) A

/-- The two programs' arguments are the same arrays. -/
def Agree : Prop :=
  m' ((c.tc : Thread Cert.ReferenceIdeal.nD Cert.ReferenceIdeal.τ).loc Cert.ReferenceIdeal.main_arg0) = Q m c
  ∧ m' ((c.tc : Thread Cert.ReferenceIdeal.nD Cert.ReferenceIdeal.τ).loc Cert.ReferenceIdeal.main_arg1) = K m c
  ∧ m' ((c.tc : Thread Cert.ReferenceIdeal.nD Cert.ReferenceIdeal.τ).loc Cert.ReferenceIdeal.main_arg2) = W m c
  ∧ m' ((c.tc : Thread Cert.ReferenceIdeal.nD Cert.ReferenceIdeal.τ).loc Cert.ReferenceIdeal.main_arg3) = D m c

variable {m m' c}

theorem dq (a : Agree m m' c) (s : Saved m c) : Cert.ReferenceIdeal.Value.res_main_v78 m' c = (Cert.KernelIdeal.Gen.dats m 0 c).arrAt 8 Cert.KernelIdeal.cfg0.N := by
  obtain ⟨a0, a1, a2, a3⟩ := a
  obtain ⟨A, s⟩ := s
  refine (Cert.ReferenceIdeal.Read.val_main_v78_eq m' c).trans ?_
  rw [a0, a1, a2, a3]
  exact (Equation.dq m c s).symm
theorem dkl (a : Agree m m' c) (s : Saved m c) : Cert.ReferenceIdeal.Value.res_main_v79 m' c = (Cert.KernelIdeal.Gen.dats m 0 c).arrAt 9 Cert.KernelIdeal.cfg0.N := by
  obtain ⟨a0, a1, a2, a3⟩ := a
  obtain ⟨A, s⟩ := s
  refine (Cert.ReferenceIdeal.Read.val_main_v79_eq m' c).trans ?_
  rw [a0, a1, a2, a3]
  exact (Equation.dkl m c s).symm
theorem dkc (a : Agree m m' c) (s : Saved m c) : Cert.ReferenceIdeal.Value.res_main_v80 m' c = (Cert.KernelIdeal.Gen.dats m 0 c).arrAt 10 Cert.KernelIdeal.cfg0.N := by
  obtain ⟨a0, a1, a2, a3⟩ := a
  obtain ⟨A, s⟩ := s
  refine (Cert.ReferenceIdeal.Read.val_main_v80_eq m' c).trans ?_
  rw [a0, a1, a2, a3]
  exact (Equation.dkc m c s).symm
theorem dvl (a : Agree m m' c) (s : Saved m c) : Cert.ReferenceIdeal.Value.res_main_v81 m' c = (Cert.KernelIdeal.Gen.dats m 0 c).arrAt 11 Cert.KernelIdeal.cfg0.N := by
  obtain ⟨a0, a1, a2, a3⟩ := a
  obtain ⟨A, s⟩ := s
  refine (Cert.ReferenceIdeal.Read.val_main_v81_eq m' c).trans ?_
  rw [a0, a1, a3]
  exact (Equation.dvl m c s).symm
theorem dvc (a : Agree m m' c) (s : Saved m c) : Cert.ReferenceIdeal.Value.res_main_v82 m' c = (Cert.KernelIdeal.Gen.dats m 0 c).arrAt 12 Cert.KernelIdeal.cfg0.N := by
  obtain ⟨a0, a1, a2, a3⟩ := a
  obtain ⟨A, s⟩ := s
  refine (Cert.ReferenceIdeal.Read.val_main_v82_eq m' c).trans ?_
  rw [a0, a1, a3]
  exact (Equation.dvc m c s).symm
end

/-- The kernel's five results are the reference's. -/
theorem algebraic : Cert.algebraic_KernelIdeal_ReferenceIdeal_pre_finite := by
  intro m g m' g' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, Cert.KernelIdeal.Value.run_blocks m g, ?_⟩
  refine (θ_run _ _ _).mono (fun r hr c => ?_) (Cert.ReferenceIdeal.Value.run m' g')
  obtain ⟨r0, r1, r2, r3, r4, kept⟩ := hr c
  have s : Saved m c := saved m hpre c
  have a : Agree m m' c := hagree c
  exact ⟨r0.trans (dq a s), r1.trans (dkl a s), r2.trans (dkc a s), r3.trans (dvl a s), r4.trans (dvc a s), kept⟩

/-! ## The call after the attention -/

theorem frame_post_reference : Cert.quiescent_PostReferenceIdeal := by
  intro m g _
  exact (θ_run Cert.PostReferenceIdeal.defs _ _).mono (fun r h => ⟨fun c => (h c).2.2.2.2.2.2.2.2.2, sem_eq_zero_of_no_sems (by decide) r.2⟩)
    (Cert.PostReferenceIdeal.Value.run m g)

section
variable (m' : (ℓ : Loc Cert.PostReferenceIdeal.nD Cert.PostReferenceIdeal.τ Cert.PostReferenceIdeal.sig) → Buf (Elt Ideal) ℓ)
  (c : Dev Cert.PostReferenceIdeal.nD)

/-- The reference's arguments are the real arrays `A`. -/
abbrev PostReal (A : PostReference.Args) : Prop :=
  PostReference.Real (m' ((c.tc : Thread Cert.PostReferenceIdeal.nD Cert.PostReferenceIdeal.τ).loc Cert.PostReferenceIdeal.main_arg0))
    (m' ((c.tc : Thread Cert.PostReferenceIdeal.nD Cert.PostReferenceIdeal.τ).loc Cert.PostReferenceIdeal.main_arg1))
    (m' ((c.tc : Thread Cert.PostReferenceIdeal.nD Cert.PostReferenceIdeal.τ).loc Cert.PostReferenceIdeal.main_arg2))
    (m' ((c.tc : Thread Cert.PostReferenceIdeal.nD Cert.PostReferenceIdeal.τ).loc Cert.PostReferenceIdeal.main_arg3))
    (m' ((c.tc : Thread Cert.PostReferenceIdeal.nD Cert.PostReferenceIdeal.τ).loc Cert.PostReferenceIdeal.main_arg4))
    (m' ((c.tc : Thread Cert.PostReferenceIdeal.nD Cert.PostReferenceIdeal.τ).loc Cert.PostReferenceIdeal.main_arg5))
    (m' ((c.tc : Thread Cert.PostReferenceIdeal.nD Cert.PostReferenceIdeal.τ).loc Cert.PostReferenceIdeal.main_arg6))
    (m' ((c.tc : Thread Cert.PostReferenceIdeal.nD Cert.PostReferenceIdeal.τ).loc Cert.PostReferenceIdeal.main_arg7))
    (m' ((c.tc : Thread Cert.PostReferenceIdeal.nD Cert.PostReferenceIdeal.τ).loc Cert.PostReferenceIdeal.main_arg8))
    (m' ((c.tc : Thread Cert.PostReferenceIdeal.nD Cert.PostReferenceIdeal.τ).loc Cert.PostReferenceIdeal.main_arg9)) A
end

/-- The call's nine results are the reference's. -/
theorem algebraic_post : Cert.algebraic_PostIdeal_PostReferenceIdeal_pre_finite2 := by
  intro m g m' g' hpre hagree
  refine ⟨fun c => (Cert.PostIdeal.Gen.dats m 0 c).arrAt 11 Cert.PostIdeal.cfg0.N, fun c => (Cert.PostIdeal.Gen.dats m 0 c).arrAt 12 Cert.PostIdeal.cfg0.N,
    fun c => (Cert.PostIdeal.Gen.dats m 0 c).arrAt 13 Cert.PostIdeal.cfg0.N, fun c => (Cert.PostIdeal.Gen.dats m 0 c).arrAt 14 Cert.PostIdeal.cfg0.N,
    fun c => (Cert.PostIdeal.Gen.dats m 0 c).arrAt 15 Cert.PostIdeal.cfg0.N, fun c => (Cert.PostIdeal.Gen.dats m 0 c).arrAt 16 Cert.PostIdeal.cfg0.N,
    fun c => (Cert.PostIdeal.Gen.dats m 0 c).arrAt 17 Cert.PostIdeal.cfg0.N, fun c => (Cert.PostIdeal.Gen.dats m 0 c).arrAt 18 Cert.PostIdeal.cfg0.N,
    fun c => (Cert.PostIdeal.Gen.dats m 0 c).arrAt 19 Cert.PostIdeal.cfg0.N, Cert.PostIdeal.Value.run_blocks m g, ?_⟩
  refine (θ_run _ _ _).mono (fun r hr c => ?_) (Cert.PostReferenceIdeal.Value.run m' g')
  obtain ⟨r0, r1, r2, r3, r4, r5, r6, r7, r8, kept⟩ := hr c
  obtain ⟨a0, a1, a2, a3, a4, a5, a6, a7, a8, a9⟩ := hagree c
  have H := PostFinite.of_fn _ _ _ _ _ _ _ _ _ _ (hpre c)
  have K : PostReal m' c _ := ⟨fun j => (congrFun a0 j).trans (H.yr j), fun j => (congrFun a1 j).trans (H.ym j), fun j => (congrFun a2 j).trans (H.x j),
    fun j => (congrFun a3 j).trans (H.t j), fun j => (congrFun a4 j).trans (H.mod j), fun j => (congrFun a5 j).trans (H.gffn j),
    fun j => (congrFun a6 j).trans (H.gfin j), fun j => (congrFun a7 j).trans (H.wo j), fun j => (congrFun a8 j).trans (H.w1 j),
    fun j => (congrFun a9 j).trans (H.w2 j)⟩
  exact ⟨r0.trans ((Cert.PostReferenceIdeal.Read.val_main_v159_eq _).trans ((PostEquation.ref_mix K).trans (PostFinal.final11 H).symm)), r1.trans ((Cert.PostReferenceIdeal.Read.val_main_v161_eq _).trans ((PostEquation.ref_sq K).trans (PostFinal.final12 H).symm)),
    r2.trans ((Cert.PostReferenceIdeal.Read.val_main_v163_eq _).trans ((PostEquation.ref_du K).trans (PostFinal.final13 H).symm)), r3.trans ((Cert.PostReferenceIdeal.Read.val_main_v165_eq _).trans ((PostEquation.ref_h2 K).trans (PostFinal.final14 H).symm)),
    r4.trans ((Cert.PostReferenceIdeal.Read.val_main_v167_eq _).trans ((PostEquation.ref_df K).trans (PostFinal.final15 H).symm)), r5.trans ((Cert.PostReferenceIdeal.Read.val_main_v169_eq _).trans ((PostEquation.ref_dmo K).trans (PostFinal.final16 H).symm)),
    r6.trans ((Cert.PostReferenceIdeal.Read.val_main_v171_eq _).trans ((PostEquation.ref_dmix K).trans (PostFinal.final17 H).symm)), r7.trans ((Cert.PostReferenceIdeal.Read.val_main_v172_eq _).trans ((PostEquation.ref_dxm K).trans (PostFinal.final18 H).symm)),
    r8.trans ((Cert.PostReferenceIdeal.Read.val_main_v157_eq _).trans ((PostEquation.ref_sums K).trans (PostFinal.final19 H).symm)), kept⟩

theorem claim : Cert.Claim := ⟨Cert.Kernel.Gen.facts, Cert.KernelIdeal.Gen.facts, Cert.ReferenceIdeal.Gen.facts,
  Cert.Post.Gen.facts, Cert.PostIdeal.Gen.facts, Cert.PostReferenceIdeal.Gen.facts,
  Cert.GradFf2.Gen.facts, Cert.GradFf2Ideal.Gen.facts, Cert.GradFf2ReferenceIdeal.Gen.facts,
  Cert.GradFf1.Gen.facts, Cert.GradFf1Ideal.Gen.facts, Cert.GradFf1ReferenceIdeal.Gen.facts,
  Cert.GradOut.Gen.facts, Cert.GradOutIdeal.Gen.facts, Cert.GradOutReferenceIdeal.Gen.facts,
  Cert.GradIn.Gen.facts, Cert.GradInIdeal.Gen.facts, Cert.GradInReferenceIdeal.Gen.facts,
  Cert.GradUq.Gen.facts, Cert.GradUqIdeal.Gen.facts, Cert.GradUqReferenceIdeal.Gen.facts,
  Cert.GradUkv.Gen.facts, Cert.GradUkvIdeal.Gen.facts, Cert.GradUkvReferenceIdeal.Gen.facts,
  Cert.Ada.Gen.facts, Cert.AdaIdeal.Gen.facts, Cert.AdaReferenceIdeal.Gen.facts,
  Cert.Rows.Gen.facts, Cert.RowsIdeal.Gen.facts, Cert.RowsReferenceIdeal.Gen.facts,
  Cert.StepOut.Gen.facts, Cert.StepOutIdeal.Gen.facts, Cert.StepOutReferenceIdeal.Gen.facts,
  Cert.StepFf1.Gen.facts, Cert.StepFf1Ideal.Gen.facts, Cert.StepFf1ReferenceIdeal.Gen.facts,
  Cert.StepFf2.Gen.facts, Cert.StepFf2Ideal.Gen.facts, Cert.StepFf2ReferenceIdeal.Gen.facts,
  Cert.StepIn.Gen.facts, Cert.StepInIdeal.Gen.facts, Cert.StepInReferenceIdeal.Gen.facts,
  Cert.StepUq.Gen.facts, Cert.StepUqIdeal.Gen.facts, Cert.StepUqReferenceIdeal.Gen.facts,
  Cert.StepUkv.Gen.facts, Cert.StepUkvIdeal.Gen.facts, Cert.StepUkvReferenceIdeal.Gen.facts,
  Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Post.Gen.frame m ρ, fun m ρ _ => Cert.PostIdeal.Gen.frame m ρ, fun m ρ _ => Cert.PostIdeal.Gen.frame m ρ,
  frame_post_reference, fun m ρ _ => frame_post_reference m ρ trivial,
  fun m ρ _ => Cert.GradFf2.Gen.frame m ρ, fun m ρ _ => Cert.GradFf2Ideal.Gen.frame m ρ, GradEquation.frame_ff2,
  fun m ρ _ => Cert.GradFf1.Gen.frame m ρ, fun m ρ _ => Cert.GradFf1Ideal.Gen.frame m ρ, GradEquation.frame_ff1,
  fun m ρ _ => Cert.GradOut.Gen.frame m ρ, fun m ρ _ => Cert.GradOutIdeal.Gen.frame m ρ, GradEquation.frame_out,
  fun m ρ _ => Cert.GradIn.Gen.frame m ρ, fun m ρ _ => Cert.GradInIdeal.Gen.frame m ρ, GradEquation.frame_in,
  fun m ρ _ => Cert.GradUq.Gen.frame m ρ, fun m ρ _ => Cert.GradUqIdeal.Gen.frame m ρ, GradEquation.frame_uq,
  fun m ρ _ => Cert.GradUkv.Gen.frame m ρ, fun m ρ _ => Cert.GradUkvIdeal.Gen.frame m ρ, GradEquation.frame_ukv,
  fun m ρ _ => Cert.Ada.Gen.frame m ρ, fun m ρ _ => Cert.AdaIdeal.Gen.frame m ρ, AdaEquation.frame,
  fun m ρ _ => Cert.Rows.Gen.frame m ρ, fun m ρ _ => Cert.RowsIdeal.Gen.frame m ρ, RowsEquation.frame,
  StepOutEquation.frameKernel, StepOutEquation.frameIdeal, StepOutEquation.frame,
  StepFf1Equation.frameKernel, StepFf1Equation.frameIdeal, StepFf1Equation.frame,
  StepFf2Equation.frameKernel, StepFf2Equation.frameIdeal, StepFf2Equation.frame,
  StepInEquation.frameKernel, StepInEquation.frameIdeal, StepInEquation.frame,
  StepUqEquation.frameKernel, StepUqEquation.frameIdeal, StepUqEquation.frame,
  StepUkvEquation.frameKernel, StepUkvEquation.frameIdeal, StepUkvEquation.frame,
  trivial, algebraic, trivial, algebraic_post,
  trivial, GradEquation.grad_ff2,
  trivial, GradEquation.grad_ff1,
  trivial, GradEquation.grad_out,
  trivial, GradEquation.grad_in,
  trivial, GradEquation.grad_uq,
  trivial, GradEquation.grad_ukv,
  trivial, AdaEquation.algebraic,
  trivial, RowsEquation.algebraic,
  trivial, StepOutEquation.algebraic,
  trivial, StepFf1Equation.algebraic,
  trivial, StepFf2Equation.algebraic,
  trivial, StepInEquation.algebraic,
  trivial, StepUqEquation.algebraic,
  trivial, StepUkvEquation.algebraic⟩

end Cert.Proof

end
